-- ==== Defs.lean ====
def Pre_Kernel (m : (ℓ : Loc Cert.Kernel.nD Cert.Kernel.τ Cert.Kernel.sig) → Buf (Elt Bits) ℓ) : Prop :=
  True

def Pre_Kernel_idx_in_range [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_idx_in_range [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_idx_in_range : Cert.Pre_idx_in_range.Facts] (m : (ℓ : Loc Cert.Reference.nD Cert.Reference.τ Cert.Reference.sig) → Buf (Elt Bits) ℓ) : Prop :=
  ∀ c : Dev Cert.Reference.nD,
    (Cert.Pre_idx_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_idx_in_range [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel_idx_in_range m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_idx_in_range [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_idx_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_idx_in_range : Cert.Pre_idx_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal_pre_idx_in_range [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_idx_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference_pre_idx_in_range [hKernel : Cert.Kernel.Facts] [hReference : Cert.Reference.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_idx_in_range m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v4)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_idx_in_range : Cert.Pre_idx_in_range.Facts),
    quiescent_Kernel (hKernel := hKernel)
    ∧ quiescent_Kernel_pre_idx_in_range (hKernel := hKernel) (hPre_idx_in_range := hPre_idx_in_range)
    ∧ quiescent_KernelIdeal (hKernelIdeal := hKernelIdeal)
    ∧ quiescent_KernelIdeal_pre_idx_in_range (hKernelIdeal := hKernelIdeal) (hPre_idx_in_range := hPre_idx_in_range)
    ∧ quiescent_ReferenceIdeal (hReferenceIdeal := hReferenceIdeal)
    ∧ quiescent_ReferenceIdeal_pre_idx_in_range (hReferenceIdeal := hReferenceIdeal) (hPre_idx_in_range := hPre_idx_in_range)
    ∧ quiescent_Reference (hReference := hReference) (hPre_idx_in_range := hPre_idx_in_range)
    ∧ preserves_Kernel_KernelIdeal
    ∧ algebraic_KernelIdeal_ReferenceIdeal_pre_idx_in_range (hKernelIdeal := hKernelIdeal) (hReferenceIdeal := hReferenceIdeal) (hPre_idx_in_range := hPre_idx_in_range)
    ∧ bitexact_Kernel_Reference_pre_idx_in_range (hKernel := hKernel) (hReference := hReference) (hPre_idx_in_range := hPre_idx_in_range)
-- ==== Pre_idx_in_range.lean ====
abbrev S16384 : Shape := ⟨1, ![16384]⟩
abbrev S1000000x32 : Shape := ⟨2, ![1000000, 32]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1000000x32 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S1000000x32 : Shape := ⟨2, ![1000000, 32]⟩
abbrev S64x32 : Shape := ⟨2, ![64, 32]⟩
abbrev S32x1000000 : Shape := ⟨2, ![32, 1000000]⟩
abbrev S16400x128 : Shape := ⟨2, ![16400, 128]⟩
abbrev S2048 : Shape := ⟨1, ![2048]⟩
abbrev S1024 : Shape := ⟨1, ![1024]⟩
abbrev S32x512 : Shape := ⟨2, ![32, 512]⟩
abbrev S512 : Shape := ⟨1, ![512]⟩
abbrev S512x32 : Shape := ⟨2, ![512, 32]⟩
abbrev S64x128 : Shape := ⟨2, ![64, 128]⟩
abbrev S8x64 : Shape := ⟨2, ![8, 64]⟩
abbrev S_ : Shape := ⟨0, ![]⟩
abbrev S16 : Shape := ⟨1, ![16]⟩
abbrev S1x64 : Shape := ⟨2, ![1, 64]⟩
abbrev S64 : Shape := ⟨1, ![64]⟩
abbrev S16384x32 : Shape := ⟨2, ![16384, 32]⟩
abbrev S16384x8x4 : Shape := ⟨3, ![16384, 8, 4]⟩

abbrev nBuf : Table → Nat
  | .hbm => 7
  | .local .scVector .vmem => 12
  | _ => 0

abbrev bufTy : (tb : Table) → Fin (nBuf tb) → BufTy
  | .hbm, ⟨0, _⟩ => ⟨S16384, .i32⟩
  | .hbm, ⟨1, _⟩ => ⟨S1000000x32, .f32⟩
  | .hbm, ⟨2, _⟩ => ⟨S64x32, .f32⟩
  | .hbm, ⟨3, _⟩ => ⟨S32x1000000, .f32⟩
  | .hbm, ⟨4, _⟩ => ⟨S16400x128, .f32⟩
  | .hbm, ⟨5, _⟩ => ⟨S16384x32, .f32⟩
  | .hbm, ⟨6, _⟩ => ⟨S16384x8x4, .f32⟩
  | .local .scVector .vmem, ⟨0, _⟩ => ⟨S2048, .i32⟩
  | .local .scVector .vmem, ⟨1, _⟩ => ⟨S1024, .i32⟩
  | .local .scVector .vmem, ⟨2, _⟩ => ⟨S1024, .i32⟩
  | .local .scVector .vmem, ⟨3, _⟩ => ⟨S32x512, .f32⟩
  | .local .scVector .vmem, ⟨4, _⟩ => ⟨S32x512, .f32⟩
  | .local .scVector .vmem, ⟨5, _⟩ => ⟨S64x32, .f32⟩
  | .local .scVector .vmem, ⟨6, _⟩ => ⟨S512, .i32⟩
  | .local .scVector .vmem, ⟨7, _⟩ => ⟨S512, .i32⟩
  | .local .scVector .vmem, ⟨8, _⟩ => ⟨S512x32, .f32⟩
  | .local .scVector .vmem, ⟨9, _⟩ => ⟨S64x128, .f32⟩
  | .local .scVector .vmem, ⟨10, _⟩ => ⟨S64x128, .f32⟩
  | .local .scVector .vmem, ⟨11, _⟩ => ⟨S8x64, .i32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg0_scv : Ref sig .scVector := ⟨.hbm, 0, rfl⟩
abbrev main_v1_scv : Ref sig .scVector := ⟨.hbm, 3, rfl⟩
abbrev main_v0_scv : Ref sig .scVector := ⟨.hbm, 2, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_5 : BitVec 32 := 0#32
  let c8_i32 : BitVec 32 := 8#32
  let v16 : BitVec 32 := Scalar.addi c0_i32_5 c8_i32
  let c1_i32 : BitVec 32 := 1#32
  ⟨c0_i32_5, v16, c1_i32⟩
def k0_off1 (k0_t1 : Fin k0_t1_loop.trips) : Fin 1 → Nat :=
  let c0_i32_5 : BitVec 32 := 0#32
  let c1_i32 : BitVec 32 := 1#32
  let arg22 : BitVec 32 := Scf.iv c0_i32_5 c1_i32 k0_t1
  let c2048_i32 : BitVec 32 := 2048#32
  let v46 : BitVec 32 := Scalar.muli arg22 c2048_i32
  ![v46.toNat]
@[reducible] def k0_t2_loop : Scf.Loop 32 :=
  let c0_i32_23 : BitVec 32 := 0#32
  let c128_i32_24 : BitVec 32 := 128#32
  let v47 : BitVec 32 := Scalar.addi c0_i32_23 c128_i32_24
  let c1_i32_25 : BitVec 32 := 1#32
  ⟨c0_i32_23, v47, c1_i32_25⟩
def k0_off2 (k0_t2 : Fin k0_t2_loop.trips) : Fin 1 → Nat :=
  let c0_i32_23 : BitVec 32 := 0#32
  let c1_i32_25 : BitVec 32 := 1#32
  let arg24 : BitVec 32 := Scf.iv c0_i32_23 c1_i32_25 k0_t2
  let c16_i32 : BitVec 32 := 16#32
  let v49 : BitVec 32 := Scalar.muli arg24 c16_i32
  let v50 : Index := Scalar.indexCast v49
  ![v50.toNat]
@[reducible] def k0_t3_loop : Scf.Loop 32 :=
  let c0_i32_9 : BitVec 32 := 0#32
  let c32_i32 : BitVec 32 := 32#32
  let v19 : BitVec 32 := Scalar.addi c0_i32_9 c32_i32
  let c1_i32_10 : BitVec 32 := 1#32
  ⟨c0_i32_9, v19, c1_i32_10⟩
def k0_off3 (k0_t3 : Fin k0_t3_loop.trips) : Fin 1 → Nat :=
  let c0_i32_9 : BitVec 32 := 0#32
  let c1_i32_10 : BitVec 32 := 1#32
  let arg22 : BitVec 32 := Scf.iv c0_i32_9 c1_i32_10 k0_t3
  let c16_i32 : BitVec 32 := 16#32
  let v46 : BitVec 32 := Scalar.muli arg22 c16_i32
  let v47 : Index := Scalar.indexCast v46
  ![v47.toNat]
@[reducible] def k0_t4_loop (v17 : BitVec 32) : Scf.Loop 32 :=
  let c0_i32_18 : BitVec 32 := 0#32
  let c511_i32 : BitVec 32 := 511#32
  let v21 : BitVec 32 := Scalar.addi v17 c511_i32
  let c0_i32_12 : BitVec 32 := 0#32
  let v23 : BitVec 1 := Scalar.cmpi .sgt v21 c0_i32_12
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c512_i32 : BitVec 32 := 512#32
  let c0_i32_14 : BitVec 32 := 0#32
  let v28 : BitVec 1 := Scalar.cmpi .sgt c512_i32 c0_i32_14
  let v29 : BitVec 32 := Scalar.extui v28
  let c0_i32_15 : BitVec 32 := 0#32
  let v30 : BitVec 1 := Scalar.cmpi .slt c512_i32 c0_i32_15
  let v31 : BitVec 32 := Scalar.extui v30
  let v32 : BitVec 32 := Scalar.subi v29 v31
  let v33 : BitVec 1 := Scalar.cmpi .ne v27 v32
  let v34 : BitVec 32 := Scalar.remsi v21 c512_i32
  let c0_i32_16 : BitVec 32 := 0#32
  let v35 : BitVec 1 := Scalar.cmpi .ne v34 c0_i32_16
  let v36 : BitVec 1 := Scalar.andi v33 v35
  let v22 : BitVec 32 := Scalar.divsi v21 c512_i32
  let c1_i32_17 : BitVec 32 := 1#32
  let v37 : BitVec 32 := Scalar.subi v22 c1_i32_17
  let v38 : BitVec 32 := Scalar.select v36 v37 v22
  let v39 : BitVec 32 := Scalar.subi v38 c0_i32_18
  let c1_i32_20 : BitVec 32 := 1#32
  let v41 : BitVec 32 := Scalar.divsi v39 c1_i32_20
  let v42 : BitVec 32 := Scalar.muli v41 c1_i32_20
  let v43 : BitVec 32 := Scalar.addi c0_i32_18 v42
  let c1_i32_21 : BitVec 32 := 1#32
  ⟨c0_i32_18, v43, c1_i32_21⟩

@[reducible] def k0_t5_loop : Scf.Loop 32 :=
  let c0_i32_25 : BitVec 32 := 0#32
  let c8_i32_26 : BitVec 32 := 8#32
  let v48 : BitVec 32 := Scalar.addi c0_i32_25 c8_i32_26
  let c1_i32_27 : BitVec 32 := 1#32
  ⟨c0_i32_25, v48, c1_i32_27⟩
def k0_off4 (k0_t5 : Fin k0_t5_loop.trips) : Fin 1 → Nat :=
  let c0_i32_25 : BitVec 32 := 0#32
  let c1_i32_27 : BitVec 32 := 1#32
  let arg24 : BitVec 32 := Scf.iv c0_i32_25 c1_i32_27 k0_t5
  let c2048_i32 : BitVec 32 := 2048#32
  let v140 : BitVec 32 := Scalar.muli arg24 c2048_i32
  ![v140.toNat]
@[reducible] def k0_t6_loop : Scf.Loop 32 :=
  let c0_i32_166 : BitVec 32 := 0#32
  let c128_i32_167 : BitVec 32 := 128#32
  let v141 : BitVec 32 := Scalar.addi c0_i32_166 c128_i32_167
  let c1_i32_168 : BitVec 32 := 1#32
  ⟨c0_i32_166, v141, c1_i32_168⟩
def k0_off5 (k0_t6 : Fin k0_t6_loop.trips) : Fin 1 → Nat :=
  let c0_i32_166 : BitVec 32 := 0#32
  let c1_i32_168 : BitVec 32 := 1#32
  let arg26 : BitVec 32 := Scf.iv c0_i32_166 c1_i32_168 k0_t6
  let c16_i32 : BitVec 32 := 16#32
  let v143 : BitVec 32 := Scalar.muli arg26 c16_i32
  let v144 : Index := Scalar.indexCast v143
  ![v144.toNat]

def k0_chk2 (v169 : IVec S16 32) : Prop :=
  (∀ a x, ((![v169] : Fin 1 → IVec S16 32) a x).toNat < S1024.size a) ∧
  (∀ a x, ((![v169] : Fin 1 → IVec S16 32) a x).toNat < S1024.size a)
theorem k0_idx1_inb : ∀ (v169 : IVec S16 32) (k0_hw2 : k0_chk2 v169), ∀ a x, ((![v169] : Fin 1 → IVec S16 32) a x).toNat < S1024.size a := fun v169 k0_hw2 => k0_hw2.1
theorem k0_idx2_inb : ∀ (v169 : IVec S16 32) (k0_hw2 : k0_chk2 v169), ∀ a x, ((![v169] : Fin 1 → IVec S16 32) a x).toNat < S1024.size a := fun v169 k0_hw2 => k0_hw2.2
@[reducible] def k0_t7_loop : Scf.Loop 32 :=
  let c0_i32_33 : BitVec 32 := 0#32
  let c32_i32_34 : BitVec 32 := 32#32
  let v54 : BitVec 32 := Scalar.addi c0_i32_33 c32_i32_34
  let c1_i32_35 : BitVec 32 := 1#32
  ⟨c0_i32_33, v54, c1_i32_35⟩

def k0_chk3 (v143 : IVec S16 32) : Prop :=
  (∀ a x, ((![v143] : Fin 1 → IVec S16 32) a x).toNat < S1024.size a)
theorem k0_idx3_inb : ∀ (v143 : IVec S16 32) (k0_hw3 : k0_chk3 v143), ∀ a x, ((![v143] : Fin 1 → IVec S16 32) a x).toNat < S1024.size a := fun v143 k0_hw3 => k0_hw3
@[reducible] def k0_t8_loop : Scf.Loop 32 :=
  let c0_i32_38 : BitVec 32 := 0#32
  let c32_i32_39 : BitVec 32 := 32#32
  let v56 : BitVec 32 := Scalar.addi c0_i32_38 c32_i32_39
  let c1_i32_40 : BitVec 32 := 1#32
  ⟨c0_i32_38, v56, c1_i32_40⟩

def k0_chk4 (v144 : IVec S16 32) (v146 : IVec S16 32) : Prop :=
  (∀ a x, ((![v144, v146] : Fin 2 → IVec S16 32) a x).toNat < S8x64.size a)
theorem k0_idx4_inb : ∀ (v144 : IVec S16 32) (v146 : IVec S16 32) (k0_hw4 : k0_chk4 v144 v146), ∀ a x, ((![v144, v146] : Fin 2 → IVec S16 32) a x).toNat < S8x64.size a := fun v144 v146 k0_hw4 => k0_hw4
def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c0_i32_43 : BitVec 32 := 0#32
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_42 : BitVec 32 := 4#32
  let v58 : BitVec 32 := Scalar.subi v6 c4_i32_42
  let v59 : BitVec 32 := Scalar.minsi c0_i32_43 v58
  let v60 : BitVec 32 := Scalar.addi v4 v59
  let c128_i32_44 : BitVec 32 := 128#32
  let v61 : BitVec 32 := Scalar.muli v60 c128_i32_44
  v61
@[reducible] def k0_t9_loop : Scf.Loop 32 :=
  let c0_i32_47 : BitVec 32 := 0#32
  let c32_i32_48 : BitVec 32 := 32#32
  let v64 : BitVec 32 := Scalar.addi c0_i32_47 c32_i32_48
  let c1_i32_49 : BitVec 32 := 1#32
  ⟨c0_i32_47, v64, c1_i32_49⟩
def k0_off6 (k0_t9 : Fin k0_t9_loop.trips) : Fin 1 → Nat :=
  let c0_i32_47 : BitVec 32 := 0#32
  let c1_i32_49 : BitVec 32 := 1#32
  let arg24 : BitVec 32 := Scf.iv c0_i32_47 c1_i32_49 k0_t9
  let c16_i32 : BitVec 32 := 16#32
  let v140 : BitVec 32 := Scalar.muli arg24 c16_i32
  let v141 : Index := Scalar.indexCast v140
  ![v141.toNat]

def k0_chk5 (v153 : IVec S16 32) : Prop :=
  (∀ a x, ((![v153] : Fin 1 → IVec S16 32) a x).toNat < S512.size a)
theorem k0_idx5_inb : ∀ (v153 : IVec S16 32) (k0_hw5 : k0_chk5 v153), ∀ a x, ((![v153] : Fin 1 → IVec S16 32) a x).toNat < S512.size a := fun v153 k0_hw5 => k0_hw5
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c0_i32_167 : BitVec 32 := 0#32
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_166 : BitVec 32 := 4#32
  let v140 : BitVec 32 := Scalar.subi v6 c4_i32_166
  let v141 : BitVec 32 := Scalar.minsi c0_i32_167 v140
  let v142 : BitVec 32 := Scalar.addi v4 v141
  let c128_i32_168 : BitVec 32 := 128#32
  let v143 : BitVec 32 := Scalar.muli v142 c128_i32_168
  v143
def k0_off7 (i : grid0.Coords) : Fin 2 → Nat :=
  let c0_i32_169 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c0_i32_167 : BitVec 32 := 0#32
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_166 : BitVec 32 := 4#32
  let v140 : BitVec 32 := Scalar.subi v6 c4_i32_166
  let v141 : BitVec 32 := Scalar.minsi c0_i32_167 v140
  let v142 : BitVec 32 := Scalar.addi v4 v141
  let c128_i32_168 : BitVec 32 := 128#32
  let v143 : BitVec 32 := Scalar.muli v142 c128_i32_168
  let v144 : BitVec 32 := v143
  ![0, v144.toNat]
@[reducible] def k0_t10_loop : Scf.Loop 32 :=
  let c0_i32_53 : BitVec 32 := 0#32
  let c31_i32_54 : BitVec 32 := 31#32
  let v69 : BitVec 32 := Scalar.addi c0_i32_53 c31_i32_54
  let c1_i32_55 : BitVec 32 := 1#32
  ⟨c0_i32_53, v69, c1_i32_55⟩
def k0_mult3 (i : grid0.Coords) (k0_t10 : Fin k0_t10_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_169 : BitVec 32 := 4#32
  let c2_i32_167 : BitVec 32 := 2#32
  let c0_i32_53 : BitVec 32 := 0#32
  let c1_i32_55 : BitVec 32 := 1#32
  let arg24 : BitVec 32 := Scf.iv c0_i32_53 c1_i32_55 k0_t10
  let v141 : BitVec 32 := Scalar.muli c2_i32_167 arg24
  let c1_i32_168 : BitVec 32 := 1#32
  let v142 : BitVec 32 := Scalar.addi v141 c1_i32_168
  let v143 : BitVec 32 := Scalar.muli c4_i32_169 v142
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_170 : BitVec 32 := 4#32
  let v144 : BitVec 32 := Scalar.subi v6 c4_i32_170
  let v145 : BitVec 32 := Scalar.minsi v143 v144
  let v146 : BitVec 32 := Scalar.addi v4 v145
  let c128_i32_171 : BitVec 32 := 128#32
  let v147 : BitVec 32 := Scalar.muli v146 c128_i32_171
  v147
@[reducible] def k0_t11_loop : Scf.Loop 32 :=
  let c0_i32_174 : BitVec 32 := 0#32
  let c32_i32_175 : BitVec 32 := 32#32
  let v150 : BitVec 32 := Scalar.addi c0_i32_174 c32_i32_175
  let c1_i32_176 : BitVec 32 := 1#32
  ⟨c0_i32_174, v150, c1_i32_176⟩
def k0_off8 (k0_t11 : Fin k0_t11_loop.trips) : Fin 1 → Nat :=
  let c0_i32_174 : BitVec 32 := 0#32
  let c1_i32_176 : BitVec 32 := 1#32
  let arg26 : BitVec 32 := Scf.iv c0_i32_174 c1_i32_176 k0_t11
  let c16_i32 : BitVec 32 := 16#32
  let v177 : BitVec 32 := Scalar.muli arg26 c16_i32
  let v178 : Index := Scalar.indexCast v177
  ![v178.toNat]

def k0_chk6 (v190 : IVec S16 32) : Prop :=
  (∀ a x, ((![v190] : Fin 1 → IVec S16 32) a x).toNat < S512.size a)
theorem k0_idx6_inb : ∀ (v190 : IVec S16 32) (k0_hw6 : k0_chk6 v190), ∀ a x, ((![v190] : Fin 1 → IVec S16 32) a x).toNat < S512.size a := fun v190 k0_hw6 => k0_hw6
def k0_mult4 (i : grid0.Coords) (k0_t10 : Fin k0_t10_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_197 : BitVec 32 := 4#32
  let c2_i32_167 : BitVec 32 := 2#32
  let c0_i32_53 : BitVec 32 := 0#32
  let c1_i32_55 : BitVec 32 := 1#32
  let arg24 : BitVec 32 := Scf.iv c0_i32_53 c1_i32_55 k0_t10
  let v141 : BitVec 32 := Scalar.muli c2_i32_167 arg24
  let c1_i32_168 : BitVec 32 := 1#32
  let v142 : BitVec 32 := Scalar.addi v141 c1_i32_168
  let v177 : BitVec 32 := Scalar.muli c4_i32_197 v142
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_198 : BitVec 32 := 4#32
  let v178 : BitVec 32 := Scalar.subi v6 c4_i32_198
  let v179 : BitVec 32 := Scalar.minsi v177 v178
  let v180 : BitVec 32 := Scalar.addi v4 v179
  let c128_i32_199 : BitVec 32 := 128#32
  let v181 : BitVec 32 := Scalar.muli v180 c128_i32_199
  v181
def k0_off9 (i : grid0.Coords) (k0_t10 : Fin k0_t10_loop.trips) : Fin 2 → Nat :=
  let c0_i32_200 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_197 : BitVec 32 := 4#32
  let c2_i32_167 : BitVec 32 := 2#32
  let c0_i32_53 : BitVec 32 := 0#32
  let c1_i32_55 : BitVec 32 := 1#32
  let arg24 : BitVec 32 := Scf.iv c0_i32_53 c1_i32_55 k0_t10
  let v141 : BitVec 32 := Scalar.muli c2_i32_167 arg24
  let c1_i32_168 : BitVec 32 := 1#32
  let v142 : BitVec 32 := Scalar.addi v141 c1_i32_168
  let v177 : BitVec 32 := Scalar.muli c4_i32_197 v142
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_198 : BitVec 32 := 4#32
  let v178 : BitVec 32 := Scalar.subi v6 c4_i32_198
  let v179 : BitVec 32 := Scalar.minsi v177 v178
  let v180 : BitVec 32 := Scalar.addi v4 v179
  let c128_i32_199 : BitVec 32 := 128#32
  let v181 : BitVec 32 := Scalar.muli v180 c128_i32_199
  let v182 : BitVec 32 := v181
  ![0, v182.toNat]
def k0_mult5 (i : grid0.Coords) (k0_t10 : Fin k0_t10_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_197 : BitVec 32 := 4#32
  let c2_i32_166 : BitVec 32 := 2#32
  let c0_i32_53 : BitVec 32 := 0#32
  let c1_i32_55 : BitVec 32 := 1#32
  let arg24 : BitVec 32 := Scf.iv c0_i32_53 c1_i32_55 k0_t10
  let v140 : BitVec 32 := Scalar.muli c2_i32_166 arg24
  let v177 : BitVec 32 := Scalar.muli c4_i32_197 v140
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_198 : BitVec 32 := 4#32
  let v178 : BitVec 32 := Scalar.subi v6 c4_i32_198
  let v179 : BitVec 32 := Scalar.minsi v177 v178
  let v180 : BitVec 32 := Scalar.addi v4 v179
  let c128_i32_199 : BitVec 32 := 128#32
  let v181 : BitVec 32 := Scalar.muli v180 c128_i32_199
  v181
def k0_off10 (i : grid0.Coords) (k0_t10 : Fin k0_t10_loop.trips) : Fin 2 → Nat :=
  let c0_i32_200 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_197 : BitVec 32 := 4#32
  let c2_i32_166 : BitVec 32 := 2#32
  let c0_i32_53 : BitVec 32 := 0#32
  let c1_i32_55 : BitVec 32 := 1#32
  let arg24 : BitVec 32 := Scf.iv c0_i32_53 c1_i32_55 k0_t10
  let v140 : BitVec 32 := Scalar.muli c2_i32_166 arg24
  let v177 : BitVec 32 := Scalar.muli c4_i32_197 v140
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_198 : BitVec 32 := 4#32
  let v178 : BitVec 32 := Scalar.subi v6 c4_i32_198
  let v179 : BitVec 32 := Scalar.minsi v177 v178
  let v180 : BitVec 32 := Scalar.addi v4 v179
  let c128_i32_199 : BitVec 32 := 128#32
  let v181 : BitVec 32 := Scalar.muli v180 c128_i32_199
  let v182 : BitVec 32 := v181
  ![0, v182.toNat]
def k0_mult6 (i : grid0.Coords) (k0_t10 : Fin k0_t10_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_202 : BitVec 32 := 4#32
  let c2_i32_166 : BitVec 32 := 2#32
  let c0_i32_53 : BitVec 32 := 0#32
  let c1_i32_55 : BitVec 32 := 1#32
  let arg24 : BitVec 32 := Scf.iv c0_i32_53 c1_i32_55 k0_t10
  let v140 : BitVec 32 := Scalar.muli c2_i32_166 arg24
  let v185 : BitVec 32 := Scalar.muli c4_i32_202 v140
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_203 : BitVec 32 := 4#32
  let v186 : BitVec 32 := Scalar.subi v6 c4_i32_203
  let v187 : BitVec 32 := Scalar.minsi v185 v186
  let v188 : BitVec 32 := Scalar.addi v4 v187
  let c128_i32_204 : BitVec 32 := 128#32
  let v189 : BitVec 32 := Scalar.muli v188 c128_i32_204
  v189
@[reducible] def k0_t12_loop (arg25 : BitVec 32) : Scf.Loop 32 :=
  let c0_i32_211 : BitVec 32 := 0#32
  let c15_i32 : BitVec 32 := 15#32
  let v191 : BitVec 32 := Scalar.addi arg25 c15_i32
  let c0_i32_205 : BitVec 32 := 0#32
  let v193 : BitVec 1 := Scalar.cmpi .sgt v191 c0_i32_205
  let v194 : BitVec 32 := Scalar.extui v193
  let c0_i32_206 : BitVec 32 := 0#32
  let v195 : BitVec 1 := Scalar.cmpi .slt v191 c0_i32_206
  let v196 : BitVec 32 := Scalar.extui v195
  let v197 : BitVec 32 := Scalar.subi v194 v196
  let c16_i32 : BitVec 32 := 16#32
  let c0_i32_207 : BitVec 32 := 0#32
  let v198 : BitVec 1 := Scalar.cmpi .sgt c16_i32 c0_i32_207
  let v199 : BitVec 32 := Scalar.extui v198
  let c0_i32_208 : BitVec 32 := 0#32
  let v200 : BitVec 1 := Scalar.cmpi .slt c16_i32 c0_i32_208
  let v201 : BitVec 32 := Scalar.extui v200
  let v202 : BitVec 32 := Scalar.subi v199 v201
  let v203 : BitVec 1 := Scalar.cmpi .ne v197 v202
  let v204 : BitVec 32 := Scalar.remsi v191 c16_i32
  let c0_i32_209 : BitVec 32 := 0#32
  let v205 : BitVec 1 := Scalar.cmpi .ne v204 c0_i32_209
  let v206 : BitVec 1 := Scalar.andi v203 v205
  let v192 : BitVec 32 := Scalar.divsi v191 c16_i32
  let c1_i32_210 : BitVec 32 := 1#32
  let v207 : BitVec 32 := Scalar.subi v192 c1_i32_210
  let v208 : BitVec 32 := Scalar.select v206 v207 v192
  let v209 : BitVec 32 := Scalar.subi v208 c0_i32_211
  let c1_i32_213 : BitVec 32 := 1#32
  let v211 : BitVec 32 := Scalar.divsi v209 c1_i32_213
  let v212 : BitVec 32 := Scalar.muli v211 c1_i32_213
  let v213 : BitVec 32 := Scalar.addi c0_i32_211 v212
  let c1_i32_214 : BitVec 32 := 1#32
  ⟨c0_i32_211, v213, c1_i32_214⟩
def k0_cond4 (arg25 : BitVec 32) : BitVec 1 :=
  let c0_i32_180 : BitVec 32 := 0#32
  let v155 : BitVec 1 := Scalar.cmpi .sgt arg25 c0_i32_180
  let v156 : BitVec 32 := Scalar.extui v155
  let c0_i32_181 : BitVec 32 := 0#32
  let v157 : BitVec 1 := Scalar.cmpi .ne v156 c0_i32_181
  v157

def k0_off11 (arg25 : BitVec 32) (k0_t12 : Fin (k0_t12_loop arg25).trips) : Fin 1 → Nat :=
  let c0_i32_211 : BitVec 32 := 0#32
  let c1_i32_214 : BitVec 32 := 1#32
  let arg26 : BitVec 32 := Scf.iv c0_i32_211 c1_i32_214 k0_t12
  let c16_i32_217 : BitVec 32 := 16#32
  let v221 : BitVec 32 := Scalar.muli arg26 c16_i32_217
  let v222 : Index := Scalar.indexCast v221
  ![v222.toNat]

def k0_chk8 (arg25 : BitVec 32) (v223 : IVec S16 32) : Prop :=
  (∀ (k0_h4 : k0_cond4 arg25 = 1#1), ∀ a x, ((![v223] : Fin 1 → IVec S16 32) a x).toNat < S1024.size a) ∧
  (∀ (k0_h4 : k0_cond4 arg25 = 1#1), ∀ a x, ((![v223] : Fin 1 → IVec S16 32) a x).toNat < S1024.size a)
theorem k0_idx7_inb : ∀ (arg25 : BitVec 32) (v223 : IVec S16 32) (k0_hw8 : k0_chk8 arg25 v223), ∀ (k0_h4 : k0_cond4 arg25 = 1#1), ∀ a x, ((![v223] : Fin 1 → IVec S16 32) a x).toNat < S1024.size a := fun arg25 v223 k0_hw8 k0_h4 => k0_hw8.1 k0_h4
theorem k0_idx8_inb : ∀ (arg25 : BitVec 32) (v223 : IVec S16 32) (k0_hw8 : k0_chk8 arg25 v223), ∀ (k0_h4 : k0_cond4 arg25 = 1#1), ∀ a x, ((![v223] : Fin 1 → IVec S16 32) a x).toNat < S1024.size a := fun arg25 v223 k0_hw8 k0_h4 => k0_hw8.2 k0_h4

def k0_chk9 (arg25 : BitVec 32) (v227 : IVec S16 32) (v229 : IVec S16 32) : Prop :=
  (∀ (k0_h4 : k0_cond4 arg25 = 1#1), ∀ a x, ((![v227, v229] : Fin 2 → IVec S16 32) a x).toNat < S8x64.size a)
theorem k0_idx9_inb : ∀ (arg25 : BitVec 32) (v227 : IVec S16 32) (v229 : IVec S16 32) (k0_hw9 : k0_chk9 arg25 v227 v229), ∀ (k0_h4 : k0_cond4 arg25 = 1#1), ∀ a x, ((![v227, v229] : Fin 2 → IVec S16 32) a x).toNat < S8x64.size a := fun arg25 v227 v229 k0_hw9 k0_h4 => k0_hw9 k0_h4

def k0_chk10 (arg25 : BitVec 32) (v230 : IVec S16 32) (v236 : IVec S16 32) : Prop :=
  (∀ (k0_h4 : k0_cond4 arg25 = 1#1), ∀ a x, ((![v230, v236] : Fin 2 → IVec S16 32) a x).toNat < S32x512.size a)
theorem k0_idx10_inb : ∀ (arg25 : BitVec 32) (v230 : IVec S16 32) (v236 : IVec S16 32) (k0_hw10 : k0_chk10 arg25 v230 v236), ∀ (k0_h4 : k0_cond4 arg25 = 1#1), ∀ a x, ((![v230, v236] : Fin 2 → IVec S16 32) a x).toNat < S32x512.size a := fun arg25 v230 v236 k0_hw10 k0_h4 => k0_hw10 k0_h4

def k0_chk11 (arg25 : BitVec 32) (v223 : IVec S16 32) (v230 : IVec S16 32) : Prop :=
  (∀ (k0_h4 : k0_cond4 arg25 = 1#1), ∀ a x, ((![v223, v230] : Fin 2 → IVec S16 32) a x).toNat < S512x32.size a)
theorem k0_idx11_inb : ∀ (arg25 : BitVec 32) (v223 : IVec S16 32) (v230 : IVec S16 32) (k0_hw11 : k0_chk11 arg25 v223 v230), ∀ (k0_h4 : k0_cond4 arg25 = 1#1), ∀ a x, ((![v223, v230] : Fin 2 → IVec S16 32) a x).toNat < S512x32.size a := fun arg25 v223 v230 k0_hw11 k0_h4 => k0_hw11 k0_h4

def k0_chk12 (arg25 : BitVec 32) (v238 : IVec S16 32) (v244 : IVec S16 32) : Prop :=
  (∀ (k0_h4 : k0_cond4 arg25 = 1#1), ∀ a x, ((![v238, v244] : Fin 2 → IVec S16 32) a x).toNat < S32x512.size a)
theorem k0_idx12_inb : ∀ (arg25 : BitVec 32) (v238 : IVec S16 32) (v244 : IVec S16 32) (k0_hw12 : k0_chk12 arg25 v238 v244), ∀ (k0_h4 : k0_cond4 arg25 = 1#1), ∀ a x, ((![v238, v244] : Fin 2 → IVec S16 32) a x).toNat < S32x512.size a := fun arg25 v238 v244 k0_hw12 k0_h4 => k0_hw12 k0_h4

def k0_chk13 (arg25 : BitVec 32) (v223 : IVec S16 32) (v238 : IVec S16 32) : Prop :=
  (∀ (k0_h4 : k0_cond4 arg25 = 1#1), ∀ a x, ((![v223, v238] : Fin 2 → IVec S16 32) a x).toNat < S512x32.size a)
theorem k0_idx13_inb : ∀ (arg25 : BitVec 32) (v223 : IVec S16 32) (v238 : IVec S16 32) (k0_hw13 : k0_chk13 arg25 v223 v238), ∀ (k0_h4 : k0_cond4 arg25 = 1#1), ∀ a x, ((![v223, v238] : Fin 2 → IVec S16 32) a x).toNat < S512x32.size a := fun arg25 v223 v238 k0_hw13 k0_h4 => k0_hw13 k0_h4

def k0_chk14 (arg25 : BitVec 32) (v246 : IVec S16 32) (v252 : IVec S16 32) : Prop :=
  (∀ (k0_h4 : k0_cond4 arg25 = 1#1), ∀ a x, ((![v246, v252] : Fin 2 → IVec S16 32) a x).toNat < S32x512.size a)
theorem k0_idx14_inb : ∀ (arg25 : BitVec 32) (v246 : IVec S16 32) (v252 : IVec S16 32) (k0_hw14 : k0_chk14 arg25 v246 v252), ∀ (k0_h4 : k0_cond4 arg25 = 1#1), ∀ a x, ((![v246, v252] : Fin 2 → IVec S16 32) a x).toNat < S32x512.size a := fun arg25 v246 v252 k0_hw14 k0_h4 => k0_hw14 k0_h4

def k0_chk15 (arg25 : BitVec 32) (v223 : IVec S16 32) (v246 : IVec S16 32) : Prop :=
  (∀ (k0_h4 : k0_cond4 arg25 = 1#1), ∀ a x, ((![v223, v246] : Fin 2 → IVec S16 32) a x).toNat < S512x32.size a)
theorem k0_idx15_inb : ∀ (arg25 : BitVec 32) (v223 : IVec S16 32) (v246 : IVec S16 32) (k0_hw15 : k0_chk15 arg25 v223 v246), ∀ (k0_h4 : k0_cond4 arg25 = 1#1), ∀ a x, ((![v223, v246] : Fin 2 → IVec S16 32) a x).toNat < S512x32.size a := fun arg25 v223 v246 k0_hw15 k0_h4 => k0_hw15 k0_h4

def k0_chk16 (arg25 : BitVec 32) (v254 : IVec S16 32) (v260 : IVec S16 32) : Prop :=
  (∀ (k0_h4 : k0_cond4 arg25 = 1#1), ∀ a x, ((![v254, v260] : Fin 2 → IVec S16 32) a x).toNat < S32x512.size a)
theorem k0_idx16_inb : ∀ (arg25 : BitVec 32) (v254 : IVec S16 32) (v260 : IVec S16 32) (k0_hw16 : k0_chk16 arg25 v254 v260), ∀ (k0_h4 : k0_cond4 arg25 = 1#1), ∀ a x, ((![v254, v260] : Fin 2 → IVec S16 32) a x).toNat < S32x512.size a := fun arg25 v254 v260 k0_hw16 k0_h4 => k0_hw16 k0_h4

def k0_chk17 (arg25 : BitVec 32) (v223 : IVec S16 32) (v254 : IVec S16 32) : Prop :=
  (∀ (k0_h4 : k0_cond4 arg25 = 1#1), ∀ a x, ((![v223, v254] : Fin 2 → IVec S16 32) a x).toNat < S512x32.size a)
theorem k0_idx17_inb : ∀ (arg25 : BitVec 32) (v223 : IVec S16 32) (v254 : IVec S16 32) (k0_hw17 : k0_chk17 arg25 v223 v254), ∀ (k0_h4 : k0_cond4 arg25 = 1#1), ∀ a x, ((![v223, v254] : Fin 2 → IVec S16 32) a x).toNat < S512x32.size a := fun arg25 v223 v254 k0_hw17 k0_h4 => k0_hw17 k0_h4

def k0_chk18 (arg25 : BitVec 32) (v262 : IVec S16 32) (v268 : IVec S16 32) : Prop :=
  (∀ (k0_h4 : k0_cond4 arg25 = 1#1), ∀ a x, ((![v262, v268] : Fin 2 → IVec S16 32) a x).toNat < S32x512.size a)
theorem k0_idx18_inb : ∀ (arg25 : BitVec 32) (v262 : IVec S16 32) (v268 : IVec S16 32) (k0_hw18 : k0_chk18 arg25 v262 v268), ∀ (k0_h4 : k0_cond4 arg25 = 1#1), ∀ a x, ((![v262, v268] : Fin 2 → IVec S16 32) a x).toNat < S32x512.size a := fun arg25 v262 v268 k0_hw18 k0_h4 => k0_hw18 k0_h4

def k0_chk19 (arg25 : BitVec 32) (v223 : IVec S16 32) (v262 : IVec S16 32) : Prop :=
  (∀ (k0_h4 : k0_cond4 arg25 = 1#1), ∀ a x, ((![v223, v262] : Fin 2 → IVec S16 32) a x).toNat < S512x32.size a)
theorem k0_idx19_inb : ∀ (arg25 : BitVec 32) (v223 : IVec S16 32) (v262 : IVec S16 32) (k0_hw19 : k0_chk19 arg25 v223 v262), ∀ (k0_h4 : k0_cond4 arg25 = 1#1), ∀ a x, ((![v223, v262] : Fin 2 → IVec S16 32) a x).toNat < S512x32.size a := fun arg25 v223 v262 k0_hw19 k0_h4 => k0_hw19 k0_h4

def k0_chk20 (arg25 : BitVec 32) (v270 : IVec S16 32) (v276 : IVec S16 32) : Prop :=
  (∀ (k0_h4 : k0_cond4 arg25 = 1#1), ∀ a x, ((![v270, v276] : Fin 2 → IVec S16 32) a x).toNat < S32x512.size a)
theorem k0_idx20_inb : ∀ (arg25 : BitVec 32) (v270 : IVec S16 32) (v276 : IVec S16 32) (k0_hw20 : k0_chk20 arg25 v270 v276), ∀ (k0_h4 : k0_cond4 arg25 = 1#1), ∀ a x, ((![v270, v276] : Fin 2 → IVec S16 32) a x).toNat < S32x512.size a := fun arg25 v270 v276 k0_hw20 k0_h4 => k0_hw20 k0_h4

def k0_chk21 (arg25 : BitVec 32) (v223 : IVec S16 32) (v270 : IVec S16 32) : Prop :=
  (∀ (k0_h4 : k0_cond4 arg25 = 1#1), ∀ a x, ((![v223, v270] : Fin 2 → IVec S16 32) a x).toNat < S512x32.size a)
theorem k0_idx21_inb : ∀ (arg25 : BitVec 32) (v223 : IVec S16 32) (v270 : IVec S16 32) (k0_hw21 : k0_chk21 arg25 v223 v270), ∀ (k0_h4 : k0_cond4 arg25 = 1#1), ∀ a x, ((![v223, v270] : Fin 2 → IVec S16 32) a x).toNat < S512x32.size a := fun arg25 v223 v270 k0_hw21 k0_h4 => k0_hw21 k0_h4

def k0_chk22 (arg25 : BitVec 32) (v278 : IVec S16 32) (v284 : IVec S16 32) : Prop :=
  (∀ (k0_h4 : k0_cond4 arg25 = 1#1), ∀ a x, ((![v278, v284] : Fin 2 → IVec S16 32) a x).toNat < S32x512.size a)
theorem k0_idx22_inb : ∀ (arg25 : BitVec 32) (v278 : IVec S16 32) (v284 : IVec S16 32) (k0_hw22 : k0_chk22 arg25 v278 v284), ∀ (k0_h4 : k0_cond4 arg25 = 1#1), ∀ a x, ((![v278, v284] : Fin 2 → IVec S16 32) a x).toNat < S32x512.size a := fun arg25 v278 v284 k0_hw22 k0_h4 => k0_hw22 k0_h4

def k0_chk23 (arg25 : BitVec 32) (v223 : IVec S16 32) (v278 : IVec S16 32) : Prop :=
  (∀ (k0_h4 : k0_cond4 arg25 = 1#1), ∀ a x, ((![v223, v278] : Fin 2 → IVec S16 32) a x).toNat < S512x32.size a)
theorem k0_idx23_inb : ∀ (arg25 : BitVec 32) (v223 : IVec S16 32) (v278 : IVec S16 32) (k0_hw23 : k0_chk23 arg25 v223 v278), ∀ (k0_h4 : k0_cond4 arg25 = 1#1), ∀ a x, ((![v223, v278] : Fin 2 → IVec S16 32) a x).toNat < S512x32.size a := fun arg25 v223 v278 k0_hw23 k0_h4 => k0_hw23 k0_h4

def k0_chk24 (arg25 : BitVec 32) (v286 : IVec S16 32) (v292 : IVec S16 32) : Prop :=
  (∀ (k0_h4 : k0_cond4 arg25 = 1#1), ∀ a x, ((![v286, v292] : Fin 2 → IVec S16 32) a x).toNat < S32x512.size a)
theorem k0_idx24_inb : ∀ (arg25 : BitVec 32) (v286 : IVec S16 32) (v292 : IVec S16 32) (k0_hw24 : k0_chk24 arg25 v286 v292), ∀ (k0_h4 : k0_cond4 arg25 = 1#1), ∀ a x, ((![v286, v292] : Fin 2 → IVec S16 32) a x).toNat < S32x512.size a := fun arg25 v286 v292 k0_hw24 k0_h4 => k0_hw24 k0_h4

def k0_chk25 (arg25 : BitVec 32) (v223 : IVec S16 32) (v286 : IVec S16 32) : Prop :=
  (∀ (k0_h4 : k0_cond4 arg25 = 1#1), ∀ a x, ((![v223, v286] : Fin 2 → IVec S16 32) a x).toNat < S512x32.size a)
theorem k0_idx25_inb : ∀ (arg25 : BitVec 32) (v223 : IVec S16 32) (v286 : IVec S16 32) (k0_hw25 : k0_chk25 arg25 v223 v286), ∀ (k0_h4 : k0_cond4 arg25 = 1#1), ∀ a x, ((![v223, v286] : Fin 2 → IVec S16 32) a x).toNat < S512x32.size a := fun arg25 v223 v286 k0_hw25 k0_h4 => k0_hw25 k0_h4

def k0_chk26 (arg25 : BitVec 32) (v294 : IVec S16 32) (v300 : IVec S16 32) : Prop :=
  (∀ (k0_h4 : k0_cond4 arg25 = 1#1), ∀ a x, ((![v294, v300] : Fin 2 → IVec S16 32) a x).toNat < S32x512.size a)
theorem k0_idx26_inb : ∀ (arg25 : BitVec 32) (v294 : IVec S16 32) (v300 : IVec S16 32) (k0_hw26 : k0_chk26 arg25 v294 v300), ∀ (k0_h4 : k0_cond4 arg25 = 1#1), ∀ a x, ((![v294, v300] : Fin 2 → IVec S16 32) a x).toNat < S32x512.size a := fun arg25 v294 v300 k0_hw26 k0_h4 => k0_hw26 k0_h4

def k0_chk27 (arg25 : BitVec 32) (v223 : IVec S16 32) (v294 : IVec S16 32) : Prop :=
  (∀ (k0_h4 : k0_cond4 arg25 = 1#1), ∀ a x, ((![v223, v294] : Fin 2 → IVec S16 32) a x).toNat < S512x32.size a)
theorem k0_idx27_inb : ∀ (arg25 : BitVec 32) (v223 : IVec S16 32) (v294 : IVec S16 32) (k0_hw27 : k0_chk27 arg25 v223 v294), ∀ (k0_h4 : k0_cond4 arg25 = 1#1), ∀ a x, ((![v223, v294] : Fin 2 → IVec S16 32) a x).toNat < S512x32.size a := fun arg25 v223 v294 k0_hw27 k0_h4 => k0_hw27 k0_h4

def k0_chk28 (arg25 : BitVec 32) (v302 : IVec S16 32) (v308 : IVec S16 32) : Prop :=
  (∀ (k0_h4 : k0_cond4 arg25 = 1#1), ∀ a x, ((![v302, v308] : Fin 2 → IVec S16 32) a x).toNat < S32x512.size a)
theorem k0_idx28_inb : ∀ (arg25 : BitVec 32) (v302 : IVec S16 32) (v308 : IVec S16 32) (k0_hw28 : k0_chk28 arg25 v302 v308), ∀ (k0_h4 : k0_cond4 arg25 = 1#1), ∀ a x, ((![v302, v308] : Fin 2 → IVec S16 32) a x).toNat < S32x512.size a := fun arg25 v302 v308 k0_hw28 k0_h4 => k0_hw28 k0_h4

def k0_chk29 (arg25 : BitVec 32) (v223 : IVec S16 32) (v302 : IVec S16 32) : Prop :=
  (∀ (k0_h4 : k0_cond4 arg25 = 1#1), ∀ a x, ((![v223, v302] : Fin 2 → IVec S16 32) a x).toNat < S512x32.size a)
theorem k0_idx29_inb : ∀ (arg25 : BitVec 32) (v223 : IVec S16 32) (v302 : IVec S16 32) (k0_hw29 : k0_chk29 arg25 v223 v302), ∀ (k0_h4 : k0_cond4 arg25 = 1#1), ∀ a x, ((![v223, v302] : Fin 2 → IVec S16 32) a x).toNat < S512x32.size a := fun arg25 v223 v302 k0_hw29 k0_h4 => k0_hw29 k0_h4

def k0_chk30 (arg25 : BitVec 32) (v310 : IVec S16 32) (v316 : IVec S16 32) : Prop :=
  (∀ (k0_h4 : k0_cond4 arg25 = 1#1), ∀ a x, ((![v310, v316] : Fin 2 → IVec S16 32) a x).toNat < S32x512.size a)
theorem k0_idx30_inb : ∀ (arg25 : BitVec 32) (v310 : IVec S16 32) (v316 : IVec S16 32) (k0_hw30 : k0_chk30 arg25 v310 v316), ∀ (k0_h4 : k0_cond4 arg25 = 1#1), ∀ a x, ((![v310, v316] : Fin 2 → IVec S16 32) a x).toNat < S32x512.size a := fun arg25 v310 v316 k0_hw30 k0_h4 => k0_hw30 k0_h4

def k0_chk31 (arg25 : BitVec 32) (v223 : IVec S16 32) (v310 : IVec S16 32) : Prop :=
  (∀ (k0_h4 : k0_cond4 arg25 = 1#1), ∀ a x, ((![v223, v310] : Fin 2 → IVec S16 32) a x).toNat < S512x32.size a)
theorem k0_idx31_inb : ∀ (arg25 : BitVec 32) (v223 : IVec S16 32) (v310 : IVec S16 32) (k0_hw31 : k0_chk31 arg25 v223 v310), ∀ (k0_h4 : k0_cond4 arg25 = 1#1), ∀ a x, ((![v223, v310] : Fin 2 → IVec S16 32) a x).toNat < S512x32.size a := fun arg25 v223 v310 k0_hw31 k0_h4 => k0_hw31 k0_h4

def k0_chk32 (arg25 : BitVec 32) (v318 : IVec S16 32) (v324 : IVec S16 32) : Prop :=
  (∀ (k0_h4 : k0_cond4 arg25 = 1#1), ∀ a x, ((![v318, v324] : Fin 2 → IVec S16 32) a x).toNat < S32x512.size a)
theorem k0_idx32_inb : ∀ (arg25 : BitVec 32) (v318 : IVec S16 32) (v324 : IVec S16 32) (k0_hw32 : k0_chk32 arg25 v318 v324), ∀ (k0_h4 : k0_cond4 arg25 = 1#1), ∀ a x, ((![v318, v324] : Fin 2 → IVec S16 32) a x).toNat < S32x512.size a := fun arg25 v318 v324 k0_hw32 k0_h4 => k0_hw32 k0_h4

def k0_chk33 (arg25 : BitVec 32) (v223 : IVec S16 32) (v318 : IVec S16 32) : Prop :=
  (∀ (k0_h4 : k0_cond4 arg25 = 1#1), ∀ a x, ((![v223, v318] : Fin 2 → IVec S16 32) a x).toNat < S512x32.size a)
theorem k0_idx33_inb : ∀ (arg25 : BitVec 32) (v223 : IVec S16 32) (v318 : IVec S16 32) (k0_hw33 : k0_chk33 arg25 v223 v318), ∀ (k0_h4 : k0_cond4 arg25 = 1#1), ∀ a x, ((![v223, v318] : Fin 2 → IVec S16 32) a x).toNat < S512x32.size a := fun arg25 v223 v318 k0_hw33 k0_h4 => k0_hw33 k0_h4

def k0_chk34 (arg25 : BitVec 32) (v326 : IVec S16 32) (v332 : IVec S16 32) : Prop :=
  (∀ (k0_h4 : k0_cond4 arg25 = 1#1), ∀ a x, ((![v326, v332] : Fin 2 → IVec S16 32) a x).toNat < S32x512.size a)
theorem k0_idx34_inb : ∀ (arg25 : BitVec 32) (v326 : IVec S16 32) (v332 : IVec S16 32) (k0_hw34 : k0_chk34 arg25 v326 v332), ∀ (k0_h4 : k0_cond4 arg25 = 1#1), ∀ a x, ((![v326, v332] : Fin 2 → IVec S16 32) a x).toNat < S32x512.size a := fun arg25 v326 v332 k0_hw34 k0_h4 => k0_hw34 k0_h4

def k0_chk35 (arg25 : BitVec 32) (v223 : IVec S16 32) (v326 : IVec S16 32) : Prop :=
  (∀ (k0_h4 : k0_cond4 arg25 = 1#1), ∀ a x, ((![v223, v326] : Fin 2 → IVec S16 32) a x).toNat < S512x32.size a)
theorem k0_idx35_inb : ∀ (arg25 : BitVec 32) (v223 : IVec S16 32) (v326 : IVec S16 32) (k0_hw35 : k0_chk35 arg25 v223 v326), ∀ (k0_h4 : k0_cond4 arg25 = 1#1), ∀ a x, ((![v223, v326] : Fin 2 → IVec S16 32) a x).toNat < S512x32.size a := fun arg25 v223 v326 k0_hw35 k0_h4 => k0_hw35 k0_h4

def k0_chk36 (arg25 : BitVec 32) (v334 : IVec S16 32) (v340 : IVec S16 32) : Prop :=
  (∀ (k0_h4 : k0_cond4 arg25 = 1#1), ∀ a x, ((![v334, v340] : Fin 2 → IVec S16 32) a x).toNat < S32x512.size a)
theorem k0_idx36_inb : ∀ (arg25 : BitVec 32) (v334 : IVec S16 32) (v340 : IVec S16 32) (k0_hw36 : k0_chk36 arg25 v334 v340), ∀ (k0_h4 : k0_cond4 arg25 = 1#1), ∀ a x, ((![v334, v340] : Fin 2 → IVec S16 32) a x).toNat < S32x512.size a := fun arg25 v334 v340 k0_hw36 k0_h4 => k0_hw36 k0_h4

def k0_chk37 (arg25 : BitVec 32) (v223 : IVec S16 32) (v334 : IVec S16 32) : Prop :=
  (∀ (k0_h4 : k0_cond4 arg25 = 1#1), ∀ a x, ((![v223, v334] : Fin 2 → IVec S16 32) a x).toNat < S512x32.size a)
theorem k0_idx37_inb : ∀ (arg25 : BitVec 32) (v223 : IVec S16 32) (v334 : IVec S16 32) (k0_hw37 : k0_chk37 arg25 v223 v334), ∀ (k0_h4 : k0_cond4 arg25 = 1#1), ∀ a x, ((![v223, v334] : Fin 2 → IVec S16 32) a x).toNat < S512x32.size a := fun arg25 v223 v334 k0_hw37 k0_h4 => k0_hw37 k0_h4

def k0_chk38 (arg25 : BitVec 32) (v342 : IVec S16 32) (v348 : IVec S16 32) : Prop :=
  (∀ (k0_h4 : k0_cond4 arg25 = 1#1), ∀ a x, ((![v342, v348] : Fin 2 → IVec S16 32) a x).toNat < S32x512.size a)
theorem k0_idx38_inb : ∀ (arg25 : BitVec 32) (v342 : IVec S16 32) (v348 : IVec S16 32) (k0_hw38 : k0_chk38 arg25 v342 v348), ∀ (k0_h4 : k0_cond4 arg25 = 1#1), ∀ a x, ((![v342, v348] : Fin 2 → IVec S16 32) a x).toNat < S32x512.size a := fun arg25 v342 v348 k0_hw38 k0_h4 => k0_hw38 k0_h4

def k0_chk39 (arg25 : BitVec 32) (v223 : IVec S16 32) (v342 : IVec S16 32) : Prop :=
  (∀ (k0_h4 : k0_cond4 arg25 = 1#1), ∀ a x, ((![v223, v342] : Fin 2 → IVec S16 32) a x).toNat < S512x32.size a)
theorem k0_idx39_inb : ∀ (arg25 : BitVec 32) (v223 : IVec S16 32) (v342 : IVec S16 32) (k0_hw39 : k0_chk39 arg25 v223 v342), ∀ (k0_h4 : k0_cond4 arg25 = 1#1), ∀ a x, ((![v223, v342] : Fin 2 → IVec S16 32) a x).toNat < S512x32.size a := fun arg25 v223 v342 k0_hw39 k0_h4 => k0_hw39 k0_h4

def k0_chk40 (arg25 : BitVec 32) (v350 : IVec S16 32) (v356 : IVec S16 32) : Prop :=
  (∀ (k0_h4 : k0_cond4 arg25 = 1#1), ∀ a x, ((![v350, v356] : Fin 2 → IVec S16 32) a x).toNat < S32x512.size a)
theorem k0_idx40_inb : ∀ (arg25 : BitVec 32) (v350 : IVec S16 32) (v356 : IVec S16 32) (k0_hw40 : k0_chk40 arg25 v350 v356), ∀ (k0_h4 : k0_cond4 arg25 = 1#1), ∀ a x, ((![v350, v356] : Fin 2 → IVec S16 32) a x).toNat < S32x512.size a := fun arg25 v350 v356 k0_hw40 k0_h4 => k0_hw40 k0_h4

def k0_chk41 (arg25 : BitVec 32) (v223 : IVec S16 32) (v350 : IVec S16 32) : Prop :=
  (∀ (k0_h4 : k0_cond4 arg25 = 1#1), ∀ a x, ((![v223, v350] : Fin 2 → IVec S16 32) a x).toNat < S512x32.size a)
theorem k0_idx41_inb : ∀ (arg25 : BitVec 32) (v223 : IVec S16 32) (v350 : IVec S16 32) (k0_hw41 : k0_chk41 arg25 v223 v350), ∀ (k0_h4 : k0_cond4 arg25 = 1#1), ∀ a x, ((![v223, v350] : Fin 2 → IVec S16 32) a x).toNat < S512x32.size a := fun arg25 v223 v350 k0_hw41 k0_h4 => k0_hw41 k0_h4

def k0_chk42 (arg25 : BitVec 32) (v358 : IVec S16 32) (v364 : IVec S16 32) : Prop :=
  (∀ (k0_h4 : k0_cond4 arg25 = 1#1), ∀ a x, ((![v358, v364] : Fin 2 → IVec S16 32) a x).toNat < S32x512.size a)
theorem k0_idx42_inb : ∀ (arg25 : BitVec 32) (v358 : IVec S16 32) (v364 : IVec S16 32) (k0_hw42 : k0_chk42 arg25 v358 v364), ∀ (k0_h4 : k0_cond4 arg25 = 1#1), ∀ a x, ((![v358, v364] : Fin 2 → IVec S16 32) a x).toNat < S32x512.size a := fun arg25 v358 v364 k0_hw42 k0_h4 => k0_hw42 k0_h4

def k0_chk43 (arg25 : BitVec 32) (v223 : IVec S16 32) (v358 : IVec S16 32) : Prop :=
  (∀ (k0_h4 : k0_cond4 arg25 = 1#1), ∀ a x, ((![v223, v358] : Fin 2 → IVec S16 32) a x).toNat < S512x32.size a)
theorem k0_idx43_inb : ∀ (arg25 : BitVec 32) (v223 : IVec S16 32) (v358 : IVec S16 32) (k0_hw43 : k0_chk43 arg25 v223 v358), ∀ (k0_h4 : k0_cond4 arg25 = 1#1), ∀ a x, ((![v223, v358] : Fin 2 → IVec S16 32) a x).toNat < S512x32.size a := fun arg25 v223 v358 k0_hw43 k0_h4 => k0_hw43 k0_h4

def k0_chk44 (arg25 : BitVec 32) (v366 : IVec S16 32) (v372 : IVec S16 32) : Prop :=
  (∀ (k0_h4 : k0_cond4 arg25 = 1#1), ∀ a x, ((![v366, v372] : Fin 2 → IVec S16 32) a x).toNat < S32x512.size a)
theorem k0_idx44_inb : ∀ (arg25 : BitVec 32) (v366 : IVec S16 32) (v372 : IVec S16 32) (k0_hw44 : k0_chk44 arg25 v366 v372), ∀ (k0_h4 : k0_cond4 arg25 = 1#1), ∀ a x, ((![v366, v372] : Fin 2 → IVec S16 32) a x).toNat < S32x512.size a := fun arg25 v366 v372 k0_hw44 k0_h4 => k0_hw44 k0_h4

def k0_chk45 (arg25 : BitVec 32) (v223 : IVec S16 32) (v366 : IVec S16 32) : Prop :=
  (∀ (k0_h4 : k0_cond4 arg25 = 1#1), ∀ a x, ((![v223, v366] : Fin 2 → IVec S16 32) a x).toNat < S512x32.size a)
theorem k0_idx45_inb : ∀ (arg25 : BitVec 32) (v223 : IVec S16 32) (v366 : IVec S16 32) (k0_hw45 : k0_chk45 arg25 v223 v366), ∀ (k0_h4 : k0_cond4 arg25 = 1#1), ∀ a x, ((![v223, v366] : Fin 2 → IVec S16 32) a x).toNat < S512x32.size a := fun arg25 v223 v366 k0_hw45 k0_h4 => k0_hw45 k0_h4

def k0_chk46 (arg25 : BitVec 32) (v374 : IVec S16 32) (v380 : IVec S16 32) : Prop :=
  (∀ (k0_h4 : k0_cond4 arg25 = 1#1), ∀ a x, ((![v374, v380] : Fin 2 → IVec S16 32) a x).toNat < S32x512.size a)
theorem k0_idx46_inb : ∀ (arg25 : BitVec 32) (v374 : IVec S16 32) (v380 : IVec S16 32) (k0_hw46 : k0_chk46 arg25 v374 v380), ∀ (k0_h4 : k0_cond4 arg25 = 1#1), ∀ a x, ((![v374, v380] : Fin 2 → IVec S16 32) a x).toNat < S32x512.size a := fun arg25 v374 v380 k0_hw46 k0_h4 => k0_hw46 k0_h4

def k0_chk47 (arg25 : BitVec 32) (v223 : IVec S16 32) (v374 : IVec S16 32) : Prop :=
  (∀ (k0_h4 : k0_cond4 arg25 = 1#1), ∀ a x, ((![v223, v374] : Fin 2 → IVec S16 32) a x).toNat < S512x32.size a)
theorem k0_idx47_inb : ∀ (arg25 : BitVec 32) (v223 : IVec S16 32) (v374 : IVec S16 32) (k0_hw47 : k0_chk47 arg25 v223 v374), ∀ (k0_h4 : k0_cond4 arg25 = 1#1), ∀ a x, ((![v223, v374] : Fin 2 → IVec S16 32) a x).toNat < S512x32.size a := fun arg25 v223 v374 k0_hw47 k0_h4 => k0_hw47 k0_h4

def k0_chk48 (arg25 : BitVec 32) (v382 : IVec S16 32) (v388 : IVec S16 32) : Prop :=
  (∀ (k0_h4 : k0_cond4 arg25 = 1#1), ∀ a x, ((![v382, v388] : Fin 2 → IVec S16 32) a x).toNat < S32x512.size a)
theorem k0_idx48_inb : ∀ (arg25 : BitVec 32) (v382 : IVec S16 32) (v388 : IVec S16 32) (k0_hw48 : k0_chk48 arg25 v382 v388), ∀ (k0_h4 : k0_cond4 arg25 = 1#1), ∀ a x, ((![v382, v388] : Fin 2 → IVec S16 32) a x).toNat < S32x512.size a := fun arg25 v382 v388 k0_hw48 k0_h4 => k0_hw48 k0_h4

def k0_chk49 (arg25 : BitVec 32) (v223 : IVec S16 32) (v382 : IVec S16 32) : Prop :=
  (∀ (k0_h4 : k0_cond4 arg25 = 1#1), ∀ a x, ((![v223, v382] : Fin 2 → IVec S16 32) a x).toNat < S512x32.size a)
theorem k0_idx49_inb : ∀ (arg25 : BitVec 32) (v223 : IVec S16 32) (v382 : IVec S16 32) (k0_hw49 : k0_chk49 arg25 v223 v382), ∀ (k0_h4 : k0_cond4 arg25 = 1#1), ∀ a x, ((![v223, v382] : Fin 2 → IVec S16 32) a x).toNat < S512x32.size a := fun arg25 v223 v382 k0_hw49 k0_h4 => k0_hw49 k0_h4

def k0_chk50 (arg25 : BitVec 32) (v390 : IVec S16 32) (v396 : IVec S16 32) : Prop :=
  (∀ (k0_h4 : k0_cond4 arg25 = 1#1), ∀ a x, ((![v390, v396] : Fin 2 → IVec S16 32) a x).toNat < S32x512.size a)
theorem k0_idx50_inb : ∀ (arg25 : BitVec 32) (v390 : IVec S16 32) (v396 : IVec S16 32) (k0_hw50 : k0_chk50 arg25 v390 v396), ∀ (k0_h4 : k0_cond4 arg25 = 1#1), ∀ a x, ((![v390, v396] : Fin 2 → IVec S16 32) a x).toNat < S32x512.size a := fun arg25 v390 v396 k0_hw50 k0_h4 => k0_hw50 k0_h4

def k0_chk51 (arg25 : BitVec 32) (v223 : IVec S16 32) (v390 : IVec S16 32) : Prop :=
  (∀ (k0_h4 : k0_cond4 arg25 = 1#1), ∀ a x, ((![v223, v390] : Fin 2 → IVec S16 32) a x).toNat < S512x32.size a)
theorem k0_idx51_inb : ∀ (arg25 : BitVec 32) (v223 : IVec S16 32) (v390 : IVec S16 32) (k0_hw51 : k0_chk51 arg25 v223 v390), ∀ (k0_h4 : k0_cond4 arg25 = 1#1), ∀ a x, ((![v223, v390] : Fin 2 → IVec S16 32) a x).toNat < S512x32.size a := fun arg25 v223 v390 k0_hw51 k0_h4 => k0_hw51 k0_h4

def k0_chk52 (arg25 : BitVec 32) (v398 : IVec S16 32) (v404 : IVec S16 32) : Prop :=
  (∀ (k0_h4 : k0_cond4 arg25 = 1#1), ∀ a x, ((![v398, v404] : Fin 2 → IVec S16 32) a x).toNat < S32x512.size a)
theorem k0_idx52_inb : ∀ (arg25 : BitVec 32) (v398 : IVec S16 32) (v404 : IVec S16 32) (k0_hw52 : k0_chk52 arg25 v398 v404), ∀ (k0_h4 : k0_cond4 arg25 = 1#1), ∀ a x, ((![v398, v404] : Fin 2 → IVec S16 32) a x).toNat < S32x512.size a := fun arg25 v398 v404 k0_hw52 k0_h4 => k0_hw52 k0_h4

def k0_chk53 (arg25 : BitVec 32) (v223 : IVec S16 32) (v398 : IVec S16 32) : Prop :=
  (∀ (k0_h4 : k0_cond4 arg25 = 1#1), ∀ a x, ((![v223, v398] : Fin 2 → IVec S16 32) a x).toNat < S512x32.size a)
theorem k0_idx53_inb : ∀ (arg25 : BitVec 32) (v223 : IVec S16 32) (v398 : IVec S16 32) (k0_hw53 : k0_chk53 arg25 v223 v398), ∀ (k0_h4 : k0_cond4 arg25 = 1#1), ∀ a x, ((![v223, v398] : Fin 2 → IVec S16 32) a x).toNat < S512x32.size a := fun arg25 v223 v398 k0_hw53 k0_h4 => k0_hw53 k0_h4

def k0_chk54 (arg25 : BitVec 32) (v406 : IVec S16 32) (v412 : IVec S16 32) : Prop :=
  (∀ (k0_h4 : k0_cond4 arg25 = 1#1), ∀ a x, ((![v406, v412] : Fin 2 → IVec S16 32) a x).toNat < S32x512.size a)
theorem k0_idx54_inb : ∀ (arg25 : BitVec 32) (v406 : IVec S16 32) (v412 : IVec S16 32) (k0_hw54 : k0_chk54 arg25 v406 v412), ∀ (k0_h4 : k0_cond4 arg25 = 1#1), ∀ a x, ((![v406, v412] : Fin 2 → IVec S16 32) a x).toNat < S32x512.size a := fun arg25 v406 v412 k0_hw54 k0_h4 => k0_hw54 k0_h4

def k0_chk55 (arg25 : BitVec 32) (v223 : IVec S16 32) (v406 : IVec S16 32) : Prop :=
  (∀ (k0_h4 : k0_cond4 arg25 = 1#1), ∀ a x, ((![v223, v406] : Fin 2 → IVec S16 32) a x).toNat < S512x32.size a)
theorem k0_idx55_inb : ∀ (arg25 : BitVec 32) (v223 : IVec S16 32) (v406 : IVec S16 32) (k0_hw55 : k0_chk55 arg25 v223 v406), ∀ (k0_h4 : k0_cond4 arg25 = 1#1), ∀ a x, ((![v223, v406] : Fin 2 → IVec S16 32) a x).toNat < S512x32.size a := fun arg25 v223 v406 k0_hw55 k0_h4 => k0_hw55 k0_h4

def k0_chk56 (arg25 : BitVec 32) (v414 : IVec S16 32) (v420 : IVec S16 32) : Prop :=
  (∀ (k0_h4 : k0_cond4 arg25 = 1#1), ∀ a x, ((![v414, v420] : Fin 2 → IVec S16 32) a x).toNat < S32x512.size a)
theorem k0_idx56_inb : ∀ (arg25 : BitVec 32) (v414 : IVec S16 32) (v420 : IVec S16 32) (k0_hw56 : k0_chk56 arg25 v414 v420), ∀ (k0_h4 : k0_cond4 arg25 = 1#1), ∀ a x, ((![v414, v420] : Fin 2 → IVec S16 32) a x).toNat < S32x512.size a := fun arg25 v414 v420 k0_hw56 k0_h4 => k0_hw56 k0_h4

def k0_chk57 (arg25 : BitVec 32) (v223 : IVec S16 32) (v414 : IVec S16 32) : Prop :=
  (∀ (k0_h4 : k0_cond4 arg25 = 1#1), ∀ a x, ((![v223, v414] : Fin 2 → IVec S16 32) a x).toNat < S512x32.size a)
theorem k0_idx57_inb : ∀ (arg25 : BitVec 32) (v223 : IVec S16 32) (v414 : IVec S16 32) (k0_hw57 : k0_chk57 arg25 v223 v414), ∀ (k0_h4 : k0_cond4 arg25 = 1#1), ∀ a x, ((![v223, v414] : Fin 2 → IVec S16 32) a x).toNat < S512x32.size a := fun arg25 v223 v414 k0_hw57 k0_h4 => k0_hw57 k0_h4

def k0_chk58 (arg25 : BitVec 32) (v422 : IVec S16 32) (v428 : IVec S16 32) : Prop :=
  (∀ (k0_h4 : k0_cond4 arg25 = 1#1), ∀ a x, ((![v422, v428] : Fin 2 → IVec S16 32) a x).toNat < S32x512.size a)
theorem k0_idx58_inb : ∀ (arg25 : BitVec 32) (v422 : IVec S16 32) (v428 : IVec S16 32) (k0_hw58 : k0_chk58 arg25 v422 v428), ∀ (k0_h4 : k0_cond4 arg25 = 1#1), ∀ a x, ((![v422, v428] : Fin 2 → IVec S16 32) a x).toNat < S32x512.size a := fun arg25 v422 v428 k0_hw58 k0_h4 => k0_hw58 k0_h4

def k0_chk59 (arg25 : BitVec 32) (v223 : IVec S16 32) (v422 : IVec S16 32) : Prop :=
  (∀ (k0_h4 : k0_cond4 arg25 = 1#1), ∀ a x, ((![v223, v422] : Fin 2 → IVec S16 32) a x).toNat < S512x32.size a)
theorem k0_idx59_inb : ∀ (arg25 : BitVec 32) (v223 : IVec S16 32) (v422 : IVec S16 32) (k0_hw59 : k0_chk59 arg25 v223 v422), ∀ (k0_h4 : k0_cond4 arg25 = 1#1), ∀ a x, ((![v223, v422] : Fin 2 → IVec S16 32) a x).toNat < S512x32.size a := fun arg25 v223 v422 k0_hw59 k0_h4 => k0_hw59 k0_h4

def k0_chk60 (arg25 : BitVec 32) (v430 : IVec S16 32) (v436 : IVec S16 32) : Prop :=
  (∀ (k0_h4 : k0_cond4 arg25 = 1#1), ∀ a x, ((![v430, v436] : Fin 2 → IVec S16 32) a x).toNat < S32x512.size a)
theorem k0_idx60_inb : ∀ (arg25 : BitVec 32) (v430 : IVec S16 32) (v436 : IVec S16 32) (k0_hw60 : k0_chk60 arg25 v430 v436), ∀ (k0_h4 : k0_cond4 arg25 = 1#1), ∀ a x, ((![v430, v436] : Fin 2 → IVec S16 32) a x).toNat < S32x512.size a := fun arg25 v430 v436 k0_hw60 k0_h4 => k0_hw60 k0_h4

def k0_chk61 (arg25 : BitVec 32) (v223 : IVec S16 32) (v430 : IVec S16 32) : Prop :=
  (∀ (k0_h4 : k0_cond4 arg25 = 1#1), ∀ a x, ((![v223, v430] : Fin 2 → IVec S16 32) a x).toNat < S512x32.size a)
theorem k0_idx61_inb : ∀ (arg25 : BitVec 32) (v223 : IVec S16 32) (v430 : IVec S16 32) (k0_hw61 : k0_chk61 arg25 v223 v430), ∀ (k0_h4 : k0_cond4 arg25 = 1#1), ∀ a x, ((![v223, v430] : Fin 2 → IVec S16 32) a x).toNat < S512x32.size a := fun arg25 v223 v430 k0_hw61 k0_h4 => k0_hw61 k0_h4

def k0_chk62 (arg25 : BitVec 32) (v438 : IVec S16 32) (v444 : IVec S16 32) : Prop :=
  (∀ (k0_h4 : k0_cond4 arg25 = 1#1), ∀ a x, ((![v438, v444] : Fin 2 → IVec S16 32) a x).toNat < S32x512.size a)
theorem k0_idx62_inb : ∀ (arg25 : BitVec 32) (v438 : IVec S16 32) (v444 : IVec S16 32) (k0_hw62 : k0_chk62 arg25 v438 v444), ∀ (k0_h4 : k0_cond4 arg25 = 1#1), ∀ a x, ((![v438, v444] : Fin 2 → IVec S16 32) a x).toNat < S32x512.size a := fun arg25 v438 v444 k0_hw62 k0_h4 => k0_hw62 k0_h4

def k0_chk63 (arg25 : BitVec 32) (v223 : IVec S16 32) (v438 : IVec S16 32) : Prop :=
  (∀ (k0_h4 : k0_cond4 arg25 = 1#1), ∀ a x, ((![v223, v438] : Fin 2 → IVec S16 32) a x).toNat < S512x32.size a)
theorem k0_idx63_inb : ∀ (arg25 : BitVec 32) (v223 : IVec S16 32) (v438 : IVec S16 32) (k0_hw63 : k0_chk63 arg25 v223 v438), ∀ (k0_h4 : k0_cond4 arg25 = 1#1), ∀ a x, ((![v223, v438] : Fin 2 → IVec S16 32) a x).toNat < S512x32.size a := fun arg25 v223 v438 k0_hw63 k0_h4 => k0_hw63 k0_h4

def k0_chk64 (arg25 : BitVec 32) (v446 : IVec S16 32) (v452 : IVec S16 32) : Prop :=
  (∀ (k0_h4 : k0_cond4 arg25 = 1#1), ∀ a x, ((![v446, v452] : Fin 2 → IVec S16 32) a x).toNat < S32x512.size a)
theorem k0_idx64_inb : ∀ (arg25 : BitVec 32) (v446 : IVec S16 32) (v452 : IVec S16 32) (k0_hw64 : k0_chk64 arg25 v446 v452), ∀ (k0_h4 : k0_cond4 arg25 = 1#1), ∀ a x, ((![v446, v452] : Fin 2 → IVec S16 32) a x).toNat < S32x512.size a := fun arg25 v446 v452 k0_hw64 k0_h4 => k0_hw64 k0_h4

def k0_chk65 (arg25 : BitVec 32) (v223 : IVec S16 32) (v446 : IVec S16 32) : Prop :=
  (∀ (k0_h4 : k0_cond4 arg25 = 1#1), ∀ a x, ((![v223, v446] : Fin 2 → IVec S16 32) a x).toNat < S512x32.size a)
theorem k0_idx65_inb : ∀ (arg25 : BitVec 32) (v223 : IVec S16 32) (v446 : IVec S16 32) (k0_hw65 : k0_chk65 arg25 v223 v446), ∀ (k0_h4 : k0_cond4 arg25 = 1#1), ∀ a x, ((![v223, v446] : Fin 2 → IVec S16 32) a x).toNat < S512x32.size a := fun arg25 v223 v446 k0_hw65 k0_h4 => k0_hw65 k0_h4

def k0_chk66 (arg25 : BitVec 32) (v454 : IVec S16 32) (v460 : IVec S16 32) : Prop :=
  (∀ (k0_h4 : k0_cond4 arg25 = 1#1), ∀ a x, ((![v454, v460] : Fin 2 → IVec S16 32) a x).toNat < S32x512.size a)
theorem k0_idx66_inb : ∀ (arg25 : BitVec 32) (v454 : IVec S16 32) (v460 : IVec S16 32) (k0_hw66 : k0_chk66 arg25 v454 v460), ∀ (k0_h4 : k0_cond4 arg25 = 1#1), ∀ a x, ((![v454, v460] : Fin 2 → IVec S16 32) a x).toNat < S32x512.size a := fun arg25 v454 v460 k0_hw66 k0_h4 => k0_hw66 k0_h4

def k0_chk67 (arg25 : BitVec 32) (v223 : IVec S16 32) (v454 : IVec S16 32) : Prop :=
  (∀ (k0_h4 : k0_cond4 arg25 = 1#1), ∀ a x, ((![v223, v454] : Fin 2 → IVec S16 32) a x).toNat < S512x32.size a)
theorem k0_idx67_inb : ∀ (arg25 : BitVec 32) (v223 : IVec S16 32) (v454 : IVec S16 32) (k0_hw67 : k0_chk67 arg25 v223 v454), ∀ (k0_h4 : k0_cond4 arg25 = 1#1), ∀ a x, ((![v223, v454] : Fin 2 → IVec S16 32) a x).toNat < S512x32.size a := fun arg25 v223 v454 k0_hw67 k0_h4 => k0_hw67 k0_h4

def k0_chk68 (arg25 : BitVec 32) (v462 : IVec S16 32) (v468 : IVec S16 32) : Prop :=
  (∀ (k0_h4 : k0_cond4 arg25 = 1#1), ∀ a x, ((![v462, v468] : Fin 2 → IVec S16 32) a x).toNat < S32x512.size a)
theorem k0_idx68_inb : ∀ (arg25 : BitVec 32) (v462 : IVec S16 32) (v468 : IVec S16 32) (k0_hw68 : k0_chk68 arg25 v462 v468), ∀ (k0_h4 : k0_cond4 arg25 = 1#1), ∀ a x, ((![v462, v468] : Fin 2 → IVec S16 32) a x).toNat < S32x512.size a := fun arg25 v462 v468 k0_hw68 k0_h4 => k0_hw68 k0_h4

def k0_chk69 (arg25 : BitVec 32) (v223 : IVec S16 32) (v462 : IVec S16 32) : Prop :=
  (∀ (k0_h4 : k0_cond4 arg25 = 1#1), ∀ a x, ((![v223, v462] : Fin 2 → IVec S16 32) a x).toNat < S512x32.size a)
theorem k0_idx69_inb : ∀ (arg25 : BitVec 32) (v223 : IVec S16 32) (v462 : IVec S16 32) (k0_hw69 : k0_chk69 arg25 v223 v462), ∀ (k0_h4 : k0_cond4 arg25 = 1#1), ∀ a x, ((![v223, v462] : Fin 2 → IVec S16 32) a x).toNat < S512x32.size a := fun arg25 v223 v462 k0_hw69 k0_h4 => k0_hw69 k0_h4

def k0_chk70 (arg25 : BitVec 32) (v470 : IVec S16 32) (v476 : IVec S16 32) : Prop :=
  (∀ (k0_h4 : k0_cond4 arg25 = 1#1), ∀ a x, ((![v470, v476] : Fin 2 → IVec S16 32) a x).toNat < S32x512.size a)
theorem k0_idx70_inb : ∀ (arg25 : BitVec 32) (v470 : IVec S16 32) (v476 : IVec S16 32) (k0_hw70 : k0_chk70 arg25 v470 v476), ∀ (k0_h4 : k0_cond4 arg25 = 1#1), ∀ a x, ((![v470, v476] : Fin 2 → IVec S16 32) a x).toNat < S32x512.size a := fun arg25 v470 v476 k0_hw70 k0_h4 => k0_hw70 k0_h4

def k0_chk71 (arg25 : BitVec 32) (v223 : IVec S16 32) (v470 : IVec S16 32) : Prop :=
  (∀ (k0_h4 : k0_cond4 arg25 = 1#1), ∀ a x, ((![v223, v470] : Fin 2 → IVec S16 32) a x).toNat < S512x32.size a)
theorem k0_idx71_inb : ∀ (arg25 : BitVec 32) (v223 : IVec S16 32) (v470 : IVec S16 32) (k0_hw71 : k0_chk71 arg25 v223 v470), ∀ (k0_h4 : k0_cond4 arg25 = 1#1), ∀ a x, ((![v223, v470] : Fin 2 → IVec S16 32) a x).toNat < S512x32.size a := fun arg25 v223 v470 k0_hw71 k0_h4 => k0_hw71 k0_h4

def k0_chk72 (arg25 : BitVec 32) (v478 : IVec S16 32) (v484 : IVec S16 32) : Prop :=
  (∀ (k0_h4 : k0_cond4 arg25 = 1#1), ∀ a x, ((![v478, v484] : Fin 2 → IVec S16 32) a x).toNat < S32x512.size a)
theorem k0_idx72_inb : ∀ (arg25 : BitVec 32) (v478 : IVec S16 32) (v484 : IVec S16 32) (k0_hw72 : k0_chk72 arg25 v478 v484), ∀ (k0_h4 : k0_cond4 arg25 = 1#1), ∀ a x, ((![v478, v484] : Fin 2 → IVec S16 32) a x).toNat < S32x512.size a := fun arg25 v478 v484 k0_hw72 k0_h4 => k0_hw72 k0_h4

def k0_chk73 (arg25 : BitVec 32) (v223 : IVec S16 32) (v478 : IVec S16 32) : Prop :=
  (∀ (k0_h4 : k0_cond4 arg25 = 1#1), ∀ a x, ((![v223, v478] : Fin 2 → IVec S16 32) a x).toNat < S512x32.size a)
theorem k0_idx73_inb : ∀ (arg25 : BitVec 32) (v223 : IVec S16 32) (v478 : IVec S16 32) (k0_hw73 : k0_chk73 arg25 v223 v478), ∀ (k0_h4 : k0_cond4 arg25 = 1#1), ∀ a x, ((![v223, v478] : Fin 2 → IVec S16 32) a x).toNat < S512x32.size a := fun arg25 v223 v478 k0_hw73 k0_h4 => k0_hw73 k0_h4
@[reducible] def k0_t13_loop (arg25 : BitVec 32) : Scf.Loop 32 :=
  let c0_i32_211 : BitVec 32 := 0#32
  let c15_i32 : BitVec 32 := 15#32
  let v191 : BitVec 32 := Scalar.addi arg25 c15_i32
  let c0_i32_205 : BitVec 32 := 0#32
  let v193 : BitVec 1 := Scalar.cmpi .sgt v191 c0_i32_205
  let v194 : BitVec 32 := Scalar.extui v193
  let c0_i32_206 : BitVec 32 := 0#32
  let v195 : BitVec 1 := Scalar.cmpi .slt v191 c0_i32_206
  let v196 : BitVec 32 := Scalar.extui v195
  let v197 : BitVec 32 := Scalar.subi v194 v196
  let c16_i32 : BitVec 32 := 16#32
  let c0_i32_207 : BitVec 32 := 0#32
  let v198 : BitVec 1 := Scalar.cmpi .sgt c16_i32 c0_i32_207
  let v199 : BitVec 32 := Scalar.extui v198
  let c0_i32_208 : BitVec 32 := 0#32
  let v200 : BitVec 1 := Scalar.cmpi .slt c16_i32 c0_i32_208
  let v201 : BitVec 32 := Scalar.extui v200
  let v202 : BitVec 32 := Scalar.subi v199 v201
  let v203 : BitVec 1 := Scalar.cmpi .ne v197 v202
  let v204 : BitVec 32 := Scalar.remsi v191 c16_i32
  let c0_i32_209 : BitVec 32 := 0#32
  let v205 : BitVec 1 := Scalar.cmpi .ne v204 c0_i32_209
  let v206 : BitVec 1 := Scalar.andi v203 v205
  let v192 : BitVec 32 := Scalar.divsi v191 c16_i32
  let c1_i32_210 : BitVec 32 := 1#32
  let v207 : BitVec 32 := Scalar.subi v192 c1_i32_210
  let v208 : BitVec 32 := Scalar.select v206 v207 v192
  let v209 : BitVec 32 := Scalar.subi v208 c0_i32_211
  let c1_i32_213 : BitVec 32 := 1#32
  let v211 : BitVec 32 := Scalar.divsi v209 c1_i32_213
  let v212 : BitVec 32 := Scalar.muli v211 c1_i32_213
  let v213 : BitVec 32 := Scalar.addi c0_i32_211 v212
  let v210 : BitVec 32 := Scalar.addi c0_i32_211 v209
  let c1_i32_215 : BitVec 32 := 1#32
  ⟨v213, v210, c1_i32_215⟩
def k0_off12 (arg25 : BitVec 32) (k0_t13 : Fin (k0_t13_loop arg25).trips) : Fin 1 → Nat :=
  let c0_i32_211 : BitVec 32 := 0#32
  let c15_i32 : BitVec 32 := 15#32
  let v191 : BitVec 32 := Scalar.addi arg25 c15_i32
  let c0_i32_205 : BitVec 32 := 0#32
  let v193 : BitVec 1 := Scalar.cmpi .sgt v191 c0_i32_205
  let v194 : BitVec 32 := Scalar.extui v193
  let c0_i32_206 : BitVec 32 := 0#32
  let v195 : BitVec 1 := Scalar.cmpi .slt v191 c0_i32_206
  let v196 : BitVec 32 := Scalar.extui v195
  let v197 : BitVec 32 := Scalar.subi v194 v196
  let c16_i32 : BitVec 32 := 16#32
  let c0_i32_207 : BitVec 32 := 0#32
  let v198 : BitVec 1 := Scalar.cmpi .sgt c16_i32 c0_i32_207
  let v199 : BitVec 32 := Scalar.extui v198
  let c0_i32_208 : BitVec 32 := 0#32
  let v200 : BitVec 1 := Scalar.cmpi .slt c16_i32 c0_i32_208
  let v201 : BitVec 32 := Scalar.extui v200
  let v202 : BitVec 32 := Scalar.subi v199 v201
  let v203 : BitVec 1 := Scalar.cmpi .ne v197 v202
  let v204 : BitVec 32 := Scalar.remsi v191 c16_i32
  let c0_i32_209 : BitVec 32 := 0#32
  let v205 : BitVec 1 := Scalar.cmpi .ne v204 c0_i32_209
  let v206 : BitVec 1 := Scalar.andi v203 v205
  let v192 : BitVec 32 := Scalar.divsi v191 c16_i32
  let c1_i32_210 : BitVec 32 := 1#32
  let v207 : BitVec 32 := Scalar.subi v192 c1_i32_210
  let v208 : BitVec 32 := Scalar.select v206 v207 v192
  let v209 : BitVec 32 := Scalar.subi v208 c0_i32_211
  let c1_i32_213 : BitVec 32 := 1#32
  let v211 : BitVec 32 := Scalar.divsi v209 c1_i32_213
  let v212 : BitVec 32 := Scalar.muli v211 c1_i32_213
  let v213 : BitVec 32 := Scalar.addi c0_i32_211 v212
  let c1_i32_215 : BitVec 32 := 1#32
  let arg26 : BitVec 32 := Scf.iv v213 c1_i32_215 k0_t13
  let c16_i32_217 : BitVec 32 := 16#32
  let v221 : BitVec 32 := Scalar.muli arg26 c16_i32_217
  let v222 : Index := Scalar.indexCast v221
  ![v222.toNat]

def k0_chk7 (arg25 : BitVec 32) : Prop :=
  (∀ (k0_h4 : k0_cond4 arg25 = 1#1), (k0_t12_loop arg25).OK) ∧
  (∀ k0_t12 : Fin (k0_t12_loop arg25).trips, ∀ (k0_h4 : k0_cond4 arg25 = 1#1), ∀ a, (k0_off11 arg25 k0_t12) a + S16.size a ≤ S512.size a) ∧
  (∀ (k0_h4 : k0_cond4 arg25 = 1#1), (k0_t13_loop arg25).OK) ∧
  (∀ k0_t13 : Fin (k0_t13_loop arg25).trips, ∀ (k0_h4 : k0_cond4 arg25 = 1#1), ∀ a, (k0_off12 arg25 k0_t13) a + S16.size a ≤ S512.size a)
theorem k0_t12_ok : ∀ (arg25 : BitVec 32) (k0_hw7 : k0_chk7 arg25), ∀ (k0_h4 : k0_cond4 arg25 = 1#1), (k0_t12_loop arg25).OK := fun arg25 k0_hw7 k0_h4 => k0_hw7.1 k0_h4
theorem k0_off11_inb : ∀ (arg25 : BitVec 32) (k0_hw7 : k0_chk7 arg25) (k0_t12 : Fin (k0_t12_loop arg25).trips), ∀ (k0_h4 : k0_cond4 arg25 = 1#1), ∀ a, (k0_off11 arg25 k0_t12) a + S16.size a ≤ S512.size a := fun arg25 k0_hw7 k0_t12 k0_h4 => k0_hw7.2.1 k0_t12 k0_h4
theorem k0_t13_ok : ∀ (arg25 : BitVec 32) (k0_hw7 : k0_chk7 arg25), ∀ (k0_h4 : k0_cond4 arg25 = 1#1), (k0_t13_loop arg25).OK := fun arg25 k0_hw7 k0_h4 => k0_hw7.2.2.1 k0_h4
theorem k0_off12_inb : ∀ (arg25 : BitVec 32) (k0_hw7 : k0_chk7 arg25) (k0_t13 : Fin (k0_t13_loop arg25).trips), ∀ (k0_h4 : k0_cond4 arg25 = 1#1), ∀ a, (k0_off12 arg25 k0_t13) a + S16.size a ≤ S512.size a := fun arg25 k0_hw7 k0_t13 k0_h4 => k0_hw7.2.2.2 k0_t13 k0_h4

def k0_chk74 (arg25 : BitVec 32) (v223 : IVec S16 32) : Prop :=
  (∀ (k0_h4 : k0_cond4 arg25 = 1#1), ∀ a x, ((![v223] : Fin 1 → IVec S16 32) a x).toNat < S1024.size a) ∧
  (∀ (k0_h4 : k0_cond4 arg25 = 1#1), ∀ a x, ((![v223] : Fin 1 → IVec S16 32) a x).toNat < S1024.size a)
theorem k0_idx74_inb : ∀ (arg25 : BitVec 32) (v223 : IVec S16 32) (k0_hw74 : k0_chk74 arg25 v223), ∀ (k0_h4 : k0_cond4 arg25 = 1#1), ∀ a x, ((![v223] : Fin 1 → IVec S16 32) a x).toNat < S1024.size a := fun arg25 v223 k0_hw74 k0_h4 => k0_hw74.1 k0_h4
theorem k0_idx75_inb : ∀ (arg25 : BitVec 32) (v223 : IVec S16 32) (k0_hw74 : k0_chk74 arg25 v223), ∀ (k0_h4 : k0_cond4 arg25 = 1#1), ∀ a x, ((![v223] : Fin 1 → IVec S16 32) a x).toNat < S1024.size a := fun arg25 v223 k0_hw74 k0_h4 => k0_hw74.2 k0_h4

def k0_chk75 (arg25 : BitVec 32) (v227 : IVec S16 32) (v229 : IVec S16 32) : Prop :=
  (∀ (k0_h4 : k0_cond4 arg25 = 1#1), ∀ a x, ((![v227, v229] : Fin 2 → IVec S16 32) a x).toNat < S8x64.size a)
theorem k0_idx76_inb : ∀ (arg25 : BitVec 32) (v227 : IVec S16 32) (v229 : IVec S16 32) (k0_hw75 : k0_chk75 arg25 v227 v229), ∀ (k0_h4 : k0_cond4 arg25 = 1#1), ∀ a x, ((![v227, v229] : Fin 2 → IVec S16 32) a x).toNat < S8x64.size a := fun arg25 v227 v229 k0_hw75 k0_h4 => k0_hw75 k0_h4

def k0_chk76 (arg25 : BitVec 32) (v230 : IVec S16 32) (v236 : IVec S16 32) : Prop :=
  (∀ (k0_h4 : k0_cond4 arg25 = 1#1), ∀ a x, ((![v230, v236] : Fin 2 → IVec S16 32) a x).toNat < S32x512.size a)
theorem k0_idx77_inb : ∀ (arg25 : BitVec 32) (v230 : IVec S16 32) (v236 : IVec S16 32) (k0_hw76 : k0_chk76 arg25 v230 v236), ∀ (k0_h4 : k0_cond4 arg25 = 1#1), ∀ a x, ((![v230, v236] : Fin 2 → IVec S16 32) a x).toNat < S32x512.size a := fun arg25 v230 v236 k0_hw76 k0_h4 => k0_hw76 k0_h4

def k0_chk77 (arg25 : BitVec 32) (v223 : IVec S16 32) (v230 : IVec S16 32) : Prop :=
  (∀ (k0_h4 : k0_cond4 arg25 = 1#1), ∀ a x, ((![v223, v230] : Fin 2 → IVec S16 32) a x).toNat < S512x32.size a)
theorem k0_idx78_inb : ∀ (arg25 : BitVec 32) (v223 : IVec S16 32) (v230 : IVec S16 32) (k0_hw77 : k0_chk77 arg25 v223 v230), ∀ (k0_h4 : k0_cond4 arg25 = 1#1), ∀ a x, ((![v223, v230] : Fin 2 → IVec S16 32) a x).toNat < S512x32.size a := fun arg25 v223 v230 k0_hw77 k0_h4 => k0_hw77 k0_h4

def k0_chk78 (arg25 : BitVec 32) (v238 : IVec S16 32) (v244 : IVec S16 32) : Prop :=
  (∀ (k0_h4 : k0_cond4 arg25 = 1#1), ∀ a x, ((![v238, v244] : Fin 2 → IVec S16 32) a x).toNat < S32x512.size a)
theorem k0_idx79_inb : ∀ (arg25 : BitVec 32) (v238 : IVec S16 32) (v244 : IVec S16 32) (k0_hw78 : k0_chk78 arg25 v238 v244), ∀ (k0_h4 : k0_cond4 arg25 = 1#1), ∀ a x, ((![v238, v244] : Fin 2 → IVec S16 32) a x).toNat < S32x512.size a := fun arg25 v238 v244 k0_hw78 k0_h4 => k0_hw78 k0_h4

def k0_chk79 (arg25 : BitVec 32) (v223 : IVec S16 32) (v238 : IVec S16 32) : Prop :=
  (∀ (k0_h4 : k0_cond4 arg25 = 1#1), ∀ a x, ((![v223, v238] : Fin 2 → IVec S16 32) a x).toNat < S512x32.size a)
theorem k0_idx80_inb : ∀ (arg25 : BitVec 32) (v223 : IVec S16 32) (v238 : IVec S16 32) (k0_hw79 : k0_chk79 arg25 v223 v238), ∀ (k0_h4 : k0_cond4 arg25 = 1#1), ∀ a x, ((![v223, v238] : Fin 2 → IVec S16 32) a x).toNat < S512x32.size a := fun arg25 v223 v238 k0_hw79 k0_h4 => k0_hw79 k0_h4

def k0_chk80 (arg25 : BitVec 32) (v246 : IVec S16 32) (v252 : IVec S16 32) : Prop :=
  (∀ (k0_h4 : k0_cond4 arg25 = 1#1), ∀ a x, ((![v246, v252] : Fin 2 → IVec S16 32) a x).toNat < S32x512.size a)
theorem k0_idx81_inb : ∀ (arg25 : BitVec 32) (v246 : IVec S16 32) (v252 : IVec S16 32) (k0_hw80 : k0_chk80 arg25 v246 v252), ∀ (k0_h4 : k0_cond4 arg25 = 1#1), ∀ a x, ((![v246, v252] : Fin 2 → IVec S16 32) a x).toNat < S32x512.size a := fun arg25 v246 v252 k0_hw80 k0_h4 => k0_hw80 k0_h4

def k0_chk81 (arg25 : BitVec 32) (v223 : IVec S16 32) (v246 : IVec S16 32) : Prop :=
  (∀ (k0_h4 : k0_cond4 arg25 = 1#1), ∀ a x, ((![v223, v246] : Fin 2 → IVec S16 32) a x).toNat < S512x32.size a)
theorem k0_idx82_inb : ∀ (arg25 : BitVec 32) (v223 : IVec S16 32) (v246 : IVec S16 32) (k0_hw81 : k0_chk81 arg25 v223 v246), ∀ (k0_h4 : k0_cond4 arg25 = 1#1), ∀ a x, ((![v223, v246] : Fin 2 → IVec S16 32) a x).toNat < S512x32.size a := fun arg25 v223 v246 k0_hw81 k0_h4 => k0_hw81 k0_h4

def k0_chk82 (arg25 : BitVec 32) (v254 : IVec S16 32) (v260 : IVec S16 32) : Prop :=
  (∀ (k0_h4 : k0_cond4 arg25 = 1#1), ∀ a x, ((![v254, v260] : Fin 2 → IVec S16 32) a x).toNat < S32x512.size a)
theorem k0_idx83_inb : ∀ (arg25 : BitVec 32) (v254 : IVec S16 32) (v260 : IVec S16 32) (k0_hw82 : k0_chk82 arg25 v254 v260), ∀ (k0_h4 : k0_cond4 arg25 = 1#1), ∀ a x, ((![v254, v260] : Fin 2 → IVec S16 32) a x).toNat < S32x512.size a := fun arg25 v254 v260 k0_hw82 k0_h4 => k0_hw82 k0_h4

def k0_chk83 (arg25 : BitVec 32) (v223 : IVec S16 32) (v254 : IVec S16 32) : Prop :=
  (∀ (k0_h4 : k0_cond4 arg25 = 1#1), ∀ a x, ((![v223, v254] : Fin 2 → IVec S16 32) a x).toNat < S512x32.size a)
theorem k0_idx84_inb : ∀ (arg25 : BitVec 32) (v223 : IVec S16 32) (v254 : IVec S16 32) (k0_hw83 : k0_chk83 arg25 v223 v254), ∀ (k0_h4 : k0_cond4 arg25 = 1#1), ∀ a x, ((![v223, v254] : Fin 2 → IVec S16 32) a x).toNat < S512x32.size a := fun arg25 v223 v254 k0_hw83 k0_h4 => k0_hw83 k0_h4

def k0_chk84 (arg25 : BitVec 32) (v262 : IVec S16 32) (v268 : IVec S16 32) : Prop :=
  (∀ (k0_h4 : k0_cond4 arg25 = 1#1), ∀ a x, ((![v262, v268] : Fin 2 → IVec S16 32) a x).toNat < S32x512.size a)
theorem k0_idx85_inb : ∀ (arg25 : BitVec 32) (v262 : IVec S16 32) (v268 : IVec S16 32) (k0_hw84 : k0_chk84 arg25 v262 v268), ∀ (k0_h4 : k0_cond4 arg25 = 1#1), ∀ a x, ((![v262, v268] : Fin 2 → IVec S16 32) a x).toNat < S32x512.size a := fun arg25 v262 v268 k0_hw84 k0_h4 => k0_hw84 k0_h4

def k0_chk85 (arg25 : BitVec 32) (v223 : IVec S16 32) (v262 : IVec S16 32) : Prop :=
  (∀ (k0_h4 : k0_cond4 arg25 = 1#1), ∀ a x, ((![v223, v262] : Fin 2 → IVec S16 32) a x).toNat < S512x32.size a)
theorem k0_idx86_inb : ∀ (arg25 : BitVec 32) (v223 : IVec S16 32) (v262 : IVec S16 32) (k0_hw85 : k0_chk85 arg25 v223 v262), ∀ (k0_h4 : k0_cond4 arg25 = 1#1), ∀ a x, ((![v223, v262] : Fin 2 → IVec S16 32) a x).toNat < S512x32.size a := fun arg25 v223 v262 k0_hw85 k0_h4 => k0_hw85 k0_h4

def k0_chk86 (arg25 : BitVec 32) (v270 : IVec S16 32) (v276 : IVec S16 32) : Prop :=
  (∀ (k0_h4 : k0_cond4 arg25 = 1#1), ∀ a x, ((![v270, v276] : Fin 2 → IVec S16 32) a x).toNat < S32x512.size a)
theorem k0_idx87_inb : ∀ (arg25 : BitVec 32) (v270 : IVec S16 32) (v276 : IVec S16 32) (k0_hw86 : k0_chk86 arg25 v270 v276), ∀ (k0_h4 : k0_cond4 arg25 = 1#1), ∀ a x, ((![v270, v276] : Fin 2 → IVec S16 32) a x).toNat < S32x512.size a := fun arg25 v270 v276 k0_hw86 k0_h4 => k0_hw86 k0_h4

def k0_chk87 (arg25 : BitVec 32) (v223 : IVec S16 32) (v270 : IVec S16 32) : Prop :=
  (∀ (k0_h4 : k0_cond4 arg25 = 1#1), ∀ a x, ((![v223, v270] : Fin 2 → IVec S16 32) a x).toNat < S512x32.size a)
theorem k0_idx88_inb : ∀ (arg25 : BitVec 32) (v223 : IVec S16 32) (v270 : IVec S16 32) (k0_hw87 : k0_chk87 arg25 v223 v270), ∀ (k0_h4 : k0_cond4 arg25 = 1#1), ∀ a x, ((![v223, v270] : Fin 2 → IVec S16 32) a x).toNat < S512x32.size a := fun arg25 v223 v270 k0_hw87 k0_h4 => k0_hw87 k0_h4

def k0_chk88 (arg25 : BitVec 32) (v278 : IVec S16 32) (v284 : IVec S16 32) : Prop :=
  (∀ (k0_h4 : k0_cond4 arg25 = 1#1), ∀ a x, ((![v278, v284] : Fin 2 → IVec S16 32) a x).toNat < S32x512.size a)
theorem k0_idx89_inb : ∀ (arg25 : BitVec 32) (v278 : IVec S16 32) (v284 : IVec S16 32) (k0_hw88 : k0_chk88 arg25 v278 v284), ∀ (k0_h4 : k0_cond4 arg25 = 1#1), ∀ a x, ((![v278, v284] : Fin 2 → IVec S16 32) a x).toNat < S32x512.size a := fun arg25 v278 v284 k0_hw88 k0_h4 => k0_hw88 k0_h4

def k0_chk89 (arg25 : BitVec 32) (v223 : IVec S16 32) (v278 : IVec S16 32) : Prop :=
  (∀ (k0_h4 : k0_cond4 arg25 = 1#1), ∀ a x, ((![v223, v278] : Fin 2 → IVec S16 32) a x).toNat < S512x32.size a)
theorem k0_idx90_inb : ∀ (arg25 : BitVec 32) (v223 : IVec S16 32) (v278 : IVec S16 32) (k0_hw89 : k0_chk89 arg25 v223 v278), ∀ (k0_h4 : k0_cond4 arg25 = 1#1), ∀ a x, ((![v223, v278] : Fin 2 → IVec S16 32) a x).toNat < S512x32.size a := fun arg25 v223 v278 k0_hw89 k0_h4 => k0_hw89 k0_h4

def k0_chk90 (arg25 : BitVec 32) (v286 : IVec S16 32) (v292 : IVec S16 32) : Prop :=
  (∀ (k0_h4 : k0_cond4 arg25 = 1#1), ∀ a x, ((![v286, v292] : Fin 2 → IVec S16 32) a x).toNat < S32x512.size a)
theorem k0_idx91_inb : ∀ (arg25 : BitVec 32) (v286 : IVec S16 32) (v292 : IVec S16 32) (k0_hw90 : k0_chk90 arg25 v286 v292), ∀ (k0_h4 : k0_cond4 arg25 = 1#1), ∀ a x, ((![v286, v292] : Fin 2 → IVec S16 32) a x).toNat < S32x512.size a := fun arg25 v286 v292 k0_hw90 k0_h4 => k0_hw90 k0_h4

def k0_chk91 (arg25 : BitVec 32) (v223 : IVec S16 32) (v286 : IVec S16 32) : Prop :=
  (∀ (k0_h4 : k0_cond4 arg25 = 1#1), ∀ a x, ((![v223, v286] : Fin 2 → IVec S16 32) a x).toNat < S512x32.size a)
theorem k0_idx92_inb : ∀ (arg25 : BitVec 32) (v223 : IVec S16 32) (v286 : IVec S16 32) (k0_hw91 : k0_chk91 arg25 v223 v286), ∀ (k0_h4 : k0_cond4 arg25 = 1#1), ∀ a x, ((![v223, v286] : Fin 2 → IVec S16 32) a x).toNat < S512x32.size a := fun arg25 v223 v286 k0_hw91 k0_h4 => k0_hw91 k0_h4

def k0_chk92 (arg25 : BitVec 32) (v294 : IVec S16 32) (v300 : IVec S16 32) : Prop :=
  (∀ (k0_h4 : k0_cond4 arg25 = 1#1), ∀ a x, ((![v294, v300] : Fin 2 → IVec S16 32) a x).toNat < S32x512.size a)
theorem k0_idx93_inb : ∀ (arg25 : BitVec 32) (v294 : IVec S16 32) (v300 : IVec S16 32) (k0_hw92 : k0_chk92 arg25 v294 v300), ∀ (k0_h4 : k0_cond4 arg25 = 1#1), ∀ a x, ((![v294, v300] : Fin 2 → IVec S16 32) a x).toNat < S32x512.size a := fun arg25 v294 v300 k0_hw92 k0_h4 => k0_hw92 k0_h4

def k0_chk93 (arg25 : BitVec 32) (v223 : IVec S16 32) (v294 : IVec S16 32) : Prop :=
  (∀ (k0_h4 : k0_cond4 arg25 = 1#1), ∀ a x, ((![v223, v294] : Fin 2 → IVec S16 32) a x).toNat < S512x32.size a)
theorem k0_idx94_inb : ∀ (arg25 : BitVec 32) (v223 : IVec S16 32) (v294 : IVec S16 32) (k0_hw93 : k0_chk93 arg25 v223 v294), ∀ (k0_h4 : k0_cond4 arg25 = 1#1), ∀ a x, ((![v223, v294] : Fin 2 → IVec S16 32) a x).toNat < S512x32.size a := fun arg25 v223 v294 k0_hw93 k0_h4 => k0_hw93 k0_h4

def k0_chk94 (arg25 : BitVec 32) (v302 : IVec S16 32) (v308 : IVec S16 32) : Prop :=
  (∀ (k0_h4 : k0_cond4 arg25 = 1#1), ∀ a x, ((![v302, v308] : Fin 2 → IVec S16 32) a x).toNat < S32x512.size a)
theorem k0_idx95_inb : ∀ (arg25 : BitVec 32) (v302 : IVec S16 32) (v308 : IVec S16 32) (k0_hw94 : k0_chk94 arg25 v302 v308), ∀ (k0_h4 : k0_cond4 arg25 = 1#1), ∀ a x, ((![v302, v308] : Fin 2 → IVec S16 32) a x).toNat < S32x512.size a := fun arg25 v302 v308 k0_hw94 k0_h4 => k0_hw94 k0_h4

def k0_chk95 (arg25 : BitVec 32) (v223 : IVec S16 32) (v302 : IVec S16 32) : Prop :=
  (∀ (k0_h4 : k0_cond4 arg25 = 1#1), ∀ a x, ((![v223, v302] : Fin 2 → IVec S16 32) a x).toNat < S512x32.size a)
theorem k0_idx96_inb : ∀ (arg25 : BitVec 32) (v223 : IVec S16 32) (v302 : IVec S16 32) (k0_hw95 : k0_chk95 arg25 v223 v302), ∀ (k0_h4 : k0_cond4 arg25 = 1#1), ∀ a x, ((![v223, v302] : Fin 2 → IVec S16 32) a x).toNat < S512x32.size a := fun arg25 v223 v302 k0_hw95 k0_h4 => k0_hw95 k0_h4

def k0_chk96 (arg25 : BitVec 32) (v310 : IVec S16 32) (v316 : IVec S16 32) : Prop :=
  (∀ (k0_h4 : k0_cond4 arg25 = 1#1), ∀ a x, ((![v310, v316] : Fin 2 → IVec S16 32) a x).toNat < S32x512.size a)
theorem k0_idx97_inb : ∀ (arg25 : BitVec 32) (v310 : IVec S16 32) (v316 : IVec S16 32) (k0_hw96 : k0_chk96 arg25 v310 v316), ∀ (k0_h4 : k0_cond4 arg25 = 1#1), ∀ a x, ((![v310, v316] : Fin 2 → IVec S16 32) a x).toNat < S32x512.size a := fun arg25 v310 v316 k0_hw96 k0_h4 => k0_hw96 k0_h4

def k0_chk97 (arg25 : BitVec 32) (v223 : IVec S16 32) (v310 : IVec S16 32) : Prop :=
  (∀ (k0_h4 : k0_cond4 arg25 = 1#1), ∀ a x, ((![v223, v310] : Fin 2 → IVec S16 32) a x).toNat < S512x32.size a)
theorem k0_idx98_inb : ∀ (arg25 : BitVec 32) (v223 : IVec S16 32) (v310 : IVec S16 32) (k0_hw97 : k0_chk97 arg25 v223 v310), ∀ (k0_h4 : k0_cond4 arg25 = 1#1), ∀ a x, ((![v223, v310] : Fin 2 → IVec S16 32) a x).toNat < S512x32.size a := fun arg25 v223 v310 k0_hw97 k0_h4 => k0_hw97 k0_h4

def k0_chk98 (arg25 : BitVec 32) (v318 : IVec S16 32) (v324 : IVec S16 32) : Prop :=
  (∀ (k0_h4 : k0_cond4 arg25 = 1#1), ∀ a x, ((![v318, v324] : Fin 2 → IVec S16 32) a x).toNat < S32x512.size a)
theorem k0_idx99_inb : ∀ (arg25 : BitVec 32) (v318 : IVec S16 32) (v324 : IVec S16 32) (k0_hw98 : k0_chk98 arg25 v318 v324), ∀ (k0_h4 : k0_cond4 arg25 = 1#1), ∀ a x, ((![v318, v324] : Fin 2 → IVec S16 32) a x).toNat < S32x512.size a := fun arg25 v318 v324 k0_hw98 k0_h4 => k0_hw98 k0_h4

def k0_chk99 (arg25 : BitVec 32) (v223 : IVec S16 32) (v318 : IVec S16 32) : Prop :=
  (∀ (k0_h4 : k0_cond4 arg25 = 1#1), ∀ a x, ((![v223, v318] : Fin 2 → IVec S16 32) a x).toNat < S512x32.size a)
theorem k0_idx100_inb : ∀ (arg25 : BitVec 32) (v223 : IVec S16 32) (v318 : IVec S16 32) (k0_hw99 : k0_chk99 arg25 v223 v318), ∀ (k0_h4 : k0_cond4 arg25 = 1#1), ∀ a x, ((![v223, v318] : Fin 2 → IVec S16 32) a x).toNat < S512x32.size a := fun arg25 v223 v318 k0_hw99 k0_h4 => k0_hw99 k0_h4

def k0_chk100 (arg25 : BitVec 32) (v326 : IVec S16 32) (v332 : IVec S16 32) : Prop :=
  (∀ (k0_h4 : k0_cond4 arg25 = 1#1), ∀ a x, ((![v326, v332] : Fin 2 → IVec S16 32) a x).toNat < S32x512.size a)
theorem k0_idx101_inb : ∀ (arg25 : BitVec 32) (v326 : IVec S16 32) (v332 : IVec S16 32) (k0_hw100 : k0_chk100 arg25 v326 v332), ∀ (k0_h4 : k0_cond4 arg25 = 1#1), ∀ a x, ((![v326, v332] : Fin 2 → IVec S16 32) a x).toNat < S32x512.size a := fun arg25 v326 v332 k0_hw100 k0_h4 => k0_hw100 k0_h4

def k0_chk101 (arg25 : BitVec 32) (v223 : IVec S16 32) (v326 : IVec S16 32) : Prop :=
  (∀ (k0_h4 : k0_cond4 arg25 = 1#1), ∀ a x, ((![v223, v326] : Fin 2 → IVec S16 32) a x).toNat < S512x32.size a)
theorem k0_idx102_inb : ∀ (arg25 : BitVec 32) (v223 : IVec S16 32) (v326 : IVec S16 32) (k0_hw101 : k0_chk101 arg25 v223 v326), ∀ (k0_h4 : k0_cond4 arg25 = 1#1), ∀ a x, ((![v223, v326] : Fin 2 → IVec S16 32) a x).toNat < S512x32.size a := fun arg25 v223 v326 k0_hw101 k0_h4 => k0_hw101 k0_h4

def k0_chk102 (arg25 : BitVec 32) (v334 : IVec S16 32) (v340 : IVec S16 32) : Prop :=
  (∀ (k0_h4 : k0_cond4 arg25 = 1#1), ∀ a x, ((![v334, v340] : Fin 2 → IVec S16 32) a x).toNat < S32x512.size a)
theorem k0_idx103_inb : ∀ (arg25 : BitVec 32) (v334 : IVec S16 32) (v340 : IVec S16 32) (k0_hw102 : k0_chk102 arg25 v334 v340), ∀ (k0_h4 : k0_cond4 arg25 = 1#1), ∀ a x, ((![v334, v340] : Fin 2 → IVec S16 32) a x).toNat < S32x512.size a := fun arg25 v334 v340 k0_hw102 k0_h4 => k0_hw102 k0_h4

def k0_chk103 (arg25 : BitVec 32) (v223 : IVec S16 32) (v334 : IVec S16 32) : Prop :=
  (∀ (k0_h4 : k0_cond4 arg25 = 1#1), ∀ a x, ((![v223, v334] : Fin 2 → IVec S16 32) a x).toNat < S512x32.size a)
theorem k0_idx104_inb : ∀ (arg25 : BitVec 32) (v223 : IVec S16 32) (v334 : IVec S16 32) (k0_hw103 : k0_chk103 arg25 v223 v334), ∀ (k0_h4 : k0_cond4 arg25 = 1#1), ∀ a x, ((![v223, v334] : Fin 2 → IVec S16 32) a x).toNat < S512x32.size a := fun arg25 v223 v334 k0_hw103 k0_h4 => k0_hw103 k0_h4

def k0_chk104 (arg25 : BitVec 32) (v342 : IVec S16 32) (v348 : IVec S16 32) : Prop :=
  (∀ (k0_h4 : k0_cond4 arg25 = 1#1), ∀ a x, ((![v342, v348] : Fin 2 → IVec S16 32) a x).toNat < S32x512.size a)
theorem k0_idx105_inb : ∀ (arg25 : BitVec 32) (v342 : IVec S16 32) (v348 : IVec S16 32) (k0_hw104 : k0_chk104 arg25 v342 v348), ∀ (k0_h4 : k0_cond4 arg25 = 1#1), ∀ a x, ((![v342, v348] : Fin 2 → IVec S16 32) a x).toNat < S32x512.size a := fun arg25 v342 v348 k0_hw104 k0_h4 => k0_hw104 k0_h4

def k0_chk105 (arg25 : BitVec 32) (v223 : IVec S16 32) (v342 : IVec S16 32) : Prop :=
  (∀ (k0_h4 : k0_cond4 arg25 = 1#1), ∀ a x, ((![v223, v342] : Fin 2 → IVec S16 32) a x).toNat < S512x32.size a)
theorem k0_idx106_inb : ∀ (arg25 : BitVec 32) (v223 : IVec S16 32) (v342 : IVec S16 32) (k0_hw105 : k0_chk105 arg25 v223 v342), ∀ (k0_h4 : k0_cond4 arg25 = 1#1), ∀ a x, ((![v223, v342] : Fin 2 → IVec S16 32) a x).toNat < S512x32.size a := fun arg25 v223 v342 k0_hw105 k0_h4 => k0_hw105 k0_h4

def k0_chk106 (arg25 : BitVec 32) (v350 : IVec S16 32) (v356 : IVec S16 32) : Prop :=
  (∀ (k0_h4 : k0_cond4 arg25 = 1#1), ∀ a x, ((![v350, v356] : Fin 2 → IVec S16 32) a x).toNat < S32x512.size a)
theorem k0_idx107_inb : ∀ (arg25 : BitVec 32) (v350 : IVec S16 32) (v356 : IVec S16 32) (k0_hw106 : k0_chk106 arg25 v350 v356), ∀ (k0_h4 : k0_cond4 arg25 = 1#1), ∀ a x, ((![v350, v356] : Fin 2 → IVec S16 32) a x).toNat < S32x512.size a := fun arg25 v350 v356 k0_hw106 k0_h4 => k0_hw106 k0_h4

def k0_chk107 (arg25 : BitVec 32) (v223 : IVec S16 32) (v350 : IVec S16 32) : Prop :=
  (∀ (k0_h4 : k0_cond4 arg25 = 1#1), ∀ a x, ((![v223, v350] : Fin 2 → IVec S16 32) a x).toNat < S512x32.size a)
theorem k0_idx108_inb : ∀ (arg25 : BitVec 32) (v223 : IVec S16 32) (v350 : IVec S16 32) (k0_hw107 : k0_chk107 arg25 v223 v350), ∀ (k0_h4 : k0_cond4 arg25 = 1#1), ∀ a x, ((![v223, v350] : Fin 2 → IVec S16 32) a x).toNat < S512x32.size a := fun arg25 v223 v350 k0_hw107 k0_h4 => k0_hw107 k0_h4

def k0_chk108 (arg25 : BitVec 32) (v358 : IVec S16 32) (v364 : IVec S16 32) : Prop :=
  (∀ (k0_h4 : k0_cond4 arg25 = 1#1), ∀ a x, ((![v358, v364] : Fin 2 → IVec S16 32) a x).toNat < S32x512.size a)
theorem k0_idx109_inb : ∀ (arg25 : BitVec 32) (v358 : IVec S16 32) (v364 : IVec S16 32) (k0_hw108 : k0_chk108 arg25 v358 v364), ∀ (k0_h4 : k0_cond4 arg25 = 1#1), ∀ a x, ((![v358, v364] : Fin 2 → IVec S16 32) a x).toNat < S32x512.size a := fun arg25 v358 v364 k0_hw108 k0_h4 => k0_hw108 k0_h4

def k0_chk109 (arg25 : BitVec 32) (v223 : IVec S16 32) (v358 : IVec S16 32) : Prop :=
  (∀ (k0_h4 : k0_cond4 arg25 = 1#1), ∀ a x, ((![v223, v358] : Fin 2 → IVec S16 32) a x).toNat < S512x32.size a)
theorem k0_idx110_inb : ∀ (arg25 : BitVec 32) (v223 : IVec S16 32) (v358 : IVec S16 32) (k0_hw109 : k0_chk109 arg25 v223 v358), ∀ (k0_h4 : k0_cond4 arg25 = 1#1), ∀ a x, ((![v223, v358] : Fin 2 → IVec S16 32) a x).toNat < S512x32.size a := fun arg25 v223 v358 k0_hw109 k0_h4 => k0_hw109 k0_h4

def k0_chk110 (arg25 : BitVec 32) (v366 : IVec S16 32) (v372 : IVec S16 32) : Prop :=
  (∀ (k0_h4 : k0_cond4 arg25 = 1#1), ∀ a x, ((![v366, v372] : Fin 2 → IVec S16 32) a x).toNat < S32x512.size a)
theorem k0_idx111_inb : ∀ (arg25 : BitVec 32) (v366 : IVec S16 32) (v372 : IVec S16 32) (k0_hw110 : k0_chk110 arg25 v366 v372), ∀ (k0_h4 : k0_cond4 arg25 = 1#1), ∀ a x, ((![v366, v372] : Fin 2 → IVec S16 32) a x).toNat < S32x512.size a := fun arg25 v366 v372 k0_hw110 k0_h4 => k0_hw110 k0_h4

def k0_chk111 (arg25 : BitVec 32) (v223 : IVec S16 32) (v366 : IVec S16 32) : Prop :=
  (∀ (k0_h4 : k0_cond4 arg25 = 1#1), ∀ a x, ((![v223, v366] : Fin 2 → IVec S16 32) a x).toNat < S512x32.size a)
theorem k0_idx112_inb : ∀ (arg25 : BitVec 32) (v223 : IVec S16 32) (v366 : IVec S16 32) (k0_hw111 : k0_chk111 arg25 v223 v366), ∀ (k0_h4 : k0_cond4 arg25 = 1#1), ∀ a x, ((![v223, v366] : Fin 2 → IVec S16 32) a x).toNat < S512x32.size a := fun arg25 v223 v366 k0_hw111 k0_h4 => k0_hw111 k0_h4

def k0_chk112 (arg25 : BitVec 32) (v374 : IVec S16 32) (v380 : IVec S16 32) : Prop :=
  (∀ (k0_h4 : k0_cond4 arg25 = 1#1), ∀ a x, ((![v374, v380] : Fin 2 → IVec S16 32) a x).toNat < S32x512.size a)
theorem k0_idx113_inb : ∀ (arg25 : BitVec 32) (v374 : IVec S16 32) (v380 : IVec S16 32) (k0_hw112 : k0_chk112 arg25 v374 v380), ∀ (k0_h4 : k0_cond4 arg25 = 1#1), ∀ a x, ((![v374, v380] : Fin 2 → IVec S16 32) a x).toNat < S32x512.size a := fun arg25 v374 v380 k0_hw112 k0_h4 => k0_hw112 k0_h4

def k0_chk113 (arg25 : BitVec 32) (v223 : IVec S16 32) (v374 : IVec S16 32) : Prop :=
  (∀ (k0_h4 : k0_cond4 arg25 = 1#1), ∀ a x, ((![v223, v374] : Fin 2 → IVec S16 32) a x).toNat < S512x32.size a)
theorem k0_idx114_inb : ∀ (arg25 : BitVec 32) (v223 : IVec S16 32) (v374 : IVec S16 32) (k0_hw113 : k0_chk113 arg25 v223 v374), ∀ (k0_h4 : k0_cond4 arg25 = 1#1), ∀ a x, ((![v223, v374] : Fin 2 → IVec S16 32) a x).toNat < S512x32.size a := fun arg25 v223 v374 k0_hw113 k0_h4 => k0_hw113 k0_h4

def k0_chk114 (arg25 : BitVec 32) (v382 : IVec S16 32) (v388 : IVec S16 32) : Prop :=
  (∀ (k0_h4 : k0_cond4 arg25 = 1#1), ∀ a x, ((![v382, v388] : Fin 2 → IVec S16 32) a x).toNat < S32x512.size a)
theorem k0_idx115_inb : ∀ (arg25 : BitVec 32) (v382 : IVec S16 32) (v388 : IVec S16 32) (k0_hw114 : k0_chk114 arg25 v382 v388), ∀ (k0_h4 : k0_cond4 arg25 = 1#1), ∀ a x, ((![v382, v388] : Fin 2 → IVec S16 32) a x).toNat < S32x512.size a := fun arg25 v382 v388 k0_hw114 k0_h4 => k0_hw114 k0_h4

def k0_chk115 (arg25 : BitVec 32) (v223 : IVec S16 32) (v382 : IVec S16 32) : Prop :=
  (∀ (k0_h4 : k0_cond4 arg25 = 1#1), ∀ a x, ((![v223, v382] : Fin 2 → IVec S16 32) a x).toNat < S512x32.size a)
theorem k0_idx116_inb : ∀ (arg25 : BitVec 32) (v223 : IVec S16 32) (v382 : IVec S16 32) (k0_hw115 : k0_chk115 arg25 v223 v382), ∀ (k0_h4 : k0_cond4 arg25 = 1#1), ∀ a x, ((![v223, v382] : Fin 2 → IVec S16 32) a x).toNat < S512x32.size a := fun arg25 v223 v382 k0_hw115 k0_h4 => k0_hw115 k0_h4

def k0_chk116 (arg25 : BitVec 32) (v390 : IVec S16 32) (v396 : IVec S16 32) : Prop :=
  (∀ (k0_h4 : k0_cond4 arg25 = 1#1), ∀ a x, ((![v390, v396] : Fin 2 → IVec S16 32) a x).toNat < S32x512.size a)
theorem k0_idx117_inb : ∀ (arg25 : BitVec 32) (v390 : IVec S16 32) (v396 : IVec S16 32) (k0_hw116 : k0_chk116 arg25 v390 v396), ∀ (k0_h4 : k0_cond4 arg25 = 1#1), ∀ a x, ((![v390, v396] : Fin 2 → IVec S16 32) a x).toNat < S32x512.size a := fun arg25 v390 v396 k0_hw116 k0_h4 => k0_hw116 k0_h4

def k0_chk117 (arg25 : BitVec 32) (v223 : IVec S16 32) (v390 : IVec S16 32) : Prop :=
  (∀ (k0_h4 : k0_cond4 arg25 = 1#1), ∀ a x, ((![v223, v390] : Fin 2 → IVec S16 32) a x).toNat < S512x32.size a)
theorem k0_idx118_inb : ∀ (arg25 : BitVec 32) (v223 : IVec S16 32) (v390 : IVec S16 32) (k0_hw117 : k0_chk117 arg25 v223 v390), ∀ (k0_h4 : k0_cond4 arg25 = 1#1), ∀ a x, ((![v223, v390] : Fin 2 → IVec S16 32) a x).toNat < S512x32.size a := fun arg25 v223 v390 k0_hw117 k0_h4 => k0_hw117 k0_h4

def k0_chk118 (arg25 : BitVec 32) (v398 : IVec S16 32) (v404 : IVec S16 32) : Prop :=
  (∀ (k0_h4 : k0_cond4 arg25 = 1#1), ∀ a x, ((![v398, v404] : Fin 2 → IVec S16 32) a x).toNat < S32x512.size a)
theorem k0_idx119_inb : ∀ (arg25 : BitVec 32) (v398 : IVec S16 32) (v404 : IVec S16 32) (k0_hw118 : k0_chk118 arg25 v398 v404), ∀ (k0_h4 : k0_cond4 arg25 = 1#1), ∀ a x, ((![v398, v404] : Fin 2 → IVec S16 32) a x).toNat < S32x512.size a := fun arg25 v398 v404 k0_hw118 k0_h4 => k0_hw118 k0_h4

def k0_chk119 (arg25 : BitVec 32) (v223 : IVec S16 32) (v398 : IVec S16 32) : Prop :=
  (∀ (k0_h4 : k0_cond4 arg25 = 1#1), ∀ a x, ((![v223, v398] : Fin 2 → IVec S16 32) a x).toNat < S512x32.size a)
theorem k0_idx120_inb : ∀ (arg25 : BitVec 32) (v223 : IVec S16 32) (v398 : IVec S16 32) (k0_hw119 : k0_chk119 arg25 v223 v398), ∀ (k0_h4 : k0_cond4 arg25 = 1#1), ∀ a x, ((![v223, v398] : Fin 2 → IVec S16 32) a x).toNat < S512x32.size a := fun arg25 v223 v398 k0_hw119 k0_h4 => k0_hw119 k0_h4

def k0_chk120 (arg25 : BitVec 32) (v406 : IVec S16 32) (v412 : IVec S16 32) : Prop :=
  (∀ (k0_h4 : k0_cond4 arg25 = 1#1), ∀ a x, ((![v406, v412] : Fin 2 → IVec S16 32) a x).toNat < S32x512.size a)
theorem k0_idx121_inb : ∀ (arg25 : BitVec 32) (v406 : IVec S16 32) (v412 : IVec S16 32) (k0_hw120 : k0_chk120 arg25 v406 v412), ∀ (k0_h4 : k0_cond4 arg25 = 1#1), ∀ a x, ((![v406, v412] : Fin 2 → IVec S16 32) a x).toNat < S32x512.size a := fun arg25 v406 v412 k0_hw120 k0_h4 => k0_hw120 k0_h4

def k0_chk121 (arg25 : BitVec 32) (v223 : IVec S16 32) (v406 : IVec S16 32) : Prop :=
  (∀ (k0_h4 : k0_cond4 arg25 = 1#1), ∀ a x, ((![v223, v406] : Fin 2 → IVec S16 32) a x).toNat < S512x32.size a)
theorem k0_idx122_inb : ∀ (arg25 : BitVec 32) (v223 : IVec S16 32) (v406 : IVec S16 32) (k0_hw121 : k0_chk121 arg25 v223 v406), ∀ (k0_h4 : k0_cond4 arg25 = 1#1), ∀ a x, ((![v223, v406] : Fin 2 → IVec S16 32) a x).toNat < S512x32.size a := fun arg25 v223 v406 k0_hw121 k0_h4 => k0_hw121 k0_h4

def k0_chk122 (arg25 : BitVec 32) (v414 : IVec S16 32) (v420 : IVec S16 32) : Prop :=
  (∀ (k0_h4 : k0_cond4 arg25 = 1#1), ∀ a x, ((![v414, v420] : Fin 2 → IVec S16 32) a x).toNat < S32x512.size a)
theorem k0_idx123_inb : ∀ (arg25 : BitVec 32) (v414 : IVec S16 32) (v420 : IVec S16 32) (k0_hw122 : k0_chk122 arg25 v414 v420), ∀ (k0_h4 : k0_cond4 arg25 = 1#1), ∀ a x, ((![v414, v420] : Fin 2 → IVec S16 32) a x).toNat < S32x512.size a := fun arg25 v414 v420 k0_hw122 k0_h4 => k0_hw122 k0_h4

def k0_chk123 (arg25 : BitVec 32) (v223 : IVec S16 32) (v414 : IVec S16 32) : Prop :=
  (∀ (k0_h4 : k0_cond4 arg25 = 1#1), ∀ a x, ((![v223, v414] : Fin 2 → IVec S16 32) a x).toNat < S512x32.size a)
theorem k0_idx124_inb : ∀ (arg25 : BitVec 32) (v223 : IVec S16 32) (v414 : IVec S16 32) (k0_hw123 : k0_chk123 arg25 v223 v414), ∀ (k0_h4 : k0_cond4 arg25 = 1#1), ∀ a x, ((![v223, v414] : Fin 2 → IVec S16 32) a x).toNat < S512x32.size a := fun arg25 v223 v414 k0_hw123 k0_h4 => k0_hw123 k0_h4

def k0_chk124 (arg25 : BitVec 32) (v422 : IVec S16 32) (v428 : IVec S16 32) : Prop :=
  (∀ (k0_h4 : k0_cond4 arg25 = 1#1), ∀ a x, ((![v422, v428] : Fin 2 → IVec S16 32) a x).toNat < S32x512.size a)
theorem k0_idx125_inb : ∀ (arg25 : BitVec 32) (v422 : IVec S16 32) (v428 : IVec S16 32) (k0_hw124 : k0_chk124 arg25 v422 v428), ∀ (k0_h4 : k0_cond4 arg25 = 1#1), ∀ a x, ((![v422, v428] : Fin 2 → IVec S16 32) a x).toNat < S32x512.size a := fun arg25 v422 v428 k0_hw124 k0_h4 => k0_hw124 k0_h4

def k0_chk125 (arg25 : BitVec 32) (v223 : IVec S16 32) (v422 : IVec S16 32) : Prop :=
  (∀ (k0_h4 : k0_cond4 arg25 = 1#1), ∀ a x, ((![v223, v422] : Fin 2 → IVec S16 32) a x).toNat < S512x32.size a)
theorem k0_idx126_inb : ∀ (arg25 : BitVec 32) (v223 : IVec S16 32) (v422 : IVec S16 32) (k0_hw125 : k0_chk125 arg25 v223 v422), ∀ (k0_h4 : k0_cond4 arg25 = 1#1), ∀ a x, ((![v223, v422] : Fin 2 → IVec S16 32) a x).toNat < S512x32.size a := fun arg25 v223 v422 k0_hw125 k0_h4 => k0_hw125 k0_h4

def k0_chk126 (arg25 : BitVec 32) (v430 : IVec S16 32) (v436 : IVec S16 32) : Prop :=
  (∀ (k0_h4 : k0_cond4 arg25 = 1#1), ∀ a x, ((![v430, v436] : Fin 2 → IVec S16 32) a x).toNat < S32x512.size a)
theorem k0_idx127_inb : ∀ (arg25 : BitVec 32) (v430 : IVec S16 32) (v436 : IVec S16 32) (k0_hw126 : k0_chk126 arg25 v430 v436), ∀ (k0_h4 : k0_cond4 arg25 = 1#1), ∀ a x, ((![v430, v436] : Fin 2 → IVec S16 32) a x).toNat < S32x512.size a := fun arg25 v430 v436 k0_hw126 k0_h4 => k0_hw126 k0_h4

def k0_chk127 (arg25 : BitVec 32) (v223 : IVec S16 32) (v430 : IVec S16 32) : Prop :=
  (∀ (k0_h4 : k0_cond4 arg25 = 1#1), ∀ a x, ((![v223, v430] : Fin 2 → IVec S16 32) a x).toNat < S512x32.size a)
theorem k0_idx128_inb : ∀ (arg25 : BitVec 32) (v223 : IVec S16 32) (v430 : IVec S16 32) (k0_hw127 : k0_chk127 arg25 v223 v430), ∀ (k0_h4 : k0_cond4 arg25 = 1#1), ∀ a x, ((![v223, v430] : Fin 2 → IVec S16 32) a x).toNat < S512x32.size a := fun arg25 v223 v430 k0_hw127 k0_h4 => k0_hw127 k0_h4

def k0_chk128 (arg25 : BitVec 32) (v438 : IVec S16 32) (v444 : IVec S16 32) : Prop :=
  (∀ (k0_h4 : k0_cond4 arg25 = 1#1), ∀ a x, ((![v438, v444] : Fin 2 → IVec S16 32) a x).toNat < S32x512.size a)
theorem k0_idx129_inb : ∀ (arg25 : BitVec 32) (v438 : IVec S16 32) (v444 : IVec S16 32) (k0_hw128 : k0_chk128 arg25 v438 v444), ∀ (k0_h4 : k0_cond4 arg25 = 1#1), ∀ a x, ((![v438, v444] : Fin 2 → IVec S16 32) a x).toNat < S32x512.size a := fun arg25 v438 v444 k0_hw128 k0_h4 => k0_hw128 k0_h4

def k0_chk129 (arg25 : BitVec 32) (v223 : IVec S16 32) (v438 : IVec S16 32) : Prop :=
  (∀ (k0_h4 : k0_cond4 arg25 = 1#1), ∀ a x, ((![v223, v438] : Fin 2 → IVec S16 32) a x).toNat < S512x32.size a)
theorem k0_idx130_inb : ∀ (arg25 : BitVec 32) (v223 : IVec S16 32) (v438 : IVec S16 32) (k0_hw129 : k0_chk129 arg25 v223 v438), ∀ (k0_h4 : k0_cond4 arg25 = 1#1), ∀ a x, ((![v223, v438] : Fin 2 → IVec S16 32) a x).toNat < S512x32.size a := fun arg25 v223 v438 k0_hw129 k0_h4 => k0_hw129 k0_h4

def k0_chk130 (arg25 : BitVec 32) (v446 : IVec S16 32) (v452 : IVec S16 32) : Prop :=
  (∀ (k0_h4 : k0_cond4 arg25 = 1#1), ∀ a x, ((![v446, v452] : Fin 2 → IVec S16 32) a x).toNat < S32x512.size a)
theorem k0_idx131_inb : ∀ (arg25 : BitVec 32) (v446 : IVec S16 32) (v452 : IVec S16 32) (k0_hw130 : k0_chk130 arg25 v446 v452), ∀ (k0_h4 : k0_cond4 arg25 = 1#1), ∀ a x, ((![v446, v452] : Fin 2 → IVec S16 32) a x).toNat < S32x512.size a := fun arg25 v446 v452 k0_hw130 k0_h4 => k0_hw130 k0_h4

def k0_chk131 (arg25 : BitVec 32) (v223 : IVec S16 32) (v446 : IVec S16 32) : Prop :=
  (∀ (k0_h4 : k0_cond4 arg25 = 1#1), ∀ a x, ((![v223, v446] : Fin 2 → IVec S16 32) a x).toNat < S512x32.size a)
theorem k0_idx132_inb : ∀ (arg25 : BitVec 32) (v223 : IVec S16 32) (v446 : IVec S16 32) (k0_hw131 : k0_chk131 arg25 v223 v446), ∀ (k0_h4 : k0_cond4 arg25 = 1#1), ∀ a x, ((![v223, v446] : Fin 2 → IVec S16 32) a x).toNat < S512x32.size a := fun arg25 v223 v446 k0_hw131 k0_h4 => k0_hw131 k0_h4

def k0_chk132 (arg25 : BitVec 32) (v454 : IVec S16 32) (v460 : IVec S16 32) : Prop :=
  (∀ (k0_h4 : k0_cond4 arg25 = 1#1), ∀ a x, ((![v454, v460] : Fin 2 → IVec S16 32) a x).toNat < S32x512.size a)
theorem k0_idx133_inb : ∀ (arg25 : BitVec 32) (v454 : IVec S16 32) (v460 : IVec S16 32) (k0_hw132 : k0_chk132 arg25 v454 v460), ∀ (k0_h4 : k0_cond4 arg25 = 1#1), ∀ a x, ((![v454, v460] : Fin 2 → IVec S16 32) a x).toNat < S32x512.size a := fun arg25 v454 v460 k0_hw132 k0_h4 => k0_hw132 k0_h4

def k0_chk133 (arg25 : BitVec 32) (v223 : IVec S16 32) (v454 : IVec S16 32) : Prop :=
  (∀ (k0_h4 : k0_cond4 arg25 = 1#1), ∀ a x, ((![v223, v454] : Fin 2 → IVec S16 32) a x).toNat < S512x32.size a)
theorem k0_idx134_inb : ∀ (arg25 : BitVec 32) (v223 : IVec S16 32) (v454 : IVec S16 32) (k0_hw133 : k0_chk133 arg25 v223 v454), ∀ (k0_h4 : k0_cond4 arg25 = 1#1), ∀ a x, ((![v223, v454] : Fin 2 → IVec S16 32) a x).toNat < S512x32.size a := fun arg25 v223 v454 k0_hw133 k0_h4 => k0_hw133 k0_h4

def k0_chk134 (arg25 : BitVec 32) (v462 : IVec S16 32) (v468 : IVec S16 32) : Prop :=
  (∀ (k0_h4 : k0_cond4 arg25 = 1#1), ∀ a x, ((![v462, v468] : Fin 2 → IVec S16 32) a x).toNat < S32x512.size a)
theorem k0_idx135_inb : ∀ (arg25 : BitVec 32) (v462 : IVec S16 32) (v468 : IVec S16 32) (k0_hw134 : k0_chk134 arg25 v462 v468), ∀ (k0_h4 : k0_cond4 arg25 = 1#1), ∀ a x, ((![v462, v468] : Fin 2 → IVec S16 32) a x).toNat < S32x512.size a := fun arg25 v462 v468 k0_hw134 k0_h4 => k0_hw134 k0_h4

def k0_chk135 (arg25 : BitVec 32) (v223 : IVec S16 32) (v462 : IVec S16 32) : Prop :=
  (∀ (k0_h4 : k0_cond4 arg25 = 1#1), ∀ a x, ((![v223, v462] : Fin 2 → IVec S16 32) a x).toNat < S512x32.size a)
theorem k0_idx136_inb : ∀ (arg25 : BitVec 32) (v223 : IVec S16 32) (v462 : IVec S16 32) (k0_hw135 : k0_chk135 arg25 v223 v462), ∀ (k0_h4 : k0_cond4 arg25 = 1#1), ∀ a x, ((![v223, v462] : Fin 2 → IVec S16 32) a x).toNat < S512x32.size a := fun arg25 v223 v462 k0_hw135 k0_h4 => k0_hw135 k0_h4

def k0_chk136 (arg25 : BitVec 32) (v470 : IVec S16 32) (v476 : IVec S16 32) : Prop :=
  (∀ (k0_h4 : k0_cond4 arg25 = 1#1), ∀ a x, ((![v470, v476] : Fin 2 → IVec S16 32) a x).toNat < S32x512.size a)
theorem k0_idx137_inb : ∀ (arg25 : BitVec 32) (v470 : IVec S16 32) (v476 : IVec S16 32) (k0_hw136 : k0_chk136 arg25 v470 v476), ∀ (k0_h4 : k0_cond4 arg25 = 1#1), ∀ a x, ((![v470, v476] : Fin 2 → IVec S16 32) a x).toNat < S32x512.size a := fun arg25 v470 v476 k0_hw136 k0_h4 => k0_hw136 k0_h4

def k0_chk137 (arg25 : BitVec 32) (v223 : IVec S16 32) (v470 : IVec S16 32) : Prop :=
  (∀ (k0_h4 : k0_cond4 arg25 = 1#1), ∀ a x, ((![v223, v470] : Fin 2 → IVec S16 32) a x).toNat < S512x32.size a)
theorem k0_idx138_inb : ∀ (arg25 : BitVec 32) (v223 : IVec S16 32) (v470 : IVec S16 32) (k0_hw137 : k0_chk137 arg25 v223 v470), ∀ (k0_h4 : k0_cond4 arg25 = 1#1), ∀ a x, ((![v223, v470] : Fin 2 → IVec S16 32) a x).toNat < S512x32.size a := fun arg25 v223 v470 k0_hw137 k0_h4 => k0_hw137 k0_h4

def k0_chk138 (arg25 : BitVec 32) (v478 : IVec S16 32) (v484 : IVec S16 32) : Prop :=
  (∀ (k0_h4 : k0_cond4 arg25 = 1#1), ∀ a x, ((![v478, v484] : Fin 2 → IVec S16 32) a x).toNat < S32x512.size a)
theorem k0_idx139_inb : ∀ (arg25 : BitVec 32) (v478 : IVec S16 32) (v484 : IVec S16 32) (k0_hw138 : k0_chk138 arg25 v478 v484), ∀ (k0_h4 : k0_cond4 arg25 = 1#1), ∀ a x, ((![v478, v484] : Fin 2 → IVec S16 32) a x).toNat < S32x512.size a := fun arg25 v478 v484 k0_hw138 k0_h4 => k0_hw138 k0_h4

def k0_chk139 (arg25 : BitVec 32) (v223 : IVec S16 32) (v478 : IVec S16 32) : Prop :=
  (∀ (k0_h4 : k0_cond4 arg25 = 1#1), ∀ a x, ((![v223, v478] : Fin 2 → IVec S16 32) a x).toNat < S512x32.size a)
theorem k0_idx140_inb : ∀ (arg25 : BitVec 32) (v223 : IVec S16 32) (v478 : IVec S16 32) (k0_hw139 : k0_chk139 arg25 v223 v478), ∀ (k0_h4 : k0_cond4 arg25 = 1#1), ∀ a x, ((![v223, v478] : Fin 2 → IVec S16 32) a x).toNat < S512x32.size a := fun arg25 v223 v478 k0_hw139 k0_h4 => k0_hw139 k0_h4
def k0_mult7 (i : grid0.Coords) (k0_t10 : Fin k0_t10_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_183 : BitVec 32 := 4#32
  let c2_i32_166 : BitVec 32 := 2#32
  let c0_i32_53 : BitVec 32 := 0#32
  let c1_i32_55 : BitVec 32 := 1#32
  let arg24 : BitVec 32 := Scf.iv c0_i32_53 c1_i32_55 k0_t10
  let v140 : BitVec 32 := Scalar.muli c2_i32_166 arg24
  let c2_i32_182 : BitVec 32 := 2#32
  let v158 : BitVec 32 := Scalar.addi v140 c2_i32_182
  let c61_i32 : BitVec 32 := 61#32
  let v159 : BitVec 32 := Scalar.minsi v158 c61_i32
  let v160 : BitVec 32 := Scalar.muli c4_i32_183 v159
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_184 : BitVec 32 := 4#32
  let v161 : BitVec 32 := Scalar.subi v6 c4_i32_184
  let v162 : BitVec 32 := Scalar.minsi v160 v161
  let v163 : BitVec 32 := Scalar.addi v4 v162
  let c128_i32_185 : BitVec 32 := 128#32
  let v164 : BitVec 32 := Scalar.muli v163 c128_i32_185
  v164
@[reducible] def k0_t14_loop : Scf.Loop 32 :=
  let c0_i32_188 : BitVec 32 := 0#32
  let c32_i32_189 : BitVec 32 := 32#32
  let v167 : BitVec 32 := Scalar.addi c0_i32_188 c32_i32_189
  let c1_i32_190 : BitVec 32 := 1#32
  ⟨c0_i32_188, v167, c1_i32_190⟩
def k0_off13 (k0_t14 : Fin k0_t14_loop.trips) : Fin 1 → Nat :=
  let c0_i32_188 : BitVec 32 := 0#32
  let c1_i32_190 : BitVec 32 := 1#32
  let arg26 : BitVec 32 := Scf.iv c0_i32_188 c1_i32_190 k0_t14
  let c16_i32 : BitVec 32 := 16#32
  let v177 : BitVec 32 := Scalar.muli arg26 c16_i32
  let v178 : Index := Scalar.indexCast v177
  ![v178.toNat]

def k0_chk140 (v190 : IVec S16 32) : Prop :=
  (∀ a x, ((![v190] : Fin 1 → IVec S16 32) a x).toNat < S512.size a)
theorem k0_idx141_inb : ∀ (v190 : IVec S16 32) (k0_hw140 : k0_chk140 v190), ∀ a x, ((![v190] : Fin 1 → IVec S16 32) a x).toNat < S512.size a := fun v190 k0_hw140 => k0_hw140
def k0_mult8 (i : grid0.Coords) (k0_t10 : Fin k0_t10_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_197 : BitVec 32 := 4#32
  let c2_i32_166 : BitVec 32 := 2#32
  let c0_i32_53 : BitVec 32 := 0#32
  let c1_i32_55 : BitVec 32 := 1#32
  let arg24 : BitVec 32 := Scf.iv c0_i32_53 c1_i32_55 k0_t10
  let v140 : BitVec 32 := Scalar.muli c2_i32_166 arg24
  let c2_i32_182 : BitVec 32 := 2#32
  let v158 : BitVec 32 := Scalar.addi v140 c2_i32_182
  let v177 : BitVec 32 := Scalar.muli c4_i32_197 v158
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_198 : BitVec 32 := 4#32
  let v178 : BitVec 32 := Scalar.subi v6 c4_i32_198
  let v179 : BitVec 32 := Scalar.minsi v177 v178
  let v180 : BitVec 32 := Scalar.addi v4 v179
  let c128_i32_199 : BitVec 32 := 128#32
  let v181 : BitVec 32 := Scalar.muli v180 c128_i32_199
  v181
def k0_off14 (i : grid0.Coords) (k0_t10 : Fin k0_t10_loop.trips) : Fin 2 → Nat :=
  let c0_i32_200 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_197 : BitVec 32 := 4#32
  let c2_i32_166 : BitVec 32 := 2#32
  let c0_i32_53 : BitVec 32 := 0#32
  let c1_i32_55 : BitVec 32 := 1#32
  let arg24 : BitVec 32 := Scf.iv c0_i32_53 c1_i32_55 k0_t10
  let v140 : BitVec 32 := Scalar.muli c2_i32_166 arg24
  let c2_i32_182 : BitVec 32 := 2#32
  let v158 : BitVec 32 := Scalar.addi v140 c2_i32_182
  let v177 : BitVec 32 := Scalar.muli c4_i32_197 v158
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_198 : BitVec 32 := 4#32
  let v178 : BitVec 32 := Scalar.subi v6 c4_i32_198
  let v179 : BitVec 32 := Scalar.minsi v177 v178
  let v180 : BitVec 32 := Scalar.addi v4 v179
  let c128_i32_199 : BitVec 32 := 128#32
  let v181 : BitVec 32 := Scalar.muli v180 c128_i32_199
  let v182 : BitVec 32 := v181
  ![0, v182.toNat]
def k0_mult9 (i : grid0.Coords) (k0_t10 : Fin k0_t10_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_197 : BitVec 32 := 4#32
  let c2_i32_167 : BitVec 32 := 2#32
  let c0_i32_53 : BitVec 32 := 0#32
  let c1_i32_55 : BitVec 32 := 1#32
  let arg24 : BitVec 32 := Scf.iv c0_i32_53 c1_i32_55 k0_t10
  let v141 : BitVec 32 := Scalar.muli c2_i32_167 arg24
  let c1_i32_168 : BitVec 32 := 1#32
  let v142 : BitVec 32 := Scalar.addi v141 c1_i32_168
  let v177 : BitVec 32 := Scalar.muli c4_i32_197 v142
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_198 : BitVec 32 := 4#32
  let v178 : BitVec 32 := Scalar.subi v6 c4_i32_198
  let v179 : BitVec 32 := Scalar.minsi v177 v178
  let v180 : BitVec 32 := Scalar.addi v4 v179
  let c128_i32_199 : BitVec 32 := 128#32
  let v181 : BitVec 32 := Scalar.muli v180 c128_i32_199
  v181
def k0_off15 (i : grid0.Coords) (k0_t10 : Fin k0_t10_loop.trips) : Fin 2 → Nat :=
  let c0_i32_200 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_197 : BitVec 32 := 4#32
  let c2_i32_167 : BitVec 32 := 2#32
  let c0_i32_53 : BitVec 32 := 0#32
  let c1_i32_55 : BitVec 32 := 1#32
  let arg24 : BitVec 32 := Scf.iv c0_i32_53 c1_i32_55 k0_t10
  let v141 : BitVec 32 := Scalar.muli c2_i32_167 arg24
  let c1_i32_168 : BitVec 32 := 1#32
  let v142 : BitVec 32 := Scalar.addi v141 c1_i32_168
  let v177 : BitVec 32 := Scalar.muli c4_i32_197 v142
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_198 : BitVec 32 := 4#32
  let v178 : BitVec 32 := Scalar.subi v6 c4_i32_198
  let v179 : BitVec 32 := Scalar.minsi v177 v178
  let v180 : BitVec 32 := Scalar.addi v4 v179
  let c128_i32_199 : BitVec 32 := 128#32
  let v181 : BitVec 32 := Scalar.muli v180 c128_i32_199
  let v182 : BitVec 32 := v181
  ![0, v182.toNat]
def k0_mult10 (i : grid0.Coords) (k0_t10 : Fin k0_t10_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_202 : BitVec 32 := 4#32
  let c2_i32_167 : BitVec 32 := 2#32
  let c0_i32_53 : BitVec 32 := 0#32
  let c1_i32_55 : BitVec 32 := 1#32
  let arg24 : BitVec 32 := Scf.iv c0_i32_53 c1_i32_55 k0_t10
  let v141 : BitVec 32 := Scalar.muli c2_i32_167 arg24
  let c1_i32_168 : BitVec 32 := 1#32
  let v142 : BitVec 32 := Scalar.addi v141 c1_i32_168
  let v185 : BitVec 32 := Scalar.muli c4_i32_202 v142
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_203 : BitVec 32 := 4#32
  let v186 : BitVec 32 := Scalar.subi v6 c4_i32_203
  let v187 : BitVec 32 := Scalar.minsi v185 v186
  let v188 : BitVec 32 := Scalar.addi v4 v187
  let c128_i32_204 : BitVec 32 := 128#32
  let v189 : BitVec 32 := Scalar.muli v188 c128_i32_204
  v189
@[reducible] def k0_t15_loop (v151 : BitVec 32) : Scf.Loop 32 :=
  let c0_i32_211 : BitVec 32 := 0#32
  let c15_i32 : BitVec 32 := 15#32
  let v191 : BitVec 32 := Scalar.addi v151 c15_i32
  let c0_i32_205 : BitVec 32 := 0#32
  let v193 : BitVec 1 := Scalar.cmpi .sgt v191 c0_i32_205
  let v194 : BitVec 32 := Scalar.extui v193
  let c0_i32_206 : BitVec 32 := 0#32
  let v195 : BitVec 1 := Scalar.cmpi .slt v191 c0_i32_206
  let v196 : BitVec 32 := Scalar.extui v195
  let v197 : BitVec 32 := Scalar.subi v194 v196
  let c16_i32 : BitVec 32 := 16#32
  let c0_i32_207 : BitVec 32 := 0#32
  let v198 : BitVec 1 := Scalar.cmpi .sgt c16_i32 c0_i32_207
  let v199 : BitVec 32 := Scalar.extui v198
  let c0_i32_208 : BitVec 32 := 0#32
  let v200 : BitVec 1 := Scalar.cmpi .slt c16_i32 c0_i32_208
  let v201 : BitVec 32 := Scalar.extui v200
  let v202 : BitVec 32 := Scalar.subi v199 v201
  let v203 : BitVec 1 := Scalar.cmpi .ne v197 v202
  let v204 : BitVec 32 := Scalar.remsi v191 c16_i32
  let c0_i32_209 : BitVec 32 := 0#32
  let v205 : BitVec 1 := Scalar.cmpi .ne v204 c0_i32_209
  let v206 : BitVec 1 := Scalar.andi v203 v205
  let v192 : BitVec 32 := Scalar.divsi v191 c16_i32
  let c1_i32_210 : BitVec 32 := 1#32
  let v207 : BitVec 32 := Scalar.subi v192 c1_i32_210
  let v208 : BitVec 32 := Scalar.select v206 v207 v192
  let v209 : BitVec 32 := Scalar.subi v208 c0_i32_211
  let c1_i32_213 : BitVec 32 := 1#32
  let v211 : BitVec 32 := Scalar.divsi v209 c1_i32_213
  let v212 : BitVec 32 := Scalar.muli v211 c1_i32_213
  let v213 : BitVec 32 := Scalar.addi c0_i32_211 v212
  let c1_i32_214 : BitVec 32 := 1#32
  ⟨c0_i32_211, v213, c1_i32_214⟩
def k0_cond6 (v151 : BitVec 32) : BitVec 1 :=
  let c0_i32_195 : BitVec 32 := 0#32
  let v174 : BitVec 1 := Scalar.cmpi .sgt v151 c0_i32_195
  let v175 : BitVec 32 := Scalar.extui v174
  let c0_i32_196 : BitVec 32 := 0#32
  let v176 : BitVec 1 := Scalar.cmpi .ne v175 c0_i32_196
  v176

def k0_off16 (v151 : BitVec 32) (k0_t15 : Fin (k0_t15_loop v151).trips) : Fin 1 → Nat :=
  let c0_i32_211 : BitVec 32 := 0#32
  let c1_i32_214 : BitVec 32 := 1#32
  let arg26 : BitVec 32 := Scf.iv c0_i32_211 c1_i32_214 k0_t15
  let c16_i32_217 : BitVec 32 := 16#32
  let v221 : BitVec 32 := Scalar.muli arg26 c16_i32_217
  let v222 : Index := Scalar.indexCast v221
  ![v222.toNat]

def k0_chk142 (v151 : BitVec 32) (v223 : IVec S16 32) : Prop :=
  (∀ (k0_h6 : k0_cond6 v151 = 1#1), ∀ a x, ((![v223] : Fin 1 → IVec S16 32) a x).toNat < S1024.size a) ∧
  (∀ (k0_h6 : k0_cond6 v151 = 1#1), ∀ a x, ((![v223] : Fin 1 → IVec S16 32) a x).toNat < S1024.size a)
theorem k0_idx142_inb : ∀ (v151 : BitVec 32) (v223 : IVec S16 32) (k0_hw142 : k0_chk142 v151 v223), ∀ (k0_h6 : k0_cond6 v151 = 1#1), ∀ a x, ((![v223] : Fin 1 → IVec S16 32) a x).toNat < S1024.size a := fun v151 v223 k0_hw142 k0_h6 => k0_hw142.1 k0_h6
theorem k0_idx143_inb : ∀ (v151 : BitVec 32) (v223 : IVec S16 32) (k0_hw142 : k0_chk142 v151 v223), ∀ (k0_h6 : k0_cond6 v151 = 1#1), ∀ a x, ((![v223] : Fin 1 → IVec S16 32) a x).toNat < S1024.size a := fun v151 v223 k0_hw142 k0_h6 => k0_hw142.2 k0_h6

def k0_chk143 (v151 : BitVec 32) (v227 : IVec S16 32) (v229 : IVec S16 32) : Prop :=
  (∀ (k0_h6 : k0_cond6 v151 = 1#1), ∀ a x, ((![v227, v229] : Fin 2 → IVec S16 32) a x).toNat < S8x64.size a)
theorem k0_idx144_inb : ∀ (v151 : BitVec 32) (v227 : IVec S16 32) (v229 : IVec S16 32) (k0_hw143 : k0_chk143 v151 v227 v229), ∀ (k0_h6 : k0_cond6 v151 = 1#1), ∀ a x, ((![v227, v229] : Fin 2 → IVec S16 32) a x).toNat < S8x64.size a := fun v151 v227 v229 k0_hw143 k0_h6 => k0_hw143 k0_h6

def k0_chk144 (v151 : BitVec 32) (v230 : IVec S16 32) (v236 : IVec S16 32) : Prop :=
  (∀ (k0_h6 : k0_cond6 v151 = 1#1), ∀ a x, ((![v230, v236] : Fin 2 → IVec S16 32) a x).toNat < S32x512.size a)
theorem k0_idx145_inb : ∀ (v151 : BitVec 32) (v230 : IVec S16 32) (v236 : IVec S16 32) (k0_hw144 : k0_chk144 v151 v230 v236), ∀ (k0_h6 : k0_cond6 v151 = 1#1), ∀ a x, ((![v230, v236] : Fin 2 → IVec S16 32) a x).toNat < S32x512.size a := fun v151 v230 v236 k0_hw144 k0_h6 => k0_hw144 k0_h6

def k0_chk145 (v151 : BitVec 32) (v223 : IVec S16 32) (v230 : IVec S16 32) : Prop :=
  (∀ (k0_h6 : k0_cond6 v151 = 1#1), ∀ a x, ((![v223, v230] : Fin 2 → IVec S16 32) a x).toNat < S512x32.size a)
theorem k0_idx146_inb : ∀ (v151 : BitVec 32) (v223 : IVec S16 32) (v230 : IVec S16 32) (k0_hw145 : k0_chk145 v151 v223 v230), ∀ (k0_h6 : k0_cond6 v151 = 1#1), ∀ a x, ((![v223, v230] : Fin 2 → IVec S16 32) a x).toNat < S512x32.size a := fun v151 v223 v230 k0_hw145 k0_h6 => k0_hw145 k0_h6

def k0_chk146 (v151 : BitVec 32) (v238 : IVec S16 32) (v244 : IVec S16 32) : Prop :=
  (∀ (k0_h6 : k0_cond6 v151 = 1#1), ∀ a x, ((![v238, v244] : Fin 2 → IVec S16 32) a x).toNat < S32x512.size a)
theorem k0_idx147_inb : ∀ (v151 : BitVec 32) (v238 : IVec S16 32) (v244 : IVec S16 32) (k0_hw146 : k0_chk146 v151 v238 v244), ∀ (k0_h6 : k0_cond6 v151 = 1#1), ∀ a x, ((![v238, v244] : Fin 2 → IVec S16 32) a x).toNat < S32x512.size a := fun v151 v238 v244 k0_hw146 k0_h6 => k0_hw146 k0_h6

def k0_chk147 (v151 : BitVec 32) (v223 : IVec S16 32) (v238 : IVec S16 32) : Prop :=
  (∀ (k0_h6 : k0_cond6 v151 = 1#1), ∀ a x, ((![v223, v238] : Fin 2 → IVec S16 32) a x).toNat < S512x32.size a)
theorem k0_idx148_inb : ∀ (v151 : BitVec 32) (v223 : IVec S16 32) (v238 : IVec S16 32) (k0_hw147 : k0_chk147 v151 v223 v238), ∀ (k0_h6 : k0_cond6 v151 = 1#1), ∀ a x, ((![v223, v238] : Fin 2 → IVec S16 32) a x).toNat < S512x32.size a := fun v151 v223 v238 k0_hw147 k0_h6 => k0_hw147 k0_h6

def k0_chk148 (v151 : BitVec 32) (v246 : IVec S16 32) (v252 : IVec S16 32) : Prop :=
  (∀ (k0_h6 : k0_cond6 v151 = 1#1), ∀ a x, ((![v246, v252] : Fin 2 → IVec S16 32) a x).toNat < S32x512.size a)
theorem k0_idx149_inb : ∀ (v151 : BitVec 32) (v246 : IVec S16 32) (v252 : IVec S16 32) (k0_hw148 : k0_chk148 v151 v246 v252), ∀ (k0_h6 : k0_cond6 v151 = 1#1), ∀ a x, ((![v246, v252] : Fin 2 → IVec S16 32) a x).toNat < S32x512.size a := fun v151 v246 v252 k0_hw148 k0_h6 => k0_hw148 k0_h6

def k0_chk149 (v151 : BitVec 32) (v223 : IVec S16 32) (v246 : IVec S16 32) : Prop :=
  (∀ (k0_h6 : k0_cond6 v151 = 1#1), ∀ a x, ((![v223, v246] : Fin 2 → IVec S16 32) a x).toNat < S512x32.size a)
theorem k0_idx150_inb : ∀ (v151 : BitVec 32) (v223 : IVec S16 32) (v246 : IVec S16 32) (k0_hw149 : k0_chk149 v151 v223 v246), ∀ (k0_h6 : k0_cond6 v151 = 1#1), ∀ a x, ((![v223, v246] : Fin 2 → IVec S16 32) a x).toNat < S512x32.size a := fun v151 v223 v246 k0_hw149 k0_h6 => k0_hw149 k0_h6

def k0_chk150 (v151 : BitVec 32) (v254 : IVec S16 32) (v260 : IVec S16 32) : Prop :=
  (∀ (k0_h6 : k0_cond6 v151 = 1#1), ∀ a x, ((![v254, v260] : Fin 2 → IVec S16 32) a x).toNat < S32x512.size a)
theorem k0_idx151_inb : ∀ (v151 : BitVec 32) (v254 : IVec S16 32) (v260 : IVec S16 32) (k0_hw150 : k0_chk150 v151 v254 v260), ∀ (k0_h6 : k0_cond6 v151 = 1#1), ∀ a x, ((![v254, v260] : Fin 2 → IVec S16 32) a x).toNat < S32x512.size a := fun v151 v254 v260 k0_hw150 k0_h6 => k0_hw150 k0_h6

def k0_chk151 (v151 : BitVec 32) (v223 : IVec S16 32) (v254 : IVec S16 32) : Prop :=
  (∀ (k0_h6 : k0_cond6 v151 = 1#1), ∀ a x, ((![v223, v254] : Fin 2 → IVec S16 32) a x).toNat < S512x32.size a)
theorem k0_idx152_inb : ∀ (v151 : BitVec 32) (v223 : IVec S16 32) (v254 : IVec S16 32) (k0_hw151 : k0_chk151 v151 v223 v254), ∀ (k0_h6 : k0_cond6 v151 = 1#1), ∀ a x, ((![v223, v254] : Fin 2 → IVec S16 32) a x).toNat < S512x32.size a := fun v151 v223 v254 k0_hw151 k0_h6 => k0_hw151 k0_h6

def k0_chk152 (v151 : BitVec 32) (v262 : IVec S16 32) (v268 : IVec S16 32) : Prop :=
  (∀ (k0_h6 : k0_cond6 v151 = 1#1), ∀ a x, ((![v262, v268] : Fin 2 → IVec S16 32) a x).toNat < S32x512.size a)
theorem k0_idx153_inb : ∀ (v151 : BitVec 32) (v262 : IVec S16 32) (v268 : IVec S16 32) (k0_hw152 : k0_chk152 v151 v262 v268), ∀ (k0_h6 : k0_cond6 v151 = 1#1), ∀ a x, ((![v262, v268] : Fin 2 → IVec S16 32) a x).toNat < S32x512.size a := fun v151 v262 v268 k0_hw152 k0_h6 => k0_hw152 k0_h6

def k0_chk153 (v151 : BitVec 32) (v223 : IVec S16 32) (v262 : IVec S16 32) : Prop :=
  (∀ (k0_h6 : k0_cond6 v151 = 1#1), ∀ a x, ((![v223, v262] : Fin 2 → IVec S16 32) a x).toNat < S512x32.size a)
theorem k0_idx154_inb : ∀ (v151 : BitVec 32) (v223 : IVec S16 32) (v262 : IVec S16 32) (k0_hw153 : k0_chk153 v151 v223 v262), ∀ (k0_h6 : k0_cond6 v151 = 1#1), ∀ a x, ((![v223, v262] : Fin 2 → IVec S16 32) a x).toNat < S512x32.size a := fun v151 v223 v262 k0_hw153 k0_h6 => k0_hw153 k0_h6

def k0_chk154 (v151 : BitVec 32) (v270 : IVec S16 32) (v276 : IVec S16 32) : Prop :=
  (∀ (k0_h6 : k0_cond6 v151 = 1#1), ∀ a x, ((![v270, v276] : Fin 2 → IVec S16 32) a x).toNat < S32x512.size a)
theorem k0_idx155_inb : ∀ (v151 : BitVec 32) (v270 : IVec S16 32) (v276 : IVec S16 32) (k0_hw154 : k0_chk154 v151 v270 v276), ∀ (k0_h6 : k0_cond6 v151 = 1#1), ∀ a x, ((![v270, v276] : Fin 2 → IVec S16 32) a x).toNat < S32x512.size a := fun v151 v270 v276 k0_hw154 k0_h6 => k0_hw154 k0_h6

def k0_chk155 (v151 : BitVec 32) (v223 : IVec S16 32) (v270 : IVec S16 32) : Prop :=
  (∀ (k0_h6 : k0_cond6 v151 = 1#1), ∀ a x, ((![v223, v270] : Fin 2 → IVec S16 32) a x).toNat < S512x32.size a)
theorem k0_idx156_inb : ∀ (v151 : BitVec 32) (v223 : IVec S16 32) (v270 : IVec S16 32) (k0_hw155 : k0_chk155 v151 v223 v270), ∀ (k0_h6 : k0_cond6 v151 = 1#1), ∀ a x, ((![v223, v270] : Fin 2 → IVec S16 32) a x).toNat < S512x32.size a := fun v151 v223 v270 k0_hw155 k0_h6 => k0_hw155 k0_h6

def k0_chk156 (v151 : BitVec 32) (v278 : IVec S16 32) (v284 : IVec S16 32) : Prop :=
  (∀ (k0_h6 : k0_cond6 v151 = 1#1), ∀ a x, ((![v278, v284] : Fin 2 → IVec S16 32) a x).toNat < S32x512.size a)
theorem k0_idx157_inb : ∀ (v151 : BitVec 32) (v278 : IVec S16 32) (v284 : IVec S16 32) (k0_hw156 : k0_chk156 v151 v278 v284), ∀ (k0_h6 : k0_cond6 v151 = 1#1), ∀ a x, ((![v278, v284] : Fin 2 → IVec S16 32) a x).toNat < S32x512.size a := fun v151 v278 v284 k0_hw156 k0_h6 => k0_hw156 k0_h6

def k0_chk157 (v151 : BitVec 32) (v223 : IVec S16 32) (v278 : IVec S16 32) : Prop :=
  (∀ (k0_h6 : k0_cond6 v151 = 1#1), ∀ a x, ((![v223, v278] : Fin 2 → IVec S16 32) a x).toNat < S512x32.size a)
theorem k0_idx158_inb : ∀ (v151 : BitVec 32) (v223 : IVec S16 32) (v278 : IVec S16 32) (k0_hw157 : k0_chk157 v151 v223 v278), ∀ (k0_h6 : k0_cond6 v151 = 1#1), ∀ a x, ((![v223, v278] : Fin 2 → IVec S16 32) a x).toNat < S512x32.size a := fun v151 v223 v278 k0_hw157 k0_h6 => k0_hw157 k0_h6

def k0_chk158 (v151 : BitVec 32) (v286 : IVec S16 32) (v292 : IVec S16 32) : Prop :=
  (∀ (k0_h6 : k0_cond6 v151 = 1#1), ∀ a x, ((![v286, v292] : Fin 2 → IVec S16 32) a x).toNat < S32x512.size a)
theorem k0_idx159_inb : ∀ (v151 : BitVec 32) (v286 : IVec S16 32) (v292 : IVec S16 32) (k0_hw158 : k0_chk158 v151 v286 v292), ∀ (k0_h6 : k0_cond6 v151 = 1#1), ∀ a x, ((![v286, v292] : Fin 2 → IVec S16 32) a x).toNat < S32x512.size a := fun v151 v286 v292 k0_hw158 k0_h6 => k0_hw158 k0_h6

def k0_chk159 (v151 : BitVec 32) (v223 : IVec S16 32) (v286 : IVec S16 32) : Prop :=
  (∀ (k0_h6 : k0_cond6 v151 = 1#1), ∀ a x, ((![v223, v286] : Fin 2 → IVec S16 32) a x).toNat < S512x32.size a)
theorem k0_idx160_inb : ∀ (v151 : BitVec 32) (v223 : IVec S16 32) (v286 : IVec S16 32) (k0_hw159 : k0_chk159 v151 v223 v286), ∀ (k0_h6 : k0_cond6 v151 = 1#1), ∀ a x, ((![v223, v286] : Fin 2 → IVec S16 32) a x).toNat < S512x32.size a := fun v151 v223 v286 k0_hw159 k0_h6 => k0_hw159 k0_h6

def k0_chk160 (v151 : BitVec 32) (v294 : IVec S16 32) (v300 : IVec S16 32) : Prop :=
  (∀ (k0_h6 : k0_cond6 v151 = 1#1), ∀ a x, ((![v294, v300] : Fin 2 → IVec S16 32) a x).toNat < S32x512.size a)
theorem k0_idx161_inb : ∀ (v151 : BitVec 32) (v294 : IVec S16 32) (v300 : IVec S16 32) (k0_hw160 : k0_chk160 v151 v294 v300), ∀ (k0_h6 : k0_cond6 v151 = 1#1), ∀ a x, ((![v294, v300] : Fin 2 → IVec S16 32) a x).toNat < S32x512.size a := fun v151 v294 v300 k0_hw160 k0_h6 => k0_hw160 k0_h6

def k0_chk161 (v151 : BitVec 32) (v223 : IVec S16 32) (v294 : IVec S16 32) : Prop :=
  (∀ (k0_h6 : k0_cond6 v151 = 1#1), ∀ a x, ((![v223, v294] : Fin 2 → IVec S16 32) a x).toNat < S512x32.size a)
theorem k0_idx162_inb : ∀ (v151 : BitVec 32) (v223 : IVec S16 32) (v294 : IVec S16 32) (k0_hw161 : k0_chk161 v151 v223 v294), ∀ (k0_h6 : k0_cond6 v151 = 1#1), ∀ a x, ((![v223, v294] : Fin 2 → IVec S16 32) a x).toNat < S512x32.size a := fun v151 v223 v294 k0_hw161 k0_h6 => k0_hw161 k0_h6

def k0_chk162 (v151 : BitVec 32) (v302 : IVec S16 32) (v308 : IVec S16 32) : Prop :=
  (∀ (k0_h6 : k0_cond6 v151 = 1#1), ∀ a x, ((![v302, v308] : Fin 2 → IVec S16 32) a x).toNat < S32x512.size a)
theorem k0_idx163_inb : ∀ (v151 : BitVec 32) (v302 : IVec S16 32) (v308 : IVec S16 32) (k0_hw162 : k0_chk162 v151 v302 v308), ∀ (k0_h6 : k0_cond6 v151 = 1#1), ∀ a x, ((![v302, v308] : Fin 2 → IVec S16 32) a x).toNat < S32x512.size a := fun v151 v302 v308 k0_hw162 k0_h6 => k0_hw162 k0_h6

def k0_chk163 (v151 : BitVec 32) (v223 : IVec S16 32) (v302 : IVec S16 32) : Prop :=
  (∀ (k0_h6 : k0_cond6 v151 = 1#1), ∀ a x, ((![v223, v302] : Fin 2 → IVec S16 32) a x).toNat < S512x32.size a)
theorem k0_idx164_inb : ∀ (v151 : BitVec 32) (v223 : IVec S16 32) (v302 : IVec S16 32) (k0_hw163 : k0_chk163 v151 v223 v302), ∀ (k0_h6 : k0_cond6 v151 = 1#1), ∀ a x, ((![v223, v302] : Fin 2 → IVec S16 32) a x).toNat < S512x32.size a := fun v151 v223 v302 k0_hw163 k0_h6 => k0_hw163 k0_h6

def k0_chk164 (v151 : BitVec 32) (v310 : IVec S16 32) (v316 : IVec S16 32) : Prop :=
  (∀ (k0_h6 : k0_cond6 v151 = 1#1), ∀ a x, ((![v310, v316] : Fin 2 → IVec S16 32) a x).toNat < S32x512.size a)
theorem k0_idx165_inb : ∀ (v151 : BitVec 32) (v310 : IVec S16 32) (v316 : IVec S16 32) (k0_hw164 : k0_chk164 v151 v310 v316), ∀ (k0_h6 : k0_cond6 v151 = 1#1), ∀ a x, ((![v310, v316] : Fin 2 → IVec S16 32) a x).toNat < S32x512.size a := fun v151 v310 v316 k0_hw164 k0_h6 => k0_hw164 k0_h6

def k0_chk165 (v151 : BitVec 32) (v223 : IVec S16 32) (v310 : IVec S16 32) : Prop :=
  (∀ (k0_h6 : k0_cond6 v151 = 1#1), ∀ a x, ((![v223, v310] : Fin 2 → IVec S16 32) a x).toNat < S512x32.size a)
theorem k0_idx166_inb : ∀ (v151 : BitVec 32) (v223 : IVec S16 32) (v310 : IVec S16 32) (k0_hw165 : k0_chk165 v151 v223 v310), ∀ (k0_h6 : k0_cond6 v151 = 1#1), ∀ a x, ((![v223, v310] : Fin 2 → IVec S16 32) a x).toNat < S512x32.size a := fun v151 v223 v310 k0_hw165 k0_h6 => k0_hw165 k0_h6

def k0_chk166 (v151 : BitVec 32) (v318 : IVec S16 32) (v324 : IVec S16 32) : Prop :=
  (∀ (k0_h6 : k0_cond6 v151 = 1#1), ∀ a x, ((![v318, v324] : Fin 2 → IVec S16 32) a x).toNat < S32x512.size a)
theorem k0_idx167_inb : ∀ (v151 : BitVec 32) (v318 : IVec S16 32) (v324 : IVec S16 32) (k0_hw166 : k0_chk166 v151 v318 v324), ∀ (k0_h6 : k0_cond6 v151 = 1#1), ∀ a x, ((![v318, v324] : Fin 2 → IVec S16 32) a x).toNat < S32x512.size a := fun v151 v318 v324 k0_hw166 k0_h6 => k0_hw166 k0_h6

def k0_chk167 (v151 : BitVec 32) (v223 : IVec S16 32) (v318 : IVec S16 32) : Prop :=
  (∀ (k0_h6 : k0_cond6 v151 = 1#1), ∀ a x, ((![v223, v318] : Fin 2 → IVec S16 32) a x).toNat < S512x32.size a)
theorem k0_idx168_inb : ∀ (v151 : BitVec 32) (v223 : IVec S16 32) (v318 : IVec S16 32) (k0_hw167 : k0_chk167 v151 v223 v318), ∀ (k0_h6 : k0_cond6 v151 = 1#1), ∀ a x, ((![v223, v318] : Fin 2 → IVec S16 32) a x).toNat < S512x32.size a := fun v151 v223 v318 k0_hw167 k0_h6 => k0_hw167 k0_h6

def k0_chk168 (v151 : BitVec 32) (v326 : IVec S16 32) (v332 : IVec S16 32) : Prop :=
  (∀ (k0_h6 : k0_cond6 v151 = 1#1), ∀ a x, ((![v326, v332] : Fin 2 → IVec S16 32) a x).toNat < S32x512.size a)
theorem k0_idx169_inb : ∀ (v151 : BitVec 32) (v326 : IVec S16 32) (v332 : IVec S16 32) (k0_hw168 : k0_chk168 v151 v326 v332), ∀ (k0_h6 : k0_cond6 v151 = 1#1), ∀ a x, ((![v326, v332] : Fin 2 → IVec S16 32) a x).toNat < S32x512.size a := fun v151 v326 v332 k0_hw168 k0_h6 => k0_hw168 k0_h6

def k0_chk169 (v151 : BitVec 32) (v223 : IVec S16 32) (v326 : IVec S16 32) : Prop :=
  (∀ (k0_h6 : k0_cond6 v151 = 1#1), ∀ a x, ((![v223, v326] : Fin 2 → IVec S16 32) a x).toNat < S512x32.size a)
theorem k0_idx170_inb : ∀ (v151 : BitVec 32) (v223 : IVec S16 32) (v326 : IVec S16 32) (k0_hw169 : k0_chk169 v151 v223 v326), ∀ (k0_h6 : k0_cond6 v151 = 1#1), ∀ a x, ((![v223, v326] : Fin 2 → IVec S16 32) a x).toNat < S512x32.size a := fun v151 v223 v326 k0_hw169 k0_h6 => k0_hw169 k0_h6

def k0_chk170 (v151 : BitVec 32) (v334 : IVec S16 32) (v340 : IVec S16 32) : Prop :=
  (∀ (k0_h6 : k0_cond6 v151 = 1#1), ∀ a x, ((![v334, v340] : Fin 2 → IVec S16 32) a x).toNat < S32x512.size a)
theorem k0_idx171_inb : ∀ (v151 : BitVec 32) (v334 : IVec S16 32) (v340 : IVec S16 32) (k0_hw170 : k0_chk170 v151 v334 v340), ∀ (k0_h6 : k0_cond6 v151 = 1#1), ∀ a x, ((![v334, v340] : Fin 2 → IVec S16 32) a x).toNat < S32x512.size a := fun v151 v334 v340 k0_hw170 k0_h6 => k0_hw170 k0_h6

def k0_chk171 (v151 : BitVec 32) (v223 : IVec S16 32) (v334 : IVec S16 32) : Prop :=
  (∀ (k0_h6 : k0_cond6 v151 = 1#1), ∀ a x, ((![v223, v334] : Fin 2 → IVec S16 32) a x).toNat < S512x32.size a)
theorem k0_idx172_inb : ∀ (v151 : BitVec 32) (v223 : IVec S16 32) (v334 : IVec S16 32) (k0_hw171 : k0_chk171 v151 v223 v334), ∀ (k0_h6 : k0_cond6 v151 = 1#1), ∀ a x, ((![v223, v334] : Fin 2 → IVec S16 32) a x).toNat < S512x32.size a := fun v151 v223 v334 k0_hw171 k0_h6 => k0_hw171 k0_h6

def k0_chk172 (v151 : BitVec 32) (v342 : IVec S16 32) (v348 : IVec S16 32) : Prop :=
  (∀ (k0_h6 : k0_cond6 v151 = 1#1), ∀ a x, ((![v342, v348] : Fin 2 → IVec S16 32) a x).toNat < S32x512.size a)
theorem k0_idx173_inb : ∀ (v151 : BitVec 32) (v342 : IVec S16 32) (v348 : IVec S16 32) (k0_hw172 : k0_chk172 v151 v342 v348), ∀ (k0_h6 : k0_cond6 v151 = 1#1), ∀ a x, ((![v342, v348] : Fin 2 → IVec S16 32) a x).toNat < S32x512.size a := fun v151 v342 v348 k0_hw172 k0_h6 => k0_hw172 k0_h6

def k0_chk173 (v151 : BitVec 32) (v223 : IVec S16 32) (v342 : IVec S16 32) : Prop :=
  (∀ (k0_h6 : k0_cond6 v151 = 1#1), ∀ a x, ((![v223, v342] : Fin 2 → IVec S16 32) a x).toNat < S512x32.size a)
theorem k0_idx174_inb : ∀ (v151 : BitVec 32) (v223 : IVec S16 32) (v342 : IVec S16 32) (k0_hw173 : k0_chk173 v151 v223 v342), ∀ (k0_h6 : k0_cond6 v151 = 1#1), ∀ a x, ((![v223, v342] : Fin 2 → IVec S16 32) a x).toNat < S512x32.size a := fun v151 v223 v342 k0_hw173 k0_h6 => k0_hw173 k0_h6

def k0_chk174 (v151 : BitVec 32) (v350 : IVec S16 32) (v356 : IVec S16 32) : Prop :=
  (∀ (k0_h6 : k0_cond6 v151 = 1#1), ∀ a x, ((![v350, v356] : Fin 2 → IVec S16 32) a x).toNat < S32x512.size a)
theorem k0_idx175_inb : ∀ (v151 : BitVec 32) (v350 : IVec S16 32) (v356 : IVec S16 32) (k0_hw174 : k0_chk174 v151 v350 v356), ∀ (k0_h6 : k0_cond6 v151 = 1#1), ∀ a x, ((![v350, v356] : Fin 2 → IVec S16 32) a x).toNat < S32x512.size a := fun v151 v350 v356 k0_hw174 k0_h6 => k0_hw174 k0_h6

def k0_chk175 (v151 : BitVec 32) (v223 : IVec S16 32) (v350 : IVec S16 32) : Prop :=
  (∀ (k0_h6 : k0_cond6 v151 = 1#1), ∀ a x, ((![v223, v350] : Fin 2 → IVec S16 32) a x).toNat < S512x32.size a)
theorem k0_idx176_inb : ∀ (v151 : BitVec 32) (v223 : IVec S16 32) (v350 : IVec S16 32) (k0_hw175 : k0_chk175 v151 v223 v350), ∀ (k0_h6 : k0_cond6 v151 = 1#1), ∀ a x, ((![v223, v350] : Fin 2 → IVec S16 32) a x).toNat < S512x32.size a := fun v151 v223 v350 k0_hw175 k0_h6 => k0_hw175 k0_h6

def k0_chk176 (v151 : BitVec 32) (v358 : IVec S16 32) (v364 : IVec S16 32) : Prop :=
  (∀ (k0_h6 : k0_cond6 v151 = 1#1), ∀ a x, ((![v358, v364] : Fin 2 → IVec S16 32) a x).toNat < S32x512.size a)
theorem k0_idx177_inb : ∀ (v151 : BitVec 32) (v358 : IVec S16 32) (v364 : IVec S16 32) (k0_hw176 : k0_chk176 v151 v358 v364), ∀ (k0_h6 : k0_cond6 v151 = 1#1), ∀ a x, ((![v358, v364] : Fin 2 → IVec S16 32) a x).toNat < S32x512.size a := fun v151 v358 v364 k0_hw176 k0_h6 => k0_hw176 k0_h6

def k0_chk177 (v151 : BitVec 32) (v223 : IVec S16 32) (v358 : IVec S16 32) : Prop :=
  (∀ (k0_h6 : k0_cond6 v151 = 1#1), ∀ a x, ((![v223, v358] : Fin 2 → IVec S16 32) a x).toNat < S512x32.size a)
theorem k0_idx178_inb : ∀ (v151 : BitVec 32) (v223 : IVec S16 32) (v358 : IVec S16 32) (k0_hw177 : k0_chk177 v151 v223 v358), ∀ (k0_h6 : k0_cond6 v151 = 1#1), ∀ a x, ((![v223, v358] : Fin 2 → IVec S16 32) a x).toNat < S512x32.size a := fun v151 v223 v358 k0_hw177 k0_h6 => k0_hw177 k0_h6

def k0_chk178 (v151 : BitVec 32) (v366 : IVec S16 32) (v372 : IVec S16 32) : Prop :=
  (∀ (k0_h6 : k0_cond6 v151 = 1#1), ∀ a x, ((![v366, v372] : Fin 2 → IVec S16 32) a x).toNat < S32x512.size a)
theorem k0_idx179_inb : ∀ (v151 : BitVec 32) (v366 : IVec S16 32) (v372 : IVec S16 32) (k0_hw178 : k0_chk178 v151 v366 v372), ∀ (k0_h6 : k0_cond6 v151 = 1#1), ∀ a x, ((![v366, v372] : Fin 2 → IVec S16 32) a x).toNat < S32x512.size a := fun v151 v366 v372 k0_hw178 k0_h6 => k0_hw178 k0_h6

def k0_chk179 (v151 : BitVec 32) (v223 : IVec S16 32) (v366 : IVec S16 32) : Prop :=
  (∀ (k0_h6 : k0_cond6 v151 = 1#1), ∀ a x, ((![v223, v366] : Fin 2 → IVec S16 32) a x).toNat < S512x32.size a)
theorem k0_idx180_inb : ∀ (v151 : BitVec 32) (v223 : IVec S16 32) (v366 : IVec S16 32) (k0_hw179 : k0_chk179 v151 v223 v366), ∀ (k0_h6 : k0_cond6 v151 = 1#1), ∀ a x, ((![v223, v366] : Fin 2 → IVec S16 32) a x).toNat < S512x32.size a := fun v151 v223 v366 k0_hw179 k0_h6 => k0_hw179 k0_h6

def k0_chk180 (v151 : BitVec 32) (v374 : IVec S16 32) (v380 : IVec S16 32) : Prop :=
  (∀ (k0_h6 : k0_cond6 v151 = 1#1), ∀ a x, ((![v374, v380] : Fin 2 → IVec S16 32) a x).toNat < S32x512.size a)
theorem k0_idx181_inb : ∀ (v151 : BitVec 32) (v374 : IVec S16 32) (v380 : IVec S16 32) (k0_hw180 : k0_chk180 v151 v374 v380), ∀ (k0_h6 : k0_cond6 v151 = 1#1), ∀ a x, ((![v374, v380] : Fin 2 → IVec S16 32) a x).toNat < S32x512.size a := fun v151 v374 v380 k0_hw180 k0_h6 => k0_hw180 k0_h6

def k0_chk181 (v151 : BitVec 32) (v223 : IVec S16 32) (v374 : IVec S16 32) : Prop :=
  (∀ (k0_h6 : k0_cond6 v151 = 1#1), ∀ a x, ((![v223, v374] : Fin 2 → IVec S16 32) a x).toNat < S512x32.size a)
theorem k0_idx182_inb : ∀ (v151 : BitVec 32) (v223 : IVec S16 32) (v374 : IVec S16 32) (k0_hw181 : k0_chk181 v151 v223 v374), ∀ (k0_h6 : k0_cond6 v151 = 1#1), ∀ a x, ((![v223, v374] : Fin 2 → IVec S16 32) a x).toNat < S512x32.size a := fun v151 v223 v374 k0_hw181 k0_h6 => k0_hw181 k0_h6

def k0_chk182 (v151 : BitVec 32) (v382 : IVec S16 32) (v388 : IVec S16 32) : Prop :=
  (∀ (k0_h6 : k0_cond6 v151 = 1#1), ∀ a x, ((![v382, v388] : Fin 2 → IVec S16 32) a x).toNat < S32x512.size a)
theorem k0_idx183_inb : ∀ (v151 : BitVec 32) (v382 : IVec S16 32) (v388 : IVec S16 32) (k0_hw182 : k0_chk182 v151 v382 v388), ∀ (k0_h6 : k0_cond6 v151 = 1#1), ∀ a x, ((![v382, v388] : Fin 2 → IVec S16 32) a x).toNat < S32x512.size a := fun v151 v382 v388 k0_hw182 k0_h6 => k0_hw182 k0_h6

def k0_chk183 (v151 : BitVec 32) (v223 : IVec S16 32) (v382 : IVec S16 32) : Prop :=
  (∀ (k0_h6 : k0_cond6 v151 = 1#1), ∀ a x, ((![v223, v382] : Fin 2 → IVec S16 32) a x).toNat < S512x32.size a)
theorem k0_idx184_inb : ∀ (v151 : BitVec 32) (v223 : IVec S16 32) (v382 : IVec S16 32) (k0_hw183 : k0_chk183 v151 v223 v382), ∀ (k0_h6 : k0_cond6 v151 = 1#1), ∀ a x, ((![v223, v382] : Fin 2 → IVec S16 32) a x).toNat < S512x32.size a := fun v151 v223 v382 k0_hw183 k0_h6 => k0_hw183 k0_h6

def k0_chk184 (v151 : BitVec 32) (v390 : IVec S16 32) (v396 : IVec S16 32) : Prop :=
  (∀ (k0_h6 : k0_cond6 v151 = 1#1), ∀ a x, ((![v390, v396] : Fin 2 → IVec S16 32) a x).toNat < S32x512.size a)
theorem k0_idx185_inb : ∀ (v151 : BitVec 32) (v390 : IVec S16 32) (v396 : IVec S16 32) (k0_hw184 : k0_chk184 v151 v390 v396), ∀ (k0_h6 : k0_cond6 v151 = 1#1), ∀ a x, ((![v390, v396] : Fin 2 → IVec S16 32) a x).toNat < S32x512.size a := fun v151 v390 v396 k0_hw184 k0_h6 => k0_hw184 k0_h6

def k0_chk185 (v151 : BitVec 32) (v223 : IVec S16 32) (v390 : IVec S16 32) : Prop :=
  (∀ (k0_h6 : k0_cond6 v151 = 1#1), ∀ a x, ((![v223, v390] : Fin 2 → IVec S16 32) a x).toNat < S512x32.size a)
theorem k0_idx186_inb : ∀ (v151 : BitVec 32) (v223 : IVec S16 32) (v390 : IVec S16 32) (k0_hw185 : k0_chk185 v151 v223 v390), ∀ (k0_h6 : k0_cond6 v151 = 1#1), ∀ a x, ((![v223, v390] : Fin 2 → IVec S16 32) a x).toNat < S512x32.size a := fun v151 v223 v390 k0_hw185 k0_h6 => k0_hw185 k0_h6

def k0_chk186 (v151 : BitVec 32) (v398 : IVec S16 32) (v404 : IVec S16 32) : Prop :=
  (∀ (k0_h6 : k0_cond6 v151 = 1#1), ∀ a x, ((![v398, v404] : Fin 2 → IVec S16 32) a x).toNat < S32x512.size a)
theorem k0_idx187_inb : ∀ (v151 : BitVec 32) (v398 : IVec S16 32) (v404 : IVec S16 32) (k0_hw186 : k0_chk186 v151 v398 v404), ∀ (k0_h6 : k0_cond6 v151 = 1#1), ∀ a x, ((![v398, v404] : Fin 2 → IVec S16 32) a x).toNat < S32x512.size a := fun v151 v398 v404 k0_hw186 k0_h6 => k0_hw186 k0_h6

def k0_chk187 (v151 : BitVec 32) (v223 : IVec S16 32) (v398 : IVec S16 32) : Prop :=
  (∀ (k0_h6 : k0_cond6 v151 = 1#1), ∀ a x, ((![v223, v398] : Fin 2 → IVec S16 32) a x).toNat < S512x32.size a)
theorem k0_idx188_inb : ∀ (v151 : BitVec 32) (v223 : IVec S16 32) (v398 : IVec S16 32) (k0_hw187 : k0_chk187 v151 v223 v398), ∀ (k0_h6 : k0_cond6 v151 = 1#1), ∀ a x, ((![v223, v398] : Fin 2 → IVec S16 32) a x).toNat < S512x32.size a := fun v151 v223 v398 k0_hw187 k0_h6 => k0_hw187 k0_h6

def k0_chk188 (v151 : BitVec 32) (v406 : IVec S16 32) (v412 : IVec S16 32) : Prop :=
  (∀ (k0_h6 : k0_cond6 v151 = 1#1), ∀ a x, ((![v406, v412] : Fin 2 → IVec S16 32) a x).toNat < S32x512.size a)
theorem k0_idx189_inb : ∀ (v151 : BitVec 32) (v406 : IVec S16 32) (v412 : IVec S16 32) (k0_hw188 : k0_chk188 v151 v406 v412), ∀ (k0_h6 : k0_cond6 v151 = 1#1), ∀ a x, ((![v406, v412] : Fin 2 → IVec S16 32) a x).toNat < S32x512.size a := fun v151 v406 v412 k0_hw188 k0_h6 => k0_hw188 k0_h6

def k0_chk189 (v151 : BitVec 32) (v223 : IVec S16 32) (v406 : IVec S16 32) : Prop :=
  (∀ (k0_h6 : k0_cond6 v151 = 1#1), ∀ a x, ((![v223, v406] : Fin 2 → IVec S16 32) a x).toNat < S512x32.size a)
theorem k0_idx190_inb : ∀ (v151 : BitVec 32) (v223 : IVec S16 32) (v406 : IVec S16 32) (k0_hw189 : k0_chk189 v151 v223 v406), ∀ (k0_h6 : k0_cond6 v151 = 1#1), ∀ a x, ((![v223, v406] : Fin 2 → IVec S16 32) a x).toNat < S512x32.size a := fun v151 v223 v406 k0_hw189 k0_h6 => k0_hw189 k0_h6

def k0_chk190 (v151 : BitVec 32) (v414 : IVec S16 32) (v420 : IVec S16 32) : Prop :=
  (∀ (k0_h6 : k0_cond6 v151 = 1#1), ∀ a x, ((![v414, v420] : Fin 2 → IVec S16 32) a x).toNat < S32x512.size a)
theorem k0_idx191_inb : ∀ (v151 : BitVec 32) (v414 : IVec S16 32) (v420 : IVec S16 32) (k0_hw190 : k0_chk190 v151 v414 v420), ∀ (k0_h6 : k0_cond6 v151 = 1#1), ∀ a x, ((![v414, v420] : Fin 2 → IVec S16 32) a x).toNat < S32x512.size a := fun v151 v414 v420 k0_hw190 k0_h6 => k0_hw190 k0_h6

def k0_chk191 (v151 : BitVec 32) (v223 : IVec S16 32) (v414 : IVec S16 32) : Prop :=
  (∀ (k0_h6 : k0_cond6 v151 = 1#1), ∀ a x, ((![v223, v414] : Fin 2 → IVec S16 32) a x).toNat < S512x32.size a)
theorem k0_idx192_inb : ∀ (v151 : BitVec 32) (v223 : IVec S16 32) (v414 : IVec S16 32) (k0_hw191 : k0_chk191 v151 v223 v414), ∀ (k0_h6 : k0_cond6 v151 = 1#1), ∀ a x, ((![v223, v414] : Fin 2 → IVec S16 32) a x).toNat < S512x32.size a := fun v151 v223 v414 k0_hw191 k0_h6 => k0_hw191 k0_h6

def k0_chk192 (v151 : BitVec 32) (v422 : IVec S16 32) (v428 : IVec S16 32) : Prop :=
  (∀ (k0_h6 : k0_cond6 v151 = 1#1), ∀ a x, ((![v422, v428] : Fin 2 → IVec S16 32) a x).toNat < S32x512.size a)
theorem k0_idx193_inb : ∀ (v151 : BitVec 32) (v422 : IVec S16 32) (v428 : IVec S16 32) (k0_hw192 : k0_chk192 v151 v422 v428), ∀ (k0_h6 : k0_cond6 v151 = 1#1), ∀ a x, ((![v422, v428] : Fin 2 → IVec S16 32) a x).toNat < S32x512.size a := fun v151 v422 v428 k0_hw192 k0_h6 => k0_hw192 k0_h6

def k0_chk193 (v151 : BitVec 32) (v223 : IVec S16 32) (v422 : IVec S16 32) : Prop :=
  (∀ (k0_h6 : k0_cond6 v151 = 1#1), ∀ a x, ((![v223, v422] : Fin 2 → IVec S16 32) a x).toNat < S512x32.size a)
theorem k0_idx194_inb : ∀ (v151 : BitVec 32) (v223 : IVec S16 32) (v422 : IVec S16 32) (k0_hw193 : k0_chk193 v151 v223 v422), ∀ (k0_h6 : k0_cond6 v151 = 1#1), ∀ a x, ((![v223, v422] : Fin 2 → IVec S16 32) a x).toNat < S512x32.size a := fun v151 v223 v422 k0_hw193 k0_h6 => k0_hw193 k0_h6

def k0_chk194 (v151 : BitVec 32) (v430 : IVec S16 32) (v436 : IVec S16 32) : Prop :=
  (∀ (k0_h6 : k0_cond6 v151 = 1#1), ∀ a x, ((![v430, v436] : Fin 2 → IVec S16 32) a x).toNat < S32x512.size a)
theorem k0_idx195_inb : ∀ (v151 : BitVec 32) (v430 : IVec S16 32) (v436 : IVec S16 32) (k0_hw194 : k0_chk194 v151 v430 v436), ∀ (k0_h6 : k0_cond6 v151 = 1#1), ∀ a x, ((![v430, v436] : Fin 2 → IVec S16 32) a x).toNat < S32x512.size a := fun v151 v430 v436 k0_hw194 k0_h6 => k0_hw194 k0_h6

def k0_chk195 (v151 : BitVec 32) (v223 : IVec S16 32) (v430 : IVec S16 32) : Prop :=
  (∀ (k0_h6 : k0_cond6 v151 = 1#1), ∀ a x, ((![v223, v430] : Fin 2 → IVec S16 32) a x).toNat < S512x32.size a)
theorem k0_idx196_inb : ∀ (v151 : BitVec 32) (v223 : IVec S16 32) (v430 : IVec S16 32) (k0_hw195 : k0_chk195 v151 v223 v430), ∀ (k0_h6 : k0_cond6 v151 = 1#1), ∀ a x, ((![v223, v430] : Fin 2 → IVec S16 32) a x).toNat < S512x32.size a := fun v151 v223 v430 k0_hw195 k0_h6 => k0_hw195 k0_h6

def k0_chk196 (v151 : BitVec 32) (v438 : IVec S16 32) (v444 : IVec S16 32) : Prop :=
  (∀ (k0_h6 : k0_cond6 v151 = 1#1), ∀ a x, ((![v438, v444] : Fin 2 → IVec S16 32) a x).toNat < S32x512.size a)
theorem k0_idx197_inb : ∀ (v151 : BitVec 32) (v438 : IVec S16 32) (v444 : IVec S16 32) (k0_hw196 : k0_chk196 v151 v438 v444), ∀ (k0_h6 : k0_cond6 v151 = 1#1), ∀ a x, ((![v438, v444] : Fin 2 → IVec S16 32) a x).toNat < S32x512.size a := fun v151 v438 v444 k0_hw196 k0_h6 => k0_hw196 k0_h6

def k0_chk197 (v151 : BitVec 32) (v223 : IVec S16 32) (v438 : IVec S16 32) : Prop :=
  (∀ (k0_h6 : k0_cond6 v151 = 1#1), ∀ a x, ((![v223, v438] : Fin 2 → IVec S16 32) a x).toNat < S512x32.size a)
theorem k0_idx198_inb : ∀ (v151 : BitVec 32) (v223 : IVec S16 32) (v438 : IVec S16 32) (k0_hw197 : k0_chk197 v151 v223 v438), ∀ (k0_h6 : k0_cond6 v151 = 1#1), ∀ a x, ((![v223, v438] : Fin 2 → IVec S16 32) a x).toNat < S512x32.size a := fun v151 v223 v438 k0_hw197 k0_h6 => k0_hw197 k0_h6

def k0_chk198 (v151 : BitVec 32) (v446 : IVec S16 32) (v452 : IVec S16 32) : Prop :=
  (∀ (k0_h6 : k0_cond6 v151 = 1#1), ∀ a x, ((![v446, v452] : Fin 2 → IVec S16 32) a x).toNat < S32x512.size a)
theorem k0_idx199_inb : ∀ (v151 : BitVec 32) (v446 : IVec S16 32) (v452 : IVec S16 32) (k0_hw198 : k0_chk198 v151 v446 v452), ∀ (k0_h6 : k0_cond6 v151 = 1#1), ∀ a x, ((![v446, v452] : Fin 2 → IVec S16 32) a x).toNat < S32x512.size a := fun v151 v446 v452 k0_hw198 k0_h6 => k0_hw198 k0_h6

def k0_chk199 (v151 : BitVec 32) (v223 : IVec S16 32) (v446 : IVec S16 32) : Prop :=
  (∀ (k0_h6 : k0_cond6 v151 = 1#1), ∀ a x, ((![v223, v446] : Fin 2 → IVec S16 32) a x).toNat < S512x32.size a)
theorem k0_idx200_inb : ∀ (v151 : BitVec 32) (v223 : IVec S16 32) (v446 : IVec S16 32) (k0_hw199 : k0_chk199 v151 v223 v446), ∀ (k0_h6 : k0_cond6 v151 = 1#1), ∀ a x, ((![v223, v446] : Fin 2 → IVec S16 32) a x).toNat < S512x32.size a := fun v151 v223 v446 k0_hw199 k0_h6 => k0_hw199 k0_h6

def k0_chk200 (v151 : BitVec 32) (v454 : IVec S16 32) (v460 : IVec S16 32) : Prop :=
  (∀ (k0_h6 : k0_cond6 v151 = 1#1), ∀ a x, ((![v454, v460] : Fin 2 → IVec S16 32) a x).toNat < S32x512.size a)
theorem k0_idx201_inb : ∀ (v151 : BitVec 32) (v454 : IVec S16 32) (v460 : IVec S16 32) (k0_hw200 : k0_chk200 v151 v454 v460), ∀ (k0_h6 : k0_cond6 v151 = 1#1), ∀ a x, ((![v454, v460] : Fin 2 → IVec S16 32) a x).toNat < S32x512.size a := fun v151 v454 v460 k0_hw200 k0_h6 => k0_hw200 k0_h6

def k0_chk201 (v151 : BitVec 32) (v223 : IVec S16 32) (v454 : IVec S16 32) : Prop :=
  (∀ (k0_h6 : k0_cond6 v151 = 1#1), ∀ a x, ((![v223, v454] : Fin 2 → IVec S16 32) a x).toNat < S512x32.size a)
theorem k0_idx202_inb : ∀ (v151 : BitVec 32) (v223 : IVec S16 32) (v454 : IVec S16 32) (k0_hw201 : k0_chk201 v151 v223 v454), ∀ (k0_h6 : k0_cond6 v151 = 1#1), ∀ a x, ((![v223, v454] : Fin 2 → IVec S16 32) a x).toNat < S512x32.size a := fun v151 v223 v454 k0_hw201 k0_h6 => k0_hw201 k0_h6

def k0_chk202 (v151 : BitVec 32) (v462 : IVec S16 32) (v468 : IVec S16 32) : Prop :=
  (∀ (k0_h6 : k0_cond6 v151 = 1#1), ∀ a x, ((![v462, v468] : Fin 2 → IVec S16 32) a x).toNat < S32x512.size a)
theorem k0_idx203_inb : ∀ (v151 : BitVec 32) (v462 : IVec S16 32) (v468 : IVec S16 32) (k0_hw202 : k0_chk202 v151 v462 v468), ∀ (k0_h6 : k0_cond6 v151 = 1#1), ∀ a x, ((![v462, v468] : Fin 2 → IVec S16 32) a x).toNat < S32x512.size a := fun v151 v462 v468 k0_hw202 k0_h6 => k0_hw202 k0_h6

def k0_chk203 (v151 : BitVec 32) (v223 : IVec S16 32) (v462 : IVec S16 32) : Prop :=
  (∀ (k0_h6 : k0_cond6 v151 = 1#1), ∀ a x, ((![v223, v462] : Fin 2 → IVec S16 32) a x).toNat < S512x32.size a)
theorem k0_idx204_inb : ∀ (v151 : BitVec 32) (v223 : IVec S16 32) (v462 : IVec S16 32) (k0_hw203 : k0_chk203 v151 v223 v462), ∀ (k0_h6 : k0_cond6 v151 = 1#1), ∀ a x, ((![v223, v462] : Fin 2 → IVec S16 32) a x).toNat < S512x32.size a := fun v151 v223 v462 k0_hw203 k0_h6 => k0_hw203 k0_h6

def k0_chk204 (v151 : BitVec 32) (v470 : IVec S16 32) (v476 : IVec S16 32) : Prop :=
  (∀ (k0_h6 : k0_cond6 v151 = 1#1), ∀ a x, ((![v470, v476] : Fin 2 → IVec S16 32) a x).toNat < S32x512.size a)
theorem k0_idx205_inb : ∀ (v151 : BitVec 32) (v470 : IVec S16 32) (v476 : IVec S16 32) (k0_hw204 : k0_chk204 v151 v470 v476), ∀ (k0_h6 : k0_cond6 v151 = 1#1), ∀ a x, ((![v470, v476] : Fin 2 → IVec S16 32) a x).toNat < S32x512.size a := fun v151 v470 v476 k0_hw204 k0_h6 => k0_hw204 k0_h6

def k0_chk205 (v151 : BitVec 32) (v223 : IVec S16 32) (v470 : IVec S16 32) : Prop :=
  (∀ (k0_h6 : k0_cond6 v151 = 1#1), ∀ a x, ((![v223, v470] : Fin 2 → IVec S16 32) a x).toNat < S512x32.size a)
theorem k0_idx206_inb : ∀ (v151 : BitVec 32) (v223 : IVec S16 32) (v470 : IVec S16 32) (k0_hw205 : k0_chk205 v151 v223 v470), ∀ (k0_h6 : k0_cond6 v151 = 1#1), ∀ a x, ((![v223, v470] : Fin 2 → IVec S16 32) a x).toNat < S512x32.size a := fun v151 v223 v470 k0_hw205 k0_h6 => k0_hw205 k0_h6

def k0_chk206 (v151 : BitVec 32) (v478 : IVec S16 32) (v484 : IVec S16 32) : Prop :=
  (∀ (k0_h6 : k0_cond6 v151 = 1#1), ∀ a x, ((![v478, v484] : Fin 2 → IVec S16 32) a x).toNat < S32x512.size a)
theorem k0_idx207_inb : ∀ (v151 : BitVec 32) (v478 : IVec S16 32) (v484 : IVec S16 32) (k0_hw206 : k0_chk206 v151 v478 v484), ∀ (k0_h6 : k0_cond6 v151 = 1#1), ∀ a x, ((![v478, v484] : Fin 2 → IVec S16 32) a x).toNat < S32x512.size a := fun v151 v478 v484 k0_hw206 k0_h6 => k0_hw206 k0_h6

def k0_chk207 (v151 : BitVec 32) (v223 : IVec S16 32) (v478 : IVec S16 32) : Prop :=
  (∀ (k0_h6 : k0_cond6 v151 = 1#1), ∀ a x, ((![v223, v478] : Fin 2 → IVec S16 32) a x).toNat < S512x32.size a)
theorem k0_idx208_inb : ∀ (v151 : BitVec 32) (v223 : IVec S16 32) (v478 : IVec S16 32) (k0_hw207 : k0_chk207 v151 v223 v478), ∀ (k0_h6 : k0_cond6 v151 = 1#1), ∀ a x, ((![v223, v478] : Fin 2 → IVec S16 32) a x).toNat < S512x32.size a := fun v151 v223 v478 k0_hw207 k0_h6 => k0_hw207 k0_h6
@[reducible] def k0_t16_loop (v151 : BitVec 32) : Scf.Loop 32 :=
  let c0_i32_211 : BitVec 32 := 0#32
  let c15_i32 : BitVec 32 := 15#32
  let v191 : BitVec 32 := Scalar.addi v151 c15_i32
  let c0_i32_205 : BitVec 32 := 0#32
  let v193 : BitVec 1 := Scalar.cmpi .sgt v191 c0_i32_205
  let v194 : BitVec 32 := Scalar.extui v193
  let c0_i32_206 : BitVec 32 := 0#32
  let v195 : BitVec 1 := Scalar.cmpi .slt v191 c0_i32_206
  let v196 : BitVec 32 := Scalar.extui v195
  let v197 : BitVec 32 := Scalar.subi v194 v196
  let c16_i32 : BitVec 32 := 16#32
  let c0_i32_207 : BitVec 32 := 0#32
  let v198 : BitVec 1 := Scalar.cmpi .sgt c16_i32 c0_i32_207
  let v199 : BitVec 32 := Scalar.extui v198
  let c0_i32_208 : BitVec 32 := 0#32
  let v200 : BitVec 1 := Scalar.cmpi .slt c16_i32 c0_i32_208
  let v201 : BitVec 32 := Scalar.extui v200
  let v202 : BitVec 32 := Scalar.subi v199 v201
  let v203 : BitVec 1 := Scalar.cmpi .ne v197 v202
  let v204 : BitVec 32 := Scalar.remsi v191 c16_i32
  let c0_i32_209 : BitVec 32 := 0#32
  let v205 : BitVec 1 := Scalar.cmpi .ne v204 c0_i32_209
  let v206 : BitVec 1 := Scalar.andi v203 v205
  let v192 : BitVec 32 := Scalar.divsi v191 c16_i32
  let c1_i32_210 : BitVec 32 := 1#32
  let v207 : BitVec 32 := Scalar.subi v192 c1_i32_210
  let v208 : BitVec 32 := Scalar.select v206 v207 v192
  let v209 : BitVec 32 := Scalar.subi v208 c0_i32_211
  let c1_i32_213 : BitVec 32 := 1#32
  let v211 : BitVec 32 := Scalar.divsi v209 c1_i32_213
  let v212 : BitVec 32 := Scalar.muli v211 c1_i32_213
  let v213 : BitVec 32 := Scalar.addi c0_i32_211 v212
  let v210 : BitVec 32 := Scalar.addi c0_i32_211 v209
  let c1_i32_215 : BitVec 32 := 1#32
  ⟨v213, v210, c1_i32_215⟩
def k0_off17 (v151 : BitVec 32) (k0_t16 : Fin (k0_t16_loop v151).trips) : Fin 1 → Nat :=
  let c0_i32_211 : BitVec 32 := 0#32
  let c15_i32 : BitVec 32 := 15#32
  let v191 : BitVec 32 := Scalar.addi v151 c15_i32
  let c0_i32_205 : BitVec 32 := 0#32
  let v193 : BitVec 1 := Scalar.cmpi .sgt v191 c0_i32_205
  let v194 : BitVec 32 := Scalar.extui v193
  let c0_i32_206 : BitVec 32 := 0#32
  let v195 : BitVec 1 := Scalar.cmpi .slt v191 c0_i32_206
  let v196 : BitVec 32 := Scalar.extui v195
  let v197 : BitVec 32 := Scalar.subi v194 v196
  let c16_i32 : BitVec 32 := 16#32
  let c0_i32_207 : BitVec 32 := 0#32
  let v198 : BitVec 1 := Scalar.cmpi .sgt c16_i32 c0_i32_207
  let v199 : BitVec 32 := Scalar.extui v198
  let c0_i32_208 : BitVec 32 := 0#32
  let v200 : BitVec 1 := Scalar.cmpi .slt c16_i32 c0_i32_208
  let v201 : BitVec 32 := Scalar.extui v200
  let v202 : BitVec 32 := Scalar.subi v199 v201
  let v203 : BitVec 1 := Scalar.cmpi .ne v197 v202
  let v204 : BitVec 32 := Scalar.remsi v191 c16_i32
  let c0_i32_209 : BitVec 32 := 0#32
  let v205 : BitVec 1 := Scalar.cmpi .ne v204 c0_i32_209
  let v206 : BitVec 1 := Scalar.andi v203 v205
  let v192 : BitVec 32 := Scalar.divsi v191 c16_i32
  let c1_i32_210 : BitVec 32 := 1#32
  let v207 : BitVec 32 := Scalar.subi v192 c1_i32_210
  let v208 : BitVec 32 := Scalar.select v206 v207 v192
  let v209 : BitVec 32 := Scalar.subi v208 c0_i32_211
  let c1_i32_213 : BitVec 32 := 1#32
  let v211 : BitVec 32 := Scalar.divsi v209 c1_i32_213
  let v212 : BitVec 32 := Scalar.muli v211 c1_i32_213
  let v213 : BitVec 32 := Scalar.addi c0_i32_211 v212
  let c1_i32_215 : BitVec 32 := 1#32
  let arg26 : BitVec 32 := Scf.iv v213 c1_i32_215 k0_t16
  let c16_i32_217 : BitVec 32 := 16#32
  let v221 : BitVec 32 := Scalar.muli arg26 c16_i32_217
  let v222 : Index := Scalar.indexCast v221
  ![v222.toNat]

def k0_chk141 (v151 : BitVec 32) : Prop :=
  (∀ (k0_h6 : k0_cond6 v151 = 1#1), (k0_t15_loop v151).OK) ∧
  (∀ k0_t15 : Fin (k0_t15_loop v151).trips, ∀ (k0_h6 : k0_cond6 v151 = 1#1), ∀ a, (k0_off16 v151 k0_t15) a + S16.size a ≤ S512.size a) ∧
  (∀ (k0_h6 : k0_cond6 v151 = 1#1), (k0_t16_loop v151).OK) ∧
  (∀ k0_t16 : Fin (k0_t16_loop v151).trips, ∀ (k0_h6 : k0_cond6 v151 = 1#1), ∀ a, (k0_off17 v151 k0_t16) a + S16.size a ≤ S512.size a)
theorem k0_t15_ok : ∀ (v151 : BitVec 32) (k0_hw141 : k0_chk141 v151), ∀ (k0_h6 : k0_cond6 v151 = 1#1), (k0_t15_loop v151).OK := fun v151 k0_hw141 k0_h6 => k0_hw141.1 k0_h6
theorem k0_off16_inb : ∀ (v151 : BitVec 32) (k0_hw141 : k0_chk141 v151) (k0_t15 : Fin (k0_t15_loop v151).trips), ∀ (k0_h6 : k0_cond6 v151 = 1#1), ∀ a, (k0_off16 v151 k0_t15) a + S16.size a ≤ S512.size a := fun v151 k0_hw141 k0_t15 k0_h6 => k0_hw141.2.1 k0_t15 k0_h6
theorem k0_t16_ok : ∀ (v151 : BitVec 32) (k0_hw141 : k0_chk141 v151), ∀ (k0_h6 : k0_cond6 v151 = 1#1), (k0_t16_loop v151).OK := fun v151 k0_hw141 k0_h6 => k0_hw141.2.2.1 k0_h6
theorem k0_off17_inb : ∀ (v151 : BitVec 32) (k0_hw141 : k0_chk141 v151) (k0_t16 : Fin (k0_t16_loop v151).trips), ∀ (k0_h6 : k0_cond6 v151 = 1#1), ∀ a, (k0_off17 v151 k0_t16) a + S16.size a ≤ S512.size a := fun v151 k0_hw141 k0_t16 k0_h6 => k0_hw141.2.2.2 k0_t16 k0_h6

def k0_chk208 (v151 : BitVec 32) (v223 : IVec S16 32) : Prop :=
  (∀ (k0_h6 : k0_cond6 v151 = 1#1), ∀ a x, ((![v223] : Fin 1 → IVec S16 32) a x).toNat < S1024.size a) ∧
  (∀ (k0_h6 : k0_cond6 v151 = 1#1), ∀ a x, ((![v223] : Fin 1 → IVec S16 32) a x).toNat < S1024.size a)
theorem k0_idx209_inb : ∀ (v151 : BitVec 32) (v223 : IVec S16 32) (k0_hw208 : k0_chk208 v151 v223), ∀ (k0_h6 : k0_cond6 v151 = 1#1), ∀ a x, ((![v223] : Fin 1 → IVec S16 32) a x).toNat < S1024.size a := fun v151 v223 k0_hw208 k0_h6 => k0_hw208.1 k0_h6
theorem k0_idx210_inb : ∀ (v151 : BitVec 32) (v223 : IVec S16 32) (k0_hw208 : k0_chk208 v151 v223), ∀ (k0_h6 : k0_cond6 v151 = 1#1), ∀ a x, ((![v223] : Fin 1 → IVec S16 32) a x).toNat < S1024.size a := fun v151 v223 k0_hw208 k0_h6 => k0_hw208.2 k0_h6

def k0_chk209 (v151 : BitVec 32) (v227 : IVec S16 32) (v229 : IVec S16 32) : Prop :=
  (∀ (k0_h6 : k0_cond6 v151 = 1#1), ∀ a x, ((![v227, v229] : Fin 2 → IVec S16 32) a x).toNat < S8x64.size a)
theorem k0_idx211_inb : ∀ (v151 : BitVec 32) (v227 : IVec S16 32) (v229 : IVec S16 32) (k0_hw209 : k0_chk209 v151 v227 v229), ∀ (k0_h6 : k0_cond6 v151 = 1#1), ∀ a x, ((![v227, v229] : Fin 2 → IVec S16 32) a x).toNat < S8x64.size a := fun v151 v227 v229 k0_hw209 k0_h6 => k0_hw209 k0_h6

def k0_chk210 (v151 : BitVec 32) (v230 : IVec S16 32) (v236 : IVec S16 32) : Prop :=
  (∀ (k0_h6 : k0_cond6 v151 = 1#1), ∀ a x, ((![v230, v236] : Fin 2 → IVec S16 32) a x).toNat < S32x512.size a)
theorem k0_idx212_inb : ∀ (v151 : BitVec 32) (v230 : IVec S16 32) (v236 : IVec S16 32) (k0_hw210 : k0_chk210 v151 v230 v236), ∀ (k0_h6 : k0_cond6 v151 = 1#1), ∀ a x, ((![v230, v236] : Fin 2 → IVec S16 32) a x).toNat < S32x512.size a := fun v151 v230 v236 k0_hw210 k0_h6 => k0_hw210 k0_h6

def k0_chk211 (v151 : BitVec 32) (v223 : IVec S16 32) (v230 : IVec S16 32) : Prop :=
  (∀ (k0_h6 : k0_cond6 v151 = 1#1), ∀ a x, ((![v223, v230] : Fin 2 → IVec S16 32) a x).toNat < S512x32.size a)
theorem k0_idx213_inb : ∀ (v151 : BitVec 32) (v223 : IVec S16 32) (v230 : IVec S16 32) (k0_hw211 : k0_chk211 v151 v223 v230), ∀ (k0_h6 : k0_cond6 v151 = 1#1), ∀ a x, ((![v223, v230] : Fin 2 → IVec S16 32) a x).toNat < S512x32.size a := fun v151 v223 v230 k0_hw211 k0_h6 => k0_hw211 k0_h6

def k0_chk212 (v151 : BitVec 32) (v238 : IVec S16 32) (v244 : IVec S16 32) : Prop :=
  (∀ (k0_h6 : k0_cond6 v151 = 1#1), ∀ a x, ((![v238, v244] : Fin 2 → IVec S16 32) a x).toNat < S32x512.size a)
theorem k0_idx214_inb : ∀ (v151 : BitVec 32) (v238 : IVec S16 32) (v244 : IVec S16 32) (k0_hw212 : k0_chk212 v151 v238 v244), ∀ (k0_h6 : k0_cond6 v151 = 1#1), ∀ a x, ((![v238, v244] : Fin 2 → IVec S16 32) a x).toNat < S32x512.size a := fun v151 v238 v244 k0_hw212 k0_h6 => k0_hw212 k0_h6

def k0_chk213 (v151 : BitVec 32) (v223 : IVec S16 32) (v238 : IVec S16 32) : Prop :=
  (∀ (k0_h6 : k0_cond6 v151 = 1#1), ∀ a x, ((![v223, v238] : Fin 2 → IVec S16 32) a x).toNat < S512x32.size a)
theorem k0_idx215_inb : ∀ (v151 : BitVec 32) (v223 : IVec S16 32) (v238 : IVec S16 32) (k0_hw213 : k0_chk213 v151 v223 v238), ∀ (k0_h6 : k0_cond6 v151 = 1#1), ∀ a x, ((![v223, v238] : Fin 2 → IVec S16 32) a x).toNat < S512x32.size a := fun v151 v223 v238 k0_hw213 k0_h6 => k0_hw213 k0_h6

def k0_chk214 (v151 : BitVec 32) (v246 : IVec S16 32) (v252 : IVec S16 32) : Prop :=
  (∀ (k0_h6 : k0_cond6 v151 = 1#1), ∀ a x, ((![v246, v252] : Fin 2 → IVec S16 32) a x).toNat < S32x512.size a)
theorem k0_idx216_inb : ∀ (v151 : BitVec 32) (v246 : IVec S16 32) (v252 : IVec S16 32) (k0_hw214 : k0_chk214 v151 v246 v252), ∀ (k0_h6 : k0_cond6 v151 = 1#1), ∀ a x, ((![v246, v252] : Fin 2 → IVec S16 32) a x).toNat < S32x512.size a := fun v151 v246 v252 k0_hw214 k0_h6 => k0_hw214 k0_h6

def k0_chk215 (v151 : BitVec 32) (v223 : IVec S16 32) (v246 : IVec S16 32) : Prop :=
  (∀ (k0_h6 : k0_cond6 v151 = 1#1), ∀ a x, ((![v223, v246] : Fin 2 → IVec S16 32) a x).toNat < S512x32.size a)
theorem k0_idx217_inb : ∀ (v151 : BitVec 32) (v223 : IVec S16 32) (v246 : IVec S16 32) (k0_hw215 : k0_chk215 v151 v223 v246), ∀ (k0_h6 : k0_cond6 v151 = 1#1), ∀ a x, ((![v223, v246] : Fin 2 → IVec S16 32) a x).toNat < S512x32.size a := fun v151 v223 v246 k0_hw215 k0_h6 => k0_hw215 k0_h6

def k0_chk216 (v151 : BitVec 32) (v254 : IVec S16 32) (v260 : IVec S16 32) : Prop :=
  (∀ (k0_h6 : k0_cond6 v151 = 1#1), ∀ a x, ((![v254, v260] : Fin 2 → IVec S16 32) a x).toNat < S32x512.size a)
theorem k0_idx218_inb : ∀ (v151 : BitVec 32) (v254 : IVec S16 32) (v260 : IVec S16 32) (k0_hw216 : k0_chk216 v151 v254 v260), ∀ (k0_h6 : k0_cond6 v151 = 1#1), ∀ a x, ((![v254, v260] : Fin 2 → IVec S16 32) a x).toNat < S32x512.size a := fun v151 v254 v260 k0_hw216 k0_h6 => k0_hw216 k0_h6

def k0_chk217 (v151 : BitVec 32) (v223 : IVec S16 32) (v254 : IVec S16 32) : Prop :=
  (∀ (k0_h6 : k0_cond6 v151 = 1#1), ∀ a x, ((![v223, v254] : Fin 2 → IVec S16 32) a x).toNat < S512x32.size a)
theorem k0_idx219_inb : ∀ (v151 : BitVec 32) (v223 : IVec S16 32) (v254 : IVec S16 32) (k0_hw217 : k0_chk217 v151 v223 v254), ∀ (k0_h6 : k0_cond6 v151 = 1#1), ∀ a x, ((![v223, v254] : Fin 2 → IVec S16 32) a x).toNat < S512x32.size a := fun v151 v223 v254 k0_hw217 k0_h6 => k0_hw217 k0_h6

def k0_chk218 (v151 : BitVec 32) (v262 : IVec S16 32) (v268 : IVec S16 32) : Prop :=
  (∀ (k0_h6 : k0_cond6 v151 = 1#1), ∀ a x, ((![v262, v268] : Fin 2 → IVec S16 32) a x).toNat < S32x512.size a)
theorem k0_idx220_inb : ∀ (v151 : BitVec 32) (v262 : IVec S16 32) (v268 : IVec S16 32) (k0_hw218 : k0_chk218 v151 v262 v268), ∀ (k0_h6 : k0_cond6 v151 = 1#1), ∀ a x, ((![v262, v268] : Fin 2 → IVec S16 32) a x).toNat < S32x512.size a := fun v151 v262 v268 k0_hw218 k0_h6 => k0_hw218 k0_h6

def k0_chk219 (v151 : BitVec 32) (v223 : IVec S16 32) (v262 : IVec S16 32) : Prop :=
  (∀ (k0_h6 : k0_cond6 v151 = 1#1), ∀ a x, ((![v223, v262] : Fin 2 → IVec S16 32) a x).toNat < S512x32.size a)
theorem k0_idx221_inb : ∀ (v151 : BitVec 32) (v223 : IVec S16 32) (v262 : IVec S16 32) (k0_hw219 : k0_chk219 v151 v223 v262), ∀ (k0_h6 : k0_cond6 v151 = 1#1), ∀ a x, ((![v223, v262] : Fin 2 → IVec S16 32) a x).toNat < S512x32.size a := fun v151 v223 v262 k0_hw219 k0_h6 => k0_hw219 k0_h6

def k0_chk220 (v151 : BitVec 32) (v270 : IVec S16 32) (v276 : IVec S16 32) : Prop :=
  (∀ (k0_h6 : k0_cond6 v151 = 1#1), ∀ a x, ((![v270, v276] : Fin 2 → IVec S16 32) a x).toNat < S32x512.size a)
theorem k0_idx222_inb : ∀ (v151 : BitVec 32) (v270 : IVec S16 32) (v276 : IVec S16 32) (k0_hw220 : k0_chk220 v151 v270 v276), ∀ (k0_h6 : k0_cond6 v151 = 1#1), ∀ a x, ((![v270, v276] : Fin 2 → IVec S16 32) a x).toNat < S32x512.size a := fun v151 v270 v276 k0_hw220 k0_h6 => k0_hw220 k0_h6

def k0_chk221 (v151 : BitVec 32) (v223 : IVec S16 32) (v270 : IVec S16 32) : Prop :=
  (∀ (k0_h6 : k0_cond6 v151 = 1#1), ∀ a x, ((![v223, v270] : Fin 2 → IVec S16 32) a x).toNat < S512x32.size a)
theorem k0_idx223_inb : ∀ (v151 : BitVec 32) (v223 : IVec S16 32) (v270 : IVec S16 32) (k0_hw221 : k0_chk221 v151 v223 v270), ∀ (k0_h6 : k0_cond6 v151 = 1#1), ∀ a x, ((![v223, v270] : Fin 2 → IVec S16 32) a x).toNat < S512x32.size a := fun v151 v223 v270 k0_hw221 k0_h6 => k0_hw221 k0_h6

def k0_chk222 (v151 : BitVec 32) (v278 : IVec S16 32) (v284 : IVec S16 32) : Prop :=
  (∀ (k0_h6 : k0_cond6 v151 = 1#1), ∀ a x, ((![v278, v284] : Fin 2 → IVec S16 32) a x).toNat < S32x512.size a)
theorem k0_idx224_inb : ∀ (v151 : BitVec 32) (v278 : IVec S16 32) (v284 : IVec S16 32) (k0_hw222 : k0_chk222 v151 v278 v284), ∀ (k0_h6 : k0_cond6 v151 = 1#1), ∀ a x, ((![v278, v284] : Fin 2 → IVec S16 32) a x).toNat < S32x512.size a := fun v151 v278 v284 k0_hw222 k0_h6 => k0_hw222 k0_h6

def k0_chk223 (v151 : BitVec 32) (v223 : IVec S16 32) (v278 : IVec S16 32) : Prop :=
  (∀ (k0_h6 : k0_cond6 v151 = 1#1), ∀ a x, ((![v223, v278] : Fin 2 → IVec S16 32) a x).toNat < S512x32.size a)
theorem k0_idx225_inb : ∀ (v151 : BitVec 32) (v223 : IVec S16 32) (v278 : IVec S16 32) (k0_hw223 : k0_chk223 v151 v223 v278), ∀ (k0_h6 : k0_cond6 v151 = 1#1), ∀ a x, ((![v223, v278] : Fin 2 → IVec S16 32) a x).toNat < S512x32.size a := fun v151 v223 v278 k0_hw223 k0_h6 => k0_hw223 k0_h6

def k0_chk224 (v151 : BitVec 32) (v286 : IVec S16 32) (v292 : IVec S16 32) : Prop :=
  (∀ (k0_h6 : k0_cond6 v151 = 1#1), ∀ a x, ((![v286, v292] : Fin 2 → IVec S16 32) a x).toNat < S32x512.size a)
theorem k0_idx226_inb : ∀ (v151 : BitVec 32) (v286 : IVec S16 32) (v292 : IVec S16 32) (k0_hw224 : k0_chk224 v151 v286 v292), ∀ (k0_h6 : k0_cond6 v151 = 1#1), ∀ a x, ((![v286, v292] : Fin 2 → IVec S16 32) a x).toNat < S32x512.size a := fun v151 v286 v292 k0_hw224 k0_h6 => k0_hw224 k0_h6

def k0_chk225 (v151 : BitVec 32) (v223 : IVec S16 32) (v286 : IVec S16 32) : Prop :=
  (∀ (k0_h6 : k0_cond6 v151 = 1#1), ∀ a x, ((![v223, v286] : Fin 2 → IVec S16 32) a x).toNat < S512x32.size a)
theorem k0_idx227_inb : ∀ (v151 : BitVec 32) (v223 : IVec S16 32) (v286 : IVec S16 32) (k0_hw225 : k0_chk225 v151 v223 v286), ∀ (k0_h6 : k0_cond6 v151 = 1#1), ∀ a x, ((![v223, v286] : Fin 2 → IVec S16 32) a x).toNat < S512x32.size a := fun v151 v223 v286 k0_hw225 k0_h6 => k0_hw225 k0_h6

def k0_chk226 (v151 : BitVec 32) (v294 : IVec S16 32) (v300 : IVec S16 32) : Prop :=
  (∀ (k0_h6 : k0_cond6 v151 = 1#1), ∀ a x, ((![v294, v300] : Fin 2 → IVec S16 32) a x).toNat < S32x512.size a)
theorem k0_idx228_inb : ∀ (v151 : BitVec 32) (v294 : IVec S16 32) (v300 : IVec S16 32) (k0_hw226 : k0_chk226 v151 v294 v300), ∀ (k0_h6 : k0_cond6 v151 = 1#1), ∀ a x, ((![v294, v300] : Fin 2 → IVec S16 32) a x).toNat < S32x512.size a := fun v151 v294 v300 k0_hw226 k0_h6 => k0_hw226 k0_h6

def k0_chk227 (v151 : BitVec 32) (v223 : IVec S16 32) (v294 : IVec S16 32) : Prop :=
  (∀ (k0_h6 : k0_cond6 v151 = 1#1), ∀ a x, ((![v223, v294] : Fin 2 → IVec S16 32) a x).toNat < S512x32.size a)
theorem k0_idx229_inb : ∀ (v151 : BitVec 32) (v223 : IVec S16 32) (v294 : IVec S16 32) (k0_hw227 : k0_chk227 v151 v223 v294), ∀ (k0_h6 : k0_cond6 v151 = 1#1), ∀ a x, ((![v223, v294] : Fin 2 → IVec S16 32) a x).toNat < S512x32.size a := fun v151 v223 v294 k0_hw227 k0_h6 => k0_hw227 k0_h6

def k0_chk228 (v151 : BitVec 32) (v302 : IVec S16 32) (v308 : IVec S16 32) : Prop :=
  (∀ (k0_h6 : k0_cond6 v151 = 1#1), ∀ a x, ((![v302, v308] : Fin 2 → IVec S16 32) a x).toNat < S32x512.size a)
theorem k0_idx230_inb : ∀ (v151 : BitVec 32) (v302 : IVec S16 32) (v308 : IVec S16 32) (k0_hw228 : k0_chk228 v151 v302 v308), ∀ (k0_h6 : k0_cond6 v151 = 1#1), ∀ a x, ((![v302, v308] : Fin 2 → IVec S16 32) a x).toNat < S32x512.size a := fun v151 v302 v308 k0_hw228 k0_h6 => k0_hw228 k0_h6

def k0_chk229 (v151 : BitVec 32) (v223 : IVec S16 32) (v302 : IVec S16 32) : Prop :=
  (∀ (k0_h6 : k0_cond6 v151 = 1#1), ∀ a x, ((![v223, v302] : Fin 2 → IVec S16 32) a x).toNat < S512x32.size a)
theorem k0_idx231_inb : ∀ (v151 : BitVec 32) (v223 : IVec S16 32) (v302 : IVec S16 32) (k0_hw229 : k0_chk229 v151 v223 v302), ∀ (k0_h6 : k0_cond6 v151 = 1#1), ∀ a x, ((![v223, v302] : Fin 2 → IVec S16 32) a x).toNat < S512x32.size a := fun v151 v223 v302 k0_hw229 k0_h6 => k0_hw229 k0_h6

def k0_chk230 (v151 : BitVec 32) (v310 : IVec S16 32) (v316 : IVec S16 32) : Prop :=
  (∀ (k0_h6 : k0_cond6 v151 = 1#1), ∀ a x, ((![v310, v316] : Fin 2 → IVec S16 32) a x).toNat < S32x512.size a)
theorem k0_idx232_inb : ∀ (v151 : BitVec 32) (v310 : IVec S16 32) (v316 : IVec S16 32) (k0_hw230 : k0_chk230 v151 v310 v316), ∀ (k0_h6 : k0_cond6 v151 = 1#1), ∀ a x, ((![v310, v316] : Fin 2 → IVec S16 32) a x).toNat < S32x512.size a := fun v151 v310 v316 k0_hw230 k0_h6 => k0_hw230 k0_h6

def k0_chk231 (v151 : BitVec 32) (v223 : IVec S16 32) (v310 : IVec S16 32) : Prop :=
  (∀ (k0_h6 : k0_cond6 v151 = 1#1), ∀ a x, ((![v223, v310] : Fin 2 → IVec S16 32) a x).toNat < S512x32.size a)
theorem k0_idx233_inb : ∀ (v151 : BitVec 32) (v223 : IVec S16 32) (v310 : IVec S16 32) (k0_hw231 : k0_chk231 v151 v223 v310), ∀ (k0_h6 : k0_cond6 v151 = 1#1), ∀ a x, ((![v223, v310] : Fin 2 → IVec S16 32) a x).toNat < S512x32.size a := fun v151 v223 v310 k0_hw231 k0_h6 => k0_hw231 k0_h6

def k0_chk232 (v151 : BitVec 32) (v318 : IVec S16 32) (v324 : IVec S16 32) : Prop :=
  (∀ (k0_h6 : k0_cond6 v151 = 1#1), ∀ a x, ((![v318, v324] : Fin 2 → IVec S16 32) a x).toNat < S32x512.size a)
theorem k0_idx234_inb : ∀ (v151 : BitVec 32) (v318 : IVec S16 32) (v324 : IVec S16 32) (k0_hw232 : k0_chk232 v151 v318 v324), ∀ (k0_h6 : k0_cond6 v151 = 1#1), ∀ a x, ((![v318, v324] : Fin 2 → IVec S16 32) a x).toNat < S32x512.size a := fun v151 v318 v324 k0_hw232 k0_h6 => k0_hw232 k0_h6

def k0_chk233 (v151 : BitVec 32) (v223 : IVec S16 32) (v318 : IVec S16 32) : Prop :=
  (∀ (k0_h6 : k0_cond6 v151 = 1#1), ∀ a x, ((![v223, v318] : Fin 2 → IVec S16 32) a x).toNat < S512x32.size a)
theorem k0_idx235_inb : ∀ (v151 : BitVec 32) (v223 : IVec S16 32) (v318 : IVec S16 32) (k0_hw233 : k0_chk233 v151 v223 v318), ∀ (k0_h6 : k0_cond6 v151 = 1#1), ∀ a x, ((![v223, v318] : Fin 2 → IVec S16 32) a x).toNat < S512x32.size a := fun v151 v223 v318 k0_hw233 k0_h6 => k0_hw233 k0_h6

def k0_chk234 (v151 : BitVec 32) (v326 : IVec S16 32) (v332 : IVec S16 32) : Prop :=
  (∀ (k0_h6 : k0_cond6 v151 = 1#1), ∀ a x, ((![v326, v332] : Fin 2 → IVec S16 32) a x).toNat < S32x512.size a)
theorem k0_idx236_inb : ∀ (v151 : BitVec 32) (v326 : IVec S16 32) (v332 : IVec S16 32) (k0_hw234 : k0_chk234 v151 v326 v332), ∀ (k0_h6 : k0_cond6 v151 = 1#1), ∀ a x, ((![v326, v332] : Fin 2 → IVec S16 32) a x).toNat < S32x512.size a := fun v151 v326 v332 k0_hw234 k0_h6 => k0_hw234 k0_h6

def k0_chk235 (v151 : BitVec 32) (v223 : IVec S16 32) (v326 : IVec S16 32) : Prop :=
  (∀ (k0_h6 : k0_cond6 v151 = 1#1), ∀ a x, ((![v223, v326] : Fin 2 → IVec S16 32) a x).toNat < S512x32.size a)
theorem k0_idx237_inb : ∀ (v151 : BitVec 32) (v223 : IVec S16 32) (v326 : IVec S16 32) (k0_hw235 : k0_chk235 v151 v223 v326), ∀ (k0_h6 : k0_cond6 v151 = 1#1), ∀ a x, ((![v223, v326] : Fin 2 → IVec S16 32) a x).toNat < S512x32.size a := fun v151 v223 v326 k0_hw235 k0_h6 => k0_hw235 k0_h6

def k0_chk236 (v151 : BitVec 32) (v334 : IVec S16 32) (v340 : IVec S16 32) : Prop :=
  (∀ (k0_h6 : k0_cond6 v151 = 1#1), ∀ a x, ((![v334, v340] : Fin 2 → IVec S16 32) a x).toNat < S32x512.size a)
theorem k0_idx238_inb : ∀ (v151 : BitVec 32) (v334 : IVec S16 32) (v340 : IVec S16 32) (k0_hw236 : k0_chk236 v151 v334 v340), ∀ (k0_h6 : k0_cond6 v151 = 1#1), ∀ a x, ((![v334, v340] : Fin 2 → IVec S16 32) a x).toNat < S32x512.size a := fun v151 v334 v340 k0_hw236 k0_h6 => k0_hw236 k0_h6

def k0_chk237 (v151 : BitVec 32) (v223 : IVec S16 32) (v334 : IVec S16 32) : Prop :=
  (∀ (k0_h6 : k0_cond6 v151 = 1#1), ∀ a x, ((![v223, v334] : Fin 2 → IVec S16 32) a x).toNat < S512x32.size a)
theorem k0_idx239_inb : ∀ (v151 : BitVec 32) (v223 : IVec S16 32) (v334 : IVec S16 32) (k0_hw237 : k0_chk237 v151 v223 v334), ∀ (k0_h6 : k0_cond6 v151 = 1#1), ∀ a x, ((![v223, v334] : Fin 2 → IVec S16 32) a x).toNat < S512x32.size a := fun v151 v223 v334 k0_hw237 k0_h6 => k0_hw237 k0_h6

def k0_chk238 (v151 : BitVec 32) (v342 : IVec S16 32) (v348 : IVec S16 32) : Prop :=
  (∀ (k0_h6 : k0_cond6 v151 = 1#1), ∀ a x, ((![v342, v348] : Fin 2 → IVec S16 32) a x).toNat < S32x512.size a)
theorem k0_idx240_inb : ∀ (v151 : BitVec 32) (v342 : IVec S16 32) (v348 : IVec S16 32) (k0_hw238 : k0_chk238 v151 v342 v348), ∀ (k0_h6 : k0_cond6 v151 = 1#1), ∀ a x, ((![v342, v348] : Fin 2 → IVec S16 32) a x).toNat < S32x512.size a := fun v151 v342 v348 k0_hw238 k0_h6 => k0_hw238 k0_h6

def k0_chk239 (v151 : BitVec 32) (v223 : IVec S16 32) (v342 : IVec S16 32) : Prop :=
  (∀ (k0_h6 : k0_cond6 v151 = 1#1), ∀ a x, ((![v223, v342] : Fin 2 → IVec S16 32) a x).toNat < S512x32.size a)
theorem k0_idx241_inb : ∀ (v151 : BitVec 32) (v223 : IVec S16 32) (v342 : IVec S16 32) (k0_hw239 : k0_chk239 v151 v223 v342), ∀ (k0_h6 : k0_cond6 v151 = 1#1), ∀ a x, ((![v223, v342] : Fin 2 → IVec S16 32) a x).toNat < S512x32.size a := fun v151 v223 v342 k0_hw239 k0_h6 => k0_hw239 k0_h6

def k0_chk240 (v151 : BitVec 32) (v350 : IVec S16 32) (v356 : IVec S16 32) : Prop :=
  (∀ (k0_h6 : k0_cond6 v151 = 1#1), ∀ a x, ((![v350, v356] : Fin 2 → IVec S16 32) a x).toNat < S32x512.size a)
theorem k0_idx242_inb : ∀ (v151 : BitVec 32) (v350 : IVec S16 32) (v356 : IVec S16 32) (k0_hw240 : k0_chk240 v151 v350 v356), ∀ (k0_h6 : k0_cond6 v151 = 1#1), ∀ a x, ((![v350, v356] : Fin 2 → IVec S16 32) a x).toNat < S32x512.size a := fun v151 v350 v356 k0_hw240 k0_h6 => k0_hw240 k0_h6

def k0_chk241 (v151 : BitVec 32) (v223 : IVec S16 32) (v350 : IVec S16 32) : Prop :=
  (∀ (k0_h6 : k0_cond6 v151 = 1#1), ∀ a x, ((![v223, v350] : Fin 2 → IVec S16 32) a x).toNat < S512x32.size a)
theorem k0_idx243_inb : ∀ (v151 : BitVec 32) (v223 : IVec S16 32) (v350 : IVec S16 32) (k0_hw241 : k0_chk241 v151 v223 v350), ∀ (k0_h6 : k0_cond6 v151 = 1#1), ∀ a x, ((![v223, v350] : Fin 2 → IVec S16 32) a x).toNat < S512x32.size a := fun v151 v223 v350 k0_hw241 k0_h6 => k0_hw241 k0_h6

def k0_chk242 (v151 : BitVec 32) (v358 : IVec S16 32) (v364 : IVec S16 32) : Prop :=
  (∀ (k0_h6 : k0_cond6 v151 = 1#1), ∀ a x, ((![v358, v364] : Fin 2 → IVec S16 32) a x).toNat < S32x512.size a)
theorem k0_idx244_inb : ∀ (v151 : BitVec 32) (v358 : IVec S16 32) (v364 : IVec S16 32) (k0_hw242 : k0_chk242 v151 v358 v364), ∀ (k0_h6 : k0_cond6 v151 = 1#1), ∀ a x, ((![v358, v364] : Fin 2 → IVec S16 32) a x).toNat < S32x512.size a := fun v151 v358 v364 k0_hw242 k0_h6 => k0_hw242 k0_h6

def k0_chk243 (v151 : BitVec 32) (v223 : IVec S16 32) (v358 : IVec S16 32) : Prop :=
  (∀ (k0_h6 : k0_cond6 v151 = 1#1), ∀ a x, ((![v223, v358] : Fin 2 → IVec S16 32) a x).toNat < S512x32.size a)
theorem k0_idx245_inb : ∀ (v151 : BitVec 32) (v223 : IVec S16 32) (v358 : IVec S16 32) (k0_hw243 : k0_chk243 v151 v223 v358), ∀ (k0_h6 : k0_cond6 v151 = 1#1), ∀ a x, ((![v223, v358] : Fin 2 → IVec S16 32) a x).toNat < S512x32.size a := fun v151 v223 v358 k0_hw243 k0_h6 => k0_hw243 k0_h6

def k0_chk244 (v151 : BitVec 32) (v366 : IVec S16 32) (v372 : IVec S16 32) : Prop :=
  (∀ (k0_h6 : k0_cond6 v151 = 1#1), ∀ a x, ((![v366, v372] : Fin 2 → IVec S16 32) a x).toNat < S32x512.size a)
theorem k0_idx246_inb : ∀ (v151 : BitVec 32) (v366 : IVec S16 32) (v372 : IVec S16 32) (k0_hw244 : k0_chk244 v151 v366 v372), ∀ (k0_h6 : k0_cond6 v151 = 1#1), ∀ a x, ((![v366, v372] : Fin 2 → IVec S16 32) a x).toNat < S32x512.size a := fun v151 v366 v372 k0_hw244 k0_h6 => k0_hw244 k0_h6

def k0_chk245 (v151 : BitVec 32) (v223 : IVec S16 32) (v366 : IVec S16 32) : Prop :=
  (∀ (k0_h6 : k0_cond6 v151 = 1#1), ∀ a x, ((![v223, v366] : Fin 2 → IVec S16 32) a x).toNat < S512x32.size a)
theorem k0_idx247_inb : ∀ (v151 : BitVec 32) (v223 : IVec S16 32) (v366 : IVec S16 32) (k0_hw245 : k0_chk245 v151 v223 v366), ∀ (k0_h6 : k0_cond6 v151 = 1#1), ∀ a x, ((![v223, v366] : Fin 2 → IVec S16 32) a x).toNat < S512x32.size a := fun v151 v223 v366 k0_hw245 k0_h6 => k0_hw245 k0_h6

def k0_chk246 (v151 : BitVec 32) (v374 : IVec S16 32) (v380 : IVec S16 32) : Prop :=
  (∀ (k0_h6 : k0_cond6 v151 = 1#1), ∀ a x, ((![v374, v380] : Fin 2 → IVec S16 32) a x).toNat < S32x512.size a)
theorem k0_idx248_inb : ∀ (v151 : BitVec 32) (v374 : IVec S16 32) (v380 : IVec S16 32) (k0_hw246 : k0_chk246 v151 v374 v380), ∀ (k0_h6 : k0_cond6 v151 = 1#1), ∀ a x, ((![v374, v380] : Fin 2 → IVec S16 32) a x).toNat < S32x512.size a := fun v151 v374 v380 k0_hw246 k0_h6 => k0_hw246 k0_h6

def k0_chk247 (v151 : BitVec 32) (v223 : IVec S16 32) (v374 : IVec S16 32) : Prop :=
  (∀ (k0_h6 : k0_cond6 v151 = 1#1), ∀ a x, ((![v223, v374] : Fin 2 → IVec S16 32) a x).toNat < S512x32.size a)
theorem k0_idx249_inb : ∀ (v151 : BitVec 32) (v223 : IVec S16 32) (v374 : IVec S16 32) (k0_hw247 : k0_chk247 v151 v223 v374), ∀ (k0_h6 : k0_cond6 v151 = 1#1), ∀ a x, ((![v223, v374] : Fin 2 → IVec S16 32) a x).toNat < S512x32.size a := fun v151 v223 v374 k0_hw247 k0_h6 => k0_hw247 k0_h6

def k0_chk248 (v151 : BitVec 32) (v382 : IVec S16 32) (v388 : IVec S16 32) : Prop :=
  (∀ (k0_h6 : k0_cond6 v151 = 1#1), ∀ a x, ((![v382, v388] : Fin 2 → IVec S16 32) a x).toNat < S32x512.size a)
theorem k0_idx250_inb : ∀ (v151 : BitVec 32) (v382 : IVec S16 32) (v388 : IVec S16 32) (k0_hw248 : k0_chk248 v151 v382 v388), ∀ (k0_h6 : k0_cond6 v151 = 1#1), ∀ a x, ((![v382, v388] : Fin 2 → IVec S16 32) a x).toNat < S32x512.size a := fun v151 v382 v388 k0_hw248 k0_h6 => k0_hw248 k0_h6

def k0_chk249 (v151 : BitVec 32) (v223 : IVec S16 32) (v382 : IVec S16 32) : Prop :=
  (∀ (k0_h6 : k0_cond6 v151 = 1#1), ∀ a x, ((![v223, v382] : Fin 2 → IVec S16 32) a x).toNat < S512x32.size a)
theorem k0_idx251_inb : ∀ (v151 : BitVec 32) (v223 : IVec S16 32) (v382 : IVec S16 32) (k0_hw249 : k0_chk249 v151 v223 v382), ∀ (k0_h6 : k0_cond6 v151 = 1#1), ∀ a x, ((![v223, v382] : Fin 2 → IVec S16 32) a x).toNat < S512x32.size a := fun v151 v223 v382 k0_hw249 k0_h6 => k0_hw249 k0_h6

def k0_chk250 (v151 : BitVec 32) (v390 : IVec S16 32) (v396 : IVec S16 32) : Prop :=
  (∀ (k0_h6 : k0_cond6 v151 = 1#1), ∀ a x, ((![v390, v396] : Fin 2 → IVec S16 32) a x).toNat < S32x512.size a)
theorem k0_idx252_inb : ∀ (v151 : BitVec 32) (v390 : IVec S16 32) (v396 : IVec S16 32) (k0_hw250 : k0_chk250 v151 v390 v396), ∀ (k0_h6 : k0_cond6 v151 = 1#1), ∀ a x, ((![v390, v396] : Fin 2 → IVec S16 32) a x).toNat < S32x512.size a := fun v151 v390 v396 k0_hw250 k0_h6 => k0_hw250 k0_h6

def k0_chk251 (v151 : BitVec 32) (v223 : IVec S16 32) (v390 : IVec S16 32) : Prop :=
  (∀ (k0_h6 : k0_cond6 v151 = 1#1), ∀ a x, ((![v223, v390] : Fin 2 → IVec S16 32) a x).toNat < S512x32.size a)
theorem k0_idx253_inb : ∀ (v151 : BitVec 32) (v223 : IVec S16 32) (v390 : IVec S16 32) (k0_hw251 : k0_chk251 v151 v223 v390), ∀ (k0_h6 : k0_cond6 v151 = 1#1), ∀ a x, ((![v223, v390] : Fin 2 → IVec S16 32) a x).toNat < S512x32.size a := fun v151 v223 v390 k0_hw251 k0_h6 => k0_hw251 k0_h6

def k0_chk252 (v151 : BitVec 32) (v398 : IVec S16 32) (v404 : IVec S16 32) : Prop :=
  (∀ (k0_h6 : k0_cond6 v151 = 1#1), ∀ a x, ((![v398, v404] : Fin 2 → IVec S16 32) a x).toNat < S32x512.size a)
theorem k0_idx254_inb : ∀ (v151 : BitVec 32) (v398 : IVec S16 32) (v404 : IVec S16 32) (k0_hw252 : k0_chk252 v151 v398 v404), ∀ (k0_h6 : k0_cond6 v151 = 1#1), ∀ a x, ((![v398, v404] : Fin 2 → IVec S16 32) a x).toNat < S32x512.size a := fun v151 v398 v404 k0_hw252 k0_h6 => k0_hw252 k0_h6

def k0_chk253 (v151 : BitVec 32) (v223 : IVec S16 32) (v398 : IVec S16 32) : Prop :=
  (∀ (k0_h6 : k0_cond6 v151 = 1#1), ∀ a x, ((![v223, v398] : Fin 2 → IVec S16 32) a x).toNat < S512x32.size a)
theorem k0_idx255_inb : ∀ (v151 : BitVec 32) (v223 : IVec S16 32) (v398 : IVec S16 32) (k0_hw253 : k0_chk253 v151 v223 v398), ∀ (k0_h6 : k0_cond6 v151 = 1#1), ∀ a x, ((![v223, v398] : Fin 2 → IVec S16 32) a x).toNat < S512x32.size a := fun v151 v223 v398 k0_hw253 k0_h6 => k0_hw253 k0_h6

def k0_chk254 (v151 : BitVec 32) (v406 : IVec S16 32) (v412 : IVec S16 32) : Prop :=
  (∀ (k0_h6 : k0_cond6 v151 = 1#1), ∀ a x, ((![v406, v412] : Fin 2 → IVec S16 32) a x).toNat < S32x512.size a)
theorem k0_idx256_inb : ∀ (v151 : BitVec 32) (v406 : IVec S16 32) (v412 : IVec S16 32) (k0_hw254 : k0_chk254 v151 v406 v412), ∀ (k0_h6 : k0_cond6 v151 = 1#1), ∀ a x, ((![v406, v412] : Fin 2 → IVec S16 32) a x).toNat < S32x512.size a := fun v151 v406 v412 k0_hw254 k0_h6 => k0_hw254 k0_h6

def k0_chk255 (v151 : BitVec 32) (v223 : IVec S16 32) (v406 : IVec S16 32) : Prop :=
  (∀ (k0_h6 : k0_cond6 v151 = 1#1), ∀ a x, ((![v223, v406] : Fin 2 → IVec S16 32) a x).toNat < S512x32.size a)
theorem k0_idx257_inb : ∀ (v151 : BitVec 32) (v223 : IVec S16 32) (v406 : IVec S16 32) (k0_hw255 : k0_chk255 v151 v223 v406), ∀ (k0_h6 : k0_cond6 v151 = 1#1), ∀ a x, ((![v223, v406] : Fin 2 → IVec S16 32) a x).toNat < S512x32.size a := fun v151 v223 v406 k0_hw255 k0_h6 => k0_hw255 k0_h6

def k0_chk256 (v151 : BitVec 32) (v414 : IVec S16 32) (v420 : IVec S16 32) : Prop :=
  (∀ (k0_h6 : k0_cond6 v151 = 1#1), ∀ a x, ((![v414, v420] : Fin 2 → IVec S16 32) a x).toNat < S32x512.size a)
theorem k0_idx258_inb : ∀ (v151 : BitVec 32) (v414 : IVec S16 32) (v420 : IVec S16 32) (k0_hw256 : k0_chk256 v151 v414 v420), ∀ (k0_h6 : k0_cond6 v151 = 1#1), ∀ a x, ((![v414, v420] : Fin 2 → IVec S16 32) a x).toNat < S32x512.size a := fun v151 v414 v420 k0_hw256 k0_h6 => k0_hw256 k0_h6

def k0_chk257 (v151 : BitVec 32) (v223 : IVec S16 32) (v414 : IVec S16 32) : Prop :=
  (∀ (k0_h6 : k0_cond6 v151 = 1#1), ∀ a x, ((![v223, v414] : Fin 2 → IVec S16 32) a x).toNat < S512x32.size a)
theorem k0_idx259_inb : ∀ (v151 : BitVec 32) (v223 : IVec S16 32) (v414 : IVec S16 32) (k0_hw257 : k0_chk257 v151 v223 v414), ∀ (k0_h6 : k0_cond6 v151 = 1#1), ∀ a x, ((![v223, v414] : Fin 2 → IVec S16 32) a x).toNat < S512x32.size a := fun v151 v223 v414 k0_hw257 k0_h6 => k0_hw257 k0_h6

def k0_chk258 (v151 : BitVec 32) (v422 : IVec S16 32) (v428 : IVec S16 32) : Prop :=
  (∀ (k0_h6 : k0_cond6 v151 = 1#1), ∀ a x, ((![v422, v428] : Fin 2 → IVec S16 32) a x).toNat < S32x512.size a)
theorem k0_idx260_inb : ∀ (v151 : BitVec 32) (v422 : IVec S16 32) (v428 : IVec S16 32) (k0_hw258 : k0_chk258 v151 v422 v428), ∀ (k0_h6 : k0_cond6 v151 = 1#1), ∀ a x, ((![v422, v428] : Fin 2 → IVec S16 32) a x).toNat < S32x512.size a := fun v151 v422 v428 k0_hw258 k0_h6 => k0_hw258 k0_h6

def k0_chk259 (v151 : BitVec 32) (v223 : IVec S16 32) (v422 : IVec S16 32) : Prop :=
  (∀ (k0_h6 : k0_cond6 v151 = 1#1), ∀ a x, ((![v223, v422] : Fin 2 → IVec S16 32) a x).toNat < S512x32.size a)
theorem k0_idx261_inb : ∀ (v151 : BitVec 32) (v223 : IVec S16 32) (v422 : IVec S16 32) (k0_hw259 : k0_chk259 v151 v223 v422), ∀ (k0_h6 : k0_cond6 v151 = 1#1), ∀ a x, ((![v223, v422] : Fin 2 → IVec S16 32) a x).toNat < S512x32.size a := fun v151 v223 v422 k0_hw259 k0_h6 => k0_hw259 k0_h6

def k0_chk260 (v151 : BitVec 32) (v430 : IVec S16 32) (v436 : IVec S16 32) : Prop :=
  (∀ (k0_h6 : k0_cond6 v151 = 1#1), ∀ a x, ((![v430, v436] : Fin 2 → IVec S16 32) a x).toNat < S32x512.size a)
theorem k0_idx262_inb : ∀ (v151 : BitVec 32) (v430 : IVec S16 32) (v436 : IVec S16 32) (k0_hw260 : k0_chk260 v151 v430 v436), ∀ (k0_h6 : k0_cond6 v151 = 1#1), ∀ a x, ((![v430, v436] : Fin 2 → IVec S16 32) a x).toNat < S32x512.size a := fun v151 v430 v436 k0_hw260 k0_h6 => k0_hw260 k0_h6

def k0_chk261 (v151 : BitVec 32) (v223 : IVec S16 32) (v430 : IVec S16 32) : Prop :=
  (∀ (k0_h6 : k0_cond6 v151 = 1#1), ∀ a x, ((![v223, v430] : Fin 2 → IVec S16 32) a x).toNat < S512x32.size a)
theorem k0_idx263_inb : ∀ (v151 : BitVec 32) (v223 : IVec S16 32) (v430 : IVec S16 32) (k0_hw261 : k0_chk261 v151 v223 v430), ∀ (k0_h6 : k0_cond6 v151 = 1#1), ∀ a x, ((![v223, v430] : Fin 2 → IVec S16 32) a x).toNat < S512x32.size a := fun v151 v223 v430 k0_hw261 k0_h6 => k0_hw261 k0_h6

def k0_chk262 (v151 : BitVec 32) (v438 : IVec S16 32) (v444 : IVec S16 32) : Prop :=
  (∀ (k0_h6 : k0_cond6 v151 = 1#1), ∀ a x, ((![v438, v444] : Fin 2 → IVec S16 32) a x).toNat < S32x512.size a)
theorem k0_idx264_inb : ∀ (v151 : BitVec 32) (v438 : IVec S16 32) (v444 : IVec S16 32) (k0_hw262 : k0_chk262 v151 v438 v444), ∀ (k0_h6 : k0_cond6 v151 = 1#1), ∀ a x, ((![v438, v444] : Fin 2 → IVec S16 32) a x).toNat < S32x512.size a := fun v151 v438 v444 k0_hw262 k0_h6 => k0_hw262 k0_h6

def k0_chk263 (v151 : BitVec 32) (v223 : IVec S16 32) (v438 : IVec S16 32) : Prop :=
  (∀ (k0_h6 : k0_cond6 v151 = 1#1), ∀ a x, ((![v223, v438] : Fin 2 → IVec S16 32) a x).toNat < S512x32.size a)
theorem k0_idx265_inb : ∀ (v151 : BitVec 32) (v223 : IVec S16 32) (v438 : IVec S16 32) (k0_hw263 : k0_chk263 v151 v223 v438), ∀ (k0_h6 : k0_cond6 v151 = 1#1), ∀ a x, ((![v223, v438] : Fin 2 → IVec S16 32) a x).toNat < S512x32.size a := fun v151 v223 v438 k0_hw263 k0_h6 => k0_hw263 k0_h6

def k0_chk264 (v151 : BitVec 32) (v446 : IVec S16 32) (v452 : IVec S16 32) : Prop :=
  (∀ (k0_h6 : k0_cond6 v151 = 1#1), ∀ a x, ((![v446, v452] : Fin 2 → IVec S16 32) a x).toNat < S32x512.size a)
theorem k0_idx266_inb : ∀ (v151 : BitVec 32) (v446 : IVec S16 32) (v452 : IVec S16 32) (k0_hw264 : k0_chk264 v151 v446 v452), ∀ (k0_h6 : k0_cond6 v151 = 1#1), ∀ a x, ((![v446, v452] : Fin 2 → IVec S16 32) a x).toNat < S32x512.size a := fun v151 v446 v452 k0_hw264 k0_h6 => k0_hw264 k0_h6

def k0_chk265 (v151 : BitVec 32) (v223 : IVec S16 32) (v446 : IVec S16 32) : Prop :=
  (∀ (k0_h6 : k0_cond6 v151 = 1#1), ∀ a x, ((![v223, v446] : Fin 2 → IVec S16 32) a x).toNat < S512x32.size a)
theorem k0_idx267_inb : ∀ (v151 : BitVec 32) (v223 : IVec S16 32) (v446 : IVec S16 32) (k0_hw265 : k0_chk265 v151 v223 v446), ∀ (k0_h6 : k0_cond6 v151 = 1#1), ∀ a x, ((![v223, v446] : Fin 2 → IVec S16 32) a x).toNat < S512x32.size a := fun v151 v223 v446 k0_hw265 k0_h6 => k0_hw265 k0_h6

def k0_chk266 (v151 : BitVec 32) (v454 : IVec S16 32) (v460 : IVec S16 32) : Prop :=
  (∀ (k0_h6 : k0_cond6 v151 = 1#1), ∀ a x, ((![v454, v460] : Fin 2 → IVec S16 32) a x).toNat < S32x512.size a)
theorem k0_idx268_inb : ∀ (v151 : BitVec 32) (v454 : IVec S16 32) (v460 : IVec S16 32) (k0_hw266 : k0_chk266 v151 v454 v460), ∀ (k0_h6 : k0_cond6 v151 = 1#1), ∀ a x, ((![v454, v460] : Fin 2 → IVec S16 32) a x).toNat < S32x512.size a := fun v151 v454 v460 k0_hw266 k0_h6 => k0_hw266 k0_h6

def k0_chk267 (v151 : BitVec 32) (v223 : IVec S16 32) (v454 : IVec S16 32) : Prop :=
  (∀ (k0_h6 : k0_cond6 v151 = 1#1), ∀ a x, ((![v223, v454] : Fin 2 → IVec S16 32) a x).toNat < S512x32.size a)
theorem k0_idx269_inb : ∀ (v151 : BitVec 32) (v223 : IVec S16 32) (v454 : IVec S16 32) (k0_hw267 : k0_chk267 v151 v223 v454), ∀ (k0_h6 : k0_cond6 v151 = 1#1), ∀ a x, ((![v223, v454] : Fin 2 → IVec S16 32) a x).toNat < S512x32.size a := fun v151 v223 v454 k0_hw267 k0_h6 => k0_hw267 k0_h6

def k0_chk268 (v151 : BitVec 32) (v462 : IVec S16 32) (v468 : IVec S16 32) : Prop :=
  (∀ (k0_h6 : k0_cond6 v151 = 1#1), ∀ a x, ((![v462, v468] : Fin 2 → IVec S16 32) a x).toNat < S32x512.size a)
theorem k0_idx270_inb : ∀ (v151 : BitVec 32) (v462 : IVec S16 32) (v468 : IVec S16 32) (k0_hw268 : k0_chk268 v151 v462 v468), ∀ (k0_h6 : k0_cond6 v151 = 1#1), ∀ a x, ((![v462, v468] : Fin 2 → IVec S16 32) a x).toNat < S32x512.size a := fun v151 v462 v468 k0_hw268 k0_h6 => k0_hw268 k0_h6

def k0_chk269 (v151 : BitVec 32) (v223 : IVec S16 32) (v462 : IVec S16 32) : Prop :=
  (∀ (k0_h6 : k0_cond6 v151 = 1#1), ∀ a x, ((![v223, v462] : Fin 2 → IVec S16 32) a x).toNat < S512x32.size a)
theorem k0_idx271_inb : ∀ (v151 : BitVec 32) (v223 : IVec S16 32) (v462 : IVec S16 32) (k0_hw269 : k0_chk269 v151 v223 v462), ∀ (k0_h6 : k0_cond6 v151 = 1#1), ∀ a x, ((![v223, v462] : Fin 2 → IVec S16 32) a x).toNat < S512x32.size a := fun v151 v223 v462 k0_hw269 k0_h6 => k0_hw269 k0_h6

def k0_chk270 (v151 : BitVec 32) (v470 : IVec S16 32) (v476 : IVec S16 32) : Prop :=
  (∀ (k0_h6 : k0_cond6 v151 = 1#1), ∀ a x, ((![v470, v476] : Fin 2 → IVec S16 32) a x).toNat < S32x512.size a)
theorem k0_idx272_inb : ∀ (v151 : BitVec 32) (v470 : IVec S16 32) (v476 : IVec S16 32) (k0_hw270 : k0_chk270 v151 v470 v476), ∀ (k0_h6 : k0_cond6 v151 = 1#1), ∀ a x, ((![v470, v476] : Fin 2 → IVec S16 32) a x).toNat < S32x512.size a := fun v151 v470 v476 k0_hw270 k0_h6 => k0_hw270 k0_h6

def k0_chk271 (v151 : BitVec 32) (v223 : IVec S16 32) (v470 : IVec S16 32) : Prop :=
  (∀ (k0_h6 : k0_cond6 v151 = 1#1), ∀ a x, ((![v223, v470] : Fin 2 → IVec S16 32) a x).toNat < S512x32.size a)
theorem k0_idx273_inb : ∀ (v151 : BitVec 32) (v223 : IVec S16 32) (v470 : IVec S16 32) (k0_hw271 : k0_chk271 v151 v223 v470), ∀ (k0_h6 : k0_cond6 v151 = 1#1), ∀ a x, ((![v223, v470] : Fin 2 → IVec S16 32) a x).toNat < S512x32.size a := fun v151 v223 v470 k0_hw271 k0_h6 => k0_hw271 k0_h6

def k0_chk272 (v151 : BitVec 32) (v478 : IVec S16 32) (v484 : IVec S16 32) : Prop :=
  (∀ (k0_h6 : k0_cond6 v151 = 1#1), ∀ a x, ((![v478, v484] : Fin 2 → IVec S16 32) a x).toNat < S32x512.size a)
theorem k0_idx274_inb : ∀ (v151 : BitVec 32) (v478 : IVec S16 32) (v484 : IVec S16 32) (k0_hw272 : k0_chk272 v151 v478 v484), ∀ (k0_h6 : k0_cond6 v151 = 1#1), ∀ a x, ((![v478, v484] : Fin 2 → IVec S16 32) a x).toNat < S32x512.size a := fun v151 v478 v484 k0_hw272 k0_h6 => k0_hw272 k0_h6

def k0_chk273 (v151 : BitVec 32) (v223 : IVec S16 32) (v478 : IVec S16 32) : Prop :=
  (∀ (k0_h6 : k0_cond6 v151 = 1#1), ∀ a x, ((![v223, v478] : Fin 2 → IVec S16 32) a x).toNat < S512x32.size a)
theorem k0_idx275_inb : ∀ (v151 : BitVec 32) (v223 : IVec S16 32) (v478 : IVec S16 32) (k0_hw273 : k0_chk273 v151 v223 v478), ∀ (k0_h6 : k0_cond6 v151 = 1#1), ∀ a x, ((![v223, v478] : Fin 2 → IVec S16 32) a x).toNat < S512x32.size a := fun v151 v223 v478 k0_hw273 k0_h6 => k0_hw273 k0_h6
@[reducible] def k0_t17_loop : Scf.Loop 32 :=
  let c0_i32_59 : BitVec 32 := 0#32
  let c32_i32_60 : BitVec 32 := 32#32
  let v71 : BitVec 32 := Scalar.addi c0_i32_59 c32_i32_60
  let c1_i32_61 : BitVec 32 := 1#32
  ⟨c0_i32_59, v71, c1_i32_61⟩
def k0_off18 (k0_t17 : Fin k0_t17_loop.trips) : Fin 1 → Nat :=
  let c0_i32_59 : BitVec 32 := 0#32
  let c1_i32_61 : BitVec 32 := 1#32
  let arg24 : BitVec 32 := Scf.iv c0_i32_59 c1_i32_61 k0_t17
  let c16_i32 : BitVec 32 := 16#32
  let v140 : BitVec 32 := Scalar.muli arg24 c16_i32
  let v141 : Index := Scalar.indexCast v140
  ![v141.toNat]

def k0_chk274 (v153 : IVec S16 32) : Prop :=
  (∀ a x, ((![v153] : Fin 1 → IVec S16 32) a x).toNat < S512.size a)
theorem k0_idx276_inb : ∀ (v153 : IVec S16 32) (k0_hw274 : k0_chk274 v153), ∀ a x, ((![v153] : Fin 1 → IVec S16 32) a x).toNat < S512.size a := fun v153 k0_hw274 => k0_hw274
@[reducible] def k0_t18_loop (v72 : BitVec 32) : Scf.Loop 32 :=
  let c0_i32_172 : BitVec 32 := 0#32
  let c15_i32 : BitVec 32 := 15#32
  let v140 : BitVec 32 := Scalar.addi v72 c15_i32
  let c0_i32_166 : BitVec 32 := 0#32
  let v142 : BitVec 1 := Scalar.cmpi .sgt v140 c0_i32_166
  let v143 : BitVec 32 := Scalar.extui v142
  let c0_i32_167 : BitVec 32 := 0#32
  let v144 : BitVec 1 := Scalar.cmpi .slt v140 c0_i32_167
  let v145 : BitVec 32 := Scalar.extui v144
  let v146 : BitVec 32 := Scalar.subi v143 v145
  let c16_i32 : BitVec 32 := 16#32
  let c0_i32_168 : BitVec 32 := 0#32
  let v147 : BitVec 1 := Scalar.cmpi .sgt c16_i32 c0_i32_168
  let v148 : BitVec 32 := Scalar.extui v147
  let c0_i32_169 : BitVec 32 := 0#32
  let v149 : BitVec 1 := Scalar.cmpi .slt c16_i32 c0_i32_169
  let v150 : BitVec 32 := Scalar.extui v149
  let v151 : BitVec 32 := Scalar.subi v148 v150
  let v152 : BitVec 1 := Scalar.cmpi .ne v146 v151
  let v153 : BitVec 32 := Scalar.remsi v140 c16_i32
  let c0_i32_170 : BitVec 32 := 0#32
  let v154 : BitVec 1 := Scalar.cmpi .ne v153 c0_i32_170
  let v155 : BitVec 1 := Scalar.andi v152 v154
  let v141 : BitVec 32 := Scalar.divsi v140 c16_i32
  let c1_i32_171 : BitVec 32 := 1#32
  let v156 : BitVec 32 := Scalar.subi v141 c1_i32_171
  let v157 : BitVec 32 := Scalar.select v155 v156 v141
  let v158 : BitVec 32 := Scalar.subi v157 c0_i32_172
  let c1_i32_174 : BitVec 32 := 1#32
  let v160 : BitVec 32 := Scalar.divsi v158 c1_i32_174
  let v161 : BitVec 32 := Scalar.muli v160 c1_i32_174
  let v162 : BitVec 32 := Scalar.addi c0_i32_172 v161
  let c1_i32_175 : BitVec 32 := 1#32
  ⟨c0_i32_172, v162, c1_i32_175⟩
def k0_cond7 (v72 : BitVec 32) : BitVec 1 :=
  let c0_i32_63 : BitVec 32 := 0#32
  let v73 : BitVec 1 := Scalar.cmpi .sgt v72 c0_i32_63
  let v74 : BitVec 32 := Scalar.extui v73
  let c0_i32_64 : BitVec 32 := 0#32
  let v75 : BitVec 1 := Scalar.cmpi .ne v74 c0_i32_64
  v75

def k0_off19 (v72 : BitVec 32) (k0_t18 : Fin (k0_t18_loop v72).trips) : Fin 1 → Nat :=
  let c0_i32_172 : BitVec 32 := 0#32
  let c1_i32_175 : BitVec 32 := 1#32
  let arg24 : BitVec 32 := Scf.iv c0_i32_172 c1_i32_175 k0_t18
  let c16_i32_178 : BitVec 32 := 16#32
  let v170 : BitVec 32 := Scalar.muli arg24 c16_i32_178
  let v171 : Index := Scalar.indexCast v170
  ![v171.toNat]

def k0_chk276 (v72 : BitVec 32) (v172 : IVec S16 32) : Prop :=
  (∀ (k0_h7 : k0_cond7 v72 = 1#1), ∀ a x, ((![v172] : Fin 1 → IVec S16 32) a x).toNat < S1024.size a) ∧
  (∀ (k0_h7 : k0_cond7 v72 = 1#1), ∀ a x, ((![v172] : Fin 1 → IVec S16 32) a x).toNat < S1024.size a)
theorem k0_idx277_inb : ∀ (v72 : BitVec 32) (v172 : IVec S16 32) (k0_hw276 : k0_chk276 v72 v172), ∀ (k0_h7 : k0_cond7 v72 = 1#1), ∀ a x, ((![v172] : Fin 1 → IVec S16 32) a x).toNat < S1024.size a := fun v72 v172 k0_hw276 k0_h7 => k0_hw276.1 k0_h7
theorem k0_idx278_inb : ∀ (v72 : BitVec 32) (v172 : IVec S16 32) (k0_hw276 : k0_chk276 v72 v172), ∀ (k0_h7 : k0_cond7 v72 = 1#1), ∀ a x, ((![v172] : Fin 1 → IVec S16 32) a x).toNat < S1024.size a := fun v72 v172 k0_hw276 k0_h7 => k0_hw276.2 k0_h7

def k0_chk277 (v72 : BitVec 32) (v176 : IVec S16 32) (v178 : IVec S16 32) : Prop :=
  (∀ (k0_h7 : k0_cond7 v72 = 1#1), ∀ a x, ((![v176, v178] : Fin 2 → IVec S16 32) a x).toNat < S8x64.size a)
theorem k0_idx279_inb : ∀ (v72 : BitVec 32) (v176 : IVec S16 32) (v178 : IVec S16 32) (k0_hw277 : k0_chk277 v72 v176 v178), ∀ (k0_h7 : k0_cond7 v72 = 1#1), ∀ a x, ((![v176, v178] : Fin 2 → IVec S16 32) a x).toNat < S8x64.size a := fun v72 v176 v178 k0_hw277 k0_h7 => k0_hw277 k0_h7

def k0_chk278 (v72 : BitVec 32) (v179 : IVec S16 32) (v185 : IVec S16 32) : Prop :=
  (∀ (k0_h7 : k0_cond7 v72 = 1#1), ∀ a x, ((![v185, v179] : Fin 2 → IVec S16 32) a x).toNat < S64x32.size a)
theorem k0_idx280_inb : ∀ (v72 : BitVec 32) (v179 : IVec S16 32) (v185 : IVec S16 32) (k0_hw278 : k0_chk278 v72 v179 v185), ∀ (k0_h7 : k0_cond7 v72 = 1#1), ∀ a x, ((![v185, v179] : Fin 2 → IVec S16 32) a x).toNat < S64x32.size a := fun v72 v179 v185 k0_hw278 k0_h7 => k0_hw278 k0_h7

def k0_chk279 (v72 : BitVec 32) (v172 : IVec S16 32) (v179 : IVec S16 32) : Prop :=
  (∀ (k0_h7 : k0_cond7 v72 = 1#1), ∀ a x, ((![v172, v179] : Fin 2 → IVec S16 32) a x).toNat < S512x32.size a)
theorem k0_idx281_inb : ∀ (v72 : BitVec 32) (v172 : IVec S16 32) (v179 : IVec S16 32) (k0_hw279 : k0_chk279 v72 v172 v179), ∀ (k0_h7 : k0_cond7 v72 = 1#1), ∀ a x, ((![v172, v179] : Fin 2 → IVec S16 32) a x).toNat < S512x32.size a := fun v72 v172 v179 k0_hw279 k0_h7 => k0_hw279 k0_h7

def k0_chk280 (v72 : BitVec 32) (v187 : IVec S16 32) (v193 : IVec S16 32) : Prop :=
  (∀ (k0_h7 : k0_cond7 v72 = 1#1), ∀ a x, ((![v193, v187] : Fin 2 → IVec S16 32) a x).toNat < S64x32.size a)
theorem k0_idx282_inb : ∀ (v72 : BitVec 32) (v187 : IVec S16 32) (v193 : IVec S16 32) (k0_hw280 : k0_chk280 v72 v187 v193), ∀ (k0_h7 : k0_cond7 v72 = 1#1), ∀ a x, ((![v193, v187] : Fin 2 → IVec S16 32) a x).toNat < S64x32.size a := fun v72 v187 v193 k0_hw280 k0_h7 => k0_hw280 k0_h7

def k0_chk281 (v72 : BitVec 32) (v172 : IVec S16 32) (v187 : IVec S16 32) : Prop :=
  (∀ (k0_h7 : k0_cond7 v72 = 1#1), ∀ a x, ((![v172, v187] : Fin 2 → IVec S16 32) a x).toNat < S512x32.size a)
theorem k0_idx283_inb : ∀ (v72 : BitVec 32) (v172 : IVec S16 32) (v187 : IVec S16 32) (k0_hw281 : k0_chk281 v72 v172 v187), ∀ (k0_h7 : k0_cond7 v72 = 1#1), ∀ a x, ((![v172, v187] : Fin 2 → IVec S16 32) a x).toNat < S512x32.size a := fun v72 v172 v187 k0_hw281 k0_h7 => k0_hw281 k0_h7

def k0_chk282 (v72 : BitVec 32) (v195 : IVec S16 32) (v201 : IVec S16 32) : Prop :=
  (∀ (k0_h7 : k0_cond7 v72 = 1#1), ∀ a x, ((![v201, v195] : Fin 2 → IVec S16 32) a x).toNat < S64x32.size a)
theorem k0_idx284_inb : ∀ (v72 : BitVec 32) (v195 : IVec S16 32) (v201 : IVec S16 32) (k0_hw282 : k0_chk282 v72 v195 v201), ∀ (k0_h7 : k0_cond7 v72 = 1#1), ∀ a x, ((![v201, v195] : Fin 2 → IVec S16 32) a x).toNat < S64x32.size a := fun v72 v195 v201 k0_hw282 k0_h7 => k0_hw282 k0_h7

def k0_chk283 (v72 : BitVec 32) (v172 : IVec S16 32) (v195 : IVec S16 32) : Prop :=
  (∀ (k0_h7 : k0_cond7 v72 = 1#1), ∀ a x, ((![v172, v195] : Fin 2 → IVec S16 32) a x).toNat < S512x32.size a)
theorem k0_idx285_inb : ∀ (v72 : BitVec 32) (v172 : IVec S16 32) (v195 : IVec S16 32) (k0_hw283 : k0_chk283 v72 v172 v195), ∀ (k0_h7 : k0_cond7 v72 = 1#1), ∀ a x, ((![v172, v195] : Fin 2 → IVec S16 32) a x).toNat < S512x32.size a := fun v72 v172 v195 k0_hw283 k0_h7 => k0_hw283 k0_h7

def k0_chk284 (v72 : BitVec 32) (v203 : IVec S16 32) (v209 : IVec S16 32) : Prop :=
  (∀ (k0_h7 : k0_cond7 v72 = 1#1), ∀ a x, ((![v209, v203] : Fin 2 → IVec S16 32) a x).toNat < S64x32.size a)
theorem k0_idx286_inb : ∀ (v72 : BitVec 32) (v203 : IVec S16 32) (v209 : IVec S16 32) (k0_hw284 : k0_chk284 v72 v203 v209), ∀ (k0_h7 : k0_cond7 v72 = 1#1), ∀ a x, ((![v209, v203] : Fin 2 → IVec S16 32) a x).toNat < S64x32.size a := fun v72 v203 v209 k0_hw284 k0_h7 => k0_hw284 k0_h7

def k0_chk285 (v72 : BitVec 32) (v172 : IVec S16 32) (v203 : IVec S16 32) : Prop :=
  (∀ (k0_h7 : k0_cond7 v72 = 1#1), ∀ a x, ((![v172, v203] : Fin 2 → IVec S16 32) a x).toNat < S512x32.size a)
theorem k0_idx287_inb : ∀ (v72 : BitVec 32) (v172 : IVec S16 32) (v203 : IVec S16 32) (k0_hw285 : k0_chk285 v72 v172 v203), ∀ (k0_h7 : k0_cond7 v72 = 1#1), ∀ a x, ((![v172, v203] : Fin 2 → IVec S16 32) a x).toNat < S512x32.size a := fun v72 v172 v203 k0_hw285 k0_h7 => k0_hw285 k0_h7

def k0_chk286 (v72 : BitVec 32) (v211 : IVec S16 32) (v217 : IVec S16 32) : Prop :=
  (∀ (k0_h7 : k0_cond7 v72 = 1#1), ∀ a x, ((![v217, v211] : Fin 2 → IVec S16 32) a x).toNat < S64x32.size a)
theorem k0_idx288_inb : ∀ (v72 : BitVec 32) (v211 : IVec S16 32) (v217 : IVec S16 32) (k0_hw286 : k0_chk286 v72 v211 v217), ∀ (k0_h7 : k0_cond7 v72 = 1#1), ∀ a x, ((![v217, v211] : Fin 2 → IVec S16 32) a x).toNat < S64x32.size a := fun v72 v211 v217 k0_hw286 k0_h7 => k0_hw286 k0_h7

def k0_chk287 (v72 : BitVec 32) (v172 : IVec S16 32) (v211 : IVec S16 32) : Prop :=
  (∀ (k0_h7 : k0_cond7 v72 = 1#1), ∀ a x, ((![v172, v211] : Fin 2 → IVec S16 32) a x).toNat < S512x32.size a)
theorem k0_idx289_inb : ∀ (v72 : BitVec 32) (v172 : IVec S16 32) (v211 : IVec S16 32) (k0_hw287 : k0_chk287 v72 v172 v211), ∀ (k0_h7 : k0_cond7 v72 = 1#1), ∀ a x, ((![v172, v211] : Fin 2 → IVec S16 32) a x).toNat < S512x32.size a := fun v72 v172 v211 k0_hw287 k0_h7 => k0_hw287 k0_h7

def k0_chk288 (v72 : BitVec 32) (v219 : IVec S16 32) (v225 : IVec S16 32) : Prop :=
  (∀ (k0_h7 : k0_cond7 v72 = 1#1), ∀ a x, ((![v225, v219] : Fin 2 → IVec S16 32) a x).toNat < S64x32.size a)
theorem k0_idx290_inb : ∀ (v72 : BitVec 32) (v219 : IVec S16 32) (v225 : IVec S16 32) (k0_hw288 : k0_chk288 v72 v219 v225), ∀ (k0_h7 : k0_cond7 v72 = 1#1), ∀ a x, ((![v225, v219] : Fin 2 → IVec S16 32) a x).toNat < S64x32.size a := fun v72 v219 v225 k0_hw288 k0_h7 => k0_hw288 k0_h7

def k0_chk289 (v72 : BitVec 32) (v172 : IVec S16 32) (v219 : IVec S16 32) : Prop :=
  (∀ (k0_h7 : k0_cond7 v72 = 1#1), ∀ a x, ((![v172, v219] : Fin 2 → IVec S16 32) a x).toNat < S512x32.size a)
theorem k0_idx291_inb : ∀ (v72 : BitVec 32) (v172 : IVec S16 32) (v219 : IVec S16 32) (k0_hw289 : k0_chk289 v72 v172 v219), ∀ (k0_h7 : k0_cond7 v72 = 1#1), ∀ a x, ((![v172, v219] : Fin 2 → IVec S16 32) a x).toNat < S512x32.size a := fun v72 v172 v219 k0_hw289 k0_h7 => k0_hw289 k0_h7

def k0_chk290 (v72 : BitVec 32) (v227 : IVec S16 32) (v233 : IVec S16 32) : Prop :=
  (∀ (k0_h7 : k0_cond7 v72 = 1#1), ∀ a x, ((![v233, v227] : Fin 2 → IVec S16 32) a x).toNat < S64x32.size a)
theorem k0_idx292_inb : ∀ (v72 : BitVec 32) (v227 : IVec S16 32) (v233 : IVec S16 32) (k0_hw290 : k0_chk290 v72 v227 v233), ∀ (k0_h7 : k0_cond7 v72 = 1#1), ∀ a x, ((![v233, v227] : Fin 2 → IVec S16 32) a x).toNat < S64x32.size a := fun v72 v227 v233 k0_hw290 k0_h7 => k0_hw290 k0_h7

def k0_chk291 (v72 : BitVec 32) (v172 : IVec S16 32) (v227 : IVec S16 32) : Prop :=
  (∀ (k0_h7 : k0_cond7 v72 = 1#1), ∀ a x, ((![v172, v227] : Fin 2 → IVec S16 32) a x).toNat < S512x32.size a)
theorem k0_idx293_inb : ∀ (v72 : BitVec 32) (v172 : IVec S16 32) (v227 : IVec S16 32) (k0_hw291 : k0_chk291 v72 v172 v227), ∀ (k0_h7 : k0_cond7 v72 = 1#1), ∀ a x, ((![v172, v227] : Fin 2 → IVec S16 32) a x).toNat < S512x32.size a := fun v72 v172 v227 k0_hw291 k0_h7 => k0_hw291 k0_h7

def k0_chk292 (v72 : BitVec 32) (v235 : IVec S16 32) (v241 : IVec S16 32) : Prop :=
  (∀ (k0_h7 : k0_cond7 v72 = 1#1), ∀ a x, ((![v241, v235] : Fin 2 → IVec S16 32) a x).toNat < S64x32.size a)
theorem k0_idx294_inb : ∀ (v72 : BitVec 32) (v235 : IVec S16 32) (v241 : IVec S16 32) (k0_hw292 : k0_chk292 v72 v235 v241), ∀ (k0_h7 : k0_cond7 v72 = 1#1), ∀ a x, ((![v241, v235] : Fin 2 → IVec S16 32) a x).toNat < S64x32.size a := fun v72 v235 v241 k0_hw292 k0_h7 => k0_hw292 k0_h7

def k0_chk293 (v72 : BitVec 32) (v172 : IVec S16 32) (v235 : IVec S16 32) : Prop :=
  (∀ (k0_h7 : k0_cond7 v72 = 1#1), ∀ a x, ((![v172, v235] : Fin 2 → IVec S16 32) a x).toNat < S512x32.size a)
theorem k0_idx295_inb : ∀ (v72 : BitVec 32) (v172 : IVec S16 32) (v235 : IVec S16 32) (k0_hw293 : k0_chk293 v72 v172 v235), ∀ (k0_h7 : k0_cond7 v72 = 1#1), ∀ a x, ((![v172, v235] : Fin 2 → IVec S16 32) a x).toNat < S512x32.size a := fun v72 v172 v235 k0_hw293 k0_h7 => k0_hw293 k0_h7

def k0_chk294 (v72 : BitVec 32) (v243 : IVec S16 32) (v249 : IVec S16 32) : Prop :=
  (∀ (k0_h7 : k0_cond7 v72 = 1#1), ∀ a x, ((![v249, v243] : Fin 2 → IVec S16 32) a x).toNat < S64x32.size a)
theorem k0_idx296_inb : ∀ (v72 : BitVec 32) (v243 : IVec S16 32) (v249 : IVec S16 32) (k0_hw294 : k0_chk294 v72 v243 v249), ∀ (k0_h7 : k0_cond7 v72 = 1#1), ∀ a x, ((![v249, v243] : Fin 2 → IVec S16 32) a x).toNat < S64x32.size a := fun v72 v243 v249 k0_hw294 k0_h7 => k0_hw294 k0_h7

def k0_chk295 (v72 : BitVec 32) (v172 : IVec S16 32) (v243 : IVec S16 32) : Prop :=
  (∀ (k0_h7 : k0_cond7 v72 = 1#1), ∀ a x, ((![v172, v243] : Fin 2 → IVec S16 32) a x).toNat < S512x32.size a)
theorem k0_idx297_inb : ∀ (v72 : BitVec 32) (v172 : IVec S16 32) (v243 : IVec S16 32) (k0_hw295 : k0_chk295 v72 v172 v243), ∀ (k0_h7 : k0_cond7 v72 = 1#1), ∀ a x, ((![v172, v243] : Fin 2 → IVec S16 32) a x).toNat < S512x32.size a := fun v72 v172 v243 k0_hw295 k0_h7 => k0_hw295 k0_h7

def k0_chk296 (v72 : BitVec 32) (v251 : IVec S16 32) (v257 : IVec S16 32) : Prop :=
  (∀ (k0_h7 : k0_cond7 v72 = 1#1), ∀ a x, ((![v257, v251] : Fin 2 → IVec S16 32) a x).toNat < S64x32.size a)
theorem k0_idx298_inb : ∀ (v72 : BitVec 32) (v251 : IVec S16 32) (v257 : IVec S16 32) (k0_hw296 : k0_chk296 v72 v251 v257), ∀ (k0_h7 : k0_cond7 v72 = 1#1), ∀ a x, ((![v257, v251] : Fin 2 → IVec S16 32) a x).toNat < S64x32.size a := fun v72 v251 v257 k0_hw296 k0_h7 => k0_hw296 k0_h7

def k0_chk297 (v72 : BitVec 32) (v172 : IVec S16 32) (v251 : IVec S16 32) : Prop :=
  (∀ (k0_h7 : k0_cond7 v72 = 1#1), ∀ a x, ((![v172, v251] : Fin 2 → IVec S16 32) a x).toNat < S512x32.size a)
theorem k0_idx299_inb : ∀ (v72 : BitVec 32) (v172 : IVec S16 32) (v251 : IVec S16 32) (k0_hw297 : k0_chk297 v72 v172 v251), ∀ (k0_h7 : k0_cond7 v72 = 1#1), ∀ a x, ((![v172, v251] : Fin 2 → IVec S16 32) a x).toNat < S512x32.size a := fun v72 v172 v251 k0_hw297 k0_h7 => k0_hw297 k0_h7

def k0_chk298 (v72 : BitVec 32) (v259 : IVec S16 32) (v265 : IVec S16 32) : Prop :=
  (∀ (k0_h7 : k0_cond7 v72 = 1#1), ∀ a x, ((![v265, v259] : Fin 2 → IVec S16 32) a x).toNat < S64x32.size a)
theorem k0_idx300_inb : ∀ (v72 : BitVec 32) (v259 : IVec S16 32) (v265 : IVec S16 32) (k0_hw298 : k0_chk298 v72 v259 v265), ∀ (k0_h7 : k0_cond7 v72 = 1#1), ∀ a x, ((![v265, v259] : Fin 2 → IVec S16 32) a x).toNat < S64x32.size a := fun v72 v259 v265 k0_hw298 k0_h7 => k0_hw298 k0_h7

def k0_chk299 (v72 : BitVec 32) (v172 : IVec S16 32) (v259 : IVec S16 32) : Prop :=
  (∀ (k0_h7 : k0_cond7 v72 = 1#1), ∀ a x, ((![v172, v259] : Fin 2 → IVec S16 32) a x).toNat < S512x32.size a)
theorem k0_idx301_inb : ∀ (v72 : BitVec 32) (v172 : IVec S16 32) (v259 : IVec S16 32) (k0_hw299 : k0_chk299 v72 v172 v259), ∀ (k0_h7 : k0_cond7 v72 = 1#1), ∀ a x, ((![v172, v259] : Fin 2 → IVec S16 32) a x).toNat < S512x32.size a := fun v72 v172 v259 k0_hw299 k0_h7 => k0_hw299 k0_h7

def k0_chk300 (v72 : BitVec 32) (v267 : IVec S16 32) (v273 : IVec S16 32) : Prop :=
  (∀ (k0_h7 : k0_cond7 v72 = 1#1), ∀ a x, ((![v273, v267] : Fin 2 → IVec S16 32) a x).toNat < S64x32.size a)
theorem k0_idx302_inb : ∀ (v72 : BitVec 32) (v267 : IVec S16 32) (v273 : IVec S16 32) (k0_hw300 : k0_chk300 v72 v267 v273), ∀ (k0_h7 : k0_cond7 v72 = 1#1), ∀ a x, ((![v273, v267] : Fin 2 → IVec S16 32) a x).toNat < S64x32.size a := fun v72 v267 v273 k0_hw300 k0_h7 => k0_hw300 k0_h7

def k0_chk301 (v72 : BitVec 32) (v172 : IVec S16 32) (v267 : IVec S16 32) : Prop :=
  (∀ (k0_h7 : k0_cond7 v72 = 1#1), ∀ a x, ((![v172, v267] : Fin 2 → IVec S16 32) a x).toNat < S512x32.size a)
theorem k0_idx303_inb : ∀ (v72 : BitVec 32) (v172 : IVec S16 32) (v267 : IVec S16 32) (k0_hw301 : k0_chk301 v72 v172 v267), ∀ (k0_h7 : k0_cond7 v72 = 1#1), ∀ a x, ((![v172, v267] : Fin 2 → IVec S16 32) a x).toNat < S512x32.size a := fun v72 v172 v267 k0_hw301 k0_h7 => k0_hw301 k0_h7

def k0_chk302 (v72 : BitVec 32) (v275 : IVec S16 32) (v281 : IVec S16 32) : Prop :=
  (∀ (k0_h7 : k0_cond7 v72 = 1#1), ∀ a x, ((![v281, v275] : Fin 2 → IVec S16 32) a x).toNat < S64x32.size a)
theorem k0_idx304_inb : ∀ (v72 : BitVec 32) (v275 : IVec S16 32) (v281 : IVec S16 32) (k0_hw302 : k0_chk302 v72 v275 v281), ∀ (k0_h7 : k0_cond7 v72 = 1#1), ∀ a x, ((![v281, v275] : Fin 2 → IVec S16 32) a x).toNat < S64x32.size a := fun v72 v275 v281 k0_hw302 k0_h7 => k0_hw302 k0_h7

def k0_chk303 (v72 : BitVec 32) (v172 : IVec S16 32) (v275 : IVec S16 32) : Prop :=
  (∀ (k0_h7 : k0_cond7 v72 = 1#1), ∀ a x, ((![v172, v275] : Fin 2 → IVec S16 32) a x).toNat < S512x32.size a)
theorem k0_idx305_inb : ∀ (v72 : BitVec 32) (v172 : IVec S16 32) (v275 : IVec S16 32) (k0_hw303 : k0_chk303 v72 v172 v275), ∀ (k0_h7 : k0_cond7 v72 = 1#1), ∀ a x, ((![v172, v275] : Fin 2 → IVec S16 32) a x).toNat < S512x32.size a := fun v72 v172 v275 k0_hw303 k0_h7 => k0_hw303 k0_h7

def k0_chk304 (v72 : BitVec 32) (v283 : IVec S16 32) (v289 : IVec S16 32) : Prop :=
  (∀ (k0_h7 : k0_cond7 v72 = 1#1), ∀ a x, ((![v289, v283] : Fin 2 → IVec S16 32) a x).toNat < S64x32.size a)
theorem k0_idx306_inb : ∀ (v72 : BitVec 32) (v283 : IVec S16 32) (v289 : IVec S16 32) (k0_hw304 : k0_chk304 v72 v283 v289), ∀ (k0_h7 : k0_cond7 v72 = 1#1), ∀ a x, ((![v289, v283] : Fin 2 → IVec S16 32) a x).toNat < S64x32.size a := fun v72 v283 v289 k0_hw304 k0_h7 => k0_hw304 k0_h7

def k0_chk305 (v72 : BitVec 32) (v172 : IVec S16 32) (v283 : IVec S16 32) : Prop :=
  (∀ (k0_h7 : k0_cond7 v72 = 1#1), ∀ a x, ((![v172, v283] : Fin 2 → IVec S16 32) a x).toNat < S512x32.size a)
theorem k0_idx307_inb : ∀ (v72 : BitVec 32) (v172 : IVec S16 32) (v283 : IVec S16 32) (k0_hw305 : k0_chk305 v72 v172 v283), ∀ (k0_h7 : k0_cond7 v72 = 1#1), ∀ a x, ((![v172, v283] : Fin 2 → IVec S16 32) a x).toNat < S512x32.size a := fun v72 v172 v283 k0_hw305 k0_h7 => k0_hw305 k0_h7

def k0_chk306 (v72 : BitVec 32) (v291 : IVec S16 32) (v297 : IVec S16 32) : Prop :=
  (∀ (k0_h7 : k0_cond7 v72 = 1#1), ∀ a x, ((![v297, v291] : Fin 2 → IVec S16 32) a x).toNat < S64x32.size a)
theorem k0_idx308_inb : ∀ (v72 : BitVec 32) (v291 : IVec S16 32) (v297 : IVec S16 32) (k0_hw306 : k0_chk306 v72 v291 v297), ∀ (k0_h7 : k0_cond7 v72 = 1#1), ∀ a x, ((![v297, v291] : Fin 2 → IVec S16 32) a x).toNat < S64x32.size a := fun v72 v291 v297 k0_hw306 k0_h7 => k0_hw306 k0_h7

def k0_chk307 (v72 : BitVec 32) (v172 : IVec S16 32) (v291 : IVec S16 32) : Prop :=
  (∀ (k0_h7 : k0_cond7 v72 = 1#1), ∀ a x, ((![v172, v291] : Fin 2 → IVec S16 32) a x).toNat < S512x32.size a)
theorem k0_idx309_inb : ∀ (v72 : BitVec 32) (v172 : IVec S16 32) (v291 : IVec S16 32) (k0_hw307 : k0_chk307 v72 v172 v291), ∀ (k0_h7 : k0_cond7 v72 = 1#1), ∀ a x, ((![v172, v291] : Fin 2 → IVec S16 32) a x).toNat < S512x32.size a := fun v72 v172 v291 k0_hw307 k0_h7 => k0_hw307 k0_h7

def k0_chk308 (v72 : BitVec 32) (v299 : IVec S16 32) (v305 : IVec S16 32) : Prop :=
  (∀ (k0_h7 : k0_cond7 v72 = 1#1), ∀ a x, ((![v305, v299] : Fin 2 → IVec S16 32) a x).toNat < S64x32.size a)
theorem k0_idx310_inb : ∀ (v72 : BitVec 32) (v299 : IVec S16 32) (v305 : IVec S16 32) (k0_hw308 : k0_chk308 v72 v299 v305), ∀ (k0_h7 : k0_cond7 v72 = 1#1), ∀ a x, ((![v305, v299] : Fin 2 → IVec S16 32) a x).toNat < S64x32.size a := fun v72 v299 v305 k0_hw308 k0_h7 => k0_hw308 k0_h7

def k0_chk309 (v72 : BitVec 32) (v172 : IVec S16 32) (v299 : IVec S16 32) : Prop :=
  (∀ (k0_h7 : k0_cond7 v72 = 1#1), ∀ a x, ((![v172, v299] : Fin 2 → IVec S16 32) a x).toNat < S512x32.size a)
theorem k0_idx311_inb : ∀ (v72 : BitVec 32) (v172 : IVec S16 32) (v299 : IVec S16 32) (k0_hw309 : k0_chk309 v72 v172 v299), ∀ (k0_h7 : k0_cond7 v72 = 1#1), ∀ a x, ((![v172, v299] : Fin 2 → IVec S16 32) a x).toNat < S512x32.size a := fun v72 v172 v299 k0_hw309 k0_h7 => k0_hw309 k0_h7

def k0_chk310 (v72 : BitVec 32) (v307 : IVec S16 32) (v313 : IVec S16 32) : Prop :=
  (∀ (k0_h7 : k0_cond7 v72 = 1#1), ∀ a x, ((![v313, v307] : Fin 2 → IVec S16 32) a x).toNat < S64x32.size a)
theorem k0_idx312_inb : ∀ (v72 : BitVec 32) (v307 : IVec S16 32) (v313 : IVec S16 32) (k0_hw310 : k0_chk310 v72 v307 v313), ∀ (k0_h7 : k0_cond7 v72 = 1#1), ∀ a x, ((![v313, v307] : Fin 2 → IVec S16 32) a x).toNat < S64x32.size a := fun v72 v307 v313 k0_hw310 k0_h7 => k0_hw310 k0_h7

def k0_chk311 (v72 : BitVec 32) (v172 : IVec S16 32) (v307 : IVec S16 32) : Prop :=
  (∀ (k0_h7 : k0_cond7 v72 = 1#1), ∀ a x, ((![v172, v307] : Fin 2 → IVec S16 32) a x).toNat < S512x32.size a)
theorem k0_idx313_inb : ∀ (v72 : BitVec 32) (v172 : IVec S16 32) (v307 : IVec S16 32) (k0_hw311 : k0_chk311 v72 v172 v307), ∀ (k0_h7 : k0_cond7 v72 = 1#1), ∀ a x, ((![v172, v307] : Fin 2 → IVec S16 32) a x).toNat < S512x32.size a := fun v72 v172 v307 k0_hw311 k0_h7 => k0_hw311 k0_h7

def k0_chk312 (v72 : BitVec 32) (v315 : IVec S16 32) (v321 : IVec S16 32) : Prop :=
  (∀ (k0_h7 : k0_cond7 v72 = 1#1), ∀ a x, ((![v321, v315] : Fin 2 → IVec S16 32) a x).toNat < S64x32.size a)
theorem k0_idx314_inb : ∀ (v72 : BitVec 32) (v315 : IVec S16 32) (v321 : IVec S16 32) (k0_hw312 : k0_chk312 v72 v315 v321), ∀ (k0_h7 : k0_cond7 v72 = 1#1), ∀ a x, ((![v321, v315] : Fin 2 → IVec S16 32) a x).toNat < S64x32.size a := fun v72 v315 v321 k0_hw312 k0_h7 => k0_hw312 k0_h7

def k0_chk313 (v72 : BitVec 32) (v172 : IVec S16 32) (v315 : IVec S16 32) : Prop :=
  (∀ (k0_h7 : k0_cond7 v72 = 1#1), ∀ a x, ((![v172, v315] : Fin 2 → IVec S16 32) a x).toNat < S512x32.size a)
theorem k0_idx315_inb : ∀ (v72 : BitVec 32) (v172 : IVec S16 32) (v315 : IVec S16 32) (k0_hw313 : k0_chk313 v72 v172 v315), ∀ (k0_h7 : k0_cond7 v72 = 1#1), ∀ a x, ((![v172, v315] : Fin 2 → IVec S16 32) a x).toNat < S512x32.size a := fun v72 v172 v315 k0_hw313 k0_h7 => k0_hw313 k0_h7

def k0_chk314 (v72 : BitVec 32) (v323 : IVec S16 32) (v329 : IVec S16 32) : Prop :=
  (∀ (k0_h7 : k0_cond7 v72 = 1#1), ∀ a x, ((![v329, v323] : Fin 2 → IVec S16 32) a x).toNat < S64x32.size a)
theorem k0_idx316_inb : ∀ (v72 : BitVec 32) (v323 : IVec S16 32) (v329 : IVec S16 32) (k0_hw314 : k0_chk314 v72 v323 v329), ∀ (k0_h7 : k0_cond7 v72 = 1#1), ∀ a x, ((![v329, v323] : Fin 2 → IVec S16 32) a x).toNat < S64x32.size a := fun v72 v323 v329 k0_hw314 k0_h7 => k0_hw314 k0_h7

def k0_chk315 (v72 : BitVec 32) (v172 : IVec S16 32) (v323 : IVec S16 32) : Prop :=
  (∀ (k0_h7 : k0_cond7 v72 = 1#1), ∀ a x, ((![v172, v323] : Fin 2 → IVec S16 32) a x).toNat < S512x32.size a)
theorem k0_idx317_inb : ∀ (v72 : BitVec 32) (v172 : IVec S16 32) (v323 : IVec S16 32) (k0_hw315 : k0_chk315 v72 v172 v323), ∀ (k0_h7 : k0_cond7 v72 = 1#1), ∀ a x, ((![v172, v323] : Fin 2 → IVec S16 32) a x).toNat < S512x32.size a := fun v72 v172 v323 k0_hw315 k0_h7 => k0_hw315 k0_h7

def k0_chk316 (v72 : BitVec 32) (v331 : IVec S16 32) (v337 : IVec S16 32) : Prop :=
  (∀ (k0_h7 : k0_cond7 v72 = 1#1), ∀ a x, ((![v337, v331] : Fin 2 → IVec S16 32) a x).toNat < S64x32.size a)
theorem k0_idx318_inb : ∀ (v72 : BitVec 32) (v331 : IVec S16 32) (v337 : IVec S16 32) (k0_hw316 : k0_chk316 v72 v331 v337), ∀ (k0_h7 : k0_cond7 v72 = 1#1), ∀ a x, ((![v337, v331] : Fin 2 → IVec S16 32) a x).toNat < S64x32.size a := fun v72 v331 v337 k0_hw316 k0_h7 => k0_hw316 k0_h7

def k0_chk317 (v72 : BitVec 32) (v172 : IVec S16 32) (v331 : IVec S16 32) : Prop :=
  (∀ (k0_h7 : k0_cond7 v72 = 1#1), ∀ a x, ((![v172, v331] : Fin 2 → IVec S16 32) a x).toNat < S512x32.size a)
theorem k0_idx319_inb : ∀ (v72 : BitVec 32) (v172 : IVec S16 32) (v331 : IVec S16 32) (k0_hw317 : k0_chk317 v72 v172 v331), ∀ (k0_h7 : k0_cond7 v72 = 1#1), ∀ a x, ((![v172, v331] : Fin 2 → IVec S16 32) a x).toNat < S512x32.size a := fun v72 v172 v331 k0_hw317 k0_h7 => k0_hw317 k0_h7

def k0_chk318 (v72 : BitVec 32) (v339 : IVec S16 32) (v345 : IVec S16 32) : Prop :=
  (∀ (k0_h7 : k0_cond7 v72 = 1#1), ∀ a x, ((![v345, v339] : Fin 2 → IVec S16 32) a x).toNat < S64x32.size a)
theorem k0_idx320_inb : ∀ (v72 : BitVec 32) (v339 : IVec S16 32) (v345 : IVec S16 32) (k0_hw318 : k0_chk318 v72 v339 v345), ∀ (k0_h7 : k0_cond7 v72 = 1#1), ∀ a x, ((![v345, v339] : Fin 2 → IVec S16 32) a x).toNat < S64x32.size a := fun v72 v339 v345 k0_hw318 k0_h7 => k0_hw318 k0_h7

def k0_chk319 (v72 : BitVec 32) (v172 : IVec S16 32) (v339 : IVec S16 32) : Prop :=
  (∀ (k0_h7 : k0_cond7 v72 = 1#1), ∀ a x, ((![v172, v339] : Fin 2 → IVec S16 32) a x).toNat < S512x32.size a)
theorem k0_idx321_inb : ∀ (v72 : BitVec 32) (v172 : IVec S16 32) (v339 : IVec S16 32) (k0_hw319 : k0_chk319 v72 v172 v339), ∀ (k0_h7 : k0_cond7 v72 = 1#1), ∀ a x, ((![v172, v339] : Fin 2 → IVec S16 32) a x).toNat < S512x32.size a := fun v72 v172 v339 k0_hw319 k0_h7 => k0_hw319 k0_h7

def k0_chk320 (v72 : BitVec 32) (v347 : IVec S16 32) (v353 : IVec S16 32) : Prop :=
  (∀ (k0_h7 : k0_cond7 v72 = 1#1), ∀ a x, ((![v353, v347] : Fin 2 → IVec S16 32) a x).toNat < S64x32.size a)
theorem k0_idx322_inb : ∀ (v72 : BitVec 32) (v347 : IVec S16 32) (v353 : IVec S16 32) (k0_hw320 : k0_chk320 v72 v347 v353), ∀ (k0_h7 : k0_cond7 v72 = 1#1), ∀ a x, ((![v353, v347] : Fin 2 → IVec S16 32) a x).toNat < S64x32.size a := fun v72 v347 v353 k0_hw320 k0_h7 => k0_hw320 k0_h7

def k0_chk321 (v72 : BitVec 32) (v172 : IVec S16 32) (v347 : IVec S16 32) : Prop :=
  (∀ (k0_h7 : k0_cond7 v72 = 1#1), ∀ a x, ((![v172, v347] : Fin 2 → IVec S16 32) a x).toNat < S512x32.size a)
theorem k0_idx323_inb : ∀ (v72 : BitVec 32) (v172 : IVec S16 32) (v347 : IVec S16 32) (k0_hw321 : k0_chk321 v72 v172 v347), ∀ (k0_h7 : k0_cond7 v72 = 1#1), ∀ a x, ((![v172, v347] : Fin 2 → IVec S16 32) a x).toNat < S512x32.size a := fun v72 v172 v347 k0_hw321 k0_h7 => k0_hw321 k0_h7

def k0_chk322 (v72 : BitVec 32) (v355 : IVec S16 32) (v361 : IVec S16 32) : Prop :=
  (∀ (k0_h7 : k0_cond7 v72 = 1#1), ∀ a x, ((![v361, v355] : Fin 2 → IVec S16 32) a x).toNat < S64x32.size a)
theorem k0_idx324_inb : ∀ (v72 : BitVec 32) (v355 : IVec S16 32) (v361 : IVec S16 32) (k0_hw322 : k0_chk322 v72 v355 v361), ∀ (k0_h7 : k0_cond7 v72 = 1#1), ∀ a x, ((![v361, v355] : Fin 2 → IVec S16 32) a x).toNat < S64x32.size a := fun v72 v355 v361 k0_hw322 k0_h7 => k0_hw322 k0_h7

def k0_chk323 (v72 : BitVec 32) (v172 : IVec S16 32) (v355 : IVec S16 32) : Prop :=
  (∀ (k0_h7 : k0_cond7 v72 = 1#1), ∀ a x, ((![v172, v355] : Fin 2 → IVec S16 32) a x).toNat < S512x32.size a)
theorem k0_idx325_inb : ∀ (v72 : BitVec 32) (v172 : IVec S16 32) (v355 : IVec S16 32) (k0_hw323 : k0_chk323 v72 v172 v355), ∀ (k0_h7 : k0_cond7 v72 = 1#1), ∀ a x, ((![v172, v355] : Fin 2 → IVec S16 32) a x).toNat < S512x32.size a := fun v72 v172 v355 k0_hw323 k0_h7 => k0_hw323 k0_h7

def k0_chk324 (v72 : BitVec 32) (v363 : IVec S16 32) (v369 : IVec S16 32) : Prop :=
  (∀ (k0_h7 : k0_cond7 v72 = 1#1), ∀ a x, ((![v369, v363] : Fin 2 → IVec S16 32) a x).toNat < S64x32.size a)
theorem k0_idx326_inb : ∀ (v72 : BitVec 32) (v363 : IVec S16 32) (v369 : IVec S16 32) (k0_hw324 : k0_chk324 v72 v363 v369), ∀ (k0_h7 : k0_cond7 v72 = 1#1), ∀ a x, ((![v369, v363] : Fin 2 → IVec S16 32) a x).toNat < S64x32.size a := fun v72 v363 v369 k0_hw324 k0_h7 => k0_hw324 k0_h7

def k0_chk325 (v72 : BitVec 32) (v172 : IVec S16 32) (v363 : IVec S16 32) : Prop :=
  (∀ (k0_h7 : k0_cond7 v72 = 1#1), ∀ a x, ((![v172, v363] : Fin 2 → IVec S16 32) a x).toNat < S512x32.size a)
theorem k0_idx327_inb : ∀ (v72 : BitVec 32) (v172 : IVec S16 32) (v363 : IVec S16 32) (k0_hw325 : k0_chk325 v72 v172 v363), ∀ (k0_h7 : k0_cond7 v72 = 1#1), ∀ a x, ((![v172, v363] : Fin 2 → IVec S16 32) a x).toNat < S512x32.size a := fun v72 v172 v363 k0_hw325 k0_h7 => k0_hw325 k0_h7

def k0_chk326 (v72 : BitVec 32) (v371 : IVec S16 32) (v377 : IVec S16 32) : Prop :=
  (∀ (k0_h7 : k0_cond7 v72 = 1#1), ∀ a x, ((![v377, v371] : Fin 2 → IVec S16 32) a x).toNat < S64x32.size a)
theorem k0_idx328_inb : ∀ (v72 : BitVec 32) (v371 : IVec S16 32) (v377 : IVec S16 32) (k0_hw326 : k0_chk326 v72 v371 v377), ∀ (k0_h7 : k0_cond7 v72 = 1#1), ∀ a x, ((![v377, v371] : Fin 2 → IVec S16 32) a x).toNat < S64x32.size a := fun v72 v371 v377 k0_hw326 k0_h7 => k0_hw326 k0_h7

def k0_chk327 (v72 : BitVec 32) (v172 : IVec S16 32) (v371 : IVec S16 32) : Prop :=
  (∀ (k0_h7 : k0_cond7 v72 = 1#1), ∀ a x, ((![v172, v371] : Fin 2 → IVec S16 32) a x).toNat < S512x32.size a)
theorem k0_idx329_inb : ∀ (v72 : BitVec 32) (v172 : IVec S16 32) (v371 : IVec S16 32) (k0_hw327 : k0_chk327 v72 v172 v371), ∀ (k0_h7 : k0_cond7 v72 = 1#1), ∀ a x, ((![v172, v371] : Fin 2 → IVec S16 32) a x).toNat < S512x32.size a := fun v72 v172 v371 k0_hw327 k0_h7 => k0_hw327 k0_h7

def k0_chk328 (v72 : BitVec 32) (v379 : IVec S16 32) (v385 : IVec S16 32) : Prop :=
  (∀ (k0_h7 : k0_cond7 v72 = 1#1), ∀ a x, ((![v385, v379] : Fin 2 → IVec S16 32) a x).toNat < S64x32.size a)
theorem k0_idx330_inb : ∀ (v72 : BitVec 32) (v379 : IVec S16 32) (v385 : IVec S16 32) (k0_hw328 : k0_chk328 v72 v379 v385), ∀ (k0_h7 : k0_cond7 v72 = 1#1), ∀ a x, ((![v385, v379] : Fin 2 → IVec S16 32) a x).toNat < S64x32.size a := fun v72 v379 v385 k0_hw328 k0_h7 => k0_hw328 k0_h7

def k0_chk329 (v72 : BitVec 32) (v172 : IVec S16 32) (v379 : IVec S16 32) : Prop :=
  (∀ (k0_h7 : k0_cond7 v72 = 1#1), ∀ a x, ((![v172, v379] : Fin 2 → IVec S16 32) a x).toNat < S512x32.size a)
theorem k0_idx331_inb : ∀ (v72 : BitVec 32) (v172 : IVec S16 32) (v379 : IVec S16 32) (k0_hw329 : k0_chk329 v72 v172 v379), ∀ (k0_h7 : k0_cond7 v72 = 1#1), ∀ a x, ((![v172, v379] : Fin 2 → IVec S16 32) a x).toNat < S512x32.size a := fun v72 v172 v379 k0_hw329 k0_h7 => k0_hw329 k0_h7

def k0_chk330 (v72 : BitVec 32) (v387 : IVec S16 32) (v393 : IVec S16 32) : Prop :=
  (∀ (k0_h7 : k0_cond7 v72 = 1#1), ∀ a x, ((![v393, v387] : Fin 2 → IVec S16 32) a x).toNat < S64x32.size a)
theorem k0_idx332_inb : ∀ (v72 : BitVec 32) (v387 : IVec S16 32) (v393 : IVec S16 32) (k0_hw330 : k0_chk330 v72 v387 v393), ∀ (k0_h7 : k0_cond7 v72 = 1#1), ∀ a x, ((![v393, v387] : Fin 2 → IVec S16 32) a x).toNat < S64x32.size a := fun v72 v387 v393 k0_hw330 k0_h7 => k0_hw330 k0_h7

def k0_chk331 (v72 : BitVec 32) (v172 : IVec S16 32) (v387 : IVec S16 32) : Prop :=
  (∀ (k0_h7 : k0_cond7 v72 = 1#1), ∀ a x, ((![v172, v387] : Fin 2 → IVec S16 32) a x).toNat < S512x32.size a)
theorem k0_idx333_inb : ∀ (v72 : BitVec 32) (v172 : IVec S16 32) (v387 : IVec S16 32) (k0_hw331 : k0_chk331 v72 v172 v387), ∀ (k0_h7 : k0_cond7 v72 = 1#1), ∀ a x, ((![v172, v387] : Fin 2 → IVec S16 32) a x).toNat < S512x32.size a := fun v72 v172 v387 k0_hw331 k0_h7 => k0_hw331 k0_h7

def k0_chk332 (v72 : BitVec 32) (v395 : IVec S16 32) (v401 : IVec S16 32) : Prop :=
  (∀ (k0_h7 : k0_cond7 v72 = 1#1), ∀ a x, ((![v401, v395] : Fin 2 → IVec S16 32) a x).toNat < S64x32.size a)
theorem k0_idx334_inb : ∀ (v72 : BitVec 32) (v395 : IVec S16 32) (v401 : IVec S16 32) (k0_hw332 : k0_chk332 v72 v395 v401), ∀ (k0_h7 : k0_cond7 v72 = 1#1), ∀ a x, ((![v401, v395] : Fin 2 → IVec S16 32) a x).toNat < S64x32.size a := fun v72 v395 v401 k0_hw332 k0_h7 => k0_hw332 k0_h7

def k0_chk333 (v72 : BitVec 32) (v172 : IVec S16 32) (v395 : IVec S16 32) : Prop :=
  (∀ (k0_h7 : k0_cond7 v72 = 1#1), ∀ a x, ((![v172, v395] : Fin 2 → IVec S16 32) a x).toNat < S512x32.size a)
theorem k0_idx335_inb : ∀ (v72 : BitVec 32) (v172 : IVec S16 32) (v395 : IVec S16 32) (k0_hw333 : k0_chk333 v72 v172 v395), ∀ (k0_h7 : k0_cond7 v72 = 1#1), ∀ a x, ((![v172, v395] : Fin 2 → IVec S16 32) a x).toNat < S512x32.size a := fun v72 v172 v395 k0_hw333 k0_h7 => k0_hw333 k0_h7

def k0_chk334 (v72 : BitVec 32) (v403 : IVec S16 32) (v409 : IVec S16 32) : Prop :=
  (∀ (k0_h7 : k0_cond7 v72 = 1#1), ∀ a x, ((![v409, v403] : Fin 2 → IVec S16 32) a x).toNat < S64x32.size a)
theorem k0_idx336_inb : ∀ (v72 : BitVec 32) (v403 : IVec S16 32) (v409 : IVec S16 32) (k0_hw334 : k0_chk334 v72 v403 v409), ∀ (k0_h7 : k0_cond7 v72 = 1#1), ∀ a x, ((![v409, v403] : Fin 2 → IVec S16 32) a x).toNat < S64x32.size a := fun v72 v403 v409 k0_hw334 k0_h7 => k0_hw334 k0_h7

def k0_chk335 (v72 : BitVec 32) (v172 : IVec S16 32) (v403 : IVec S16 32) : Prop :=
  (∀ (k0_h7 : k0_cond7 v72 = 1#1), ∀ a x, ((![v172, v403] : Fin 2 → IVec S16 32) a x).toNat < S512x32.size a)
theorem k0_idx337_inb : ∀ (v72 : BitVec 32) (v172 : IVec S16 32) (v403 : IVec S16 32) (k0_hw335 : k0_chk335 v72 v172 v403), ∀ (k0_h7 : k0_cond7 v72 = 1#1), ∀ a x, ((![v172, v403] : Fin 2 → IVec S16 32) a x).toNat < S512x32.size a := fun v72 v172 v403 k0_hw335 k0_h7 => k0_hw335 k0_h7

def k0_chk336 (v72 : BitVec 32) (v411 : IVec S16 32) (v417 : IVec S16 32) : Prop :=
  (∀ (k0_h7 : k0_cond7 v72 = 1#1), ∀ a x, ((![v417, v411] : Fin 2 → IVec S16 32) a x).toNat < S64x32.size a)
theorem k0_idx338_inb : ∀ (v72 : BitVec 32) (v411 : IVec S16 32) (v417 : IVec S16 32) (k0_hw336 : k0_chk336 v72 v411 v417), ∀ (k0_h7 : k0_cond7 v72 = 1#1), ∀ a x, ((![v417, v411] : Fin 2 → IVec S16 32) a x).toNat < S64x32.size a := fun v72 v411 v417 k0_hw336 k0_h7 => k0_hw336 k0_h7

def k0_chk337 (v72 : BitVec 32) (v172 : IVec S16 32) (v411 : IVec S16 32) : Prop :=
  (∀ (k0_h7 : k0_cond7 v72 = 1#1), ∀ a x, ((![v172, v411] : Fin 2 → IVec S16 32) a x).toNat < S512x32.size a)
theorem k0_idx339_inb : ∀ (v72 : BitVec 32) (v172 : IVec S16 32) (v411 : IVec S16 32) (k0_hw337 : k0_chk337 v72 v172 v411), ∀ (k0_h7 : k0_cond7 v72 = 1#1), ∀ a x, ((![v172, v411] : Fin 2 → IVec S16 32) a x).toNat < S512x32.size a := fun v72 v172 v411 k0_hw337 k0_h7 => k0_hw337 k0_h7

def k0_chk338 (v72 : BitVec 32) (v419 : IVec S16 32) (v425 : IVec S16 32) : Prop :=
  (∀ (k0_h7 : k0_cond7 v72 = 1#1), ∀ a x, ((![v425, v419] : Fin 2 → IVec S16 32) a x).toNat < S64x32.size a)
theorem k0_idx340_inb : ∀ (v72 : BitVec 32) (v419 : IVec S16 32) (v425 : IVec S16 32) (k0_hw338 : k0_chk338 v72 v419 v425), ∀ (k0_h7 : k0_cond7 v72 = 1#1), ∀ a x, ((![v425, v419] : Fin 2 → IVec S16 32) a x).toNat < S64x32.size a := fun v72 v419 v425 k0_hw338 k0_h7 => k0_hw338 k0_h7

def k0_chk339 (v72 : BitVec 32) (v172 : IVec S16 32) (v419 : IVec S16 32) : Prop :=
  (∀ (k0_h7 : k0_cond7 v72 = 1#1), ∀ a x, ((![v172, v419] : Fin 2 → IVec S16 32) a x).toNat < S512x32.size a)
theorem k0_idx341_inb : ∀ (v72 : BitVec 32) (v172 : IVec S16 32) (v419 : IVec S16 32) (k0_hw339 : k0_chk339 v72 v172 v419), ∀ (k0_h7 : k0_cond7 v72 = 1#1), ∀ a x, ((![v172, v419] : Fin 2 → IVec S16 32) a x).toNat < S512x32.size a := fun v72 v172 v419 k0_hw339 k0_h7 => k0_hw339 k0_h7

def k0_chk340 (v72 : BitVec 32) (v427 : IVec S16 32) (v433 : IVec S16 32) : Prop :=
  (∀ (k0_h7 : k0_cond7 v72 = 1#1), ∀ a x, ((![v433, v427] : Fin 2 → IVec S16 32) a x).toNat < S64x32.size a)
theorem k0_idx342_inb : ∀ (v72 : BitVec 32) (v427 : IVec S16 32) (v433 : IVec S16 32) (k0_hw340 : k0_chk340 v72 v427 v433), ∀ (k0_h7 : k0_cond7 v72 = 1#1), ∀ a x, ((![v433, v427] : Fin 2 → IVec S16 32) a x).toNat < S64x32.size a := fun v72 v427 v433 k0_hw340 k0_h7 => k0_hw340 k0_h7

def k0_chk341 (v72 : BitVec 32) (v172 : IVec S16 32) (v427 : IVec S16 32) : Prop :=
  (∀ (k0_h7 : k0_cond7 v72 = 1#1), ∀ a x, ((![v172, v427] : Fin 2 → IVec S16 32) a x).toNat < S512x32.size a)
theorem k0_idx343_inb : ∀ (v72 : BitVec 32) (v172 : IVec S16 32) (v427 : IVec S16 32) (k0_hw341 : k0_chk341 v72 v172 v427), ∀ (k0_h7 : k0_cond7 v72 = 1#1), ∀ a x, ((![v172, v427] : Fin 2 → IVec S16 32) a x).toNat < S512x32.size a := fun v72 v172 v427 k0_hw341 k0_h7 => k0_hw341 k0_h7
@[reducible] def k0_t19_loop (v72 : BitVec 32) : Scf.Loop 32 :=
  let c0_i32_172 : BitVec 32 := 0#32
  let c15_i32 : BitVec 32 := 15#32
  let v140 : BitVec 32 := Scalar.addi v72 c15_i32
  let c0_i32_166 : BitVec 32 := 0#32
  let v142 : BitVec 1 := Scalar.cmpi .sgt v140 c0_i32_166
  let v143 : BitVec 32 := Scalar.extui v142
  let c0_i32_167 : BitVec 32 := 0#32
  let v144 : BitVec 1 := Scalar.cmpi .slt v140 c0_i32_167
  let v145 : BitVec 32 := Scalar.extui v144
  let v146 : BitVec 32 := Scalar.subi v143 v145
  let c16_i32 : BitVec 32 := 16#32
  let c0_i32_168 : BitVec 32 := 0#32
  let v147 : BitVec 1 := Scalar.cmpi .sgt c16_i32 c0_i32_168
  let v148 : BitVec 32 := Scalar.extui v147
  let c0_i32_169 : BitVec 32 := 0#32
  let v149 : BitVec 1 := Scalar.cmpi .slt c16_i32 c0_i32_169
  let v150 : BitVec 32 := Scalar.extui v149
  let v151 : BitVec 32 := Scalar.subi v148 v150
  let v152 : BitVec 1 := Scalar.cmpi .ne v146 v151
  let v153 : BitVec 32 := Scalar.remsi v140 c16_i32
  let c0_i32_170 : BitVec 32 := 0#32
  let v154 : BitVec 1 := Scalar.cmpi .ne v153 c0_i32_170
  let v155 : BitVec 1 := Scalar.andi v152 v154
  let v141 : BitVec 32 := Scalar.divsi v140 c16_i32
  let c1_i32_171 : BitVec 32 := 1#32
  let v156 : BitVec 32 := Scalar.subi v141 c1_i32_171
  let v157 : BitVec 32 := Scalar.select v155 v156 v141
  let v158 : BitVec 32 := Scalar.subi v157 c0_i32_172
  let c1_i32_174 : BitVec 32 := 1#32
  let v160 : BitVec 32 := Scalar.divsi v158 c1_i32_174
  let v161 : BitVec 32 := Scalar.muli v160 c1_i32_174
  let v162 : BitVec 32 := Scalar.addi c0_i32_172 v161
  let v159 : BitVec 32 := Scalar.addi c0_i32_172 v158
  let c1_i32_176 : BitVec 32 := 1#32
  ⟨v162, v159, c1_i32_176⟩
def k0_off20 (v72 : BitVec 32) (k0_t19 : Fin (k0_t19_loop v72).trips) : Fin 1 → Nat :=
  let c0_i32_172 : BitVec 32 := 0#32
  let c15_i32 : BitVec 32 := 15#32
  let v140 : BitVec 32 := Scalar.addi v72 c15_i32
  let c0_i32_166 : BitVec 32 := 0#32
  let v142 : BitVec 1 := Scalar.cmpi .sgt v140 c0_i32_166
  let v143 : BitVec 32 := Scalar.extui v142
  let c0_i32_167 : BitVec 32 := 0#32
  let v144 : BitVec 1 := Scalar.cmpi .slt v140 c0_i32_167
  let v145 : BitVec 32 := Scalar.extui v144
  let v146 : BitVec 32 := Scalar.subi v143 v145
  let c16_i32 : BitVec 32 := 16#32
  let c0_i32_168 : BitVec 32 := 0#32
  let v147 : BitVec 1 := Scalar.cmpi .sgt c16_i32 c0_i32_168
  let v148 : BitVec 32 := Scalar.extui v147
  let c0_i32_169 : BitVec 32 := 0#32
  let v149 : BitVec 1 := Scalar.cmpi .slt c16_i32 c0_i32_169
  let v150 : BitVec 32 := Scalar.extui v149
  let v151 : BitVec 32 := Scalar.subi v148 v150
  let v152 : BitVec 1 := Scalar.cmpi .ne v146 v151
  let v153 : BitVec 32 := Scalar.remsi v140 c16_i32
  let c0_i32_170 : BitVec 32 := 0#32
  let v154 : BitVec 1 := Scalar.cmpi .ne v153 c0_i32_170
  let v155 : BitVec 1 := Scalar.andi v152 v154
  let v141 : BitVec 32 := Scalar.divsi v140 c16_i32
  let c1_i32_171 : BitVec 32 := 1#32
  let v156 : BitVec 32 := Scalar.subi v141 c1_i32_171
  let v157 : BitVec 32 := Scalar.select v155 v156 v141
  let v158 : BitVec 32 := Scalar.subi v157 c0_i32_172
  let c1_i32_174 : BitVec 32 := 1#32
  let v160 : BitVec 32 := Scalar.divsi v158 c1_i32_174
  let v161 : BitVec 32 := Scalar.muli v160 c1_i32_174
  let v162 : BitVec 32 := Scalar.addi c0_i32_172 v161
  let c1_i32_176 : BitVec 32 := 1#32
  let arg24 : BitVec 32 := Scf.iv v162 c1_i32_176 k0_t19
  let c16_i32_178 : BitVec 32 := 16#32
  let v170 : BitVec 32 := Scalar.muli arg24 c16_i32_178
  let v171 : Index := Scalar.indexCast v170
  ![v171.toNat]

def k0_chk275 (v72 : BitVec 32) : Prop :=
  (∀ (k0_h7 : k0_cond7 v72 = 1#1), (k0_t18_loop v72).OK) ∧
  (∀ k0_t18 : Fin (k0_t18_loop v72).trips, ∀ (k0_h7 : k0_cond7 v72 = 1#1), ∀ a, (k0_off19 v72 k0_t18) a + S16.size a ≤ S512.size a) ∧
  (∀ (k0_h7 : k0_cond7 v72 = 1#1), (k0_t19_loop v72).OK) ∧
  (∀ k0_t19 : Fin (k0_t19_loop v72).trips, ∀ (k0_h7 : k0_cond7 v72 = 1#1), ∀ a, (k0_off20 v72 k0_t19) a + S16.size a ≤ S512.size a)
theorem k0_t18_ok : ∀ (v72 : BitVec 32) (k0_hw275 : k0_chk275 v72), ∀ (k0_h7 : k0_cond7 v72 = 1#1), (k0_t18_loop v72).OK := fun v72 k0_hw275 k0_h7 => k0_hw275.1 k0_h7
theorem k0_off19_inb : ∀ (v72 : BitVec 32) (k0_hw275 : k0_chk275 v72) (k0_t18 : Fin (k0_t18_loop v72).trips), ∀ (k0_h7 : k0_cond7 v72 = 1#1), ∀ a, (k0_off19 v72 k0_t18) a + S16.size a ≤ S512.size a := fun v72 k0_hw275 k0_t18 k0_h7 => k0_hw275.2.1 k0_t18 k0_h7
theorem k0_t19_ok : ∀ (v72 : BitVec 32) (k0_hw275 : k0_chk275 v72), ∀ (k0_h7 : k0_cond7 v72 = 1#1), (k0_t19_loop v72).OK := fun v72 k0_hw275 k0_h7 => k0_hw275.2.2.1 k0_h7
theorem k0_off20_inb : ∀ (v72 : BitVec 32) (k0_hw275 : k0_chk275 v72) (k0_t19 : Fin (k0_t19_loop v72).trips), ∀ (k0_h7 : k0_cond7 v72 = 1#1), ∀ a, (k0_off20 v72 k0_t19) a + S16.size a ≤ S512.size a := fun v72 k0_hw275 k0_t19 k0_h7 => k0_hw275.2.2.2 k0_t19 k0_h7

def k0_chk342 (v72 : BitVec 32) (v172 : IVec S16 32) : Prop :=
  (∀ (k0_h7 : k0_cond7 v72 = 1#1), ∀ a x, ((![v172] : Fin 1 → IVec S16 32) a x).toNat < S1024.size a) ∧
  (∀ (k0_h7 : k0_cond7 v72 = 1#1), ∀ a x, ((![v172] : Fin 1 → IVec S16 32) a x).toNat < S1024.size a)
theorem k0_idx344_inb : ∀ (v72 : BitVec 32) (v172 : IVec S16 32) (k0_hw342 : k0_chk342 v72 v172), ∀ (k0_h7 : k0_cond7 v72 = 1#1), ∀ a x, ((![v172] : Fin 1 → IVec S16 32) a x).toNat < S1024.size a := fun v72 v172 k0_hw342 k0_h7 => k0_hw342.1 k0_h7
theorem k0_idx345_inb : ∀ (v72 : BitVec 32) (v172 : IVec S16 32) (k0_hw342 : k0_chk342 v72 v172), ∀ (k0_h7 : k0_cond7 v72 = 1#1), ∀ a x, ((![v172] : Fin 1 → IVec S16 32) a x).toNat < S1024.size a := fun v72 v172 k0_hw342 k0_h7 => k0_hw342.2 k0_h7

def k0_chk343 (v72 : BitVec 32) (v176 : IVec S16 32) (v178 : IVec S16 32) : Prop :=
  (∀ (k0_h7 : k0_cond7 v72 = 1#1), ∀ a x, ((![v176, v178] : Fin 2 → IVec S16 32) a x).toNat < S8x64.size a)
theorem k0_idx346_inb : ∀ (v72 : BitVec 32) (v176 : IVec S16 32) (v178 : IVec S16 32) (k0_hw343 : k0_chk343 v72 v176 v178), ∀ (k0_h7 : k0_cond7 v72 = 1#1), ∀ a x, ((![v176, v178] : Fin 2 → IVec S16 32) a x).toNat < S8x64.size a := fun v72 v176 v178 k0_hw343 k0_h7 => k0_hw343 k0_h7

def k0_chk344 (v72 : BitVec 32) (v179 : IVec S16 32) (v185 : IVec S16 32) : Prop :=
  (∀ (k0_h7 : k0_cond7 v72 = 1#1), ∀ a x, ((![v185, v179] : Fin 2 → IVec S16 32) a x).toNat < S64x32.size a)
theorem k0_idx347_inb : ∀ (v72 : BitVec 32) (v179 : IVec S16 32) (v185 : IVec S16 32) (k0_hw344 : k0_chk344 v72 v179 v185), ∀ (k0_h7 : k0_cond7 v72 = 1#1), ∀ a x, ((![v185, v179] : Fin 2 → IVec S16 32) a x).toNat < S64x32.size a := fun v72 v179 v185 k0_hw344 k0_h7 => k0_hw344 k0_h7

def k0_chk345 (v72 : BitVec 32) (v172 : IVec S16 32) (v179 : IVec S16 32) : Prop :=
  (∀ (k0_h7 : k0_cond7 v72 = 1#1), ∀ a x, ((![v172, v179] : Fin 2 → IVec S16 32) a x).toNat < S512x32.size a)
theorem k0_idx348_inb : ∀ (v72 : BitVec 32) (v172 : IVec S16 32) (v179 : IVec S16 32) (k0_hw345 : k0_chk345 v72 v172 v179), ∀ (k0_h7 : k0_cond7 v72 = 1#1), ∀ a x, ((![v172, v179] : Fin 2 → IVec S16 32) a x).toNat < S512x32.size a := fun v72 v172 v179 k0_hw345 k0_h7 => k0_hw345 k0_h7

def k0_chk346 (v72 : BitVec 32) (v187 : IVec S16 32) (v193 : IVec S16 32) : Prop :=
  (∀ (k0_h7 : k0_cond7 v72 = 1#1), ∀ a x, ((![v193, v187] : Fin 2 → IVec S16 32) a x).toNat < S64x32.size a)
theorem k0_idx349_inb : ∀ (v72 : BitVec 32) (v187 : IVec S16 32) (v193 : IVec S16 32) (k0_hw346 : k0_chk346 v72 v187 v193), ∀ (k0_h7 : k0_cond7 v72 = 1#1), ∀ a x, ((![v193, v187] : Fin 2 → IVec S16 32) a x).toNat < S64x32.size a := fun v72 v187 v193 k0_hw346 k0_h7 => k0_hw346 k0_h7

def k0_chk347 (v72 : BitVec 32) (v172 : IVec S16 32) (v187 : IVec S16 32) : Prop :=
  (∀ (k0_h7 : k0_cond7 v72 = 1#1), ∀ a x, ((![v172, v187] : Fin 2 → IVec S16 32) a x).toNat < S512x32.size a)
theorem k0_idx350_inb : ∀ (v72 : BitVec 32) (v172 : IVec S16 32) (v187 : IVec S16 32) (k0_hw347 : k0_chk347 v72 v172 v187), ∀ (k0_h7 : k0_cond7 v72 = 1#1), ∀ a x, ((![v172, v187] : Fin 2 → IVec S16 32) a x).toNat < S512x32.size a := fun v72 v172 v187 k0_hw347 k0_h7 => k0_hw347 k0_h7

def k0_chk348 (v72 : BitVec 32) (v195 : IVec S16 32) (v201 : IVec S16 32) : Prop :=
  (∀ (k0_h7 : k0_cond7 v72 = 1#1), ∀ a x, ((![v201, v195] : Fin 2 → IVec S16 32) a x).toNat < S64x32.size a)
theorem k0_idx351_inb : ∀ (v72 : BitVec 32) (v195 : IVec S16 32) (v201 : IVec S16 32) (k0_hw348 : k0_chk348 v72 v195 v201), ∀ (k0_h7 : k0_cond7 v72 = 1#1), ∀ a x, ((![v201, v195] : Fin 2 → IVec S16 32) a x).toNat < S64x32.size a := fun v72 v195 v201 k0_hw348 k0_h7 => k0_hw348 k0_h7

def k0_chk349 (v72 : BitVec 32) (v172 : IVec S16 32) (v195 : IVec S16 32) : Prop :=
  (∀ (k0_h7 : k0_cond7 v72 = 1#1), ∀ a x, ((![v172, v195] : Fin 2 → IVec S16 32) a x).toNat < S512x32.size a)
theorem k0_idx352_inb : ∀ (v72 : BitVec 32) (v172 : IVec S16 32) (v195 : IVec S16 32) (k0_hw349 : k0_chk349 v72 v172 v195), ∀ (k0_h7 : k0_cond7 v72 = 1#1), ∀ a x, ((![v172, v195] : Fin 2 → IVec S16 32) a x).toNat < S512x32.size a := fun v72 v172 v195 k0_hw349 k0_h7 => k0_hw349 k0_h7

def k0_chk350 (v72 : BitVec 32) (v203 : IVec S16 32) (v209 : IVec S16 32) : Prop :=
  (∀ (k0_h7 : k0_cond7 v72 = 1#1), ∀ a x, ((![v209, v203] : Fin 2 → IVec S16 32) a x).toNat < S64x32.size a)
theorem k0_idx353_inb : ∀ (v72 : BitVec 32) (v203 : IVec S16 32) (v209 : IVec S16 32) (k0_hw350 : k0_chk350 v72 v203 v209), ∀ (k0_h7 : k0_cond7 v72 = 1#1), ∀ a x, ((![v209, v203] : Fin 2 → IVec S16 32) a x).toNat < S64x32.size a := fun v72 v203 v209 k0_hw350 k0_h7 => k0_hw350 k0_h7

def k0_chk351 (v72 : BitVec 32) (v172 : IVec S16 32) (v203 : IVec S16 32) : Prop :=
  (∀ (k0_h7 : k0_cond7 v72 = 1#1), ∀ a x, ((![v172, v203] : Fin 2 → IVec S16 32) a x).toNat < S512x32.size a)
theorem k0_idx354_inb : ∀ (v72 : BitVec 32) (v172 : IVec S16 32) (v203 : IVec S16 32) (k0_hw351 : k0_chk351 v72 v172 v203), ∀ (k0_h7 : k0_cond7 v72 = 1#1), ∀ a x, ((![v172, v203] : Fin 2 → IVec S16 32) a x).toNat < S512x32.size a := fun v72 v172 v203 k0_hw351 k0_h7 => k0_hw351 k0_h7

def k0_chk352 (v72 : BitVec 32) (v211 : IVec S16 32) (v217 : IVec S16 32) : Prop :=
  (∀ (k0_h7 : k0_cond7 v72 = 1#1), ∀ a x, ((![v217, v211] : Fin 2 → IVec S16 32) a x).toNat < S64x32.size a)
theorem k0_idx355_inb : ∀ (v72 : BitVec 32) (v211 : IVec S16 32) (v217 : IVec S16 32) (k0_hw352 : k0_chk352 v72 v211 v217), ∀ (k0_h7 : k0_cond7 v72 = 1#1), ∀ a x, ((![v217, v211] : Fin 2 → IVec S16 32) a x).toNat < S64x32.size a := fun v72 v211 v217 k0_hw352 k0_h7 => k0_hw352 k0_h7

def k0_chk353 (v72 : BitVec 32) (v172 : IVec S16 32) (v211 : IVec S16 32) : Prop :=
  (∀ (k0_h7 : k0_cond7 v72 = 1#1), ∀ a x, ((![v172, v211] : Fin 2 → IVec S16 32) a x).toNat < S512x32.size a)
theorem k0_idx356_inb : ∀ (v72 : BitVec 32) (v172 : IVec S16 32) (v211 : IVec S16 32) (k0_hw353 : k0_chk353 v72 v172 v211), ∀ (k0_h7 : k0_cond7 v72 = 1#1), ∀ a x, ((![v172, v211] : Fin 2 → IVec S16 32) a x).toNat < S512x32.size a := fun v72 v172 v211 k0_hw353 k0_h7 => k0_hw353 k0_h7

def k0_chk354 (v72 : BitVec 32) (v219 : IVec S16 32) (v225 : IVec S16 32) : Prop :=
  (∀ (k0_h7 : k0_cond7 v72 = 1#1), ∀ a x, ((![v225, v219] : Fin 2 → IVec S16 32) a x).toNat < S64x32.size a)
theorem k0_idx357_inb : ∀ (v72 : BitVec 32) (v219 : IVec S16 32) (v225 : IVec S16 32) (k0_hw354 : k0_chk354 v72 v219 v225), ∀ (k0_h7 : k0_cond7 v72 = 1#1), ∀ a x, ((![v225, v219] : Fin 2 → IVec S16 32) a x).toNat < S64x32.size a := fun v72 v219 v225 k0_hw354 k0_h7 => k0_hw354 k0_h7

def k0_chk355 (v72 : BitVec 32) (v172 : IVec S16 32) (v219 : IVec S16 32) : Prop :=
  (∀ (k0_h7 : k0_cond7 v72 = 1#1), ∀ a x, ((![v172, v219] : Fin 2 → IVec S16 32) a x).toNat < S512x32.size a)
theorem k0_idx358_inb : ∀ (v72 : BitVec 32) (v172 : IVec S16 32) (v219 : IVec S16 32) (k0_hw355 : k0_chk355 v72 v172 v219), ∀ (k0_h7 : k0_cond7 v72 = 1#1), ∀ a x, ((![v172, v219] : Fin 2 → IVec S16 32) a x).toNat < S512x32.size a := fun v72 v172 v219 k0_hw355 k0_h7 => k0_hw355 k0_h7

def k0_chk356 (v72 : BitVec 32) (v227 : IVec S16 32) (v233 : IVec S16 32) : Prop :=
  (∀ (k0_h7 : k0_cond7 v72 = 1#1), ∀ a x, ((![v233, v227] : Fin 2 → IVec S16 32) a x).toNat < S64x32.size a)
theorem k0_idx359_inb : ∀ (v72 : BitVec 32) (v227 : IVec S16 32) (v233 : IVec S16 32) (k0_hw356 : k0_chk356 v72 v227 v233), ∀ (k0_h7 : k0_cond7 v72 = 1#1), ∀ a x, ((![v233, v227] : Fin 2 → IVec S16 32) a x).toNat < S64x32.size a := fun v72 v227 v233 k0_hw356 k0_h7 => k0_hw356 k0_h7

def k0_chk357 (v72 : BitVec 32) (v172 : IVec S16 32) (v227 : IVec S16 32) : Prop :=
  (∀ (k0_h7 : k0_cond7 v72 = 1#1), ∀ a x, ((![v172, v227] : Fin 2 → IVec S16 32) a x).toNat < S512x32.size a)
theorem k0_idx360_inb : ∀ (v72 : BitVec 32) (v172 : IVec S16 32) (v227 : IVec S16 32) (k0_hw357 : k0_chk357 v72 v172 v227), ∀ (k0_h7 : k0_cond7 v72 = 1#1), ∀ a x, ((![v172, v227] : Fin 2 → IVec S16 32) a x).toNat < S512x32.size a := fun v72 v172 v227 k0_hw357 k0_h7 => k0_hw357 k0_h7

def k0_chk358 (v72 : BitVec 32) (v235 : IVec S16 32) (v241 : IVec S16 32) : Prop :=
  (∀ (k0_h7 : k0_cond7 v72 = 1#1), ∀ a x, ((![v241, v235] : Fin 2 → IVec S16 32) a x).toNat < S64x32.size a)
theorem k0_idx361_inb : ∀ (v72 : BitVec 32) (v235 : IVec S16 32) (v241 : IVec S16 32) (k0_hw358 : k0_chk358 v72 v235 v241), ∀ (k0_h7 : k0_cond7 v72 = 1#1), ∀ a x, ((![v241, v235] : Fin 2 → IVec S16 32) a x).toNat < S64x32.size a := fun v72 v235 v241 k0_hw358 k0_h7 => k0_hw358 k0_h7

def k0_chk359 (v72 : BitVec 32) (v172 : IVec S16 32) (v235 : IVec S16 32) : Prop :=
  (∀ (k0_h7 : k0_cond7 v72 = 1#1), ∀ a x, ((![v172, v235] : Fin 2 → IVec S16 32) a x).toNat < S512x32.size a)
theorem k0_idx362_inb : ∀ (v72 : BitVec 32) (v172 : IVec S16 32) (v235 : IVec S16 32) (k0_hw359 : k0_chk359 v72 v172 v235), ∀ (k0_h7 : k0_cond7 v72 = 1#1), ∀ a x, ((![v172, v235] : Fin 2 → IVec S16 32) a x).toNat < S512x32.size a := fun v72 v172 v235 k0_hw359 k0_h7 => k0_hw359 k0_h7

def k0_chk360 (v72 : BitVec 32) (v243 : IVec S16 32) (v249 : IVec S16 32) : Prop :=
  (∀ (k0_h7 : k0_cond7 v72 = 1#1), ∀ a x, ((![v249, v243] : Fin 2 → IVec S16 32) a x).toNat < S64x32.size a)
theorem k0_idx363_inb : ∀ (v72 : BitVec 32) (v243 : IVec S16 32) (v249 : IVec S16 32) (k0_hw360 : k0_chk360 v72 v243 v249), ∀ (k0_h7 : k0_cond7 v72 = 1#1), ∀ a x, ((![v249, v243] : Fin 2 → IVec S16 32) a x).toNat < S64x32.size a := fun v72 v243 v249 k0_hw360 k0_h7 => k0_hw360 k0_h7

def k0_chk361 (v72 : BitVec 32) (v172 : IVec S16 32) (v243 : IVec S16 32) : Prop :=
  (∀ (k0_h7 : k0_cond7 v72 = 1#1), ∀ a x, ((![v172, v243] : Fin 2 → IVec S16 32) a x).toNat < S512x32.size a)
theorem k0_idx364_inb : ∀ (v72 : BitVec 32) (v172 : IVec S16 32) (v243 : IVec S16 32) (k0_hw361 : k0_chk361 v72 v172 v243), ∀ (k0_h7 : k0_cond7 v72 = 1#1), ∀ a x, ((![v172, v243] : Fin 2 → IVec S16 32) a x).toNat < S512x32.size a := fun v72 v172 v243 k0_hw361 k0_h7 => k0_hw361 k0_h7

def k0_chk362 (v72 : BitVec 32) (v251 : IVec S16 32) (v257 : IVec S16 32) : Prop :=
  (∀ (k0_h7 : k0_cond7 v72 = 1#1), ∀ a x, ((![v257, v251] : Fin 2 → IVec S16 32) a x).toNat < S64x32.size a)
theorem k0_idx365_inb : ∀ (v72 : BitVec 32) (v251 : IVec S16 32) (v257 : IVec S16 32) (k0_hw362 : k0_chk362 v72 v251 v257), ∀ (k0_h7 : k0_cond7 v72 = 1#1), ∀ a x, ((![v257, v251] : Fin 2 → IVec S16 32) a x).toNat < S64x32.size a := fun v72 v251 v257 k0_hw362 k0_h7 => k0_hw362 k0_h7

def k0_chk363 (v72 : BitVec 32) (v172 : IVec S16 32) (v251 : IVec S16 32) : Prop :=
  (∀ (k0_h7 : k0_cond7 v72 = 1#1), ∀ a x, ((![v172, v251] : Fin 2 → IVec S16 32) a x).toNat < S512x32.size a)
theorem k0_idx366_inb : ∀ (v72 : BitVec 32) (v172 : IVec S16 32) (v251 : IVec S16 32) (k0_hw363 : k0_chk363 v72 v172 v251), ∀ (k0_h7 : k0_cond7 v72 = 1#1), ∀ a x, ((![v172, v251] : Fin 2 → IVec S16 32) a x).toNat < S512x32.size a := fun v72 v172 v251 k0_hw363 k0_h7 => k0_hw363 k0_h7

def k0_chk364 (v72 : BitVec 32) (v259 : IVec S16 32) (v265 : IVec S16 32) : Prop :=
  (∀ (k0_h7 : k0_cond7 v72 = 1#1), ∀ a x, ((![v265, v259] : Fin 2 → IVec S16 32) a x).toNat < S64x32.size a)
theorem k0_idx367_inb : ∀ (v72 : BitVec 32) (v259 : IVec S16 32) (v265 : IVec S16 32) (k0_hw364 : k0_chk364 v72 v259 v265), ∀ (k0_h7 : k0_cond7 v72 = 1#1), ∀ a x, ((![v265, v259] : Fin 2 → IVec S16 32) a x).toNat < S64x32.size a := fun v72 v259 v265 k0_hw364 k0_h7 => k0_hw364 k0_h7

def k0_chk365 (v72 : BitVec 32) (v172 : IVec S16 32) (v259 : IVec S16 32) : Prop :=
  (∀ (k0_h7 : k0_cond7 v72 = 1#1), ∀ a x, ((![v172, v259] : Fin 2 → IVec S16 32) a x).toNat < S512x32.size a)
theorem k0_idx368_inb : ∀ (v72 : BitVec 32) (v172 : IVec S16 32) (v259 : IVec S16 32) (k0_hw365 : k0_chk365 v72 v172 v259), ∀ (k0_h7 : k0_cond7 v72 = 1#1), ∀ a x, ((![v172, v259] : Fin 2 → IVec S16 32) a x).toNat < S512x32.size a := fun v72 v172 v259 k0_hw365 k0_h7 => k0_hw365 k0_h7

def k0_chk366 (v72 : BitVec 32) (v267 : IVec S16 32) (v273 : IVec S16 32) : Prop :=
  (∀ (k0_h7 : k0_cond7 v72 = 1#1), ∀ a x, ((![v273, v267] : Fin 2 → IVec S16 32) a x).toNat < S64x32.size a)
theorem k0_idx369_inb : ∀ (v72 : BitVec 32) (v267 : IVec S16 32) (v273 : IVec S16 32) (k0_hw366 : k0_chk366 v72 v267 v273), ∀ (k0_h7 : k0_cond7 v72 = 1#1), ∀ a x, ((![v273, v267] : Fin 2 → IVec S16 32) a x).toNat < S64x32.size a := fun v72 v267 v273 k0_hw366 k0_h7 => k0_hw366 k0_h7

def k0_chk367 (v72 : BitVec 32) (v172 : IVec S16 32) (v267 : IVec S16 32) : Prop :=
  (∀ (k0_h7 : k0_cond7 v72 = 1#1), ∀ a x, ((![v172, v267] : Fin 2 → IVec S16 32) a x).toNat < S512x32.size a)
theorem k0_idx370_inb : ∀ (v72 : BitVec 32) (v172 : IVec S16 32) (v267 : IVec S16 32) (k0_hw367 : k0_chk367 v72 v172 v267), ∀ (k0_h7 : k0_cond7 v72 = 1#1), ∀ a x, ((![v172, v267] : Fin 2 → IVec S16 32) a x).toNat < S512x32.size a := fun v72 v172 v267 k0_hw367 k0_h7 => k0_hw367 k0_h7

def k0_chk368 (v72 : BitVec 32) (v275 : IVec S16 32) (v281 : IVec S16 32) : Prop :=
  (∀ (k0_h7 : k0_cond7 v72 = 1#1), ∀ a x, ((![v281, v275] : Fin 2 → IVec S16 32) a x).toNat < S64x32.size a)
theorem k0_idx371_inb : ∀ (v72 : BitVec 32) (v275 : IVec S16 32) (v281 : IVec S16 32) (k0_hw368 : k0_chk368 v72 v275 v281), ∀ (k0_h7 : k0_cond7 v72 = 1#1), ∀ a x, ((![v281, v275] : Fin 2 → IVec S16 32) a x).toNat < S64x32.size a := fun v72 v275 v281 k0_hw368 k0_h7 => k0_hw368 k0_h7

def k0_chk369 (v72 : BitVec 32) (v172 : IVec S16 32) (v275 : IVec S16 32) : Prop :=
  (∀ (k0_h7 : k0_cond7 v72 = 1#1), ∀ a x, ((![v172, v275] : Fin 2 → IVec S16 32) a x).toNat < S512x32.size a)
theorem k0_idx372_inb : ∀ (v72 : BitVec 32) (v172 : IVec S16 32) (v275 : IVec S16 32) (k0_hw369 : k0_chk369 v72 v172 v275), ∀ (k0_h7 : k0_cond7 v72 = 1#1), ∀ a x, ((![v172, v275] : Fin 2 → IVec S16 32) a x).toNat < S512x32.size a := fun v72 v172 v275 k0_hw369 k0_h7 => k0_hw369 k0_h7

def k0_chk370 (v72 : BitVec 32) (v283 : IVec S16 32) (v289 : IVec S16 32) : Prop :=
  (∀ (k0_h7 : k0_cond7 v72 = 1#1), ∀ a x, ((![v289, v283] : Fin 2 → IVec S16 32) a x).toNat < S64x32.size a)
theorem k0_idx373_inb : ∀ (v72 : BitVec 32) (v283 : IVec S16 32) (v289 : IVec S16 32) (k0_hw370 : k0_chk370 v72 v283 v289), ∀ (k0_h7 : k0_cond7 v72 = 1#1), ∀ a x, ((![v289, v283] : Fin 2 → IVec S16 32) a x).toNat < S64x32.size a := fun v72 v283 v289 k0_hw370 k0_h7 => k0_hw370 k0_h7

def k0_chk371 (v72 : BitVec 32) (v172 : IVec S16 32) (v283 : IVec S16 32) : Prop :=
  (∀ (k0_h7 : k0_cond7 v72 = 1#1), ∀ a x, ((![v172, v283] : Fin 2 → IVec S16 32) a x).toNat < S512x32.size a)
theorem k0_idx374_inb : ∀ (v72 : BitVec 32) (v172 : IVec S16 32) (v283 : IVec S16 32) (k0_hw371 : k0_chk371 v72 v172 v283), ∀ (k0_h7 : k0_cond7 v72 = 1#1), ∀ a x, ((![v172, v283] : Fin 2 → IVec S16 32) a x).toNat < S512x32.size a := fun v72 v172 v283 k0_hw371 k0_h7 => k0_hw371 k0_h7

def k0_chk372 (v72 : BitVec 32) (v291 : IVec S16 32) (v297 : IVec S16 32) : Prop :=
  (∀ (k0_h7 : k0_cond7 v72 = 1#1), ∀ a x, ((![v297, v291] : Fin 2 → IVec S16 32) a x).toNat < S64x32.size a)
theorem k0_idx375_inb : ∀ (v72 : BitVec 32) (v291 : IVec S16 32) (v297 : IVec S16 32) (k0_hw372 : k0_chk372 v72 v291 v297), ∀ (k0_h7 : k0_cond7 v72 = 1#1), ∀ a x, ((![v297, v291] : Fin 2 → IVec S16 32) a x).toNat < S64x32.size a := fun v72 v291 v297 k0_hw372 k0_h7 => k0_hw372 k0_h7

def k0_chk373 (v72 : BitVec 32) (v172 : IVec S16 32) (v291 : IVec S16 32) : Prop :=
  (∀ (k0_h7 : k0_cond7 v72 = 1#1), ∀ a x, ((![v172, v291] : Fin 2 → IVec S16 32) a x).toNat < S512x32.size a)
theorem k0_idx376_inb : ∀ (v72 : BitVec 32) (v172 : IVec S16 32) (v291 : IVec S16 32) (k0_hw373 : k0_chk373 v72 v172 v291), ∀ (k0_h7 : k0_cond7 v72 = 1#1), ∀ a x, ((![v172, v291] : Fin 2 → IVec S16 32) a x).toNat < S512x32.size a := fun v72 v172 v291 k0_hw373 k0_h7 => k0_hw373 k0_h7

def k0_chk374 (v72 : BitVec 32) (v299 : IVec S16 32) (v305 : IVec S16 32) : Prop :=
  (∀ (k0_h7 : k0_cond7 v72 = 1#1), ∀ a x, ((![v305, v299] : Fin 2 → IVec S16 32) a x).toNat < S64x32.size a)
theorem k0_idx377_inb : ∀ (v72 : BitVec 32) (v299 : IVec S16 32) (v305 : IVec S16 32) (k0_hw374 : k0_chk374 v72 v299 v305), ∀ (k0_h7 : k0_cond7 v72 = 1#1), ∀ a x, ((![v305, v299] : Fin 2 → IVec S16 32) a x).toNat < S64x32.size a := fun v72 v299 v305 k0_hw374 k0_h7 => k0_hw374 k0_h7

def k0_chk375 (v72 : BitVec 32) (v172 : IVec S16 32) (v299 : IVec S16 32) : Prop :=
  (∀ (k0_h7 : k0_cond7 v72 = 1#1), ∀ a x, ((![v172, v299] : Fin 2 → IVec S16 32) a x).toNat < S512x32.size a)
theorem k0_idx378_inb : ∀ (v72 : BitVec 32) (v172 : IVec S16 32) (v299 : IVec S16 32) (k0_hw375 : k0_chk375 v72 v172 v299), ∀ (k0_h7 : k0_cond7 v72 = 1#1), ∀ a x, ((![v172, v299] : Fin 2 → IVec S16 32) a x).toNat < S512x32.size a := fun v72 v172 v299 k0_hw375 k0_h7 => k0_hw375 k0_h7

def k0_chk376 (v72 : BitVec 32) (v307 : IVec S16 32) (v313 : IVec S16 32) : Prop :=
  (∀ (k0_h7 : k0_cond7 v72 = 1#1), ∀ a x, ((![v313, v307] : Fin 2 → IVec S16 32) a x).toNat < S64x32.size a)
theorem k0_idx379_inb : ∀ (v72 : BitVec 32) (v307 : IVec S16 32) (v313 : IVec S16 32) (k0_hw376 : k0_chk376 v72 v307 v313), ∀ (k0_h7 : k0_cond7 v72 = 1#1), ∀ a x, ((![v313, v307] : Fin 2 → IVec S16 32) a x).toNat < S64x32.size a := fun v72 v307 v313 k0_hw376 k0_h7 => k0_hw376 k0_h7

def k0_chk377 (v72 : BitVec 32) (v172 : IVec S16 32) (v307 : IVec S16 32) : Prop :=
  (∀ (k0_h7 : k0_cond7 v72 = 1#1), ∀ a x, ((![v172, v307] : Fin 2 → IVec S16 32) a x).toNat < S512x32.size a)
theorem k0_idx380_inb : ∀ (v72 : BitVec 32) (v172 : IVec S16 32) (v307 : IVec S16 32) (k0_hw377 : k0_chk377 v72 v172 v307), ∀ (k0_h7 : k0_cond7 v72 = 1#1), ∀ a x, ((![v172, v307] : Fin 2 → IVec S16 32) a x).toNat < S512x32.size a := fun v72 v172 v307 k0_hw377 k0_h7 => k0_hw377 k0_h7

def k0_chk378 (v72 : BitVec 32) (v315 : IVec S16 32) (v321 : IVec S16 32) : Prop :=
  (∀ (k0_h7 : k0_cond7 v72 = 1#1), ∀ a x, ((![v321, v315] : Fin 2 → IVec S16 32) a x).toNat < S64x32.size a)
theorem k0_idx381_inb : ∀ (v72 : BitVec 32) (v315 : IVec S16 32) (v321 : IVec S16 32) (k0_hw378 : k0_chk378 v72 v315 v321), ∀ (k0_h7 : k0_cond7 v72 = 1#1), ∀ a x, ((![v321, v315] : Fin 2 → IVec S16 32) a x).toNat < S64x32.size a := fun v72 v315 v321 k0_hw378 k0_h7 => k0_hw378 k0_h7

def k0_chk379 (v72 : BitVec 32) (v172 : IVec S16 32) (v315 : IVec S16 32) : Prop :=
  (∀ (k0_h7 : k0_cond7 v72 = 1#1), ∀ a x, ((![v172, v315] : Fin 2 → IVec S16 32) a x).toNat < S512x32.size a)
theorem k0_idx382_inb : ∀ (v72 : BitVec 32) (v172 : IVec S16 32) (v315 : IVec S16 32) (k0_hw379 : k0_chk379 v72 v172 v315), ∀ (k0_h7 : k0_cond7 v72 = 1#1), ∀ a x, ((![v172, v315] : Fin 2 → IVec S16 32) a x).toNat < S512x32.size a := fun v72 v172 v315 k0_hw379 k0_h7 => k0_hw379 k0_h7

def k0_chk380 (v72 : BitVec 32) (v323 : IVec S16 32) (v329 : IVec S16 32) : Prop :=
  (∀ (k0_h7 : k0_cond7 v72 = 1#1), ∀ a x, ((![v329, v323] : Fin 2 → IVec S16 32) a x).toNat < S64x32.size a)
theorem k0_idx383_inb : ∀ (v72 : BitVec 32) (v323 : IVec S16 32) (v329 : IVec S16 32) (k0_hw380 : k0_chk380 v72 v323 v329), ∀ (k0_h7 : k0_cond7 v72 = 1#1), ∀ a x, ((![v329, v323] : Fin 2 → IVec S16 32) a x).toNat < S64x32.size a := fun v72 v323 v329 k0_hw380 k0_h7 => k0_hw380 k0_h7

def k0_chk381 (v72 : BitVec 32) (v172 : IVec S16 32) (v323 : IVec S16 32) : Prop :=
  (∀ (k0_h7 : k0_cond7 v72 = 1#1), ∀ a x, ((![v172, v323] : Fin 2 → IVec S16 32) a x).toNat < S512x32.size a)
theorem k0_idx384_inb : ∀ (v72 : BitVec 32) (v172 : IVec S16 32) (v323 : IVec S16 32) (k0_hw381 : k0_chk381 v72 v172 v323), ∀ (k0_h7 : k0_cond7 v72 = 1#1), ∀ a x, ((![v172, v323] : Fin 2 → IVec S16 32) a x).toNat < S512x32.size a := fun v72 v172 v323 k0_hw381 k0_h7 => k0_hw381 k0_h7

def k0_chk382 (v72 : BitVec 32) (v331 : IVec S16 32) (v337 : IVec S16 32) : Prop :=
  (∀ (k0_h7 : k0_cond7 v72 = 1#1), ∀ a x, ((![v337, v331] : Fin 2 → IVec S16 32) a x).toNat < S64x32.size a)
theorem k0_idx385_inb : ∀ (v72 : BitVec 32) (v331 : IVec S16 32) (v337 : IVec S16 32) (k0_hw382 : k0_chk382 v72 v331 v337), ∀ (k0_h7 : k0_cond7 v72 = 1#1), ∀ a x, ((![v337, v331] : Fin 2 → IVec S16 32) a x).toNat < S64x32.size a := fun v72 v331 v337 k0_hw382 k0_h7 => k0_hw382 k0_h7

def k0_chk383 (v72 : BitVec 32) (v172 : IVec S16 32) (v331 : IVec S16 32) : Prop :=
  (∀ (k0_h7 : k0_cond7 v72 = 1#1), ∀ a x, ((![v172, v331] : Fin 2 → IVec S16 32) a x).toNat < S512x32.size a)
theorem k0_idx386_inb : ∀ (v72 : BitVec 32) (v172 : IVec S16 32) (v331 : IVec S16 32) (k0_hw383 : k0_chk383 v72 v172 v331), ∀ (k0_h7 : k0_cond7 v72 = 1#1), ∀ a x, ((![v172, v331] : Fin 2 → IVec S16 32) a x).toNat < S512x32.size a := fun v72 v172 v331 k0_hw383 k0_h7 => k0_hw383 k0_h7

def k0_chk384 (v72 : BitVec 32) (v339 : IVec S16 32) (v345 : IVec S16 32) : Prop :=
  (∀ (k0_h7 : k0_cond7 v72 = 1#1), ∀ a x, ((![v345, v339] : Fin 2 → IVec S16 32) a x).toNat < S64x32.size a)
theorem k0_idx387_inb : ∀ (v72 : BitVec 32) (v339 : IVec S16 32) (v345 : IVec S16 32) (k0_hw384 : k0_chk384 v72 v339 v345), ∀ (k0_h7 : k0_cond7 v72 = 1#1), ∀ a x, ((![v345, v339] : Fin 2 → IVec S16 32) a x).toNat < S64x32.size a := fun v72 v339 v345 k0_hw384 k0_h7 => k0_hw384 k0_h7

def k0_chk385 (v72 : BitVec 32) (v172 : IVec S16 32) (v339 : IVec S16 32) : Prop :=
  (∀ (k0_h7 : k0_cond7 v72 = 1#1), ∀ a x, ((![v172, v339] : Fin 2 → IVec S16 32) a x).toNat < S512x32.size a)
theorem k0_idx388_inb : ∀ (v72 : BitVec 32) (v172 : IVec S16 32) (v339 : IVec S16 32) (k0_hw385 : k0_chk385 v72 v172 v339), ∀ (k0_h7 : k0_cond7 v72 = 1#1), ∀ a x, ((![v172, v339] : Fin 2 → IVec S16 32) a x).toNat < S512x32.size a := fun v72 v172 v339 k0_hw385 k0_h7 => k0_hw385 k0_h7

def k0_chk386 (v72 : BitVec 32) (v347 : IVec S16 32) (v353 : IVec S16 32) : Prop :=
  (∀ (k0_h7 : k0_cond7 v72 = 1#1), ∀ a x, ((![v353, v347] : Fin 2 → IVec S16 32) a x).toNat < S64x32.size a)
theorem k0_idx389_inb : ∀ (v72 : BitVec 32) (v347 : IVec S16 32) (v353 : IVec S16 32) (k0_hw386 : k0_chk386 v72 v347 v353), ∀ (k0_h7 : k0_cond7 v72 = 1#1), ∀ a x, ((![v353, v347] : Fin 2 → IVec S16 32) a x).toNat < S64x32.size a := fun v72 v347 v353 k0_hw386 k0_h7 => k0_hw386 k0_h7

def k0_chk387 (v72 : BitVec 32) (v172 : IVec S16 32) (v347 : IVec S16 32) : Prop :=
  (∀ (k0_h7 : k0_cond7 v72 = 1#1), ∀ a x, ((![v172, v347] : Fin 2 → IVec S16 32) a x).toNat < S512x32.size a)
theorem k0_idx390_inb : ∀ (v72 : BitVec 32) (v172 : IVec S16 32) (v347 : IVec S16 32) (k0_hw387 : k0_chk387 v72 v172 v347), ∀ (k0_h7 : k0_cond7 v72 = 1#1), ∀ a x, ((![v172, v347] : Fin 2 → IVec S16 32) a x).toNat < S512x32.size a := fun v72 v172 v347 k0_hw387 k0_h7 => k0_hw387 k0_h7

def k0_chk388 (v72 : BitVec 32) (v355 : IVec S16 32) (v361 : IVec S16 32) : Prop :=
  (∀ (k0_h7 : k0_cond7 v72 = 1#1), ∀ a x, ((![v361, v355] : Fin 2 → IVec S16 32) a x).toNat < S64x32.size a)
theorem k0_idx391_inb : ∀ (v72 : BitVec 32) (v355 : IVec S16 32) (v361 : IVec S16 32) (k0_hw388 : k0_chk388 v72 v355 v361), ∀ (k0_h7 : k0_cond7 v72 = 1#1), ∀ a x, ((![v361, v355] : Fin 2 → IVec S16 32) a x).toNat < S64x32.size a := fun v72 v355 v361 k0_hw388 k0_h7 => k0_hw388 k0_h7

def k0_chk389 (v72 : BitVec 32) (v172 : IVec S16 32) (v355 : IVec S16 32) : Prop :=
  (∀ (k0_h7 : k0_cond7 v72 = 1#1), ∀ a x, ((![v172, v355] : Fin 2 → IVec S16 32) a x).toNat < S512x32.size a)
theorem k0_idx392_inb : ∀ (v72 : BitVec 32) (v172 : IVec S16 32) (v355 : IVec S16 32) (k0_hw389 : k0_chk389 v72 v172 v355), ∀ (k0_h7 : k0_cond7 v72 = 1#1), ∀ a x, ((![v172, v355] : Fin 2 → IVec S16 32) a x).toNat < S512x32.size a := fun v72 v172 v355 k0_hw389 k0_h7 => k0_hw389 k0_h7

def k0_chk390 (v72 : BitVec 32) (v363 : IVec S16 32) (v369 : IVec S16 32) : Prop :=
  (∀ (k0_h7 : k0_cond7 v72 = 1#1), ∀ a x, ((![v369, v363] : Fin 2 → IVec S16 32) a x).toNat < S64x32.size a)
theorem k0_idx393_inb : ∀ (v72 : BitVec 32) (v363 : IVec S16 32) (v369 : IVec S16 32) (k0_hw390 : k0_chk390 v72 v363 v369), ∀ (k0_h7 : k0_cond7 v72 = 1#1), ∀ a x, ((![v369, v363] : Fin 2 → IVec S16 32) a x).toNat < S64x32.size a := fun v72 v363 v369 k0_hw390 k0_h7 => k0_hw390 k0_h7

def k0_chk391 (v72 : BitVec 32) (v172 : IVec S16 32) (v363 : IVec S16 32) : Prop :=
  (∀ (k0_h7 : k0_cond7 v72 = 1#1), ∀ a x, ((![v172, v363] : Fin 2 → IVec S16 32) a x).toNat < S512x32.size a)
theorem k0_idx394_inb : ∀ (v72 : BitVec 32) (v172 : IVec S16 32) (v363 : IVec S16 32) (k0_hw391 : k0_chk391 v72 v172 v363), ∀ (k0_h7 : k0_cond7 v72 = 1#1), ∀ a x, ((![v172, v363] : Fin 2 → IVec S16 32) a x).toNat < S512x32.size a := fun v72 v172 v363 k0_hw391 k0_h7 => k0_hw391 k0_h7

def k0_chk392 (v72 : BitVec 32) (v371 : IVec S16 32) (v377 : IVec S16 32) : Prop :=
  (∀ (k0_h7 : k0_cond7 v72 = 1#1), ∀ a x, ((![v377, v371] : Fin 2 → IVec S16 32) a x).toNat < S64x32.size a)
theorem k0_idx395_inb : ∀ (v72 : BitVec 32) (v371 : IVec S16 32) (v377 : IVec S16 32) (k0_hw392 : k0_chk392 v72 v371 v377), ∀ (k0_h7 : k0_cond7 v72 = 1#1), ∀ a x, ((![v377, v371] : Fin 2 → IVec S16 32) a x).toNat < S64x32.size a := fun v72 v371 v377 k0_hw392 k0_h7 => k0_hw392 k0_h7

def k0_chk393 (v72 : BitVec 32) (v172 : IVec S16 32) (v371 : IVec S16 32) : Prop :=
  (∀ (k0_h7 : k0_cond7 v72 = 1#1), ∀ a x, ((![v172, v371] : Fin 2 → IVec S16 32) a x).toNat < S512x32.size a)
theorem k0_idx396_inb : ∀ (v72 : BitVec 32) (v172 : IVec S16 32) (v371 : IVec S16 32) (k0_hw393 : k0_chk393 v72 v172 v371), ∀ (k0_h7 : k0_cond7 v72 = 1#1), ∀ a x, ((![v172, v371] : Fin 2 → IVec S16 32) a x).toNat < S512x32.size a := fun v72 v172 v371 k0_hw393 k0_h7 => k0_hw393 k0_h7

def k0_chk394 (v72 : BitVec 32) (v379 : IVec S16 32) (v385 : IVec S16 32) : Prop :=
  (∀ (k0_h7 : k0_cond7 v72 = 1#1), ∀ a x, ((![v385, v379] : Fin 2 → IVec S16 32) a x).toNat < S64x32.size a)
theorem k0_idx397_inb : ∀ (v72 : BitVec 32) (v379 : IVec S16 32) (v385 : IVec S16 32) (k0_hw394 : k0_chk394 v72 v379 v385), ∀ (k0_h7 : k0_cond7 v72 = 1#1), ∀ a x, ((![v385, v379] : Fin 2 → IVec S16 32) a x).toNat < S64x32.size a := fun v72 v379 v385 k0_hw394 k0_h7 => k0_hw394 k0_h7

def k0_chk395 (v72 : BitVec 32) (v172 : IVec S16 32) (v379 : IVec S16 32) : Prop :=
  (∀ (k0_h7 : k0_cond7 v72 = 1#1), ∀ a x, ((![v172, v379] : Fin 2 → IVec S16 32) a x).toNat < S512x32.size a)
theorem k0_idx398_inb : ∀ (v72 : BitVec 32) (v172 : IVec S16 32) (v379 : IVec S16 32) (k0_hw395 : k0_chk395 v72 v172 v379), ∀ (k0_h7 : k0_cond7 v72 = 1#1), ∀ a x, ((![v172, v379] : Fin 2 → IVec S16 32) a x).toNat < S512x32.size a := fun v72 v172 v379 k0_hw395 k0_h7 => k0_hw395 k0_h7

def k0_chk396 (v72 : BitVec 32) (v387 : IVec S16 32) (v393 : IVec S16 32) : Prop :=
  (∀ (k0_h7 : k0_cond7 v72 = 1#1), ∀ a x, ((![v393, v387] : Fin 2 → IVec S16 32) a x).toNat < S64x32.size a)
theorem k0_idx399_inb : ∀ (v72 : BitVec 32) (v387 : IVec S16 32) (v393 : IVec S16 32) (k0_hw396 : k0_chk396 v72 v387 v393), ∀ (k0_h7 : k0_cond7 v72 = 1#1), ∀ a x, ((![v393, v387] : Fin 2 → IVec S16 32) a x).toNat < S64x32.size a := fun v72 v387 v393 k0_hw396 k0_h7 => k0_hw396 k0_h7

def k0_chk397 (v72 : BitVec 32) (v172 : IVec S16 32) (v387 : IVec S16 32) : Prop :=
  (∀ (k0_h7 : k0_cond7 v72 = 1#1), ∀ a x, ((![v172, v387] : Fin 2 → IVec S16 32) a x).toNat < S512x32.size a)
theorem k0_idx400_inb : ∀ (v72 : BitVec 32) (v172 : IVec S16 32) (v387 : IVec S16 32) (k0_hw397 : k0_chk397 v72 v172 v387), ∀ (k0_h7 : k0_cond7 v72 = 1#1), ∀ a x, ((![v172, v387] : Fin 2 → IVec S16 32) a x).toNat < S512x32.size a := fun v72 v172 v387 k0_hw397 k0_h7 => k0_hw397 k0_h7

def k0_chk398 (v72 : BitVec 32) (v395 : IVec S16 32) (v401 : IVec S16 32) : Prop :=
  (∀ (k0_h7 : k0_cond7 v72 = 1#1), ∀ a x, ((![v401, v395] : Fin 2 → IVec S16 32) a x).toNat < S64x32.size a)
theorem k0_idx401_inb : ∀ (v72 : BitVec 32) (v395 : IVec S16 32) (v401 : IVec S16 32) (k0_hw398 : k0_chk398 v72 v395 v401), ∀ (k0_h7 : k0_cond7 v72 = 1#1), ∀ a x, ((![v401, v395] : Fin 2 → IVec S16 32) a x).toNat < S64x32.size a := fun v72 v395 v401 k0_hw398 k0_h7 => k0_hw398 k0_h7

def k0_chk399 (v72 : BitVec 32) (v172 : IVec S16 32) (v395 : IVec S16 32) : Prop :=
  (∀ (k0_h7 : k0_cond7 v72 = 1#1), ∀ a x, ((![v172, v395] : Fin 2 → IVec S16 32) a x).toNat < S512x32.size a)
theorem k0_idx402_inb : ∀ (v72 : BitVec 32) (v172 : IVec S16 32) (v395 : IVec S16 32) (k0_hw399 : k0_chk399 v72 v172 v395), ∀ (k0_h7 : k0_cond7 v72 = 1#1), ∀ a x, ((![v172, v395] : Fin 2 → IVec S16 32) a x).toNat < S512x32.size a := fun v72 v172 v395 k0_hw399 k0_h7 => k0_hw399 k0_h7

def k0_chk400 (v72 : BitVec 32) (v403 : IVec S16 32) (v409 : IVec S16 32) : Prop :=
  (∀ (k0_h7 : k0_cond7 v72 = 1#1), ∀ a x, ((![v409, v403] : Fin 2 → IVec S16 32) a x).toNat < S64x32.size a)
theorem k0_idx403_inb : ∀ (v72 : BitVec 32) (v403 : IVec S16 32) (v409 : IVec S16 32) (k0_hw400 : k0_chk400 v72 v403 v409), ∀ (k0_h7 : k0_cond7 v72 = 1#1), ∀ a x, ((![v409, v403] : Fin 2 → IVec S16 32) a x).toNat < S64x32.size a := fun v72 v403 v409 k0_hw400 k0_h7 => k0_hw400 k0_h7

def k0_chk401 (v72 : BitVec 32) (v172 : IVec S16 32) (v403 : IVec S16 32) : Prop :=
  (∀ (k0_h7 : k0_cond7 v72 = 1#1), ∀ a x, ((![v172, v403] : Fin 2 → IVec S16 32) a x).toNat < S512x32.size a)
theorem k0_idx404_inb : ∀ (v72 : BitVec 32) (v172 : IVec S16 32) (v403 : IVec S16 32) (k0_hw401 : k0_chk401 v72 v172 v403), ∀ (k0_h7 : k0_cond7 v72 = 1#1), ∀ a x, ((![v172, v403] : Fin 2 → IVec S16 32) a x).toNat < S512x32.size a := fun v72 v172 v403 k0_hw401 k0_h7 => k0_hw401 k0_h7

def k0_chk402 (v72 : BitVec 32) (v411 : IVec S16 32) (v417 : IVec S16 32) : Prop :=
  (∀ (k0_h7 : k0_cond7 v72 = 1#1), ∀ a x, ((![v417, v411] : Fin 2 → IVec S16 32) a x).toNat < S64x32.size a)
theorem k0_idx405_inb : ∀ (v72 : BitVec 32) (v411 : IVec S16 32) (v417 : IVec S16 32) (k0_hw402 : k0_chk402 v72 v411 v417), ∀ (k0_h7 : k0_cond7 v72 = 1#1), ∀ a x, ((![v417, v411] : Fin 2 → IVec S16 32) a x).toNat < S64x32.size a := fun v72 v411 v417 k0_hw402 k0_h7 => k0_hw402 k0_h7

def k0_chk403 (v72 : BitVec 32) (v172 : IVec S16 32) (v411 : IVec S16 32) : Prop :=
  (∀ (k0_h7 : k0_cond7 v72 = 1#1), ∀ a x, ((![v172, v411] : Fin 2 → IVec S16 32) a x).toNat < S512x32.size a)
theorem k0_idx406_inb : ∀ (v72 : BitVec 32) (v172 : IVec S16 32) (v411 : IVec S16 32) (k0_hw403 : k0_chk403 v72 v172 v411), ∀ (k0_h7 : k0_cond7 v72 = 1#1), ∀ a x, ((![v172, v411] : Fin 2 → IVec S16 32) a x).toNat < S512x32.size a := fun v72 v172 v411 k0_hw403 k0_h7 => k0_hw403 k0_h7

def k0_chk404 (v72 : BitVec 32) (v419 : IVec S16 32) (v425 : IVec S16 32) : Prop :=
  (∀ (k0_h7 : k0_cond7 v72 = 1#1), ∀ a x, ((![v425, v419] : Fin 2 → IVec S16 32) a x).toNat < S64x32.size a)
theorem k0_idx407_inb : ∀ (v72 : BitVec 32) (v419 : IVec S16 32) (v425 : IVec S16 32) (k0_hw404 : k0_chk404 v72 v419 v425), ∀ (k0_h7 : k0_cond7 v72 = 1#1), ∀ a x, ((![v425, v419] : Fin 2 → IVec S16 32) a x).toNat < S64x32.size a := fun v72 v419 v425 k0_hw404 k0_h7 => k0_hw404 k0_h7

def k0_chk405 (v72 : BitVec 32) (v172 : IVec S16 32) (v419 : IVec S16 32) : Prop :=
  (∀ (k0_h7 : k0_cond7 v72 = 1#1), ∀ a x, ((![v172, v419] : Fin 2 → IVec S16 32) a x).toNat < S512x32.size a)
theorem k0_idx408_inb : ∀ (v72 : BitVec 32) (v172 : IVec S16 32) (v419 : IVec S16 32) (k0_hw405 : k0_chk405 v72 v172 v419), ∀ (k0_h7 : k0_cond7 v72 = 1#1), ∀ a x, ((![v172, v419] : Fin 2 → IVec S16 32) a x).toNat < S512x32.size a := fun v72 v172 v419 k0_hw405 k0_h7 => k0_hw405 k0_h7

def k0_chk406 (v72 : BitVec 32) (v427 : IVec S16 32) (v433 : IVec S16 32) : Prop :=
  (∀ (k0_h7 : k0_cond7 v72 = 1#1), ∀ a x, ((![v433, v427] : Fin 2 → IVec S16 32) a x).toNat < S64x32.size a)
theorem k0_idx409_inb : ∀ (v72 : BitVec 32) (v427 : IVec S16 32) (v433 : IVec S16 32) (k0_hw406 : k0_chk406 v72 v427 v433), ∀ (k0_h7 : k0_cond7 v72 = 1#1), ∀ a x, ((![v433, v427] : Fin 2 → IVec S16 32) a x).toNat < S64x32.size a := fun v72 v427 v433 k0_hw406 k0_h7 => k0_hw406 k0_h7

def k0_chk407 (v72 : BitVec 32) (v172 : IVec S16 32) (v427 : IVec S16 32) : Prop :=
  (∀ (k0_h7 : k0_cond7 v72 = 1#1), ∀ a x, ((![v172, v427] : Fin 2 → IVec S16 32) a x).toNat < S512x32.size a)
theorem k0_idx410_inb : ∀ (v72 : BitVec 32) (v172 : IVec S16 32) (v427 : IVec S16 32) (k0_hw407 : k0_chk407 v72 v172 v427), ∀ (k0_h7 : k0_cond7 v72 = 1#1), ∀ a x, ((![v172, v427] : Fin 2 → IVec S16 32) a x).toNat < S512x32.size a := fun v72 v172 v427 k0_hw407 k0_h7 => k0_hw407 k0_h7
@[reducible] def k0_t20_loop : Scf.Loop 32 :=
  let c0_i32_66 : BitVec 32 := 0#32
  let c8_i32_67 : BitVec 32 := 8#32
  let v76 : BitVec 32 := Scalar.addi c0_i32_66 c8_i32_67
  let c1_i32_68 : BitVec 32 := 1#32
  ⟨c0_i32_66, v76, c1_i32_68⟩
@[reducible] def k0_t21_loop : Scf.Loop 32 :=
  let c0_i32_169 : BitVec 32 := 0#32
  let c16_i32_170 : BitVec 32 := 16#32
  let v145 : BitVec 32 := Scalar.addi c0_i32_169 c16_i32_170
  let c1_i32_171 : BitVec 32 := 1#32
  ⟨c0_i32_169, v145, c1_i32_171⟩

def k0_chk408 (v150 : IVec S16 32) (v151 : IVec S16 32) : Prop :=
  (∀ a x, ((![v150, v151] : Fin 2 → IVec S16 32) a x).toNat < S512x32.size a)
theorem k0_idx411_inb : ∀ (v150 : IVec S16 32) (v151 : IVec S16 32) (k0_hw408 : k0_chk408 v150 v151), ∀ a x, ((![v150, v151] : Fin 2 → IVec S16 32) a x).toNat < S512x32.size a := fun v150 v151 k0_hw408 => k0_hw408

def k0_chk409 (v143 : IVec S16 32) (v153 : IVec S16 32) : Prop :=
  (∀ a x, ((![v143, v153] : Fin 2 → IVec S16 32) a x).toNat < S64x128.size a)
theorem k0_idx412_inb : ∀ (v143 : IVec S16 32) (v153 : IVec S16 32) (k0_hw409 : k0_chk409 v143 v153), ∀ a x, ((![v143, v153] : Fin 2 → IVec S16 32) a x).toNat < S64x128.size a := fun v143 v153 k0_hw409 => k0_hw409
@[reducible] def k0_t22_loop : Scf.Loop 32 :=
  let c0_i32_75 : BitVec 32 := 0#32
  let c8_i32_76 : BitVec 32 := 8#32
  let v81 : BitVec 32 := Scalar.addi c0_i32_75 c8_i32_76
  let c1_i32_77 : BitVec 32 := 1#32
  ⟨c0_i32_75, v81, c1_i32_77⟩
@[reducible] def k0_t23_loop : Scf.Loop 32 :=
  let c0_i32_169 : BitVec 32 := 0#32
  let c16_i32_170 : BitVec 32 := 16#32
  let v145 : BitVec 32 := Scalar.addi c0_i32_169 c16_i32_170
  let c1_i32_171 : BitVec 32 := 1#32
  ⟨c0_i32_169, v145, c1_i32_171⟩

def k0_chk410 (v150 : IVec S16 32) (v151 : IVec S16 32) : Prop :=
  (∀ a x, ((![v150, v151] : Fin 2 → IVec S16 32) a x).toNat < S512x32.size a)
theorem k0_idx413_inb : ∀ (v150 : IVec S16 32) (v151 : IVec S16 32) (k0_hw410 : k0_chk410 v150 v151), ∀ a x, ((![v150, v151] : Fin 2 → IVec S16 32) a x).toNat < S512x32.size a := fun v150 v151 k0_hw410 => k0_hw410

def k0_chk411 (v143 : IVec S16 32) (v153 : IVec S16 32) : Prop :=
  (∀ a x, ((![v143, v153] : Fin 2 → IVec S16 32) a x).toNat < S64x128.size a)
theorem k0_idx414_inb : ∀ (v143 : IVec S16 32) (v153 : IVec S16 32) (k0_hw411 : k0_chk411 v143 v153), ∀ a x, ((![v143, v153] : Fin 2 → IVec S16 32) a x).toNat < S64x128.size a := fun v143 v153 k0_hw411 => k0_hw411
@[reducible] def k0_t24_loop : Scf.Loop 32 :=
  let c0_i32_88 : BitVec 32 := 0#32
  let c8_i32_89 : BitVec 32 := 8#32
  let v89 : BitVec 32 := Scalar.addi c0_i32_88 c8_i32_89
  let c1_i32_90 : BitVec 32 := 1#32
  ⟨c0_i32_88, v89, c1_i32_90⟩
@[reducible] def k0_t25_loop : Scf.Loop 32 :=
  let c0_i32_169 : BitVec 32 := 0#32
  let c16_i32_170 : BitVec 32 := 16#32
  let v145 : BitVec 32 := Scalar.addi c0_i32_169 c16_i32_170
  let c1_i32_171 : BitVec 32 := 1#32
  ⟨c0_i32_169, v145, c1_i32_171⟩

def k0_chk412 (v150 : IVec S16 32) (v151 : IVec S16 32) : Prop :=
  (∀ a x, ((![v150, v151] : Fin 2 → IVec S16 32) a x).toNat < S512x32.size a)
theorem k0_idx415_inb : ∀ (v150 : IVec S16 32) (v151 : IVec S16 32) (k0_hw412 : k0_chk412 v150 v151), ∀ a x, ((![v150, v151] : Fin 2 → IVec S16 32) a x).toNat < S512x32.size a := fun v150 v151 k0_hw412 => k0_hw412

def k0_chk413 (v143 : IVec S16 32) (v153 : IVec S16 32) : Prop :=
  (∀ a x, ((![v143, v153] : Fin 2 → IVec S16 32) a x).toNat < S64x128.size a)
theorem k0_idx416_inb : ∀ (v143 : IVec S16 32) (v153 : IVec S16 32) (k0_hw413 : k0_chk413 v143 v153), ∀ a x, ((![v143, v153] : Fin 2 → IVec S16 32) a x).toNat < S64x128.size a := fun v143 v153 k0_hw413 => k0_hw413
@[reducible] def k0_t26_loop : Scf.Loop 32 :=
  let c0_i32_101 : BitVec 32 := 0#32
  let c8_i32_102 : BitVec 32 := 8#32
  let v97 : BitVec 32 := Scalar.addi c0_i32_101 c8_i32_102
  let c1_i32_103 : BitVec 32 := 1#32
  ⟨c0_i32_101, v97, c1_i32_103⟩
@[reducible] def k0_t27_loop : Scf.Loop 32 :=
  let c0_i32_169 : BitVec 32 := 0#32
  let c16_i32_170 : BitVec 32 := 16#32
  let v145 : BitVec 32 := Scalar.addi c0_i32_169 c16_i32_170
  let c1_i32_171 : BitVec 32 := 1#32
  ⟨c0_i32_169, v145, c1_i32_171⟩

def k0_chk414 (v150 : IVec S16 32) (v151 : IVec S16 32) : Prop :=
  (∀ a x, ((![v150, v151] : Fin 2 → IVec S16 32) a x).toNat < S512x32.size a)
theorem k0_idx417_inb : ∀ (v150 : IVec S16 32) (v151 : IVec S16 32) (k0_hw414 : k0_chk414 v150 v151), ∀ a x, ((![v150, v151] : Fin 2 → IVec S16 32) a x).toNat < S512x32.size a := fun v150 v151 k0_hw414 => k0_hw414

def k0_chk415 (v143 : IVec S16 32) (v153 : IVec S16 32) : Prop :=
  (∀ a x, ((![v143, v153] : Fin 2 → IVec S16 32) a x).toNat < S64x128.size a)
theorem k0_idx418_inb : ∀ (v143 : IVec S16 32) (v153 : IVec S16 32) (k0_hw415 : k0_chk415 v143 v153), ∀ a x, ((![v143, v153] : Fin 2 → IVec S16 32) a x).toNat < S64x128.size a := fun v143 v153 k0_hw415 => k0_hw415
@[reducible] def k0_t28_loop : Scf.Loop 32 :=
  let c0_i32_113 : BitVec 32 := 0#32
  let c8_i32_114 : BitVec 32 := 8#32
  let v105 : BitVec 32 := Scalar.addi c0_i32_113 c8_i32_114
  let c1_i32_115 : BitVec 32 := 1#32
  ⟨c0_i32_113, v105, c1_i32_115⟩
@[reducible] def k0_t29_loop : Scf.Loop 32 :=
  let c0_i32_169 : BitVec 32 := 0#32
  let c16_i32_170 : BitVec 32 := 16#32
  let v145 : BitVec 32 := Scalar.addi c0_i32_169 c16_i32_170
  let c1_i32_171 : BitVec 32 := 1#32
  ⟨c0_i32_169, v145, c1_i32_171⟩

def k0_chk416 (v150 : IVec S16 32) (v151 : IVec S16 32) : Prop :=
  (∀ a x, ((![v150, v151] : Fin 2 → IVec S16 32) a x).toNat < S512x32.size a)
theorem k0_idx419_inb : ∀ (v150 : IVec S16 32) (v151 : IVec S16 32) (k0_hw416 : k0_chk416 v150 v151), ∀ a x, ((![v150, v151] : Fin 2 → IVec S16 32) a x).toNat < S512x32.size a := fun v150 v151 k0_hw416 => k0_hw416

def k0_chk417 (v143 : IVec S16 32) (v153 : IVec S16 32) : Prop :=
  (∀ a x, ((![v143, v153] : Fin 2 → IVec S16 32) a x).toNat < S64x128.size a)
theorem k0_idx420_inb : ∀ (v143 : IVec S16 32) (v153 : IVec S16 32) (k0_hw417 : k0_chk417 v143 v153), ∀ a x, ((![v143, v153] : Fin 2 → IVec S16 32) a x).toNat < S64x128.size a := fun v143 v153 k0_hw417 => k0_hw417
@[reducible] def k0_t30_loop : Scf.Loop 32 :=
  let c0_i32_126 : BitVec 32 := 0#32
  let c8_i32_127 : BitVec 32 := 8#32
  let v113 : BitVec 32 := Scalar.addi c0_i32_126 c8_i32_127
  let c1_i32_128 : BitVec 32 := 1#32
  ⟨c0_i32_126, v113, c1_i32_128⟩
@[reducible] def k0_t31_loop : Scf.Loop 32 :=
  let c0_i32_169 : BitVec 32 := 0#32
  let c16_i32_170 : BitVec 32 := 16#32
  let v145 : BitVec 32 := Scalar.addi c0_i32_169 c16_i32_170
  let c1_i32_171 : BitVec 32 := 1#32
  ⟨c0_i32_169, v145, c1_i32_171⟩

def k0_chk418 (v150 : IVec S16 32) (v151 : IVec S16 32) : Prop :=
  (∀ a x, ((![v150, v151] : Fin 2 → IVec S16 32) a x).toNat < S512x32.size a)
theorem k0_idx421_inb : ∀ (v150 : IVec S16 32) (v151 : IVec S16 32) (k0_hw418 : k0_chk418 v150 v151), ∀ a x, ((![v150, v151] : Fin 2 → IVec S16 32) a x).toNat < S512x32.size a := fun v150 v151 k0_hw418 => k0_hw418

def k0_chk419 (v143 : IVec S16 32) (v153 : IVec S16 32) : Prop :=
  (∀ a x, ((![v143, v153] : Fin 2 → IVec S16 32) a x).toNat < S64x128.size a)
theorem k0_idx422_inb : ∀ (v143 : IVec S16 32) (v153 : IVec S16 32) (k0_hw419 : k0_chk419 v143 v153), ∀ a x, ((![v143, v153] : Fin 2 → IVec S16 32) a x).toNat < S64x128.size a := fun v143 v153 k0_hw419 => k0_hw419
@[reducible] def k0_t32_loop : Scf.Loop 32 :=
  let c0_i32_138 : BitVec 32 := 0#32
  let c8_i32_139 : BitVec 32 := 8#32
  let v121 : BitVec 32 := Scalar.addi c0_i32_138 c8_i32_139
  let c1_i32_140 : BitVec 32 := 1#32
  ⟨c0_i32_138, v121, c1_i32_140⟩
@[reducible] def k0_t33_loop : Scf.Loop 32 :=
  let c0_i32_169 : BitVec 32 := 0#32
  let c16_i32_170 : BitVec 32 := 16#32
  let v145 : BitVec 32 := Scalar.addi c0_i32_169 c16_i32_170
  let c1_i32_171 : BitVec 32 := 1#32
  ⟨c0_i32_169, v145, c1_i32_171⟩

def k0_chk420 (v150 : IVec S16 32) (v151 : IVec S16 32) : Prop :=
  (∀ a x, ((![v150, v151] : Fin 2 → IVec S16 32) a x).toNat < S512x32.size a)
theorem k0_idx423_inb : ∀ (v150 : IVec S16 32) (v151 : IVec S16 32) (k0_hw420 : k0_chk420 v150 v151), ∀ a x, ((![v150, v151] : Fin 2 → IVec S16 32) a x).toNat < S512x32.size a := fun v150 v151 k0_hw420 => k0_hw420

def k0_chk421 (v143 : IVec S16 32) (v153 : IVec S16 32) : Prop :=
  (∀ a x, ((![v143, v153] : Fin 2 → IVec S16 32) a x).toNat < S64x128.size a)
theorem k0_idx424_inb : ∀ (v143 : IVec S16 32) (v153 : IVec S16 32) (k0_hw421 : k0_chk421 v143 v153), ∀ a x, ((![v143, v153] : Fin 2 → IVec S16 32) a x).toNat < S64x128.size a := fun v143 v153 k0_hw421 => k0_hw421
@[reducible] def k0_t34_loop : Scf.Loop 32 :=
  let c0_i32_150 : BitVec 32 := 0#32
  let c8_i32_151 : BitVec 32 := 8#32
  let v129 : BitVec 32 := Scalar.addi c0_i32_150 c8_i32_151
  let c1_i32_152 : BitVec 32 := 1#32
  ⟨c0_i32_150, v129, c1_i32_152⟩
@[reducible] def k0_t35_loop : Scf.Loop 32 :=
  let c0_i32_169 : BitVec 32 := 0#32
  let c16_i32_170 : BitVec 32 := 16#32
  let v145 : BitVec 32 := Scalar.addi c0_i32_169 c16_i32_170
  let c1_i32_171 : BitVec 32 := 1#32
  ⟨c0_i32_169, v145, c1_i32_171⟩

def k0_chk422 (v150 : IVec S16 32) (v151 : IVec S16 32) : Prop :=
  (∀ a x, ((![v150, v151] : Fin 2 → IVec S16 32) a x).toNat < S512x32.size a)
theorem k0_idx425_inb : ∀ (v150 : IVec S16 32) (v151 : IVec S16 32) (k0_hw422 : k0_chk422 v150 v151), ∀ a x, ((![v150, v151] : Fin 2 → IVec S16 32) a x).toNat < S512x32.size a := fun v150 v151 k0_hw422 => k0_hw422

def k0_chk423 (v143 : IVec S16 32) (v153 : IVec S16 32) : Prop :=
  (∀ a x, ((![v143, v153] : Fin 2 → IVec S16 32) a x).toNat < S64x128.size a)
theorem k0_idx426_inb : ∀ (v143 : IVec S16 32) (v153 : IVec S16 32) (k0_hw423 : k0_chk423 v143 v153), ∀ a x, ((![v143, v153] : Fin 2 → IVec S16 32) a x).toNat < S64x128.size a := fun v143 v153 k0_hw423 => k0_hw423
@[reducible] def k0_t36_loop (v17 : BitVec 32) : Scf.Loop 32 :=
  let c0_i32_18 : BitVec 32 := 0#32
  let c511_i32 : BitVec 32 := 511#32
  let v21 : BitVec 32 := Scalar.addi v17 c511_i32
  let c0_i32_12 : BitVec 32 := 0#32
  let v23 : BitVec 1 := Scalar.cmpi .sgt v21 c0_i32_12
  let v24 : BitVec 32 := Scalar.extui v23
  let c0_i32_13 : BitVec 32 := 0#32
  let v25 : BitVec 1 := Scalar.cmpi .slt v21 c0_i32_13
  let v26 : BitVec 32 := Scalar.extui v25
  let v27 : BitVec 32 := Scalar.subi v24 v26
  let c512_i32 : BitVec 32 := 512#32
  let c0_i32_14 : BitVec 32 := 0#32
  let v28 : BitVec 1 := Scalar.cmpi .sgt c512_i32 c0_i32_14
  let v29 : BitVec 32 := Scalar.extui v28
  let c0_i32_15 : BitVec 32 := 0#32
  let v30 : BitVec 1 := Scalar.cmpi .slt c512_i32 c0_i32_15
  let v31 : BitVec 32 := Scalar.extui v30
  let v32 : BitVec 32 := Scalar.subi v29 v31
  let v33 : BitVec 1 := Scalar.cmpi .ne v27 v32
  let v34 : BitVec 32 := Scalar.remsi v21 c512_i32
  let c0_i32_16 : BitVec 32 := 0#32
  let v35 : BitVec 1 := Scalar.cmpi .ne v34 c0_i32_16
  let v36 : BitVec 1 := Scalar.andi v33 v35
  let v22 : BitVec 32 := Scalar.divsi v21 c512_i32
  let c1_i32_17 : BitVec 32 := 1#32
  let v37 : BitVec 32 := Scalar.subi v22 c1_i32_17
  let v38 : BitVec 32 := Scalar.select v36 v37 v22
  let v39 : BitVec 32 := Scalar.subi v38 c0_i32_18
  let c1_i32_20 : BitVec 32 := 1#32
  let v41 : BitVec 32 := Scalar.divsi v39 c1_i32_20
  let v42 : BitVec 32 := Scalar.muli v41 c1_i32_20
  let v43 : BitVec 32 := Scalar.addi c0_i32_18 v42
  let v40 : BitVec 32 := Scalar.addi c0_i32_18 v39
  let c1_i32_22 : BitVec 32 := 1#32
  ⟨v43, v40, c1_i32_22⟩

def k0_chk1 (v17 : BitVec 32) : Prop :=
  ((k0_t4_loop v17).OK) ∧
  ((k0_t36_loop v17).OK)
theorem k0_t4_ok : ∀ (v17 : BitVec 32) (k0_hw1 : k0_chk1 v17), (k0_t4_loop v17).OK := fun v17 k0_hw1 => k0_hw1.1
theorem k0_t36_ok : ∀ (v17 : BitVec 32) (k0_hw1 : k0_chk1 v17), (k0_t36_loop v17).OK := fun v17 k0_hw1 => k0_hw1.2

@[reducible] def k0_t37_loop : Scf.Loop 32 :=
  let c0_i32_25 : BitVec 32 := 0#32
  let c8_i32_26 : BitVec 32 := 8#32
  let v48 : BitVec 32 := Scalar.addi c0_i32_25 c8_i32_26
  let c1_i32_27 : BitVec 32 := 1#32
  ⟨c0_i32_25, v48, c1_i32_27⟩
def k0_off21 (k0_t37 : Fin k0_t37_loop.trips) : Fin 1 → Nat :=
  let c0_i32_25 : BitVec 32 := 0#32
  let c1_i32_27 : BitVec 32 := 1#32
  let arg24 : BitVec 32 := Scf.iv c0_i32_25 c1_i32_27 k0_t37
  let c2048_i32 : BitVec 32 := 2048#32
  let v140 : BitVec 32 := Scalar.muli arg24 c2048_i32
  ![v140.toNat]
@[reducible] def k0_t38_loop : Scf.Loop 32 :=
  let c0_i32_166 : BitVec 32 := 0#32
  let c128_i32_167 : BitVec 32 := 128#32
  let v141 : BitVec 32 := Scalar.addi c0_i32_166 c128_i32_167
  let c1_i32_168 : BitVec 32 := 1#32
  ⟨c0_i32_166, v141, c1_i32_168⟩
def k0_off22 (k0_t38 : Fin k0_t38_loop.trips) : Fin 1 → Nat :=
  let c0_i32_166 : BitVec 32 := 0#32
  let c1_i32_168 : BitVec 32 := 1#32
  let arg26 : BitVec 32 := Scf.iv c0_i32_166 c1_i32_168 k0_t38
  let c16_i32 : BitVec 32 := 16#32
  let v143 : BitVec 32 := Scalar.muli arg26 c16_i32
  let v144 : Index := Scalar.indexCast v143
  ![v144.toNat]

def k0_chk424 (v169 : IVec S16 32) : Prop :=
  (∀ a x, ((![v169] : Fin 1 → IVec S16 32) a x).toNat < S1024.size a) ∧
  (∀ a x, ((![v169] : Fin 1 → IVec S16 32) a x).toNat < S1024.size a)
theorem k0_idx427_inb : ∀ (v169 : IVec S16 32) (k0_hw424 : k0_chk424 v169), ∀ a x, ((![v169] : Fin 1 → IVec S16 32) a x).toNat < S1024.size a := fun v169 k0_hw424 => k0_hw424.1
theorem k0_idx428_inb : ∀ (v169 : IVec S16 32) (k0_hw424 : k0_chk424 v169), ∀ a x, ((![v169] : Fin 1 → IVec S16 32) a x).toNat < S1024.size a := fun v169 k0_hw424 => k0_hw424.2
@[reducible] def k0_t39_loop : Scf.Loop 32 :=
  let c0_i32_33 : BitVec 32 := 0#32
  let c32_i32_34 : BitVec 32 := 32#32
  let v54 : BitVec 32 := Scalar.addi c0_i32_33 c32_i32_34
  let c1_i32_35 : BitVec 32 := 1#32
  ⟨c0_i32_33, v54, c1_i32_35⟩

def k0_chk425 (v143 : IVec S16 32) : Prop :=
  (∀ a x, ((![v143] : Fin 1 → IVec S16 32) a x).toNat < S1024.size a)
theorem k0_idx429_inb : ∀ (v143 : IVec S16 32) (k0_hw425 : k0_chk425 v143), ∀ a x, ((![v143] : Fin 1 → IVec S16 32) a x).toNat < S1024.size a := fun v143 k0_hw425 => k0_hw425
@[reducible] def k0_t40_loop : Scf.Loop 32 :=
  let c0_i32_38 : BitVec 32 := 0#32
  let c32_i32_39 : BitVec 32 := 32#32
  let v56 : BitVec 32 := Scalar.addi c0_i32_38 c32_i32_39
  let c1_i32_40 : BitVec 32 := 1#32
  ⟨c0_i32_38, v56, c1_i32_40⟩

def k0_chk426 (v144 : IVec S16 32) (v146 : IVec S16 32) : Prop :=
  (∀ a x, ((![v144, v146] : Fin 2 → IVec S16 32) a x).toNat < S8x64.size a)
theorem k0_idx430_inb : ∀ (v144 : IVec S16 32) (v146 : IVec S16 32) (k0_hw426 : k0_chk426 v144 v146), ∀ a x, ((![v144, v146] : Fin 2 → IVec S16 32) a x).toNat < S8x64.size a := fun v144 v146 k0_hw426 => k0_hw426
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c0_i32_43 : BitVec 32 := 0#32
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_42 : BitVec 32 := 4#32
  let v58 : BitVec 32 := Scalar.subi v6 c4_i32_42
  let v59 : BitVec 32 := Scalar.minsi c0_i32_43 v58
  let v60 : BitVec 32 := Scalar.addi v4 v59
  let c128_i32_44 : BitVec 32 := 128#32
  let v61 : BitVec 32 := Scalar.muli v60 c128_i32_44
  v61
@[reducible] def k0_t41_loop : Scf.Loop 32 :=
  let c0_i32_47 : BitVec 32 := 0#32
  let c32_i32_48 : BitVec 32 := 32#32
  let v64 : BitVec 32 := Scalar.addi c0_i32_47 c32_i32_48
  let c1_i32_49 : BitVec 32 := 1#32
  ⟨c0_i32_47, v64, c1_i32_49⟩
def k0_off23 (k0_t41 : Fin k0_t41_loop.trips) : Fin 1 → Nat :=
  let c0_i32_47 : BitVec 32 := 0#32
  let c1_i32_49 : BitVec 32 := 1#32
  let arg24 : BitVec 32 := Scf.iv c0_i32_47 c1_i32_49 k0_t41
  let c16_i32 : BitVec 32 := 16#32
  let v140 : BitVec 32 := Scalar.muli arg24 c16_i32
  let v141 : Index := Scalar.indexCast v140
  ![v141.toNat]

def k0_chk427 (v153 : IVec S16 32) : Prop :=
  (∀ a x, ((![v153] : Fin 1 → IVec S16 32) a x).toNat < S512.size a)
theorem k0_idx431_inb : ∀ (v153 : IVec S16 32) (k0_hw427 : k0_chk427 v153), ∀ a x, ((![v153] : Fin 1 → IVec S16 32) a x).toNat < S512.size a := fun v153 k0_hw427 => k0_hw427
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c0_i32_167 : BitVec 32 := 0#32
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_166 : BitVec 32 := 4#32
  let v140 : BitVec 32 := Scalar.subi v6 c4_i32_166
  let v141 : BitVec 32 := Scalar.minsi c0_i32_167 v140
  let v142 : BitVec 32 := Scalar.addi v4 v141
  let c128_i32_168 : BitVec 32 := 128#32
  let v143 : BitVec 32 := Scalar.muli v142 c128_i32_168
  v143
def k0_off24 (i : grid0.Coords) : Fin 2 → Nat :=
  let c0_i32_169 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c0_i32_167 : BitVec 32 := 0#32
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_166 : BitVec 32 := 4#32
  let v140 : BitVec 32 := Scalar.subi v6 c4_i32_166
  let v141 : BitVec 32 := Scalar.minsi c0_i32_167 v140
  let v142 : BitVec 32 := Scalar.addi v4 v141
  let c128_i32_168 : BitVec 32 := 128#32
  let v143 : BitVec 32 := Scalar.muli v142 c128_i32_168
  let v144 : BitVec 32 := v143
  ![0, v144.toNat]
@[reducible] def k0_t42_loop : Scf.Loop 32 :=
  let c0_i32_53 : BitVec 32 := 0#32
  let c31_i32_54 : BitVec 32 := 31#32
  let v69 : BitVec 32 := Scalar.addi c0_i32_53 c31_i32_54
  let c1_i32_55 : BitVec 32 := 1#32
  ⟨c0_i32_53, v69, c1_i32_55⟩
def k0_mult13 (i : grid0.Coords) (k0_t42 : Fin k0_t42_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_169 : BitVec 32 := 4#32
  let c2_i32_167 : BitVec 32 := 2#32
  let c0_i32_53 : BitVec 32 := 0#32
  let c1_i32_55 : BitVec 32 := 1#32
  let arg24 : BitVec 32 := Scf.iv c0_i32_53 c1_i32_55 k0_t42
  let v141 : BitVec 32 := Scalar.muli c2_i32_167 arg24
  let c1_i32_168 : BitVec 32 := 1#32
  let v142 : BitVec 32 := Scalar.addi v141 c1_i32_168
  let v143 : BitVec 32 := Scalar.muli c4_i32_169 v142
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_170 : BitVec 32 := 4#32
  let v144 : BitVec 32 := Scalar.subi v6 c4_i32_170
  let v145 : BitVec 32 := Scalar.minsi v143 v144
  let v146 : BitVec 32 := Scalar.addi v4 v145
  let c128_i32_171 : BitVec 32 := 128#32
  let v147 : BitVec 32 := Scalar.muli v146 c128_i32_171
  v147
@[reducible] def k0_t43_loop : Scf.Loop 32 :=
  let c0_i32_174 : BitVec 32 := 0#32
  let c32_i32_175 : BitVec 32 := 32#32
  let v150 : BitVec 32 := Scalar.addi c0_i32_174 c32_i32_175
  let c1_i32_176 : BitVec 32 := 1#32
  ⟨c0_i32_174, v150, c1_i32_176⟩
def k0_off25 (k0_t43 : Fin k0_t43_loop.trips) : Fin 1 → Nat :=
  let c0_i32_174 : BitVec 32 := 0#32
  let c1_i32_176 : BitVec 32 := 1#32
  let arg26 : BitVec 32 := Scf.iv c0_i32_174 c1_i32_176 k0_t43
  let c16_i32 : BitVec 32 := 16#32
  let v177 : BitVec 32 := Scalar.muli arg26 c16_i32
  let v178 : Index := Scalar.indexCast v177
  ![v178.toNat]

def k0_chk428 (v190 : IVec S16 32) : Prop :=
  (∀ a x, ((![v190] : Fin 1 → IVec S16 32) a x).toNat < S512.size a)
theorem k0_idx432_inb : ∀ (v190 : IVec S16 32) (k0_hw428 : k0_chk428 v190), ∀ a x, ((![v190] : Fin 1 → IVec S16 32) a x).toNat < S512.size a := fun v190 k0_hw428 => k0_hw428
def k0_mult14 (i : grid0.Coords) (k0_t42 : Fin k0_t42_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_197 : BitVec 32 := 4#32
  let c2_i32_167 : BitVec 32 := 2#32
  let c0_i32_53 : BitVec 32 := 0#32
  let c1_i32_55 : BitVec 32 := 1#32
  let arg24 : BitVec 32 := Scf.iv c0_i32_53 c1_i32_55 k0_t42
  let v141 : BitVec 32 := Scalar.muli c2_i32_167 arg24
  let c1_i32_168 : BitVec 32 := 1#32
  let v142 : BitVec 32 := Scalar.addi v141 c1_i32_168
  let v177 : BitVec 32 := Scalar.muli c4_i32_197 v142
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_198 : BitVec 32 := 4#32
  let v178 : BitVec 32 := Scalar.subi v6 c4_i32_198
  let v179 : BitVec 32 := Scalar.minsi v177 v178
  let v180 : BitVec 32 := Scalar.addi v4 v179
  let c128_i32_199 : BitVec 32 := 128#32
  let v181 : BitVec 32 := Scalar.muli v180 c128_i32_199
  v181
def k0_off26 (i : grid0.Coords) (k0_t42 : Fin k0_t42_loop.trips) : Fin 2 → Nat :=
  let c0_i32_200 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_197 : BitVec 32 := 4#32
  let c2_i32_167 : BitVec 32 := 2#32
  let c0_i32_53 : BitVec 32 := 0#32
  let c1_i32_55 : BitVec 32 := 1#32
  let arg24 : BitVec 32 := Scf.iv c0_i32_53 c1_i32_55 k0_t42
  let v141 : BitVec 32 := Scalar.muli c2_i32_167 arg24
  let c1_i32_168 : BitVec 32 := 1#32
  let v142 : BitVec 32 := Scalar.addi v141 c1_i32_168
  let v177 : BitVec 32 := Scalar.muli c4_i32_197 v142
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_198 : BitVec 32 := 4#32
  let v178 : BitVec 32 := Scalar.subi v6 c4_i32_198
  let v179 : BitVec 32 := Scalar.minsi v177 v178
  let v180 : BitVec 32 := Scalar.addi v4 v179
  let c128_i32_199 : BitVec 32 := 128#32
  let v181 : BitVec 32 := Scalar.muli v180 c128_i32_199
  let v182 : BitVec 32 := v181
  ![0, v182.toNat]
def k0_mult15 (i : grid0.Coords) (k0_t42 : Fin k0_t42_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_197 : BitVec 32 := 4#32
  let c2_i32_166 : BitVec 32 := 2#32
  let c0_i32_53 : BitVec 32 := 0#32
  let c1_i32_55 : BitVec 32 := 1#32
  let arg24 : BitVec 32 := Scf.iv c0_i32_53 c1_i32_55 k0_t42
  let v140 : BitVec 32 := Scalar.muli c2_i32_166 arg24
  let v177 : BitVec 32 := Scalar.muli c4_i32_197 v140
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_198 : BitVec 32 := 4#32
  let v178 : BitVec 32 := Scalar.subi v6 c4_i32_198
  let v179 : BitVec 32 := Scalar.minsi v177 v178
  let v180 : BitVec 32 := Scalar.addi v4 v179
  let c128_i32_199 : BitVec 32 := 128#32
  let v181 : BitVec 32 := Scalar.muli v180 c128_i32_199
  v181
def k0_off27 (i : grid0.Coords) (k0_t42 : Fin k0_t42_loop.trips) : Fin 2 → Nat :=
  let c0_i32_200 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_197 : BitVec 32 := 4#32
  let c2_i32_166 : BitVec 32 := 2#32
  let c0_i32_53 : BitVec 32 := 0#32
  let c1_i32_55 : BitVec 32 := 1#32
  let arg24 : BitVec 32 := Scf.iv c0_i32_53 c1_i32_55 k0_t42
  let v140 : BitVec 32 := Scalar.muli c2_i32_166 arg24
  let v177 : BitVec 32 := Scalar.muli c4_i32_197 v140
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_198 : BitVec 32 := 4#32
  let v178 : BitVec 32 := Scalar.subi v6 c4_i32_198
  let v179 : BitVec 32 := Scalar.minsi v177 v178
  let v180 : BitVec 32 := Scalar.addi v4 v179
  let c128_i32_199 : BitVec 32 := 128#32
  let v181 : BitVec 32 := Scalar.muli v180 c128_i32_199
  let v182 : BitVec 32 := v181
  ![0, v182.toNat]
def k0_mult16 (i : grid0.Coords) (k0_t42 : Fin k0_t42_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_202 : BitVec 32 := 4#32
  let c2_i32_166 : BitVec 32 := 2#32
  let c0_i32_53 : BitVec 32 := 0#32
  let c1_i32_55 : BitVec 32 := 1#32
  let arg24 : BitVec 32 := Scf.iv c0_i32_53 c1_i32_55 k0_t42
  let v140 : BitVec 32 := Scalar.muli c2_i32_166 arg24
  let v185 : BitVec 32 := Scalar.muli c4_i32_202 v140
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_203 : BitVec 32 := 4#32
  let v186 : BitVec 32 := Scalar.subi v6 c4_i32_203
  let v187 : BitVec 32 := Scalar.minsi v185 v186
  let v188 : BitVec 32 := Scalar.addi v4 v187
  let c128_i32_204 : BitVec 32 := 128#32
  let v189 : BitVec 32 := Scalar.muli v188 c128_i32_204
  v189
@[reducible] def k0_t44_loop (arg25 : BitVec 32) : Scf.Loop 32 :=
  let c0_i32_211 : BitVec 32 := 0#32
  let c15_i32 : BitVec 32 := 15#32
  let v191 : BitVec 32 := Scalar.addi arg25 c15_i32
  let c0_i32_205 : BitVec 32 := 0#32
  let v193 : BitVec 1 := Scalar.cmpi .sgt v191 c0_i32_205
  let v194 : BitVec 32 := Scalar.extui v193
  let c0_i32_206 : BitVec 32 := 0#32
  let v195 : BitVec 1 := Scalar.cmpi .slt v191 c0_i32_206
  let v196 : BitVec 32 := Scalar.extui v195
  let v197 : BitVec 32 := Scalar.subi v194 v196
  let c16_i32 : BitVec 32 := 16#32
  let c0_i32_207 : BitVec 32 := 0#32
  let v198 : BitVec 1 := Scalar.cmpi .sgt c16_i32 c0_i32_207
  let v199 : BitVec 32 := Scalar.extui v198
  let c0_i32_208 : BitVec 32 := 0#32
  let v200 : BitVec 1 := Scalar.cmpi .slt c16_i32 c0_i32_208
  let v201 : BitVec 32 := Scalar.extui v200
  let v202 : BitVec 32 := Scalar.subi v199 v201
  let v203 : BitVec 1 := Scalar.cmpi .ne v197 v202
  let v204 : BitVec 32 := Scalar.remsi v191 c16_i32
  let c0_i32_209 : BitVec 32 := 0#32
  let v205 : BitVec 1 := Scalar.cmpi .ne v204 c0_i32_209
  let v206 : BitVec 1 := Scalar.andi v203 v205
  let v192 : BitVec 32 := Scalar.divsi v191 c16_i32
  let c1_i32_210 : BitVec 32 := 1#32
  let v207 : BitVec 32 := Scalar.subi v192 c1_i32_210
  let v208 : BitVec 32 := Scalar.select v206 v207 v192
  let v209 : BitVec 32 := Scalar.subi v208 c0_i32_211
  let c1_i32_213 : BitVec 32 := 1#32
  let v211 : BitVec 32 := Scalar.divsi v209 c1_i32_213
  let v212 : BitVec 32 := Scalar.muli v211 c1_i32_213
  let v213 : BitVec 32 := Scalar.addi c0_i32_211 v212
  let c1_i32_214 : BitVec 32 := 1#32
  ⟨c0_i32_211, v213, c1_i32_214⟩
def k0_cond10 (arg25 : BitVec 32) : BitVec 1 :=
  let c0_i32_180 : BitVec 32 := 0#32
  let v155 : BitVec 1 := Scalar.cmpi .sgt arg25 c0_i32_180
  let v156 : BitVec 32 := Scalar.extui v155
  let c0_i32_181 : BitVec 32 := 0#32
  let v157 : BitVec 1 := Scalar.cmpi .ne v156 c0_i32_181
  v157

def k0_off28 (arg25 : BitVec 32) (k0_t44 : Fin (k0_t44_loop arg25).trips) : Fin 1 → Nat :=
  let c0_i32_211 : BitVec 32 := 0#32
  let c1_i32_214 : BitVec 32 := 1#32
  let arg26 : BitVec 32 := Scf.iv c0_i32_211 c1_i32_214 k0_t44
  let c16_i32_217 : BitVec 32 := 16#32
  let v221 : BitVec 32 := Scalar.muli arg26 c16_i32_217
  let v222 : Index := Scalar.indexCast v221
  ![v222.toNat]

def k0_chk430 (arg25 : BitVec 32) (v223 : IVec S16 32) : Prop :=
  (∀ (k0_h10 : k0_cond10 arg25 = 1#1), ∀ a x, ((![v223] : Fin 1 → IVec S16 32) a x).toNat < S1024.size a) ∧
  (∀ (k0_h10 : k0_cond10 arg25 = 1#1), ∀ a x, ((![v223] : Fin 1 → IVec S16 32) a x).toNat < S1024.size a)
theorem k0_idx433_inb : ∀ (arg25 : BitVec 32) (v223 : IVec S16 32) (k0_hw430 : k0_chk430 arg25 v223), ∀ (k0_h10 : k0_cond10 arg25 = 1#1), ∀ a x, ((![v223] : Fin 1 → IVec S16 32) a x).toNat < S1024.size a := fun arg25 v223 k0_hw430 k0_h10 => k0_hw430.1 k0_h10
theorem k0_idx434_inb : ∀ (arg25 : BitVec 32) (v223 : IVec S16 32) (k0_hw430 : k0_chk430 arg25 v223), ∀ (k0_h10 : k0_cond10 arg25 = 1#1), ∀ a x, ((![v223] : Fin 1 → IVec S16 32) a x).toNat < S1024.size a := fun arg25 v223 k0_hw430 k0_h10 => k0_hw430.2 k0_h10

def k0_chk431 (arg25 : BitVec 32) (v227 : IVec S16 32) (v229 : IVec S16 32) : Prop :=
  (∀ (k0_h10 : k0_cond10 arg25 = 1#1), ∀ a x, ((![v227, v229] : Fin 2 → IVec S16 32) a x).toNat < S8x64.size a)
theorem k0_idx435_inb : ∀ (arg25 : BitVec 32) (v227 : IVec S16 32) (v229 : IVec S16 32) (k0_hw431 : k0_chk431 arg25 v227 v229), ∀ (k0_h10 : k0_cond10 arg25 = 1#1), ∀ a x, ((![v227, v229] : Fin 2 → IVec S16 32) a x).toNat < S8x64.size a := fun arg25 v227 v229 k0_hw431 k0_h10 => k0_hw431 k0_h10

def k0_chk432 (arg25 : BitVec 32) (v230 : IVec S16 32) (v236 : IVec S16 32) : Prop :=
  (∀ (k0_h10 : k0_cond10 arg25 = 1#1), ∀ a x, ((![v230, v236] : Fin 2 → IVec S16 32) a x).toNat < S32x512.size a)
theorem k0_idx436_inb : ∀ (arg25 : BitVec 32) (v230 : IVec S16 32) (v236 : IVec S16 32) (k0_hw432 : k0_chk432 arg25 v230 v236), ∀ (k0_h10 : k0_cond10 arg25 = 1#1), ∀ a x, ((![v230, v236] : Fin 2 → IVec S16 32) a x).toNat < S32x512.size a := fun arg25 v230 v236 k0_hw432 k0_h10 => k0_hw432 k0_h10

def k0_chk433 (arg25 : BitVec 32) (v223 : IVec S16 32) (v230 : IVec S16 32) : Prop :=
  (∀ (k0_h10 : k0_cond10 arg25 = 1#1), ∀ a x, ((![v223, v230] : Fin 2 → IVec S16 32) a x).toNat < S512x32.size a)
theorem k0_idx437_inb : ∀ (arg25 : BitVec 32) (v223 : IVec S16 32) (v230 : IVec S16 32) (k0_hw433 : k0_chk433 arg25 v223 v230), ∀ (k0_h10 : k0_cond10 arg25 = 1#1), ∀ a x, ((![v223, v230] : Fin 2 → IVec S16 32) a x).toNat < S512x32.size a := fun arg25 v223 v230 k0_hw433 k0_h10 => k0_hw433 k0_h10

def k0_chk434 (arg25 : BitVec 32) (v238 : IVec S16 32) (v244 : IVec S16 32) : Prop :=
  (∀ (k0_h10 : k0_cond10 arg25 = 1#1), ∀ a x, ((![v238, v244] : Fin 2 → IVec S16 32) a x).toNat < S32x512.size a)
theorem k0_idx438_inb : ∀ (arg25 : BitVec 32) (v238 : IVec S16 32) (v244 : IVec S16 32) (k0_hw434 : k0_chk434 arg25 v238 v244), ∀ (k0_h10 : k0_cond10 arg25 = 1#1), ∀ a x, ((![v238, v244] : Fin 2 → IVec S16 32) a x).toNat < S32x512.size a := fun arg25 v238 v244 k0_hw434 k0_h10 => k0_hw434 k0_h10

def k0_chk435 (arg25 : BitVec 32) (v223 : IVec S16 32) (v238 : IVec S16 32) : Prop :=
  (∀ (k0_h10 : k0_cond10 arg25 = 1#1), ∀ a x, ((![v223, v238] : Fin 2 → IVec S16 32) a x).toNat < S512x32.size a)
theorem k0_idx439_inb : ∀ (arg25 : BitVec 32) (v223 : IVec S16 32) (v238 : IVec S16 32) (k0_hw435 : k0_chk435 arg25 v223 v238), ∀ (k0_h10 : k0_cond10 arg25 = 1#1), ∀ a x, ((![v223, v238] : Fin 2 → IVec S16 32) a x).toNat < S512x32.size a := fun arg25 v223 v238 k0_hw435 k0_h10 => k0_hw435 k0_h10

def k0_chk436 (arg25 : BitVec 32) (v246 : IVec S16 32) (v252 : IVec S16 32) : Prop :=
  (∀ (k0_h10 : k0_cond10 arg25 = 1#1), ∀ a x, ((![v246, v252] : Fin 2 → IVec S16 32) a x).toNat < S32x512.size a)
theorem k0_idx440_inb : ∀ (arg25 : BitVec 32) (v246 : IVec S16 32) (v252 : IVec S16 32) (k0_hw436 : k0_chk436 arg25 v246 v252), ∀ (k0_h10 : k0_cond10 arg25 = 1#1), ∀ a x, ((![v246, v252] : Fin 2 → IVec S16 32) a x).toNat < S32x512.size a := fun arg25 v246 v252 k0_hw436 k0_h10 => k0_hw436 k0_h10

def k0_chk437 (arg25 : BitVec 32) (v223 : IVec S16 32) (v246 : IVec S16 32) : Prop :=
  (∀ (k0_h10 : k0_cond10 arg25 = 1#1), ∀ a x, ((![v223, v246] : Fin 2 → IVec S16 32) a x).toNat < S512x32.size a)
theorem k0_idx441_inb : ∀ (arg25 : BitVec 32) (v223 : IVec S16 32) (v246 : IVec S16 32) (k0_hw437 : k0_chk437 arg25 v223 v246), ∀ (k0_h10 : k0_cond10 arg25 = 1#1), ∀ a x, ((![v223, v246] : Fin 2 → IVec S16 32) a x).toNat < S512x32.size a := fun arg25 v223 v246 k0_hw437 k0_h10 => k0_hw437 k0_h10

def k0_chk438 (arg25 : BitVec 32) (v254 : IVec S16 32) (v260 : IVec S16 32) : Prop :=
  (∀ (k0_h10 : k0_cond10 arg25 = 1#1), ∀ a x, ((![v254, v260] : Fin 2 → IVec S16 32) a x).toNat < S32x512.size a)
theorem k0_idx442_inb : ∀ (arg25 : BitVec 32) (v254 : IVec S16 32) (v260 : IVec S16 32) (k0_hw438 : k0_chk438 arg25 v254 v260), ∀ (k0_h10 : k0_cond10 arg25 = 1#1), ∀ a x, ((![v254, v260] : Fin 2 → IVec S16 32) a x).toNat < S32x512.size a := fun arg25 v254 v260 k0_hw438 k0_h10 => k0_hw438 k0_h10

def k0_chk439 (arg25 : BitVec 32) (v223 : IVec S16 32) (v254 : IVec S16 32) : Prop :=
  (∀ (k0_h10 : k0_cond10 arg25 = 1#1), ∀ a x, ((![v223, v254] : Fin 2 → IVec S16 32) a x).toNat < S512x32.size a)
theorem k0_idx443_inb : ∀ (arg25 : BitVec 32) (v223 : IVec S16 32) (v254 : IVec S16 32) (k0_hw439 : k0_chk439 arg25 v223 v254), ∀ (k0_h10 : k0_cond10 arg25 = 1#1), ∀ a x, ((![v223, v254] : Fin 2 → IVec S16 32) a x).toNat < S512x32.size a := fun arg25 v223 v254 k0_hw439 k0_h10 => k0_hw439 k0_h10

def k0_chk440 (arg25 : BitVec 32) (v262 : IVec S16 32) (v268 : IVec S16 32) : Prop :=
  (∀ (k0_h10 : k0_cond10 arg25 = 1#1), ∀ a x, ((![v262, v268] : Fin 2 → IVec S16 32) a x).toNat < S32x512.size a)
theorem k0_idx444_inb : ∀ (arg25 : BitVec 32) (v262 : IVec S16 32) (v268 : IVec S16 32) (k0_hw440 : k0_chk440 arg25 v262 v268), ∀ (k0_h10 : k0_cond10 arg25 = 1#1), ∀ a x, ((![v262, v268] : Fin 2 → IVec S16 32) a x).toNat < S32x512.size a := fun arg25 v262 v268 k0_hw440 k0_h10 => k0_hw440 k0_h10

def k0_chk441 (arg25 : BitVec 32) (v223 : IVec S16 32) (v262 : IVec S16 32) : Prop :=
  (∀ (k0_h10 : k0_cond10 arg25 = 1#1), ∀ a x, ((![v223, v262] : Fin 2 → IVec S16 32) a x).toNat < S512x32.size a)
theorem k0_idx445_inb : ∀ (arg25 : BitVec 32) (v223 : IVec S16 32) (v262 : IVec S16 32) (k0_hw441 : k0_chk441 arg25 v223 v262), ∀ (k0_h10 : k0_cond10 arg25 = 1#1), ∀ a x, ((![v223, v262] : Fin 2 → IVec S16 32) a x).toNat < S512x32.size a := fun arg25 v223 v262 k0_hw441 k0_h10 => k0_hw441 k0_h10

def k0_chk442 (arg25 : BitVec 32) (v270 : IVec S16 32) (v276 : IVec S16 32) : Prop :=
  (∀ (k0_h10 : k0_cond10 arg25 = 1#1), ∀ a x, ((![v270, v276] : Fin 2 → IVec S16 32) a x).toNat < S32x512.size a)
theorem k0_idx446_inb : ∀ (arg25 : BitVec 32) (v270 : IVec S16 32) (v276 : IVec S16 32) (k0_hw442 : k0_chk442 arg25 v270 v276), ∀ (k0_h10 : k0_cond10 arg25 = 1#1), ∀ a x, ((![v270, v276] : Fin 2 → IVec S16 32) a x).toNat < S32x512.size a := fun arg25 v270 v276 k0_hw442 k0_h10 => k0_hw442 k0_h10

def k0_chk443 (arg25 : BitVec 32) (v223 : IVec S16 32) (v270 : IVec S16 32) : Prop :=
  (∀ (k0_h10 : k0_cond10 arg25 = 1#1), ∀ a x, ((![v223, v270] : Fin 2 → IVec S16 32) a x).toNat < S512x32.size a)
theorem k0_idx447_inb : ∀ (arg25 : BitVec 32) (v223 : IVec S16 32) (v270 : IVec S16 32) (k0_hw443 : k0_chk443 arg25 v223 v270), ∀ (k0_h10 : k0_cond10 arg25 = 1#1), ∀ a x, ((![v223, v270] : Fin 2 → IVec S16 32) a x).toNat < S512x32.size a := fun arg25 v223 v270 k0_hw443 k0_h10 => k0_hw443 k0_h10

def k0_chk444 (arg25 : BitVec 32) (v278 : IVec S16 32) (v284 : IVec S16 32) : Prop :=
  (∀ (k0_h10 : k0_cond10 arg25 = 1#1), ∀ a x, ((![v278, v284] : Fin 2 → IVec S16 32) a x).toNat < S32x512.size a)
theorem k0_idx448_inb : ∀ (arg25 : BitVec 32) (v278 : IVec S16 32) (v284 : IVec S16 32) (k0_hw444 : k0_chk444 arg25 v278 v284), ∀ (k0_h10 : k0_cond10 arg25 = 1#1), ∀ a x, ((![v278, v284] : Fin 2 → IVec S16 32) a x).toNat < S32x512.size a := fun arg25 v278 v284 k0_hw444 k0_h10 => k0_hw444 k0_h10

def k0_chk445 (arg25 : BitVec 32) (v223 : IVec S16 32) (v278 : IVec S16 32) : Prop :=
  (∀ (k0_h10 : k0_cond10 arg25 = 1#1), ∀ a x, ((![v223, v278] : Fin 2 → IVec S16 32) a x).toNat < S512x32.size a)
theorem k0_idx449_inb : ∀ (arg25 : BitVec 32) (v223 : IVec S16 32) (v278 : IVec S16 32) (k0_hw445 : k0_chk445 arg25 v223 v278), ∀ (k0_h10 : k0_cond10 arg25 = 1#1), ∀ a x, ((![v223, v278] : Fin 2 → IVec S16 32) a x).toNat < S512x32.size a := fun arg25 v223 v278 k0_hw445 k0_h10 => k0_hw445 k0_h10

def k0_chk446 (arg25 : BitVec 32) (v286 : IVec S16 32) (v292 : IVec S16 32) : Prop :=
  (∀ (k0_h10 : k0_cond10 arg25 = 1#1), ∀ a x, ((![v286, v292] : Fin 2 → IVec S16 32) a x).toNat < S32x512.size a)
theorem k0_idx450_inb : ∀ (arg25 : BitVec 32) (v286 : IVec S16 32) (v292 : IVec S16 32) (k0_hw446 : k0_chk446 arg25 v286 v292), ∀ (k0_h10 : k0_cond10 arg25 = 1#1), ∀ a x, ((![v286, v292] : Fin 2 → IVec S16 32) a x).toNat < S32x512.size a := fun arg25 v286 v292 k0_hw446 k0_h10 => k0_hw446 k0_h10

def k0_chk447 (arg25 : BitVec 32) (v223 : IVec S16 32) (v286 : IVec S16 32) : Prop :=
  (∀ (k0_h10 : k0_cond10 arg25 = 1#1), ∀ a x, ((![v223, v286] : Fin 2 → IVec S16 32) a x).toNat < S512x32.size a)
theorem k0_idx451_inb : ∀ (arg25 : BitVec 32) (v223 : IVec S16 32) (v286 : IVec S16 32) (k0_hw447 : k0_chk447 arg25 v223 v286), ∀ (k0_h10 : k0_cond10 arg25 = 1#1), ∀ a x, ((![v223, v286] : Fin 2 → IVec S16 32) a x).toNat < S512x32.size a := fun arg25 v223 v286 k0_hw447 k0_h10 => k0_hw447 k0_h10

def k0_chk448 (arg25 : BitVec 32) (v294 : IVec S16 32) (v300 : IVec S16 32) : Prop :=
  (∀ (k0_h10 : k0_cond10 arg25 = 1#1), ∀ a x, ((![v294, v300] : Fin 2 → IVec S16 32) a x).toNat < S32x512.size a)
theorem k0_idx452_inb : ∀ (arg25 : BitVec 32) (v294 : IVec S16 32) (v300 : IVec S16 32) (k0_hw448 : k0_chk448 arg25 v294 v300), ∀ (k0_h10 : k0_cond10 arg25 = 1#1), ∀ a x, ((![v294, v300] : Fin 2 → IVec S16 32) a x).toNat < S32x512.size a := fun arg25 v294 v300 k0_hw448 k0_h10 => k0_hw448 k0_h10

def k0_chk449 (arg25 : BitVec 32) (v223 : IVec S16 32) (v294 : IVec S16 32) : Prop :=
  (∀ (k0_h10 : k0_cond10 arg25 = 1#1), ∀ a x, ((![v223, v294] : Fin 2 → IVec S16 32) a x).toNat < S512x32.size a)
theorem k0_idx453_inb : ∀ (arg25 : BitVec 32) (v223 : IVec S16 32) (v294 : IVec S16 32) (k0_hw449 : k0_chk449 arg25 v223 v294), ∀ (k0_h10 : k0_cond10 arg25 = 1#1), ∀ a x, ((![v223, v294] : Fin 2 → IVec S16 32) a x).toNat < S512x32.size a := fun arg25 v223 v294 k0_hw449 k0_h10 => k0_hw449 k0_h10

def k0_chk450 (arg25 : BitVec 32) (v302 : IVec S16 32) (v308 : IVec S16 32) : Prop :=
  (∀ (k0_h10 : k0_cond10 arg25 = 1#1), ∀ a x, ((![v302, v308] : Fin 2 → IVec S16 32) a x).toNat < S32x512.size a)
theorem k0_idx454_inb : ∀ (arg25 : BitVec 32) (v302 : IVec S16 32) (v308 : IVec S16 32) (k0_hw450 : k0_chk450 arg25 v302 v308), ∀ (k0_h10 : k0_cond10 arg25 = 1#1), ∀ a x, ((![v302, v308] : Fin 2 → IVec S16 32) a x).toNat < S32x512.size a := fun arg25 v302 v308 k0_hw450 k0_h10 => k0_hw450 k0_h10

def k0_chk451 (arg25 : BitVec 32) (v223 : IVec S16 32) (v302 : IVec S16 32) : Prop :=
  (∀ (k0_h10 : k0_cond10 arg25 = 1#1), ∀ a x, ((![v223, v302] : Fin 2 → IVec S16 32) a x).toNat < S512x32.size a)
theorem k0_idx455_inb : ∀ (arg25 : BitVec 32) (v223 : IVec S16 32) (v302 : IVec S16 32) (k0_hw451 : k0_chk451 arg25 v223 v302), ∀ (k0_h10 : k0_cond10 arg25 = 1#1), ∀ a x, ((![v223, v302] : Fin 2 → IVec S16 32) a x).toNat < S512x32.size a := fun arg25 v223 v302 k0_hw451 k0_h10 => k0_hw451 k0_h10

def k0_chk452 (arg25 : BitVec 32) (v310 : IVec S16 32) (v316 : IVec S16 32) : Prop :=
  (∀ (k0_h10 : k0_cond10 arg25 = 1#1), ∀ a x, ((![v310, v316] : Fin 2 → IVec S16 32) a x).toNat < S32x512.size a)
theorem k0_idx456_inb : ∀ (arg25 : BitVec 32) (v310 : IVec S16 32) (v316 : IVec S16 32) (k0_hw452 : k0_chk452 arg25 v310 v316), ∀ (k0_h10 : k0_cond10 arg25 = 1#1), ∀ a x, ((![v310, v316] : Fin 2 → IVec S16 32) a x).toNat < S32x512.size a := fun arg25 v310 v316 k0_hw452 k0_h10 => k0_hw452 k0_h10

def k0_chk453 (arg25 : BitVec 32) (v223 : IVec S16 32) (v310 : IVec S16 32) : Prop :=
  (∀ (k0_h10 : k0_cond10 arg25 = 1#1), ∀ a x, ((![v223, v310] : Fin 2 → IVec S16 32) a x).toNat < S512x32.size a)
theorem k0_idx457_inb : ∀ (arg25 : BitVec 32) (v223 : IVec S16 32) (v310 : IVec S16 32) (k0_hw453 : k0_chk453 arg25 v223 v310), ∀ (k0_h10 : k0_cond10 arg25 = 1#1), ∀ a x, ((![v223, v310] : Fin 2 → IVec S16 32) a x).toNat < S512x32.size a := fun arg25 v223 v310 k0_hw453 k0_h10 => k0_hw453 k0_h10

def k0_chk454 (arg25 : BitVec 32) (v318 : IVec S16 32) (v324 : IVec S16 32) : Prop :=
  (∀ (k0_h10 : k0_cond10 arg25 = 1#1), ∀ a x, ((![v318, v324] : Fin 2 → IVec S16 32) a x).toNat < S32x512.size a)
theorem k0_idx458_inb : ∀ (arg25 : BitVec 32) (v318 : IVec S16 32) (v324 : IVec S16 32) (k0_hw454 : k0_chk454 arg25 v318 v324), ∀ (k0_h10 : k0_cond10 arg25 = 1#1), ∀ a x, ((![v318, v324] : Fin 2 → IVec S16 32) a x).toNat < S32x512.size a := fun arg25 v318 v324 k0_hw454 k0_h10 => k0_hw454 k0_h10

def k0_chk455 (arg25 : BitVec 32) (v223 : IVec S16 32) (v318 : IVec S16 32) : Prop :=
  (∀ (k0_h10 : k0_cond10 arg25 = 1#1), ∀ a x, ((![v223, v318] : Fin 2 → IVec S16 32) a x).toNat < S512x32.size a)
theorem k0_idx459_inb : ∀ (arg25 : BitVec 32) (v223 : IVec S16 32) (v318 : IVec S16 32) (k0_hw455 : k0_chk455 arg25 v223 v318), ∀ (k0_h10 : k0_cond10 arg25 = 1#1), ∀ a x, ((![v223, v318] : Fin 2 → IVec S16 32) a x).toNat < S512x32.size a := fun arg25 v223 v318 k0_hw455 k0_h10 => k0_hw455 k0_h10

def k0_chk456 (arg25 : BitVec 32) (v326 : IVec S16 32) (v332 : IVec S16 32) : Prop :=
  (∀ (k0_h10 : k0_cond10 arg25 = 1#1), ∀ a x, ((![v326, v332] : Fin 2 → IVec S16 32) a x).toNat < S32x512.size a)
theorem k0_idx460_inb : ∀ (arg25 : BitVec 32) (v326 : IVec S16 32) (v332 : IVec S16 32) (k0_hw456 : k0_chk456 arg25 v326 v332), ∀ (k0_h10 : k0_cond10 arg25 = 1#1), ∀ a x, ((![v326, v332] : Fin 2 → IVec S16 32) a x).toNat < S32x512.size a := fun arg25 v326 v332 k0_hw456 k0_h10 => k0_hw456 k0_h10

def k0_chk457 (arg25 : BitVec 32) (v223 : IVec S16 32) (v326 : IVec S16 32) : Prop :=
  (∀ (k0_h10 : k0_cond10 arg25 = 1#1), ∀ a x, ((![v223, v326] : Fin 2 → IVec S16 32) a x).toNat < S512x32.size a)
theorem k0_idx461_inb : ∀ (arg25 : BitVec 32) (v223 : IVec S16 32) (v326 : IVec S16 32) (k0_hw457 : k0_chk457 arg25 v223 v326), ∀ (k0_h10 : k0_cond10 arg25 = 1#1), ∀ a x, ((![v223, v326] : Fin 2 → IVec S16 32) a x).toNat < S512x32.size a := fun arg25 v223 v326 k0_hw457 k0_h10 => k0_hw457 k0_h10

def k0_chk458 (arg25 : BitVec 32) (v334 : IVec S16 32) (v340 : IVec S16 32) : Prop :=
  (∀ (k0_h10 : k0_cond10 arg25 = 1#1), ∀ a x, ((![v334, v340] : Fin 2 → IVec S16 32) a x).toNat < S32x512.size a)
theorem k0_idx462_inb : ∀ (arg25 : BitVec 32) (v334 : IVec S16 32) (v340 : IVec S16 32) (k0_hw458 : k0_chk458 arg25 v334 v340), ∀ (k0_h10 : k0_cond10 arg25 = 1#1), ∀ a x, ((![v334, v340] : Fin 2 → IVec S16 32) a x).toNat < S32x512.size a := fun arg25 v334 v340 k0_hw458 k0_h10 => k0_hw458 k0_h10

def k0_chk459 (arg25 : BitVec 32) (v223 : IVec S16 32) (v334 : IVec S16 32) : Prop :=
  (∀ (k0_h10 : k0_cond10 arg25 = 1#1), ∀ a x, ((![v223, v334] : Fin 2 → IVec S16 32) a x).toNat < S512x32.size a)
theorem k0_idx463_inb : ∀ (arg25 : BitVec 32) (v223 : IVec S16 32) (v334 : IVec S16 32) (k0_hw459 : k0_chk459 arg25 v223 v334), ∀ (k0_h10 : k0_cond10 arg25 = 1#1), ∀ a x, ((![v223, v334] : Fin 2 → IVec S16 32) a x).toNat < S512x32.size a := fun arg25 v223 v334 k0_hw459 k0_h10 => k0_hw459 k0_h10

def k0_chk460 (arg25 : BitVec 32) (v342 : IVec S16 32) (v348 : IVec S16 32) : Prop :=
  (∀ (k0_h10 : k0_cond10 arg25 = 1#1), ∀ a x, ((![v342, v348] : Fin 2 → IVec S16 32) a x).toNat < S32x512.size a)
theorem k0_idx464_inb : ∀ (arg25 : BitVec 32) (v342 : IVec S16 32) (v348 : IVec S16 32) (k0_hw460 : k0_chk460 arg25 v342 v348), ∀ (k0_h10 : k0_cond10 arg25 = 1#1), ∀ a x, ((![v342, v348] : Fin 2 → IVec S16 32) a x).toNat < S32x512.size a := fun arg25 v342 v348 k0_hw460 k0_h10 => k0_hw460 k0_h10

def k0_chk461 (arg25 : BitVec 32) (v223 : IVec S16 32) (v342 : IVec S16 32) : Prop :=
  (∀ (k0_h10 : k0_cond10 arg25 = 1#1), ∀ a x, ((![v223, v342] : Fin 2 → IVec S16 32) a x).toNat < S512x32.size a)
theorem k0_idx465_inb : ∀ (arg25 : BitVec 32) (v223 : IVec S16 32) (v342 : IVec S16 32) (k0_hw461 : k0_chk461 arg25 v223 v342), ∀ (k0_h10 : k0_cond10 arg25 = 1#1), ∀ a x, ((![v223, v342] : Fin 2 → IVec S16 32) a x).toNat < S512x32.size a := fun arg25 v223 v342 k0_hw461 k0_h10 => k0_hw461 k0_h10

def k0_chk462 (arg25 : BitVec 32) (v350 : IVec S16 32) (v356 : IVec S16 32) : Prop :=
  (∀ (k0_h10 : k0_cond10 arg25 = 1#1), ∀ a x, ((![v350, v356] : Fin 2 → IVec S16 32) a x).toNat < S32x512.size a)
theorem k0_idx466_inb : ∀ (arg25 : BitVec 32) (v350 : IVec S16 32) (v356 : IVec S16 32) (k0_hw462 : k0_chk462 arg25 v350 v356), ∀ (k0_h10 : k0_cond10 arg25 = 1#1), ∀ a x, ((![v350, v356] : Fin 2 → IVec S16 32) a x).toNat < S32x512.size a := fun arg25 v350 v356 k0_hw462 k0_h10 => k0_hw462 k0_h10

def k0_chk463 (arg25 : BitVec 32) (v223 : IVec S16 32) (v350 : IVec S16 32) : Prop :=
  (∀ (k0_h10 : k0_cond10 arg25 = 1#1), ∀ a x, ((![v223, v350] : Fin 2 → IVec S16 32) a x).toNat < S512x32.size a)
theorem k0_idx467_inb : ∀ (arg25 : BitVec 32) (v223 : IVec S16 32) (v350 : IVec S16 32) (k0_hw463 : k0_chk463 arg25 v223 v350), ∀ (k0_h10 : k0_cond10 arg25 = 1#1), ∀ a x, ((![v223, v350] : Fin 2 → IVec S16 32) a x).toNat < S512x32.size a := fun arg25 v223 v350 k0_hw463 k0_h10 => k0_hw463 k0_h10

def k0_chk464 (arg25 : BitVec 32) (v358 : IVec S16 32) (v364 : IVec S16 32) : Prop :=
  (∀ (k0_h10 : k0_cond10 arg25 = 1#1), ∀ a x, ((![v358, v364] : Fin 2 → IVec S16 32) a x).toNat < S32x512.size a)
theorem k0_idx468_inb : ∀ (arg25 : BitVec 32) (v358 : IVec S16 32) (v364 : IVec S16 32) (k0_hw464 : k0_chk464 arg25 v358 v364), ∀ (k0_h10 : k0_cond10 arg25 = 1#1), ∀ a x, ((![v358, v364] : Fin 2 → IVec S16 32) a x).toNat < S32x512.size a := fun arg25 v358 v364 k0_hw464 k0_h10 => k0_hw464 k0_h10

def k0_chk465 (arg25 : BitVec 32) (v223 : IVec S16 32) (v358 : IVec S16 32) : Prop :=
  (∀ (k0_h10 : k0_cond10 arg25 = 1#1), ∀ a x, ((![v223, v358] : Fin 2 → IVec S16 32) a x).toNat < S512x32.size a)
theorem k0_idx469_inb : ∀ (arg25 : BitVec 32) (v223 : IVec S16 32) (v358 : IVec S16 32) (k0_hw465 : k0_chk465 arg25 v223 v358), ∀ (k0_h10 : k0_cond10 arg25 = 1#1), ∀ a x, ((![v223, v358] : Fin 2 → IVec S16 32) a x).toNat < S512x32.size a := fun arg25 v223 v358 k0_hw465 k0_h10 => k0_hw465 k0_h10

def k0_chk466 (arg25 : BitVec 32) (v366 : IVec S16 32) (v372 : IVec S16 32) : Prop :=
  (∀ (k0_h10 : k0_cond10 arg25 = 1#1), ∀ a x, ((![v366, v372] : Fin 2 → IVec S16 32) a x).toNat < S32x512.size a)
theorem k0_idx470_inb : ∀ (arg25 : BitVec 32) (v366 : IVec S16 32) (v372 : IVec S16 32) (k0_hw466 : k0_chk466 arg25 v366 v372), ∀ (k0_h10 : k0_cond10 arg25 = 1#1), ∀ a x, ((![v366, v372] : Fin 2 → IVec S16 32) a x).toNat < S32x512.size a := fun arg25 v366 v372 k0_hw466 k0_h10 => k0_hw466 k0_h10

def k0_chk467 (arg25 : BitVec 32) (v223 : IVec S16 32) (v366 : IVec S16 32) : Prop :=
  (∀ (k0_h10 : k0_cond10 arg25 = 1#1), ∀ a x, ((![v223, v366] : Fin 2 → IVec S16 32) a x).toNat < S512x32.size a)
theorem k0_idx471_inb : ∀ (arg25 : BitVec 32) (v223 : IVec S16 32) (v366 : IVec S16 32) (k0_hw467 : k0_chk467 arg25 v223 v366), ∀ (k0_h10 : k0_cond10 arg25 = 1#1), ∀ a x, ((![v223, v366] : Fin 2 → IVec S16 32) a x).toNat < S512x32.size a := fun arg25 v223 v366 k0_hw467 k0_h10 => k0_hw467 k0_h10

def k0_chk468 (arg25 : BitVec 32) (v374 : IVec S16 32) (v380 : IVec S16 32) : Prop :=
  (∀ (k0_h10 : k0_cond10 arg25 = 1#1), ∀ a x, ((![v374, v380] : Fin 2 → IVec S16 32) a x).toNat < S32x512.size a)
theorem k0_idx472_inb : ∀ (arg25 : BitVec 32) (v374 : IVec S16 32) (v380 : IVec S16 32) (k0_hw468 : k0_chk468 arg25 v374 v380), ∀ (k0_h10 : k0_cond10 arg25 = 1#1), ∀ a x, ((![v374, v380] : Fin 2 → IVec S16 32) a x).toNat < S32x512.size a := fun arg25 v374 v380 k0_hw468 k0_h10 => k0_hw468 k0_h10

def k0_chk469 (arg25 : BitVec 32) (v223 : IVec S16 32) (v374 : IVec S16 32) : Prop :=
  (∀ (k0_h10 : k0_cond10 arg25 = 1#1), ∀ a x, ((![v223, v374] : Fin 2 → IVec S16 32) a x).toNat < S512x32.size a)
theorem k0_idx473_inb : ∀ (arg25 : BitVec 32) (v223 : IVec S16 32) (v374 : IVec S16 32) (k0_hw469 : k0_chk469 arg25 v223 v374), ∀ (k0_h10 : k0_cond10 arg25 = 1#1), ∀ a x, ((![v223, v374] : Fin 2 → IVec S16 32) a x).toNat < S512x32.size a := fun arg25 v223 v374 k0_hw469 k0_h10 => k0_hw469 k0_h10

def k0_chk470 (arg25 : BitVec 32) (v382 : IVec S16 32) (v388 : IVec S16 32) : Prop :=
  (∀ (k0_h10 : k0_cond10 arg25 = 1#1), ∀ a x, ((![v382, v388] : Fin 2 → IVec S16 32) a x).toNat < S32x512.size a)
theorem k0_idx474_inb : ∀ (arg25 : BitVec 32) (v382 : IVec S16 32) (v388 : IVec S16 32) (k0_hw470 : k0_chk470 arg25 v382 v388), ∀ (k0_h10 : k0_cond10 arg25 = 1#1), ∀ a x, ((![v382, v388] : Fin 2 → IVec S16 32) a x).toNat < S32x512.size a := fun arg25 v382 v388 k0_hw470 k0_h10 => k0_hw470 k0_h10

def k0_chk471 (arg25 : BitVec 32) (v223 : IVec S16 32) (v382 : IVec S16 32) : Prop :=
  (∀ (k0_h10 : k0_cond10 arg25 = 1#1), ∀ a x, ((![v223, v382] : Fin 2 → IVec S16 32) a x).toNat < S512x32.size a)
theorem k0_idx475_inb : ∀ (arg25 : BitVec 32) (v223 : IVec S16 32) (v382 : IVec S16 32) (k0_hw471 : k0_chk471 arg25 v223 v382), ∀ (k0_h10 : k0_cond10 arg25 = 1#1), ∀ a x, ((![v223, v382] : Fin 2 → IVec S16 32) a x).toNat < S512x32.size a := fun arg25 v223 v382 k0_hw471 k0_h10 => k0_hw471 k0_h10

def k0_chk472 (arg25 : BitVec 32) (v390 : IVec S16 32) (v396 : IVec S16 32) : Prop :=
  (∀ (k0_h10 : k0_cond10 arg25 = 1#1), ∀ a x, ((![v390, v396] : Fin 2 → IVec S16 32) a x).toNat < S32x512.size a)
theorem k0_idx476_inb : ∀ (arg25 : BitVec 32) (v390 : IVec S16 32) (v396 : IVec S16 32) (k0_hw472 : k0_chk472 arg25 v390 v396), ∀ (k0_h10 : k0_cond10 arg25 = 1#1), ∀ a x, ((![v390, v396] : Fin 2 → IVec S16 32) a x).toNat < S32x512.size a := fun arg25 v390 v396 k0_hw472 k0_h10 => k0_hw472 k0_h10

def k0_chk473 (arg25 : BitVec 32) (v223 : IVec S16 32) (v390 : IVec S16 32) : Prop :=
  (∀ (k0_h10 : k0_cond10 arg25 = 1#1), ∀ a x, ((![v223, v390] : Fin 2 → IVec S16 32) a x).toNat < S512x32.size a)
theorem k0_idx477_inb : ∀ (arg25 : BitVec 32) (v223 : IVec S16 32) (v390 : IVec S16 32) (k0_hw473 : k0_chk473 arg25 v223 v390), ∀ (k0_h10 : k0_cond10 arg25 = 1#1), ∀ a x, ((![v223, v390] : Fin 2 → IVec S16 32) a x).toNat < S512x32.size a := fun arg25 v223 v390 k0_hw473 k0_h10 => k0_hw473 k0_h10

def k0_chk474 (arg25 : BitVec 32) (v398 : IVec S16 32) (v404 : IVec S16 32) : Prop :=
  (∀ (k0_h10 : k0_cond10 arg25 = 1#1), ∀ a x, ((![v398, v404] : Fin 2 → IVec S16 32) a x).toNat < S32x512.size a)
theorem k0_idx478_inb : ∀ (arg25 : BitVec 32) (v398 : IVec S16 32) (v404 : IVec S16 32) (k0_hw474 : k0_chk474 arg25 v398 v404), ∀ (k0_h10 : k0_cond10 arg25 = 1#1), ∀ a x, ((![v398, v404] : Fin 2 → IVec S16 32) a x).toNat < S32x512.size a := fun arg25 v398 v404 k0_hw474 k0_h10 => k0_hw474 k0_h10

def k0_chk475 (arg25 : BitVec 32) (v223 : IVec S16 32) (v398 : IVec S16 32) : Prop :=
  (∀ (k0_h10 : k0_cond10 arg25 = 1#1), ∀ a x, ((![v223, v398] : Fin 2 → IVec S16 32) a x).toNat < S512x32.size a)
theorem k0_idx479_inb : ∀ (arg25 : BitVec 32) (v223 : IVec S16 32) (v398 : IVec S16 32) (k0_hw475 : k0_chk475 arg25 v223 v398), ∀ (k0_h10 : k0_cond10 arg25 = 1#1), ∀ a x, ((![v223, v398] : Fin 2 → IVec S16 32) a x).toNat < S512x32.size a := fun arg25 v223 v398 k0_hw475 k0_h10 => k0_hw475 k0_h10

def k0_chk476 (arg25 : BitVec 32) (v406 : IVec S16 32) (v412 : IVec S16 32) : Prop :=
  (∀ (k0_h10 : k0_cond10 arg25 = 1#1), ∀ a x, ((![v406, v412] : Fin 2 → IVec S16 32) a x).toNat < S32x512.size a)
theorem k0_idx480_inb : ∀ (arg25 : BitVec 32) (v406 : IVec S16 32) (v412 : IVec S16 32) (k0_hw476 : k0_chk476 arg25 v406 v412), ∀ (k0_h10 : k0_cond10 arg25 = 1#1), ∀ a x, ((![v406, v412] : Fin 2 → IVec S16 32) a x).toNat < S32x512.size a := fun arg25 v406 v412 k0_hw476 k0_h10 => k0_hw476 k0_h10

def k0_chk477 (arg25 : BitVec 32) (v223 : IVec S16 32) (v406 : IVec S16 32) : Prop :=
  (∀ (k0_h10 : k0_cond10 arg25 = 1#1), ∀ a x, ((![v223, v406] : Fin 2 → IVec S16 32) a x).toNat < S512x32.size a)
theorem k0_idx481_inb : ∀ (arg25 : BitVec 32) (v223 : IVec S16 32) (v406 : IVec S16 32) (k0_hw477 : k0_chk477 arg25 v223 v406), ∀ (k0_h10 : k0_cond10 arg25 = 1#1), ∀ a x, ((![v223, v406] : Fin 2 → IVec S16 32) a x).toNat < S512x32.size a := fun arg25 v223 v406 k0_hw477 k0_h10 => k0_hw477 k0_h10

def k0_chk478 (arg25 : BitVec 32) (v414 : IVec S16 32) (v420 : IVec S16 32) : Prop :=
  (∀ (k0_h10 : k0_cond10 arg25 = 1#1), ∀ a x, ((![v414, v420] : Fin 2 → IVec S16 32) a x).toNat < S32x512.size a)
theorem k0_idx482_inb : ∀ (arg25 : BitVec 32) (v414 : IVec S16 32) (v420 : IVec S16 32) (k0_hw478 : k0_chk478 arg25 v414 v420), ∀ (k0_h10 : k0_cond10 arg25 = 1#1), ∀ a x, ((![v414, v420] : Fin 2 → IVec S16 32) a x).toNat < S32x512.size a := fun arg25 v414 v420 k0_hw478 k0_h10 => k0_hw478 k0_h10

def k0_chk479 (arg25 : BitVec 32) (v223 : IVec S16 32) (v414 : IVec S16 32) : Prop :=
  (∀ (k0_h10 : k0_cond10 arg25 = 1#1), ∀ a x, ((![v223, v414] : Fin 2 → IVec S16 32) a x).toNat < S512x32.size a)
theorem k0_idx483_inb : ∀ (arg25 : BitVec 32) (v223 : IVec S16 32) (v414 : IVec S16 32) (k0_hw479 : k0_chk479 arg25 v223 v414), ∀ (k0_h10 : k0_cond10 arg25 = 1#1), ∀ a x, ((![v223, v414] : Fin 2 → IVec S16 32) a x).toNat < S512x32.size a := fun arg25 v223 v414 k0_hw479 k0_h10 => k0_hw479 k0_h10

def k0_chk480 (arg25 : BitVec 32) (v422 : IVec S16 32) (v428 : IVec S16 32) : Prop :=
  (∀ (k0_h10 : k0_cond10 arg25 = 1#1), ∀ a x, ((![v422, v428] : Fin 2 → IVec S16 32) a x).toNat < S32x512.size a)
theorem k0_idx484_inb : ∀ (arg25 : BitVec 32) (v422 : IVec S16 32) (v428 : IVec S16 32) (k0_hw480 : k0_chk480 arg25 v422 v428), ∀ (k0_h10 : k0_cond10 arg25 = 1#1), ∀ a x, ((![v422, v428] : Fin 2 → IVec S16 32) a x).toNat < S32x512.size a := fun arg25 v422 v428 k0_hw480 k0_h10 => k0_hw480 k0_h10

def k0_chk481 (arg25 : BitVec 32) (v223 : IVec S16 32) (v422 : IVec S16 32) : Prop :=
  (∀ (k0_h10 : k0_cond10 arg25 = 1#1), ∀ a x, ((![v223, v422] : Fin 2 → IVec S16 32) a x).toNat < S512x32.size a)
theorem k0_idx485_inb : ∀ (arg25 : BitVec 32) (v223 : IVec S16 32) (v422 : IVec S16 32) (k0_hw481 : k0_chk481 arg25 v223 v422), ∀ (k0_h10 : k0_cond10 arg25 = 1#1), ∀ a x, ((![v223, v422] : Fin 2 → IVec S16 32) a x).toNat < S512x32.size a := fun arg25 v223 v422 k0_hw481 k0_h10 => k0_hw481 k0_h10

def k0_chk482 (arg25 : BitVec 32) (v430 : IVec S16 32) (v436 : IVec S16 32) : Prop :=
  (∀ (k0_h10 : k0_cond10 arg25 = 1#1), ∀ a x, ((![v430, v436] : Fin 2 → IVec S16 32) a x).toNat < S32x512.size a)
theorem k0_idx486_inb : ∀ (arg25 : BitVec 32) (v430 : IVec S16 32) (v436 : IVec S16 32) (k0_hw482 : k0_chk482 arg25 v430 v436), ∀ (k0_h10 : k0_cond10 arg25 = 1#1), ∀ a x, ((![v430, v436] : Fin 2 → IVec S16 32) a x).toNat < S32x512.size a := fun arg25 v430 v436 k0_hw482 k0_h10 => k0_hw482 k0_h10

def k0_chk483 (arg25 : BitVec 32) (v223 : IVec S16 32) (v430 : IVec S16 32) : Prop :=
  (∀ (k0_h10 : k0_cond10 arg25 = 1#1), ∀ a x, ((![v223, v430] : Fin 2 → IVec S16 32) a x).toNat < S512x32.size a)
theorem k0_idx487_inb : ∀ (arg25 : BitVec 32) (v223 : IVec S16 32) (v430 : IVec S16 32) (k0_hw483 : k0_chk483 arg25 v223 v430), ∀ (k0_h10 : k0_cond10 arg25 = 1#1), ∀ a x, ((![v223, v430] : Fin 2 → IVec S16 32) a x).toNat < S512x32.size a := fun arg25 v223 v430 k0_hw483 k0_h10 => k0_hw483 k0_h10

def k0_chk484 (arg25 : BitVec 32) (v438 : IVec S16 32) (v444 : IVec S16 32) : Prop :=
  (∀ (k0_h10 : k0_cond10 arg25 = 1#1), ∀ a x, ((![v438, v444] : Fin 2 → IVec S16 32) a x).toNat < S32x512.size a)
theorem k0_idx488_inb : ∀ (arg25 : BitVec 32) (v438 : IVec S16 32) (v444 : IVec S16 32) (k0_hw484 : k0_chk484 arg25 v438 v444), ∀ (k0_h10 : k0_cond10 arg25 = 1#1), ∀ a x, ((![v438, v444] : Fin 2 → IVec S16 32) a x).toNat < S32x512.size a := fun arg25 v438 v444 k0_hw484 k0_h10 => k0_hw484 k0_h10

def k0_chk485 (arg25 : BitVec 32) (v223 : IVec S16 32) (v438 : IVec S16 32) : Prop :=
  (∀ (k0_h10 : k0_cond10 arg25 = 1#1), ∀ a x, ((![v223, v438] : Fin 2 → IVec S16 32) a x).toNat < S512x32.size a)
theorem k0_idx489_inb : ∀ (arg25 : BitVec 32) (v223 : IVec S16 32) (v438 : IVec S16 32) (k0_hw485 : k0_chk485 arg25 v223 v438), ∀ (k0_h10 : k0_cond10 arg25 = 1#1), ∀ a x, ((![v223, v438] : Fin 2 → IVec S16 32) a x).toNat < S512x32.size a := fun arg25 v223 v438 k0_hw485 k0_h10 => k0_hw485 k0_h10

def k0_chk486 (arg25 : BitVec 32) (v446 : IVec S16 32) (v452 : IVec S16 32) : Prop :=
  (∀ (k0_h10 : k0_cond10 arg25 = 1#1), ∀ a x, ((![v446, v452] : Fin 2 → IVec S16 32) a x).toNat < S32x512.size a)
theorem k0_idx490_inb : ∀ (arg25 : BitVec 32) (v446 : IVec S16 32) (v452 : IVec S16 32) (k0_hw486 : k0_chk486 arg25 v446 v452), ∀ (k0_h10 : k0_cond10 arg25 = 1#1), ∀ a x, ((![v446, v452] : Fin 2 → IVec S16 32) a x).toNat < S32x512.size a := fun arg25 v446 v452 k0_hw486 k0_h10 => k0_hw486 k0_h10

def k0_chk487 (arg25 : BitVec 32) (v223 : IVec S16 32) (v446 : IVec S16 32) : Prop :=
  (∀ (k0_h10 : k0_cond10 arg25 = 1#1), ∀ a x, ((![v223, v446] : Fin 2 → IVec S16 32) a x).toNat < S512x32.size a)
theorem k0_idx491_inb : ∀ (arg25 : BitVec 32) (v223 : IVec S16 32) (v446 : IVec S16 32) (k0_hw487 : k0_chk487 arg25 v223 v446), ∀ (k0_h10 : k0_cond10 arg25 = 1#1), ∀ a x, ((![v223, v446] : Fin 2 → IVec S16 32) a x).toNat < S512x32.size a := fun arg25 v223 v446 k0_hw487 k0_h10 => k0_hw487 k0_h10

def k0_chk488 (arg25 : BitVec 32) (v454 : IVec S16 32) (v460 : IVec S16 32) : Prop :=
  (∀ (k0_h10 : k0_cond10 arg25 = 1#1), ∀ a x, ((![v454, v460] : Fin 2 → IVec S16 32) a x).toNat < S32x512.size a)
theorem k0_idx492_inb : ∀ (arg25 : BitVec 32) (v454 : IVec S16 32) (v460 : IVec S16 32) (k0_hw488 : k0_chk488 arg25 v454 v460), ∀ (k0_h10 : k0_cond10 arg25 = 1#1), ∀ a x, ((![v454, v460] : Fin 2 → IVec S16 32) a x).toNat < S32x512.size a := fun arg25 v454 v460 k0_hw488 k0_h10 => k0_hw488 k0_h10

def k0_chk489 (arg25 : BitVec 32) (v223 : IVec S16 32) (v454 : IVec S16 32) : Prop :=
  (∀ (k0_h10 : k0_cond10 arg25 = 1#1), ∀ a x, ((![v223, v454] : Fin 2 → IVec S16 32) a x).toNat < S512x32.size a)
theorem k0_idx493_inb : ∀ (arg25 : BitVec 32) (v223 : IVec S16 32) (v454 : IVec S16 32) (k0_hw489 : k0_chk489 arg25 v223 v454), ∀ (k0_h10 : k0_cond10 arg25 = 1#1), ∀ a x, ((![v223, v454] : Fin 2 → IVec S16 32) a x).toNat < S512x32.size a := fun arg25 v223 v454 k0_hw489 k0_h10 => k0_hw489 k0_h10

def k0_chk490 (arg25 : BitVec 32) (v462 : IVec S16 32) (v468 : IVec S16 32) : Prop :=
  (∀ (k0_h10 : k0_cond10 arg25 = 1#1), ∀ a x, ((![v462, v468] : Fin 2 → IVec S16 32) a x).toNat < S32x512.size a)
theorem k0_idx494_inb : ∀ (arg25 : BitVec 32) (v462 : IVec S16 32) (v468 : IVec S16 32) (k0_hw490 : k0_chk490 arg25 v462 v468), ∀ (k0_h10 : k0_cond10 arg25 = 1#1), ∀ a x, ((![v462, v468] : Fin 2 → IVec S16 32) a x).toNat < S32x512.size a := fun arg25 v462 v468 k0_hw490 k0_h10 => k0_hw490 k0_h10

def k0_chk491 (arg25 : BitVec 32) (v223 : IVec S16 32) (v462 : IVec S16 32) : Prop :=
  (∀ (k0_h10 : k0_cond10 arg25 = 1#1), ∀ a x, ((![v223, v462] : Fin 2 → IVec S16 32) a x).toNat < S512x32.size a)
theorem k0_idx495_inb : ∀ (arg25 : BitVec 32) (v223 : IVec S16 32) (v462 : IVec S16 32) (k0_hw491 : k0_chk491 arg25 v223 v462), ∀ (k0_h10 : k0_cond10 arg25 = 1#1), ∀ a x, ((![v223, v462] : Fin 2 → IVec S16 32) a x).toNat < S512x32.size a := fun arg25 v223 v462 k0_hw491 k0_h10 => k0_hw491 k0_h10

def k0_chk492 (arg25 : BitVec 32) (v470 : IVec S16 32) (v476 : IVec S16 32) : Prop :=
  (∀ (k0_h10 : k0_cond10 arg25 = 1#1), ∀ a x, ((![v470, v476] : Fin 2 → IVec S16 32) a x).toNat < S32x512.size a)
theorem k0_idx496_inb : ∀ (arg25 : BitVec 32) (v470 : IVec S16 32) (v476 : IVec S16 32) (k0_hw492 : k0_chk492 arg25 v470 v476), ∀ (k0_h10 : k0_cond10 arg25 = 1#1), ∀ a x, ((![v470, v476] : Fin 2 → IVec S16 32) a x).toNat < S32x512.size a := fun arg25 v470 v476 k0_hw492 k0_h10 => k0_hw492 k0_h10

def k0_chk493 (arg25 : BitVec 32) (v223 : IVec S16 32) (v470 : IVec S16 32) : Prop :=
  (∀ (k0_h10 : k0_cond10 arg25 = 1#1), ∀ a x, ((![v223, v470] : Fin 2 → IVec S16 32) a x).toNat < S512x32.size a)
theorem k0_idx497_inb : ∀ (arg25 : BitVec 32) (v223 : IVec S16 32) (v470 : IVec S16 32) (k0_hw493 : k0_chk493 arg25 v223 v470), ∀ (k0_h10 : k0_cond10 arg25 = 1#1), ∀ a x, ((![v223, v470] : Fin 2 → IVec S16 32) a x).toNat < S512x32.size a := fun arg25 v223 v470 k0_hw493 k0_h10 => k0_hw493 k0_h10

def k0_chk494 (arg25 : BitVec 32) (v478 : IVec S16 32) (v484 : IVec S16 32) : Prop :=
  (∀ (k0_h10 : k0_cond10 arg25 = 1#1), ∀ a x, ((![v478, v484] : Fin 2 → IVec S16 32) a x).toNat < S32x512.size a)
theorem k0_idx498_inb : ∀ (arg25 : BitVec 32) (v478 : IVec S16 32) (v484 : IVec S16 32) (k0_hw494 : k0_chk494 arg25 v478 v484), ∀ (k0_h10 : k0_cond10 arg25 = 1#1), ∀ a x, ((![v478, v484] : Fin 2 → IVec S16 32) a x).toNat < S32x512.size a := fun arg25 v478 v484 k0_hw494 k0_h10 => k0_hw494 k0_h10

def k0_chk495 (arg25 : BitVec 32) (v223 : IVec S16 32) (v478 : IVec S16 32) : Prop :=
  (∀ (k0_h10 : k0_cond10 arg25 = 1#1), ∀ a x, ((![v223, v478] : Fin 2 → IVec S16 32) a x).toNat < S512x32.size a)
theorem k0_idx499_inb : ∀ (arg25 : BitVec 32) (v223 : IVec S16 32) (v478 : IVec S16 32) (k0_hw495 : k0_chk495 arg25 v223 v478), ∀ (k0_h10 : k0_cond10 arg25 = 1#1), ∀ a x, ((![v223, v478] : Fin 2 → IVec S16 32) a x).toNat < S512x32.size a := fun arg25 v223 v478 k0_hw495 k0_h10 => k0_hw495 k0_h10
@[reducible] def k0_t45_loop (arg25 : BitVec 32) : Scf.Loop 32 :=
  let c0_i32_211 : BitVec 32 := 0#32
  let c15_i32 : BitVec 32 := 15#32
  let v191 : BitVec 32 := Scalar.addi arg25 c15_i32
  let c0_i32_205 : BitVec 32 := 0#32
  let v193 : BitVec 1 := Scalar.cmpi .sgt v191 c0_i32_205
  let v194 : BitVec 32 := Scalar.extui v193
  let c0_i32_206 : BitVec 32 := 0#32
  let v195 : BitVec 1 := Scalar.cmpi .slt v191 c0_i32_206
  let v196 : BitVec 32 := Scalar.extui v195
  let v197 : BitVec 32 := Scalar.subi v194 v196
  let c16_i32 : BitVec 32 := 16#32
  let c0_i32_207 : BitVec 32 := 0#32
  let v198 : BitVec 1 := Scalar.cmpi .sgt c16_i32 c0_i32_207
  let v199 : BitVec 32 := Scalar.extui v198
  let c0_i32_208 : BitVec 32 := 0#32
  let v200 : BitVec 1 := Scalar.cmpi .slt c16_i32 c0_i32_208
  let v201 : BitVec 32 := Scalar.extui v200
  let v202 : BitVec 32 := Scalar.subi v199 v201
  let v203 : BitVec 1 := Scalar.cmpi .ne v197 v202
  let v204 : BitVec 32 := Scalar.remsi v191 c16_i32
  let c0_i32_209 : BitVec 32 := 0#32
  let v205 : BitVec 1 := Scalar.cmpi .ne v204 c0_i32_209
  let v206 : BitVec 1 := Scalar.andi v203 v205
  let v192 : BitVec 32 := Scalar.divsi v191 c16_i32
  let c1_i32_210 : BitVec 32 := 1#32
  let v207 : BitVec 32 := Scalar.subi v192 c1_i32_210
  let v208 : BitVec 32 := Scalar.select v206 v207 v192
  let v209 : BitVec 32 := Scalar.subi v208 c0_i32_211
  let c1_i32_213 : BitVec 32 := 1#32
  let v211 : BitVec 32 := Scalar.divsi v209 c1_i32_213
  let v212 : BitVec 32 := Scalar.muli v211 c1_i32_213
  let v213 : BitVec 32 := Scalar.addi c0_i32_211 v212
  let v210 : BitVec 32 := Scalar.addi c0_i32_211 v209
  let c1_i32_215 : BitVec 32 := 1#32
  ⟨v213, v210, c1_i32_215⟩
def k0_off29 (arg25 : BitVec 32) (k0_t45 : Fin (k0_t45_loop arg25).trips) : Fin 1 → Nat :=
  let c0_i32_211 : BitVec 32 := 0#32
  let c15_i32 : BitVec 32 := 15#32
  let v191 : BitVec 32 := Scalar.addi arg25 c15_i32
  let c0_i32_205 : BitVec 32 := 0#32
  let v193 : BitVec 1 := Scalar.cmpi .sgt v191 c0_i32_205
  let v194 : BitVec 32 := Scalar.extui v193
  let c0_i32_206 : BitVec 32 := 0#32
  let v195 : BitVec 1 := Scalar.cmpi .slt v191 c0_i32_206
  let v196 : BitVec 32 := Scalar.extui v195
  let v197 : BitVec 32 := Scalar.subi v194 v196
  let c16_i32 : BitVec 32 := 16#32
  let c0_i32_207 : BitVec 32 := 0#32
  let v198 : BitVec 1 := Scalar.cmpi .sgt c16_i32 c0_i32_207
  let v199 : BitVec 32 := Scalar.extui v198
  let c0_i32_208 : BitVec 32 := 0#32
  let v200 : BitVec 1 := Scalar.cmpi .slt c16_i32 c0_i32_208
  let v201 : BitVec 32 := Scalar.extui v200
  let v202 : BitVec 32 := Scalar.subi v199 v201
  let v203 : BitVec 1 := Scalar.cmpi .ne v197 v202
  let v204 : BitVec 32 := Scalar.remsi v191 c16_i32
  let c0_i32_209 : BitVec 32 := 0#32
  let v205 : BitVec 1 := Scalar.cmpi .ne v204 c0_i32_209
  let v206 : BitVec 1 := Scalar.andi v203 v205
  let v192 : BitVec 32 := Scalar.divsi v191 c16_i32
  let c1_i32_210 : BitVec 32 := 1#32
  let v207 : BitVec 32 := Scalar.subi v192 c1_i32_210
  let v208 : BitVec 32 := Scalar.select v206 v207 v192
  let v209 : BitVec 32 := Scalar.subi v208 c0_i32_211
  let c1_i32_213 : BitVec 32 := 1#32
  let v211 : BitVec 32 := Scalar.divsi v209 c1_i32_213
  let v212 : BitVec 32 := Scalar.muli v211 c1_i32_213
  let v213 : BitVec 32 := Scalar.addi c0_i32_211 v212
  let c1_i32_215 : BitVec 32 := 1#32
  let arg26 : BitVec 32 := Scf.iv v213 c1_i32_215 k0_t45
  let c16_i32_217 : BitVec 32 := 16#32
  let v221 : BitVec 32 := Scalar.muli arg26 c16_i32_217
  let v222 : Index := Scalar.indexCast v221
  ![v222.toNat]

def k0_chk429 (arg25 : BitVec 32) : Prop :=
  (∀ (k0_h10 : k0_cond10 arg25 = 1#1), (k0_t44_loop arg25).OK) ∧
  (∀ k0_t44 : Fin (k0_t44_loop arg25).trips, ∀ (k0_h10 : k0_cond10 arg25 = 1#1), ∀ a, (k0_off28 arg25 k0_t44) a + S16.size a ≤ S512.size a) ∧
  (∀ (k0_h10 : k0_cond10 arg25 = 1#1), (k0_t45_loop arg25).OK) ∧
  (∀ k0_t45 : Fin (k0_t45_loop arg25).trips, ∀ (k0_h10 : k0_cond10 arg25 = 1#1), ∀ a, (k0_off29 arg25 k0_t45) a + S16.size a ≤ S512.size a)
theorem k0_t44_ok : ∀ (arg25 : BitVec 32) (k0_hw429 : k0_chk429 arg25), ∀ (k0_h10 : k0_cond10 arg25 = 1#1), (k0_t44_loop arg25).OK := fun arg25 k0_hw429 k0_h10 => k0_hw429.1 k0_h10
theorem k0_off28_inb : ∀ (arg25 : BitVec 32) (k0_hw429 : k0_chk429 arg25) (k0_t44 : Fin (k0_t44_loop arg25).trips), ∀ (k0_h10 : k0_cond10 arg25 = 1#1), ∀ a, (k0_off28 arg25 k0_t44) a + S16.size a ≤ S512.size a := fun arg25 k0_hw429 k0_t44 k0_h10 => k0_hw429.2.1 k0_t44 k0_h10
theorem k0_t45_ok : ∀ (arg25 : BitVec 32) (k0_hw429 : k0_chk429 arg25), ∀ (k0_h10 : k0_cond10 arg25 = 1#1), (k0_t45_loop arg25).OK := fun arg25 k0_hw429 k0_h10 => k0_hw429.2.2.1 k0_h10
theorem k0_off29_inb : ∀ (arg25 : BitVec 32) (k0_hw429 : k0_chk429 arg25) (k0_t45 : Fin (k0_t45_loop arg25).trips), ∀ (k0_h10 : k0_cond10 arg25 = 1#1), ∀ a, (k0_off29 arg25 k0_t45) a + S16.size a ≤ S512.size a := fun arg25 k0_hw429 k0_t45 k0_h10 => k0_hw429.2.2.2 k0_t45 k0_h10

def k0_chk496 (arg25 : BitVec 32) (v223 : IVec S16 32) : Prop :=
  (∀ (k0_h10 : k0_cond10 arg25 = 1#1), ∀ a x, ((![v223] : Fin 1 → IVec S16 32) a x).toNat < S1024.size a) ∧
  (∀ (k0_h10 : k0_cond10 arg25 = 1#1), ∀ a x, ((![v223] : Fin 1 → IVec S16 32) a x).toNat < S1024.size a)
theorem k0_idx500_inb : ∀ (arg25 : BitVec 32) (v223 : IVec S16 32) (k0_hw496 : k0_chk496 arg25 v223), ∀ (k0_h10 : k0_cond10 arg25 = 1#1), ∀ a x, ((![v223] : Fin 1 → IVec S16 32) a x).toNat < S1024.size a := fun arg25 v223 k0_hw496 k0_h10 => k0_hw496.1 k0_h10
theorem k0_idx501_inb : ∀ (arg25 : BitVec 32) (v223 : IVec S16 32) (k0_hw496 : k0_chk496 arg25 v223), ∀ (k0_h10 : k0_cond10 arg25 = 1#1), ∀ a x, ((![v223] : Fin 1 → IVec S16 32) a x).toNat < S1024.size a := fun arg25 v223 k0_hw496 k0_h10 => k0_hw496.2 k0_h10

def k0_chk497 (arg25 : BitVec 32) (v227 : IVec S16 32) (v229 : IVec S16 32) : Prop :=
  (∀ (k0_h10 : k0_cond10 arg25 = 1#1), ∀ a x, ((![v227, v229] : Fin 2 → IVec S16 32) a x).toNat < S8x64.size a)
theorem k0_idx502_inb : ∀ (arg25 : BitVec 32) (v227 : IVec S16 32) (v229 : IVec S16 32) (k0_hw497 : k0_chk497 arg25 v227 v229), ∀ (k0_h10 : k0_cond10 arg25 = 1#1), ∀ a x, ((![v227, v229] : Fin 2 → IVec S16 32) a x).toNat < S8x64.size a := fun arg25 v227 v229 k0_hw497 k0_h10 => k0_hw497 k0_h10

def k0_chk498 (arg25 : BitVec 32) (v230 : IVec S16 32) (v236 : IVec S16 32) : Prop :=
  (∀ (k0_h10 : k0_cond10 arg25 = 1#1), ∀ a x, ((![v230, v236] : Fin 2 → IVec S16 32) a x).toNat < S32x512.size a)
theorem k0_idx503_inb : ∀ (arg25 : BitVec 32) (v230 : IVec S16 32) (v236 : IVec S16 32) (k0_hw498 : k0_chk498 arg25 v230 v236), ∀ (k0_h10 : k0_cond10 arg25 = 1#1), ∀ a x, ((![v230, v236] : Fin 2 → IVec S16 32) a x).toNat < S32x512.size a := fun arg25 v230 v236 k0_hw498 k0_h10 => k0_hw498 k0_h10

def k0_chk499 (arg25 : BitVec 32) (v223 : IVec S16 32) (v230 : IVec S16 32) : Prop :=
  (∀ (k0_h10 : k0_cond10 arg25 = 1#1), ∀ a x, ((![v223, v230] : Fin 2 → IVec S16 32) a x).toNat < S512x32.size a)
theorem k0_idx504_inb : ∀ (arg25 : BitVec 32) (v223 : IVec S16 32) (v230 : IVec S16 32) (k0_hw499 : k0_chk499 arg25 v223 v230), ∀ (k0_h10 : k0_cond10 arg25 = 1#1), ∀ a x, ((![v223, v230] : Fin 2 → IVec S16 32) a x).toNat < S512x32.size a := fun arg25 v223 v230 k0_hw499 k0_h10 => k0_hw499 k0_h10

def k0_chk500 (arg25 : BitVec 32) (v238 : IVec S16 32) (v244 : IVec S16 32) : Prop :=
  (∀ (k0_h10 : k0_cond10 arg25 = 1#1), ∀ a x, ((![v238, v244] : Fin 2 → IVec S16 32) a x).toNat < S32x512.size a)
theorem k0_idx505_inb : ∀ (arg25 : BitVec 32) (v238 : IVec S16 32) (v244 : IVec S16 32) (k0_hw500 : k0_chk500 arg25 v238 v244), ∀ (k0_h10 : k0_cond10 arg25 = 1#1), ∀ a x, ((![v238, v244] : Fin 2 → IVec S16 32) a x).toNat < S32x512.size a := fun arg25 v238 v244 k0_hw500 k0_h10 => k0_hw500 k0_h10

def k0_chk501 (arg25 : BitVec 32) (v223 : IVec S16 32) (v238 : IVec S16 32) : Prop :=
  (∀ (k0_h10 : k0_cond10 arg25 = 1#1), ∀ a x, ((![v223, v238] : Fin 2 → IVec S16 32) a x).toNat < S512x32.size a)
theorem k0_idx506_inb : ∀ (arg25 : BitVec 32) (v223 : IVec S16 32) (v238 : IVec S16 32) (k0_hw501 : k0_chk501 arg25 v223 v238), ∀ (k0_h10 : k0_cond10 arg25 = 1#1), ∀ a x, ((![v223, v238] : Fin 2 → IVec S16 32) a x).toNat < S512x32.size a := fun arg25 v223 v238 k0_hw501 k0_h10 => k0_hw501 k0_h10

def k0_chk502 (arg25 : BitVec 32) (v246 : IVec S16 32) (v252 : IVec S16 32) : Prop :=
  (∀ (k0_h10 : k0_cond10 arg25 = 1#1), ∀ a x, ((![v246, v252] : Fin 2 → IVec S16 32) a x).toNat < S32x512.size a)
theorem k0_idx507_inb : ∀ (arg25 : BitVec 32) (v246 : IVec S16 32) (v252 : IVec S16 32) (k0_hw502 : k0_chk502 arg25 v246 v252), ∀ (k0_h10 : k0_cond10 arg25 = 1#1), ∀ a x, ((![v246, v252] : Fin 2 → IVec S16 32) a x).toNat < S32x512.size a := fun arg25 v246 v252 k0_hw502 k0_h10 => k0_hw502 k0_h10

def k0_chk503 (arg25 : BitVec 32) (v223 : IVec S16 32) (v246 : IVec S16 32) : Prop :=
  (∀ (k0_h10 : k0_cond10 arg25 = 1#1), ∀ a x, ((![v223, v246] : Fin 2 → IVec S16 32) a x).toNat < S512x32.size a)
theorem k0_idx508_inb : ∀ (arg25 : BitVec 32) (v223 : IVec S16 32) (v246 : IVec S16 32) (k0_hw503 : k0_chk503 arg25 v223 v246), ∀ (k0_h10 : k0_cond10 arg25 = 1#1), ∀ a x, ((![v223, v246] : Fin 2 → IVec S16 32) a x).toNat < S512x32.size a := fun arg25 v223 v246 k0_hw503 k0_h10 => k0_hw503 k0_h10

def k0_chk504 (arg25 : BitVec 32) (v254 : IVec S16 32) (v260 : IVec S16 32) : Prop :=
  (∀ (k0_h10 : k0_cond10 arg25 = 1#1), ∀ a x, ((![v254, v260] : Fin 2 → IVec S16 32) a x).toNat < S32x512.size a)
theorem k0_idx509_inb : ∀ (arg25 : BitVec 32) (v254 : IVec S16 32) (v260 : IVec S16 32) (k0_hw504 : k0_chk504 arg25 v254 v260), ∀ (k0_h10 : k0_cond10 arg25 = 1#1), ∀ a x, ((![v254, v260] : Fin 2 → IVec S16 32) a x).toNat < S32x512.size a := fun arg25 v254 v260 k0_hw504 k0_h10 => k0_hw504 k0_h10

def k0_chk505 (arg25 : BitVec 32) (v223 : IVec S16 32) (v254 : IVec S16 32) : Prop :=
  (∀ (k0_h10 : k0_cond10 arg25 = 1#1), ∀ a x, ((![v223, v254] : Fin 2 → IVec S16 32) a x).toNat < S512x32.size a)
theorem k0_idx510_inb : ∀ (arg25 : BitVec 32) (v223 : IVec S16 32) (v254 : IVec S16 32) (k0_hw505 : k0_chk505 arg25 v223 v254), ∀ (k0_h10 : k0_cond10 arg25 = 1#1), ∀ a x, ((![v223, v254] : Fin 2 → IVec S16 32) a x).toNat < S512x32.size a := fun arg25 v223 v254 k0_hw505 k0_h10 => k0_hw505 k0_h10

def k0_chk506 (arg25 : BitVec 32) (v262 : IVec S16 32) (v268 : IVec S16 32) : Prop :=
  (∀ (k0_h10 : k0_cond10 arg25 = 1#1), ∀ a x, ((![v262, v268] : Fin 2 → IVec S16 32) a x).toNat < S32x512.size a)
theorem k0_idx511_inb : ∀ (arg25 : BitVec 32) (v262 : IVec S16 32) (v268 : IVec S16 32) (k0_hw506 : k0_chk506 arg25 v262 v268), ∀ (k0_h10 : k0_cond10 arg25 = 1#1), ∀ a x, ((![v262, v268] : Fin 2 → IVec S16 32) a x).toNat < S32x512.size a := fun arg25 v262 v268 k0_hw506 k0_h10 => k0_hw506 k0_h10

def k0_chk507 (arg25 : BitVec 32) (v223 : IVec S16 32) (v262 : IVec S16 32) : Prop :=
  (∀ (k0_h10 : k0_cond10 arg25 = 1#1), ∀ a x, ((![v223, v262] : Fin 2 → IVec S16 32) a x).toNat < S512x32.size a)
theorem k0_idx512_inb : ∀ (arg25 : BitVec 32) (v223 : IVec S16 32) (v262 : IVec S16 32) (k0_hw507 : k0_chk507 arg25 v223 v262), ∀ (k0_h10 : k0_cond10 arg25 = 1#1), ∀ a x, ((![v223, v262] : Fin 2 → IVec S16 32) a x).toNat < S512x32.size a := fun arg25 v223 v262 k0_hw507 k0_h10 => k0_hw507 k0_h10

def k0_chk508 (arg25 : BitVec 32) (v270 : IVec S16 32) (v276 : IVec S16 32) : Prop :=
  (∀ (k0_h10 : k0_cond10 arg25 = 1#1), ∀ a x, ((![v270, v276] : Fin 2 → IVec S16 32) a x).toNat < S32x512.size a)
theorem k0_idx513_inb : ∀ (arg25 : BitVec 32) (v270 : IVec S16 32) (v276 : IVec S16 32) (k0_hw508 : k0_chk508 arg25 v270 v276), ∀ (k0_h10 : k0_cond10 arg25 = 1#1), ∀ a x, ((![v270, v276] : Fin 2 → IVec S16 32) a x).toNat < S32x512.size a := fun arg25 v270 v276 k0_hw508 k0_h10 => k0_hw508 k0_h10

def k0_chk509 (arg25 : BitVec 32) (v223 : IVec S16 32) (v270 : IVec S16 32) : Prop :=
  (∀ (k0_h10 : k0_cond10 arg25 = 1#1), ∀ a x, ((![v223, v270] : Fin 2 → IVec S16 32) a x).toNat < S512x32.size a)
theorem k0_idx514_inb : ∀ (arg25 : BitVec 32) (v223 : IVec S16 32) (v270 : IVec S16 32) (k0_hw509 : k0_chk509 arg25 v223 v270), ∀ (k0_h10 : k0_cond10 arg25 = 1#1), ∀ a x, ((![v223, v270] : Fin 2 → IVec S16 32) a x).toNat < S512x32.size a := fun arg25 v223 v270 k0_hw509 k0_h10 => k0_hw509 k0_h10

def k0_chk510 (arg25 : BitVec 32) (v278 : IVec S16 32) (v284 : IVec S16 32) : Prop :=
  (∀ (k0_h10 : k0_cond10 arg25 = 1#1), ∀ a x, ((![v278, v284] : Fin 2 → IVec S16 32) a x).toNat < S32x512.size a)
theorem k0_idx515_inb : ∀ (arg25 : BitVec 32) (v278 : IVec S16 32) (v284 : IVec S16 32) (k0_hw510 : k0_chk510 arg25 v278 v284), ∀ (k0_h10 : k0_cond10 arg25 = 1#1), ∀ a x, ((![v278, v284] : Fin 2 → IVec S16 32) a x).toNat < S32x512.size a := fun arg25 v278 v284 k0_hw510 k0_h10 => k0_hw510 k0_h10

def k0_chk511 (arg25 : BitVec 32) (v223 : IVec S16 32) (v278 : IVec S16 32) : Prop :=
  (∀ (k0_h10 : k0_cond10 arg25 = 1#1), ∀ a x, ((![v223, v278] : Fin 2 → IVec S16 32) a x).toNat < S512x32.size a)
theorem k0_idx516_inb : ∀ (arg25 : BitVec 32) (v223 : IVec S16 32) (v278 : IVec S16 32) (k0_hw511 : k0_chk511 arg25 v223 v278), ∀ (k0_h10 : k0_cond10 arg25 = 1#1), ∀ a x, ((![v223, v278] : Fin 2 → IVec S16 32) a x).toNat < S512x32.size a := fun arg25 v223 v278 k0_hw511 k0_h10 => k0_hw511 k0_h10

def k0_chk512 (arg25 : BitVec 32) (v286 : IVec S16 32) (v292 : IVec S16 32) : Prop :=
  (∀ (k0_h10 : k0_cond10 arg25 = 1#1), ∀ a x, ((![v286, v292] : Fin 2 → IVec S16 32) a x).toNat < S32x512.size a)
theorem k0_idx517_inb : ∀ (arg25 : BitVec 32) (v286 : IVec S16 32) (v292 : IVec S16 32) (k0_hw512 : k0_chk512 arg25 v286 v292), ∀ (k0_h10 : k0_cond10 arg25 = 1#1), ∀ a x, ((![v286, v292] : Fin 2 → IVec S16 32) a x).toNat < S32x512.size a := fun arg25 v286 v292 k0_hw512 k0_h10 => k0_hw512 k0_h10

def k0_chk513 (arg25 : BitVec 32) (v223 : IVec S16 32) (v286 : IVec S16 32) : Prop :=
  (∀ (k0_h10 : k0_cond10 arg25 = 1#1), ∀ a x, ((![v223, v286] : Fin 2 → IVec S16 32) a x).toNat < S512x32.size a)
theorem k0_idx518_inb : ∀ (arg25 : BitVec 32) (v223 : IVec S16 32) (v286 : IVec S16 32) (k0_hw513 : k0_chk513 arg25 v223 v286), ∀ (k0_h10 : k0_cond10 arg25 = 1#1), ∀ a x, ((![v223, v286] : Fin 2 → IVec S16 32) a x).toNat < S512x32.size a := fun arg25 v223 v286 k0_hw513 k0_h10 => k0_hw513 k0_h10

def k0_chk514 (arg25 : BitVec 32) (v294 : IVec S16 32) (v300 : IVec S16 32) : Prop :=
  (∀ (k0_h10 : k0_cond10 arg25 = 1#1), ∀ a x, ((![v294, v300] : Fin 2 → IVec S16 32) a x).toNat < S32x512.size a)
theorem k0_idx519_inb : ∀ (arg25 : BitVec 32) (v294 : IVec S16 32) (v300 : IVec S16 32) (k0_hw514 : k0_chk514 arg25 v294 v300), ∀ (k0_h10 : k0_cond10 arg25 = 1#1), ∀ a x, ((![v294, v300] : Fin 2 → IVec S16 32) a x).toNat < S32x512.size a := fun arg25 v294 v300 k0_hw514 k0_h10 => k0_hw514 k0_h10

def k0_chk515 (arg25 : BitVec 32) (v223 : IVec S16 32) (v294 : IVec S16 32) : Prop :=
  (∀ (k0_h10 : k0_cond10 arg25 = 1#1), ∀ a x, ((![v223, v294] : Fin 2 → IVec S16 32) a x).toNat < S512x32.size a)
theorem k0_idx520_inb : ∀ (arg25 : BitVec 32) (v223 : IVec S16 32) (v294 : IVec S16 32) (k0_hw515 : k0_chk515 arg25 v223 v294), ∀ (k0_h10 : k0_cond10 arg25 = 1#1), ∀ a x, ((![v223, v294] : Fin 2 → IVec S16 32) a x).toNat < S512x32.size a := fun arg25 v223 v294 k0_hw515 k0_h10 => k0_hw515 k0_h10

def k0_chk516 (arg25 : BitVec 32) (v302 : IVec S16 32) (v308 : IVec S16 32) : Prop :=
  (∀ (k0_h10 : k0_cond10 arg25 = 1#1), ∀ a x, ((![v302, v308] : Fin 2 → IVec S16 32) a x).toNat < S32x512.size a)
theorem k0_idx521_inb : ∀ (arg25 : BitVec 32) (v302 : IVec S16 32) (v308 : IVec S16 32) (k0_hw516 : k0_chk516 arg25 v302 v308), ∀ (k0_h10 : k0_cond10 arg25 = 1#1), ∀ a x, ((![v302, v308] : Fin 2 → IVec S16 32) a x).toNat < S32x512.size a := fun arg25 v302 v308 k0_hw516 k0_h10 => k0_hw516 k0_h10

def k0_chk517 (arg25 : BitVec 32) (v223 : IVec S16 32) (v302 : IVec S16 32) : Prop :=
  (∀ (k0_h10 : k0_cond10 arg25 = 1#1), ∀ a x, ((![v223, v302] : Fin 2 → IVec S16 32) a x).toNat < S512x32.size a)
theorem k0_idx522_inb : ∀ (arg25 : BitVec 32) (v223 : IVec S16 32) (v302 : IVec S16 32) (k0_hw517 : k0_chk517 arg25 v223 v302), ∀ (k0_h10 : k0_cond10 arg25 = 1#1), ∀ a x, ((![v223, v302] : Fin 2 → IVec S16 32) a x).toNat < S512x32.size a := fun arg25 v223 v302 k0_hw517 k0_h10 => k0_hw517 k0_h10

def k0_chk518 (arg25 : BitVec 32) (v310 : IVec S16 32) (v316 : IVec S16 32) : Prop :=
  (∀ (k0_h10 : k0_cond10 arg25 = 1#1), ∀ a x, ((![v310, v316] : Fin 2 → IVec S16 32) a x).toNat < S32x512.size a)
theorem k0_idx523_inb : ∀ (arg25 : BitVec 32) (v310 : IVec S16 32) (v316 : IVec S16 32) (k0_hw518 : k0_chk518 arg25 v310 v316), ∀ (k0_h10 : k0_cond10 arg25 = 1#1), ∀ a x, ((![v310, v316] : Fin 2 → IVec S16 32) a x).toNat < S32x512.size a := fun arg25 v310 v316 k0_hw518 k0_h10 => k0_hw518 k0_h10

def k0_chk519 (arg25 : BitVec 32) (v223 : IVec S16 32) (v310 : IVec S16 32) : Prop :=
  (∀ (k0_h10 : k0_cond10 arg25 = 1#1), ∀ a x, ((![v223, v310] : Fin 2 → IVec S16 32) a x).toNat < S512x32.size a)
theorem k0_idx524_inb : ∀ (arg25 : BitVec 32) (v223 : IVec S16 32) (v310 : IVec S16 32) (k0_hw519 : k0_chk519 arg25 v223 v310), ∀ (k0_h10 : k0_cond10 arg25 = 1#1), ∀ a x, ((![v223, v310] : Fin 2 → IVec S16 32) a x).toNat < S512x32.size a := fun arg25 v223 v310 k0_hw519 k0_h10 => k0_hw519 k0_h10

def k0_chk520 (arg25 : BitVec 32) (v318 : IVec S16 32) (v324 : IVec S16 32) : Prop :=
  (∀ (k0_h10 : k0_cond10 arg25 = 1#1), ∀ a x, ((![v318, v324] : Fin 2 → IVec S16 32) a x).toNat < S32x512.size a)
theorem k0_idx525_inb : ∀ (arg25 : BitVec 32) (v318 : IVec S16 32) (v324 : IVec S16 32) (k0_hw520 : k0_chk520 arg25 v318 v324), ∀ (k0_h10 : k0_cond10 arg25 = 1#1), ∀ a x, ((![v318, v324] : Fin 2 → IVec S16 32) a x).toNat < S32x512.size a := fun arg25 v318 v324 k0_hw520 k0_h10 => k0_hw520 k0_h10

def k0_chk521 (arg25 : BitVec 32) (v223 : IVec S16 32) (v318 : IVec S16 32) : Prop :=
  (∀ (k0_h10 : k0_cond10 arg25 = 1#1), ∀ a x, ((![v223, v318] : Fin 2 → IVec S16 32) a x).toNat < S512x32.size a)
theorem k0_idx526_inb : ∀ (arg25 : BitVec 32) (v223 : IVec S16 32) (v318 : IVec S16 32) (k0_hw521 : k0_chk521 arg25 v223 v318), ∀ (k0_h10 : k0_cond10 arg25 = 1#1), ∀ a x, ((![v223, v318] : Fin 2 → IVec S16 32) a x).toNat < S512x32.size a := fun arg25 v223 v318 k0_hw521 k0_h10 => k0_hw521 k0_h10

def k0_chk522 (arg25 : BitVec 32) (v326 : IVec S16 32) (v332 : IVec S16 32) : Prop :=
  (∀ (k0_h10 : k0_cond10 arg25 = 1#1), ∀ a x, ((![v326, v332] : Fin 2 → IVec S16 32) a x).toNat < S32x512.size a)
theorem k0_idx527_inb : ∀ (arg25 : BitVec 32) (v326 : IVec S16 32) (v332 : IVec S16 32) (k0_hw522 : k0_chk522 arg25 v326 v332), ∀ (k0_h10 : k0_cond10 arg25 = 1#1), ∀ a x, ((![v326, v332] : Fin 2 → IVec S16 32) a x).toNat < S32x512.size a := fun arg25 v326 v332 k0_hw522 k0_h10 => k0_hw522 k0_h10

def k0_chk523 (arg25 : BitVec 32) (v223 : IVec S16 32) (v326 : IVec S16 32) : Prop :=
  (∀ (k0_h10 : k0_cond10 arg25 = 1#1), ∀ a x, ((![v223, v326] : Fin 2 → IVec S16 32) a x).toNat < S512x32.size a)
theorem k0_idx528_inb : ∀ (arg25 : BitVec 32) (v223 : IVec S16 32) (v326 : IVec S16 32) (k0_hw523 : k0_chk523 arg25 v223 v326), ∀ (k0_h10 : k0_cond10 arg25 = 1#1), ∀ a x, ((![v223, v326] : Fin 2 → IVec S16 32) a x).toNat < S512x32.size a := fun arg25 v223 v326 k0_hw523 k0_h10 => k0_hw523 k0_h10

def k0_chk524 (arg25 : BitVec 32) (v334 : IVec S16 32) (v340 : IVec S16 32) : Prop :=
  (∀ (k0_h10 : k0_cond10 arg25 = 1#1), ∀ a x, ((![v334, v340] : Fin 2 → IVec S16 32) a x).toNat < S32x512.size a)
theorem k0_idx529_inb : ∀ (arg25 : BitVec 32) (v334 : IVec S16 32) (v340 : IVec S16 32) (k0_hw524 : k0_chk524 arg25 v334 v340), ∀ (k0_h10 : k0_cond10 arg25 = 1#1), ∀ a x, ((![v334, v340] : Fin 2 → IVec S16 32) a x).toNat < S32x512.size a := fun arg25 v334 v340 k0_hw524 k0_h10 => k0_hw524 k0_h10

def k0_chk525 (arg25 : BitVec 32) (v223 : IVec S16 32) (v334 : IVec S16 32) : Prop :=
  (∀ (k0_h10 : k0_cond10 arg25 = 1#1), ∀ a x, ((![v223, v334] : Fin 2 → IVec S16 32) a x).toNat < S512x32.size a)
theorem k0_idx530_inb : ∀ (arg25 : BitVec 32) (v223 : IVec S16 32) (v334 : IVec S16 32) (k0_hw525 : k0_chk525 arg25 v223 v334), ∀ (k0_h10 : k0_cond10 arg25 = 1#1), ∀ a x, ((![v223, v334] : Fin 2 → IVec S16 32) a x).toNat < S512x32.size a := fun arg25 v223 v334 k0_hw525 k0_h10 => k0_hw525 k0_h10

def k0_chk526 (arg25 : BitVec 32) (v342 : IVec S16 32) (v348 : IVec S16 32) : Prop :=
  (∀ (k0_h10 : k0_cond10 arg25 = 1#1), ∀ a x, ((![v342, v348] : Fin 2 → IVec S16 32) a x).toNat < S32x512.size a)
theorem k0_idx531_inb : ∀ (arg25 : BitVec 32) (v342 : IVec S16 32) (v348 : IVec S16 32) (k0_hw526 : k0_chk526 arg25 v342 v348), ∀ (k0_h10 : k0_cond10 arg25 = 1#1), ∀ a x, ((![v342, v348] : Fin 2 → IVec S16 32) a x).toNat < S32x512.size a := fun arg25 v342 v348 k0_hw526 k0_h10 => k0_hw526 k0_h10

def k0_chk527 (arg25 : BitVec 32) (v223 : IVec S16 32) (v342 : IVec S16 32) : Prop :=
  (∀ (k0_h10 : k0_cond10 arg25 = 1#1), ∀ a x, ((![v223, v342] : Fin 2 → IVec S16 32) a x).toNat < S512x32.size a)
theorem k0_idx532_inb : ∀ (arg25 : BitVec 32) (v223 : IVec S16 32) (v342 : IVec S16 32) (k0_hw527 : k0_chk527 arg25 v223 v342), ∀ (k0_h10 : k0_cond10 arg25 = 1#1), ∀ a x, ((![v223, v342] : Fin 2 → IVec S16 32) a x).toNat < S512x32.size a := fun arg25 v223 v342 k0_hw527 k0_h10 => k0_hw527 k0_h10

def k0_chk528 (arg25 : BitVec 32) (v350 : IVec S16 32) (v356 : IVec S16 32) : Prop :=
  (∀ (k0_h10 : k0_cond10 arg25 = 1#1), ∀ a x, ((![v350, v356] : Fin 2 → IVec S16 32) a x).toNat < S32x512.size a)
theorem k0_idx533_inb : ∀ (arg25 : BitVec 32) (v350 : IVec S16 32) (v356 : IVec S16 32) (k0_hw528 : k0_chk528 arg25 v350 v356), ∀ (k0_h10 : k0_cond10 arg25 = 1#1), ∀ a x, ((![v350, v356] : Fin 2 → IVec S16 32) a x).toNat < S32x512.size a := fun arg25 v350 v356 k0_hw528 k0_h10 => k0_hw528 k0_h10

def k0_chk529 (arg25 : BitVec 32) (v223 : IVec S16 32) (v350 : IVec S16 32) : Prop :=
  (∀ (k0_h10 : k0_cond10 arg25 = 1#1), ∀ a x, ((![v223, v350] : Fin 2 → IVec S16 32) a x).toNat < S512x32.size a)
theorem k0_idx534_inb : ∀ (arg25 : BitVec 32) (v223 : IVec S16 32) (v350 : IVec S16 32) (k0_hw529 : k0_chk529 arg25 v223 v350), ∀ (k0_h10 : k0_cond10 arg25 = 1#1), ∀ a x, ((![v223, v350] : Fin 2 → IVec S16 32) a x).toNat < S512x32.size a := fun arg25 v223 v350 k0_hw529 k0_h10 => k0_hw529 k0_h10

def k0_chk530 (arg25 : BitVec 32) (v358 : IVec S16 32) (v364 : IVec S16 32) : Prop :=
  (∀ (k0_h10 : k0_cond10 arg25 = 1#1), ∀ a x, ((![v358, v364] : Fin 2 → IVec S16 32) a x).toNat < S32x512.size a)
theorem k0_idx535_inb : ∀ (arg25 : BitVec 32) (v358 : IVec S16 32) (v364 : IVec S16 32) (k0_hw530 : k0_chk530 arg25 v358 v364), ∀ (k0_h10 : k0_cond10 arg25 = 1#1), ∀ a x, ((![v358, v364] : Fin 2 → IVec S16 32) a x).toNat < S32x512.size a := fun arg25 v358 v364 k0_hw530 k0_h10 => k0_hw530 k0_h10

def k0_chk531 (arg25 : BitVec 32) (v223 : IVec S16 32) (v358 : IVec S16 32) : Prop :=
  (∀ (k0_h10 : k0_cond10 arg25 = 1#1), ∀ a x, ((![v223, v358] : Fin 2 → IVec S16 32) a x).toNat < S512x32.size a)
theorem k0_idx536_inb : ∀ (arg25 : BitVec 32) (v223 : IVec S16 32) (v358 : IVec S16 32) (k0_hw531 : k0_chk531 arg25 v223 v358), ∀ (k0_h10 : k0_cond10 arg25 = 1#1), ∀ a x, ((![v223, v358] : Fin 2 → IVec S16 32) a x).toNat < S512x32.size a := fun arg25 v223 v358 k0_hw531 k0_h10 => k0_hw531 k0_h10

def k0_chk532 (arg25 : BitVec 32) (v366 : IVec S16 32) (v372 : IVec S16 32) : Prop :=
  (∀ (k0_h10 : k0_cond10 arg25 = 1#1), ∀ a x, ((![v366, v372] : Fin 2 → IVec S16 32) a x).toNat < S32x512.size a)
theorem k0_idx537_inb : ∀ (arg25 : BitVec 32) (v366 : IVec S16 32) (v372 : IVec S16 32) (k0_hw532 : k0_chk532 arg25 v366 v372), ∀ (k0_h10 : k0_cond10 arg25 = 1#1), ∀ a x, ((![v366, v372] : Fin 2 → IVec S16 32) a x).toNat < S32x512.size a := fun arg25 v366 v372 k0_hw532 k0_h10 => k0_hw532 k0_h10

def k0_chk533 (arg25 : BitVec 32) (v223 : IVec S16 32) (v366 : IVec S16 32) : Prop :=
  (∀ (k0_h10 : k0_cond10 arg25 = 1#1), ∀ a x, ((![v223, v366] : Fin 2 → IVec S16 32) a x).toNat < S512x32.size a)
theorem k0_idx538_inb : ∀ (arg25 : BitVec 32) (v223 : IVec S16 32) (v366 : IVec S16 32) (k0_hw533 : k0_chk533 arg25 v223 v366), ∀ (k0_h10 : k0_cond10 arg25 = 1#1), ∀ a x, ((![v223, v366] : Fin 2 → IVec S16 32) a x).toNat < S512x32.size a := fun arg25 v223 v366 k0_hw533 k0_h10 => k0_hw533 k0_h10

def k0_chk534 (arg25 : BitVec 32) (v374 : IVec S16 32) (v380 : IVec S16 32) : Prop :=
  (∀ (k0_h10 : k0_cond10 arg25 = 1#1), ∀ a x, ((![v374, v380] : Fin 2 → IVec S16 32) a x).toNat < S32x512.size a)
theorem k0_idx539_inb : ∀ (arg25 : BitVec 32) (v374 : IVec S16 32) (v380 : IVec S16 32) (k0_hw534 : k0_chk534 arg25 v374 v380), ∀ (k0_h10 : k0_cond10 arg25 = 1#1), ∀ a x, ((![v374, v380] : Fin 2 → IVec S16 32) a x).toNat < S32x512.size a := fun arg25 v374 v380 k0_hw534 k0_h10 => k0_hw534 k0_h10

def k0_chk535 (arg25 : BitVec 32) (v223 : IVec S16 32) (v374 : IVec S16 32) : Prop :=
  (∀ (k0_h10 : k0_cond10 arg25 = 1#1), ∀ a x, ((![v223, v374] : Fin 2 → IVec S16 32) a x).toNat < S512x32.size a)
theorem k0_idx540_inb : ∀ (arg25 : BitVec 32) (v223 : IVec S16 32) (v374 : IVec S16 32) (k0_hw535 : k0_chk535 arg25 v223 v374), ∀ (k0_h10 : k0_cond10 arg25 = 1#1), ∀ a x, ((![v223, v374] : Fin 2 → IVec S16 32) a x).toNat < S512x32.size a := fun arg25 v223 v374 k0_hw535 k0_h10 => k0_hw535 k0_h10

def k0_chk536 (arg25 : BitVec 32) (v382 : IVec S16 32) (v388 : IVec S16 32) : Prop :=
  (∀ (k0_h10 : k0_cond10 arg25 = 1#1), ∀ a x, ((![v382, v388] : Fin 2 → IVec S16 32) a x).toNat < S32x512.size a)
theorem k0_idx541_inb : ∀ (arg25 : BitVec 32) (v382 : IVec S16 32) (v388 : IVec S16 32) (k0_hw536 : k0_chk536 arg25 v382 v388), ∀ (k0_h10 : k0_cond10 arg25 = 1#1), ∀ a x, ((![v382, v388] : Fin 2 → IVec S16 32) a x).toNat < S32x512.size a := fun arg25 v382 v388 k0_hw536 k0_h10 => k0_hw536 k0_h10

def k0_chk537 (arg25 : BitVec 32) (v223 : IVec S16 32) (v382 : IVec S16 32) : Prop :=
  (∀ (k0_h10 : k0_cond10 arg25 = 1#1), ∀ a x, ((![v223, v382] : Fin 2 → IVec S16 32) a x).toNat < S512x32.size a)
theorem k0_idx542_inb : ∀ (arg25 : BitVec 32) (v223 : IVec S16 32) (v382 : IVec S16 32) (k0_hw537 : k0_chk537 arg25 v223 v382), ∀ (k0_h10 : k0_cond10 arg25 = 1#1), ∀ a x, ((![v223, v382] : Fin 2 → IVec S16 32) a x).toNat < S512x32.size a := fun arg25 v223 v382 k0_hw537 k0_h10 => k0_hw537 k0_h10

def k0_chk538 (arg25 : BitVec 32) (v390 : IVec S16 32) (v396 : IVec S16 32) : Prop :=
  (∀ (k0_h10 : k0_cond10 arg25 = 1#1), ∀ a x, ((![v390, v396] : Fin 2 → IVec S16 32) a x).toNat < S32x512.size a)
theorem k0_idx543_inb : ∀ (arg25 : BitVec 32) (v390 : IVec S16 32) (v396 : IVec S16 32) (k0_hw538 : k0_chk538 arg25 v390 v396), ∀ (k0_h10 : k0_cond10 arg25 = 1#1), ∀ a x, ((![v390, v396] : Fin 2 → IVec S16 32) a x).toNat < S32x512.size a := fun arg25 v390 v396 k0_hw538 k0_h10 => k0_hw538 k0_h10

def k0_chk539 (arg25 : BitVec 32) (v223 : IVec S16 32) (v390 : IVec S16 32) : Prop :=
  (∀ (k0_h10 : k0_cond10 arg25 = 1#1), ∀ a x, ((![v223, v390] : Fin 2 → IVec S16 32) a x).toNat < S512x32.size a)
theorem k0_idx544_inb : ∀ (arg25 : BitVec 32) (v223 : IVec S16 32) (v390 : IVec S16 32) (k0_hw539 : k0_chk539 arg25 v223 v390), ∀ (k0_h10 : k0_cond10 arg25 = 1#1), ∀ a x, ((![v223, v390] : Fin 2 → IVec S16 32) a x).toNat < S512x32.size a := fun arg25 v223 v390 k0_hw539 k0_h10 => k0_hw539 k0_h10

def k0_chk540 (arg25 : BitVec 32) (v398 : IVec S16 32) (v404 : IVec S16 32) : Prop :=
  (∀ (k0_h10 : k0_cond10 arg25 = 1#1), ∀ a x, ((![v398, v404] : Fin 2 → IVec S16 32) a x).toNat < S32x512.size a)
theorem k0_idx545_inb : ∀ (arg25 : BitVec 32) (v398 : IVec S16 32) (v404 : IVec S16 32) (k0_hw540 : k0_chk540 arg25 v398 v404), ∀ (k0_h10 : k0_cond10 arg25 = 1#1), ∀ a x, ((![v398, v404] : Fin 2 → IVec S16 32) a x).toNat < S32x512.size a := fun arg25 v398 v404 k0_hw540 k0_h10 => k0_hw540 k0_h10

def k0_chk541 (arg25 : BitVec 32) (v223 : IVec S16 32) (v398 : IVec S16 32) : Prop :=
  (∀ (k0_h10 : k0_cond10 arg25 = 1#1), ∀ a x, ((![v223, v398] : Fin 2 → IVec S16 32) a x).toNat < S512x32.size a)
theorem k0_idx546_inb : ∀ (arg25 : BitVec 32) (v223 : IVec S16 32) (v398 : IVec S16 32) (k0_hw541 : k0_chk541 arg25 v223 v398), ∀ (k0_h10 : k0_cond10 arg25 = 1#1), ∀ a x, ((![v223, v398] : Fin 2 → IVec S16 32) a x).toNat < S512x32.size a := fun arg25 v223 v398 k0_hw541 k0_h10 => k0_hw541 k0_h10

def k0_chk542 (arg25 : BitVec 32) (v406 : IVec S16 32) (v412 : IVec S16 32) : Prop :=
  (∀ (k0_h10 : k0_cond10 arg25 = 1#1), ∀ a x, ((![v406, v412] : Fin 2 → IVec S16 32) a x).toNat < S32x512.size a)
theorem k0_idx547_inb : ∀ (arg25 : BitVec 32) (v406 : IVec S16 32) (v412 : IVec S16 32) (k0_hw542 : k0_chk542 arg25 v406 v412), ∀ (k0_h10 : k0_cond10 arg25 = 1#1), ∀ a x, ((![v406, v412] : Fin 2 → IVec S16 32) a x).toNat < S32x512.size a := fun arg25 v406 v412 k0_hw542 k0_h10 => k0_hw542 k0_h10

def k0_chk543 (arg25 : BitVec 32) (v223 : IVec S16 32) (v406 : IVec S16 32) : Prop :=
  (∀ (k0_h10 : k0_cond10 arg25 = 1#1), ∀ a x, ((![v223, v406] : Fin 2 → IVec S16 32) a x).toNat < S512x32.size a)
theorem k0_idx548_inb : ∀ (arg25 : BitVec 32) (v223 : IVec S16 32) (v406 : IVec S16 32) (k0_hw543 : k0_chk543 arg25 v223 v406), ∀ (k0_h10 : k0_cond10 arg25 = 1#1), ∀ a x, ((![v223, v406] : Fin 2 → IVec S16 32) a x).toNat < S512x32.size a := fun arg25 v223 v406 k0_hw543 k0_h10 => k0_hw543 k0_h10

def k0_chk544 (arg25 : BitVec 32) (v414 : IVec S16 32) (v420 : IVec S16 32) : Prop :=
  (∀ (k0_h10 : k0_cond10 arg25 = 1#1), ∀ a x, ((![v414, v420] : Fin 2 → IVec S16 32) a x).toNat < S32x512.size a)
theorem k0_idx549_inb : ∀ (arg25 : BitVec 32) (v414 : IVec S16 32) (v420 : IVec S16 32) (k0_hw544 : k0_chk544 arg25 v414 v420), ∀ (k0_h10 : k0_cond10 arg25 = 1#1), ∀ a x, ((![v414, v420] : Fin 2 → IVec S16 32) a x).toNat < S32x512.size a := fun arg25 v414 v420 k0_hw544 k0_h10 => k0_hw544 k0_h10

def k0_chk545 (arg25 : BitVec 32) (v223 : IVec S16 32) (v414 : IVec S16 32) : Prop :=
  (∀ (k0_h10 : k0_cond10 arg25 = 1#1), ∀ a x, ((![v223, v414] : Fin 2 → IVec S16 32) a x).toNat < S512x32.size a)
theorem k0_idx550_inb : ∀ (arg25 : BitVec 32) (v223 : IVec S16 32) (v414 : IVec S16 32) (k0_hw545 : k0_chk545 arg25 v223 v414), ∀ (k0_h10 : k0_cond10 arg25 = 1#1), ∀ a x, ((![v223, v414] : Fin 2 → IVec S16 32) a x).toNat < S512x32.size a := fun arg25 v223 v414 k0_hw545 k0_h10 => k0_hw545 k0_h10

def k0_chk546 (arg25 : BitVec 32) (v422 : IVec S16 32) (v428 : IVec S16 32) : Prop :=
  (∀ (k0_h10 : k0_cond10 arg25 = 1#1), ∀ a x, ((![v422, v428] : Fin 2 → IVec S16 32) a x).toNat < S32x512.size a)
theorem k0_idx551_inb : ∀ (arg25 : BitVec 32) (v422 : IVec S16 32) (v428 : IVec S16 32) (k0_hw546 : k0_chk546 arg25 v422 v428), ∀ (k0_h10 : k0_cond10 arg25 = 1#1), ∀ a x, ((![v422, v428] : Fin 2 → IVec S16 32) a x).toNat < S32x512.size a := fun arg25 v422 v428 k0_hw546 k0_h10 => k0_hw546 k0_h10

def k0_chk547 (arg25 : BitVec 32) (v223 : IVec S16 32) (v422 : IVec S16 32) : Prop :=
  (∀ (k0_h10 : k0_cond10 arg25 = 1#1), ∀ a x, ((![v223, v422] : Fin 2 → IVec S16 32) a x).toNat < S512x32.size a)
theorem k0_idx552_inb : ∀ (arg25 : BitVec 32) (v223 : IVec S16 32) (v422 : IVec S16 32) (k0_hw547 : k0_chk547 arg25 v223 v422), ∀ (k0_h10 : k0_cond10 arg25 = 1#1), ∀ a x, ((![v223, v422] : Fin 2 → IVec S16 32) a x).toNat < S512x32.size a := fun arg25 v223 v422 k0_hw547 k0_h10 => k0_hw547 k0_h10

def k0_chk548 (arg25 : BitVec 32) (v430 : IVec S16 32) (v436 : IVec S16 32) : Prop :=
  (∀ (k0_h10 : k0_cond10 arg25 = 1#1), ∀ a x, ((![v430, v436] : Fin 2 → IVec S16 32) a x).toNat < S32x512.size a)
theorem k0_idx553_inb : ∀ (arg25 : BitVec 32) (v430 : IVec S16 32) (v436 : IVec S16 32) (k0_hw548 : k0_chk548 arg25 v430 v436), ∀ (k0_h10 : k0_cond10 arg25 = 1#1), ∀ a x, ((![v430, v436] : Fin 2 → IVec S16 32) a x).toNat < S32x512.size a := fun arg25 v430 v436 k0_hw548 k0_h10 => k0_hw548 k0_h10

def k0_chk549 (arg25 : BitVec 32) (v223 : IVec S16 32) (v430 : IVec S16 32) : Prop :=
  (∀ (k0_h10 : k0_cond10 arg25 = 1#1), ∀ a x, ((![v223, v430] : Fin 2 → IVec S16 32) a x).toNat < S512x32.size a)
theorem k0_idx554_inb : ∀ (arg25 : BitVec 32) (v223 : IVec S16 32) (v430 : IVec S16 32) (k0_hw549 : k0_chk549 arg25 v223 v430), ∀ (k0_h10 : k0_cond10 arg25 = 1#1), ∀ a x, ((![v223, v430] : Fin 2 → IVec S16 32) a x).toNat < S512x32.size a := fun arg25 v223 v430 k0_hw549 k0_h10 => k0_hw549 k0_h10

def k0_chk550 (arg25 : BitVec 32) (v438 : IVec S16 32) (v444 : IVec S16 32) : Prop :=
  (∀ (k0_h10 : k0_cond10 arg25 = 1#1), ∀ a x, ((![v438, v444] : Fin 2 → IVec S16 32) a x).toNat < S32x512.size a)
theorem k0_idx555_inb : ∀ (arg25 : BitVec 32) (v438 : IVec S16 32) (v444 : IVec S16 32) (k0_hw550 : k0_chk550 arg25 v438 v444), ∀ (k0_h10 : k0_cond10 arg25 = 1#1), ∀ a x, ((![v438, v444] : Fin 2 → IVec S16 32) a x).toNat < S32x512.size a := fun arg25 v438 v444 k0_hw550 k0_h10 => k0_hw550 k0_h10

def k0_chk551 (arg25 : BitVec 32) (v223 : IVec S16 32) (v438 : IVec S16 32) : Prop :=
  (∀ (k0_h10 : k0_cond10 arg25 = 1#1), ∀ a x, ((![v223, v438] : Fin 2 → IVec S16 32) a x).toNat < S512x32.size a)
theorem k0_idx556_inb : ∀ (arg25 : BitVec 32) (v223 : IVec S16 32) (v438 : IVec S16 32) (k0_hw551 : k0_chk551 arg25 v223 v438), ∀ (k0_h10 : k0_cond10 arg25 = 1#1), ∀ a x, ((![v223, v438] : Fin 2 → IVec S16 32) a x).toNat < S512x32.size a := fun arg25 v223 v438 k0_hw551 k0_h10 => k0_hw551 k0_h10

def k0_chk552 (arg25 : BitVec 32) (v446 : IVec S16 32) (v452 : IVec S16 32) : Prop :=
  (∀ (k0_h10 : k0_cond10 arg25 = 1#1), ∀ a x, ((![v446, v452] : Fin 2 → IVec S16 32) a x).toNat < S32x512.size a)
theorem k0_idx557_inb : ∀ (arg25 : BitVec 32) (v446 : IVec S16 32) (v452 : IVec S16 32) (k0_hw552 : k0_chk552 arg25 v446 v452), ∀ (k0_h10 : k0_cond10 arg25 = 1#1), ∀ a x, ((![v446, v452] : Fin 2 → IVec S16 32) a x).toNat < S32x512.size a := fun arg25 v446 v452 k0_hw552 k0_h10 => k0_hw552 k0_h10

def k0_chk553 (arg25 : BitVec 32) (v223 : IVec S16 32) (v446 : IVec S16 32) : Prop :=
  (∀ (k0_h10 : k0_cond10 arg25 = 1#1), ∀ a x, ((![v223, v446] : Fin 2 → IVec S16 32) a x).toNat < S512x32.size a)
theorem k0_idx558_inb : ∀ (arg25 : BitVec 32) (v223 : IVec S16 32) (v446 : IVec S16 32) (k0_hw553 : k0_chk553 arg25 v223 v446), ∀ (k0_h10 : k0_cond10 arg25 = 1#1), ∀ a x, ((![v223, v446] : Fin 2 → IVec S16 32) a x).toNat < S512x32.size a := fun arg25 v223 v446 k0_hw553 k0_h10 => k0_hw553 k0_h10

def k0_chk554 (arg25 : BitVec 32) (v454 : IVec S16 32) (v460 : IVec S16 32) : Prop :=
  (∀ (k0_h10 : k0_cond10 arg25 = 1#1), ∀ a x, ((![v454, v460] : Fin 2 → IVec S16 32) a x).toNat < S32x512.size a)
theorem k0_idx559_inb : ∀ (arg25 : BitVec 32) (v454 : IVec S16 32) (v460 : IVec S16 32) (k0_hw554 : k0_chk554 arg25 v454 v460), ∀ (k0_h10 : k0_cond10 arg25 = 1#1), ∀ a x, ((![v454, v460] : Fin 2 → IVec S16 32) a x).toNat < S32x512.size a := fun arg25 v454 v460 k0_hw554 k0_h10 => k0_hw554 k0_h10

def k0_chk555 (arg25 : BitVec 32) (v223 : IVec S16 32) (v454 : IVec S16 32) : Prop :=
  (∀ (k0_h10 : k0_cond10 arg25 = 1#1), ∀ a x, ((![v223, v454] : Fin 2 → IVec S16 32) a x).toNat < S512x32.size a)
theorem k0_idx560_inb : ∀ (arg25 : BitVec 32) (v223 : IVec S16 32) (v454 : IVec S16 32) (k0_hw555 : k0_chk555 arg25 v223 v454), ∀ (k0_h10 : k0_cond10 arg25 = 1#1), ∀ a x, ((![v223, v454] : Fin 2 → IVec S16 32) a x).toNat < S512x32.size a := fun arg25 v223 v454 k0_hw555 k0_h10 => k0_hw555 k0_h10

def k0_chk556 (arg25 : BitVec 32) (v462 : IVec S16 32) (v468 : IVec S16 32) : Prop :=
  (∀ (k0_h10 : k0_cond10 arg25 = 1#1), ∀ a x, ((![v462, v468] : Fin 2 → IVec S16 32) a x).toNat < S32x512.size a)
theorem k0_idx561_inb : ∀ (arg25 : BitVec 32) (v462 : IVec S16 32) (v468 : IVec S16 32) (k0_hw556 : k0_chk556 arg25 v462 v468), ∀ (k0_h10 : k0_cond10 arg25 = 1#1), ∀ a x, ((![v462, v468] : Fin 2 → IVec S16 32) a x).toNat < S32x512.size a := fun arg25 v462 v468 k0_hw556 k0_h10 => k0_hw556 k0_h10

def k0_chk557 (arg25 : BitVec 32) (v223 : IVec S16 32) (v462 : IVec S16 32) : Prop :=
  (∀ (k0_h10 : k0_cond10 arg25 = 1#1), ∀ a x, ((![v223, v462] : Fin 2 → IVec S16 32) a x).toNat < S512x32.size a)
theorem k0_idx562_inb : ∀ (arg25 : BitVec 32) (v223 : IVec S16 32) (v462 : IVec S16 32) (k0_hw557 : k0_chk557 arg25 v223 v462), ∀ (k0_h10 : k0_cond10 arg25 = 1#1), ∀ a x, ((![v223, v462] : Fin 2 → IVec S16 32) a x).toNat < S512x32.size a := fun arg25 v223 v462 k0_hw557 k0_h10 => k0_hw557 k0_h10

def k0_chk558 (arg25 : BitVec 32) (v470 : IVec S16 32) (v476 : IVec S16 32) : Prop :=
  (∀ (k0_h10 : k0_cond10 arg25 = 1#1), ∀ a x, ((![v470, v476] : Fin 2 → IVec S16 32) a x).toNat < S32x512.size a)
theorem k0_idx563_inb : ∀ (arg25 : BitVec 32) (v470 : IVec S16 32) (v476 : IVec S16 32) (k0_hw558 : k0_chk558 arg25 v470 v476), ∀ (k0_h10 : k0_cond10 arg25 = 1#1), ∀ a x, ((![v470, v476] : Fin 2 → IVec S16 32) a x).toNat < S32x512.size a := fun arg25 v470 v476 k0_hw558 k0_h10 => k0_hw558 k0_h10

def k0_chk559 (arg25 : BitVec 32) (v223 : IVec S16 32) (v470 : IVec S16 32) : Prop :=
  (∀ (k0_h10 : k0_cond10 arg25 = 1#1), ∀ a x, ((![v223, v470] : Fin 2 → IVec S16 32) a x).toNat < S512x32.size a)
theorem k0_idx564_inb : ∀ (arg25 : BitVec 32) (v223 : IVec S16 32) (v470 : IVec S16 32) (k0_hw559 : k0_chk559 arg25 v223 v470), ∀ (k0_h10 : k0_cond10 arg25 = 1#1), ∀ a x, ((![v223, v470] : Fin 2 → IVec S16 32) a x).toNat < S512x32.size a := fun arg25 v223 v470 k0_hw559 k0_h10 => k0_hw559 k0_h10

def k0_chk560 (arg25 : BitVec 32) (v478 : IVec S16 32) (v484 : IVec S16 32) : Prop :=
  (∀ (k0_h10 : k0_cond10 arg25 = 1#1), ∀ a x, ((![v478, v484] : Fin 2 → IVec S16 32) a x).toNat < S32x512.size a)
theorem k0_idx565_inb : ∀ (arg25 : BitVec 32) (v478 : IVec S16 32) (v484 : IVec S16 32) (k0_hw560 : k0_chk560 arg25 v478 v484), ∀ (k0_h10 : k0_cond10 arg25 = 1#1), ∀ a x, ((![v478, v484] : Fin 2 → IVec S16 32) a x).toNat < S32x512.size a := fun arg25 v478 v484 k0_hw560 k0_h10 => k0_hw560 k0_h10

def k0_chk561 (arg25 : BitVec 32) (v223 : IVec S16 32) (v478 : IVec S16 32) : Prop :=
  (∀ (k0_h10 : k0_cond10 arg25 = 1#1), ∀ a x, ((![v223, v478] : Fin 2 → IVec S16 32) a x).toNat < S512x32.size a)
theorem k0_idx566_inb : ∀ (arg25 : BitVec 32) (v223 : IVec S16 32) (v478 : IVec S16 32) (k0_hw561 : k0_chk561 arg25 v223 v478), ∀ (k0_h10 : k0_cond10 arg25 = 1#1), ∀ a x, ((![v223, v478] : Fin 2 → IVec S16 32) a x).toNat < S512x32.size a := fun arg25 v223 v478 k0_hw561 k0_h10 => k0_hw561 k0_h10
def k0_mult17 (i : grid0.Coords) (k0_t42 : Fin k0_t42_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_183 : BitVec 32 := 4#32
  let c2_i32_166 : BitVec 32 := 2#32
  let c0_i32_53 : BitVec 32 := 0#32
  let c1_i32_55 : BitVec 32 := 1#32
  let arg24 : BitVec 32 := Scf.iv c0_i32_53 c1_i32_55 k0_t42
  let v140 : BitVec 32 := Scalar.muli c2_i32_166 arg24
  let c2_i32_182 : BitVec 32 := 2#32
  let v158 : BitVec 32 := Scalar.addi v140 c2_i32_182
  let c61_i32 : BitVec 32 := 61#32
  let v159 : BitVec 32 := Scalar.minsi v158 c61_i32
  let v160 : BitVec 32 := Scalar.muli c4_i32_183 v159
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_184 : BitVec 32 := 4#32
  let v161 : BitVec 32 := Scalar.subi v6 c4_i32_184
  let v162 : BitVec 32 := Scalar.minsi v160 v161
  let v163 : BitVec 32 := Scalar.addi v4 v162
  let c128_i32_185 : BitVec 32 := 128#32
  let v164 : BitVec 32 := Scalar.muli v163 c128_i32_185
  v164
@[reducible] def k0_t46_loop : Scf.Loop 32 :=
  let c0_i32_188 : BitVec 32 := 0#32
  let c32_i32_189 : BitVec 32 := 32#32
  let v167 : BitVec 32 := Scalar.addi c0_i32_188 c32_i32_189
  let c1_i32_190 : BitVec 32 := 1#32
  ⟨c0_i32_188, v167, c1_i32_190⟩
def k0_off30 (k0_t46 : Fin k0_t46_loop.trips) : Fin 1 → Nat :=
  let c0_i32_188 : BitVec 32 := 0#32
  let c1_i32_190 : BitVec 32 := 1#32
  let arg26 : BitVec 32 := Scf.iv c0_i32_188 c1_i32_190 k0_t46
  let c16_i32 : BitVec 32 := 16#32
  let v177 : BitVec 32 := Scalar.muli arg26 c16_i32
  let v178 : Index := Scalar.indexCast v177
  ![v178.toNat]

def k0_chk562 (v190 : IVec S16 32) : Prop :=
  (∀ a x, ((![v190] : Fin 1 → IVec S16 32) a x).toNat < S512.size a)
theorem k0_idx567_inb : ∀ (v190 : IVec S16 32) (k0_hw562 : k0_chk562 v190), ∀ a x, ((![v190] : Fin 1 → IVec S16 32) a x).toNat < S512.size a := fun v190 k0_hw562 => k0_hw562
def k0_mult18 (i : grid0.Coords) (k0_t42 : Fin k0_t42_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_197 : BitVec 32 := 4#32
  let c2_i32_166 : BitVec 32 := 2#32
  let c0_i32_53 : BitVec 32 := 0#32
  let c1_i32_55 : BitVec 32 := 1#32
  let arg24 : BitVec 32 := Scf.iv c0_i32_53 c1_i32_55 k0_t42
  let v140 : BitVec 32 := Scalar.muli c2_i32_166 arg24
  let c2_i32_182 : BitVec 32 := 2#32
  let v158 : BitVec 32 := Scalar.addi v140 c2_i32_182
  let v177 : BitVec 32 := Scalar.muli c4_i32_197 v158
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_198 : BitVec 32 := 4#32
  let v178 : BitVec 32 := Scalar.subi v6 c4_i32_198
  let v179 : BitVec 32 := Scalar.minsi v177 v178
  let v180 : BitVec 32 := Scalar.addi v4 v179
  let c128_i32_199 : BitVec 32 := 128#32
  let v181 : BitVec 32 := Scalar.muli v180 c128_i32_199
  v181
def k0_off31 (i : grid0.Coords) (k0_t42 : Fin k0_t42_loop.trips) : Fin 2 → Nat :=
  let c0_i32_200 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_197 : BitVec 32 := 4#32
  let c2_i32_166 : BitVec 32 := 2#32
  let c0_i32_53 : BitVec 32 := 0#32
  let c1_i32_55 : BitVec 32 := 1#32
  let arg24 : BitVec 32 := Scf.iv c0_i32_53 c1_i32_55 k0_t42
  let v140 : BitVec 32 := Scalar.muli c2_i32_166 arg24
  let c2_i32_182 : BitVec 32 := 2#32
  let v158 : BitVec 32 := Scalar.addi v140 c2_i32_182
  let v177 : BitVec 32 := Scalar.muli c4_i32_197 v158
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_198 : BitVec 32 := 4#32
  let v178 : BitVec 32 := Scalar.subi v6 c4_i32_198
  let v179 : BitVec 32 := Scalar.minsi v177 v178
  let v180 : BitVec 32 := Scalar.addi v4 v179
  let c128_i32_199 : BitVec 32 := 128#32
  let v181 : BitVec 32 := Scalar.muli v180 c128_i32_199
  let v182 : BitVec 32 := v181
  ![0, v182.toNat]
def k0_mult19 (i : grid0.Coords) (k0_t42 : Fin k0_t42_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_197 : BitVec 32 := 4#32
  let c2_i32_167 : BitVec 32 := 2#32
  let c0_i32_53 : BitVec 32 := 0#32
  let c1_i32_55 : BitVec 32 := 1#32
  let arg24 : BitVec 32 := Scf.iv c0_i32_53 c1_i32_55 k0_t42
  let v141 : BitVec 32 := Scalar.muli c2_i32_167 arg24
  let c1_i32_168 : BitVec 32 := 1#32
  let v142 : BitVec 32 := Scalar.addi v141 c1_i32_168
  let v177 : BitVec 32 := Scalar.muli c4_i32_197 v142
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_198 : BitVec 32 := 4#32
  let v178 : BitVec 32 := Scalar.subi v6 c4_i32_198
  let v179 : BitVec 32 := Scalar.minsi v177 v178
  let v180 : BitVec 32 := Scalar.addi v4 v179
  let c128_i32_199 : BitVec 32 := 128#32
  let v181 : BitVec 32 := Scalar.muli v180 c128_i32_199
  v181
def k0_off32 (i : grid0.Coords) (k0_t42 : Fin k0_t42_loop.trips) : Fin 2 → Nat :=
  let c0_i32_200 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_197 : BitVec 32 := 4#32
  let c2_i32_167 : BitVec 32 := 2#32
  let c0_i32_53 : BitVec 32 := 0#32
  let c1_i32_55 : BitVec 32 := 1#32
  let arg24 : BitVec 32 := Scf.iv c0_i32_53 c1_i32_55 k0_t42
  let v141 : BitVec 32 := Scalar.muli c2_i32_167 arg24
  let c1_i32_168 : BitVec 32 := 1#32
  let v142 : BitVec 32 := Scalar.addi v141 c1_i32_168
  let v177 : BitVec 32 := Scalar.muli c4_i32_197 v142
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_198 : BitVec 32 := 4#32
  let v178 : BitVec 32 := Scalar.subi v6 c4_i32_198
  let v179 : BitVec 32 := Scalar.minsi v177 v178
  let v180 : BitVec 32 := Scalar.addi v4 v179
  let c128_i32_199 : BitVec 32 := 128#32
  let v181 : BitVec 32 := Scalar.muli v180 c128_i32_199
  let v182 : BitVec 32 := v181
  ![0, v182.toNat]
def k0_mult20 (i : grid0.Coords) (k0_t42 : Fin k0_t42_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c244_i32 : BitVec 32 := 244#32
  let v2 : BitVec 32 := Scalar.muli v1 c244_i32
  let c4_i32 : BitVec 32 := 4#32
  let v3 : BitVec 32 := Scalar.minsi v1 c4_i32
  let v4 : BitVec 32 := Scalar.addi v2 v3
  let c4_i32_202 : BitVec 32 := 4#32
  let c2_i32_167 : BitVec 32 := 2#32
  let c0_i32_53 : BitVec 32 := 0#32
  let c1_i32_55 : BitVec 32 := 1#32
  let arg24 : BitVec 32 := Scf.iv c0_i32_53 c1_i32_55 k0_t42
  let v141 : BitVec 32 := Scalar.muli c2_i32_167 arg24
  let c1_i32_168 : BitVec 32 := 1#32
  let v142 : BitVec 32 := Scalar.addi v141 c1_i32_168
  let v185 : BitVec 32 := Scalar.muli c4_i32_202 v142
  let c4_i32_0 : BitVec 32 := 4#32
  let v5 : BitVec 1 := Scalar.cmpi .slt v1 c4_i32_0
  let c245_i32 : BitVec 32 := 245#32
  let c244_i32_1 : BitVec 32 := 244#32
  let v6 : BitVec 32 := Scalar.select v5 c245_i32 c244_i32_1
  let c4_i32_203 : BitVec 32 := 4#32
  let v186 : BitVec 32 := Scalar.subi v6 c4_i32_203
  let v187 : BitVec 32 := Scalar.minsi v185 v186
  let v188 : BitVec 32 := Scalar.addi v4 v187
  let c128_i32_204 : BitVec 32 := 128#32
  let v189 : BitVec 32 := Scalar.muli v188 c128_i32_204
  v189
@[reducible] def k0_t47_loop (v151 : BitVec 32) : Scf.Loop 32 :=
  let c0_i32_211 : BitVec 32 := 0#32
  let c15_i32 : BitVec 32 := 15#32
  let v191 : BitVec 32 := Scalar.addi v151 c15_i32
  let c0_i32_205 : BitVec 32 := 0#32
  let v193 : BitVec 1 := Scalar.cmpi .sgt v191 c0_i32_205
  let v194 : BitVec 32 := Scalar.extui v193
  let c0_i32_206 : BitVec 32 := 0#32
  let v195 : BitVec 1 := Scalar.cmpi .slt v191 c0_i32_206
  let v196 : BitVec 32 := Scalar.extui v195
  let v197 : BitVec 32 := Scalar.subi v194 v196
  let c16_i32 : BitVec 32 := 16#32
  let c0_i32_207 : BitVec 32 := 0#32
  let v198 : BitVec 1 := Scalar.cmpi .sgt c16_i32 c0_i32_207
  let v199 : BitVec 32 := Scalar.extui v198
  let c0_i32_208 : BitVec 32 := 0#32
  let v200 : BitVec 1 := Scalar.cmpi .slt c16_i32 c0_i32_208
  let v201 : BitVec 32 := Scalar.extui v200
  let v202 : BitVec 32 := Scalar.subi v199 v201
  let v203 : BitVec 1 := Scalar.cmpi .ne v197 v202
  let v204 : BitVec 32 := Scalar.remsi v191 c16_i32
  let c0_i32_209 : BitVec 32 := 0#32
  let v205 : BitVec 1 := Scalar.cmpi .ne v204 c0_i32_209
  let v206 : BitVec 1 := Scalar.andi v203 v205
  let v192 : BitVec 32 := Scalar.divsi v191 c16_i32
  let c1_i32_210 : BitVec 32 := 1#32
  let v207 : BitVec 32 := Scalar.subi v192 c1_i32_210
  let v208 : BitVec 32 := Scalar.select v206 v207 v192
  let v209 : BitVec 32 := Scalar.subi v208 c0_i32_211
  let c1_i32_213 : BitVec 32 := 1#32
  let v211 : BitVec 32 := Scalar.divsi v209 c1_i32_213
  let v212 : BitVec 32 := Scalar.muli v211 c1_i32_213
  let v213 : BitVec 32 := Scalar.addi c0_i32_211 v212
  let c1_i32_214 : BitVec 32 := 1#32
  ⟨c0_i32_211, v213, c1_i32_214⟩
def k0_cond12 (v151 : BitVec 32) : BitVec 1 :=
  let c0_i32_195 : BitVec 32 := 0#32
  let v174 : BitVec 1 := Scalar.cmpi .sgt v151 c0_i32_195
  let v175 : BitVec 32 := Scalar.extui v174
  let c0_i32_196 : BitVec 32 := 0#32
  let v176 : BitVec 1 := Scalar.cmpi .ne v175 c0_i32_196
  v176

def k0_off33 (v151 : BitVec 32) (k0_t47 : Fin (k0_t47_loop v151).trips) : Fin 1 → Nat :=
  let c0_i32_211 : BitVec 32 := 0#32
  let c1_i32_214 : BitVec 32 := 1#32
  let arg26 : BitVec 32 := Scf.iv c0_i32_211 c1_i32_214 k0_t47
  let c16_i32_217 : BitVec 32 := 16#32
  let v221 : BitVec 32 := Scalar.muli arg26 c16_i32_217
  let v222 : Index := Scalar.indexCast v221
  ![v222.toNat]

def k0_chk564 (v151 : BitVec 32) (v223 : IVec S16 32) : Prop :=
  (∀ (k0_h12 : k0_cond12 v151 = 1#1), ∀ a x, ((![v223] : Fin 1 → IVec S16 32) a x).toNat < S1024.size a) ∧
  (∀ (k0_h12 : k0_cond12 v151 = 1#1), ∀ a x, ((![v223] : Fin 1 → IVec S16 32) a x).toNat < S1024.size a)
theorem k0_idx568_inb : ∀ (v151 : BitVec 32) (v223 : IVec S16 32) (k0_hw564 : k0_chk564 v151 v223), ∀ (k0_h12 : k0_cond12 v151 = 1#1), ∀ a x, ((![v223] : Fin 1 → IVec S16 32) a x).toNat < S1024.size a := fun v151 v223 k0_hw564 k0_h12 => k0_hw564.1 k0_h12
theorem k0_idx569_inb : ∀ (v151 : BitVec 32) (v223 : IVec S16 32) (k0_hw564 : k0_chk564 v151 v223), ∀ (k0_h12 : k0_cond12 v151 = 1#1), ∀ a x, ((![v223] : Fin 1 → IVec S16 32) a x).toNat < S1024.size a := fun v151 v223 k0_hw564 k0_h12 => k0_hw564.2 k0_h12

def k0_chk565 (v151 : BitVec 32) (v227 : IVec S16 32) (v229 : IVec S16 32) : Prop :=
  (∀ (k0_h12 : k0_cond12 v151 = 1#1), ∀ a x, ((![v227, v229] : Fin 2 → IVec S16 32) a x).toNat < S8x64.size a)
theorem k0_idx570_inb : ∀ (v151 : BitVec 32) (v227 : IVec S16 32) (v229 : IVec S16 32) (k0_hw565 : k0_chk565 v151 v227 v229), ∀ (k0_h12 : k0_cond12 v151 = 1#1), ∀ a x, ((![v227, v229] : Fin 2 → IVec S16 32) a x).toNat < S8x64.size a := fun v151 v227 v229 k0_hw565 k0_h12 => k0_hw565 k0_h12

def k0_chk566 (v151 : BitVec 32) (v230 : IVec S16 32) (v236 : IVec S16 32) : Prop :=
  (∀ (k0_h12 : k0_cond12 v151 = 1#1), ∀ a x, ((![v230, v236] : Fin 2 → IVec S16 32) a x).toNat < S32x512.size a)
theorem k0_idx571_inb : ∀ (v151 : BitVec 32) (v230 : IVec S16 32) (v236 : IVec S16 32) (k0_hw566 : k0_chk566 v151 v230 v236), ∀ (k0_h12 : k0_cond12 v151 = 1#1), ∀ a x, ((![v230, v236] : Fin 2 → IVec S16 32) a x).toNat < S32x512.size a := fun v151 v230 v236 k0_hw566 k0_h12 => k0_hw566 k0_h12

def k0_chk567 (v151 : BitVec 32) (v223 : IVec S16 32) (v230 : IVec S16 32) : Prop :=
  (∀ (k0_h12 : k0_cond12 v151 = 1#1), ∀ a x, ((![v223, v230] : Fin 2 → IVec S16 32) a x).toNat < S512x32.size a)
theorem k0_idx572_inb : ∀ (v151 : BitVec 32) (v223 : IVec S16 32) (v230 : IVec S16 32) (k0_hw567 : k0_chk567 v151 v223 v230), ∀ (k0_h12 : k0_cond12 v151 = 1#1), ∀ a x, ((![v223, v230] : Fin 2 → IVec S16 32) a x).toNat < S512x32.size a := fun v151 v223 v230 k0_hw567 k0_h12 => k0_hw567 k0_h12

def k0_chk568 (v151 : BitVec 32) (v238 : IVec S16 32) (v244 : IVec S16 32) : Prop :=
  (∀ (k0_h12 : k0_cond12 v151 = 1#1), ∀ a x, ((![v238, v244] : Fin 2 → IVec S16 32) a x).toNat < S32x512.size a)
theorem k0_idx573_inb : ∀ (v151 : BitVec 32) (v238 : IVec S16 32) (v244 : IVec S16 32) (k0_hw568 : k0_chk568 v151 v238 v244), ∀ (k0_h12 : k0_cond12 v151 = 1#1), ∀ a x, ((![v238, v244] : Fin 2 → IVec S16 32) a x).toNat < S32x512.size a := fun v151 v238 v244 k0_hw568 k0_h12 => k0_hw568 k0_h12

def k0_chk569 (v151 : BitVec 32) (v223 : IVec S16 32) (v238 : IVec S16 32) : Prop :=
  (∀ (k0_h12 : k0_cond12 v151 = 1#1), ∀ a x, ((![v223, v238] : Fin 2 → IVec S16 32) a x).toNat < S512x32.size a)
theorem k0_idx574_inb : ∀ (v151 : BitVec 32) (v223 : IVec S16 32) (v238 : IVec S16 32) (k0_hw569 : k0_chk569 v151 v223 v238), ∀ (k0_h12 : k0_cond12 v151 = 1#1), ∀ a x, ((![v223, v238] : Fin 2 → IVec S16 32) a x).toNat < S512x32.size a := fun v151 v223 v238 k0_hw569 k0_h12 => k0_hw569 k0_h12

def k0_chk570 (v151 : BitVec 32) (v246 : IVec S16 32) (v252 : IVec S16 32) : Prop :=
  (∀ (k0_h12 : k0_cond12 v151 = 1#1), ∀ a x, ((![v246, v252] : Fin 2 → IVec S16 32) a x).toNat < S32x512.size a)
theorem k0_idx575_inb : ∀ (v151 : BitVec 32) (v246 : IVec S16 32) (v252 : IVec S16 32) (k0_hw570 : k0_chk570 v151 v246 v252), ∀ (k0_h12 : k0_cond12 v151 = 1#1), ∀ a x, ((![v246, v252] : Fin 2 → IVec S16 32) a x).toNat < S32x512.size a := fun v151 v246 v252 k0_hw570 k0_h12 => k0_hw570 k0_h12

def k0_chk571 (v151 : BitVec 32) (v223 : IVec S16 32) (v246 : IVec S16 32) : Prop :=
  (∀ (k0_h12 : k0_cond12 v151 = 1#1), ∀ a x, ((![v223, v246] : Fin 2 → IVec S16 32) a x).toNat < S512x32.size a)
theorem k0_idx576_inb : ∀ (v151 : BitVec 32) (v223 : IVec S16 32) (v246 : IVec S16 32) (k0_hw571 : k0_chk571 v151 v223 v246), ∀ (k0_h12 : k0_cond12 v151 = 1#1), ∀ a x, ((![v223, v246] : Fin 2 → IVec S16 32) a x).toNat < S512x32.size a := fun v151 v223 v246 k0_hw571 k0_h12 => k0_hw571 k0_h12

def k0_chk572 (v151 : BitVec 32) (v254 : IVec S16 32) (v260 : IVec S16 32) : Prop :=
  (∀ (k0_h12 : k0_cond12 v151 = 1#1), ∀ a x, ((![v254, v260] : Fin 2 → IVec S16 32) a x).toNat < S32x512.size a)
theorem k0_idx577_inb : ∀ (v151 : BitVec 32) (v254 : IVec S16 32) (v260 : IVec S16 32) (k0_hw572 : k0_chk572 v151 v254 v260), ∀ (k0_h12 : k0_cond12 v151 = 1#1), ∀ a x, ((![v254, v260] : Fin 2 → IVec S16 32) a x).toNat < S32x512.size a := fun v151 v254 v260 k0_hw572 k0_h12 => k0_hw572 k0_h12

def k0_chk573 (v151 : BitVec 32) (v223 : IVec S16 32) (v254 : IVec S16 32) : Prop :=
  (∀ (k0_h12 : k0_cond12 v151 = 1#1), ∀ a x, ((![v223, v254] : Fin 2 → IVec S16 32) a x).toNat < S512x32.size a)
theorem k0_idx578_inb : ∀ (v151 : BitVec 32) (v223 : IVec S16 32) (v254 : IVec S16 32) (k0_hw573 : k0_chk573 v151 v223 v254), ∀ (k0_h12 : k0_cond12 v151 = 1#1), ∀ a x, ((![v223, v254] : Fin 2 → IVec S16 32) a x).toNat < S512x32.size a := fun v151 v223 v254 k0_hw573 k0_h12 => k0_hw573 k0_h12

def k0_chk574 (v151 : BitVec 32) (v262 : IVec S16 32) (v268 : IVec S16 32) : Prop :=
  (∀ (k0_h12 : k0_cond12 v151 = 1#1), ∀ a x, ((![v262, v268] : Fin 2 → IVec S16 32) a x).toNat < S32x512.size a)
theorem k0_idx579_inb : ∀ (v151 : BitVec 32) (v262 : IVec S16 32) (v268 : IVec S16 32) (k0_hw574 : k0_chk574 v151 v262 v268), ∀ (k0_h12 : k0_cond12 v151 = 1#1), ∀ a x, ((![v262, v268] : Fin 2 → IVec S16 32) a x).toNat < S32x512.size a := fun v151 v262 v268 k0_hw574 k0_h12 => k0_hw574 k0_h12

def k0_chk575 (v151 : BitVec 32) (v223 : IVec S16 32) (v262 : IVec S16 32) : Prop :=
  (∀ (k0_h12 : k0_cond12 v151 = 1#1), ∀ a x, ((![v223, v262] : Fin 2 → IVec S16 32) a x).toNat < S512x32.size a)
theorem k0_idx580_inb : ∀ (v151 : BitVec 32) (v223 : IVec S16 32) (v262 : IVec S16 32) (k0_hw575 : k0_chk575 v151 v223 v262), ∀ (k0_h12 : k0_cond12 v151 = 1#1), ∀ a x, ((![v223, v262] : Fin 2 → IVec S16 32) a x).toNat < S512x32.size a := fun v151 v223 v262 k0_hw575 k0_h12 => k0_hw575 k0_h12

def k0_chk576 (v151 : BitVec 32) (v270 : IVec S16 32) (v276 : IVec S16 32) : Prop :=
  (∀ (k0_h12 : k0_cond12 v151 = 1#1), ∀ a x, ((![v270, v276] : Fin 2 → IVec S16 32) a x).toNat < S32x512.size a)
theorem k0_idx581_inb : ∀ (v151 : BitVec 32) (v270 : IVec S16 32) (v276 : IVec S16 32) (k0_hw576 : k0_chk576 v151 v270 v276), ∀ (k0_h12 : k0_cond12 v151 = 1#1), ∀ a x, ((![v270, v276] : Fin 2 → IVec S16 32) a x).toNat < S32x512.size a := fun v151 v270 v276 k0_hw576 k0_h12 => k0_hw576 k0_h12

def k0_chk577 (v151 : BitVec 32) (v223 : IVec S16 32) (v270 : IVec S16 32) : Prop :=
  (∀ (k0_h12 : k0_cond12 v151 = 1#1), ∀ a x, ((![v223, v270] : Fin 2 → IVec S16 32) a x).toNat < S512x32.size a)
theorem k0_idx582_inb : ∀ (v151 : BitVec 32) (v223 : IVec S16 32) (v270 : IVec S16 32) (k0_hw577 : k0_chk577 v151 v223 v270), ∀ (k0_h12 : k0_cond12 v151 = 1#1), ∀ a x, ((![v223, v270] : Fin 2 → IVec S16 32) a x).toNat < S512x32.size a := fun v151 v223 v270 k0_hw577 k0_h12 => k0_hw577 k0_h12

def k0_chk578 (v151 : BitVec 32) (v278 : IVec S16 32) (v284 : IVec S16 32) : Prop :=
  (∀ (k0_h12 : k0_cond12 v151 = 1#1), ∀ a x, ((![v278, v284] : Fin 2 → IVec S16 32) a x).toNat < S32x512.size a)
theorem k0_idx583_inb : ∀ (v151 : BitVec 32) (v278 : IVec S16 32) (v284 : IVec S16 32) (k0_hw578 : k0_chk578 v151 v278 v284), ∀ (k0_h12 : k0_cond12 v151 = 1#1), ∀ a x, ((![v278, v284] : Fin 2 → IVec S16 32) a x).toNat < S32x512.size a := fun v151 v278 v284 k0_hw578 k0_h12 => k0_hw578 k0_h12

def k0_chk579 (v151 : BitVec 32) (v223 : IVec S16 32) (v278 : IVec S16 32) : Prop :=
  (∀ (k0_h12 : k0_cond12 v151 = 1#1), ∀ a x, ((![v223, v278] : Fin 2 → IVec S16 32) a x).toNat < S512x32.size a)
theorem k0_idx584_inb : ∀ (v151 : BitVec 32) (v223 : IVec S16 32) (v278 : IVec S16 32) (k0_hw579 : k0_chk579 v151 v223 v278), ∀ (k0_h12 : k0_cond12 v151 = 1#1), ∀ a x, ((![v223, v278] : Fin 2 → IVec S16 32) a x).toNat < S512x32.size a := fun v151 v223 v278 k0_hw579 k0_h12 => k0_hw579 k0_h12

def k0_chk580 (v151 : BitVec 32) (v286 : IVec S16 32) (v292 : IVec S16 32) : Prop :=
  (∀ (k0_h12 : k0_cond12 v151 = 1#1), ∀ a x, ((![v286, v292] : Fin 2 → IVec S16 32) a x).toNat < S32x512.size a)
theorem k0_idx585_inb : ∀ (v151 : BitVec 32) (v286 : IVec S16 32) (v292 : IVec S16 32) (k0_hw580 : k0_chk580 v151 v286 v292), ∀ (k0_h12 : k0_cond12 v151 = 1#1), ∀ a x, ((![v286, v292] : Fin 2 → IVec S16 32) a x).toNat < S32x512.size a := fun v151 v286 v292 k0_hw580 k0_h12 => k0_hw580 k0_h12

def k0_chk581 (v151 : BitVec 32) (v223 : IVec S16 32) (v286 : IVec S16 32) : Prop :=
  (∀ (k0_h12 : k0_cond12 v151 = 1#1), ∀ a x, ((![v223, v286] : Fin 2 → IVec S16 32) a x).toNat < S512x32.size a)
theorem k0_idx586_inb : ∀ (v151 : BitVec 32) (v223 : IVec S16 32) (v286 : IVec S16 32) (k0_hw581 : k0_chk581 v151 v223 v286), ∀ (k0_h12 : k0_cond12 v151 = 1#1), ∀ a x, ((![v223, v286] : Fin 2 → IVec S16 32) a x).toNat < S512x32.size a := fun v151 v223 v286 k0_hw581 k0_h12 => k0_hw581 k0_h12

def k0_chk582 (v151 : BitVec 32) (v294 : IVec S16 32) (v300 : IVec S16 32) : Prop :=
  (∀ (k0_h12 : k0_cond12 v151 = 1#1), ∀ a x, ((![v294, v300] : Fin 2 → IVec S16 32) a x).toNat < S32x512.size a)
theorem k0_idx587_inb : ∀ (v151 : BitVec 32) (v294 : IVec S16 32) (v300 : IVec S16 32) (k0_hw582 : k0_chk582 v151 v294 v300), ∀ (k0_h12 : k0_cond12 v151 = 1#1), ∀ a x, ((![v294, v300] : Fin 2 → IVec S16 32) a x).toNat < S32x512.size a := fun v151 v294 v300 k0_hw582 k0_h12 => k0_hw582 k0_h12

def k0_chk583 (v151 : BitVec 32) (v223 : IVec S16 32) (v294 : IVec S16 32) : Prop :=
  (∀ (k0_h12 : k0_cond12 v151 = 1#1), ∀ a x, ((![v223, v294] : Fin 2 → IVec S16 32) a x).toNat < S512x32.size a)
theorem k0_idx588_inb : ∀ (v151 : BitVec 32) (v223 : IVec S16 32) (v294 : IVec S16 32) (k0_hw583 : k0_chk583 v151 v223 v294), ∀ (k0_h12 : k0_cond12 v151 = 1#1), ∀ a x, ((![v223, v294] : Fin 2 → IVec S16 32) a x).toNat < S512x32.size a := fun v151 v223 v294 k0_hw583 k0_h12 => k0_hw583 k0_h12

def k0_chk584 (v151 : BitVec 32) (v302 : IVec S16 32) (v308 : IVec S16 32) : Prop :=
  (∀ (k0_h12 : k0_cond12 v151 = 1#1), ∀ a x, ((![v302, v308] : Fin 2 → IVec S16 32) a x).toNat < S32x512.size a)
theorem k0_idx589_inb : ∀ (v151 : BitVec 32) (v302 : IVec S16 32) (v308 : IVec S16 32) (k0_hw584 : k0_chk584 v151 v302 v308), ∀ (k0_h12 : k0_cond12 v151 = 1#1), ∀ a x, ((![v302, v308] : Fin 2 → IVec S16 32) a x).toNat < S32x512.size a := fun v151 v302 v308 k0_hw584 k0_h12 => k0_hw584 k0_h12

def k0_chk585 (v151 : BitVec 32) (v223 : IVec S16 32) (v302 : IVec S16 32) : Prop :=
  (∀ (k0_h12 : k0_cond12 v151 = 1#1), ∀ a x, ((![v223, v302] : Fin 2 → IVec S16 32) a x).toNat < S512x32.size a)
theorem k0_idx590_inb : ∀ (v151 : BitVec 32) (v223 : IVec S16 32) (v302 : IVec S16 32) (k0_hw585 : k0_chk585 v151 v223 v302), ∀ (k0_h12 : k0_cond12 v151 = 1#1), ∀ a x, ((![v223, v302] : Fin 2 → IVec S16 32) a x).toNat < S512x32.size a := fun v151 v223 v302 k0_hw585 k0_h12 => k0_hw585 k0_h12

def k0_chk586 (v151 : BitVec 32) (v310 : IVec S16 32) (v316 : IVec S16 32) : Prop :=
  (∀ (k0_h12 : k0_cond12 v151 = 1#1), ∀ a x, ((![v310, v316] : Fin 2 → IVec S16 32) a x).toNat < S32x512.size a)
theorem k0_idx591_inb : ∀ (v151 : BitVec 32) (v310 : IVec S16 32) (v316 : IVec S16 32) (k0_hw586 : k0_chk586 v151 v310 v316), ∀ (k0_h12 : k0_cond12 v151 = 1#1), ∀ a x, ((![v310, v316] : Fin 2 → IVec S16 32) a x).toNat < S32x512.size a := fun v151 v310 v316 k0_hw586 k0_h12 => k0_hw586 k0_h12

def k0_chk587 (v151 : BitVec 32) (v223 : IVec S16 32) (v310 : IVec S16 32) : Prop :=
  (∀ (k0_h12 : k0_cond12 v151 = 1#1), ∀ a x, ((![v223, v310] : Fin 2 → IVec S16 32) a x).toNat < S512x32.size a)
theorem k0_idx592_inb : ∀ (v151 : BitVec 32) (v223 : IVec S16 32) (v310 : IVec S16 32) (k0_hw587 : k0_chk587 v151 v223 v310), ∀ (k0_h12 : k0_cond12 v151 = 1#1), ∀ a x, ((![v223, v310] : Fin 2 → IVec S16 32) a x).toNat < S512x32.size a := fun v151 v223 v310 k0_hw587 k0_h12 => k0_hw587 k0_h12

def k0_chk588 (v151 : BitVec 32) (v318 : IVec S16 32) (v324 : IVec S16 32) : Prop :=
  (∀ (k0_h12 : k0_cond12 v151 = 1#1), ∀ a x, ((![v318, v324] : Fin 2 → IVec S16 32) a x).toNat < S32x512.size a)
theorem k0_idx593_inb : ∀ (v151 : BitVec 32) (v318 : IVec S16 32) (v324 : IVec S16 32) (k0_hw588 : k0_chk588 v151 v318 v324), ∀ (k0_h12 : k0_cond12 v151 = 1#1), ∀ a x, ((![v318, v324] : Fin 2 → IVec S16 32) a x).toNat < S32x512.size a := fun v151 v318 v324 k0_hw588 k0_h12 => k0_hw588 k0_h12

def k0_chk589 (v151 : BitVec 32) (v223 : IVec S16 32) (v318 : IVec S16 32) : Prop :=
  (∀ (k0_h12 : k0_cond12 v151 = 1#1), ∀ a x, ((![v223, v318] : Fin 2 → IVec S16 32) a x).toNat < S512x32.size a)
theorem k0_idx594_inb : ∀ (v151 : BitVec 32) (v223 : IVec S16 32) (v318 : IVec S16 32) (k0_hw589 : k0_chk589 v151 v223 v318), ∀ (k0_h12 : k0_cond12 v151 = 1#1), ∀ a x, ((![v223, v318] : Fin 2 → IVec S16 32) a x).toNat < S512x32.size a := fun v151 v223 v318 k0_hw589 k0_h12 => k0_hw589 k0_h12

def k0_chk590 (v151 : BitVec 32) (v326 : IVec S16 32) (v332 : IVec S16 32) : Prop :=
  (∀ (k0_h12 : k0_cond12 v151 = 1#1), ∀ a x, ((![v326, v332] : Fin 2 → IVec S16 32) a x).toNat < S32x512.size a)
theorem k0_idx595_inb : ∀ (v151 : BitVec 32) (v326 : IVec S16 32) (v332 : IVec S16 32) (k0_hw590 : k0_chk590 v151 v326 v332), ∀ (k0_h12 : k0_cond12 v151 = 1#1), ∀ a x, ((![v326, v332] : Fin 2 → IVec S16 32) a x).toNat < S32x512.size a := fun v151 v326 v332 k0_hw590 k0_h12 => k0_hw590 k0_h12

def k0_chk591 (v151 : BitVec 32) (v223 : IVec S16 32) (v326 : IVec S16 32) : Prop :=
  (∀ (k0_h12 : k0_cond12 v151 = 1#1), ∀ a x, ((![v223, v326] : Fin 2 → IVec S16 32) a x).toNat < S512x32.size a)
theorem k0_idx596_inb : ∀ (v151 : BitVec 32) (v223 : IVec S16 32) (v326 : IVec S16 32) (k0_hw591 : k0_chk591 v151 v223 v326), ∀ (k0_h12 : k0_cond12 v151 = 1#1), ∀ a x, ((![v223, v326] : Fin 2 → IVec S16 32) a x).toNat < S512x32.size a := fun v151 v223 v326 k0_hw591 k0_h12 => k0_hw591 k0_h12

def k0_chk592 (v151 : BitVec 32) (v334 : IVec S16 32) (v340 : IVec S16 32) : Prop :=
  (∀ (k0_h12 : k0_cond12 v151 = 1#1), ∀ a x, ((![v334, v340] : Fin 2 → IVec S16 32) a x).toNat < S32x512.size a)
theorem k0_idx597_inb : ∀ (v151 : BitVec 32) (v334 : IVec S16 32) (v340 : IVec S16 32) (k0_hw592 : k0_chk592 v151 v334 v340), ∀ (k0_h12 : k0_cond12 v151 = 1#1), ∀ a x, ((![v334, v340] : Fin 2 → IVec S16 32) a x).toNat < S32x512.size a := fun v151 v334 v340 k0_hw592 k0_h12 => k0_hw592 k0_h12

def k0_chk593 (v151 : BitVec 32) (v223 : IVec S16 32) (v334 : IVec S16 32) : Prop :=
  (∀ (k0_h12 : k0_cond12 v151 = 1#1), ∀ a x, ((![v223, v334] : Fin 2 → IVec S16 32) a x).toNat < S512x32.size a)
theorem k0_idx598_inb : ∀ (v151 : BitVec 32) (v223 : IVec S16 32) (v334 : IVec S16 32) (k0_hw593 : k0_chk593 v151 v223 v334), ∀ (k0_h12 : k0_cond12 v151 = 1#1), ∀ a x, ((![v223, v334] : Fin 2 → IVec S16 32) a x).toNat < S512x32.size a := fun v151 v223 v334 k0_hw593 k0_h12 => k0_hw593 k0_h12

def k0_chk594 (v151 : BitVec 32) (v342 : IVec S16 32) (v348 : IVec S16 32) : Prop :=
  (∀ (k0_h12 : k0_cond12 v151 = 1#1), ∀ a x, ((![v342, v348] : Fin 2 → IVec S16 32) a x).toNat < S32x512.size a)
theorem k0_idx599_inb : ∀ (v151 : BitVec 32) (v342 : IVec S16 32) (v348 : IVec S16 32) (k0_hw594 : k0_chk594 v151 v342 v348), ∀ (k0_h12 : k0_cond12 v151 = 1#1), ∀ a x, ((![v342, v348] : Fin 2 → IVec S16 32) a x).toNat < S32x512.size a := fun v151 v342 v348 k0_hw594 k0_h12 => k0_hw594 k0_h12

def k0_chk595 (v151 : BitVec 32) (v223 : IVec S16 32) (v342 : IVec S16 32) : Prop :=
  (∀ (k0_h12 : k0_cond12 v151 = 1#1), ∀ a x, ((![v223, v342] : Fin 2 → IVec S16 32) a x).toNat < S512x32.size a)
theorem k0_idx600_inb : ∀ (v151 : BitVec 32) (v223 : IVec S16 32) (v342 : IVec S16 32) (k0_hw595 : k0_chk595 v151 v223 v342), ∀ (k0_h12 : k0_cond12 v151 = 1#1), ∀ a x, ((![v223, v342] : Fin 2 → IVec S16 32) a x).toNat < S512x32.size a := fun v151 v223 v342 k0_hw595 k0_h12 => k0_hw595 k0_h12

def k0_chk596 (v151 : BitVec 32) (v350 : IVec S16 32) (v356 : IVec S16 32) : Prop :=
  (∀ (k0_h12 : k0_cond12 v151 = 1#1), ∀ a x, ((![v350, v356] : Fin 2 → IVec S16 32) a x).toNat < S32x512.size a)
theorem k0_idx601_inb : ∀ (v151 : BitVec 32) (v350 : IVec S16 32) (v356 : IVec S16 32) (k0_hw596 : k0_chk596 v151 v350 v356), ∀ (k0_h12 : k0_cond12 v151 = 1#1), ∀ a x, ((![v350, v356] : Fin 2 → IVec S16 32) a x).toNat < S32x512.size a := fun v151 v350 v356 k0_hw596 k0_h12 => k0_hw596 k0_h12

def k0_chk597 (v151 : BitVec 32) (v223 : IVec S16 32) (v350 : IVec S16 32) : Prop :=
  (∀ (k0_h12 : k0_cond12 v151 = 1#1), ∀ a x, ((![v223, v350] : Fin 2 → IVec S16 32) a x).toNat < S512x32.size a)
theorem k0_idx602_inb : ∀ (v151 : BitVec 32) (v223 : IVec S16 32) (v350 : IVec S16 32) (k0_hw597 : k0_chk597 v151 v223 v350), ∀ (k0_h12 : k0_cond12 v151 = 1#1), ∀ a x, ((![v223, v350] : Fin 2 → IVec S16 32) a x).toNat < S512x32.size a := fun v151 v223 v350 k0_hw597 k0_h12 => k0_hw597 k0_h12

def k0_chk598 (v151 : BitVec 32) (v358 : IVec S16 32) (v364 : IVec S16 32) : Prop :=
  (∀ (k0_h12 : k0_cond12 v151 = 1#1), ∀ a x, ((![v358, v364] : Fin 2 → IVec S16 32) a x).toNat < S32x512.size a)
theorem k0_idx603_inb : ∀ (v151 : BitVec 32) (v358 : IVec S16 32) (v364 : IVec S16 32) (k0_hw598 : k0_chk598 v151 v358 v364), ∀ (k0_h12 : k0_cond12 v151 = 1#1), ∀ a x, ((![v358, v364] : Fin 2 → IVec S16 32) a x).toNat < S32x512.size a := fun v151 v358 v364 k0_hw598 k0_h12 => k0_hw598 k0_h12

def k0_chk599 (v151 : BitVec 32) (v223 : IVec S16 32) (v358 : IVec S16 32) : Prop :=
  (∀ (k0_h12 : k0_cond12 v151 = 1#1), ∀ a x, ((![v223, v358] : Fin 2 → IVec S16 32) a x).toNat < S512x32.size a)
theorem k0_idx604_inb : ∀ (v151 : BitVec 32) (v223 : IVec S16 32) (v358 : IVec S16 32) (k0_hw599 : k0_chk599 v151 v223 v358), ∀ (k0_h12 : k0_cond12 v151 = 1#1), ∀ a x, ((![v223, v358] : Fin 2 → IVec S16 32) a x).toNat < S512x32.size a := fun v151 v223 v358 k0_hw599 k0_h12 => k0_hw599 k0_h12

def k0_chk600 (v151 : BitVec 32) (v366 : IVec S16 32) (v372 : IVec S16 32) : Prop :=
  (∀ (k0_h12 : k0_cond12 v151 = 1#1), ∀ a x, ((![v366, v372] : Fin 2 → IVec S16 32) a x).toNat < S32x512.size a)
theorem k0_idx605_inb : ∀ (v151 : BitVec 32) (v366 : IVec S16 32) (v372 : IVec S16 32) (k0_hw600 : k0_chk600 v151 v366 v372), ∀ (k0_h12 : k0_cond12 v151 = 1#1), ∀ a x, ((![v366, v372] : Fin 2 → IVec S16 32) a x).toNat < S32x512.size a := fun v151 v366 v372 k0_hw600 k0_h12 => k0_hw600 k0_h12

def k0_chk601 (v151 : BitVec 32) (v223 : IVec S16 32) (v366 : IVec S16 32) : Prop :=
  (∀ (k0_h12 : k0_cond12 v151 = 1#1), ∀ a x, ((![v223, v366] : Fin 2 → IVec S16 32) a x).toNat < S512x32.size a)
theorem k0_idx606_inb : ∀ (v151 : BitVec 32) (v223 : IVec S16 32) (v366 : IVec S16 32) (k0_hw601 : k0_chk601 v151 v223 v366), ∀ (k0_h12 : k0_cond12 v151 = 1#1), ∀ a x, ((![v223, v366] : Fin 2 → IVec S16 32) a x).toNat < S512x32.size a := fun v151 v223 v366 k0_hw601 k0_h12 => k0_hw601 k0_h12

def k0_chk602 (v151 : BitVec 32) (v374 : IVec S16 32) (v380 : IVec S16 32) : Prop :=
  (∀ (k0_h12 : k0_cond12 v151 = 1#1), ∀ a x, ((![v374, v380] : Fin 2 → IVec S16 32) a x).toNat < S32x512.size a)
theorem k0_idx607_inb : ∀ (v151 : BitVec 32) (v374 : IVec S16 32) (v380 : IVec S16 32) (k0_hw602 : k0_chk602 v151 v374 v380), ∀ (k0_h12 : k0_cond12 v151 = 1#1), ∀ a x, ((![v374, v380] : Fin 2 → IVec S16 32) a x).toNat < S32x512.size a := fun v151 v374 v380 k0_hw602 k0_h12 => k0_hw602 k0_h12

def k0_chk603 (v151 : BitVec 32) (v223 : IVec S16 32) (v374 : IVec S16 32) : Prop :=
  (∀ (k0_h12 : k0_cond12 v151 = 1#1), ∀ a x, ((![v223, v374] : Fin 2 → IVec S16 32) a x).toNat < S512x32.size a)
theorem k0_idx608_inb : ∀ (v151 : BitVec 32) (v223 : IVec S16 32) (v374 : IVec S16 32) (k0_hw603 : k0_chk603 v151 v223 v374), ∀ (k0_h12 : k0_cond12 v151 = 1#1), ∀ a x, ((![v223, v374] : Fin 2 → IVec S16 32) a x).toNat < S512x32.size a := fun v151 v223 v374 k0_hw603 k0_h12 => k0_hw603 k0_h12

def k0_chk604 (v151 : BitVec 32) (v382 : IVec S16 32) (v388 : IVec S16 32) : Prop :=
  (∀ (k0_h12 : k0_cond12 v151 = 1#1), ∀ a x, ((![v382, v388] : Fin 2 → IVec S16 32) a x).toNat < S32x512.size a)
theorem k0_idx609_inb : ∀ (v151 : BitVec 32) (v382 : IVec S16 32) (v388 : IVec S16 32) (k0_hw604 : k0_chk604 v151 v382 v388), ∀ (k0_h12 : k0_cond12 v151 = 1#1), ∀ a x, ((![v382, v388] : Fin 2 → IVec S16 32) a x).toNat < S32x512.size a := fun v151 v382 v388 k0_hw604 k0_h12 => k0_hw604 k0_h12

def k0_chk605 (v151 : BitVec 32) (v223 : IVec S16 32) (v382 : IVec S16 32) : Prop :=
  (∀ (k0_h12 : k0_cond12 v151 = 1#1), ∀ a x, ((![v223, v382] : Fin 2 → IVec S16 32) a x).toNat < S512x32.size a)
theorem k0_idx610_inb : ∀ (v151 : BitVec 32) (v223 : IVec S16 32) (v382 : IVec S16 32) (k0_hw605 : k0_chk605 v151 v223 v382), ∀ (k0_h12 : k0_cond12 v151 = 1#1), ∀ a x, ((![v223, v382] : Fin 2 → IVec S16 32) a x).toNat < S512x32.size a := fun v151 v223 v382 k0_hw605 k0_h12 => k0_hw605 k0_h12

def k0_chk606 (v151 : BitVec 32) (v390 : IVec S16 32) (v396 : IVec S16 32) : Prop :=
  (∀ (k0_h12 : k0_cond12 v151 = 1#1), ∀ a x, ((![v390, v396] : Fin 2 → IVec S16 32) a x).toNat < S32x512.size a)
theorem k0_idx611_inb : ∀ (v151 : BitVec 32) (v390 : IVec S16 32) (v396 : IVec S16 32) (k0_hw606 : k0_chk606 v151 v390 v396), ∀ (k0_h12 : k0_cond12 v151 = 1#1), ∀ a x, ((![v390, v396] : Fin 2 → IVec S16 32) a x).toNat < S32x512.size a := fun v151 v390 v396 k0_hw606 k0_h12 => k0_hw606 k0_h12

def k0_chk607 (v151 : BitVec 32) (v223 : IVec S16 32) (v390 : IVec S16 32) : Prop :=
  (∀ (k0_h12 : k0_cond12 v151 = 1#1), ∀ a x, ((![v223, v390] : Fin 2 → IVec S16 32) a x).toNat < S512x32.size a)
theorem k0_idx612_inb : ∀ (v151 : BitVec 32) (v223 : IVec S16 32) (v390 : IVec S16 32) (k0_hw607 : k0_chk607 v151 v223 v390), ∀ (k0_h12 : k0_cond12 v151 = 1#1), ∀ a x, ((![v223, v390] : Fin 2 → IVec S16 32) a x).toNat < S512x32.size a := fun v151 v223 v390 k0_hw607 k0_h12 => k0_hw607 k0_h12

def k0_chk608 (v151 : BitVec 32) (v398 : IVec S16 32) (v404 : IVec S16 32) : Prop :=
  (∀ (k0_h12 : k0_cond12 v151 = 1#1), ∀ a x, ((![v398, v404] : Fin 2 → IVec S16 32) a x).toNat < S32x512.size a)
theorem k0_idx613_inb : ∀ (v151 : BitVec 32) (v398 : IVec S16 32) (v404 : IVec S16 32) (k0_hw608 : k0_chk608 v151 v398 v404), ∀ (k0_h12 : k0_cond12 v151 = 1#1), ∀ a x, ((![v398, v404] : Fin 2 → IVec S16 32) a x).toNat < S32x512.size a := fun v151 v398 v404 k0_hw608 k0_h12 => k0_hw608 k0_h12

def k0_chk609 (v151 : BitVec 32) (v223 : IVec S16 32) (v398 : IVec S16 32) : Prop :=
  (∀ (k0_h12 : k0_cond12 v151 = 1#1), ∀ a x, ((![v223, v398] : Fin 2 → IVec S16 32) a x).toNat < S512x32.size a)
theorem k0_idx614_inb : ∀ (v151 : BitVec 32) (v223 : IVec S16 32) (v398 : IVec S16 32) (k0_hw609 : k0_chk609 v151 v223 v398), ∀ (k0_h12 : k0_cond12 v151 = 1#1), ∀ a x, ((![v223, v398] : Fin 2 → IVec S16 32) a x).toNat < S512x32.size a := fun v151 v223 v398 k0_hw609 k0_h12 => k0_hw609 k0_h12

def k0_chk610 (v151 : BitVec 32) (v406 : IVec S16 32) (v412 : IVec S16 32) : Prop :=
  (∀ (k0_h12 : k0_cond12 v151 = 1#1), ∀ a x, ((![v406, v412] : Fin 2 → IVec S16 32) a x).toNat < S32x512.size a)
theorem k0_idx615_inb : ∀ (v151 : BitVec 32) (v406 : IVec S16 32) (v412 : IVec S16 32) (k0_hw610 : k0_chk610 v151 v406 v412), ∀ (k0_h12 : k0_cond12 v151 = 1#1), ∀ a x, ((![v406, v412] : Fin 2 → IVec S16 32) a x).toNat < S32x512.size a := fun v151 v406 v412 k0_hw610 k0_h12 => k0_hw610 k0_h12

def k0_chk611 (v151 : BitVec 32) (v223 : IVec S16 32) (v406 : IVec S16 32) : Prop :=
  (∀ (k0_h12 : k0_cond12 v151 = 1#1), ∀ a x, ((![v223, v406] : Fin 2 → IVec S16 32) a x).toNat < S512x32.size a)
theorem k0_idx616_inb : ∀ (v151 : BitVec 32) (v223 : IVec S16 32) (v406 : IVec S16 32) (k0_hw611 : k0_chk611 v151 v223 v406), ∀ (k0_h12 : k0_cond12 v151 = 1#1), ∀ a x, ((![v223, v406] : Fin 2 → IVec S16 32) a x).toNat < S512x32.size a := fun v151 v223 v406 k0_hw611 k0_h12 => k0_hw611 k0_h12

def k0_chk612 (v151 : BitVec 32) (v414 : IVec S16 32) (v420 : IVec S16 32) : Prop :=
  (∀ (k0_h12 : k0_cond12 v151 = 1#1), ∀ a x, ((![v414, v420] : Fin 2 → IVec S16 32) a x).toNat < S32x512.size a)
theorem k0_idx617_inb : ∀ (v151 : BitVec 32) (v414 : IVec S16 32) (v420 : IVec S16 32) (k0_hw612 : k0_chk612 v151 v414 v420), ∀ (k0_h12 : k0_cond12 v151 = 1#1), ∀ a x, ((![v414, v420] : Fin 2 → IVec S16 32) a x).toNat < S32x512.size a := fun v151 v414 v420 k0_hw612 k0_h12 => k0_hw612 k0_h12

def k0_chk613 (v151 : BitVec 32) (v223 : IVec S16 32) (v414 : IVec S16 32) : Prop :=
  (∀ (k0_h12 : k0_cond12 v151 = 1#1), ∀ a x, ((![v223, v414] : Fin 2 → IVec S16 32) a x).toNat < S512x32.size a)
theorem k0_idx618_inb : ∀ (v151 : BitVec 32) (v223 : IVec S16 32) (v414 : IVec S16 32) (k0_hw613 : k0_chk613 v151 v223 v414), ∀ (k0_h12 : k0_cond12 v151 = 1#1), ∀ a x, ((![v223, v414] : Fin 2 → IVec S16 32) a x).toNat < S512x32.size a := fun v151 v223 v414 k0_hw613 k0_h12 => k0_hw613 k0_h12

def k0_chk614 (v151 : BitVec 32) (v422 : IVec S16 32) (v428 : IVec S16 32) : Prop :=
  (∀ (k0_h12 : k0_cond12 v151 = 1#1), ∀ a x, ((![v422, v428] : Fin 2 → IVec S16 32) a x).toNat < S32x512.size a)
theorem k0_idx619_inb : ∀ (v151 : BitVec 32) (v422 : IVec S16 32) (v428 : IVec S16 32) (k0_hw614 : k0_chk614 v151 v422 v428), ∀ (k0_h12 : k0_cond12 v151 = 1#1), ∀ a x, ((![v422, v428] : Fin 2 → IVec S16 32) a x).toNat < S32x512.size a := fun v151 v422 v428 k0_hw614 k0_h12 => k0_hw614 k0_h12

def k0_chk615 (v151 : BitVec 32) (v223 : IVec S16 32) (v422 : IVec S16 32) : Prop :=
  (∀ (k0_h12 : k0_cond12 v151 = 1#1), ∀ a x, ((![v223, v422] : Fin 2 → IVec S16 32) a x).toNat < S512x32.size a)
theorem k0_idx620_inb : ∀ (v151 : BitVec 32) (v223 : IVec S16 32) (v422 : IVec S16 32) (k0_hw615 : k0_chk615 v151 v223 v422), ∀ (k0_h12 : k0_cond12 v151 = 1#1), ∀ a x, ((![v223, v422] : Fin 2 → IVec S16 32) a x).toNat < S512x32.size a := fun v151 v223 v422 k0_hw615 k0_h12 => k0_hw615 k0_h12

def k0_chk616 (v151 : BitVec 32) (v430 : IVec S16 32) (v436 : IVec S16 32) : Prop :=
  (∀ (k0_h12 : k0_cond12 v151 = 1#1), ∀ a x, ((![v430, v436] : Fin 2 → IVec S16 32) a x).toNat < S32x512.size a)
theorem k0_idx621_inb : ∀ (v151 : BitVec 32) (v430 : IVec S16 32) (v436 : IVec S16 32) (k0_hw616 : k0_chk616 v151 v430 v436), ∀ (k0_h12 : k0_cond12 v151 = 1#1), ∀ a x, ((![v430, v436] : Fin 2 → IVec S16 32) a x).toNat < S32x512.size a := fun v151 v430 v436 k0_hw616 k0_h12 => k0_hw616 k0_h12

def k0_chk617 (v151 : BitVec 32) (v223 : IVec S16 32) (v430 : IVec S16 32) : Prop :=
  (∀ (k0_h12 : k0_cond12 v151 = 1#1), ∀ a x, ((![v223, v430] : Fin 2 → IVec S16 32) a x).toNat < S512x32.size a)
theorem k0_idx622_inb : ∀ (v151 : BitVec 32) (v223 : IVec S16 32) (v430 : IVec S16 32) (k0_hw617 : k0_chk617 v151 v223 v430), ∀ (k0_h12 : k0_cond12 v151 = 1#1), ∀ a x, ((![v223, v430] : Fin 2 → IVec S16 32) a x).toNat < S512x32.size a := fun v151 v223 v430 k0_hw617 k0_h12 => k0_hw617 k0_h12

def k0_chk618 (v151 : BitVec 32) (v438 : IVec S16 32) (v444 : IVec S16 32) : Prop :=
  (∀ (k0_h12 : k0_cond12 v151 = 1#1), ∀ a x, ((![v438, v444] : Fin 2 → IVec S16 32) a x).toNat < S32x512.size a)
theorem k0_idx623_inb : ∀ (v151 : BitVec 32) (v438 : IVec S16 32) (v444 : IVec S16 32) (k0_hw618 : k0_chk618 v151 v438 v444), ∀ (k0_h12 : k0_cond12 v151 = 1#1), ∀ a x, ((![v438, v444] : Fin 2 → IVec S16 32) a x).toNat < S32x512.size a := fun v151 v438 v444 k0_hw618 k0_h12 => k0_hw618 k0_h12

def k0_chk619 (v151 : BitVec 32) (v223 : IVec S16 32) (v438 : IVec S16 32) : Prop :=
  (∀ (k0_h12 : k0_cond12 v151 = 1#1), ∀ a x, ((![v223, v438] : Fin 2 → IVec S16 32) a x).toNat < S512x32.size a)
theorem k0_idx624_inb : ∀ (v151 : BitVec 32) (v223 : IVec S16 32) (v438 : IVec S16 32) (k0_hw619 : k0_chk619 v151 v223 v438), ∀ (k0_h12 : k0_cond12 v151 = 1#1), ∀ a x, ((![v223, v438] : Fin 2 → IVec S16 32) a x).toNat < S512x32.size a := fun v151 v223 v438 k0_hw619 k0_h12 => k0_hw619 k0_h12

def k0_chk620 (v151 : BitVec 32) (v446 : IVec S16 32) (v452 : IVec S16 32) : Prop :=
  (∀ (k0_h12 : k0_cond12 v151 = 1#1), ∀ a x, ((![v446, v452] : Fin 2 → IVec S16 32) a x).toNat < S32x512.size a)
theorem k0_idx625_inb : ∀ (v151 : BitVec 32) (v446 : IVec S16 32) (v452 : IVec S16 32) (k0_hw620 : k0_chk620 v151 v446 v452), ∀ (k0_h12 : k0_cond12 v151 = 1#1), ∀ a x, ((![v446, v452] : Fin 2 → IVec S16 32) a x).toNat < S32x512.size a := fun v151 v446 v452 k0_hw620 k0_h12 => k0_hw620 k0_h12

def k0_chk621 (v151 : BitVec 32) (v223 : IVec S16 32) (v446 : IVec S16 32) : Prop :=
  (∀ (k0_h12 : k0_cond12 v151 = 1#1), ∀ a x, ((![v223, v446] : Fin 2 → IVec S16 32) a x).toNat < S512x32.size a)
theorem k0_idx626_inb : ∀ (v151 : BitVec 32) (v223 : IVec S16 32) (v446 : IVec S16 32) (k0_hw621 : k0_chk621 v151 v223 v446), ∀ (k0_h12 : k0_cond12 v151 = 1#1), ∀ a x, ((![v223, v446] : Fin 2 → IVec S16 32) a x).toNat < S512x32.size a := fun v151 v223 v446 k0_hw621 k0_h12 => k0_hw621 k0_h12

def k0_chk622 (v151 : BitVec 32) (v454 : IVec S16 32) (v460 : IVec S16 32) : Prop :=
  (∀ (k0_h12 : k0_cond12 v151 = 1#1), ∀ a x, ((![v454, v460] : Fin 2 → IVec S16 32) a x).toNat < S32x512.size a)
theorem k0_idx627_inb : ∀ (v151 : BitVec 32) (v454 : IVec S16 32) (v460 : IVec S16 32) (k0_hw622 : k0_chk622 v151 v454 v460), ∀ (k0_h12 : k0_cond12 v151 = 1#1), ∀ a x, ((![v454, v460] : Fin 2 → IVec S16 32) a x).toNat < S32x512.size a := fun v151 v454 v460 k0_hw622 k0_h12 => k0_hw622 k0_h12

def k0_chk623 (v151 : BitVec 32) (v223 : IVec S16 32) (v454 : IVec S16 32) : Prop :=
  (∀ (k0_h12 : k0_cond12 v151 = 1#1), ∀ a x, ((![v223, v454] : Fin 2 → IVec S16 32) a x).toNat < S512x32.size a)
theorem k0_idx628_inb : ∀ (v151 : BitVec 32) (v223 : IVec S16 32) (v454 : IVec S16 32) (k0_hw623 : k0_chk623 v151 v223 v454), ∀ (k0_h12 : k0_cond12 v151 = 1#1), ∀ a x, ((![v223, v454] : Fin 2 → IVec S16 32) a x).toNat < S512x32.size a := fun v151 v223 v454 k0_hw623 k0_h12 => k0_hw623 k0_h12

def k0_chk624 (v151 : BitVec 32) (v462 : IVec S16 32) (v468 : IVec S16 32) : Prop :=
  (∀ (k0_h12 : k0_cond12 v151 = 1#1), ∀ a x, ((![v462, v468] : Fin 2 → IVec S16 32) a x).toNat < S32x512.size a)
theorem k0_idx629_inb : ∀ (v151 : BitVec 32) (v462 : IVec S16 32) (v468 : IVec S16 32) (k0_hw624 : k0_chk624 v151 v462 v468), ∀ (k0_h12 : k0_cond12 v151 = 1#1), ∀ a x, ((![v462, v468] : Fin 2 → IVec S16 32) a x).toNat < S32x512.size a := fun v151 v462 v468 k0_hw624 k0_h12 => k0_hw624 k0_h12

def k0_chk625 (v151 : BitVec 32) (v223 : IVec S16 32) (v462 : IVec S16 32) : Prop :=
  (∀ (k0_h12 : k0_cond12 v151 = 1#1), ∀ a x, ((![v223, v462] : Fin 2 → IVec S16 32) a x).toNat < S512x32.size a)
theorem k0_idx630_inb : ∀ (v151 : BitVec 32) (v223 : IVec S16 32) (v462 : IVec S16 32) (k0_hw625 : k0_chk625 v151 v223 v462), ∀ (k0_h12 : k0_cond12 v151 = 1#1), ∀ a x, ((![v223, v462] : Fin 2 → IVec S16 32) a x).toNat < S512x32.size a := fun v151 v223 v462 k0_hw625 k0_h12 => k0_hw625 k0_h12

def k0_chk626 (v151 : BitVec 32) (v470 : IVec S16 32) (v476 : IVec S16 32) : Prop :=
  (∀ (k0_h12 : k0_cond12 v151 = 1#1), ∀ a x, ((![v470, v476] : Fin 2 → IVec S16 32) a x).toNat < S32x512.size a)
theorem k0_idx631_inb : ∀ (v151 : BitVec 32) (v470 : IVec S16 32) (v476 : IVec S16 32) (k0_hw626 : k0_chk626 v151 v470 v476), ∀ (k0_h12 : k0_cond12 v151 = 1#1), ∀ a x, ((![v470, v476] : Fin 2 → IVec S16 32) a x).toNat < S32x512.size a := fun v151 v470 v476 k0_hw626 k0_h12 => k0_hw626 k0_h12

def k0_chk627 (v151 : BitVec 32) (v223 : IVec S16 32) (v470 : IVec S16 32) : Prop :=
  (∀ (k0_h12 : k0_cond12 v151 = 1#1), ∀ a x, ((![v223, v470] : Fin 2 → IVec S16 32) a x).toNat < S512x32.size a)
theorem k0_idx632_inb : ∀ (v151 : BitVec 32) (v223 : IVec S16 32) (v470 : IVec S16 32) (k0_hw627 : k0_chk627 v151 v223 v470), ∀ (k0_h12 : k0_cond12 v151 = 1#1), ∀ a x, ((![v223, v470] : Fin 2 → IVec S16 32) a x).toNat < S512x32.size a := fun v151 v223 v470 k0_hw627 k0_h12 => k0_hw627 k0_h12

def k0_chk628 (v151 : BitVec 32) (v478 : IVec S16 32) (v484 : IVec S16 32) : Prop :=
  (∀ (k0_h12 : k0_cond12 v151 = 1#1), ∀ a x, ((![v478, v484] : Fin 2 → IVec S16 32) a x).toNat < S32x512.size a)
theorem k0_idx633_inb : ∀ (v151 : BitVec 32) (v478 : IVec S16 32) (v484 : IVec S16 32) (k0_hw628 : k0_chk628 v151 v478 v484), ∀ (k0_h12 : k0_cond12 v151 = 1#1), ∀ a x, ((![v478, v484] : Fin 2 → IVec S16 32) a x).toNat < S32x512.size a := fun v151 v478 v484 k0_hw628 k0_h12 => k0_hw628 k0_h12

def k0_chk629 (v151 : BitVec 32) (v223 : IVec S16 32) (v478 : IVec S16 32) : Prop :=
  (∀ (k0_h12 : k0_cond12 v151 = 1#1), ∀ a x, ((![v223, v478] : Fin 2 → IVec S16 32) a x).toNat < S512x32.size a)
theorem k0_idx634_inb : ∀ (v151 : BitVec 32) (v223 : IVec S16 32) (v478 : IVec S16 32) (k0_hw629 : k0_chk629 v151 v223 v478), ∀ (k0_h12 : k0_cond12 v151 = 1#1), ∀ a x, ((![v223, v478] : Fin 2 → IVec S16 32) a x).toNat < S512x32.size a := fun v151 v223 v478 k0_hw629 k0_h12 => k0_hw629 k0_h12
@[reducible] def k0_t48_loop (v151 : BitVec 32) : Scf.Loop 32 :=
  let c0_i32_211 : BitVec 32 := 0#32
  let c15_i32 : BitVec 32 := 15#32
  let v191 : BitVec 32 := Scalar.addi v151 c15_i32
  let c0_i32_205 : BitVec 32 := 0#32
  let v193 : BitVec 1 := Scalar.cmpi .sgt v191 c0_i32_205
  let v194 : BitVec 32 := Scalar.extui v193
  let c0_i32_206 : BitVec 32 := 0#32
  let v195 : BitVec 1 := Scalar.cmpi .slt v191 c0_i32_206
  let v196 : BitVec 32 := Scalar.extui v195
  let v197 : BitVec 32 := Scalar.subi v194 v196
  let c16_i32 : BitVec 32 := 16#32
  let c0_i32_207 : BitVec 32 := 0#32
  let v198 : BitVec 1 := Scalar.cmpi .sgt c16_i32 c0_i32_207
  let v199 : BitVec 32 := Scalar.extui v198
  let c0_i32_208 : BitVec 32 := 0#32
  let v200 : BitVec 1 := Scalar.cmpi .slt c16_i32 c0_i32_208
  let v201 : BitVec 32 := Scalar.extui v200
  let v202 : BitVec 32 := Scalar.subi v199 v201
  let v203 : BitVec 1 := Scalar.cmpi .ne v197 v202
  let v204 : BitVec 32 := Scalar.remsi v191 c16_i32
  let c0_i32_209 : BitVec 32 := 0#32
  let v205 : BitVec 1 := Scalar.cmpi .ne v204 c0_i32_209
  let v206 : BitVec 1 := Scalar.andi v203 v205
  let v192 : BitVec 32 := Scalar.divsi v191 c16_i32
  let c1_i32_210 : BitVec 32 := 1#32
  let v207 : BitVec 32 := Scalar.subi v192 c1_i32_210
  let v208 : BitVec 32 := Scalar.select v206 v207 v192
  let v209 : BitVec 32 := Scalar.subi v208 c0_i32_211
  let c1_i32_213 : BitVec 32 := 1#32
  let v211 : BitVec 32 := Scalar.divsi v209 c1_i32_213
  let v212 : BitVec 32 := Scalar.muli v211 c1_i32_213
  let v213 : BitVec 32 := Scalar.addi c0_i32_211 v212
  let v210 : BitVec 32 := Scalar.addi c0_i32_211 v209
  let c1_i32_215 : BitVec 32 := 1#32
  ⟨v213, v210, c1_i32_215⟩
def k0_off34 (v151 : BitVec 32) (k0_t48 : Fin (k0_t48_loop v151).trips) : Fin 1 → Nat :=
  let c0_i32_211 : BitVec 32 := 0#32
  let c15_i32 : BitVec 32 := 15#32
  let v191 : BitVec 32 := Scalar.addi v151 c15_i32
  let c0_i32_205 : BitVec 32 := 0#32
  let v193 : BitVec 1 := Scalar.cmpi .sgt v191 c0_i32_205
  let v194 : BitVec 32 := Scalar.extui v193
  let c0_i32_206 : BitVec 32 := 0#32
  let v195 : BitVec 1 := Scalar.cmpi .slt v191 c0_i32_206
  let v196 : BitVec 32 := Scalar.extui v195
  let v197 : BitVec 32 := Scalar.subi v194 v196
  let c16_i32 : BitVec 32 := 16#32
  let c0_i32_207 : BitVec 32 := 0#32
  let v198 : BitVec 1 := Scalar.cmpi .sgt c16_i32 c0_i32_207
  let v199 : BitVec 32 := Scalar.extui v198
  let c0_i32_208 : BitVec 32 := 0#32
  let v200 : BitVec 1 := Scalar.cmpi .slt c16_i32 c0_i32_208
  let v201 : BitVec 32 := Scalar.extui v200
  let v202 : BitVec 32 := Scalar.subi v199 v201
  let v203 : BitVec 1 := Scalar.cmpi .ne v197 v202
  let v204 : BitVec 32 := Scalar.remsi v191 c16_i32
  let c0_i32_209 : BitVec 32 := 0#32
  let v205 : BitVec 1 := Scalar.cmpi .ne v204 c0_i32_209
  let v206 : BitVec 1 := Scalar.andi v203 v205
  let v192 : BitVec 32 := Scalar.divsi v191 c16_i32
  let c1_i32_210 : BitVec 32 := 1#32
  let v207 : BitVec 32 := Scalar.subi v192 c1_i32_210
  let v208 : BitVec 32 := Scalar.select v206 v207 v192
  let v209 : BitVec 32 := Scalar.subi v208 c0_i32_211
  let c1_i32_213 : BitVec 32 := 1#32
  let v211 : BitVec 32 := Scalar.divsi v209 c1_i32_213
  let v212 : BitVec 32 := Scalar.muli v211 c1_i32_213
  let v213 : BitVec 32 := Scalar.addi c0_i32_211 v212
  let c1_i32_215 : BitVec 32 := 1#32
  let arg26 : BitVec 32 := Scf.iv v213 c1_i32_215 k0_t48
  let c16_i32_217 : BitVec 32 := 16#32
  let v221 : BitVec 32 := Scalar.muli arg26 c16_i32_217
  let v222 : Index := Scalar.indexCast v221
  ![v222.toNat]

def k0_chk563 (v151 : BitVec 32) : Prop :=
  (∀ (k0_h12 : k0_cond12 v151 = 1#1), (k0_t47_loop v151).OK) ∧
  (∀ k0_t47 : Fin (k0_t47_loop v151).trips, ∀ (k0_h12 : k0_cond12 v151 = 1#1), ∀ a, (k0_off33 v151 k0_t47) a + S16.size a ≤ S512.size a) ∧
  (∀ (k0_h12 : k0_cond12 v151 = 1#1), (k0_t48_loop v151).OK) ∧
  (∀ k0_t48 : Fin (k0_t48_loop v151).trips, ∀ (k0_h12 : k0_cond12 v151 = 1#1), ∀ a, (k0_off34 v151 k0_t48) a + S16.size a ≤ S512.size a)
theorem k0_t47_ok : ∀ (v151 : BitVec 32) (k0_hw563 : k0_chk563 v151), ∀ (k0_h12 : k0_cond12 v151 = 1#1), (k0_t47_loop v151).OK := fun v151 k0_hw563 k0_h12 => k0_hw563.1 k0_h12
theorem k0_off33_inb : ∀ (v151 : BitVec 32) (k0_hw563 : k0_chk563 v151) (k0_t47 : Fin (k0_t47_loop v151).trips), ∀ (k0_h12 : k0_cond12 v151 = 1#1), ∀ a, (k0_off33 v151 k0_t47) a + S16.size a ≤ S512.size a := fun v151 k0_hw563 k0_t47 k0_h12 => k0_hw563.2.1 k0_t47 k0_h12
theorem k0_t48_ok : ∀ (v151 : BitVec 32) (k0_hw563 : k0_chk563 v151), ∀ (k0_h12 : k0_cond12 v151 = 1#1), (k0_t48_loop v151).OK := fun v151 k0_hw563 k0_h12 => k0_hw563.2.2.1 k0_h12
theorem k0_off34_inb : ∀ (v151 : BitVec 32) (k0_hw563 : k0_chk563 v151) (k0_t48 : Fin (k0_t48_loop v151).trips), ∀ (k0_h12 : k0_cond12 v151 = 1#1), ∀ a, (k0_off34 v151 k0_t48) a + S16.size a ≤ S512.size a := fun v151 k0_hw563 k0_t48 k0_h12 => k0_hw563.2.2.2 k0_t48 k0_h12

def k0_chk630 (v151 : BitVec 32) (v223 : IVec S16 32) : Prop :=
  (∀ (k0_h12 : k0_cond12 v151 = 1#1), ∀ a x, ((![v223] : Fin 1 → IVec S16 32) a x).toNat < S1024.size a) ∧
  (∀ (k0_h12 : k0_cond12 v151 = 1#1), ∀ a x, ((![v223] : Fin 1 → IVec S16 32) a x).toNat < S1024.size a)
theorem k0_idx635_inb : ∀ (v151 : BitVec 32) (v223 : IVec S16 32) (k0_hw630 : k0_chk630 v151 v223), ∀ (k0_h12 : k0_cond12 v151 = 1#1), ∀ a x, ((![v223] : Fin 1 → IVec S16 32) a x).toNat < S1024.size a := fun v151 v223 k0_hw630 k0_h12 => k0_hw630.1 k0_h12
theorem k0_idx636_inb : ∀ (v151 : BitVec 32) (v223 : IVec S16 32) (k0_hw630 : k0_chk630 v151 v223), ∀ (k0_h12 : k0_cond12 v151 = 1#1), ∀ a x, ((![v223] : Fin 1 → IVec S16 32) a x).toNat < S1024.size a := fun v151 v223 k0_hw630 k0_h12 => k0_hw630.2 k0_h12

def k0_chk631 (v151 : BitVec 32) (v227 : IVec S16 32) (v229 : IVec S16 32) : Prop :=
  (∀ (k0_h12 : k0_cond12 v151 = 1#1), ∀ a x, ((![v227, v229] : Fin 2 → IVec S16 32) a x).toNat < S8x64.size a)
theorem k0_idx637_inb : ∀ (v151 : BitVec 32) (v227 : IVec S16 32) (v229 : IVec S16 32) (k0_hw631 : k0_chk631 v151 v227 v229), ∀ (k0_h12 : k0_cond12 v151 = 1#1), ∀ a x, ((![v227, v229] : Fin 2 → IVec S16 32) a x).toNat < S8x64.size a := fun v151 v227 v229 k0_hw631 k0_h12 => k0_hw631 k0_h12

def k0_chk632 (v151 : BitVec 32) (v230 : IVec S16 32) (v236 : IVec S16 32) : Prop :=
  (∀ (k0_h12 : k0_cond12 v151 = 1#1), ∀ a x, ((![v230, v236] : Fin 2 → IVec S16 32) a x).toNat < S32x512.size a)
theorem k0_idx638_inb : ∀ (v151 : BitVec 32) (v230 : IVec S16 32) (v236 : IVec S16 32) (k0_hw632 : k0_chk632 v151 v230 v236), ∀ (k0_h12 : k0_cond12 v151 = 1#1), ∀ a x, ((![v230, v236] : Fin 2 → IVec S16 32) a x).toNat < S32x512.size a := fun v151 v230 v236 k0_hw632 k0_h12 => k0_hw632 k0_h12

def k0_chk633 (v151 : BitVec 32) (v223 : IVec S16 32) (v230 : IVec S16 32) : Prop :=
  (∀ (k0_h12 : k0_cond12 v151 = 1#1), ∀ a x, ((![v223, v230] : Fin 2 → IVec S16 32) a x).toNat < S512x32.size a)
theorem k0_idx639_inb : ∀ (v151 : BitVec 32) (v223 : IVec S16 32) (v230 : IVec S16 32) (k0_hw633 : k0_chk633 v151 v223 v230), ∀ (k0_h12 : k0_cond12 v151 = 1#1), ∀ a x, ((![v223, v230] : Fin 2 → IVec S16 32) a x).toNat < S512x32.size a := fun v151 v223 v230 k0_hw633 k0_h12 => k0_hw633 k0_h12

def k0_chk634 (v151 : BitVec 32) (v238 : IVec S16 32) (v244 : IVec S16 32) : Prop :=
  (∀ (k0_h12 : k0_cond12 v151 = 1#1), ∀ a x, ((![v238, v244] : Fin 2 → IVec S16 32) a x).toNat < S32x512.size a)
theorem k0_idx640_inb : ∀ (v151 : BitVec 32) (v238 : IVec S16 32) (v244 : IVec S16 32) (k0_hw634 : k0_chk634 v151 v238 v244), ∀ (k0_h12 : k0_cond12 v151 = 1#1), ∀ a x, ((![v238, v244] : Fin 2 → IVec S16 32) a x).toNat < S32x512.size a := fun v151 v238 v244 k0_hw634 k0_h12 => k0_hw634 k0_h12

def k0_chk635 (v151 : BitVec 32) (v223 : IVec S16 32) (v238 : IVec S16 32) : Prop :=
  (∀ (k0_h12 : k0_cond12 v151 = 1#1), ∀ a x, ((![v223, v238] : Fin 2 → IVec S16 32) a x).toNat < S512x32.size a)
theorem k0_idx641_inb : ∀ (v151 : BitVec 32) (v223 : IVec S16 32) (v238 : IVec S16 32) (k0_hw635 : k0_chk635 v151 v223 v238), ∀ (k0_h12 : k0_cond12 v151 = 1#1), ∀ a x, ((![v223, v238] : Fin 2 → IVec S16 32) a x).toNat < S512x32.size a := fun v151 v223 v238 k0_hw635 k0_h12 => k0_hw635 k0_h12

def k0_chk636 (v151 : BitVec 32) (v246 : IVec S16 32) (v252 : IVec S16 32) : Prop :=
  (∀ (k0_h12 : k0_cond12 v151 = 1#1), ∀ a x, ((![v246, v252] : Fin 2 → IVec S16 32) a x).toNat < S32x512.size a)
theorem k0_idx642_inb : ∀ (v151 : BitVec 32) (v246 : IVec S16 32) (v252 : IVec S16 32) (k0_hw636 : k0_chk636 v151 v246 v252), ∀ (k0_h12 : k0_cond12 v151 = 1#1), ∀ a x, ((![v246, v252] : Fin 2 → IVec S16 32) a x).toNat < S32x512.size a := fun v151 v246 v252 k0_hw636 k0_h12 => k0_hw636 k0_h12

def k0_chk637 (v151 : BitVec 32) (v223 : IVec S16 32) (v246 : IVec S16 32) : Prop :=
  (∀ (k0_h12 : k0_cond12 v151 = 1#1), ∀ a x, ((![v223, v246] : Fin 2 → IVec S16 32) a x).toNat < S512x32.size a)
theorem k0_idx643_inb : ∀ (v151 : BitVec 32) (v223 : IVec S16 32) (v246 : IVec S16 32) (k0_hw637 : k0_chk637 v151 v223 v246), ∀ (k0_h12 : k0_cond12 v151 = 1#1), ∀ a x, ((![v223, v246] : Fin 2 → IVec S16 32) a x).toNat < S512x32.size a := fun v151 v223 v246 k0_hw637 k0_h12 => k0_hw637 k0_h12

def k0_chk638 (v151 : BitVec 32) (v254 : IVec S16 32) (v260 : IVec S16 32) : Prop :=
  (∀ (k0_h12 : k0_cond12 v151 = 1#1), ∀ a x, ((![v254, v260] : Fin 2 → IVec S16 32) a x).toNat < S32x512.size a)
theorem k0_idx644_inb : ∀ (v151 : BitVec 32) (v254 : IVec S16 32) (v260 : IVec S16 32) (k0_hw638 : k0_chk638 v151 v254 v260), ∀ (k0_h12 : k0_cond12 v151 = 1#1), ∀ a x, ((![v254, v260] : Fin 2 → IVec S16 32) a x).toNat < S32x512.size a := fun v151 v254 v260 k0_hw638 k0_h12 => k0_hw638 k0_h12

def k0_chk639 (v151 : BitVec 32) (v223 : IVec S16 32) (v254 : IVec S16 32) : Prop :=
  (∀ (k0_h12 : k0_cond12 v151 = 1#1), ∀ a x, ((![v223, v254] : Fin 2 → IVec S16 32) a x).toNat < S512x32.size a)
theorem k0_idx645_inb : ∀ (v151 : BitVec 32) (v223 : IVec S16 32) (v254 : IVec S16 32) (k0_hw639 : k0_chk639 v151 v223 v254), ∀ (k0_h12 : k0_cond12 v151 = 1#1), ∀ a x, ((![v223, v254] : Fin 2 → IVec S16 32) a x).toNat < S512x32.size a := fun v151 v223 v254 k0_hw639 k0_h12 => k0_hw639 k0_h12

def k0_chk640 (v151 : BitVec 32) (v262 : IVec S16 32) (v268 : IVec S16 32) : Prop :=
  (∀ (k0_h12 : k0_cond12 v151 = 1#1), ∀ a x, ((![v262, v268] : Fin 2 → IVec S16 32) a x).toNat < S32x512.size a)
theorem k0_idx646_inb : ∀ (v151 : BitVec 32) (v262 : IVec S16 32) (v268 : IVec S16 32) (k0_hw640 : k0_chk640 v151 v262 v268), ∀ (k0_h12 : k0_cond12 v151 = 1#1), ∀ a x, ((![v262, v268] : Fin 2 → IVec S16 32) a x).toNat < S32x512.size a := fun v151 v262 v268 k0_hw640 k0_h12 => k0_hw640 k0_h12

def k0_chk641 (v151 : BitVec 32) (v223 : IVec S16 32) (v262 : IVec S16 32) : Prop :=
  (∀ (k0_h12 : k0_cond12 v151 = 1#1), ∀ a x, ((![v223, v262] : Fin 2 → IVec S16 32) a x).toNat < S512x32.size a)
theorem k0_idx647_inb : ∀ (v151 : BitVec 32) (v223 : IVec S16 32) (v262 : IVec S16 32) (k0_hw641 : k0_chk641 v151 v223 v262), ∀ (k0_h12 : k0_cond12 v151 = 1#1), ∀ a x, ((![v223, v262] : Fin 2 → IVec S16 32) a x).toNat < S512x32.size a := fun v151 v223 v262 k0_hw641 k0_h12 => k0_hw641 k0_h12

def k0_chk642 (v151 : BitVec 32) (v270 : IVec S16 32) (v276 : IVec S16 32) : Prop :=
  (∀ (k0_h12 : k0_cond12 v151 = 1#1), ∀ a x, ((![v270, v276] : Fin 2 → IVec S16 32) a x).toNat < S32x512.size a)
theorem k0_idx648_inb : ∀ (v151 : BitVec 32) (v270 : IVec S16 32) (v276 : IVec S16 32) (k0_hw642 : k0_chk642 v151 v270 v276), ∀ (k0_h12 : k0_cond12 v151 = 1#1), ∀ a x, ((![v270, v276] : Fin 2 → IVec S16 32) a x).toNat < S32x512.size a := fun v151 v270 v276 k0_hw642 k0_h12 => k0_hw642 k0_h12

def k0_chk643 (v151 : BitVec 32) (v223 : IVec S16 32) (v270 : IVec S16 32) : Prop :=
  (∀ (k0_h12 : k0_cond12 v151 = 1#1), ∀ a x, ((![v223, v270] : Fin 2 → IVec S16 32) a x).toNat < S512x32.size a)
theorem k0_idx649_inb : ∀ (v151 : BitVec 32) (v223 : IVec S16 32) (v270 : IVec S16 32) (k0_hw643 : k0_chk643 v151 v223 v270), ∀ (k0_h12 : k0_cond12 v151 = 1#1), ∀ a x, ((![v223, v270] : Fin 2 → IVec S16 32) a x).toNat < S512x32.size a := fun v151 v223 v270 k0_hw643 k0_h12 => k0_hw643 k0_h12

def k0_chk644 (v151 : BitVec 32) (v278 : IVec S16 32) (v284 : IVec S16 32) : Prop :=
  (∀ (k0_h12 : k0_cond12 v151 = 1#1), ∀ a x, ((![v278, v284] : Fin 2 → IVec S16 32) a x).toNat < S32x512.size a)
theorem k0_idx650_inb : ∀ (v151 : BitVec 32) (v278 : IVec S16 32) (v284 : IVec S16 32) (k0_hw644 : k0_chk644 v151 v278 v284), ∀ (k0_h12 : k0_cond12 v151 = 1#1), ∀ a x, ((![v278, v284] : Fin 2 → IVec S16 32) a x).toNat < S32x512.size a := fun v151 v278 v284 k0_hw644 k0_h12 => k0_hw644 k0_h12

def k0_chk645 (v151 : BitVec 32) (v223 : IVec S16 32) (v278 : IVec S16 32) : Prop :=
  (∀ (k0_h12 : k0_cond12 v151 = 1#1), ∀ a x, ((![v223, v278] : Fin 2 → IVec S16 32) a x).toNat < S512x32.size a)
theorem k0_idx651_inb : ∀ (v151 : BitVec 32) (v223 : IVec S16 32) (v278 : IVec S16 32) (k0_hw645 : k0_chk645 v151 v223 v278), ∀ (k0_h12 : k0_cond12 v151 = 1#1), ∀ a x, ((![v223, v278] : Fin 2 → IVec S16 32) a x).toNat < S512x32.size a := fun v151 v223 v278 k0_hw645 k0_h12 => k0_hw645 k0_h12

def k0_chk646 (v151 : BitVec 32) (v286 : IVec S16 32) (v292 : IVec S16 32) : Prop :=
  (∀ (k0_h12 : k0_cond12 v151 = 1#1), ∀ a x, ((![v286, v292] : Fin 2 → IVec S16 32) a x).toNat < S32x512.size a)
theorem k0_idx652_inb : ∀ (v151 : BitVec 32) (v286 : IVec S16 32) (v292 : IVec S16 32) (k0_hw646 : k0_chk646 v151 v286 v292), ∀ (k0_h12 : k0_cond12 v151 = 1#1), ∀ a x, ((![v286, v292] : Fin 2 → IVec S16 32) a x).toNat < S32x512.size a := fun v151 v286 v292 k0_hw646 k0_h12 => k0_hw646 k0_h12

def k0_chk647 (v151 : BitVec 32) (v223 : IVec S16 32) (v286 : IVec S16 32) : Prop :=
  (∀ (k0_h12 : k0_cond12 v151 = 1#1), ∀ a x, ((![v223, v286] : Fin 2 → IVec S16 32) a x).toNat < S512x32.size a)
theorem k0_idx653_inb : ∀ (v151 : BitVec 32) (v223 : IVec S16 32) (v286 : IVec S16 32) (k0_hw647 : k0_chk647 v151 v223 v286), ∀ (k0_h12 : k0_cond12 v151 = 1#1), ∀ a x, ((![v223, v286] : Fin 2 → IVec S16 32) a x).toNat < S512x32.size a := fun v151 v223 v286 k0_hw647 k0_h12 => k0_hw647 k0_h12

def k0_chk648 (v151 : BitVec 32) (v294 : IVec S16 32) (v300 : IVec S16 32) : Prop :=
  (∀ (k0_h12 : k0_cond12 v151 = 1#1), ∀ a x, ((![v294, v300] : Fin 2 → IVec S16 32) a x).toNat < S32x512.size a)
theorem k0_idx654_inb : ∀ (v151 : BitVec 32) (v294 : IVec S16 32) (v300 : IVec S16 32) (k0_hw648 : k0_chk648 v151 v294 v300), ∀ (k0_h12 : k0_cond12 v151 = 1#1), ∀ a x, ((![v294, v300] : Fin 2 → IVec S16 32) a x).toNat < S32x512.size a := fun v151 v294 v300 k0_hw648 k0_h12 => k0_hw648 k0_h12

def k0_chk649 (v151 : BitVec 32) (v223 : IVec S16 32) (v294 : IVec S16 32) : Prop :=
  (∀ (k0_h12 : k0_cond12 v151 = 1#1), ∀ a x, ((![v223, v294] : Fin 2 → IVec S16 32) a x).toNat < S512x32.size a)
theorem k0_idx655_inb : ∀ (v151 : BitVec 32) (v223 : IVec S16 32) (v294 : IVec S16 32) (k0_hw649 : k0_chk649 v151 v223 v294), ∀ (k0_h12 : k0_cond12 v151 = 1#1), ∀ a x, ((![v223, v294] : Fin 2 → IVec S16 32) a x).toNat < S512x32.size a := fun v151 v223 v294 k0_hw649 k0_h12 => k0_hw649 k0_h12

def k0_chk650 (v151 : BitVec 32) (v302 : IVec S16 32) (v308 : IVec S16 32) : Prop :=
  (∀ (k0_h12 : k0_cond12 v151 = 1#1), ∀ a x, ((![v302, v308] : Fin 2 → IVec S16 32) a x).toNat < S32x512.size a)
theorem k0_idx656_inb : ∀ (v151 : BitVec 32) (v302 : IVec S16 32) (v308 : IVec S16 32) (k0_hw650 : k0_chk650 v151 v302 v308), ∀ (k0_h12 : k0_cond12 v151 = 1#1), ∀ a x, ((![v302, v308] : Fin 2 → IVec S16 32) a x).toNat < S32x512.size a := fun v151 v302 v308 k0_hw650 k0_h12 => k0_hw650 k0_h12

def k0_chk651 (v151 : BitVec 32) (v223 : IVec S16 32) (v302 : IVec S16 32) : Prop :=
  (∀ (k0_h12 : k0_cond12 v151 = 1#1), ∀ a x, ((![v223, v302] : Fin 2 → IVec S16 32) a x).toNat < S512x32.size a)
theorem k0_idx657_inb : ∀ (v151 : BitVec 32) (v223 : IVec S16 32) (v302 : IVec S16 32) (k0_hw651 : k0_chk651 v151 v223 v302), ∀ (k0_h12 : k0_cond12 v151 = 1#1), ∀ a x, ((![v223, v302] : Fin 2 → IVec S16 32) a x).toNat < S512x32.size a := fun v151 v223 v302 k0_hw651 k0_h12 => k0_hw651 k0_h12

def k0_chk652 (v151 : BitVec 32) (v310 : IVec S16 32) (v316 : IVec S16 32) : Prop :=
  (∀ (k0_h12 : k0_cond12 v151 = 1#1), ∀ a x, ((![v310, v316] : Fin 2 → IVec S16 32) a x).toNat < S32x512.size a)
theorem k0_idx658_inb : ∀ (v151 : BitVec 32) (v310 : IVec S16 32) (v316 : IVec S16 32) (k0_hw652 : k0_chk652 v151 v310 v316), ∀ (k0_h12 : k0_cond12 v151 = 1#1), ∀ a x, ((![v310, v316] : Fin 2 → IVec S16 32) a x).toNat < S32x512.size a := fun v151 v310 v316 k0_hw652 k0_h12 => k0_hw652 k0_h12

def k0_chk653 (v151 : BitVec 32) (v223 : IVec S16 32) (v310 : IVec S16 32) : Prop :=
  (∀ (k0_h12 : k0_cond12 v151 = 1#1), ∀ a x, ((![v223, v310] : Fin 2 → IVec S16 32) a x).toNat < S512x32.size a)
theorem k0_idx659_inb : ∀ (v151 : BitVec 32) (v223 : IVec S16 32) (v310 : IVec S16 32) (k0_hw653 : k0_chk653 v151 v223 v310), ∀ (k0_h12 : k0_cond12 v151 = 1#1), ∀ a x, ((![v223, v310] : Fin 2 → IVec S16 32) a x).toNat < S512x32.size a := fun v151 v223 v310 k0_hw653 k0_h12 => k0_hw653 k0_h12

def k0_chk654 (v151 : BitVec 32) (v318 : IVec S16 32) (v324 : IVec S16 32) : Prop :=
  (∀ (k0_h12 : k0_cond12 v151 = 1#1), ∀ a x, ((![v318, v324] : Fin 2 → IVec S16 32) a x).toNat < S32x512.size a)
theorem k0_idx660_inb : ∀ (v151 : BitVec 32) (v318 : IVec S16 32) (v324 : IVec S16 32) (k0_hw654 : k0_chk654 v151 v318 v324), ∀ (k0_h12 : k0_cond12 v151 = 1#1), ∀ a x, ((![v318, v324] : Fin 2 → IVec S16 32) a x).toNat < S32x512.size a := fun v151 v318 v324 k0_hw654 k0_h12 => k0_hw654 k0_h12

def k0_chk655 (v151 : BitVec 32) (v223 : IVec S16 32) (v318 : IVec S16 32) : Prop :=
  (∀ (k0_h12 : k0_cond12 v151 = 1#1), ∀ a x, ((![v223, v318] : Fin 2 → IVec S16 32) a x).toNat < S512x32.size a)
theorem k0_idx661_inb : ∀ (v151 : BitVec 32) (v223 : IVec S16 32) (v318 : IVec S16 32) (k0_hw655 : k0_chk655 v151 v223 v318), ∀ (k0_h12 : k0_cond12 v151 = 1#1), ∀ a x, ((![v223, v318] : Fin 2 → IVec S16 32) a x).toNat < S512x32.size a := fun v151 v223 v318 k0_hw655 k0_h12 => k0_hw655 k0_h12

def k0_chk656 (v151 : BitVec 32) (v326 : IVec S16 32) (v332 : IVec S16 32) : Prop :=
  (∀ (k0_h12 : k0_cond12 v151 = 1#1), ∀ a x, ((![v326, v332] : Fin 2 → IVec S16 32) a x).toNat < S32x512.size a)
theorem k0_idx662_inb : ∀ (v151 : BitVec 32) (v326 : IVec S16 32) (v332 : IVec S16 32) (k0_hw656 : k0_chk656 v151 v326 v332), ∀ (k0_h12 : k0_cond12 v151 = 1#1), ∀ a x, ((![v326, v332] : Fin 2 → IVec S16 32) a x).toNat < S32x512.size a := fun v151 v326 v332 k0_hw656 k0_h12 => k0_hw656 k0_h12

def k0_chk657 (v151 : BitVec 32) (v223 : IVec S16 32) (v326 : IVec S16 32) : Prop :=
  (∀ (k0_h12 : k0_cond12 v151 = 1#1), ∀ a x, ((![v223, v326] : Fin 2 → IVec S16 32) a x).toNat < S512x32.size a)
theorem k0_idx663_inb : ∀ (v151 : BitVec 32) (v223 : IVec S16 32) (v326 : IVec S16 32) (k0_hw657 : k0_chk657 v151 v223 v326), ∀ (k0_h12 : k0_cond12 v151 = 1#1), ∀ a x, ((![v223, v326] : Fin 2 → IVec S16 32) a x).toNat < S512x32.size a := fun v151 v223 v326 k0_hw657 k0_h12 => k0_hw657 k0_h12

def k0_chk658 (v151 : BitVec 32) (v334 : IVec S16 32) (v340 : IVec S16 32) : Prop :=
  (∀ (k0_h12 : k0_cond12 v151 = 1#1), ∀ a x, ((![v334, v340] : Fin 2 → IVec S16 32) a x).toNat < S32x512.size a)
theorem k0_idx664_inb : ∀ (v151 : BitVec 32) (v334 : IVec S16 32) (v340 : IVec S16 32) (k0_hw658 : k0_chk658 v151 v334 v340), ∀ (k0_h12 : k0_cond12 v151 = 1#1), ∀ a x, ((![v334, v340] : Fin 2 → IVec S16 32) a x).toNat < S32x512.size a := fun v151 v334 v340 k0_hw658 k0_h12 => k0_hw658 k0_h12

def k0_chk659 (v151 : BitVec 32) (v223 : IVec S16 32) (v334 : IVec S16 32) : Prop :=
  (∀ (k0_h12 : k0_cond12 v151 = 1#1), ∀ a x, ((![v223, v334] : Fin 2 → IVec S16 32) a x).toNat < S512x32.size a)
theorem k0_idx665_inb : ∀ (v151 : BitVec 32) (v223 : IVec S16 32) (v334 : IVec S16 32) (k0_hw659 : k0_chk659 v151 v223 v334), ∀ (k0_h12 : k0_cond12 v151 = 1#1), ∀ a x, ((![v223, v334] : Fin 2 → IVec S16 32) a x).toNat < S512x32.size a := fun v151 v223 v334 k0_hw659 k0_h12 => k0_hw659 k0_h12

def k0_chk660 (v151 : BitVec 32) (v342 : IVec S16 32) (v348 : IVec S16 32) : Prop :=
  (∀ (k0_h12 : k0_cond12 v151 = 1#1), ∀ a x, ((![v342, v348] : Fin 2 → IVec S16 32) a x).toNat < S32x512.size a)
theorem k0_idx666_inb : ∀ (v151 : BitVec 32) (v342 : IVec S16 32) (v348 : IVec S16 32) (k0_hw660 : k0_chk660 v151 v342 v348), ∀ (k0_h12 : k0_cond12 v151 = 1#1), ∀ a x, ((![v342, v348] : Fin 2 → IVec S16 32) a x).toNat < S32x512.size a := fun v151 v342 v348 k0_hw660 k0_h12 => k0_hw660 k0_h12

def k0_chk661 (v151 : BitVec 32) (v223 : IVec S16 32) (v342 : IVec S16 32) : Prop :=
  (∀ (k0_h12 : k0_cond12 v151 = 1#1), ∀ a x, ((![v223, v342] : Fin 2 → IVec S16 32) a x).toNat < S512x32.size a)
theorem k0_idx667_inb : ∀ (v151 : BitVec 32) (v223 : IVec S16 32) (v342 : IVec S16 32) (k0_hw661 : k0_chk661 v151 v223 v342), ∀ (k0_h12 : k0_cond12 v151 = 1#1), ∀ a x, ((![v223, v342] : Fin 2 → IVec S16 32) a x).toNat < S512x32.size a := fun v151 v223 v342 k0_hw661 k0_h12 => k0_hw661 k0_h12

def k0_chk662 (v151 : BitVec 32) (v350 : IVec S16 32) (v356 : IVec S16 32) : Prop :=
  (∀ (k0_h12 : k0_cond12 v151 = 1#1), ∀ a x, ((![v350, v356] : Fin 2 → IVec S16 32) a x).toNat < S32x512.size a)
theorem k0_idx668_inb : ∀ (v151 : BitVec 32) (v350 : IVec S16 32) (v356 : IVec S16 32) (k0_hw662 : k0_chk662 v151 v350 v356), ∀ (k0_h12 : k0_cond12 v151 = 1#1), ∀ a x, ((![v350, v356] : Fin 2 → IVec S16 32) a x).toNat < S32x512.size a := fun v151 v350 v356 k0_hw662 k0_h12 => k0_hw662 k0_h12

def k0_chk663 (v151 : BitVec 32) (v223 : IVec S16 32) (v350 : IVec S16 32) : Prop :=
  (∀ (k0_h12 : k0_cond12 v151 = 1#1), ∀ a x, ((![v223, v350] : Fin 2 → IVec S16 32) a x).toNat < S512x32.size a)
theorem k0_idx669_inb : ∀ (v151 : BitVec 32) (v223 : IVec S16 32) (v350 : IVec S16 32) (k0_hw663 : k0_chk663 v151 v223 v350), ∀ (k0_h12 : k0_cond12 v151 = 1#1), ∀ a x, ((![v223, v350] : Fin 2 → IVec S16 32) a x).toNat < S512x32.size a := fun v151 v223 v350 k0_hw663 k0_h12 => k0_hw663 k0_h12

def k0_chk664 (v151 : BitVec 32) (v358 : IVec S16 32) (v364 : IVec S16 32) : Prop :=
  (∀ (k0_h12 : k0_cond12 v151 = 1#1), ∀ a x, ((![v358, v364] : Fin 2 → IVec S16 32) a x).toNat < S32x512.size a)
theorem k0_idx670_inb : ∀ (v151 : BitVec 32) (v358 : IVec S16 32) (v364 : IVec S16 32) (k0_hw664 : k0_chk664 v151 v358 v364), ∀ (k0_h12 : k0_cond12 v151 = 1#1), ∀ a x, ((![v358, v364] : Fin 2 → IVec S16 32) a x).toNat < S32x512.size a := fun v151 v358 v364 k0_hw664 k0_h12 => k0_hw664 k0_h12

def k0_chk665 (v151 : BitVec 32) (v223 : IVec S16 32) (v358 : IVec S16 32) : Prop :=
  (∀ (k0_h12 : k0_cond12 v151 = 1#1), ∀ a x, ((![v223, v358] : Fin 2 → IVec S16 32) a x).toNat < S512x32.size a)
theorem k0_idx671_inb : ∀ (v151 : BitVec 32) (v223 : IVec S16 32) (v358 : IVec S16 32) (k0_hw665 : k0_chk665 v151 v223 v358), ∀ (k0_h12 : k0_cond12 v151 = 1#1), ∀ a x, ((![v223, v358] : Fin 2 → IVec S16 32) a x).toNat < S512x32.size a := fun v151 v223 v358 k0_hw665 k0_h12 => k0_hw665 k0_h12

def k0_chk666 (v151 : BitVec 32) (v366 : IVec S16 32) (v372 : IVec S16 32) : Prop :=
  (∀ (k0_h12 : k0_cond12 v151 = 1#1), ∀ a x, ((![v366, v372] : Fin 2 → IVec S16 32) a x).toNat < S32x512.size a)
theorem k0_idx672_inb : ∀ (v151 : BitVec 32) (v366 : IVec S16 32) (v372 : IVec S16 32) (k0_hw666 : k0_chk666 v151 v366 v372), ∀ (k0_h12 : k0_cond12 v151 = 1#1), ∀ a x, ((![v366, v372] : Fin 2 → IVec S16 32) a x).toNat < S32x512.size a := fun v151 v366 v372 k0_hw666 k0_h12 => k0_hw666 k0_h12

def k0_chk667 (v151 : BitVec 32) (v223 : IVec S16 32) (v366 : IVec S16 32) : Prop :=
  (∀ (k0_h12 : k0_cond12 v151 = 1#1), ∀ a x, ((![v223, v366] : Fin 2 → IVec S16 32) a x).toNat < S512x32.size a)
theorem k0_idx673_inb : ∀ (v151 : BitVec 32) (v223 : IVec S16 32) (v366 : IVec S16 32) (k0_hw667 : k0_chk667 v151 v223 v366), ∀ (k0_h12 : k0_cond12 v151 = 1#1), ∀ a x, ((![v223, v366] : Fin 2 → IVec S16 32) a x).toNat < S512x32.size a := fun v151 v223 v366 k0_hw667 k0_h12 => k0_hw667 k0_h12

def k0_chk668 (v151 : BitVec 32) (v374 : IVec S16 32) (v380 : IVec S16 32) : Prop :=
  (∀ (k0_h12 : k0_cond12 v151 = 1#1), ∀ a x, ((![v374, v380] : Fin 2 → IVec S16 32) a x).toNat < S32x512.size a)
theorem k0_idx674_inb : ∀ (v151 : BitVec 32) (v374 : IVec S16 32) (v380 : IVec S16 32) (k0_hw668 : k0_chk668 v151 v374 v380), ∀ (k0_h12 : k0_cond12 v151 = 1#1), ∀ a x, ((![v374, v380] : Fin 2 → IVec S16 32) a x).toNat < S32x512.size a := fun v151 v374 v380 k0_hw668 k0_h12 => k0_hw668 k0_h12

def k0_chk669 (v151 : BitVec 32) (v223 : IVec S16 32) (v374 : IVec S16 32) : Prop :=
  (∀ (k0_h12 : k0_cond12 v151 = 1#1), ∀ a x, ((![v223, v374] : Fin 2 → IVec S16 32) a x).toNat < S512x32.size a)
theorem k0_idx675_inb : ∀ (v151 : BitVec 32) (v223 : IVec S16 32) (v374 : IVec S16 32) (k0_hw669 : k0_chk669 v151 v223 v374), ∀ (k0_h12 : k0_cond12 v151 = 1#1), ∀ a x, ((![v223, v374] : Fin 2 → IVec S16 32) a x).toNat < S512x32.size a := fun v151 v223 v374 k0_hw669 k0_h12 => k0_hw669 k0_h12

def k0_chk670 (v151 : BitVec 32) (v382 : IVec S16 32) (v388 : IVec S16 32) : Prop :=
  (∀ (k0_h12 : k0_cond12 v151 = 1#1), ∀ a x, ((![v382, v388] : Fin 2 → IVec S16 32) a x).toNat < S32x512.size a)
theorem k0_idx676_inb : ∀ (v151 : BitVec 32) (v382 : IVec S16 32) (v388 : IVec S16 32) (k0_hw670 : k0_chk670 v151 v382 v388), ∀ (k0_h12 : k0_cond12 v151 = 1#1), ∀ a x, ((![v382, v388] : Fin 2 → IVec S16 32) a x).toNat < S32x512.size a := fun v151 v382 v388 k0_hw670 k0_h12 => k0_hw670 k0_h12

def k0_chk671 (v151 : BitVec 32) (v223 : IVec S16 32) (v382 : IVec S16 32) : Prop :=
  (∀ (k0_h12 : k0_cond12 v151 = 1#1), ∀ a x, ((![v223, v382] : Fin 2 → IVec S16 32) a x).toNat < S512x32.size a)
theorem k0_idx677_inb : ∀ (v151 : BitVec 32) (v223 : IVec S16 32) (v382 : IVec S16 32) (k0_hw671 : k0_chk671 v151 v223 v382), ∀ (k0_h12 : k0_cond12 v151 = 1#1), ∀ a x, ((![v223, v382] : Fin 2 → IVec S16 32) a x).toNat < S512x32.size a := fun v151 v223 v382 k0_hw671 k0_h12 => k0_hw671 k0_h12

def k0_chk672 (v151 : BitVec 32) (v390 : IVec S16 32) (v396 : IVec S16 32) : Prop :=
  (∀ (k0_h12 : k0_cond12 v151 = 1#1), ∀ a x, ((![v390, v396] : Fin 2 → IVec S16 32) a x).toNat < S32x512.size a)
theorem k0_idx678_inb : ∀ (v151 : BitVec 32) (v390 : IVec S16 32) (v396 : IVec S16 32) (k0_hw672 : k0_chk672 v151 v390 v396), ∀ (k0_h12 : k0_cond12 v151 = 1#1), ∀ a x, ((![v390, v396] : Fin 2 → IVec S16 32) a x).toNat < S32x512.size a := fun v151 v390 v396 k0_hw672 k0_h12 => k0_hw672 k0_h12

def k0_chk673 (v151 : BitVec 32) (v223 : IVec S16 32) (v390 : IVec S16 32) : Prop :=
  (∀ (k0_h12 : k0_cond12 v151 = 1#1), ∀ a x, ((![v223, v390] : Fin 2 → IVec S16 32) a x).toNat < S512x32.size a)
theorem k0_idx679_inb : ∀ (v151 : BitVec 32) (v223 : IVec S16 32) (v390 : IVec S16 32) (k0_hw673 : k0_chk673 v151 v223 v390), ∀ (k0_h12 : k0_cond12 v151 = 1#1), ∀ a x, ((![v223, v390] : Fin 2 → IVec S16 32) a x).toNat < S512x32.size a := fun v151 v223 v390 k0_hw673 k0_h12 => k0_hw673 k0_h12

def k0_chk674 (v151 : BitVec 32) (v398 : IVec S16 32) (v404 : IVec S16 32) : Prop :=
  (∀ (k0_h12 : k0_cond12 v151 = 1#1), ∀ a x, ((![v398, v404] : Fin 2 → IVec S16 32) a x).toNat < S32x512.size a)
theorem k0_idx680_inb : ∀ (v151 : BitVec 32) (v398 : IVec S16 32) (v404 : IVec S16 32) (k0_hw674 : k0_chk674 v151 v398 v404), ∀ (k0_h12 : k0_cond12 v151 = 1#1), ∀ a x, ((![v398, v404] : Fin 2 → IVec S16 32) a x).toNat < S32x512.size a := fun v151 v398 v404 k0_hw674 k0_h12 => k0_hw674 k0_h12

def k0_chk675 (v151 : BitVec 32) (v223 : IVec S16 32) (v398 : IVec S16 32) : Prop :=
  (∀ (k0_h12 : k0_cond12 v151 = 1#1), ∀ a x, ((![v223, v398] : Fin 2 → IVec S16 32) a x).toNat < S512x32.size a)
theorem k0_idx681_inb : ∀ (v151 : BitVec 32) (v223 : IVec S16 32) (v398 : IVec S16 32) (k0_hw675 : k0_chk675 v151 v223 v398), ∀ (k0_h12 : k0_cond12 v151 = 1#1), ∀ a x, ((![v223, v398] : Fin 2 → IVec S16 32) a x).toNat < S512x32.size a := fun v151 v223 v398 k0_hw675 k0_h12 => k0_hw675 k0_h12

def k0_chk676 (v151 : BitVec 32) (v406 : IVec S16 32) (v412 : IVec S16 32) : Prop :=
  (∀ (k0_h12 : k0_cond12 v151 = 1#1), ∀ a x, ((![v406, v412] : Fin 2 → IVec S16 32) a x).toNat < S32x512.size a)
theorem k0_idx682_inb : ∀ (v151 : BitVec 32) (v406 : IVec S16 32) (v412 : IVec S16 32) (k0_hw676 : k0_chk676 v151 v406 v412), ∀ (k0_h12 : k0_cond12 v151 = 1#1), ∀ a x, ((![v406, v412] : Fin 2 → IVec S16 32) a x).toNat < S32x512.size a := fun v151 v406 v412 k0_hw676 k0_h12 => k0_hw676 k0_h12

def k0_chk677 (v151 : BitVec 32) (v223 : IVec S16 32) (v406 : IVec S16 32) : Prop :=
  (∀ (k0_h12 : k0_cond12 v151 = 1#1), ∀ a x, ((![v223, v406] : Fin 2 → IVec S16 32) a x).toNat < S512x32.size a)
theorem k0_idx683_inb : ∀ (v151 : BitVec 32) (v223 : IVec S16 32) (v406 : IVec S16 32) (k0_hw677 : k0_chk677 v151 v223 v406), ∀ (k0_h12 : k0_cond12 v151 = 1#1), ∀ a x, ((![v223, v406] : Fin 2 → IVec S16 32) a x).toNat < S512x32.size a := fun v151 v223 v406 k0_hw677 k0_h12 => k0_hw677 k0_h12

def k0_chk678 (v151 : BitVec 32) (v414 : IVec S16 32) (v420 : IVec S16 32) : Prop :=
  (∀ (k0_h12 : k0_cond12 v151 = 1#1), ∀ a x, ((![v414, v420] : Fin 2 → IVec S16 32) a x).toNat < S32x512.size a)
theorem k0_idx684_inb : ∀ (v151 : BitVec 32) (v414 : IVec S16 32) (v420 : IVec S16 32) (k0_hw678 : k0_chk678 v151 v414 v420), ∀ (k0_h12 : k0_cond12 v151 = 1#1), ∀ a x, ((![v414, v420] : Fin 2 → IVec S16 32) a x).toNat < S32x512.size a := fun v151 v414 v420 k0_hw678 k0_h12 => k0_hw678 k0_h12

def k0_chk679 (v151 : BitVec 32) (v223 : IVec S16 32) (v414 : IVec S16 32) : Prop :=
  (∀ (k0_h12 : k0_cond12 v151 = 1#1), ∀ a x, ((![v223, v414] : Fin 2 → IVec S16 32) a x).toNat < S512x32.size a)
theorem k0_idx685_inb : ∀ (v151 : BitVec 32) (v223 : IVec S16 32) (v414 : IVec S16 32) (k0_hw679 : k0_chk679 v151 v223 v414), ∀ (k0_h12 : k0_cond12 v151 = 1#1), ∀ a x, ((![v223, v414] : Fin 2 → IVec S16 32) a x).toNat < S512x32.size a := fun v151 v223 v414 k0_hw679 k0_h12 => k0_hw679 k0_h12

def k0_chk680 (v151 : BitVec 32) (v422 : IVec S16 32) (v428 : IVec S16 32) : Prop :=
  (∀ (k0_h12 : k0_cond12 v151 = 1#1), ∀ a x, ((![v422, v428] : Fin 2 → IVec S16 32) a x).toNat < S32x512.size a)
theorem k0_idx686_inb : ∀ (v151 : BitVec 32) (v422 : IVec S16 32) (v428 : IVec S16 32) (k0_hw680 : k0_chk680 v151 v422 v428), ∀ (k0_h12 : k0_cond12 v151 = 1#1), ∀ a x, ((![v422, v428] : Fin 2 → IVec S16 32) a x).toNat < S32x512.size a := fun v151 v422 v428 k0_hw680 k0_h12 => k0_hw680 k0_h12

def k0_chk681 (v151 : BitVec 32) (v223 : IVec S16 32) (v422 : IVec S16 32) : Prop :=
  (∀ (k0_h12 : k0_cond12 v151 = 1#1), ∀ a x, ((![v223, v422] : Fin 2 → IVec S16 32) a x).toNat < S512x32.size a)
theorem k0_idx687_inb : ∀ (v151 : BitVec 32) (v223 : IVec S16 32) (v422 : IVec S16 32) (k0_hw681 : k0_chk681 v151 v223 v422), ∀ (k0_h12 : k0_cond12 v151 = 1#1), ∀ a x, ((![v223, v422] : Fin 2 → IVec S16 32) a x).toNat < S512x32.size a := fun v151 v223 v422 k0_hw681 k0_h12 => k0_hw681 k0_h12

def k0_chk682 (v151 : BitVec 32) (v430 : IVec S16 32) (v436 : IVec S16 32) : Prop :=
  (∀ (k0_h12 : k0_cond12 v151 = 1#1), ∀ a x, ((![v430, v436] : Fin 2 → IVec S16 32) a x).toNat < S32x512.size a)
theorem k0_idx688_inb : ∀ (v151 : BitVec 32) (v430 : IVec S16 32) (v436 : IVec S16 32) (k0_hw682 : k0_chk682 v151 v430 v436), ∀ (k0_h12 : k0_cond12 v151 = 1#1), ∀ a x, ((![v430, v436] : Fin 2 → IVec S16 32) a x).toNat < S32x512.size a := fun v151 v430 v436 k0_hw682 k0_h12 => k0_hw682 k0_h12

def k0_chk683 (v151 : BitVec 32) (v223 : IVec S16 32) (v430 : IVec S16 32) : Prop :=
  (∀ (k0_h12 : k0_cond12 v151 = 1#1), ∀ a x, ((![v223, v430] : Fin 2 → IVec S16 32) a x).toNat < S512x32.size a)
theorem k0_idx689_inb : ∀ (v151 : BitVec 32) (v223 : IVec S16 32) (v430 : IVec S16 32) (k0_hw683 : k0_chk683 v151 v223 v430), ∀ (k0_h12 : k0_cond12 v151 = 1#1), ∀ a x, ((![v223, v430] : Fin 2 → IVec S16 32) a x).toNat < S512x32.size a := fun v151 v223 v430 k0_hw683 k0_h12 => k0_hw683 k0_h12

def k0_chk684 (v151 : BitVec 32) (v438 : IVec S16 32) (v444 : IVec S16 32) : Prop :=
  (∀ (k0_h12 : k0_cond12 v151 = 1#1), ∀ a x, ((![v438, v444] : Fin 2 → IVec S16 32) a x).toNat < S32x512.size a)
theorem k0_idx690_inb : ∀ (v151 : BitVec 32) (v438 : IVec S16 32) (v444 : IVec S16 32) (k0_hw684 : k0_chk684 v151 v438 v444), ∀ (k0_h12 : k0_cond12 v151 = 1#1), ∀ a x, ((![v438, v444] : Fin 2 → IVec S16 32) a x).toNat < S32x512.size a := fun v151 v438 v444 k0_hw684 k0_h12 => k0_hw684 k0_h12

def k0_chk685 (v151 : BitVec 32) (v223 : IVec S16 32) (v438 : IVec S16 32) : Prop :=
  (∀ (k0_h12 : k0_cond12 v151 = 1#1), ∀ a x, ((![v223, v438] : Fin 2 → IVec S16 32) a x).toNat < S512x32.size a)
theorem k0_idx691_inb : ∀ (v151 : BitVec 32) (v223 : IVec S16 32) (v438 : IVec S16 32) (k0_hw685 : k0_chk685 v151 v223 v438), ∀ (k0_h12 : k0_cond12 v151 = 1#1), ∀ a x, ((![v223, v438] : Fin 2 → IVec S16 32) a x).toNat < S512x32.size a := fun v151 v223 v438 k0_hw685 k0_h12 => k0_hw685 k0_h12

def k0_chk686 (v151 : BitVec 32) (v446 : IVec S16 32) (v452 : IVec S16 32) : Prop :=
  (∀ (k0_h12 : k0_cond12 v151 = 1#1), ∀ a x, ((![v446, v452] : Fin 2 → IVec S16 32) a x).toNat < S32x512.size a)
theorem k0_idx692_inb : ∀ (v151 : BitVec 32) (v446 : IVec S16 32) (v452 : IVec S16 32) (k0_hw686 : k0_chk686 v151 v446 v452), ∀ (k0_h12 : k0_cond12 v151 = 1#1), ∀ a x, ((![v446, v452] : Fin 2 → IVec S16 32) a x).toNat < S32x512.size a := fun v151 v446 v452 k0_hw686 k0_h12 => k0_hw686 k0_h12

def k0_chk687 (v151 : BitVec 32) (v223 : IVec S16 32) (v446 : IVec S16 32) : Prop :=
  (∀ (k0_h12 : k0_cond12 v151 = 1#1), ∀ a x, ((![v223, v446] : Fin 2 → IVec S16 32) a x).toNat < S512x32.size a)
theorem k0_idx693_inb : ∀ (v151 : BitVec 32) (v223 : IVec S16 32) (v446 : IVec S16 32) (k0_hw687 : k0_chk687 v151 v223 v446), ∀ (k0_h12 : k0_cond12 v151 = 1#1), ∀ a x, ((![v223, v446] : Fin 2 → IVec S16 32) a x).toNat < S512x32.size a := fun v151 v223 v446 k0_hw687 k0_h12 => k0_hw687 k0_h12

def k0_chk688 (v151 : BitVec 32) (v454 : IVec S16 32) (v460 : IVec S16 32) : Prop :=
  (∀ (k0_h12 : k0_cond12 v151 = 1#1), ∀ a x, ((![v454, v460] : Fin 2 → IVec S16 32) a x).toNat < S32x512.size a)
theorem k0_idx694_inb : ∀ (v151 : BitVec 32) (v454 : IVec S16 32) (v460 : IVec S16 32) (k0_hw688 : k0_chk688 v151 v454 v460), ∀ (k0_h12 : k0_cond12 v151 = 1#1), ∀ a x, ((![v454, v460] : Fin 2 → IVec S16 32) a x).toNat < S32x512.size a := fun v151 v454 v460 k0_hw688 k0_h12 => k0_hw688 k0_h12

def k0_chk689 (v151 : BitVec 32) (v223 : IVec S16 32) (v454 : IVec S16 32) : Prop :=
  (∀ (k0_h12 : k0_cond12 v151 = 1#1), ∀ a x, ((![v223, v454] : Fin 2 → IVec S16 32) a x).toNat < S512x32.size a)
theorem k0_idx695_inb : ∀ (v151 : BitVec 32) (v223 : IVec S16 32) (v454 : IVec S16 32) (k0_hw689 : k0_chk689 v151 v223 v454), ∀ (k0_h12 : k0_cond12 v151 = 1#1), ∀ a x, ((![v223, v454] : Fin 2 → IVec S16 32) a x).toNat < S512x32.size a := fun v151 v223 v454 k0_hw689 k0_h12 => k0_hw689 k0_h12

def k0_chk690 (v151 : BitVec 32) (v462 : IVec S16 32) (v468 : IVec S16 32) : Prop :=
  (∀ (k0_h12 : k0_cond12 v151 = 1#1), ∀ a x, ((![v462, v468] : Fin 2 → IVec S16 32) a x).toNat < S32x512.size a)
theorem k0_idx696_inb : ∀ (v151 : BitVec 32) (v462 : IVec S16 32) (v468 : IVec S16 32) (k0_hw690 : k0_chk690 v151 v462 v468), ∀ (k0_h12 : k0_cond12 v151 = 1#1), ∀ a x, ((![v462, v468] : Fin 2 → IVec S16 32) a x).toNat < S32x512.size a := fun v151 v462 v468 k0_hw690 k0_h12 => k0_hw690 k0_h12

def k0_chk691 (v151 : BitVec 32) (v223 : IVec S16 32) (v462 : IVec S16 32) : Prop :=
  (∀ (k0_h12 : k0_cond12 v151 = 1#1), ∀ a x, ((![v223, v462] : Fin 2 → IVec S16 32) a x).toNat < S512x32.size a)
theorem k0_idx697_inb : ∀ (v151 : BitVec 32) (v223 : IVec S16 32) (v462 : IVec S16 32) (k0_hw691 : k0_chk691 v151 v223 v462), ∀ (k0_h12 : k0_cond12 v151 = 1#1), ∀ a x, ((![v223, v462] : Fin 2 → IVec S16 32) a x).toNat < S512x32.size a := fun v151 v223 v462 k0_hw691 k0_h12 => k0_hw691 k0_h12

def k0_chk692 (v151 : BitVec 32) (v470 : IVec S16 32) (v476 : IVec S16 32) : Prop :=
  (∀ (k0_h12 : k0_cond12 v151 = 1#1), ∀ a x, ((![v470, v476] : Fin 2 → IVec S16 32) a x).toNat < S32x512.size a)
theorem k0_idx698_inb : ∀ (v151 : BitVec 32) (v470 : IVec S16 32) (v476 : IVec S16 32) (k0_hw692 : k0_chk692 v151 v470 v476), ∀ (k0_h12 : k0_cond12 v151 = 1#1), ∀ a x, ((![v470, v476] : Fin 2 → IVec S16 32) a x).toNat < S32x512.size a := fun v151 v470 v476 k0_hw692 k0_h12 => k0_hw692 k0_h12

def k0_chk693 (v151 : BitVec 32) (v223 : IVec S16 32) (v470 : IVec S16 32) : Prop :=
  (∀ (k0_h12 : k0_cond12 v151 = 1#1), ∀ a x, ((![v223, v470] : Fin 2 → IVec S16 32) a x).toNat < S512x32.size a)
theorem k0_idx699_inb : ∀ (v151 : BitVec 32) (v223 : IVec S16 32) (v470 : IVec S16 32) (k0_hw693 : k0_chk693 v151 v223 v470), ∀ (k0_h12 : k0_cond12 v151 = 1#1), ∀ a x, ((![v223, v470] : Fin 2 → IVec S16 32) a x).toNat < S512x32.size a := fun v151 v223 v470 k0_hw693 k0_h12 => k0_hw693 k0_h12

def k0_chk694 (v151 : BitVec 32) (v478 : IVec S16 32) (v484 : IVec S16 32) : Prop :=
  (∀ (k0_h12 : k0_cond12 v151 = 1#1), ∀ a x, ((![v478, v484] : Fin 2 → IVec S16 32) a x).toNat < S32x512.size a)
theorem k0_idx700_inb : ∀ (v151 : BitVec 32) (v478 : IVec S16 32) (v484 : IVec S16 32) (k0_hw694 : k0_chk694 v151 v478 v484), ∀ (k0_h12 : k0_cond12 v151 = 1#1), ∀ a x, ((![v478, v484] : Fin 2 → IVec S16 32) a x).toNat < S32x512.size a := fun v151 v478 v484 k0_hw694 k0_h12 => k0_hw694 k0_h12

def k0_chk695 (v151 : BitVec 32) (v223 : IVec S16 32) (v478 : IVec S16 32) : Prop :=
  (∀ (k0_h12 : k0_cond12 v151 = 1#1), ∀ a x, ((![v223, v478] : Fin 2 → IVec S16 32) a x).toNat < S512x32.size a)
theorem k0_idx701_inb : ∀ (v151 : BitVec 32) (v223 : IVec S16 32) (v478 : IVec S16 32) (k0_hw695 : k0_chk695 v151 v223 v478), ∀ (k0_h12 : k0_cond12 v151 = 1#1), ∀ a x, ((![v223, v478] : Fin 2 → IVec S16 32) a x).toNat < S512x32.size a := fun v151 v223 v478 k0_hw695 k0_h12 => k0_hw695 k0_h12
@[reducible] def k0_t49_loop : Scf.Loop 32 :=
  let c0_i32_59 : BitVec 32 := 0#32
  let c32_i32_60 : BitVec 32 := 32#32
  let v71 : BitVec 32 := Scalar.addi c0_i32_59 c32_i32_60
  let c1_i32_61 : BitVec 32 := 1#32
  ⟨c0_i32_59, v71, c1_i32_61⟩
def k0_off35 (k0_t49 : Fin k0_t49_loop.trips) : Fin 1 → Nat :=
  let c0_i32_59 : BitVec 32 := 0#32
  let c1_i32_61 : BitVec 32 := 1#32
  let arg24 : BitVec 32 := Scf.iv c0_i32_59 c1_i32_61 k0_t49
  let c16_i32 : BitVec 32 := 16#32
  let v140 : BitVec 32 := Scalar.muli arg24 c16_i32
  let v141 : Index := Scalar.indexCast v140
  ![v141.toNat]

def k0_chk696 (v153 : IVec S16 32) : Prop :=
  (∀ a x, ((![v153] : Fin 1 → IVec S16 32) a x).toNat < S512.size a)
theorem k0_idx702_inb : ∀ (v153 : IVec S16 32) (k0_hw696 : k0_chk696 v153), ∀ a x, ((![v153] : Fin 1 → IVec S16 32) a x).toNat < S512.size a := fun v153 k0_hw696 => k0_hw696
@[reducible] def k0_t50_loop (v72 : BitVec 32) : Scf.Loop 32 :=
  let c0_i32_172 : BitVec 32 := 0#32
  let c15_i32 : BitVec 32 := 15#32
  let v140 : BitVec 32 := Scalar.addi v72 c15_i32
  let c0_i32_166 : BitVec 32 := 0#32
  let v142 : BitVec 1 := Scalar.cmpi .sgt v140 c0_i32_166
  let v143 : BitVec 32 := Scalar.extui v142
  let c0_i32_167 : BitVec 32 := 0#32
  let v144 : BitVec 1 := Scalar.cmpi .slt v140 c0_i32_167
  let v145 : BitVec 32 := Scalar.extui v144
  let v146 : BitVec 32 := Scalar.subi v143 v145
  let c16_i32 : BitVec 32 := 16#32
  let c0_i32_168 : BitVec 32 := 0#32
  let v147 : BitVec 1 := Scalar.cmpi .sgt c16_i32 c0_i32_168
  let v148 : BitVec 32 := Scalar.extui v147
  let c0_i32_169 : BitVec 32 := 0#32
  let v149 : BitVec 1 := Scalar.cmpi .slt c16_i32 c0_i32_169
  let v150 : BitVec 32 := Scalar.extui v149
  let v151 : BitVec 32 := Scalar.subi v148 v150
  let v152 : BitVec 1 := Scalar.cmpi .ne v146 v151
  let v153 : BitVec 32 := Scalar.remsi v140 c16_i32
  let c0_i32_170 : BitVec 32 := 0#32
  let v154 : BitVec 1 := Scalar.cmpi .ne v153 c0_i32_170
  let v155 : BitVec 1 := Scalar.andi v152 v154
  let v141 : BitVec 32 := Scalar.divsi v140 c16_i32
  let c1_i32_171 : BitVec 32 := 1#32
  let v156 : BitVec 32 := Scalar.subi v141 c1_i32_171
  let v157 : BitVec 32 := Scalar.select v155 v156 v141
  let v158 : BitVec 32 := Scalar.subi v157 c0_i32_172
  let c1_i32_174 : BitVec 32 := 1#32
  let v160 : BitVec 32 := Scalar.divsi v158 c1_i32_174
  let v161 : BitVec 32 := Scalar.muli v160 c1_i32_174
  let v162 : BitVec 32 := Scalar.addi c0_i32_172 v161
  let c1_i32_175 : BitVec 32 := 1#32
  ⟨c0_i32_172, v162, c1_i32_175⟩
def k0_cond13 (v72 : BitVec 32) : BitVec 1 :=
  let c0_i32_63 : BitVec 32 := 0#32
  let v73 : BitVec 1 := Scalar.cmpi .sgt v72 c0_i32_63
  let v74 : BitVec 32 := Scalar.extui v73
  let c0_i32_64 : BitVec 32 := 0#32
  let v75 : BitVec 1 := Scalar.cmpi .ne v74 c0_i32_64
  v75

def k0_off36 (v72 : BitVec 32) (k0_t50 : Fin (k0_t50_loop v72).trips) : Fin 1 → Nat :=
  let c0_i32_172 : BitVec 32 := 0#32
  let c1_i32_175 : BitVec 32 := 1#32
  let arg24 : BitVec 32 := Scf.iv c0_i32_172 c1_i32_175 k0_t50
  let c16_i32_178 : BitVec 32 := 16#32
  let v170 : BitVec 32 := Scalar.muli arg24 c16_i32_178
  let v171 : Index := Scalar.indexCast v170
  ![v171.toNat]

def k0_chk698 (v72 : BitVec 32) (v172 : IVec S16 32) : Prop :=
  (∀ (k0_h13 : k0_cond13 v72 = 1#1), ∀ a x, ((![v172] : Fin 1 → IVec S16 32) a x).toNat < S1024.size a) ∧
  (∀ (k0_h13 : k0_cond13 v72 = 1#1), ∀ a x, ((![v172] : Fin 1 → IVec S16 32) a x).toNat < S1024.size a)
theorem k0_idx703_inb : ∀ (v72 : BitVec 32) (v172 : IVec S16 32) (k0_hw698 : k0_chk698 v72 v172), ∀ (k0_h13 : k0_cond13 v72 = 1#1), ∀ a x, ((![v172] : Fin 1 → IVec S16 32) a x).toNat < S1024.size a := fun v72 v172 k0_hw698 k0_h13 => k0_hw698.1 k0_h13
theorem k0_idx704_inb : ∀ (v72 : BitVec 32) (v172 : IVec S16 32) (k0_hw698 : k0_chk698 v72 v172), ∀ (k0_h13 : k0_cond13 v72 = 1#1), ∀ a x, ((![v172] : Fin 1 → IVec S16 32) a x).toNat < S1024.size a := fun v72 v172 k0_hw698 k0_h13 => k0_hw698.2 k0_h13

def k0_chk699 (v72 : BitVec 32) (v176 : IVec S16 32) (v178 : IVec S16 32) : Prop :=
  (∀ (k0_h13 : k0_cond13 v72 = 1#1), ∀ a x, ((![v176, v178] : Fin 2 → IVec S16 32) a x).toNat < S8x64.size a)
theorem k0_idx705_inb : ∀ (v72 : BitVec 32) (v176 : IVec S16 32) (v178 : IVec S16 32) (k0_hw699 : k0_chk699 v72 v176 v178), ∀ (k0_h13 : k0_cond13 v72 = 1#1), ∀ a x, ((![v176, v178] : Fin 2 → IVec S16 32) a x).toNat < S8x64.size a := fun v72 v176 v178 k0_hw699 k0_h13 => k0_hw699 k0_h13

def k0_chk700 (v72 : BitVec 32) (v179 : IVec S16 32) (v185 : IVec S16 32) : Prop :=
  (∀ (k0_h13 : k0_cond13 v72 = 1#1), ∀ a x, ((![v185, v179] : Fin 2 → IVec S16 32) a x).toNat < S64x32.size a)
theorem k0_idx706_inb : ∀ (v72 : BitVec 32) (v179 : IVec S16 32) (v185 : IVec S16 32) (k0_hw700 : k0_chk700 v72 v179 v185), ∀ (k0_h13 : k0_cond13 v72 = 1#1), ∀ a x, ((![v185, v179] : Fin 2 → IVec S16 32) a x).toNat < S64x32.size a := fun v72 v179 v185 k0_hw700 k0_h13 => k0_hw700 k0_h13

def k0_chk701 (v72 : BitVec 32) (v172 : IVec S16 32) (v179 : IVec S16 32) : Prop :=
  (∀ (k0_h13 : k0_cond13 v72 = 1#1), ∀ a x, ((![v172, v179] : Fin 2 → IVec S16 32) a x).toNat < S512x32.size a)
theorem k0_idx707_inb : ∀ (v72 : BitVec 32) (v172 : IVec S16 32) (v179 : IVec S16 32) (k0_hw701 : k0_chk701 v72 v172 v179), ∀ (k0_h13 : k0_cond13 v72 = 1#1), ∀ a x, ((![v172, v179] : Fin 2 → IVec S16 32) a x).toNat < S512x32.size a := fun v72 v172 v179 k0_hw701 k0_h13 => k0_hw701 k0_h13

def k0_chk702 (v72 : BitVec 32) (v187 : IVec S16 32) (v193 : IVec S16 32) : Prop :=
  (∀ (k0_h13 : k0_cond13 v72 = 1#1), ∀ a x, ((![v193, v187] : Fin 2 → IVec S16 32) a x).toNat < S64x32.size a)
theorem k0_idx708_inb : ∀ (v72 : BitVec 32) (v187 : IVec S16 32) (v193 : IVec S16 32) (k0_hw702 : k0_chk702 v72 v187 v193), ∀ (k0_h13 : k0_cond13 v72 = 1#1), ∀ a x, ((![v193, v187] : Fin 2 → IVec S16 32) a x).toNat < S64x32.size a := fun v72 v187 v193 k0_hw702 k0_h13 => k0_hw702 k0_h13

def k0_chk703 (v72 : BitVec 32) (v172 : IVec S16 32) (v187 : IVec S16 32) : Prop :=
  (∀ (k0_h13 : k0_cond13 v72 = 1#1), ∀ a x, ((![v172, v187] : Fin 2 → IVec S16 32) a x).toNat < S512x32.size a)
theorem k0_idx709_inb : ∀ (v72 : BitVec 32) (v172 : IVec S16 32) (v187 : IVec S16 32) (k0_hw703 : k0_chk703 v72 v172 v187), ∀ (k0_h13 : k0_cond13 v72 = 1#1), ∀ a x, ((![v172, v187] : Fin 2 → IVec S16 32) a x).toNat < S512x32.size a := fun v72 v172 v187 k0_hw703 k0_h13 => k0_hw703 k0_h13

def k0_chk704 (v72 : BitVec 32) (v195 : IVec S16 32) (v201 : IVec S16 32) : Prop :=
  (∀ (k0_h13 : k0_cond13 v72 = 1#1), ∀ a x, ((![v201, v195] : Fin 2 → IVec S16 32) a x).toNat < S64x32.size a)
theorem k0_idx710_inb : ∀ (v72 : BitVec 32) (v195 : IVec S16 32) (v201 : IVec S16 32) (k0_hw704 : k0_chk704 v72 v195 v201), ∀ (k0_h13 : k0_cond13 v72 = 1#1), ∀ a x, ((![v201, v195] : Fin 2 → IVec S16 32) a x).toNat < S64x32.size a := fun v72 v195 v201 k0_hw704 k0_h13 => k0_hw704 k0_h13

def k0_chk705 (v72 : BitVec 32) (v172 : IVec S16 32) (v195 : IVec S16 32) : Prop :=
  (∀ (k0_h13 : k0_cond13 v72 = 1#1), ∀ a x, ((![v172, v195] : Fin 2 → IVec S16 32) a x).toNat < S512x32.size a)
theorem k0_idx711_inb : ∀ (v72 : BitVec 32) (v172 : IVec S16 32) (v195 : IVec S16 32) (k0_hw705 : k0_chk705 v72 v172 v195), ∀ (k0_h13 : k0_cond13 v72 = 1#1), ∀ a x, ((![v172, v195] : Fin 2 → IVec S16 32) a x).toNat < S512x32.size a := fun v72 v172 v195 k0_hw705 k0_h13 => k0_hw705 k0_h13

def k0_chk706 (v72 : BitVec 32) (v203 : IVec S16 32) (v209 : IVec S16 32) : Prop :=
  (∀ (k0_h13 : k0_cond13 v72 = 1#1), ∀ a x, ((![v209, v203] : Fin 2 → IVec S16 32) a x).toNat < S64x32.size a)
theorem k0_idx712_inb : ∀ (v72 : BitVec 32) (v203 : IVec S16 32) (v209 : IVec S16 32) (k0_hw706 : k0_chk706 v72 v203 v209), ∀ (k0_h13 : k0_cond13 v72 = 1#1), ∀ a x, ((![v209, v203] : Fin 2 → IVec S16 32) a x).toNat < S64x32.size a := fun v72 v203 v209 k0_hw706 k0_h13 => k0_hw706 k0_h13

def k0_chk707 (v72 : BitVec 32) (v172 : IVec S16 32) (v203 : IVec S16 32) : Prop :=
  (∀ (k0_h13 : k0_cond13 v72 = 1#1), ∀ a x, ((![v172, v203] : Fin 2 → IVec S16 32) a x).toNat < S512x32.size a)
theorem k0_idx713_inb : ∀ (v72 : BitVec 32) (v172 : IVec S16 32) (v203 : IVec S16 32) (k0_hw707 : k0_chk707 v72 v172 v203), ∀ (k0_h13 : k0_cond13 v72 = 1#1), ∀ a x, ((![v172, v203] : Fin 2 → IVec S16 32) a x).toNat < S512x32.size a := fun v72 v172 v203 k0_hw707 k0_h13 => k0_hw707 k0_h13

def k0_chk708 (v72 : BitVec 32) (v211 : IVec S16 32) (v217 : IVec S16 32) : Prop :=
  (∀ (k0_h13 : k0_cond13 v72 = 1#1), ∀ a x, ((![v217, v211] : Fin 2 → IVec S16 32) a x).toNat < S64x32.size a)
theorem k0_idx714_inb : ∀ (v72 : BitVec 32) (v211 : IVec S16 32) (v217 : IVec S16 32) (k0_hw708 : k0_chk708 v72 v211 v217), ∀ (k0_h13 : k0_cond13 v72 = 1#1), ∀ a x, ((![v217, v211] : Fin 2 → IVec S16 32) a x).toNat < S64x32.size a := fun v72 v211 v217 k0_hw708 k0_h13 => k0_hw708 k0_h13

def k0_chk709 (v72 : BitVec 32) (v172 : IVec S16 32) (v211 : IVec S16 32) : Prop :=
  (∀ (k0_h13 : k0_cond13 v72 = 1#1), ∀ a x, ((![v172, v211] : Fin 2 → IVec S16 32) a x).toNat < S512x32.size a)
theorem k0_idx715_inb : ∀ (v72 : BitVec 32) (v172 : IVec S16 32) (v211 : IVec S16 32) (k0_hw709 : k0_chk709 v72 v172 v211), ∀ (k0_h13 : k0_cond13 v72 = 1#1), ∀ a x, ((![v172, v211] : Fin 2 → IVec S16 32) a x).toNat < S512x32.size a := fun v72 v172 v211 k0_hw709 k0_h13 => k0_hw709 k0_h13

def k0_chk710 (v72 : BitVec 32) (v219 : IVec S16 32) (v225 : IVec S16 32) : Prop :=
  (∀ (k0_h13 : k0_cond13 v72 = 1#1), ∀ a x, ((![v225, v219] : Fin 2 → IVec S16 32) a x).toNat < S64x32.size a)
theorem k0_idx716_inb : ∀ (v72 : BitVec 32) (v219 : IVec S16 32) (v225 : IVec S16 32) (k0_hw710 : k0_chk710 v72 v219 v225), ∀ (k0_h13 : k0_cond13 v72 = 1#1), ∀ a x, ((![v225, v219] : Fin 2 → IVec S16 32) a x).toNat < S64x32.size a := fun v72 v219 v225 k0_hw710 k0_h13 => k0_hw710 k0_h13

def k0_chk711 (v72 : BitVec 32) (v172 : IVec S16 32) (v219 : IVec S16 32) : Prop :=
  (∀ (k0_h13 : k0_cond13 v72 = 1#1), ∀ a x, ((![v172, v219] : Fin 2 → IVec S16 32) a x).toNat < S512x32.size a)
theorem k0_idx717_inb : ∀ (v72 : BitVec 32) (v172 : IVec S16 32) (v219 : IVec S16 32) (k0_hw711 : k0_chk711 v72 v172 v219), ∀ (k0_h13 : k0_cond13 v72 = 1#1), ∀ a x, ((![v172, v219] : Fin 2 → IVec S16 32) a x).toNat < S512x32.size a := fun v72 v172 v219 k0_hw711 k0_h13 => k0_hw711 k0_h13

def k0_chk712 (v72 : BitVec 32) (v227 : IVec S16 32) (v233 : IVec S16 32) : Prop :=
  (∀ (k0_h13 : k0_cond13 v72 = 1#1), ∀ a x, ((![v233, v227] : Fin 2 → IVec S16 32) a x).toNat < S64x32.size a)
theorem k0_idx718_inb : ∀ (v72 : BitVec 32) (v227 : IVec S16 32) (v233 : IVec S16 32) (k0_hw712 : k0_chk712 v72 v227 v233), ∀ (k0_h13 : k0_cond13 v72 = 1#1), ∀ a x, ((![v233, v227] : Fin 2 → IVec S16 32) a x).toNat < S64x32.size a := fun v72 v227 v233 k0_hw712 k0_h13 => k0_hw712 k0_h13

def k0_chk713 (v72 : BitVec 32) (v172 : IVec S16 32) (v227 : IVec S16 32) : Prop :=
  (∀ (k0_h13 : k0_cond13 v72 = 1#1), ∀ a x, ((![v172, v227] : Fin 2 → IVec S16 32) a x).toNat < S512x32.size a)
theorem k0_idx719_inb : ∀ (v72 : BitVec 32) (v172 : IVec S16 32) (v227 : IVec S16 32) (k0_hw713 : k0_chk713 v72 v172 v227), ∀ (k0_h13 : k0_cond13 v72 = 1#1), ∀ a x, ((![v172, v227] : Fin 2 → IVec S16 32) a x).toNat < S512x32.size a := fun v72 v172 v227 k0_hw713 k0_h13 => k0_hw713 k0_h13

def k0_chk714 (v72 : BitVec 32) (v235 : IVec S16 32) (v241 : IVec S16 32) : Prop :=
  (∀ (k0_h13 : k0_cond13 v72 = 1#1), ∀ a x, ((![v241, v235] : Fin 2 → IVec S16 32) a x).toNat < S64x32.size a)
theorem k0_idx720_inb : ∀ (v72 : BitVec 32) (v235 : IVec S16 32) (v241 : IVec S16 32) (k0_hw714 : k0_chk714 v72 v235 v241), ∀ (k0_h13 : k0_cond13 v72 = 1#1), ∀ a x, ((![v241, v235] : Fin 2 → IVec S16 32) a x).toNat < S64x32.size a := fun v72 v235 v241 k0_hw714 k0_h13 => k0_hw714 k0_h13

def k0_chk715 (v72 : BitVec 32) (v172 : IVec S16 32) (v235 : IVec S16 32) : Prop :=
  (∀ (k0_h13 : k0_cond13 v72 = 1#1), ∀ a x, ((![v172, v235] : Fin 2 → IVec S16 32) a x).toNat < S512x32.size a)
theorem k0_idx721_inb : ∀ (v72 : BitVec 32) (v172 : IVec S16 32) (v235 : IVec S16 32) (k0_hw715 : k0_chk715 v72 v172 v235), ∀ (k0_h13 : k0_cond13 v72 = 1#1), ∀ a x, ((![v172, v235] : Fin 2 → IVec S16 32) a x).toNat < S512x32.size a := fun v72 v172 v235 k0_hw715 k0_h13 => k0_hw715 k0_h13

def k0_chk716 (v72 : BitVec 32) (v243 : IVec S16 32) (v249 : IVec S16 32) : Prop :=
  (∀ (k0_h13 : k0_cond13 v72 = 1#1), ∀ a x, ((![v249, v243] : Fin 2 → IVec S16 32) a x).toNat < S64x32.size a)
theorem k0_idx722_inb : ∀ (v72 : BitVec 32) (v243 : IVec S16 32) (v249 : IVec S16 32) (k0_hw716 : k0_chk716 v72 v243 v249), ∀ (k0_h13 : k0_cond13 v72 = 1#1), ∀ a x, ((![v249, v243] : Fin 2 → IVec S16 32) a x).toNat < S64x32.size a := fun v72 v243 v249 k0_hw716 k0_h13 => k0_hw716 k0_h13

def k0_chk717 (v72 : BitVec 32) (v172 : IVec S16 32) (v243 : IVec S16 32) : Prop :=
  (∀ (k0_h13 : k0_cond13 v72 = 1#1), ∀ a x, ((![v172, v243] : Fin 2 → IVec S16 32) a x).toNat < S512x32.size a)
theorem k0_idx723_inb : ∀ (v72 : BitVec 32) (v172 : IVec S16 32) (v243 : IVec S16 32) (k0_hw717 : k0_chk717 v72 v172 v243), ∀ (k0_h13 : k0_cond13 v72 = 1#1), ∀ a x, ((![v172, v243] : Fin 2 → IVec S16 32) a x).toNat < S512x32.size a := fun v72 v172 v243 k0_hw717 k0_h13 => k0_hw717 k0_h13

def k0_chk718 (v72 : BitVec 32) (v251 : IVec S16 32) (v257 : IVec S16 32) : Prop :=
  (∀ (k0_h13 : k0_cond13 v72 = 1#1), ∀ a x, ((![v257, v251] : Fin 2 → IVec S16 32) a x).toNat < S64x32.size a)
theorem k0_idx724_inb : ∀ (v72 : BitVec 32) (v251 : IVec S16 32) (v257 : IVec S16 32) (k0_hw718 : k0_chk718 v72 v251 v257), ∀ (k0_h13 : k0_cond13 v72 = 1#1), ∀ a x, ((![v257, v251] : Fin 2 → IVec S16 32) a x).toNat < S64x32.size a := fun v72 v251 v257 k0_hw718 k0_h13 => k0_hw718 k0_h13

def k0_chk719 (v72 : BitVec 32) (v172 : IVec S16 32) (v251 : IVec S16 32) : Prop :=
  (∀ (k0_h13 : k0_cond13 v72 = 1#1), ∀ a x, ((![v172, v251] : Fin 2 → IVec S16 32) a x).toNat < S512x32.size a)
theorem k0_idx725_inb : ∀ (v72 : BitVec 32) (v172 : IVec S16 32) (v251 : IVec S16 32) (k0_hw719 : k0_chk719 v72 v172 v251), ∀ (k0_h13 : k0_cond13 v72 = 1#1), ∀ a x, ((![v172, v251] : Fin 2 → IVec S16 32) a x).toNat < S512x32.size a := fun v72 v172 v251 k0_hw719 k0_h13 => k0_hw719 k0_h13

def k0_chk720 (v72 : BitVec 32) (v259 : IVec S16 32) (v265 : IVec S16 32) : Prop :=
  (∀ (k0_h13 : k0_cond13 v72 = 1#1), ∀ a x, ((![v265, v259] : Fin 2 → IVec S16 32) a x).toNat < S64x32.size a)
theorem k0_idx726_inb : ∀ (v72 : BitVec 32) (v259 : IVec S16 32) (v265 : IVec S16 32) (k0_hw720 : k0_chk720 v72 v259 v265), ∀ (k0_h13 : k0_cond13 v72 = 1#1), ∀ a x, ((![v265, v259] : Fin 2 → IVec S16 32) a x).toNat < S64x32.size a := fun v72 v259 v265 k0_hw720 k0_h13 => k0_hw720 k0_h13

def k0_chk721 (v72 : BitVec 32) (v172 : IVec S16 32) (v259 : IVec S16 32) : Prop :=
  (∀ (k0_h13 : k0_cond13 v72 = 1#1), ∀ a x, ((![v172, v259] : Fin 2 → IVec S16 32) a x).toNat < S512x32.size a)
theorem k0_idx727_inb : ∀ (v72 : BitVec 32) (v172 : IVec S16 32) (v259 : IVec S16 32) (k0_hw721 : k0_chk721 v72 v172 v259), ∀ (k0_h13 : k0_cond13 v72 = 1#1), ∀ a x, ((![v172, v259] : Fin 2 → IVec S16 32) a x).toNat < S512x32.size a := fun v72 v172 v259 k0_hw721 k0_h13 => k0_hw721 k0_h13

def k0_chk722 (v72 : BitVec 32) (v267 : IVec S16 32) (v273 : IVec S16 32) : Prop :=
  (∀ (k0_h13 : k0_cond13 v72 = 1#1), ∀ a x, ((![v273, v267] : Fin 2 → IVec S16 32) a x).toNat < S64x32.size a)
theorem k0_idx728_inb : ∀ (v72 : BitVec 32) (v267 : IVec S16 32) (v273 : IVec S16 32) (k0_hw722 : k0_chk722 v72 v267 v273), ∀ (k0_h13 : k0_cond13 v72 = 1#1), ∀ a x, ((![v273, v267] : Fin 2 → IVec S16 32) a x).toNat < S64x32.size a := fun v72 v267 v273 k0_hw722 k0_h13 => k0_hw722 k0_h13

def k0_chk723 (v72 : BitVec 32) (v172 : IVec S16 32) (v267 : IVec S16 32) : Prop :=
  (∀ (k0_h13 : k0_cond13 v72 = 1#1), ∀ a x, ((![v172, v267] : Fin 2 → IVec S16 32) a x).toNat < S512x32.size a)
theorem k0_idx729_inb : ∀ (v72 : BitVec 32) (v172 : IVec S16 32) (v267 : IVec S16 32) (k0_hw723 : k0_chk723 v72 v172 v267), ∀ (k0_h13 : k0_cond13 v72 = 1#1), ∀ a x, ((![v172, v267] : Fin 2 → IVec S16 32) a x).toNat < S512x32.size a := fun v72 v172 v267 k0_hw723 k0_h13 => k0_hw723 k0_h13

def k0_chk724 (v72 : BitVec 32) (v275 : IVec S16 32) (v281 : IVec S16 32) : Prop :=
  (∀ (k0_h13 : k0_cond13 v72 = 1#1), ∀ a x, ((![v281, v275] : Fin 2 → IVec S16 32) a x).toNat < S64x32.size a)
theorem k0_idx730_inb : ∀ (v72 : BitVec 32) (v275 : IVec S16 32) (v281 : IVec S16 32) (k0_hw724 : k0_chk724 v72 v275 v281), ∀ (k0_h13 : k0_cond13 v72 = 1#1), ∀ a x, ((![v281, v275] : Fin 2 → IVec S16 32) a x).toNat < S64x32.size a := fun v72 v275 v281 k0_hw724 k0_h13 => k0_hw724 k0_h13

def k0_chk725 (v72 : BitVec 32) (v172 : IVec S16 32) (v275 : IVec S16 32) : Prop :=
  (∀ (k0_h13 : k0_cond13 v72 = 1#1), ∀ a x, ((![v172, v275] : Fin 2 → IVec S16 32) a x).toNat < S512x32.size a)
theorem k0_idx731_inb : ∀ (v72 : BitVec 32) (v172 : IVec S16 32) (v275 : IVec S16 32) (k0_hw725 : k0_chk725 v72 v172 v275), ∀ (k0_h13 : k0_cond13 v72 = 1#1), ∀ a x, ((![v172, v275] : Fin 2 → IVec S16 32) a x).toNat < S512x32.size a := fun v72 v172 v275 k0_hw725 k0_h13 => k0_hw725 k0_h13

def k0_chk726 (v72 : BitVec 32) (v283 : IVec S16 32) (v289 : IVec S16 32) : Prop :=
  (∀ (k0_h13 : k0_cond13 v72 = 1#1), ∀ a x, ((![v289, v283] : Fin 2 → IVec S16 32) a x).toNat < S64x32.size a)
theorem k0_idx732_inb : ∀ (v72 : BitVec 32) (v283 : IVec S16 32) (v289 : IVec S16 32) (k0_hw726 : k0_chk726 v72 v283 v289), ∀ (k0_h13 : k0_cond13 v72 = 1#1), ∀ a x, ((![v289, v283] : Fin 2 → IVec S16 32) a x).toNat < S64x32.size a := fun v72 v283 v289 k0_hw726 k0_h13 => k0_hw726 k0_h13

def k0_chk727 (v72 : BitVec 32) (v172 : IVec S16 32) (v283 : IVec S16 32) : Prop :=
  (∀ (k0_h13 : k0_cond13 v72 = 1#1), ∀ a x, ((![v172, v283] : Fin 2 → IVec S16 32) a x).toNat < S512x32.size a)
theorem k0_idx733_inb : ∀ (v72 : BitVec 32) (v172 : IVec S16 32) (v283 : IVec S16 32) (k0_hw727 : k0_chk727 v72 v172 v283), ∀ (k0_h13 : k0_cond13 v72 = 1#1), ∀ a x, ((![v172, v283] : Fin 2 → IVec S16 32) a x).toNat < S512x32.size a := fun v72 v172 v283 k0_hw727 k0_h13 => k0_hw727 k0_h13

def k0_chk728 (v72 : BitVec 32) (v291 : IVec S16 32) (v297 : IVec S16 32) : Prop :=
  (∀ (k0_h13 : k0_cond13 v72 = 1#1), ∀ a x, ((![v297, v291] : Fin 2 → IVec S16 32) a x).toNat < S64x32.size a)
theorem k0_idx734_inb : ∀ (v72 : BitVec 32) (v291 : IVec S16 32) (v297 : IVec S16 32) (k0_hw728 : k0_chk728 v72 v291 v297), ∀ (k0_h13 : k0_cond13 v72 = 1#1), ∀ a x, ((![v297, v291] : Fin 2 → IVec S16 32) a x).toNat < S64x32.size a := fun v72 v291 v297 k0_hw728 k0_h13 => k0_hw728 k0_h13

def k0_chk729 (v72 : BitVec 32) (v172 : IVec S16 32) (v291 : IVec S16 32) : Prop :=
  (∀ (k0_h13 : k0_cond13 v72 = 1#1), ∀ a x, ((![v172, v291] : Fin 2 → IVec S16 32) a x).toNat < S512x32.size a)
theorem k0_idx735_inb : ∀ (v72 : BitVec 32) (v172 : IVec S16 32) (v291 : IVec S16 32) (k0_hw729 : k0_chk729 v72 v172 v291), ∀ (k0_h13 : k0_cond13 v72 = 1#1), ∀ a x, ((![v172, v291] : Fin 2 → IVec S16 32) a x).toNat < S512x32.size a := fun v72 v172 v291 k0_hw729 k0_h13 => k0_hw729 k0_h13

def k0_chk730 (v72 : BitVec 32) (v299 : IVec S16 32) (v305 : IVec S16 32) : Prop :=
  (∀ (k0_h13 : k0_cond13 v72 = 1#1), ∀ a x, ((![v305, v299] : Fin 2 → IVec S16 32) a x).toNat < S64x32.size a)
theorem k0_idx736_inb : ∀ (v72 : BitVec 32) (v299 : IVec S16 32) (v305 : IVec S16 32) (k0_hw730 : k0_chk730 v72 v299 v305), ∀ (k0_h13 : k0_cond13 v72 = 1#1), ∀ a x, ((![v305, v299] : Fin 2 → IVec S16 32) a x).toNat < S64x32.size a := fun v72 v299 v305 k0_hw730 k0_h13 => k0_hw730 k0_h13

def k0_chk731 (v72 : BitVec 32) (v172 : IVec S16 32) (v299 : IVec S16 32) : Prop :=
  (∀ (k0_h13 : k0_cond13 v72 = 1#1), ∀ a x, ((![v172, v299] : Fin 2 → IVec S16 32) a x).toNat < S512x32.size a)
theorem k0_idx737_inb : ∀ (v72 : BitVec 32) (v172 : IVec S16 32) (v299 : IVec S16 32) (k0_hw731 : k0_chk731 v72 v172 v299), ∀ (k0_h13 : k0_cond13 v72 = 1#1), ∀ a x, ((![v172, v299] : Fin 2 → IVec S16 32) a x).toNat < S512x32.size a := fun v72 v172 v299 k0_hw731 k0_h13 => k0_hw731 k0_h13

def k0_chk732 (v72 : BitVec 32) (v307 : IVec S16 32) (v313 : IVec S16 32) : Prop :=
  (∀ (k0_h13 : k0_cond13 v72 = 1#1), ∀ a x, ((![v313, v307] : Fin 2 → IVec S16 32) a x).toNat < S64x32.size a)
theorem k0_idx738_inb : ∀ (v72 : BitVec 32) (v307 : IVec S16 32) (v313 : IVec S16 32) (k0_hw732 : k0_chk732 v72 v307 v313), ∀ (k0_h13 : k0_cond13 v72 = 1#1), ∀ a x, ((![v313, v307] : Fin 2 → IVec S16 32) a x).toNat < S64x32.size a := fun v72 v307 v313 k0_hw732 k0_h13 => k0_hw732 k0_h13

def k0_chk733 (v72 : BitVec 32) (v172 : IVec S16 32) (v307 : IVec S16 32) : Prop :=
  (∀ (k0_h13 : k0_cond13 v72 = 1#1), ∀ a x, ((![v172, v307] : Fin 2 → IVec S16 32) a x).toNat < S512x32.size a)
theorem k0_idx739_inb : ∀ (v72 : BitVec 32) (v172 : IVec S16 32) (v307 : IVec S16 32) (k0_hw733 : k0_chk733 v72 v172 v307), ∀ (k0_h13 : k0_cond13 v72 = 1#1), ∀ a x, ((![v172, v307] : Fin 2 → IVec S16 32) a x).toNat < S512x32.size a := fun v72 v172 v307 k0_hw733 k0_h13 => k0_hw733 k0_h13

def k0_chk734 (v72 : BitVec 32) (v315 : IVec S16 32) (v321 : IVec S16 32) : Prop :=
  (∀ (k0_h13 : k0_cond13 v72 = 1#1), ∀ a x, ((![v321, v315] : Fin 2 → IVec S16 32) a x).toNat < S64x32.size a)
theorem k0_idx740_inb : ∀ (v72 : BitVec 32) (v315 : IVec S16 32) (v321 : IVec S16 32) (k0_hw734 : k0_chk734 v72 v315 v321), ∀ (k0_h13 : k0_cond13 v72 = 1#1), ∀ a x, ((![v321, v315] : Fin 2 → IVec S16 32) a x).toNat < S64x32.size a := fun v72 v315 v321 k0_hw734 k0_h13 => k0_hw734 k0_h13

def k0_chk735 (v72 : BitVec 32) (v172 : IVec S16 32) (v315 : IVec S16 32) : Prop :=
  (∀ (k0_h13 : k0_cond13 v72 = 1#1), ∀ a x, ((![v172, v315] : Fin 2 → IVec S16 32) a x).toNat < S512x32.size a)
theorem k0_idx741_inb : ∀ (v72 : BitVec 32) (v172 : IVec S16 32) (v315 : IVec S16 32) (k0_hw735 : k0_chk735 v72 v172 v315), ∀ (k0_h13 : k0_cond13 v72 = 1#1), ∀ a x, ((![v172, v315] : Fin 2 → IVec S16 32) a x).toNat < S512x32.size a := fun v72 v172 v315 k0_hw735 k0_h13 => k0_hw735 k0_h13

def k0_chk736 (v72 : BitVec 32) (v323 : IVec S16 32) (v329 : IVec S16 32) : Prop :=
  (∀ (k0_h13 : k0_cond13 v72 = 1#1), ∀ a x, ((![v329, v323] : Fin 2 → IVec S16 32) a x).toNat < S64x32.size a)
theorem k0_idx742_inb : ∀ (v72 : BitVec 32) (v323 : IVec S16 32) (v329 : IVec S16 32) (k0_hw736 : k0_chk736 v72 v323 v329), ∀ (k0_h13 : k0_cond13 v72 = 1#1), ∀ a x, ((![v329, v323] : Fin 2 → IVec S16 32) a x).toNat < S64x32.size a := fun v72 v323 v329 k0_hw736 k0_h13 => k0_hw736 k0_h13

def k0_chk737 (v72 : BitVec 32) (v172 : IVec S16 32) (v323 : IVec S16 32) : Prop :=
  (∀ (k0_h13 : k0_cond13 v72 = 1#1), ∀ a x, ((![v172, v323] : Fin 2 → IVec S16 32) a x).toNat < S512x32.size a)
theorem k0_idx743_inb : ∀ (v72 : BitVec 32) (v172 : IVec S16 32) (v323 : IVec S16 32) (k0_hw737 : k0_chk737 v72 v172 v323), ∀ (k0_h13 : k0_cond13 v72 = 1#1), ∀ a x, ((![v172, v323] : Fin 2 → IVec S16 32) a x).toNat < S512x32.size a := fun v72 v172 v323 k0_hw737 k0_h13 => k0_hw737 k0_h13

def k0_chk738 (v72 : BitVec 32) (v331 : IVec S16 32) (v337 : IVec S16 32) : Prop :=
  (∀ (k0_h13 : k0_cond13 v72 = 1#1), ∀ a x, ((![v337, v331] : Fin 2 → IVec S16 32) a x).toNat < S64x32.size a)
theorem k0_idx744_inb : ∀ (v72 : BitVec 32) (v331 : IVec S16 32) (v337 : IVec S16 32) (k0_hw738 : k0_chk738 v72 v331 v337), ∀ (k0_h13 : k0_cond13 v72 = 1#1), ∀ a x, ((![v337, v331] : Fin 2 → IVec S16 32) a x).toNat < S64x32.size a := fun v72 v331 v337 k0_hw738 k0_h13 => k0_hw738 k0_h13

def k0_chk739 (v72 : BitVec 32) (v172 : IVec S16 32) (v331 : IVec S16 32) : Prop :=
  (∀ (k0_h13 : k0_cond13 v72 = 1#1), ∀ a x, ((![v172, v331] : Fin 2 → IVec S16 32) a x).toNat < S512x32.size a)
theorem k0_idx745_inb : ∀ (v72 : BitVec 32) (v172 : IVec S16 32) (v331 : IVec S16 32) (k0_hw739 : k0_chk739 v72 v172 v331), ∀ (k0_h13 : k0_cond13 v72 = 1#1), ∀ a x, ((![v172, v331] : Fin 2 → IVec S16 32) a x).toNat < S512x32.size a := fun v72 v172 v331 k0_hw739 k0_h13 => k0_hw739 k0_h13

def k0_chk740 (v72 : BitVec 32) (v339 : IVec S16 32) (v345 : IVec S16 32) : Prop :=
  (∀ (k0_h13 : k0_cond13 v72 = 1#1), ∀ a x, ((![v345, v339] : Fin 2 → IVec S16 32) a x).toNat < S64x32.size a)
theorem k0_idx746_inb : ∀ (v72 : BitVec 32) (v339 : IVec S16 32) (v345 : IVec S16 32) (k0_hw740 : k0_chk740 v72 v339 v345), ∀ (k0_h13 : k0_cond13 v72 = 1#1), ∀ a x, ((![v345, v339] : Fin 2 → IVec S16 32) a x).toNat < S64x32.size a := fun v72 v339 v345 k0_hw740 k0_h13 => k0_hw740 k0_h13

def k0_chk741 (v72 : BitVec 32) (v172 : IVec S16 32) (v339 : IVec S16 32) : Prop :=
  (∀ (k0_h13 : k0_cond13 v72 = 1#1), ∀ a x, ((![v172, v339] : Fin 2 → IVec S16 32) a x).toNat < S512x32.size a)
theorem k0_idx747_inb : ∀ (v72 : BitVec 32) (v172 : IVec S16 32) (v339 : IVec S16 32) (k0_hw741 : k0_chk741 v72 v172 v339), ∀ (k0_h13 : k0_cond13 v72 = 1#1), ∀ a x, ((![v172, v339] : Fin 2 → IVec S16 32) a x).toNat < S512x32.size a := fun v72 v172 v339 k0_hw741 k0_h13 => k0_hw741 k0_h13

def k0_chk742 (v72 : BitVec 32) (v347 : IVec S16 32) (v353 : IVec S16 32) : Prop :=
  (∀ (k0_h13 : k0_cond13 v72 = 1#1), ∀ a x, ((![v353, v347] : Fin 2 → IVec S16 32) a x).toNat < S64x32.size a)
theorem k0_idx748_inb : ∀ (v72 : BitVec 32) (v347 : IVec S16 32) (v353 : IVec S16 32) (k0_hw742 : k0_chk742 v72 v347 v353), ∀ (k0_h13 : k0_cond13 v72 = 1#1), ∀ a x, ((![v353, v347] : Fin 2 → IVec S16 32) a x).toNat < S64x32.size a := fun v72 v347 v353 k0_hw742 k0_h13 => k0_hw742 k0_h13

def k0_chk743 (v72 : BitVec 32) (v172 : IVec S16 32) (v347 : IVec S16 32) : Prop :=
  (∀ (k0_h13 : k0_cond13 v72 = 1#1), ∀ a x, ((![v172, v347] : Fin 2 → IVec S16 32) a x).toNat < S512x32.size a)
theorem k0_idx749_inb : ∀ (v72 : BitVec 32) (v172 : IVec S16 32) (v347 : IVec S16 32) (k0_hw743 : k0_chk743 v72 v172 v347), ∀ (k0_h13 : k0_cond13 v72 = 1#1), ∀ a x, ((![v172, v347] : Fin 2 → IVec S16 32) a x).toNat < S512x32.size a := fun v72 v172 v347 k0_hw743 k0_h13 => k0_hw743 k0_h13

def k0_chk744 (v72 : BitVec 32) (v355 : IVec S16 32) (v361 : IVec S16 32) : Prop :=
  (∀ (k0_h13 : k0_cond13 v72 = 1#1), ∀ a x, ((![v361, v355] : Fin 2 → IVec S16 32) a x).toNat < S64x32.size a)
theorem k0_idx750_inb : ∀ (v72 : BitVec 32) (v355 : IVec S16 32) (v361 : IVec S16 32) (k0_hw744 : k0_chk744 v72 v355 v361), ∀ (k0_h13 : k0_cond13 v72 = 1#1), ∀ a x, ((![v361, v355] : Fin 2 → IVec S16 32) a x).toNat < S64x32.size a := fun v72 v355 v361 k0_hw744 k0_h13 => k0_hw744 k0_h13

def k0_chk745 (v72 : BitVec 32) (v172 : IVec S16 32) (v355 : IVec S16 32) : Prop :=
  (∀ (k0_h13 : k0_cond13 v72 = 1#1), ∀ a x, ((![v172, v355] : Fin 2 → IVec S16 32) a x).toNat < S512x32.size a)
theorem k0_idx751_inb : ∀ (v72 : BitVec 32) (v172 : IVec S16 32) (v355 : IVec S16 32) (k0_hw745 : k0_chk745 v72 v172 v355), ∀ (k0_h13 : k0_cond13 v72 = 1#1), ∀ a x, ((![v172, v355] : Fin 2 → IVec S16 32) a x).toNat < S512x32.size a := fun v72 v172 v355 k0_hw745 k0_h13 => k0_hw745 k0_h13

def k0_chk746 (v72 : BitVec 32) (v363 : IVec S16 32) (v369 : IVec S16 32) : Prop :=
  (∀ (k0_h13 : k0_cond13 v72 = 1#1), ∀ a x, ((![v369, v363] : Fin 2 → IVec S16 32) a x).toNat < S64x32.size a)
theorem k0_idx752_inb : ∀ (v72 : BitVec 32) (v363 : IVec S16 32) (v369 : IVec S16 32) (k0_hw746 : k0_chk746 v72 v363 v369), ∀ (k0_h13 : k0_cond13 v72 = 1#1), ∀ a x, ((![v369, v363] : Fin 2 → IVec S16 32) a x).toNat < S64x32.size a := fun v72 v363 v369 k0_hw746 k0_h13 => k0_hw746 k0_h13

def k0_chk747 (v72 : BitVec 32) (v172 : IVec S16 32) (v363 : IVec S16 32) : Prop :=
  (∀ (k0_h13 : k0_cond13 v72 = 1#1), ∀ a x, ((![v172, v363] : Fin 2 → IVec S16 32) a x).toNat < S512x32.size a)
theorem k0_idx753_inb : ∀ (v72 : BitVec 32) (v172 : IVec S16 32) (v363 : IVec S16 32) (k0_hw747 : k0_chk747 v72 v172 v363), ∀ (k0_h13 : k0_cond13 v72 = 1#1), ∀ a x, ((![v172, v363] : Fin 2 → IVec S16 32) a x).toNat < S512x32.size a := fun v72 v172 v363 k0_hw747 k0_h13 => k0_hw747 k0_h13

def k0_chk748 (v72 : BitVec 32) (v371 : IVec S16 32) (v377 : IVec S16 32) : Prop :=
  (∀ (k0_h13 : k0_cond13 v72 = 1#1), ∀ a x, ((![v377, v371] : Fin 2 → IVec S16 32) a x).toNat < S64x32.size a)
theorem k0_idx754_inb : ∀ (v72 : BitVec 32) (v371 : IVec S16 32) (v377 : IVec S16 32) (k0_hw748 : k0_chk748 v72 v371 v377), ∀ (k0_h13 : k0_cond13 v72 = 1#1), ∀ a x, ((![v377, v371] : Fin 2 → IVec S16 32) a x).toNat < S64x32.size a := fun v72 v371 v377 k0_hw748 k0_h13 => k0_hw748 k0_h13

def k0_chk749 (v72 : BitVec 32) (v172 : IVec S16 32) (v371 : IVec S16 32) : Prop :=
  (∀ (k0_h13 : k0_cond13 v72 = 1#1), ∀ a x, ((![v172, v371] : Fin 2 → IVec S16 32) a x).toNat < S512x32.size a)
theorem k0_idx755_inb : ∀ (v72 : BitVec 32) (v172 : IVec S16 32) (v371 : IVec S16 32) (k0_hw749 : k0_chk749 v72 v172 v371), ∀ (k0_h13 : k0_cond13 v72 = 1#1), ∀ a x, ((![v172, v371] : Fin 2 → IVec S16 32) a x).toNat < S512x32.size a := fun v72 v172 v371 k0_hw749 k0_h13 => k0_hw749 k0_h13

def k0_chk750 (v72 : BitVec 32) (v379 : IVec S16 32) (v385 : IVec S16 32) : Prop :=
  (∀ (k0_h13 : k0_cond13 v72 = 1#1), ∀ a x, ((![v385, v379] : Fin 2 → IVec S16 32) a x).toNat < S64x32.size a)
theorem k0_idx756_inb : ∀ (v72 : BitVec 32) (v379 : IVec S16 32) (v385 : IVec S16 32) (k0_hw750 : k0_chk750 v72 v379 v385), ∀ (k0_h13 : k0_cond13 v72 = 1#1), ∀ a x, ((![v385, v379] : Fin 2 → IVec S16 32) a x).toNat < S64x32.size a := fun v72 v379 v385 k0_hw750 k0_h13 => k0_hw750 k0_h13

def k0_chk751 (v72 : BitVec 32) (v172 : IVec S16 32) (v379 : IVec S16 32) : Prop :=
  (∀ (k0_h13 : k0_cond13 v72 = 1#1), ∀ a x, ((![v172, v379] : Fin 2 → IVec S16 32) a x).toNat < S512x32.size a)
theorem k0_idx757_inb : ∀ (v72 : BitVec 32) (v172 : IVec S16 32) (v379 : IVec S16 32) (k0_hw751 : k0_chk751 v72 v172 v379), ∀ (k0_h13 : k0_cond13 v72 = 1#1), ∀ a x, ((![v172, v379] : Fin 2 → IVec S16 32) a x).toNat < S512x32.size a := fun v72 v172 v379 k0_hw751 k0_h13 => k0_hw751 k0_h13

def k0_chk752 (v72 : BitVec 32) (v387 : IVec S16 32) (v393 : IVec S16 32) : Prop :=
  (∀ (k0_h13 : k0_cond13 v72 = 1#1), ∀ a x, ((![v393, v387] : Fin 2 → IVec S16 32) a x).toNat < S64x32.size a)
theorem k0_idx758_inb : ∀ (v72 : BitVec 32) (v387 : IVec S16 32) (v393 : IVec S16 32) (k0_hw752 : k0_chk752 v72 v387 v393), ∀ (k0_h13 : k0_cond13 v72 = 1#1), ∀ a x, ((![v393, v387] : Fin 2 → IVec S16 32) a x).toNat < S64x32.size a := fun v72 v387 v393 k0_hw752 k0_h13 => k0_hw752 k0_h13

def k0_chk753 (v72 : BitVec 32) (v172 : IVec S16 32) (v387 : IVec S16 32) : Prop :=
  (∀ (k0_h13 : k0_cond13 v72 = 1#1), ∀ a x, ((![v172, v387] : Fin 2 → IVec S16 32) a x).toNat < S512x32.size a)
theorem k0_idx759_inb : ∀ (v72 : BitVec 32) (v172 : IVec S16 32) (v387 : IVec S16 32) (k0_hw753 : k0_chk753 v72 v172 v387), ∀ (k0_h13 : k0_cond13 v72 = 1#1), ∀ a x, ((![v172, v387] : Fin 2 → IVec S16 32) a x).toNat < S512x32.size a := fun v72 v172 v387 k0_hw753 k0_h13 => k0_hw753 k0_h13

def k0_chk754 (v72 : BitVec 32) (v395 : IVec S16 32) (v401 : IVec S16 32) : Prop :=
  (∀ (k0_h13 : k0_cond13 v72 = 1#1), ∀ a x, ((![v401, v395] : Fin 2 → IVec S16 32) a x).toNat < S64x32.size a)
theorem k0_idx760_inb : ∀ (v72 : BitVec 32) (v395 : IVec S16 32) (v401 : IVec S16 32) (k0_hw754 : k0_chk754 v72 v395 v401), ∀ (k0_h13 : k0_cond13 v72 = 1#1), ∀ a x, ((![v401, v395] : Fin 2 → IVec S16 32) a x).toNat < S64x32.size a := fun v72 v395 v401 k0_hw754 k0_h13 => k0_hw754 k0_h13

def k0_chk755 (v72 : BitVec 32) (v172 : IVec S16 32) (v395 : IVec S16 32) : Prop :=
  (∀ (k0_h13 : k0_cond13 v72 = 1#1), ∀ a x, ((![v172, v395] : Fin 2 → IVec S16 32) a x).toNat < S512x32.size a)
theorem k0_idx761_inb : ∀ (v72 : BitVec 32) (v172 : IVec S16 32) (v395 : IVec S16 32) (k0_hw755 : k0_chk755 v72 v172 v395), ∀ (k0_h13 : k0_cond13 v72 = 1#1), ∀ a x, ((![v172, v395] : Fin 2 → IVec S16 32) a x).toNat < S512x32.size a := fun v72 v172 v395 k0_hw755 k0_h13 => k0_hw755 k0_h13

def k0_chk756 (v72 : BitVec 32) (v403 : IVec S16 32) (v409 : IVec S16 32) : Prop :=
  (∀ (k0_h13 : k0_cond13 v72 = 1#1), ∀ a x, ((![v409, v403] : Fin 2 → IVec S16 32) a x).toNat < S64x32.size a)
theorem k0_idx762_inb : ∀ (v72 : BitVec 32) (v403 : IVec S16 32) (v409 : IVec S16 32) (k0_hw756 : k0_chk756 v72 v403 v409), ∀ (k0_h13 : k0_cond13 v72 = 1#1), ∀ a x, ((![v409, v403] : Fin 2 → IVec S16 32) a x).toNat < S64x32.size a := fun v72 v403 v409 k0_hw756 k0_h13 => k0_hw756 k0_h13

def k0_chk757 (v72 : BitVec 32) (v172 : IVec S16 32) (v403 : IVec S16 32) : Prop :=
  (∀ (k0_h13 : k0_cond13 v72 = 1#1), ∀ a x, ((![v172, v403] : Fin 2 → IVec S16 32) a x).toNat < S512x32.size a)
theorem k0_idx763_inb : ∀ (v72 : BitVec 32) (v172 : IVec S16 32) (v403 : IVec S16 32) (k0_hw757 : k0_chk757 v72 v172 v403), ∀ (k0_h13 : k0_cond13 v72 = 1#1), ∀ a x, ((![v172, v403] : Fin 2 → IVec S16 32) a x).toNat < S512x32.size a := fun v72 v172 v403 k0_hw757 k0_h13 => k0_hw757 k0_h13

def k0_chk758 (v72 : BitVec 32) (v411 : IVec S16 32) (v417 : IVec S16 32) : Prop :=
  (∀ (k0_h13 : k0_cond13 v72 = 1#1), ∀ a x, ((![v417, v411] : Fin 2 → IVec S16 32) a x).toNat < S64x32.size a)
theorem k0_idx764_inb : ∀ (v72 : BitVec 32) (v411 : IVec S16 32) (v417 : IVec S16 32) (k0_hw758 : k0_chk758 v72 v411 v417), ∀ (k0_h13 : k0_cond13 v72 = 1#1), ∀ a x, ((![v417, v411] : Fin 2 → IVec S16 32) a x).toNat < S64x32.size a := fun v72 v411 v417 k0_hw758 k0_h13 => k0_hw758 k0_h13

def k0_chk759 (v72 : BitVec 32) (v172 : IVec S16 32) (v411 : IVec S16 32) : Prop :=
  (∀ (k0_h13 : k0_cond13 v72 = 1#1), ∀ a x, ((![v172, v411] : Fin 2 → IVec S16 32) a x).toNat < S512x32.size a)
theorem k0_idx765_inb : ∀ (v72 : BitVec 32) (v172 : IVec S16 32) (v411 : IVec S16 32) (k0_hw759 : k0_chk759 v72 v172 v411), ∀ (k0_h13 : k0_cond13 v72 = 1#1), ∀ a x, ((![v172, v411] : Fin 2 → IVec S16 32) a x).toNat < S512x32.size a := fun v72 v172 v411 k0_hw759 k0_h13 => k0_hw759 k0_h13

def k0_chk760 (v72 : BitVec 32) (v419 : IVec S16 32) (v425 : IVec S16 32) : Prop :=
  (∀ (k0_h13 : k0_cond13 v72 = 1#1), ∀ a x, ((![v425, v419] : Fin 2 → IVec S16 32) a x).toNat < S64x32.size a)
theorem k0_idx766_inb : ∀ (v72 : BitVec 32) (v419 : IVec S16 32) (v425 : IVec S16 32) (k0_hw760 : k0_chk760 v72 v419 v425), ∀ (k0_h13 : k0_cond13 v72 = 1#1), ∀ a x, ((![v425, v419] : Fin 2 → IVec S16 32) a x).toNat < S64x32.size a := fun v72 v419 v425 k0_hw760 k0_h13 => k0_hw760 k0_h13

def k0_chk761 (v72 : BitVec 32) (v172 : IVec S16 32) (v419 : IVec S16 32) : Prop :=
  (∀ (k0_h13 : k0_cond13 v72 = 1#1), ∀ a x, ((![v172, v419] : Fin 2 → IVec S16 32) a x).toNat < S512x32.size a)
theorem k0_idx767_inb : ∀ (v72 : BitVec 32) (v172 : IVec S16 32) (v419 : IVec S16 32) (k0_hw761 : k0_chk761 v72 v172 v419), ∀ (k0_h13 : k0_cond13 v72 = 1#1), ∀ a x, ((![v172, v419] : Fin 2 → IVec S16 32) a x).toNat < S512x32.size a := fun v72 v172 v419 k0_hw761 k0_h13 => k0_hw761 k0_h13

def k0_chk762 (v72 : BitVec 32) (v427 : IVec S16 32) (v433 : IVec S16 32) : Prop :=
  (∀ (k0_h13 : k0_cond13 v72 = 1#1), ∀ a x, ((![v433, v427] : Fin 2 → IVec S16 32) a x).toNat < S64x32.size a)
theorem k0_idx768_inb : ∀ (v72 : BitVec 32) (v427 : IVec S16 32) (v433 : IVec S16 32) (k0_hw762 : k0_chk762 v72 v427 v433), ∀ (k0_h13 : k0_cond13 v72 = 1#1), ∀ a x, ((![v433, v427] : Fin 2 → IVec S16 32) a x).toNat < S64x32.size a := fun v72 v427 v433 k0_hw762 k0_h13 => k0_hw762 k0_h13

def k0_chk763 (v72 : BitVec 32) (v172 : IVec S16 32) (v427 : IVec S16 32) : Prop :=
  (∀ (k0_h13 : k0_cond13 v72 = 1#1), ∀ a x, ((![v172, v427] : Fin 2 → IVec S16 32) a x).toNat < S512x32.size a)
theorem k0_idx769_inb : ∀ (v72 : BitVec 32) (v172 : IVec S16 32) (v427 : IVec S16 32) (k0_hw763 : k0_chk763 v72 v172 v427), ∀ (k0_h13 : k0_cond13 v72 = 1#1), ∀ a x, ((![v172, v427] : Fin 2 → IVec S16 32) a x).toNat < S512x32.size a := fun v72 v172 v427 k0_hw763 k0_h13 => k0_hw763 k0_h13
@[reducible] def k0_t51_loop (v72 : BitVec 32) : Scf.Loop 32 :=
  let c0_i32_172 : BitVec 32 := 0#32
  let c15_i32 : BitVec 32 := 15#32
  let v140 : BitVec 32 := Scalar.addi v72 c15_i32
  let c0_i32_166 : BitVec 32 := 0#32
  let v142 : BitVec 1 := Scalar.cmpi .sgt v140 c0_i32_166
  let v143 : BitVec 32 := Scalar.extui v142
  let c0_i32_167 : BitVec 32 := 0#32
  let v144 : BitVec 1 := Scalar.cmpi .slt v140 c0_i32_167
  let v145 : BitVec 32 := Scalar.extui v144
  let v146 : BitVec 32 := Scalar.subi v143 v145
  let c16_i32 : BitVec 32 := 16#32
  let c0_i32_168 : BitVec 32 := 0#32
  let v147 : BitVec 1 := Scalar.cmpi .sgt c16_i32 c0_i32_168
  let v148 : BitVec 32 := Scalar.extui v147
  let c0_i32_169 : BitVec 32 := 0#32
  let v149 : BitVec 1 := Scalar.cmpi .slt c16_i32 c0_i32_169
  let v150 : BitVec 32 := Scalar.extui v149
  let v151 : BitVec 32 := Scalar.subi v148 v150
  let v152 : BitVec 1 := Scalar.cmpi .ne v146 v151
  let v153 : BitVec 32 := Scalar.remsi v140 c16_i32
  let c0_i32_170 : BitVec 32 := 0#32
  let v154 : BitVec 1 := Scalar.cmpi .ne v153 c0_i32_170
  let v155 : BitVec 1 := Scalar.andi v152 v154
  let v141 : BitVec 32 := Scalar.divsi v140 c16_i32
  let c1_i32_171 : BitVec 32 := 1#32
  let v156 : BitVec 32 := Scalar.subi v141 c1_i32_171
  let v157 : BitVec 32 := Scalar.select v155 v156 v141
  let v158 : BitVec 32 := Scalar.subi v157 c0_i32_172
  let c1_i32_174 : BitVec 32 := 1#32
  let v160 : BitVec 32 := Scalar.divsi v158 c1_i32_174
  let v161 : BitVec 32 := Scalar.muli v160 c1_i32_174
  let v162 : BitVec 32 := Scalar.addi c0_i32_172 v161
  let v159 : BitVec 32 := Scalar.addi c0_i32_172 v158
  let c1_i32_176 : BitVec 32 := 1#32
  ⟨v162, v159, c1_i32_176⟩
def k0_off37 (v72 : BitVec 32) (k0_t51 : Fin (k0_t51_loop v72).trips) : Fin 1 → Nat :=
  let c0_i32_172 : BitVec 32 := 0#32
  let c15_i32 : BitVec 32 := 15#32
  let v140 : BitVec 32 := Scalar.addi v72 c15_i32
  let c0_i32_166 : BitVec 32 := 0#32
  let v142 : BitVec 1 := Scalar.cmpi .sgt v140 c0_i32_166
  let v143 : BitVec 32 := Scalar.extui v142
  let c0_i32_167 : BitVec 32 := 0#32
  let v144 : BitVec 1 := Scalar.cmpi .slt v140 c0_i32_167
  let v145 : BitVec 32 := Scalar.extui v144
  let v146 : BitVec 32 := Scalar.subi v143 v145
  let c16_i32 : BitVec 32 := 16#32
  let c0_i32_168 : BitVec 32 := 0#32
  let v147 : BitVec 1 := Scalar.cmpi .sgt c16_i32 c0_i32_168
  let v148 : BitVec 32 := Scalar.extui v147
  let c0_i32_169 : BitVec 32 := 0#32
  let v149 : BitVec 1 := Scalar.cmpi .slt c16_i32 c0_i32_169
  let v150 : BitVec 32 := Scalar.extui v149
  let v151 : BitVec 32 := Scalar.subi v148 v150
  let v152 : BitVec 1 := Scalar.cmpi .ne v146 v151
  let v153 : BitVec 32 := Scalar.remsi v140 c16_i32
  let c0_i32_170 : BitVec 32 := 0#32
  let v154 : BitVec 1 := Scalar.cmpi .ne v153 c0_i32_170
  let v155 : BitVec 1 := Scalar.andi v152 v154
  let v141 : BitVec 32 := Scalar.divsi v140 c16_i32
  let c1_i32_171 : BitVec 32 := 1#32
  let v156 : BitVec 32 := Scalar.subi v141 c1_i32_171
  let v157 : BitVec 32 := Scalar.select v155 v156 v141
  let v158 : BitVec 32 := Scalar.subi v157 c0_i32_172
  let c1_i32_174 : BitVec 32 := 1#32
  let v160 : BitVec 32 := Scalar.divsi v158 c1_i32_174
  let v161 : BitVec 32 := Scalar.muli v160 c1_i32_174
  let v162 : BitVec 32 := Scalar.addi c0_i32_172 v161
  let c1_i32_176 : BitVec 32 := 1#32
  let arg24 : BitVec 32 := Scf.iv v162 c1_i32_176 k0_t51
  let c16_i32_178 : BitVec 32 := 16#32
  let v170 : BitVec 32 := Scalar.muli arg24 c16_i32_178
  let v171 : Index := Scalar.indexCast v170
  ![v171.toNat]

def k0_chk697 (v72 : BitVec 32) : Prop :=
  (∀ (k0_h13 : k0_cond13 v72 = 1#1), (k0_t50_loop v72).OK) ∧
  (∀ k0_t50 : Fin (k0_t50_loop v72).trips, ∀ (k0_h13 : k0_cond13 v72 = 1#1), ∀ a, (k0_off36 v72 k0_t50) a + S16.size a ≤ S512.size a) ∧
  (∀ (k0_h13 : k0_cond13 v72 = 1#1), (k0_t51_loop v72).OK) ∧
  (∀ k0_t51 : Fin (k0_t51_loop v72).trips, ∀ (k0_h13 : k0_cond13 v72 = 1#1), ∀ a, (k0_off37 v72 k0_t51) a + S16.size a ≤ S512.size a)
theorem k0_t50_ok : ∀ (v72 : BitVec 32) (k0_hw697 : k0_chk697 v72), ∀ (k0_h13 : k0_cond13 v72 = 1#1), (k0_t50_loop v72).OK := fun v72 k0_hw697 k0_h13 => k0_hw697.1 k0_h13
theorem k0_off36_inb : ∀ (v72 : BitVec 32) (k0_hw697 : k0_chk697 v72) (k0_t50 : Fin (k0_t50_loop v72).trips), ∀ (k0_h13 : k0_cond13 v72 = 1#1), ∀ a, (k0_off36 v72 k0_t50) a + S16.size a ≤ S512.size a := fun v72 k0_hw697 k0_t50 k0_h13 => k0_hw697.2.1 k0_t50 k0_h13
theorem k0_t51_ok : ∀ (v72 : BitVec 32) (k0_hw697 : k0_chk697 v72), ∀ (k0_h13 : k0_cond13 v72 = 1#1), (k0_t51_loop v72).OK := fun v72 k0_hw697 k0_h13 => k0_hw697.2.2.1 k0_h13
theorem k0_off37_inb : ∀ (v72 : BitVec 32) (k0_hw697 : k0_chk697 v72) (k0_t51 : Fin (k0_t51_loop v72).trips), ∀ (k0_h13 : k0_cond13 v72 = 1#1), ∀ a, (k0_off37 v72 k0_t51) a + S16.size a ≤ S512.size a := fun v72 k0_hw697 k0_t51 k0_h13 => k0_hw697.2.2.2 k0_t51 k0_h13

def k0_chk764 (v72 : BitVec 32) (v172 : IVec S16 32) : Prop :=
  (∀ (k0_h13 : k0_cond13 v72 = 1#1), ∀ a x, ((![v172] : Fin 1 → IVec S16 32) a x).toNat < S1024.size a) ∧
  (∀ (k0_h13 : k0_cond13 v72 = 1#1), ∀ a x, ((![v172] : Fin 1 → IVec S16 32) a x).toNat < S1024.size a)
theorem k0_idx770_inb : ∀ (v72 : BitVec 32) (v172 : IVec S16 32) (k0_hw764 : k0_chk764 v72 v172), ∀ (k0_h13 : k0_cond13 v72 = 1#1), ∀ a x, ((![v172] : Fin 1 → IVec S16 32) a x).toNat < S1024.size a := fun v72 v172 k0_hw764 k0_h13 => k0_hw764.1 k0_h13
theorem k0_idx771_inb : ∀ (v72 : BitVec 32) (v172 : IVec S16 32) (k0_hw764 : k0_chk764 v72 v172), ∀ (k0_h13 : k0_cond13 v72 = 1#1), ∀ a x, ((![v172] : Fin 1 → IVec S16 32) a x).toNat < S1024.size a := fun v72 v172 k0_hw764 k0_h13 => k0_hw764.2 k0_h13

def k0_chk765 (v72 : BitVec 32) (v176 : IVec S16 32) (v178 : IVec S16 32) : Prop :=
  (∀ (k0_h13 : k0_cond13 v72 = 1#1), ∀ a x, ((![v176, v178] : Fin 2 → IVec S16 32) a x).toNat < S8x64.size a)
theorem k0_idx772_inb : ∀ (v72 : BitVec 32) (v176 : IVec S16 32) (v178 : IVec S16 32) (k0_hw765 : k0_chk765 v72 v176 v178), ∀ (k0_h13 : k0_cond13 v72 = 1#1), ∀ a x, ((![v176, v178] : Fin 2 → IVec S16 32) a x).toNat < S8x64.size a := fun v72 v176 v178 k0_hw765 k0_h13 => k0_hw765 k0_h13

def k0_chk766 (v72 : BitVec 32) (v179 : IVec S16 32) (v185 : IVec S16 32) : Prop :=
  (∀ (k0_h13 : k0_cond13 v72 = 1#1), ∀ a x, ((![v185, v179] : Fin 2 → IVec S16 32) a x).toNat < S64x32.size a)
theorem k0_idx773_inb : ∀ (v72 : BitVec 32) (v179 : IVec S16 32) (v185 : IVec S16 32) (k0_hw766 : k0_chk766 v72 v179 v185), ∀ (k0_h13 : k0_cond13 v72 = 1#1), ∀ a x, ((![v185, v179] : Fin 2 → IVec S16 32) a x).toNat < S64x32.size a := fun v72 v179 v185 k0_hw766 k0_h13 => k0_hw766 k0_h13

def k0_chk767 (v72 : BitVec 32) (v172 : IVec S16 32) (v179 : IVec S16 32) : Prop :=
  (∀ (k0_h13 : k0_cond13 v72 = 1#1), ∀ a x, ((![v172, v179] : Fin 2 → IVec S16 32) a x).toNat < S512x32.size a)
theorem k0_idx774_inb : ∀ (v72 : BitVec 32) (v172 : IVec S16 32) (v179 : IVec S16 32) (k0_hw767 : k0_chk767 v72 v172 v179), ∀ (k0_h13 : k0_cond13 v72 = 1#1), ∀ a x, ((![v172, v179] : Fin 2 → IVec S16 32) a x).toNat < S512x32.size a := fun v72 v172 v179 k0_hw767 k0_h13 => k0_hw767 k0_h13

def k0_chk768 (v72 : BitVec 32) (v187 : IVec S16 32) (v193 : IVec S16 32) : Prop :=
  (∀ (k0_h13 : k0_cond13 v72 = 1#1), ∀ a x, ((![v193, v187] : Fin 2 → IVec S16 32) a x).toNat < S64x32.size a)
theorem k0_idx775_inb : ∀ (v72 : BitVec 32) (v187 : IVec S16 32) (v193 : IVec S16 32) (k0_hw768 : k0_chk768 v72 v187 v193), ∀ (k0_h13 : k0_cond13 v72 = 1#1), ∀ a x, ((![v193, v187] : Fin 2 → IVec S16 32) a x).toNat < S64x32.size a := fun v72 v187 v193 k0_hw768 k0_h13 => k0_hw768 k0_h13

def k0_chk769 (v72 : BitVec 32) (v172 : IVec S16 32) (v187 : IVec S16 32) : Prop :=
  (∀ (k0_h13 : k0_cond13 v72 = 1#1), ∀ a x, ((![v172, v187] : Fin 2 → IVec S16 32) a x).toNat < S512x32.size a)
theorem k0_idx776_inb : ∀ (v72 : BitVec 32) (v172 : IVec S16 32) (v187 : IVec S16 32) (k0_hw769 : k0_chk769 v72 v172 v187), ∀ (k0_h13 : k0_cond13 v72 = 1#1), ∀ a x, ((![v172, v187] : Fin 2 → IVec S16 32) a x).toNat < S512x32.size a := fun v72 v172 v187 k0_hw769 k0_h13 => k0_hw769 k0_h13

def k0_chk770 (v72 : BitVec 32) (v195 : IVec S16 32) (v201 : IVec S16 32) : Prop :=
  (∀ (k0_h13 : k0_cond13 v72 = 1#1), ∀ a x, ((![v201, v195] : Fin 2 → IVec S16 32) a x).toNat < S64x32.size a)
theorem k0_idx777_inb : ∀ (v72 : BitVec 32) (v195 : IVec S16 32) (v201 : IVec S16 32) (k0_hw770 : k0_chk770 v72 v195 v201), ∀ (k0_h13 : k0_cond13 v72 = 1#1), ∀ a x, ((![v201, v195] : Fin 2 → IVec S16 32) a x).toNat < S64x32.size a := fun v72 v195 v201 k0_hw770 k0_h13 => k0_hw770 k0_h13

def k0_chk771 (v72 : BitVec 32) (v172 : IVec S16 32) (v195 : IVec S16 32) : Prop :=
  (∀ (k0_h13 : k0_cond13 v72 = 1#1), ∀ a x, ((![v172, v195] : Fin 2 → IVec S16 32) a x).toNat < S512x32.size a)
theorem k0_idx778_inb : ∀ (v72 : BitVec 32) (v172 : IVec S16 32) (v195 : IVec S16 32) (k0_hw771 : k0_chk771 v72 v172 v195), ∀ (k0_h13 : k0_cond13 v72 = 1#1), ∀ a x, ((![v172, v195] : Fin 2 → IVec S16 32) a x).toNat < S512x32.size a := fun v72 v172 v195 k0_hw771 k0_h13 => k0_hw771 k0_h13

def k0_chk772 (v72 : BitVec 32) (v203 : IVec S16 32) (v209 : IVec S16 32) : Prop :=
  (∀ (k0_h13 : k0_cond13 v72 = 1#1), ∀ a x, ((![v209, v203] : Fin 2 → IVec S16 32) a x).toNat < S64x32.size a)
theorem k0_idx779_inb : ∀ (v72 : BitVec 32) (v203 : IVec S16 32) (v209 : IVec S16 32) (k0_hw772 : k0_chk772 v72 v203 v209), ∀ (k0_h13 : k0_cond13 v72 = 1#1), ∀ a x, ((![v209, v203] : Fin 2 → IVec S16 32) a x).toNat < S64x32.size a := fun v72 v203 v209 k0_hw772 k0_h13 => k0_hw772 k0_h13

def k0_chk773 (v72 : BitVec 32) (v172 : IVec S16 32) (v203 : IVec S16 32) : Prop :=
  (∀ (k0_h13 : k0_cond13 v72 = 1#1), ∀ a x, ((![v172, v203] : Fin 2 → IVec S16 32) a x).toNat < S512x32.size a)
theorem k0_idx780_inb : ∀ (v72 : BitVec 32) (v172 : IVec S16 32) (v203 : IVec S16 32) (k0_hw773 : k0_chk773 v72 v172 v203), ∀ (k0_h13 : k0_cond13 v72 = 1#1), ∀ a x, ((![v172, v203] : Fin 2 → IVec S16 32) a x).toNat < S512x32.size a := fun v72 v172 v203 k0_hw773 k0_h13 => k0_hw773 k0_h13

def k0_chk774 (v72 : BitVec 32) (v211 : IVec S16 32) (v217 : IVec S16 32) : Prop :=
  (∀ (k0_h13 : k0_cond13 v72 = 1#1), ∀ a x, ((![v217, v211] : Fin 2 → IVec S16 32) a x).toNat < S64x32.size a)
theorem k0_idx781_inb : ∀ (v72 : BitVec 32) (v211 : IVec S16 32) (v217 : IVec S16 32) (k0_hw774 : k0_chk774 v72 v211 v217), ∀ (k0_h13 : k0_cond13 v72 = 1#1), ∀ a x, ((![v217, v211] : Fin 2 → IVec S16 32) a x).toNat < S64x32.size a := fun v72 v211 v217 k0_hw774 k0_h13 => k0_hw774 k0_h13

def k0_chk775 (v72 : BitVec 32) (v172 : IVec S16 32) (v211 : IVec S16 32) : Prop :=
  (∀ (k0_h13 : k0_cond13 v72 = 1#1), ∀ a x, ((![v172, v211] : Fin 2 → IVec S16 32) a x).toNat < S512x32.size a)
theorem k0_idx782_inb : ∀ (v72 : BitVec 32) (v172 : IVec S16 32) (v211 : IVec S16 32) (k0_hw775 : k0_chk775 v72 v172 v211), ∀ (k0_h13 : k0_cond13 v72 = 1#1), ∀ a x, ((![v172, v211] : Fin 2 → IVec S16 32) a x).toNat < S512x32.size a := fun v72 v172 v211 k0_hw775 k0_h13 => k0_hw775 k0_h13

def k0_chk776 (v72 : BitVec 32) (v219 : IVec S16 32) (v225 : IVec S16 32) : Prop :=
  (∀ (k0_h13 : k0_cond13 v72 = 1#1), ∀ a x, ((![v225, v219] : Fin 2 → IVec S16 32) a x).toNat < S64x32.size a)
theorem k0_idx783_inb : ∀ (v72 : BitVec 32) (v219 : IVec S16 32) (v225 : IVec S16 32) (k0_hw776 : k0_chk776 v72 v219 v225), ∀ (k0_h13 : k0_cond13 v72 = 1#1), ∀ a x, ((![v225, v219] : Fin 2 → IVec S16 32) a x).toNat < S64x32.size a := fun v72 v219 v225 k0_hw776 k0_h13 => k0_hw776 k0_h13

def k0_chk777 (v72 : BitVec 32) (v172 : IVec S16 32) (v219 : IVec S16 32) : Prop :=
  (∀ (k0_h13 : k0_cond13 v72 = 1#1), ∀ a x, ((![v172, v219] : Fin 2 → IVec S16 32) a x).toNat < S512x32.size a)
theorem k0_idx784_inb : ∀ (v72 : BitVec 32) (v172 : IVec S16 32) (v219 : IVec S16 32) (k0_hw777 : k0_chk777 v72 v172 v219), ∀ (k0_h13 : k0_cond13 v72 = 1#1), ∀ a x, ((![v172, v219] : Fin 2 → IVec S16 32) a x).toNat < S512x32.size a := fun v72 v172 v219 k0_hw777 k0_h13 => k0_hw777 k0_h13

def k0_chk778 (v72 : BitVec 32) (v227 : IVec S16 32) (v233 : IVec S16 32) : Prop :=
  (∀ (k0_h13 : k0_cond13 v72 = 1#1), ∀ a x, ((![v233, v227] : Fin 2 → IVec S16 32) a x).toNat < S64x32.size a)
theorem k0_idx785_inb : ∀ (v72 : BitVec 32) (v227 : IVec S16 32) (v233 : IVec S16 32) (k0_hw778 : k0_chk778 v72 v227 v233), ∀ (k0_h13 : k0_cond13 v72 = 1#1), ∀ a x, ((![v233, v227] : Fin 2 → IVec S16 32) a x).toNat < S64x32.size a := fun v72 v227 v233 k0_hw778 k0_h13 => k0_hw778 k0_h13

def k0_chk779 (v72 : BitVec 32) (v172 : IVec S16 32) (v227 : IVec S16 32) : Prop :=
  (∀ (k0_h13 : k0_cond13 v72 = 1#1), ∀ a x, ((![v172, v227] : Fin 2 → IVec S16 32) a x).toNat < S512x32.size a)
theorem k0_idx786_inb : ∀ (v72 : BitVec 32) (v172 : IVec S16 32) (v227 : IVec S16 32) (k0_hw779 : k0_chk779 v72 v172 v227), ∀ (k0_h13 : k0_cond13 v72 = 1#1), ∀ a x, ((![v172, v227] : Fin 2 → IVec S16 32) a x).toNat < S512x32.size a := fun v72 v172 v227 k0_hw779 k0_h13 => k0_hw779 k0_h13

def k0_chk780 (v72 : BitVec 32) (v235 : IVec S16 32) (v241 : IVec S16 32) : Prop :=
  (∀ (k0_h13 : k0_cond13 v72 = 1#1), ∀ a x, ((![v241, v235] : Fin 2 → IVec S16 32) a x).toNat < S64x32.size a)
theorem k0_idx787_inb : ∀ (v72 : BitVec 32) (v235 : IVec S16 32) (v241 : IVec S16 32) (k0_hw780 : k0_chk780 v72 v235 v241), ∀ (k0_h13 : k0_cond13 v72 = 1#1), ∀ a x, ((![v241, v235] : Fin 2 → IVec S16 32) a x).toNat < S64x32.size a := fun v72 v235 v241 k0_hw780 k0_h13 => k0_hw780 k0_h13

def k0_chk781 (v72 : BitVec 32) (v172 : IVec S16 32) (v235 : IVec S16 32) : Prop :=
  (∀ (k0_h13 : k0_cond13 v72 = 1#1), ∀ a x, ((![v172, v235] : Fin 2 → IVec S16 32) a x).toNat < S512x32.size a)
theorem k0_idx788_inb : ∀ (v72 : BitVec 32) (v172 : IVec S16 32) (v235 : IVec S16 32) (k0_hw781 : k0_chk781 v72 v172 v235), ∀ (k0_h13 : k0_cond13 v72 = 1#1), ∀ a x, ((![v172, v235] : Fin 2 → IVec S16 32) a x).toNat < S512x32.size a := fun v72 v172 v235 k0_hw781 k0_h13 => k0_hw781 k0_h13

def k0_chk782 (v72 : BitVec 32) (v243 : IVec S16 32) (v249 : IVec S16 32) : Prop :=
  (∀ (k0_h13 : k0_cond13 v72 = 1#1), ∀ a x, ((![v249, v243] : Fin 2 → IVec S16 32) a x).toNat < S64x32.size a)
theorem k0_idx789_inb : ∀ (v72 : BitVec 32) (v243 : IVec S16 32) (v249 : IVec S16 32) (k0_hw782 : k0_chk782 v72 v243 v249), ∀ (k0_h13 : k0_cond13 v72 = 1#1), ∀ a x, ((![v249, v243] : Fin 2 → IVec S16 32) a x).toNat < S64x32.size a := fun v72 v243 v249 k0_hw782 k0_h13 => k0_hw782 k0_h13

def k0_chk783 (v72 : BitVec 32) (v172 : IVec S16 32) (v243 : IVec S16 32) : Prop :=
  (∀ (k0_h13 : k0_cond13 v72 = 1#1), ∀ a x, ((![v172, v243] : Fin 2 → IVec S16 32) a x).toNat < S512x32.size a)
theorem k0_idx790_inb : ∀ (v72 : BitVec 32) (v172 : IVec S16 32) (v243 : IVec S16 32) (k0_hw783 : k0_chk783 v72 v172 v243), ∀ (k0_h13 : k0_cond13 v72 = 1#1), ∀ a x, ((![v172, v243] : Fin 2 → IVec S16 32) a x).toNat < S512x32.size a := fun v72 v172 v243 k0_hw783 k0_h13 => k0_hw783 k0_h13

def k0_chk784 (v72 : BitVec 32) (v251 : IVec S16 32) (v257 : IVec S16 32) : Prop :=
  (∀ (k0_h13 : k0_cond13 v72 = 1#1), ∀ a x, ((![v257, v251] : Fin 2 → IVec S16 32) a x).toNat < S64x32.size a)
theorem k0_idx791_inb : ∀ (v72 : BitVec 32) (v251 : IVec S16 32) (v257 : IVec S16 32) (k0_hw784 : k0_chk784 v72 v251 v257), ∀ (k0_h13 : k0_cond13 v72 = 1#1), ∀ a x, ((![v257, v251] : Fin 2 → IVec S16 32) a x).toNat < S64x32.size a := fun v72 v251 v257 k0_hw784 k0_h13 => k0_hw784 k0_h13

def k0_chk785 (v72 : BitVec 32) (v172 : IVec S16 32) (v251 : IVec S16 32) : Prop :=
  (∀ (k0_h13 : k0_cond13 v72 = 1#1), ∀ a x, ((![v172, v251] : Fin 2 → IVec S16 32) a x).toNat < S512x32.size a)
theorem k0_idx792_inb : ∀ (v72 : BitVec 32) (v172 : IVec S16 32) (v251 : IVec S16 32) (k0_hw785 : k0_chk785 v72 v172 v251), ∀ (k0_h13 : k0_cond13 v72 = 1#1), ∀ a x, ((![v172, v251] : Fin 2 → IVec S16 32) a x).toNat < S512x32.size a := fun v72 v172 v251 k0_hw785 k0_h13 => k0_hw785 k0_h13

def k0_chk786 (v72 : BitVec 32) (v259 : IVec S16 32) (v265 : IVec S16 32) : Prop :=
  (∀ (k0_h13 : k0_cond13 v72 = 1#1), ∀ a x, ((![v265, v259] : Fin 2 → IVec S16 32) a x).toNat < S64x32.size a)
theorem k0_idx793_inb : ∀ (v72 : BitVec 32) (v259 : IVec S16 32) (v265 : IVec S16 32) (k0_hw786 : k0_chk786 v72 v259 v265), ∀ (k0_h13 : k0_cond13 v72 = 1#1), ∀ a x, ((![v265, v259] : Fin 2 → IVec S16 32) a x).toNat < S64x32.size a := fun v72 v259 v265 k0_hw786 k0_h13 => k0_hw786 k0_h13

def k0_chk787 (v72 : BitVec 32) (v172 : IVec S16 32) (v259 : IVec S16 32) : Prop :=
  (∀ (k0_h13 : k0_cond13 v72 = 1#1), ∀ a x, ((![v172, v259] : Fin 2 → IVec S16 32) a x).toNat < S512x32.size a)
theorem k0_idx794_inb : ∀ (v72 : BitVec 32) (v172 : IVec S16 32) (v259 : IVec S16 32) (k0_hw787 : k0_chk787 v72 v172 v259), ∀ (k0_h13 : k0_cond13 v72 = 1#1), ∀ a x, ((![v172, v259] : Fin 2 → IVec S16 32) a x).toNat < S512x32.size a := fun v72 v172 v259 k0_hw787 k0_h13 => k0_hw787 k0_h13

def k0_chk788 (v72 : BitVec 32) (v267 : IVec S16 32) (v273 : IVec S16 32) : Prop :=
  (∀ (k0_h13 : k0_cond13 v72 = 1#1), ∀ a x, ((![v273, v267] : Fin 2 → IVec S16 32) a x).toNat < S64x32.size a)
theorem k0_idx795_inb : ∀ (v72 : BitVec 32) (v267 : IVec S16 32) (v273 : IVec S16 32) (k0_hw788 : k0_chk788 v72 v267 v273), ∀ (k0_h13 : k0_cond13 v72 = 1#1), ∀ a x, ((![v273, v267] : Fin 2 → IVec S16 32) a x).toNat < S64x32.size a := fun v72 v267 v273 k0_hw788 k0_h13 => k0_hw788 k0_h13

def k0_chk789 (v72 : BitVec 32) (v172 : IVec S16 32) (v267 : IVec S16 32) : Prop :=
  (∀ (k0_h13 : k0_cond13 v72 = 1#1), ∀ a x, ((![v172, v267] : Fin 2 → IVec S16 32) a x).toNat < S512x32.size a)
theorem k0_idx796_inb : ∀ (v72 : BitVec 32) (v172 : IVec S16 32) (v267 : IVec S16 32) (k0_hw789 : k0_chk789 v72 v172 v267), ∀ (k0_h13 : k0_cond13 v72 = 1#1), ∀ a x, ((![v172, v267] : Fin 2 → IVec S16 32) a x).toNat < S512x32.size a := fun v72 v172 v267 k0_hw789 k0_h13 => k0_hw789 k0_h13

def k0_chk790 (v72 : BitVec 32) (v275 : IVec S16 32) (v281 : IVec S16 32) : Prop :=
  (∀ (k0_h13 : k0_cond13 v72 = 1#1), ∀ a x, ((![v281, v275] : Fin 2 → IVec S16 32) a x).toNat < S64x32.size a)
theorem k0_idx797_inb : ∀ (v72 : BitVec 32) (v275 : IVec S16 32) (v281 : IVec S16 32) (k0_hw790 : k0_chk790 v72 v275 v281), ∀ (k0_h13 : k0_cond13 v72 = 1#1), ∀ a x, ((![v281, v275] : Fin 2 → IVec S16 32) a x).toNat < S64x32.size a := fun v72 v275 v281 k0_hw790 k0_h13 => k0_hw790 k0_h13

def k0_chk791 (v72 : BitVec 32) (v172 : IVec S16 32) (v275 : IVec S16 32) : Prop :=
  (∀ (k0_h13 : k0_cond13 v72 = 1#1), ∀ a x, ((![v172, v275] : Fin 2 → IVec S16 32) a x).toNat < S512x32.size a)
theorem k0_idx798_inb : ∀ (v72 : BitVec 32) (v172 : IVec S16 32) (v275 : IVec S16 32) (k0_hw791 : k0_chk791 v72 v172 v275), ∀ (k0_h13 : k0_cond13 v72 = 1#1), ∀ a x, ((![v172, v275] : Fin 2 → IVec S16 32) a x).toNat < S512x32.size a := fun v72 v172 v275 k0_hw791 k0_h13 => k0_hw791 k0_h13

def k0_chk792 (v72 : BitVec 32) (v283 : IVec S16 32) (v289 : IVec S16 32) : Prop :=
  (∀ (k0_h13 : k0_cond13 v72 = 1#1), ∀ a x, ((![v289, v283] : Fin 2 → IVec S16 32) a x).toNat < S64x32.size a)
theorem k0_idx799_inb : ∀ (v72 : BitVec 32) (v283 : IVec S16 32) (v289 : IVec S16 32) (k0_hw792 : k0_chk792 v72 v283 v289), ∀ (k0_h13 : k0_cond13 v72 = 1#1), ∀ a x, ((![v289, v283] : Fin 2 → IVec S16 32) a x).toNat < S64x32.size a := fun v72 v283 v289 k0_hw792 k0_h13 => k0_hw792 k0_h13

def k0_chk793 (v72 : BitVec 32) (v172 : IVec S16 32) (v283 : IVec S16 32) : Prop :=
  (∀ (k0_h13 : k0_cond13 v72 = 1#1), ∀ a x, ((![v172, v283] : Fin 2 → IVec S16 32) a x).toNat < S512x32.size a)
theorem k0_idx800_inb : ∀ (v72 : BitVec 32) (v172 : IVec S16 32) (v283 : IVec S16 32) (k0_hw793 : k0_chk793 v72 v172 v283), ∀ (k0_h13 : k0_cond13 v72 = 1#1), ∀ a x, ((![v172, v283] : Fin 2 → IVec S16 32) a x).toNat < S512x32.size a := fun v72 v172 v283 k0_hw793 k0_h13 => k0_hw793 k0_h13

def k0_chk794 (v72 : BitVec 32) (v291 : IVec S16 32) (v297 : IVec S16 32) : Prop :=
  (∀ (k0_h13 : k0_cond13 v72 = 1#1), ∀ a x, ((![v297, v291] : Fin 2 → IVec S16 32) a x).toNat < S64x32.size a)
theorem k0_idx801_inb : ∀ (v72 : BitVec 32) (v291 : IVec S16 32) (v297 : IVec S16 32) (k0_hw794 : k0_chk794 v72 v291 v297), ∀ (k0_h13 : k0_cond13 v72 = 1#1), ∀ a x, ((![v297, v291] : Fin 2 → IVec S16 32) a x).toNat < S64x32.size a := fun v72 v291 v297 k0_hw794 k0_h13 => k0_hw794 k0_h13

def k0_chk795 (v72 : BitVec 32) (v172 : IVec S16 32) (v291 : IVec S16 32) : Prop :=
  (∀ (k0_h13 : k0_cond13 v72 = 1#1), ∀ a x, ((![v172, v291] : Fin 2 → IVec S16 32) a x).toNat < S512x32.size a)
theorem k0_idx802_inb : ∀ (v72 : BitVec 32) (v172 : IVec S16 32) (v291 : IVec S16 32) (k0_hw795 : k0_chk795 v72 v172 v291), ∀ (k0_h13 : k0_cond13 v72 = 1#1), ∀ a x, ((![v172, v291] : Fin 2 → IVec S16 32) a x).toNat < S512x32.size a := fun v72 v172 v291 k0_hw795 k0_h13 => k0_hw795 k0_h13

def k0_chk796 (v72 : BitVec 32) (v299 : IVec S16 32) (v305 : IVec S16 32) : Prop :=
  (∀ (k0_h13 : k0_cond13 v72 = 1#1), ∀ a x, ((![v305, v299] : Fin 2 → IVec S16 32) a x).toNat < S64x32.size a)
theorem k0_idx803_inb : ∀ (v72 : BitVec 32) (v299 : IVec S16 32) (v305 : IVec S16 32) (k0_hw796 : k0_chk796 v72 v299 v305), ∀ (k0_h13 : k0_cond13 v72 = 1#1), ∀ a x, ((![v305, v299] : Fin 2 → IVec S16 32) a x).toNat < S64x32.size a := fun v72 v299 v305 k0_hw796 k0_h13 => k0_hw796 k0_h13

def k0_chk797 (v72 : BitVec 32) (v172 : IVec S16 32) (v299 : IVec S16 32) : Prop :=
  (∀ (k0_h13 : k0_cond13 v72 = 1#1), ∀ a x, ((![v172, v299] : Fin 2 → IVec S16 32) a x).toNat < S512x32.size a)
theorem k0_idx804_inb : ∀ (v72 : BitVec 32) (v172 : IVec S16 32) (v299 : IVec S16 32) (k0_hw797 : k0_chk797 v72 v172 v299), ∀ (k0_h13 : k0_cond13 v72 = 1#1), ∀ a x, ((![v172, v299] : Fin 2 → IVec S16 32) a x).toNat < S512x32.size a := fun v72 v172 v299 k0_hw797 k0_h13 => k0_hw797 k0_h13

def k0_chk798 (v72 : BitVec 32) (v307 : IVec S16 32) (v313 : IVec S16 32) : Prop :=
  (∀ (k0_h13 : k0_cond13 v72 = 1#1), ∀ a x, ((![v313, v307] : Fin 2 → IVec S16 32) a x).toNat < S64x32.size a)
theorem k0_idx805_inb : ∀ (v72 : BitVec 32) (v307 : IVec S16 32) (v313 : IVec S16 32) (k0_hw798 : k0_chk798 v72 v307 v313), ∀ (k0_h13 : k0_cond13 v72 = 1#1), ∀ a x, ((![v313, v307] : Fin 2 → IVec S16 32) a x).toNat < S64x32.size a := fun v72 v307 v313 k0_hw798 k0_h13 => k0_hw798 k0_h13

def k0_chk799 (v72 : BitVec 32) (v172 : IVec S16 32) (v307 : IVec S16 32) : Prop :=
  (∀ (k0_h13 : k0_cond13 v72 = 1#1), ∀ a x, ((![v172, v307] : Fin 2 → IVec S16 32) a x).toNat < S512x32.size a)
theorem k0_idx806_inb : ∀ (v72 : BitVec 32) (v172 : IVec S16 32) (v307 : IVec S16 32) (k0_hw799 : k0_chk799 v72 v172 v307), ∀ (k0_h13 : k0_cond13 v72 = 1#1), ∀ a x, ((![v172, v307] : Fin 2 → IVec S16 32) a x).toNat < S512x32.size a := fun v72 v172 v307 k0_hw799 k0_h13 => k0_hw799 k0_h13

def k0_chk800 (v72 : BitVec 32) (v315 : IVec S16 32) (v321 : IVec S16 32) : Prop :=
  (∀ (k0_h13 : k0_cond13 v72 = 1#1), ∀ a x, ((![v321, v315] : Fin 2 → IVec S16 32) a x).toNat < S64x32.size a)
theorem k0_idx807_inb : ∀ (v72 : BitVec 32) (v315 : IVec S16 32) (v321 : IVec S16 32) (k0_hw800 : k0_chk800 v72 v315 v321), ∀ (k0_h13 : k0_cond13 v72 = 1#1), ∀ a x, ((![v321, v315] : Fin 2 → IVec S16 32) a x).toNat < S64x32.size a := fun v72 v315 v321 k0_hw800 k0_h13 => k0_hw800 k0_h13

def k0_chk801 (v72 : BitVec 32) (v172 : IVec S16 32) (v315 : IVec S16 32) : Prop :=
  (∀ (k0_h13 : k0_cond13 v72 = 1#1), ∀ a x, ((![v172, v315] : Fin 2 → IVec S16 32) a x).toNat < S512x32.size a)
theorem k0_idx808_inb : ∀ (v72 : BitVec 32) (v172 : IVec S16 32) (v315 : IVec S16 32) (k0_hw801 : k0_chk801 v72 v172 v315), ∀ (k0_h13 : k0_cond13 v72 = 1#1), ∀ a x, ((![v172, v315] : Fin 2 → IVec S16 32) a x).toNat < S512x32.size a := fun v72 v172 v315 k0_hw801 k0_h13 => k0_hw801 k0_h13

def k0_chk802 (v72 : BitVec 32) (v323 : IVec S16 32) (v329 : IVec S16 32) : Prop :=
  (∀ (k0_h13 : k0_cond13 v72 = 1#1), ∀ a x, ((![v329, v323] : Fin 2 → IVec S16 32) a x).toNat < S64x32.size a)
theorem k0_idx809_inb : ∀ (v72 : BitVec 32) (v323 : IVec S16 32) (v329 : IVec S16 32) (k0_hw802 : k0_chk802 v72 v323 v329), ∀ (k0_h13 : k0_cond13 v72 = 1#1), ∀ a x, ((![v329, v323] : Fin 2 → IVec S16 32) a x).toNat < S64x32.size a := fun v72 v323 v329 k0_hw802 k0_h13 => k0_hw802 k0_h13

def k0_chk803 (v72 : BitVec 32) (v172 : IVec S16 32) (v323 : IVec S16 32) : Prop :=
  (∀ (k0_h13 : k0_cond13 v72 = 1#1), ∀ a x, ((![v172, v323] : Fin 2 → IVec S16 32) a x).toNat < S512x32.size a)
theorem k0_idx810_inb : ∀ (v72 : BitVec 32) (v172 : IVec S16 32) (v323 : IVec S16 32) (k0_hw803 : k0_chk803 v72 v172 v323), ∀ (k0_h13 : k0_cond13 v72 = 1#1), ∀ a x, ((![v172, v323] : Fin 2 → IVec S16 32) a x).toNat < S512x32.size a := fun v72 v172 v323 k0_hw803 k0_h13 => k0_hw803 k0_h13

def k0_chk804 (v72 : BitVec 32) (v331 : IVec S16 32) (v337 : IVec S16 32) : Prop :=
  (∀ (k0_h13 : k0_cond13 v72 = 1#1), ∀ a x, ((![v337, v331] : Fin 2 → IVec S16 32) a x).toNat < S64x32.size a)
theorem k0_idx811_inb : ∀ (v72 : BitVec 32) (v331 : IVec S16 32) (v337 : IVec S16 32) (k0_hw804 : k0_chk804 v72 v331 v337), ∀ (k0_h13 : k0_cond13 v72 = 1#1), ∀ a x, ((![v337, v331] : Fin 2 → IVec S16 32) a x).toNat < S64x32.size a := fun v72 v331 v337 k0_hw804 k0_h13 => k0_hw804 k0_h13

def k0_chk805 (v72 : BitVec 32) (v172 : IVec S16 32) (v331 : IVec S16 32) : Prop :=
  (∀ (k0_h13 : k0_cond13 v72 = 1#1), ∀ a x, ((![v172, v331] : Fin 2 → IVec S16 32) a x).toNat < S512x32.size a)
theorem k0_idx812_inb : ∀ (v72 : BitVec 32) (v172 : IVec S16 32) (v331 : IVec S16 32) (k0_hw805 : k0_chk805 v72 v172 v331), ∀ (k0_h13 : k0_cond13 v72 = 1#1), ∀ a x, ((![v172, v331] : Fin 2 → IVec S16 32) a x).toNat < S512x32.size a := fun v72 v172 v331 k0_hw805 k0_h13 => k0_hw805 k0_h13

def k0_chk806 (v72 : BitVec 32) (v339 : IVec S16 32) (v345 : IVec S16 32) : Prop :=
  (∀ (k0_h13 : k0_cond13 v72 = 1#1), ∀ a x, ((![v345, v339] : Fin 2 → IVec S16 32) a x).toNat < S64x32.size a)
theorem k0_idx813_inb : ∀ (v72 : BitVec 32) (v339 : IVec S16 32) (v345 : IVec S16 32) (k0_hw806 : k0_chk806 v72 v339 v345), ∀ (k0_h13 : k0_cond13 v72 = 1#1), ∀ a x, ((![v345, v339] : Fin 2 → IVec S16 32) a x).toNat < S64x32.size a := fun v72 v339 v345 k0_hw806 k0_h13 => k0_hw806 k0_h13

def k0_chk807 (v72 : BitVec 32) (v172 : IVec S16 32) (v339 : IVec S16 32) : Prop :=
  (∀ (k0_h13 : k0_cond13 v72 = 1#1), ∀ a x, ((![v172, v339] : Fin 2 → IVec S16 32) a x).toNat < S512x32.size a)
theorem k0_idx814_inb : ∀ (v72 : BitVec 32) (v172 : IVec S16 32) (v339 : IVec S16 32) (k0_hw807 : k0_chk807 v72 v172 v339), ∀ (k0_h13 : k0_cond13 v72 = 1#1), ∀ a x, ((![v172, v339] : Fin 2 → IVec S16 32) a x).toNat < S512x32.size a := fun v72 v172 v339 k0_hw807 k0_h13 => k0_hw807 k0_h13

def k0_chk808 (v72 : BitVec 32) (v347 : IVec S16 32) (v353 : IVec S16 32) : Prop :=
  (∀ (k0_h13 : k0_cond13 v72 = 1#1), ∀ a x, ((![v353, v347] : Fin 2 → IVec S16 32) a x).toNat < S64x32.size a)
theorem k0_idx815_inb : ∀ (v72 : BitVec 32) (v347 : IVec S16 32) (v353 : IVec S16 32) (k0_hw808 : k0_chk808 v72 v347 v353), ∀ (k0_h13 : k0_cond13 v72 = 1#1), ∀ a x, ((![v353, v347] : Fin 2 → IVec S16 32) a x).toNat < S64x32.size a := fun v72 v347 v353 k0_hw808 k0_h13 => k0_hw808 k0_h13

def k0_chk809 (v72 : BitVec 32) (v172 : IVec S16 32) (v347 : IVec S16 32) : Prop :=
  (∀ (k0_h13 : k0_cond13 v72 = 1#1), ∀ a x, ((![v172, v347] : Fin 2 → IVec S16 32) a x).toNat < S512x32.size a)
theorem k0_idx816_inb : ∀ (v72 : BitVec 32) (v172 : IVec S16 32) (v347 : IVec S16 32) (k0_hw809 : k0_chk809 v72 v172 v347), ∀ (k0_h13 : k0_cond13 v72 = 1#1), ∀ a x, ((![v172, v347] : Fin 2 → IVec S16 32) a x).toNat < S512x32.size a := fun v72 v172 v347 k0_hw809 k0_h13 => k0_hw809 k0_h13

def k0_chk810 (v72 : BitVec 32) (v355 : IVec S16 32) (v361 : IVec S16 32) : Prop :=
  (∀ (k0_h13 : k0_cond13 v72 = 1#1), ∀ a x, ((![v361, v355] : Fin 2 → IVec S16 32) a x).toNat < S64x32.size a)
theorem k0_idx817_inb : ∀ (v72 : BitVec 32) (v355 : IVec S16 32) (v361 : IVec S16 32) (k0_hw810 : k0_chk810 v72 v355 v361), ∀ (k0_h13 : k0_cond13 v72 = 1#1), ∀ a x, ((![v361, v355] : Fin 2 → IVec S16 32) a x).toNat < S64x32.size a := fun v72 v355 v361 k0_hw810 k0_h13 => k0_hw810 k0_h13

def k0_chk811 (v72 : BitVec 32) (v172 : IVec S16 32) (v355 : IVec S16 32) : Prop :=
  (∀ (k0_h13 : k0_cond13 v72 = 1#1), ∀ a x, ((![v172, v355] : Fin 2 → IVec S16 32) a x).toNat < S512x32.size a)
theorem k0_idx818_inb : ∀ (v72 : BitVec 32) (v172 : IVec S16 32) (v355 : IVec S16 32) (k0_hw811 : k0_chk811 v72 v172 v355), ∀ (k0_h13 : k0_cond13 v72 = 1#1), ∀ a x, ((![v172, v355] : Fin 2 → IVec S16 32) a x).toNat < S512x32.size a := fun v72 v172 v355 k0_hw811 k0_h13 => k0_hw811 k0_h13

def k0_chk812 (v72 : BitVec 32) (v363 : IVec S16 32) (v369 : IVec S16 32) : Prop :=
  (∀ (k0_h13 : k0_cond13 v72 = 1#1), ∀ a x, ((![v369, v363] : Fin 2 → IVec S16 32) a x).toNat < S64x32.size a)
theorem k0_idx819_inb : ∀ (v72 : BitVec 32) (v363 : IVec S16 32) (v369 : IVec S16 32) (k0_hw812 : k0_chk812 v72 v363 v369), ∀ (k0_h13 : k0_cond13 v72 = 1#1), ∀ a x, ((![v369, v363] : Fin 2 → IVec S16 32) a x).toNat < S64x32.size a := fun v72 v363 v369 k0_hw812 k0_h13 => k0_hw812 k0_h13

def k0_chk813 (v72 : BitVec 32) (v172 : IVec S16 32) (v363 : IVec S16 32) : Prop :=
  (∀ (k0_h13 : k0_cond13 v72 = 1#1), ∀ a x, ((![v172, v363] : Fin 2 → IVec S16 32) a x).toNat < S512x32.size a)
theorem k0_idx820_inb : ∀ (v72 : BitVec 32) (v172 : IVec S16 32) (v363 : IVec S16 32) (k0_hw813 : k0_chk813 v72 v172 v363), ∀ (k0_h13 : k0_cond13 v72 = 1#1), ∀ a x, ((![v172, v363] : Fin 2 → IVec S16 32) a x).toNat < S512x32.size a := fun v72 v172 v363 k0_hw813 k0_h13 => k0_hw813 k0_h13

def k0_chk814 (v72 : BitVec 32) (v371 : IVec S16 32) (v377 : IVec S16 32) : Prop :=
  (∀ (k0_h13 : k0_cond13 v72 = 1#1), ∀ a x, ((![v377, v371] : Fin 2 → IVec S16 32) a x).toNat < S64x32.size a)
theorem k0_idx821_inb : ∀ (v72 : BitVec 32) (v371 : IVec S16 32) (v377 : IVec S16 32) (k0_hw814 : k0_chk814 v72 v371 v377), ∀ (k0_h13 : k0_cond13 v72 = 1#1), ∀ a x, ((![v377, v371] : Fin 2 → IVec S16 32) a x).toNat < S64x32.size a := fun v72 v371 v377 k0_hw814 k0_h13 => k0_hw814 k0_h13

def k0_chk815 (v72 : BitVec 32) (v172 : IVec S16 32) (v371 : IVec S16 32) : Prop :=
  (∀ (k0_h13 : k0_cond13 v72 = 1#1), ∀ a x, ((![v172, v371] : Fin 2 → IVec S16 32) a x).toNat < S512x32.size a)
theorem k0_idx822_inb : ∀ (v72 : BitVec 32) (v172 : IVec S16 32) (v371 : IVec S16 32) (k0_hw815 : k0_chk815 v72 v172 v371), ∀ (k0_h13 : k0_cond13 v72 = 1#1), ∀ a x, ((![v172, v371] : Fin 2 → IVec S16 32) a x).toNat < S512x32.size a := fun v72 v172 v371 k0_hw815 k0_h13 => k0_hw815 k0_h13

def k0_chk816 (v72 : BitVec 32) (v379 : IVec S16 32) (v385 : IVec S16 32) : Prop :=
  (∀ (k0_h13 : k0_cond13 v72 = 1#1), ∀ a x, ((![v385, v379] : Fin 2 → IVec S16 32) a x).toNat < S64x32.size a)
theorem k0_idx823_inb : ∀ (v72 : BitVec 32) (v379 : IVec S16 32) (v385 : IVec S16 32) (k0_hw816 : k0_chk816 v72 v379 v385), ∀ (k0_h13 : k0_cond13 v72 = 1#1), ∀ a x, ((![v385, v379] : Fin 2 → IVec S16 32) a x).toNat < S64x32.size a := fun v72 v379 v385 k0_hw816 k0_h13 => k0_hw816 k0_h13

def k0_chk817 (v72 : BitVec 32) (v172 : IVec S16 32) (v379 : IVec S16 32) : Prop :=
  (∀ (k0_h13 : k0_cond13 v72 = 1#1), ∀ a x, ((![v172, v379] : Fin 2 → IVec S16 32) a x).toNat < S512x32.size a)
theorem k0_idx824_inb : ∀ (v72 : BitVec 32) (v172 : IVec S16 32) (v379 : IVec S16 32) (k0_hw817 : k0_chk817 v72 v172 v379), ∀ (k0_h13 : k0_cond13 v72 = 1#1), ∀ a x, ((![v172, v379] : Fin 2 → IVec S16 32) a x).toNat < S512x32.size a := fun v72 v172 v379 k0_hw817 k0_h13 => k0_hw817 k0_h13

def k0_chk818 (v72 : BitVec 32) (v387 : IVec S16 32) (v393 : IVec S16 32) : Prop :=
  (∀ (k0_h13 : k0_cond13 v72 = 1#1), ∀ a x, ((![v393, v387] : Fin 2 → IVec S16 32) a x).toNat < S64x32.size a)
theorem k0_idx825_inb : ∀ (v72 : BitVec 32) (v387 : IVec S16 32) (v393 : IVec S16 32) (k0_hw818 : k0_chk818 v72 v387 v393), ∀ (k0_h13 : k0_cond13 v72 = 1#1), ∀ a x, ((![v393, v387] : Fin 2 → IVec S16 32) a x).toNat < S64x32.size a := fun v72 v387 v393 k0_hw818 k0_h13 => k0_hw818 k0_h13

def k0_chk819 (v72 : BitVec 32) (v172 : IVec S16 32) (v387 : IVec S16 32) : Prop :=
  (∀ (k0_h13 : k0_cond13 v72 = 1#1), ∀ a x, ((![v172, v387] : Fin 2 → IVec S16 32) a x).toNat < S512x32.size a)
theorem k0_idx826_inb : ∀ (v72 : BitVec 32) (v172 : IVec S16 32) (v387 : IVec S16 32) (k0_hw819 : k0_chk819 v72 v172 v387), ∀ (k0_h13 : k0_cond13 v72 = 1#1), ∀ a x, ((![v172, v387] : Fin 2 → IVec S16 32) a x).toNat < S512x32.size a := fun v72 v172 v387 k0_hw819 k0_h13 => k0_hw819 k0_h13

def k0_chk820 (v72 : BitVec 32) (v395 : IVec S16 32) (v401 : IVec S16 32) : Prop :=
  (∀ (k0_h13 : k0_cond13 v72 = 1#1), ∀ a x, ((![v401, v395] : Fin 2 → IVec S16 32) a x).toNat < S64x32.size a)
theorem k0_idx827_inb : ∀ (v72 : BitVec 32) (v395 : IVec S16 32) (v401 : IVec S16 32) (k0_hw820 : k0_chk820 v72 v395 v401), ∀ (k0_h13 : k0_cond13 v72 = 1#1), ∀ a x, ((![v401, v395] : Fin 2 → IVec S16 32) a x).toNat < S64x32.size a := fun v72 v395 v401 k0_hw820 k0_h13 => k0_hw820 k0_h13

def k0_chk821 (v72 : BitVec 32) (v172 : IVec S16 32) (v395 : IVec S16 32) : Prop :=
  (∀ (k0_h13 : k0_cond13 v72 = 1#1), ∀ a x, ((![v172, v395] : Fin 2 → IVec S16 32) a x).toNat < S512x32.size a)
theorem k0_idx828_inb : ∀ (v72 : BitVec 32) (v172 : IVec S16 32) (v395 : IVec S16 32) (k0_hw821 : k0_chk821 v72 v172 v395), ∀ (k0_h13 : k0_cond13 v72 = 1#1), ∀ a x, ((![v172, v395] : Fin 2 → IVec S16 32) a x).toNat < S512x32.size a := fun v72 v172 v395 k0_hw821 k0_h13 => k0_hw821 k0_h13

def k0_chk822 (v72 : BitVec 32) (v403 : IVec S16 32) (v409 : IVec S16 32) : Prop :=
  (∀ (k0_h13 : k0_cond13 v72 = 1#1), ∀ a x, ((![v409, v403] : Fin 2 → IVec S16 32) a x).toNat < S64x32.size a)
theorem k0_idx829_inb : ∀ (v72 : BitVec 32) (v403 : IVec S16 32) (v409 : IVec S16 32) (k0_hw822 : k0_chk822 v72 v403 v409), ∀ (k0_h13 : k0_cond13 v72 = 1#1), ∀ a x, ((![v409, v403] : Fin 2 → IVec S16 32) a x).toNat < S64x32.size a := fun v72 v403 v409 k0_hw822 k0_h13 => k0_hw822 k0_h13

def k0_chk823 (v72 : BitVec 32) (v172 : IVec S16 32) (v403 : IVec S16 32) : Prop :=
  (∀ (k0_h13 : k0_cond13 v72 = 1#1), ∀ a x, ((![v172, v403] : Fin 2 → IVec S16 32) a x).toNat < S512x32.size a)
theorem k0_idx830_inb : ∀ (v72 : BitVec 32) (v172 : IVec S16 32) (v403 : IVec S16 32) (k0_hw823 : k0_chk823 v72 v172 v403), ∀ (k0_h13 : k0_cond13 v72 = 1#1), ∀ a x, ((![v172, v403] : Fin 2 → IVec S16 32) a x).toNat < S512x32.size a := fun v72 v172 v403 k0_hw823 k0_h13 => k0_hw823 k0_h13

def k0_chk824 (v72 : BitVec 32) (v411 : IVec S16 32) (v417 : IVec S16 32) : Prop :=
  (∀ (k0_h13 : k0_cond13 v72 = 1#1), ∀ a x, ((![v417, v411] : Fin 2 → IVec S16 32) a x).toNat < S64x32.size a)
theorem k0_idx831_inb : ∀ (v72 : BitVec 32) (v411 : IVec S16 32) (v417 : IVec S16 32) (k0_hw824 : k0_chk824 v72 v411 v417), ∀ (k0_h13 : k0_cond13 v72 = 1#1), ∀ a x, ((![v417, v411] : Fin 2 → IVec S16 32) a x).toNat < S64x32.size a := fun v72 v411 v417 k0_hw824 k0_h13 => k0_hw824 k0_h13

def k0_chk825 (v72 : BitVec 32) (v172 : IVec S16 32) (v411 : IVec S16 32) : Prop :=
  (∀ (k0_h13 : k0_cond13 v72 = 1#1), ∀ a x, ((![v172, v411] : Fin 2 → IVec S16 32) a x).toNat < S512x32.size a)
theorem k0_idx832_inb : ∀ (v72 : BitVec 32) (v172 : IVec S16 32) (v411 : IVec S16 32) (k0_hw825 : k0_chk825 v72 v172 v411), ∀ (k0_h13 : k0_cond13 v72 = 1#1), ∀ a x, ((![v172, v411] : Fin 2 → IVec S16 32) a x).toNat < S512x32.size a := fun v72 v172 v411 k0_hw825 k0_h13 => k0_hw825 k0_h13

def k0_chk826 (v72 : BitVec 32) (v419 : IVec S16 32) (v425 : IVec S16 32) : Prop :=
  (∀ (k0_h13 : k0_cond13 v72 = 1#1), ∀ a x, ((![v425, v419] : Fin 2 → IVec S16 32) a x).toNat < S64x32.size a)
theorem k0_idx833_inb : ∀ (v72 : BitVec 32) (v419 : IVec S16 32) (v425 : IVec S16 32) (k0_hw826 : k0_chk826 v72 v419 v425), ∀ (k0_h13 : k0_cond13 v72 = 1#1), ∀ a x, ((![v425, v419] : Fin 2 → IVec S16 32) a x).toNat < S64x32.size a := fun v72 v419 v425 k0_hw826 k0_h13 => k0_hw826 k0_h13

def k0_chk827 (v72 : BitVec 32) (v172 : IVec S16 32) (v419 : IVec S16 32) : Prop :=
  (∀ (k0_h13 : k0_cond13 v72 = 1#1), ∀ a x, ((![v172, v419] : Fin 2 → IVec S16 32) a x).toNat < S512x32.size a)
theorem k0_idx834_inb : ∀ (v72 : BitVec 32) (v172 : IVec S16 32) (v419 : IVec S16 32) (k0_hw827 : k0_chk827 v72 v172 v419), ∀ (k0_h13 : k0_cond13 v72 = 1#1), ∀ a x, ((![v172, v419] : Fin 2 → IVec S16 32) a x).toNat < S512x32.size a := fun v72 v172 v419 k0_hw827 k0_h13 => k0_hw827 k0_h13

def k0_chk828 (v72 : BitVec 32) (v427 : IVec S16 32) (v433 : IVec S16 32) : Prop :=
  (∀ (k0_h13 : k0_cond13 v72 = 1#1), ∀ a x, ((![v433, v427] : Fin 2 → IVec S16 32) a x).toNat < S64x32.size a)
theorem k0_idx835_inb : ∀ (v72 : BitVec 32) (v427 : IVec S16 32) (v433 : IVec S16 32) (k0_hw828 : k0_chk828 v72 v427 v433), ∀ (k0_h13 : k0_cond13 v72 = 1#1), ∀ a x, ((![v433, v427] : Fin 2 → IVec S16 32) a x).toNat < S64x32.size a := fun v72 v427 v433 k0_hw828 k0_h13 => k0_hw828 k0_h13

def k0_chk829 (v72 : BitVec 32) (v172 : IVec S16 32) (v427 : IVec S16 32) : Prop :=
  (∀ (k0_h13 : k0_cond13 v72 = 1#1), ∀ a x, ((![v172, v427] : Fin 2 → IVec S16 32) a x).toNat < S512x32.size a)
theorem k0_idx836_inb : ∀ (v72 : BitVec 32) (v172 : IVec S16 32) (v427 : IVec S16 32) (k0_hw829 : k0_chk829 v72 v172 v427), ∀ (k0_h13 : k0_cond13 v72 = 1#1), ∀ a x, ((![v172, v427] : Fin 2 → IVec S16 32) a x).toNat < S512x32.size a := fun v72 v172 v427 k0_hw829 k0_h13 => k0_hw829 k0_h13
@[reducible] def k0_t52_loop : Scf.Loop 32 :=
  let c0_i32_66 : BitVec 32 := 0#32
  let c8_i32_67 : BitVec 32 := 8#32
  let v76 : BitVec 32 := Scalar.addi c0_i32_66 c8_i32_67
  let c1_i32_68 : BitVec 32 := 1#32
  ⟨c0_i32_66, v76, c1_i32_68⟩
@[reducible] def k0_t53_loop : Scf.Loop 32 :=
  let c0_i32_169 : BitVec 32 := 0#32
  let c16_i32_170 : BitVec 32 := 16#32
  let v145 : BitVec 32 := Scalar.addi c0_i32_169 c16_i32_170
  let c1_i32_171 : BitVec 32 := 1#32
  ⟨c0_i32_169, v145, c1_i32_171⟩

def k0_chk830 (v150 : IVec S16 32) (v151 : IVec S16 32) : Prop :=
  (∀ a x, ((![v150, v151] : Fin 2 → IVec S16 32) a x).toNat < S512x32.size a)
theorem k0_idx837_inb : ∀ (v150 : IVec S16 32) (v151 : IVec S16 32) (k0_hw830 : k0_chk830 v150 v151), ∀ a x, ((![v150, v151] : Fin 2 → IVec S16 32) a x).toNat < S512x32.size a := fun v150 v151 k0_hw830 => k0_hw830

def k0_chk831 (v143 : IVec S16 32) (v153 : IVec S16 32) : Prop :=
  (∀ a x, ((![v143, v153] : Fin 2 → IVec S16 32) a x).toNat < S64x128.size a)
theorem k0_idx838_inb : ∀ (v143 : IVec S16 32) (v153 : IVec S16 32) (k0_hw831 : k0_chk831 v143 v153), ∀ a x, ((![v143, v153] : Fin 2 → IVec S16 32) a x).toNat < S64x128.size a := fun v143 v153 k0_hw831 => k0_hw831
@[reducible] def k0_t54_loop : Scf.Loop 32 :=
  let c0_i32_75 : BitVec 32 := 0#32
  let c8_i32_76 : BitVec 32 := 8#32
  let v81 : BitVec 32 := Scalar.addi c0_i32_75 c8_i32_76
  let c1_i32_77 : BitVec 32 := 1#32
  ⟨c0_i32_75, v81, c1_i32_77⟩
@[reducible] def k0_t55_loop : Scf.Loop 32 :=
  let c0_i32_169 : BitVec 32 := 0#32
  let c16_i32_170 : BitVec 32 := 16#32
  let v145 : BitVec 32 := Scalar.addi c0_i32_169 c16_i32_170
  let c1_i32_171 : BitVec 32 := 1#32
  ⟨c0_i32_169, v145, c1_i32_171⟩

def k0_chk832 (v150 : IVec S16 32) (v151 : IVec S16 32) : Prop :=
  (∀ a x, ((![v150, v151] : Fin 2 → IVec S16 32) a x).toNat < S512x32.size a)
theorem k0_idx839_inb : ∀ (v150 : IVec S16 32) (v151 : IVec S16 32) (k0_hw832 : k0_chk832 v150 v151), ∀ a x, ((![v150, v151] : Fin 2 → IVec S16 32) a x).toNat < S512x32.size a := fun v150 v151 k0_hw832 => k0_hw832

def k0_chk833 (v143 : IVec S16 32) (v153 : IVec S16 32) : Prop :=
  (∀ a x, ((![v143, v153] : Fin 2 → IVec S16 32) a x).toNat < S64x128.size a)
theorem k0_idx840_inb : ∀ (v143 : IVec S16 32) (v153 : IVec S16 32) (k0_hw833 : k0_chk833 v143 v153), ∀ a x, ((![v143, v153] : Fin 2 → IVec S16 32) a x).toNat < S64x128.size a := fun v143 v153 k0_hw833 => k0_hw833
@[reducible] def k0_t56_loop : Scf.Loop 32 :=
  let c0_i32_88 : BitVec 32 := 0#32
  let c8_i32_89 : BitVec 32 := 8#32
  let v89 : BitVec 32 := Scalar.addi c0_i32_88 c8_i32_89
  let c1_i32_90 : BitVec 32 := 1#32
  ⟨c0_i32_88, v89, c1_i32_90⟩
@[reducible] def k0_t57_loop : Scf.Loop 32 :=
  let c0_i32_169 : BitVec 32 := 0#32
  let c16_i32_170 : BitVec 32 := 16#32
  let v145 : BitVec 32 := Scalar.addi c0_i32_169 c16_i32_170
  let c1_i32_171 : BitVec 32 := 1#32
  ⟨c0_i32_169, v145, c1_i32_171⟩

def k0_chk834 (v150 : IVec S16 32) (v151 : IVec S16 32) : Prop :=
  (∀ a x, ((![v150, v151] : Fin 2 → IVec S16 32) a x).toNat < S512x32.size a)
theorem k0_idx841_inb : ∀ (v150 : IVec S16 32) (v151 : IVec S16 32) (k0_hw834 : k0_chk834 v150 v151), ∀ a x, ((![v150, v151] : Fin 2 → IVec S16 32) a x).toNat < S512x32.size a := fun v150 v151 k0_hw834 => k0_hw834

def k0_chk835 (v143 : IVec S16 32) (v153 : IVec S16 32) : Prop :=
  (∀ a x, ((![v143, v153] : Fin 2 → IVec S16 32) a x).toNat < S64x128.size a)
theorem k0_idx842_inb : ∀ (v143 : IVec S16 32) (v153 : IVec S16 32) (k0_hw835 : k0_chk835 v143 v153), ∀ a x, ((![v143, v153] : Fin 2 → IVec S16 32) a x).toNat < S64x128.size a := fun v143 v153 k0_hw835 => k0_hw835
@[reducible] def k0_t58_loop : Scf.Loop 32 :=
  let c0_i32_101 : BitVec 32 := 0#32
  let c8_i32_102 : BitVec 32 := 8#32
  let v97 : BitVec 32 := Scalar.addi c0_i32_101 c8_i32_102
  let c1_i32_103 : BitVec 32 := 1#32
  ⟨c0_i32_101, v97, c1_i32_103⟩
@[reducible] def k0_t59_loop : Scf.Loop 32 :=
  let c0_i32_169 : BitVec 32 := 0#32
  let c16_i32_170 : BitVec 32 := 16#32
  let v145 : BitVec 32 := Scalar.addi c0_i32_169 c16_i32_170
  let c1_i32_171 : BitVec 32 := 1#32
  ⟨c0_i32_169, v145, c1_i32_171⟩

def k0_chk836 (v150 : IVec S16 32) (v151 : IVec S16 32) : Prop :=
  (∀ a x, ((![v150, v151] : Fin 2 → IVec S16 32) a x).toNat < S512x32.size a)
theorem k0_idx843_inb : ∀ (v150 : IVec S16 32) (v151 : IVec S16 32) (k0_hw836 : k0_chk836 v150 v151), ∀ a x, ((![v150, v151] : Fin 2 → IVec S16 32) a x).toNat < S512x32.size a := fun v150 v151 k0_hw836 => k0_hw836

def k0_chk837 (v143 : IVec S16 32) (v153 : IVec S16 32) : Prop :=
  (∀ a x, ((![v143, v153] : Fin 2 → IVec S16 32) a x).toNat < S64x128.size a)
theorem k0_idx844_inb : ∀ (v143 : IVec S16 32) (v153 : IVec S16 32) (k0_hw837 : k0_chk837 v143 v153), ∀ a x, ((![v143, v153] : Fin 2 → IVec S16 32) a x).toNat < S64x128.size a := fun v143 v153 k0_hw837 => k0_hw837
@[reducible] def k0_t60_loop : Scf.Loop 32 :=
  let c0_i32_113 : BitVec 32 := 0#32
  let c8_i32_114 : BitVec 32 := 8#32
  let v105 : BitVec 32 := Scalar.addi c0_i32_113 c8_i32_114
  let c1_i32_115 : BitVec 32 := 1#32
  ⟨c0_i32_113, v105, c1_i32_115⟩
@[reducible] def k0_t61_loop : Scf.Loop 32 :=
  let c0_i32_169 : BitVec 32 := 0#32
  let c16_i32_170 : BitVec 32 := 16#32
  let v145 : BitVec 32 := Scalar.addi c0_i32_169 c16_i32_170
  let c1_i32_171 : BitVec 32 := 1#32
  ⟨c0_i32_169, v145, c1_i32_171⟩

def k0_chk838 (v150 : IVec S16 32) (v151 : IVec S16 32) : Prop :=
  (∀ a x, ((![v150, v151] : Fin 2 → IVec S16 32) a x).toNat < S512x32.size a)
theorem k0_idx845_inb : ∀ (v150 : IVec S16 32) (v151 : IVec S16 32) (k0_hw838 : k0_chk838 v150 v151), ∀ a x, ((![v150, v151] : Fin 2 → IVec S16 32) a x).toNat < S512x32.size a := fun v150 v151 k0_hw838 => k0_hw838

def k0_chk839 (v143 : IVec S16 32) (v153 : IVec S16 32) : Prop :=
  (∀ a x, ((![v143, v153] : Fin 2 → IVec S16 32) a x).toNat < S64x128.size a)
theorem k0_idx846_inb : ∀ (v143 : IVec S16 32) (v153 : IVec S16 32) (k0_hw839 : k0_chk839 v143 v153), ∀ a x, ((![v143, v153] : Fin 2 → IVec S16 32) a x).toNat < S64x128.size a := fun v143 v153 k0_hw839 => k0_hw839
@[reducible] def k0_t62_loop : Scf.Loop 32 :=
  let c0_i32_126 : BitVec 32 := 0#32
  let c8_i32_127 : BitVec 32 := 8#32
  let v113 : BitVec 32 := Scalar.addi c0_i32_126 c8_i32_127
  let c1_i32_128 : BitVec 32 := 1#32
  ⟨c0_i32_126, v113, c1_i32_128⟩
@[reducible] def k0_t63_loop : Scf.Loop 32 :=
  let c0_i32_169 : BitVec 32 := 0#32
  let c16_i32_170 : BitVec 32 := 16#32
  let v145 : BitVec 32 := Scalar.addi c0_i32_169 c16_i32_170
  let c1_i32_171 : BitVec 32 := 1#32
  ⟨c0_i32_169, v145, c1_i32_171⟩

def k0_chk840 (v150 : IVec S16 32) (v151 : IVec S16 32) : Prop :=
  (∀ a x, ((![v150, v151] : Fin 2 → IVec S16 32) a x).toNat < S512x32.size a)
theorem k0_idx847_inb : ∀ (v150 : IVec S16 32) (v151 : IVec S16 32) (k0_hw840 : k0_chk840 v150 v151), ∀ a x, ((![v150, v151] : Fin 2 → IVec S16 32) a x).toNat < S512x32.size a := fun v150 v151 k0_hw840 => k0_hw840

def k0_chk841 (v143 : IVec S16 32) (v153 : IVec S16 32) : Prop :=
  (∀ a x, ((![v143, v153] : Fin 2 → IVec S16 32) a x).toNat < S64x128.size a)
theorem k0_idx848_inb : ∀ (v143 : IVec S16 32) (v153 : IVec S16 32) (k0_hw841 : k0_chk841 v143 v153), ∀ a x, ((![v143, v153] : Fin 2 → IVec S16 32) a x).toNat < S64x128.size a := fun v143 v153 k0_hw841 => k0_hw841
@[reducible] def k0_t64_loop : Scf.Loop 32 :=
  let c0_i32_138 : BitVec 32 := 0#32
  let c8_i32_139 : BitVec 32 := 8#32
  let v121 : BitVec 32 := Scalar.addi c0_i32_138 c8_i32_139
  let c1_i32_140 : BitVec 32 := 1#32
  ⟨c0_i32_138, v121, c1_i32_140⟩
@[reducible] def k0_t65_loop : Scf.Loop 32 :=
  let c0_i32_169 : BitVec 32 := 0#32
  let c16_i32_170 : BitVec 32 := 16#32
  let v145 : BitVec 32 := Scalar.addi c0_i32_169 c16_i32_170
  let c1_i32_171 : BitVec 32 := 1#32
  ⟨c0_i32_169, v145, c1_i32_171⟩

def k0_chk842 (v150 : IVec S16 32) (v151 : IVec S16 32) : Prop :=
  (∀ a x, ((![v150, v151] : Fin 2 → IVec S16 32) a x).toNat < S512x32.size a)
theorem k0_idx849_inb : ∀ (v150 : IVec S16 32) (v151 : IVec S16 32) (k0_hw842 : k0_chk842 v150 v151), ∀ a x, ((![v150, v151] : Fin 2 → IVec S16 32) a x).toNat < S512x32.size a := fun v150 v151 k0_hw842 => k0_hw842

def k0_chk843 (v143 : IVec S16 32) (v153 : IVec S16 32) : Prop :=
  (∀ a x, ((![v143, v153] : Fin 2 → IVec S16 32) a x).toNat < S64x128.size a)
theorem k0_idx850_inb : ∀ (v143 : IVec S16 32) (v153 : IVec S16 32) (k0_hw843 : k0_chk843 v143 v153), ∀ a x, ((![v143, v153] : Fin 2 → IVec S16 32) a x).toNat < S64x128.size a := fun v143 v153 k0_hw843 => k0_hw843
@[reducible] def k0_t66_loop : Scf.Loop 32 :=
  let c0_i32_150 : BitVec 32 := 0#32
  let c8_i32_151 : BitVec 32 := 8#32
  let v129 : BitVec 32 := Scalar.addi c0_i32_150 c8_i32_151
  let c1_i32_152 : BitVec 32 := 1#32
  ⟨c0_i32_150, v129, c1_i32_152⟩
@[reducible] def k0_t67_loop : Scf.Loop 32 :=
  let c0_i32_169 : BitVec 32 := 0#32
  let c16_i32_170 : BitVec 32 := 16#32
  let v145 : BitVec 32 := Scalar.addi c0_i32_169 c16_i32_170
  let c1_i32_171 : BitVec 32 := 1#32
  ⟨c0_i32_169, v145, c1_i32_171⟩

def k0_chk844 (v150 : IVec S16 32) (v151 : IVec S16 32) : Prop :=
  (∀ a x, ((![v150, v151] : Fin 2 → IVec S16 32) a x).toNat < S512x32.size a)
theorem k0_idx851_inb : ∀ (v150 : IVec S16 32) (v151 : IVec S16 32) (k0_hw844 : k0_chk844 v150 v151), ∀ a x, ((![v150, v151] : Fin 2 → IVec S16 32) a x).toNat < S512x32.size a := fun v150 v151 k0_hw844 => k0_hw844

def k0_chk845 (v143 : IVec S16 32) (v153 : IVec S16 32) : Prop :=
  (∀ a x, ((![v143, v153] : Fin 2 → IVec S16 32) a x).toNat < S64x128.size a)
theorem k0_idx852_inb : ∀ (v143 : IVec S16 32) (v153 : IVec S16 32) (k0_hw845 : k0_chk845 v143 v153), ∀ a x, ((![v143, v153] : Fin 2 → IVec S16 32) a x).toNat < S64x128.size a := fun v143 v153 k0_hw845 => k0_hw845
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384 : Shape := ⟨1, ![16384]⟩
abbrev S1000000x32 : Shape := ⟨2, ![1000000, 32]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩
abbrev S16384x8x4 : Shape := ⟨3, ![16384, 8, 4]⟩

abbrev nBuf : Space → Nat
  | .hbm => 26
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x32, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x32, .f32⟩
  | .hbm, ⟨21, _⟩ => ⟨S16384x32, .i1⟩
  | .hbm, ⟨22, _⟩ => ⟨S_, .f32⟩
  | .hbm, ⟨23, _⟩ => ⟨S16384x32, .f32⟩
  | .hbm, ⟨24, _⟩ => ⟨S16384x32, .f32⟩
  | .hbm, ⟨25, _⟩ => ⟨S16384x8x4, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Scatter.lean ====
/-
  Issuing an indirect scatter whose list may name one row of the target several times: every entry of the list brings a
  write update of its own for the row it names, so that rows named once may be owned outright while a row named by many
  entries, here the padding row, sits in an invariant.
-/
module

public import Idealize.ShloMosaic.Lib.SparseCore.Scatter
public import Idealize.ShloMosaic.Lib.Invariants

@[expose] public section

noncomputable section

namespace Cert.Proof.Emb

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- Writing through a view that lies inside a set kept by an invariant (at contents nobody states) as long as a token
    `X` is out: the write update asks for the token and gives it back. -/
theorem sharedWrite {v : View sig c.2.kind sp s e} {w : s.Idx → Elt F e} {κ : Name} {J : Finset (Idx (v.loc c))}
    {X T : sProp 𝕄} (hv : v.set ⊆ J) (hX : iprop(X ∗ T) ⊢ iprop(False)) :
    iprop(inv κ iprop((∃ f, v.loc c ↦[J]{fullShare} f) ∨ T) ∗ X) ⊢ writeUpdate c v w X := by
  rw [writeUpdate, writeUpdateFrom_def]
  iintro ⟨#Hinv, HX⟩
  iexists (fun _ => X)
  isplitl [HX]; · iexact HX
  isplitr
  · rw [writeSteps_def]
    imodintro
    iintro %M %M' HX
    iapply (atomically_intro_at frame Set.univ (Set.univ \ {κ}) (storeSpec c v w M') _)
    imod (inv_acc (Set.mem_univ κ)) $$ Hinv with ⟨Hb, Hclose⟩
    imodintro
    rw [storeSpec_apply]
    icases Hb with (⟨%f, Hf⟩ | HT)
    · iexists J, f
      isplitl [Hf]; · iexact Hf
      isplitr; · ipureintro; exact fun i hi => hv (v.setOn_subset_set _ hi)
      iintro Hf
      ihave H := Hclose $$ [Hf]
      · ileft; iexists (v.write (Elt F) f w M'); iexact Hf
      imod H
      imodintro
      iexact HX
    · ihave Hf := hX $$ [HX HT]
      · isplitl [HX] <;> iassumption
      iexfalso; iexact Hf
  · iintro HX; iexact HX

/-- Entry `j`'s row resources: its source row, its write update yielding `Rr`, and its place in the stream's count. -/
theorem wp_scatterUpd [Infinite Name] [EC.LandsIn (upEmb : UEmb _ 𝕄)]
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fo : Buf (Elt F) (offs.view.loc c)}
    (ι : Ix) (N : ℕ) (hs : 0 < s.numel) (hin : ∀ x, (offs.view.read (Elt F) fo x).toNat < s₀.size hg.axis)
    (Rr : Fin (s.size hg.axis') → sProp 𝕄) [∀ j, Storable (upEmb : UEmb _ 𝕄) (Rr j)]
    (hN : ∑ j, (dst.slice (s₀.rowRect hg.axis (rows (offs.view.read (Elt F) fo) hn hin j)) (s₀.stride_rowRect hg.axis _)).view.dmaCredit = N) :
    iprop((src.view.loc c ↦[src.view.set]{q} fs)
        ∗ (bigSep Finset.univ fun j => writeUpdate c (dst.view.slice (s₀.rowRect hg.axis (rows (offs.view.read (Elt F) fo) hn hin j)))
            (scatterRowPayload c src hg fs j) (Rr j))
        ∗ (offs.view.loc c ↦[offs.view.set]{qo} fo) ∗ semVal (c, SemLoc.dma sem) 0)
      ⊢ iprop((Transfers.Flight EC c (.dma sem) ι N
                iprop((bigSep Finset.univ Rr)
                  ∗ (src.view.loc c ↦[src.view.set]{q} fs) ∗ (offs.view.loc c ↦[offs.view.set]{qo} fo))
              -∗ wp frame (wpE defs 𝒱 c bd) Set.univ (k ⟨⟩) Q)
          -∗ wp frame (wpE defs 𝒱 c bd) Set.univ (enqueueIndirectScatter hp src dst hg offs hn sem he hsp hr >>= k) Q) := by
  classical
  rw [enqueueIndirectScatter_bind]
  let St : Stream nD τ sig (Elt F) :=
    Stream.issued c offs.view hn sem (fun j w => (rowOf (s₀.size hg.axis) w).map (scatterRow c src dst hg sem he hsp hr j)) 0
  let r : Fin (s.size hg.axis') → Fin (s₀.size hg.axis) := rows (offs.view.read (Elt F) fo) hn hin
  let rd : Fin (s.size hg.axis') → RowDma τ sig (Elt F) c.2 sem := fun j => scatterRow c src dst hg sem he hsp hr j (r j)
  let am : Fin (s.size hg.axis') → ℕ := fun j => (dst.slice (s₀.rowRect hg.axis (r j)) (s₀.stride_rowRect hg.axis _)).view.dmaCredit
  have hrow0 : 0 < (s₀.rowShape hg.axis).numel := by rw [← hg.rowShape_eq]; exact rowShape_numel_pos hs _
  have ham : ∀ j, 0 < am j := fun j => View.dmaCredit_pos _ hrow0
  let srow : Fin (s.size hg.axis') → sProp 𝕄 := fun j => src.view.loc c ↦[(src.view.slice (s.rowRect hg.axis' j)).set]{q} fs
  let Dl : Fin (s.size hg.axis') → sProp 𝕄 := fun j => iprop((Rr j ∗ St.heldEntry qo fo j) ∗ srow j)
  have hA : St.RowsAgree := by
    intro j x x' ρ ρ' h h'
    obtain ⟨_, _, rfl⟩ := Option.map_eq_some_iff.mp h
    obtain ⟨_, _, rfl⟩ := Option.map_eq_some_iff.mp h'
    rfl
  have hrd : ∀ j, St.row j (St.word fo j) = some (rd j) := fun j => by
    change (rowOf (s₀.size hg.axis) (offs.view.read (Elt F) fo (St.entry j))).map _ = _
    rw [rowOf_of_lt (hin _)]; rfl
  have hen : Function.Bijective St.entry := si.rowMajor.symm.bijective.comp (finCongr hn.symm).bijective
  have hset : ∀ j, (src.view.slice (s.rowRect hg.axis' j)).set = (rd j).src.view.set := fun j =>
    (View.set_cast (v := src.view.slice (s.rowRect hg.axis' j)) _ _).symm
  iintro ⟨Hs, Hu, Ho, Hv⟩ Hk
  imod (Transfers.stream_alloc EC ham Dl (g := (c, SemLoc.dma sem))) $$ Hv with ⟨%γ, %δ, %κ, #Hinv, Hγ, Hδ⟩
  ihave Ho := (Entails.of_eq (pointsTo_entries c offs.view St.entry hen qo fo)) $$ Ho
  ihave Hs := (Entails.of_eq (pointsTo_rows c src.view hg.axis' q fs)) $$ Hs
  iapply (wp_enqueueIndirectDma 𝒱 c bd Set.univ (qo := qo) (fo := fo) (rd := rd) ι N hA hrd hN) $$ [Hu Ho Hs Hγ]
  · have hrow : ∀ j, iprop(inv κ (Transfers.streamBody EC (c, SemLoc.dma sem) am Dl γ δ)
          ∗ (((writeUpdate c (dst.view.slice (s₀.rowRect hg.axis (r j))) (scatterRowPayload c src hg fs j) (Rr j) ∗ St.heldEntry qo fo j)
            ∗ srow j) ∗ count EC (γ j) 0))
        ⊢ iprop(St.heldEntry qo fo j ∗ (St.heldEntry qo fo j -∗ rowRes c (rd j))) := fun j => by
      iintro ⟨#Hinv, ⟨⟨Hr, He⟩, Hsq⟩, Hγj⟩
      isplitl [He]; · iexact He
      iintro He
      unfold rowRes
      iexists q, fs, iprop(Rr j ∗ St.heldEntry qo fo j)
      isplitl [Hsq]; · iapply (Entails.of_eq (congrArg (fun I => (src.view.loc c ↦[I]{q} fs : sProp 𝕄)) (hset j))) $$ Hsq
      isplitl [Hr He]
      · iapply writeUpdate_frame
        isplitl [Hr]; · iexact Hr
        iexact He
      · iapply (Entails.of_eq (show (creditUpdate (c, SemLoc.dma sem) ((rd j).dst.view.amount (.dma sem)) 0
            iprop((Rr j ∗ St.heldEntry qo fo j) ∗ (src.view.loc c ↦[(src.view.slice (s.rowRect hg.axis' j)).set]{q} fs)) : sProp 𝕄)
            = creditUpdate (c, SemLoc.dma sem) ((rd j).dst.view.amount (.dma sem)) 0
            iprop((Rr j ∗ St.heldEntry qo fo j) ∗ ((rd j).src.view.loc c ↦[(rd j).src.view.set]{q} fs)) from by rw [hset j]))
        iapply (Transfers.stream_creditUpdate EC (a := am) (D := Dl) (δ := δ) j)
        isplitr; · iexact Hinv
        iexact Hγj
    unfold Stream.res
    ihave H1 := Transfers.bigSep_sep_in _ _ _ $$ [Hu Ho]; · isplitl [Hu] <;> iassumption
    ihave H2 := Transfers.bigSep_sep_in _ _ _ $$ [H1 Hs]; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  · have hjoin : bigSep Finset.univ Dl
        ⊢ (iprop((bigSep Finset.univ Rr)
            ∗ (src.view.loc c ↦[src.view.set]{q} fs) ∗ (offs.view.loc c ↦[offs.view.set]{qo} fo)) : sProp 𝕄) := by
      iintro HD
      ihave H1 := Transfers.bigSep_sep_out _ _ _ $$ HD
      icases H1 with ⟨H2, Hsrc⟩
      ihave H3 := Transfers.bigSep_sep_out _ _ _ $$ H2
      icases H3 with ⟨Hrows, Hoffs⟩
      isplitl [Hrows]; · iexact Hrows
      isplitl [Hsrc]
      · iapply (Entails.of_eq (pointsTo_rows c src.view hg.axis' q fs).symm) $$ Hsrc
      · iapply (Entails.of_eq (pointsTo_entries c offs.view St.entry hen qo fo).symm) $$ Hoffs
    iintro Hcred
    iapply Hk
    iapply (Transfers.Flight_mono EC c hjoin)
    iapply (Transfers.stream_flight EC (a := am) hN)
    isplitr; · iexact Hinv
    isplitl [Hδ] <;> iassumption

end Cert.Proof.Emb
-- ==== Proof.Own.lean ====
/-
  A buffer held through a memref at stated contents, and the rules of the vector subcore's operations over it:
  contents are a function on the memref's own indices, whatever buffer the memref views.
-/
module

public import Idealize.ShloMosaic.Lib.SparseCore.Ops
public import Idealize.ShloMosaic.Lib.Transfers
public import Idealize.ShloMosaic.Lib.Scf
public import proofs.«01_k».proof.Proof.Scatter

@[expose] public section

noncomputable section

namespace Cert.Proof.Emb

open Idealize.ShloMosaic Idealize.ShloMosaic.SparseCore
open Idealize.ShloMosaic.Transfers (Flight MayWaits)
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {s s' : Shape} {e : EltTy} {α : Type} {Q : α → sProp (MT nD τ sig Ix (Elt F) Name U Lvl)}

local notation "𝕄" => MT nD τ sig Ix (Elt F) Name U Lvl

/-- The elements a memref views, held at share `q`, reading `g` through the memref. -/
def own {sp : Space} (q : PosShare TreeShare) (m : Memref sig c.2.kind sp s e) (g : s.Idx → Elt F e) : sProp 𝕄 :=
  iprop(∃ f, ⌜m.view.read (Elt F) f = g⌝ ∗ m.view.loc c ↦[m.view.set]{q} f)

theorem read_access {sp : Space} (m : Memref sig c.2.kind sp s e) (r : Rect s) (f : m.view.ty.Contents (Elt F)) :
    (m.view.slice r).read (Elt F) f = fun x => m.view.read (Elt F) f (r.emb x) := rfl

theorem whole_set {κ : Kind} {sp : Space} (v : View sig κ sp s e) : (v.slice (Rect.whole s)).set = v.set := by
  rw [View.set_slice, Rect.set_whole]; rfl

theorem whole_emb (x : s.Idx) : (Rect.whole s).emb x = x := by
  exact Rect.emb_whole_apply s x

theorem read_whole {κ : Kind} {sp : Space} (v : View sig κ sp s e) (f : v.ty.Contents (Elt F)) :
    (v.slice (Rect.whole s)).read (Elt F) f = v.read (Elt F) f := by
  funext x
  show v.read (Elt F) f ((Rect.whole s).emb x) = _
  rw [whole_emb]

/-- A vector load of a part of the buffer. -/
theorem own_load {cs : CoreSpace} {q : PosShare TreeShare} {m : Memref sig c.2.kind cs s e} {g : s.Idx → Elt F e} {r : Rect s}
    {hl : m.view.LoadsAt r} {k : (r.shape.Idx → Elt F e) → Prog (TpuEff nD τ sig (Elt F) Λ c.2) α} :
    own c q m g ⊢ iprop((own c q m g -∗ wp frame (wpE defs 𝒱 c bd) Set.univ (k fun x => g (r.emb x)) Q)
      -∗ wp frame (wpE defs 𝒱 c bd) Set.univ (Prog.lift (.load m r.toLoadRect hl) >>= k) Q) := by
  unfold own
  iintro ⟨%f, %hf, H⟩ Hk
  subst hf
  iapply (wp_load_rect (defs := defs) 𝒱 c bd Set.univ (Q := Q) (m := m) (r := r) (hl := hl) (k := k) (S := m.view.set) (q := q) (f := f)
    (View.set_slice_subset _ _)) $$ H
  iintro H
  iapply Hk
  iexists f
  isplitr; · ipureintro; rfl
  iexact H

/-- A gather out of the buffer. -/
theorem own_loadIdx {t : Shape} {q : PosShare TreeShare} {m : Memref sig c.2.kind .vmem s e} {g : s.Idx → Elt F e}
    {idxs : Fin s.rank → IVec t 32} {h : ∀ a x, (idxs a x).toNat < s.size a} {hl : m.view.Loads}
    {k : Vec F t e → Prog (TpuEff nD τ sig (Elt F) Λ c.2) α} :
    own c q m g ⊢ iprop((own c q m g -∗ wp frame (wpE defs 𝒱 c bd) Set.univ (k (loadIdx g idxs h)) Q)
      -∗ wp frame (wpE defs 𝒱 c bd) Set.univ (vectorLoadIdx m idxs h hl >>= k) Q) := by
  unfold own
  iintro ⟨%f, %hf, H⟩ Hk
  subst hf
  have key := wp_vectorLoadIdx (defs := defs) 𝒱 c bd Set.univ (Q := Q) (base := m) (idxs := idxs) (h := h) (hl := hl) (k := k) (S := m.view.set) (q := q) (f := f)
    (View.set_slice_subset _ _)
  rw [show (m.access (Rect.whole s)).read (Elt F) f = m.view.read (Elt F) f from read_whole _ f] at key
  iapply key $$ H
  iintro H
  iapply Hk
  iexists f
  isplitr; · ipureintro; rfl
  iexact H

/-- A masked scatter into the buffer. -/
theorem own_storeIdx {d : Fin 1 → Nat} {m : Memref sig c.2.kind .vmem s e} {g : s.Idx → Elt F e}
    {idxs : Fin s.rank → IVec ⟨1, d⟩ 32} {v : Vec F ⟨1, d⟩ e} {mask : IVec ⟨1, d⟩ 1} {add : Bool}
    {h : ∀ a x, (idxs a x).toNat < s.size a} {hs : (m.access (.whole s)).Stores Finset.univ}
    {k : PUnit → Prog (TpuEff nD τ sig (Elt F) Λ c.2) α} :
    own c fullShare m g ⊢ iprop((own c fullShare m (storeIdx g idxs v mask add h) -∗ wp frame (wpE defs 𝒱 c bd) Set.univ (k ⟨⟩) Q)
      -∗ wp frame (wpE defs 𝒱 c bd) Set.univ (vectorStoreIdx m idxs v mask add h hs >>= k) Q) := by
  unfold own
  iintro ⟨%f, %hf, H⟩ Hk
  subst hf
  have key := wp_vectorStoreIdx (defs := defs) 𝒱 c bd Set.univ (Q := Q) (base := m) (idxs := idxs) (h := h) (hs := hs) (v := v) (mask := mask) (add := add) (k := k) (f := f)
  rw [show (m.access (Rect.whole s)).read (Elt F) f = m.view.read (Elt F) f from read_whole _ f,
    show (m.access (Rect.whole s)).set = m.view.set from whole_set _] at key
  iapply key $$ H
  iintro H
  iapply Hk
  iexists _
  isplitr
  swap; · iexact H
  ipureintro
  rw [← read_whole]
  exact View.read_write_univ _ _

/-- A vector store into a part of the buffer. -/
theorem own_store {cs : CoreSpace} {m : Memref sig c.2.kind cs s e} {g : s.Idx → Elt F e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ c.2) α} :
    own c fullShare m g ⊢ iprop((∀ g', ⌜(∀ x, g' (r.emb x) = w x) ∧ ∀ y, (∀ x, r.emb x ≠ y) → g' y = g y⌝
        -∗ own c fullShare m g' -∗ wp frame (wpE defs 𝒱 c bd) Set.univ (k ⟨⟩) Q)
      -∗ wp frame (wpE defs 𝒱 c bd) Set.univ (Prog.lift (.store m r w Finset.univ hx hm) >>= k) Q) := by
  unfold own
  iintro ⟨%f, %hf, H⟩ Hk
  subst hf
  iapply (wp_store (defs := defs) 𝒱 c bd Set.univ (Q := Q) (m := m) (r := r) (w := w) (Mk := Finset.univ) (hx := hx) (hm := hm) (k := k) (S := m.view.set) (f := f)
    (View.set_slice_subset _ _)) $$ H
  iintro H
  iapply Hk $$ %(m.view.read (Elt F) ((m.access r).write (Elt F) f w Finset.univ))
  · ipureintro
    refine ⟨fun x => View.read_slice_write_emb r f w (Finset.mem_univ x), fun y hy => ?_⟩
    refine View.read_slice_write_of_not_mem r f w _ ?_
    intro hm'
    obtain ⟨x, -, hx'⟩ := Finset.mem_map.1 hm'
    exact hy x hx'
  iexists _
  isplitr
  swap; · iexact H
  ipureintro; rfl

/-- A side condition that holds. -/
theorem own_assume {P : Prop} {d : Decidable P} {k : PLift P → Prog (TpuEff nD τ sig (Elt F) Λ c.2) α} (h : P) :
    wp (M := 𝕄) frame (wpE defs 𝒱 c bd) Set.univ (k ⟨h⟩) Q
      ⊢ wp frame (wpE defs 𝒱 c bd) Set.univ (Prog.lift (.assume P d) >>= k) Q :=
  Entails.of_eq (wp_assume_of (defs := defs) 𝒱 c bd Set.univ (Q := Q) h).symm

/-- Part of a buffer, held on its own, and the whole back from it. -/
theorem own_slice {sp : Space} {q : PosShare TreeShare} {m : Memref sig c.2.kind sp s e} {g : s.Idx → Elt F e} (r : Rect s) (hr : ∀ a, r.stride a = 1) :
    (own c q m g : sProp 𝕄) ⊢ iprop(own c q (m.slice r hr) (fun x => g (r.emb x)) ∗ (own c q (m.slice r hr) (fun x => g (r.emb x)) -∗ own c q m g)) := by
  unfold own
  iintro ⟨%f, %hf, H⟩
  subst hf
  ihave H := (pointsTo_split_subset (ℓ := m.view.loc c) (q := q) (f := f) (S := m.view.set) (I := (m.view.slice r).set) (View.set_slice_subset _ _)).1 $$ H
  icases H with ⟨H1, H2⟩
  isplitl [H1]
  · iexists f
    isplitr; · ipureintro; rfl
    iexact H1
  iintro ⟨%f', %hf', H1⟩
  iexists f
  isplitr; · ipureintro; rfl
  iapply (pointsTo_split_subset (ℓ := m.view.loc c) (q := q) (f := f) (S := m.view.set) (I := (m.view.slice r).set) (View.set_slice_subset _ _)).2
  isplitl [H1]
  · rw [pointsTo_congr (ℓ := m.view.loc c) (q := q) (I := (m.view.slice r).set) (f := f) (g := f') ?_]
    · iexact H1
    · intro i hi
      obtain ⟨x, -, hx⟩ := Finset.mem_map.1 hi
      have h1 := congrFun hf' x
      have h2 : (m.view.slice r).read (Elt F) f' x = (m.view.slice r).read (Elt F) f x := h1
      rw [View.read_apply, View.read_apply, hx] at h2
      exact (cast_inj _).1 h2.symm
  iexact H2

/-- The issue of a local copy. -/
theorem own_dma [Infinite Name] [EC.LandsIn (upEmb : UEmb _ 𝕄)] {sp sp' : Space} {q : PosShare TreeShare} {src : Memref sig c.2.kind sp s e}
    {dst : Memref sig c.2.kind sp' s e} {sm : SemLoc sig} {g g' : s.Idx → Elt F e}
    {hsrc : src.view.WordExact} {hdst : dst.view.WordExact} {hsem : DmaTarget.Typed (nD := nD) sp sm (.here dst)}
    {k : PUnit → Prog (TpuEff nD τ sig (Elt F) Λ c.2) α} (ι : Ix) (N : ℕ) (hN : dst.view.amount sm = N) (hN0 : 0 < N) :
    iprop(own c q src g ∗ own c fullShare dst g' ∗ semVal (c, sm) 0)
      ⊢ iprop((Flight EC c sm ι N iprop(own c fullShare dst g ∗ own c q src g) -∗ wp frame (wpE defs 𝒱 c bd) Set.univ (k ⟨⟩) Q)
          -∗ wp frame (wpE defs 𝒱 c bd) Set.univ (Prog.lift (.enqueueDma src (.here dst) sm hsrc hdst hsem) >>= k) Q) := by
  iintro ⟨Hs, Hd, Hv⟩ Hk
  unfold own
  icases Hs with ⟨%f, %hf, Hs⟩
  icases Hd with ⟨%fd, %hfd, Hd⟩
  iapply (Transfers.wp_dmaLocal EC 𝒱 c bd (defs := defs) (Q := Q) (src := src) (dst := dst) (sm := sm) (via := .same) (hsrc := hsrc) (hdst := hdst) (hsem := hsem)
    (k := k) (q := q) (fs := f) (Sd := dst.view.set) (fd := fd) ι N hN hN0 (subset_refl _)) $$ [Hs Hd Hv]
  · isplitl [Hs]; · iexact Hs
    isplitl [Hd]; · iexact Hd
    iexact Hv
  iintro HF
  iapply Hk
  iapply (Transfers.Flight_mono EC c ?_) $$ HF
  iintro ⟨Hd, Hs⟩
  isplitl [Hd]
  · iexists _
    isplitr
    swap; · iexact Hd
    ipureintro
    rw [View.read_write_univ, ← hf]
    try rfl
  iexists f
  isplitr; · ipureintro; exact hf
  iexact Hs

/-- What a tile owes, whatever waits it has recorded, as long as each new one is at no call. -/
def owing (O : CellTallies nD τ sig Ix) (W : Waits sig Ix) (ι : Ix) : sProp 𝕄 :=
  iprop(∃ W', ⌜∀ p ∈ W', p ∈ W ∨ p.2 = ι⌝ ∗ owes c O W')

/-- The wait for a copy in flight. -/
theorem own_wait [EC.LandsIn (upEmb : UEmb _ 𝕄)] {sp sp' : Space} {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} (ι : Ix) {N : ℕ} (hN : dstw.view.dmaCredit = N) {D : sProp 𝕄}
    {O : CellTallies nD τ sig Ix} {W : Waits sig Ix} :
    iprop(Flight EC c (.dma sem) ι N D ∗ owing c O W ι ∗ MayWaits c ι O)
      ⊢ iprop((iprop(D ∗ semVal (c, .dma sem) 0 ∗ owing c O W ι) -∗ wp frame (wpE defs 𝒱 c bd) Set.univ (k ⟨⟩) Q)
          -∗ wp frame (wpE defs 𝒱 c bd) Set.univ (Prog.lift (.waitDma2 sem srcw dstw hsrc hdst) >>= k) Q) := by
  unfold owing
  iintro ⟨HF, ⟨%W', %hW', HO⟩, Hm⟩ Hk
  iapply (Transfers.wp_waitLocalO EC 𝒱 c bd (defs := defs) (Q := Q) (srcw := srcw) (dstw := dstw) (hsrc := hsrc) (hdst := hdst) (k := k) (D := D) (O := O) (W := W')
    ι hN) $$ [HF HO Hm]
  · isplitl [HF]; · iexact HF
    isplitl [HO]; · iexact HO
    iapply (MayWaits.elim (SemLoc.dma sem)); iexact Hm
  iintro ⟨HD, Hv, HO⟩
  iapply Hk
  isplitl [HD]; · iexact HD
  isplitl [Hv]; · iexact Hv
  iexists _
  isplitr
  swap; · iexact HO
  ipureintro
  intro p hp
  rcases Finset.mem_insert.1 hp with rfl | hp
  · exact .inr rfl
  · exact hW' p hp

end Cert.Proof.Emb
-- ==== Proof.Words.lean ====
/-
  The kernel's index arithmetic on natural numbers: words of the vector units read as numbers,
  a running count of the lanes a mask selects, and what a masked scatter leaves in its buffer.
-/
module

public import Mathlib.Data.Nat.Count
public import Idealize.ShloMosaic.PureOps.Vector
public import Idealize.ShloMosaic.PureOps.ShapeOps
public import proofs.«01_k».proof.KernelIdeal

@[expose] public section

noncomputable section

namespace Cert.Proof.Emb

open Idealize.ShloMosaic Cert.KernelIdeal

/-- A small number's word, read signed. -/
theorem toInt_ofNat {n : ℕ} (h : n < 2 ^ 31) : (BitVec.ofNat 32 n).toInt = n := by
  rw [BitVec.toInt_ofNat', Int.bmod_eq_of_le] <;> omega

/-- A small number's word, read unsigned. -/
theorem toNat_ofNat {n : ℕ} (h : n < 2 ^ 31) : (BitVec.ofNat 32 n).toNat = n := by
  rw [BitVec.toNat_ofNat, Nat.mod_eq_of_lt (by omega)]

/-- Different small numbers have different words. -/
theorem ofNat_inj {a b : ℕ} (ha : a < 2 ^ 31) (hb : b < 2 ^ 31) :
    BitVec.ofNat 32 a = BitVec.ofNat 32 b ↔ a = b := by
  constructor
  · intro h
    have := congrArg BitVec.toNat h
    rwa [toNat_ofNat ha, toNat_ofNat hb] at this
  · rintro rfl; rfl

/-- A truth value's bit is set exactly where it holds. -/
theorem ofBool_eq_one (b : Bool) : BitVec.ofBool b = 1#1 ↔ b = true := by cases b <;> decide

theorem sge_one {w : ℕ} (x y : BitVec w) : IntOp.cmpi .sge x y = 1#1 ↔ y.toInt ≤ x.toInt := by
  rw [IntOp.cmpi, ofBool_eq_one, BitVec.sle_iff_toInt_le]

theorem slt_one {w : ℕ} (x y : BitVec w) : IntOp.cmpi .slt x y = 1#1 ↔ x.toInt < y.toInt := by
  rw [IntOp.cmpi, ofBool_eq_one, BitVec.slt_iff_toInt_lt]

theorem sgt_one {w : ℕ} (x y : BitVec w) : IntOp.cmpi .sgt x y = 1#1 ↔ y.toInt < x.toInt := by
  rw [IntOp.cmpi, ofBool_eq_one, BitVec.slt_iff_toInt_lt]

theorem ieq_one {w : ℕ} (x y : BitVec w) : IntOp.cmpi .eq x y = 1#1 ↔ x = y := by
  rw [IntOp.cmpi, ofBool_eq_one]; simp

theorem and_one (x y : BitVec 1) : IntOp.andi x y = 1#1 ↔ x = 1#1 ∧ y = 1#1 := by
  rw [IntOp.andi]; revert x y; decide

theorem maxsi_toInt {w : ℕ} (x y : BitVec w) : (IntOp.maxsi x y).toInt = max x.toInt y.toInt := by
  rw [IntOp.maxsi]
  split_ifs with h <;> rw [BitVec.slt_iff_toInt_lt] at h <;> omega

theorem minsi_toInt {w : ℕ} (x y : BitVec w) : (IntOp.minsi x y).toInt = min x.toInt y.toInt := by
  rw [IntOp.minsi]
  split_ifs with h <;> rw [BitVec.slt_iff_toInt_lt] at h <;> omega

/-- A word that is not negative, read unsigned. -/
theorem toNat_of_toInt {x : BitVec 32} {n : ℕ} (h : x.toInt = n) : x.toNat = n := by
  rw [BitVec.toInt_eq_toNat_cond] at h
  have := x.isLt
  split_ifs at h <;> omega

theorem eq_ofNat_of_toInt {x : BitVec 32} {n : ℕ} (h : x.toInt = n) : x = BitVec.ofNat 32 n := by
  rw [← toNat_of_toInt h]; simp

theorem minsi_ofNat {a b : ℕ} (ha : a < 2 ^ 31) (hb : b < 2 ^ 31) :
    IntOp.minsi (BitVec.ofNat 32 a) (BitVec.ofNat 32 b) = BitVec.ofNat 32 (min a b) := by
  apply eq_ofNat_of_toInt
  rw [minsi_toInt, toInt_ofNat ha, toInt_ofNat hb]; omega

theorem maxsi_ofNat {a b : ℕ} (ha : a < 2 ^ 31) (hb : b < 2 ^ 31) :
    IntOp.maxsi (BitVec.ofNat 32 a) (BitVec.ofNat 32 b) = BitVec.ofNat 32 (max a b) := by
  apply eq_ofNat_of_toInt
  rw [maxsi_toInt, toInt_ofNat ha, toInt_ofNat hb]; omega

theorem addi_ofNat (a b : ℕ) :
    IntOp.addi (BitVec.ofNat 32 a) (BitVec.ofNat 32 b) = BitVec.ofNat 32 (a + b) := by
  rw [IntOp.addi, BitVec.ofNat_add]

theorem muli_ofNat (a b : ℕ) :
    IntOp.muli (BitVec.ofNat 32 a) (BitVec.ofNat 32 b) = BitVec.ofNat 32 (a * b) := by
  rw [IntOp.muli, BitVec.ofNat_mul]

theorem subi_ofNat {a b : ℕ} (h : b ≤ a) :
    IntOp.subi (BitVec.ofNat 32 a) (BitVec.ofNat 32 b) = BitVec.ofNat 32 (a - b) := by
  rw [IntOp.subi, show BitVec.ofNat 32 a = BitVec.ofNat 32 (a - b) + BitVec.ofNat 32 b by
    rw [← BitVec.ofNat_add, Nat.sub_add_cancel h], BitVec.add_sub_cancel]

/-- The difference of two small numbers' words is small and signed. -/
theorem toInt_sub_ofNat {a b : ℕ} (ha : a < 2 ^ 30) (hb : b < 2 ^ 30) :
    (IntOp.subi (BitVec.ofNat 32 a) (BitVec.ofNat 32 b)).toInt = (a : ℤ) - b := by
  rw [IntOp.subi, BitVec.toInt_sub, toInt_ofNat (by omega), toInt_ofNat (by omega), Int.bmod_eq_of_le] <;> omega

/-- A word clipped to `[0, hi]` reads at most `hi`. -/
theorem clip_lt (x : BitVec 32) {hi : ℕ} (hh : hi < 2 ^ 31) :
    (IntOp.minsi (BitVec.ofNat 32 hi) (IntOp.maxsi 0#32 x)).toNat ≤ hi := by
  have h1 := minsi_toInt (BitVec.ofNat 32 hi) (IntOp.maxsi 0#32 x)
  have h2 := maxsi_toInt 0#32 x
  rw [toInt_ofNat hh] at h1
  have h0 : (0#32).toInt = 0 := by decide
  obtain ⟨n, hn⟩ : ∃ n : ℕ, (IntOp.minsi (BitVec.ofNat 32 hi) (IntOp.maxsi 0#32 x)).toInt = n :=
    ⟨_, (Int.toNat_of_nonneg (by omega)).symm⟩
  rw [toNat_of_toInt hn]; omega

/-- A word within `[0, hi]` is its own clip. -/
theorem clip_eq {x : BitVec 32} {n hi : ℕ} (hx : x.toInt = n) (hn : n ≤ hi) (hh : hi < 2 ^ 31) :
    IntOp.minsi (BitVec.ofNat 32 hi) (IntOp.maxsi 0#32 x) = BitVec.ofNat 32 n := by
  apply eq_ofNat_of_toInt
  rw [minsi_toInt, maxsi_toInt, hx, toInt_ofNat hh, show (0#32).toInt = 0 by decide]
  omega

/-! ## Running counts -/

/-- A lane of a 16-lane vector. -/
def lane (n : ℕ) (h : n < 16) : S16.Idx := Shape.ofLane (d := ![16]) ⟨n, h⟩

theorem lane_val (n : ℕ) (h : n < 16) : ((lane n h) 0).val = n := rfl

theorem lane_lt (x : S16.Idx) : (x 0).val < 16 := (x 0).isLt

theorem lane_eta (x : S16.Idx) : lane (x 0).val (lane_lt x) = x := by
  funext a; rw [Fin.eq_zero a]; rfl

theorem scan_filter : ∀ j : Fin 15,
    ((List.finRange 16).filter fun k => decide (0 < k.val ∧ k.val ≤ j.val + 1))
      = ((List.finRange 16).filter fun k => decide (0 < k.val ∧ k.val ≤ j.val)) ++ [⟨j.val + 1, by omega⟩] := by
  decide

theorem scan_filter0 : ((List.finRange 16).filter fun k => decide (0 < k.val ∧ k.val ≤ 0)) = [] := by
  decide

theorem bit_setWidth (b : BitVec 1) (p : Prop) [Decidable p] (h : b = 1#1 ↔ p) :
    b.setWidth 32 = BitVec.ofNat 32 (if p then 1 else 0) := by
  by_cases hp : p
  · rw [h.2 hp, if_pos hp]; rfl
  · rw [if_neg hp]
    have : b ≠ 1#1 := fun hb => hp (h.1 hb)
    revert this; clear h hp; revert b; decide

theorem scan_eq (v : IVec S16 32) (j : ℕ) (hj : j < 16) :
    scan .sum v (lane j hj) = ((List.finRange 16).filter fun k => decide (0 < k.val ∧ k.val ≤ j)).foldl
      (fun r (k : Fin 16) => r + v (lane k.val k.isLt)) (v (lane 0 (by decide))) := rfl

/-- The inclusive running sum of a mask counts the selected lanes up to and with the lane's own. -/
theorem scan_count (m : IVec S16 1) (p : ℕ → Prop) [DecidablePred p] (k0 : ℕ) (hw : 1 < 32)
    (h : ∀ x : S16.Idx, m x = 1#1 ↔ p (k0 + (x 0).val)) (j : ℕ) (hj : j < 16) :
    scan .sum (extui 32 m hw) (lane j hj) = BitVec.ofNat 32 (Nat.count (fun i => p (k0 + i)) (j + 1)) := by
  have hb : ∀ i (hi : i < 16), extui 32 m hw (lane i hi) = BitVec.ofNat 32 (if p (k0 + i) then 1 else 0) := by
    intro i hi
    exact bit_setWidth _ _ (h (lane i hi))
  induction j with
  | zero =>
    rw [scan_eq, scan_filter0, List.foldl_nil, Nat.count_succ, Nat.count_zero, Nat.zero_add]
    exact hb 0 hj
  | succ j ih =>
    have ih' := ih (by omega)
    rw [scan_eq] at ih' ⊢
    rw [scan_filter ⟨j, by omega⟩, List.foldl_append, List.foldl_cons, List.foldl_nil]
    refine (congrArg₂ (· + ·) ih' (hb (j + 1) hj)).trans ?_
    rw [Nat.count_succ (fun i => p (k0 + i)) (j + 1)]
    exact (BitVec.ofNat_add _ _).symm

theorem scan_sum_eq (m : IVec S16 1) (p : ℕ → Prop) [DecidablePred p] (k0 : ℕ) (hw : 1 < 32)
    (h : ∀ x : S16.Idx, m x = 1#1 ↔ p (k0 + (x 0).val)) (x : S16.Idx) :
    IntOp.addi (BitVec.ofNat 32 (Nat.count p k0)) (scan .sum (extui 32 m hw) x)
      = BitVec.ofNat 32 (Nat.count p (k0 + (x 0).val + 1)) := by
  have h1 := scan_count m p k0 hw h (x 0).val (lane_lt x)
  rw [lane_eta] at h1
  rw [h1, addi_ofNat, Nat.add_assoc k0, Nat.count_add p k0]

/-- The exclusive running count: where the lane's own element goes. -/
theorem scan_excl (m : IVec S16 1) (p : ℕ → Prop) [DecidablePred p] (k0 : ℕ) (hw : 1 < 32)
    (h : ∀ x : S16.Idx, m x = 1#1 ↔ p (k0 + (x 0).val)) (x : S16.Idx) :
    IntOp.subi (IntOp.addi (BitVec.ofNat 32 (Nat.count p k0)) (scan .sum (extui 32 m hw) x)) (extui 32 m hw x)
      = BitVec.ofNat 32 (Nat.count p (k0 + (x 0).val)) := by
  rw [scan_sum_eq m p k0 hw h, Nat.count_succ]
  rw [show extui 32 m hw x = BitVec.ofNat 32 (if p (k0 + (x 0).val) then 1 else 0) from bit_setWidth _ _ (h x)]
  rw [subi_ofNat (by omega), Nat.add_sub_cancel]

/-! ## A masked scatter -/

/-- One lane's step of a masked scatter. -/
def stStep {F : FTy → Type} [FloatOps F] {s : Shape} {e : EltTy} (idxs : Fin s.rank → IVec S16 32)
    (v : Vec F S16 e) (mask : IVec S16 1) (h : ∀ a x, (idxs a x).toNat < s.size a)
    (g : Vec F s e) (k : Fin 16) : Vec F s e :=
  if mask (lane k.val k.isLt) = 1#1 then
    fun j => if (∀ a, (j a).val = ((idxAt idxs h (lane k.val k.isLt)) a).val) then v (lane k.val k.isLt) else g j
  else g

theorem storeIdx_eq {F : FTy → Type} [FloatOps F] {s : Shape} {e : EltTy}
    (f : Vec F s e) (idxs : Fin s.rank → IVec S16 32) (v : Vec F S16 e) (mask : IVec S16 1)
    (h : ∀ a x, (idxs a x).toNat < s.size a) :
    storeIdx f idxs v mask false h = (List.finRange 16).foldl (stStep idxs v mask h) f := by
  unfold storeIdx
  refine congrArg (fun s => List.foldl s f (List.finRange 16)) ?_
  funext g k
  unfold stStep
  simp only [Bool.false_eq_true, if_false]
  rfl

/-- After a masked scatter an element holds what one of the selected lanes that name it wrote, or,
    where none names it, what it held before. -/
theorem storeIdx_cases {F : FTy → Type} [FloatOps F] {s : Shape} {e : EltTy}
    (f : Vec F s e) (idxs : Fin s.rank → IVec S16 32) (v : Vec F S16 e) (mask : IVec S16 1)
    (h : ∀ a x, (idxs a x).toNat < s.size a) (j : s.Idx) :
    (∃ x, mask x = 1#1 ∧ (∀ a, (idxs a x).toNat = (j a).val) ∧ storeIdx f idxs v mask false h j = v x)
      ∨ ((∀ x, mask x = 1#1 → ¬ ∀ a, (idxs a x).toNat = (j a).val) ∧ storeIdx f idxs v mask false h j = f j) := by
  have key : ∀ L : List (Fin 16),
      (∃ x, mask x = 1#1 ∧ (∀ a, (idxs a x).toNat = (j a).val) ∧ L.foldl (stStep idxs v mask h) f j = v x)
      ∨ ((∀ k ∈ L, mask (lane k.val k.isLt) = 1#1 →
            ¬ ∀ a, (idxs a (lane k.val k.isLt)).toNat = (j a).val) ∧ L.foldl (stStep idxs v mask h) f j = f j) := by
    intro L
    induction L using List.reverseRecOn with
    | nil => right; simp
    | append_singleton L k ih =>
      rw [List.foldl_append, List.foldl_cons, List.foldl_nil]
      generalize L.foldl (stStep idxs v mask h) f = g0 at ih ⊢
      by_cases hm : mask (lane k.val k.isLt) = 1#1
      · by_cases hj : ∀ a, (idxs a (lane k.val k.isLt)).toNat = (j a).val
        · refine .inl ⟨lane k.val k.isLt, hm, hj, ?_⟩
          unfold stStep
          rw [if_pos hm]
          exact if_pos (fun a => (hj a).symm)
        · have hv : stStep idxs v mask h g0 k j = g0 j := by
            unfold stStep
            rw [if_pos hm]
            exact if_neg (fun hh => hj (fun a => (hh a).symm))
          rcases ih with ⟨x, h1, h2, h3⟩ | ⟨h1, h2⟩
          · exact .inl ⟨x, h1, h2, hv.trans h3⟩
          · refine .inr ⟨fun k' hk' => ?_, hv.trans h2⟩
            rcases List.mem_append.1 hk' with hk' | hk'
            · exact h1 k' hk'
            · rw [List.mem_singleton.1 hk']; exact fun _ => hj
      · have hv : stStep idxs v mask h g0 k = g0 := by
          unfold stStep
          exact if_neg hm
        rw [hv]
        rcases ih with h1 | ⟨h1, h2⟩
        · exact .inl h1
        · refine .inr ⟨fun k' hk' => ?_, h2⟩
          rcases List.mem_append.1 hk' with hk' | hk'
          · exact h1 k' hk'
          · rw [List.mem_singleton.1 hk']; exact fun h => absurd h hm
  rw [storeIdx_eq]
  rcases key (List.finRange 16) with h1 | ⟨h1, h2⟩
  · exact .inl h1
  · refine .inr ⟨fun x hx => ?_, h2⟩
    have := h1 (x 0) (List.mem_finRange _)
    rw [lane_eta] at this
    exact this hx

/-! ## One-dimensional buffers by position -/

/-- The element of a one-dimensional word buffer at a position (zero past its end). -/
def at1 {N : ℕ} (g : (⟨1, ![N]⟩ : Shape).Idx → BitVec 32) (n : ℕ) : BitVec 32 :=
  if h : n < N then g (Shape.ofLane (d := ![N]) ⟨n, h⟩) else 0#32

theorem at1_val {N : ℕ} (g : (⟨1, ![N]⟩ : Shape).Idx → BitVec 32) (x : (⟨1, ![N]⟩ : Shape).Idx) :
    at1 g (x 0).val = g x := by
  have h : (x 0).val < N := (x 0).isLt
  unfold at1
  rw [dif_pos h]
  congr 1
  funext a; rw [Fin.eq_zero a]; rfl

/-- What a 16-lane load of a one-dimensional buffer reads. -/
theorem at1_load {N : ℕ} (g : (⟨1, ![N]⟩ : Shape).Idx → BitVec 32) (off : Fin 1 → ℕ)
    (h : ∀ a, off a + S16.size a ≤ (⟨1, ![N]⟩ : Shape).size a) (x : S16.Idx) :
    g ((Rect.unit (s := ⟨1, ![N]⟩) off S16.size h).emb x) = at1 g (off 0 + (x 0).val) := by
  rw [← at1_val g ((Rect.unit (s := ⟨1, ![N]⟩) off S16.size h).emb x)]
  congr 1
  rw [Rect.emb_apply]
  show off 0 + 1 * (x 0).val = _
  omega

/-- A masked scatter into a one-dimensional buffer, by position. -/
theorem at1_storeIdx {F : FTy → Type} [FloatOps F] {N : ℕ} (g : Vec F (⟨1, ![N]⟩ : Shape) .i32) (I : IVec S16 32) (v : Vec F S16 .i32) (mask : IVec S16 1)
    (h : ∀ a x, ((![I] : Fin 1 → IVec S16 32) a x).toNat < (⟨1, ![N]⟩ : Shape).size a) (n : ℕ) (hn : n < N) :
    (∃ x, mask x = 1#1 ∧ (I x).toNat = n ∧ at1 (storeIdx (F := F) (e := .i32) g ![I] v mask false h) n = v x)
      ∨ ((∀ x, mask x = 1#1 → (I x).toNat ≠ n) ∧ at1 (storeIdx (F := F) (e := .i32) g ![I] v mask false h) n = at1 g n) := by
  have := storeIdx_cases (F := F) (e := .i32) g ![I] v mask h (Shape.ofLane (d := ![N]) ⟨n, hn⟩)
  unfold at1
  rw [dif_pos hn, dif_pos hn]
  rcases this with ⟨x, h1, h2, h3⟩ | ⟨h1, h2⟩
  · exact .inl ⟨x, h1, h2 0, h3⟩
  · refine .inr ⟨fun x hx hh => h1 x hx fun a => ?_, h2⟩
    rw [Fin.eq_zero a]; exact hh

/-! ## The tiles' ranges -/

/-- The first block of 128 rows of tile `w`. -/
def tLo (w : ℕ) : ℕ := 244 * w + min w 4
/-- How many blocks of 128 rows tile `w` owns. -/
def tN (w : ℕ) : ℕ := if w < 4 then 245 else 244
/-- The first table row of tile `w`. -/
def rLo (w : ℕ) : ℕ := 128 * tLo w
/-- One past the last table row of tile `w`. -/
def rHi (w : ℕ) : ℕ := if w = 31 then 1000000 else 128 * (tLo w + tN w)
/-- The first table row of the `t`-th window of 512 rows of tile `w`. -/
def win (w t : ℕ) : ℕ := 128 * (tLo w + min (4 * t) (tN w - 4))

/-- A word read signed lies in `[a, b)`. -/
def inI (a b : ℕ) (x : BitVec 32) : Prop := (a : ℤ) ≤ x.toInt ∧ x.toInt < b

instance (a b : ℕ) (x : BitVec 32) : Decidable (inI a b x) := by unfold inI; infer_instance

theorem tN_ge (w : ℕ) : 244 ≤ tN w ∧ tN w ≤ 245 := by unfold tN; split_ifs <;> omega

theorem rHi_le {w : ℕ} (hw : w < 32) : rHi w ≤ 1000000 := by
  unfold rHi tLo tN; split_ifs <;> omega

theorem win_le {w : ℕ} (hw : w < 32) (t : ℕ) : win w t + 512 ≤ 999936 := by
  unfold win tLo tN; split_ifs <;> omega

theorem win_sub {w : ℕ} (hw : w < 32) (t : ℕ) : rLo w ≤ win w t ∧ win w t + 512 ≤ rHi w := by
  unfold win rLo rHi tN tLo; split_ifs <;> omega

/-- Every row of a tile lies in one of its windows, or in the table's last 64 rows. -/
theorem win_cover {w n : ℕ} (hw : w < 32) (h1 : rLo w ≤ n) (h2 : n < rHi w) :
    (∃ t < 62, win w t ≤ n ∧ n < win w t + 512) ∨ (999936 ≤ n ∧ n < 1000000) := by
  by_cases ht : n < 128 * (tLo w + tN w)
  · left
    have hN := tN_ge w
    unfold rLo at h1
    by_cases hl : (n - 128 * tLo w) / 512 ≤ 60
    · refine ⟨(n - 128 * tLo w) / 512, by omega, ?_⟩
      unfold win
      rw [min_eq_left (by omega)]
      omega
    · refine ⟨61, by omega, ?_⟩
      unfold win
      omega
  · right
    unfold rHi at h2
    split_ifs at h2 with h31
    · subst h31
      refine ⟨?_, h2⟩
      unfold tLo tN at ht; rw [if_neg (by decide)] at ht; omega
    · exact absurd h2 ht

/-- Every row number below a million belongs to one tile. -/
theorem tile_cover {n : ℕ} (hn : n < 1000000) : ∃ w < 32, rLo w ≤ n ∧ n < rHi w := by
  by_cases h : n / 128 < 980
  · refine ⟨n / 128 / 245, by omega, ?_⟩
    unfold rLo rHi tLo tN
    split_ifs <;> omega
  · refine ⟨min ((n / 128 - 4) / 244) 31, by omega, ?_⟩
    unfold rLo rHi tLo tN
    split_ifs <;> omega

/-- No row number belongs to two tiles. -/
theorem tile_disj {w w' n : ℕ} (hw : w < 32) (hw' : w' < 32) (h1 : rLo w ≤ n) (h2 : n < rHi w)
    (h1' : rLo w' ≤ n) (h2' : n < rHi w') : w = w' := by
  unfold rLo rHi tLo tN at *
  split_ifs at * <;> omega

/-- The row numbers listed by a window's scan: the positions whose number lies in the window, in order. -/
def Lst (a b : ℕ) (mi : ℕ → BitVec 32) (g : ℕ → BitVec 32) (n : ℕ) : Prop :=
  ∀ q < n, inI a b (mi q) → g (Nat.count (fun q => inI a b (mi q)) q) = BitVec.ofNat 32 q

end Cert.Proof.Emb
-- ==== Proof.Base.lean ====
/-
  The kernel as the launch theorem sees it, the thread that runs a tile, and the loops that list a window's rows.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Own
public import proofs.«01_k».proof.Proof.Words

@[expose] public section

noncomputable section

namespace Cert.Proof.Emb

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.SparseCore.Cfg (HIx Pay)

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The SparseCore and the tile of a grid point, and the thread that runs it. -/
abbrev cV (i : grid0.Coords) : Fin τ.nSC := (i 0).castLE hcore0
abbrev jV (i : grid0.Coords) : Fin τ.nSub := (i 1).castLE hsub0
abbrev tV (d : Dev nD) (i : grid0.Coords) : Thread nD τ := V d (cV i) (jV i)

/-- The number of a tile. -/
def wid (i : grid0.Coords) : ℕ := (i 1).val * 2 + (i 0).val

theorem wid_lt (i : grid0.Coords) : wid i < 32 := by
  have h0 : (i 0).val < 2 := (i 0).isLt
  have h1 : (i 1).val < 16 := (i 1).isLt
  unfold wid; omega

variable [FloatOps F] (d : Dev nD) (i : grid0.Coords)

/-- A program of a tile. -/
abbrev Pg (F : FTy → Type) [FloatOps F] (i : grid0.Coords) (α : Type) :=
  Prog (TpuEff nD τ sig (Elt F) Λ₀ (.scVector ((i 0).castLE hcore0) ((i 1).castLE hsub0))) α

/-- The weakest precondition of a tile's program. -/
abbrev WP {F : FTy → Type} [FloatOps F] (d : Dev nD) (i : grid0.Coords) {α : Type} (p : Pg F i α)
    (Q : α → sProp (MT nD τ sig (HIx 1) (Elt F) ℕ UU ℕ)) : sProp (MT nD τ sig (HIx 1) (Elt F) ℕ UU ℕ) :=
  wp frame (wpE (defs₀ (F := F)) 𝒱₀ (tV d i) none) Set.univ p Q

/-- A program that has come to its end. -/
theorem own_pure {α : Type} (x : α) {Q : α → sProp 𝕄} : Q x ⊢ WP (F := F) d i (pure x) Q := by
  show _ ⊢ wp _ _ _ _ _
  rw [Prog.pure_eq_ret, wp_ret]
  exact fupd_intro

/-- A counted loop by an invariant. -/
theorem own_for {L : Scf.Loop 32} {hok : L.OK} {σ : Type} {init : σ} {body : Fin L.trips → σ → Pg F i σ} (I : ℕ → σ → sProp 𝕄)
    (hbody : ∀ (k : Fin L.trips) (acc : σ), I k acc ⊢ WP d i (body k acc) (I (k.val + 1))) {Q : σ → sProp 𝕄} :
    iprop(I 0 init ∗ (∀ acc, I L.trips acc -∗ Q acc)) ⊢ WP d i (Scf.Loop.for L hok init body) Q :=
  Scf.wp_for frame (wpE (defs₀ (F := F)) 𝒱₀ (tV d i) none) Set.univ L.lb L.ub L.st hok init body I hbody

/-- A lane's number. -/
theorem iota_val (x : S16.Idx) (h) : (iota .scVector S16 32 [0] h : IVec S16 32) x = BitVec.ofNat 32 (x 0).val := by
  show BitVec.ofNat 32 (0 * _ + (x 0).val) = _
  rw [Nat.zero_mul, Nat.zero_add]

/-- The last lane of a vector. -/
theorem last_eq {α : Type} (v : S16.Idx → α) (h) :
    extractAt ![15] v h = v (lane 15 (by decide)) := by
  unfold extractAt
  congr 1
  funext a; rw [Fin.eq_zero a]; rfl

/-- Sixteen rows of a scan: the rows in `[a, b)` are listed after those listed before, and the running count goes on. -/
theorem scan_step (a b k : ℕ) (hk : k < 32) (mi : S1024.Idx → BitVec 32) (g : Vec F S512 .i32) (acc : BitVec 32)
    (hacc : acc = BitVec.ofNat 32 (Nat.count (fun q => inI a b (at1 mi q)) (16 * k)))
    (hg : Lst a b (at1 mi) (at1 g) (16 * k)) (hlt : ∀ n < 512, (at1 g n).toNat < 512)
    (v : Vec F S16 .i32) (hv : ∀ x, v x = at1 mi (16 * k + (x 0).val))
    (pM : IVec S16 1) (pI pV pS : IVec S16 32)
    (hM : ∀ x, pM x = 1#1 ↔ inI a b (v x))
    (hI : ∀ x, pI x = IntOp.subi (IntOp.addi acc (scan .sum (extui 32 pM natLt_1_32) x)) (extui 32 pM natLt_1_32 x))
    (hV : ∀ x, pV x = BitVec.ofNat 32 (16 * k + (x 0).val))
    (hS : ∀ x, pS x = scan .sum (extui 32 pM natLt_1_32) x) :
    ∃ hin : ∀ a' x, ((![pI] : Fin 1 → IVec S16 32) a' x).toNat < S512.size a', ∀ (hin' : ∀ a' x, ((![pI] : Fin 1 → IVec S16 32) a' x).toNat < S512.size a'),
      IntOp.addi acc (pS (lane 15 (by decide))) = BitVec.ofNat 32 (Nat.count (fun q => inI a b (at1 mi q)) (16 * (k + 1)))
      ∧ Lst a b (at1 mi) (at1 (storeIdx (F := F) (e := .i32) g ![pI] pV pM false hin')) (16 * (k + 1))
      ∧ ∀ n < 512, (at1 (storeIdx (F := F) (e := .i32) g ![pI] pV pM false hin') n).toNat < 512 := by
  set P : ℕ → Prop := fun q => inI a b (at1 mi q) with hP
  have hm : ∀ x : S16.Idx, pM x = 1#1 ↔ P (16 * k + (x 0).val) := fun x => by rw [hM, hv]
  have hIx : ∀ x, pI x = BitVec.ofNat 32 (Nat.count P (16 * k + (x 0).val)) := fun x => by
    rw [hI, hacc]; exact scan_excl pM P (16 * k) natLt_1_32 hm x
  have hle : ∀ x : S16.Idx, Nat.count P (16 * k + (x 0).val) < 512 := fun x => by
    have h1 := Nat.count_le (p := P) (n := 16 * k + (x 0).val)
    have h2 := lane_lt x
    omega
  have hInat : ∀ x, (pI x).toNat = Nat.count P (16 * k + (x 0).val) := fun x => by
    rw [hIx, toNat_ofNat (by have := hle x; omega)]
  refine ⟨fun a' x => ?_, fun hin' => ⟨?_, ?_, ?_⟩⟩
  · rw [Fin.eq_zero a']
    show (pI x).toNat < 512
    rw [hInat]; exact hle x
  · rw [hS, hacc]
    exact (scan_sum_eq pM P (16 * k) natLt_1_32 hm (lane 15 (by decide))).trans (by rw [lane_val, Nat.mul_add, Nat.add_assoc])
  · intro q hq hPq
    have hq512 : Nat.count P q < 512 := by
      have := Nat.count_le (p := P) (n := q)
      omega
    rcases at1_storeIdx (F := F) g pI pV pM hin' (Nat.count P q) hq512 with ⟨x, h1, h2, h3⟩ | ⟨h1, h2⟩
    · rw [h3, hV]
      rw [hInat] at h2
      rw [Nat.count_injective ((hm x).1 h1) hPq h2]
    · rw [h2]
      by_cases hqk : q < 16 * k
      · exact hg q hqk hPq
      · exfalso
        refine h1 (lane (q - 16 * k) (by omega)) ((hm _).2 ?_) ?_
        · rw [lane_val, Nat.add_sub_cancel' (by omega)]; exact hPq
        · rw [hInat, lane_val, Nat.add_sub_cancel' (by omega)]
  · intro n hn
    rcases at1_storeIdx (F := F) g pI pV pM hin' n hn with ⟨x, h1, h2, h3⟩ | ⟨h1, h2⟩
    · rw [h3, hV, toNat_ofNat (by have := lane_lt x; omega)]
      have := lane_lt x; omega
    · rw [h2]; exact hlt n hn

/-- A loop that lists the rows of one window: after it the list holds the positions whose row lies in `[a, b)`, in order,
    and the result is how many there are. -/
theorem scan_loop (a b : ℕ) {L : Scf.Loop 32} {hok : L.OK} (hL : L.trips = 32)
    (m7 : Memref sig .scVector .vmem S1024 .i32) (wp_ : Memref sig .scVector .vmem S512 .i32)
    (off : Fin L.trips → Fin 1 → ℕ) (hoff : ∀ t, off t 0 = 16 * t.val) (hin : ∀ t a, off t a + S16.size a ≤ S1024.size a)
    (pM : Fin L.trips → BitVec 32 → Vec F S16 .i32 → IVec S16 1) (pI : Fin L.trips → BitVec 32 → Vec F S16 .i32 → IVec S16 32)
    (pV : Fin L.trips → BitVec 32 → Vec F S16 .i32 → IVec S16 32) (pS : Fin L.trips → BitVec 32 → Vec F S16 .i32 → IVec S16 32)
    (chk : IVec S16 32 → Prop) (dec : ∀ v, Decidable (chk v))
    (hchk : ∀ v, chk v → ∀ a x, ((![v] : Fin 1 → IVec S16 32) a x).toNat < S512.size a)
    (hchk' : ∀ v, (∀ a x, ((![v] : Fin 1 → IVec S16 32) a x).toNat < S512.size a) → chk v)
    (hl : ∀ t, m7.view.LoadsAt (Rect.unit (s := S1024) (off t) S16.size (hin t)).toLoadRect)
    (hs : (wp_.access (Rect.whole S512)).Stores Finset.univ)
    (hM : ∀ t acc v x, pM t acc v x = 1#1 ↔ inI a b (v x))
    (hI : ∀ t acc v x, pI t acc v x = IntOp.subi (IntOp.addi acc (scan .sum (extui 32 (pM t acc v) natLt_1_32) x)) (extui 32 (pM t acc v) natLt_1_32 x))
    (hV : ∀ t acc v x, pV t acc v x = BitVec.ofNat 32 (16 * t.val + (x 0).val))
    (hS : ∀ t acc v x, pS t acc v x = scan .sum (extui 32 (pM t acc v) natLt_1_32) x)
    (body : Fin L.trips → BitVec 32 → Pg F i (BitVec 32))
    (hbody : ∀ t acc, body t acc = do
      let v : Vec F S16 .i32 ← Prog.lift (.load m7 (Rect.unit (s := S1024) (off t) S16.size (hin t)).toLoadRect (hl t))
      have hw : chk (pI t acc v) := (← Prog.lift (TpuEff.assume (chk (pI t acc v)) (dec _))).down
      SparseCore.vectorStoreIdx wp_ ![pI t acc v] (pV t acc v) (pM t acc v) false (hchk _ hw) hs
      pure (IntOp.addi acc (extractAt ![15] (pS t acc v) inpos_S16_p15)))
    (mi : S1024.Idx → BitVec 32) (g : Vec F S512 .i32) (hlt : ∀ n < 512, (at1 g n).toNat < 512) :
    iprop(own (F := F) (tV d i) fullShare m7 mi ∗ own (F := F) (tV d i) fullShare wp_ g : sProp 𝕄)
      ⊢ WP d i (Scf.Loop.for L hok 0#32 body) (fun acc => iprop(∃ g', ⌜acc = BitVec.ofNat 32 (Nat.count (fun q => inI a b (at1 mi q)) 512)
          ∧ Lst a b (at1 mi) (at1 g') 512 ∧ ∀ n < 512, (at1 g' n).toNat < 512⌝
          ∗ own (F := F) (tV d i) fullShare m7 mi ∗ own (F := F) (tV d i) fullShare wp_ g')) := by
  iintro ⟨H7, Hw⟩
  iapply (own_for d i (L := L) (hok := hok) (init := 0#32) (body := body) (fun k acc => iprop(∃ g', ⌜acc = BitVec.ofNat 32 (Nat.count (fun q => inI a b (at1 mi q)) (16 * k))
          ∧ Lst a b (at1 mi) (at1 g') (16 * k) ∧ ∀ n < 512, (at1 g' n).toNat < 512⌝
          ∗ own (F := F) (tV d i) fullShare m7 mi ∗ own (F := F) (tV d i) fullShare wp_ g')) ?_)
  · intro t acc
    have ht : t.val < 32 := Nat.lt_of_lt_of_eq t.isLt hL
    iintro ⟨%g', %h123, H7, Hw⟩
    obtain ⟨h1, h2, h3⟩ := h123
    rw [hbody]
    iapply (own_load 𝒱₀ (tV d i) none) $$ H7
    iintro H7
    set v : Vec F S16 .i32 := fun x => mi ((Rect.unit (s := S1024) (off t) S16.size (hin t)).emb x)
    obtain ⟨hin1, hrest⟩ := scan_step (F := F) a b t.val ht mi g' acc h1 h2 h3 v
      (fun x => by rw [← hoff t]; exact at1_load mi (off t) (hin t) x)
      (pM t acc v) (pI t acc v) (pV t acc v) (pS t acc v) (hM t acc v) (hI t acc v) (hV t acc v) (hS t acc v)
    iapply (own_assume 𝒱₀ (tV d i) none (hchk' _ hin1))
    iapply (own_storeIdx 𝒱₀ (tV d i) none) $$ Hw
    iintro Hw
    iapply own_pure
    iexists _
    isplitr
    swap
    · isplitl [H7]; · iexact H7
      iexact Hw
    ipureintro
    rw [last_eq]
    exact hrest _
  isplitl
  · iexists g
    isplitr
    · ipureintro
      refine ⟨by rw [Nat.mul_zero, Nat.count_zero], fun q hq => absurd hq (by omega), hlt⟩
    isplitl [H7]; · iexact H7
    iexact Hw
  iintro %acc H
  rw [hL]
  iexact H

end Cert.Proof.Emb
-- ==== Proof.Scan.lean ====
/-
  The kernel's four window scans: each lists, among the rows at hand, those whose number lies in its window.
-/
module

public import proofs.«01_k».proof.Proof.Base

@[expose] public section

noncomputable section

namespace Cert.Proof.Emb

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.SparseCore.Cfg (HIx Pay)

variable {F : FTy → Type}

local notation "𝕄" => MT nD τ sig (HIx 1) (Elt F) ℕ UU ℕ

variable [FloatOps F] (d : Dev nD) (i : grid0.Coords)

variable {arg2 : Memref sig .scVector .hbm S16384 .i32} {harg2 : arg2.IsWhole} {arg3 : Memref sig .scVector .hbm S32x1000000 .f32}
   {harg3 : arg3.IsWhole} {arg4 : Memref sig .scVector .hbm S64x32 .f32} {harg4 : arg4.IsWhole}
   {arg5 : Memref sig .scVector .hbm S16400x128 .f32} {harg5 : arg5.IsWhole} {arg6 : Memref sig .scVector .vmem S2048 .i32}
   {harg6 : arg6.IsWhole} {arg7 : Memref sig .scVector .vmem S1024 .i32} {harg7 : arg7.IsWhole}
   {arg8 : Memref sig .scVector .vmem S1024 .i32} {harg8 : arg8.IsWhole} {arg9 : Memref sig .scVector .vmem S32x512 .f32}
   {harg9 : arg9.IsWhole} {arg10 : Memref sig .scVector .vmem S32x512 .f32} {harg10 : arg10.IsWhole}
   {arg11 : Memref sig .scVector .vmem S64x32 .f32} {harg11 : arg11.IsWhole} {arg12 : Memref sig .scVector .vmem S512 .i32}
   {harg12 : arg12.IsWhole} {arg13 : Memref sig .scVector .vmem S512 .i32} {harg13 : arg13.IsWhole}
   {arg14 : Memref sig .scVector .vmem S512x32 .f32} {harg14 : arg14.IsWhole} {arg15 : Memref sig .scVector .vmem S64x128 .f32}
   {harg15 : arg15.IsWhole} {arg16 : Memref sig .scVector .vmem S64x128 .f32} {harg16 : arg16.IsWhole}
   {arg17 : Memref sig .scVector .vmem S8x64 .i32} {harg17 : arg17.IsWhole} {arg18 : DmaSems sig S_} {arg19 : DmaSems sig S_}
   {arg20 : DmaSems sig S_} {arg21 : DmaSems sig S_} {v46_r0 : DmaSems sig S_} {v49_r1 : DmaSems sig S_} {v143_r2 : DmaSems sig S_}
   {v143_r3 : DmaSems sig S_}

variable {w : ℕ} (hw : w < 32) {v4 v6 : BitVec 32} (h4 : v4 = BitVec.ofNat 32 (tLo w)) (h6 : v6 = BitVec.ofNat 32 (tN w))
variable {v12 : IVec S16 32} (h12 : ∀ x, v12 x = BitVec.ofNat 32 (x 0).val)

theorem iv_eq (k : ℕ) : Scf.iv 0#32 1#32 k = BitVec.ofNat 32 k := by
  unfold Scf.iv
  rw [BitVec.zero_add, BitVec.mul_one]

/-- Sixteen times a trip's number, and a lane's number. -/
theorem pos_eq (k : ℕ) (y : BitVec 32) (n : ℕ) (hy : y = BitVec.ofNat 32 n) :
    IntOp.addi (IntOp.muli (Scf.iv 0#32 1#32 k) 16#32) y = BitVec.ofNat 32 (16 * k + n) := by
  rw [iv_eq, hy]
  rw [show (16#32) = BitVec.ofNat 32 16 from rfl, muli_ofNat, addi_ofNat, Nat.mul_comm]

include hw h4 h6 in
/-- The word of a window's first row. -/
theorem win_word {t : ℕ} (ht : t < 100) {x : BitVec 32} (hx : x = BitVec.ofNat 32 (4 * t)) :
    Scalar.muli (Scalar.addi v4 (Scalar.minsi x (Scalar.subi v6 4#32))) 128#32 = BitVec.ofNat 32 (win w t) := by
  have hN := tN_ge w
  have h1 : Scalar.subi v6 4#32 = BitVec.ofNat 32 (tN w - 4) := by rw [h6]; exact subi_ofNat (by omega)
  have h2 : Scalar.minsi x (Scalar.subi v6 4#32) = BitVec.ofNat 32 (min (4 * t) (tN w - 4)) := by
    rw [h1, hx]; exact minsi_ofNat (by omega) (by omega)
  have h3 : Scalar.addi v4 (Scalar.minsi x (Scalar.subi v6 4#32)) = BitVec.ofNat 32 (tLo w + min (4 * t) (tN w - 4)) := by
    rw [h2, h4]; exact addi_ofNat _ _
  rw [h3]
  refine (muli_ofNat _ 128).trans ?_
  unfold win
  rw [Nat.mul_comm]

/-- The mask of a window: the rows from its first on, 512 of them. -/
theorem mask_iff {c : BitVec 32} {n : ℕ} (hc : c = BitVec.ofNat 32 n) (hn : n + 512 < 2 ^ 31) (x : BitVec 32) :
    IntOp.andi (IntOp.cmpi .sge x c) (IntOp.cmpi .slt x (Scalar.addi c 512#32)) = 1#1 ↔ inI n (n + 512) x := by
  have h1 : Scalar.addi c 512#32 = BitVec.ofNat 32 (n + 512) := by rw [hc]; exact addi_ofNat _ _
  rw [and_one, sge_one, slt_one, h1, hc, toInt_ofNat (by omega), toInt_ofNat (by omega)]
  unfold inI
  rfl

include hw h4 h6 in
theorem mask266 (v : Vec F S16 .i32) (x : S16.Idx) : k0_pay266 (F := F) v4 v6 v x = 1#1 ↔ inI (win w 0) (win w 0 + 512) (v x) :=
  mask_iff (win_word hw h4 h6 (t := 0) (by decide) rfl) (by have := win_le hw 0; omega) _

include hw h4 h6 in
theorem mask157 (t : Fin k0_t10_loop.trips) (v : Vec F S16 .i32) (x : S16.Idx) :
    k0_pay157 (F := F) v4 v6 0#32 1#32 t v x = 1#1 ↔ inI (win w (2 * t.val + 1)) (win w (2 * t.val + 1) + 512) (v x) := by
  have ht : t.val < 31 := t.isLt
  refine mask_iff (win_word hw h4 h6 (t := 2 * t.val + 1) (by omega) ?_) (by have := win_le hw (2 * t.val + 1); omega) _
  rw [iv_eq]
  exact ((congrArg _ ((congrArg (fun z => Scalar.addi z 1#32) (muli_ofNat 2 t.val)).trans (addi_ofNat _ 1))).trans (muli_ofNat 4 _))

include hw h4 h6 in
theorem mask166 (t : Fin k0_t10_loop.trips) (v : Vec F S16 .i32) (x : S16.Idx) :
    k0_pay166 (F := F) v4 v6 0#32 1#32 t v x = 1#1
      ↔ inI (win w (min (2 * t.val + 2) 61)) (win w (min (2 * t.val + 2) 61) + 512) (v x) := by
  have ht : t.val < 31 := t.isLt
  refine mask_iff (win_word hw h4 h6 (t := min (2 * t.val + 2) 61) (by omega) ?_) (by have := win_le hw (min (2 * t.val + 2) 61); omega) _
  rw [iv_eq]
  have h1 : Scalar.addi (Scalar.muli 2#32 (BitVec.ofNat 32 t.val)) 2#32 = BitVec.ofNat 32 (2 * t.val + 2) :=
    (congrArg (fun z => Scalar.addi z 2#32) (muli_ofNat 2 t.val)).trans (addi_ofNat _ 2)
  rw [h1]
  exact (congrArg _ (minsi_ofNat (by omega) (b := 61) (by decide))).trans (muli_ofNat 4 _)

theorem mask275 (v : Vec F S16 .i32) (x : S16.Idx) : k0_pay275 (F := F) v x = 1#1 ↔ inI 999936 1000000 (v x) := by
  show IntOp.andi (IntOp.cmpi .sge (v x) _) (IntOp.cmpi .slt (v x) _) = 1#1 ↔ _
  rw [and_one, sge_one, slt_one]
  have h1 : (broadcast S16 999936#32 x : BitVec 32).toInt = 999936 := by show (999936#32).toInt = _; decide
  have h2 : (broadcast S16 1000000#32 x : BitVec 32).toInt = 1000000 := by show (1000000#32).toInt = _; decide
  rw [h1, h2]
  rfl

variable {v7 v11 v17 : BitVec 32} {k0_t4 : Fin (k0_t4_loop v17).trips} {k0_t10 : Fin k0_t10_loop.trips} {v65 arg25 : BitVec 32}

/-- What a scan leaves: the list of one window, and how many rows it holds. -/
abbrev ScanPost (a b : ℕ) (m7 : Memref sig .scVector .vmem S1024 .i32) (m : Memref sig .scVector .vmem S512 .i32)
    (mi : S1024.Idx → BitVec 32) (acc : BitVec 32) : sProp 𝕄 :=
  iprop(∃ g' : S512.Idx → BitVec 32, ⌜acc = BitVec.ofNat 32 (Nat.count (fun q => inI a b (at1 mi q)) 512)
          ∧ Lst a b (at1 mi) (at1 g') 512 ∧ ∀ n < 512, (at1 g' n).toNat < 512⌝
          ∗ own (F := F) (e := .i32) (tV d i) fullShare m7 mi ∗ own (F := F) (e := .i32) (tV d i) fullShare m g')

include hw h4 h6 h12 in
/-- The scan for the first window. -/
theorem t9_spec (mi : S1024.Idx → BitVec 32) (g : S512.Idx → BitVec 32) (hlt : ∀ n < 512, (at1 g n).toNat < 512) :
    iprop(own (F := F) (e := .i32) (tV d i) fullShare arg7 mi ∗ own (F := F) (e := .i32) (tV d i) fullShare arg12 g : sProp 𝕄)
      ⊢ WP d i (Scf.Loop.for k0_t9_loop k0_t9_ok 0#32 (k0_t9_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v7 v11 v12 v17 0#32 1#32 k0_t4))
          (ScanPost d i (win w 0) (win w 0 + 512) arg7 arg12 mi) :=
  scan_loop (F := F) d i (win w 0) (win w 0 + 512) rfl arg7 arg12 k0_off6 (fun t => by rw [k0_off6_eq]; rfl) k0_off6_inb
    (fun _ _ v => k0_pay266 v4 v6 v) (fun _ acc v => k0_pay268 v4 v6 acc v) (fun t _ _ => k0_pay269 v12 t) (fun _ _ v => k0_pay270 v4 v6 v)
    k0_chk5 k0_chk5.dec (fun _ h => k0_idx5_inb _ h) (fun _ h => h) (fun _ => View.loadsAt_vmem h_S16) (View.stores_vmem_bits_univ h_S512 rfl)
    (fun _ _ v x => mask266 hw h4 h6 v x) (fun _ _ _ _ => rfl) (fun t _ _ x => pos_eq _ _ _ (h12 x)) (fun _ _ _ _ => rfl)
    _ (fun _ _ => rfl) mi g hlt

include hw h4 h6 h12 in
/-- The scan for an odd window. -/
theorem t11_spec (mi : S1024.Idx → BitVec 32) (g : S512.Idx → BitVec 32) (hlt : ∀ n < 512, (at1 g n).toNat < 512) :
    iprop(own (F := F) (e := .i32) (tV d i) fullShare arg7 mi ∗ own (F := F) (e := .i32) (tV d i) fullShare arg13 g : sProp 𝕄)
      ⊢ WP d i (Scf.Loop.for k0_t11_loop k0_t11_ok 0#32 (k0_t11_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 0#32 1#32 k0_t10 arg25))
          (ScanPost d i (win w (2 * k0_t10.val + 1)) (win w (2 * k0_t10.val + 1) + 512) arg7 arg13 mi) :=
  scan_loop (F := F) d i _ _ rfl arg7 arg13 k0_off8 (fun t => by rw [k0_off8_eq]; rfl) k0_off8_inb
    (fun _ _ v => k0_pay157 v4 v6 0#32 1#32 k0_t10 v) (fun _ acc v => k0_pay159 v4 v6 0#32 1#32 k0_t10 acc v) (fun t _ _ => k0_pay160 v12 t)
    (fun _ _ v => k0_pay161 v4 v6 0#32 1#32 k0_t10 v)
    k0_chk6 k0_chk6.dec (fun _ h => k0_idx6_inb _ h) (fun _ h => h) (fun _ => View.loadsAt_vmem h_S16) (View.stores_vmem_bits_univ h_S512 rfl)
    (fun _ _ v x => mask157 hw h4 h6 k0_t10 v x) (fun _ _ _ _ => rfl) (fun t _ _ x => pos_eq _ _ _ (h12 x)) (fun _ _ _ _ => rfl)
    _ (fun _ _ => rfl) mi g hlt

include hw h4 h6 h12 in
/-- The scan for the next even window. -/
theorem t14_spec (mi : S1024.Idx → BitVec 32) (g : S512.Idx → BitVec 32) (hlt : ∀ n < 512, (at1 g n).toNat < 512) :
    iprop(own (F := F) (e := .i32) (tV d i) fullShare arg7 mi ∗ own (F := F) (e := .i32) (tV d i) fullShare arg12 g : sProp 𝕄)
      ⊢ WP d i (Scf.Loop.for k0_t14_loop k0_t14_ok 0#32 (k0_t14_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 0#32 1#32 k0_t10 arg25))
          (ScanPost d i (win w (min (2 * k0_t10.val + 2) 61)) (win w (min (2 * k0_t10.val + 2) 61) + 512) arg7 arg12 mi) :=
  scan_loop (F := F) d i _ _ rfl arg7 arg12 k0_off13 (fun t => by rw [k0_off13_eq]; rfl) k0_off13_inb
    (fun _ _ v => k0_pay166 v4 v6 0#32 1#32 k0_t10 v) (fun _ acc v => k0_pay168 v4 v6 0#32 1#32 k0_t10 acc v) (fun t _ _ => k0_pay169 v12 t)
    (fun _ _ v => k0_pay170 v4 v6 0#32 1#32 k0_t10 v)
    k0_chk140 k0_chk140.dec (fun _ h => k0_idx141_inb _ h) (fun _ h => h) (fun _ => View.loadsAt_vmem h_S16) (View.stores_vmem_bits_univ h_S512 rfl)
    (fun _ _ v x => mask166 hw h4 h6 k0_t10 v x) (fun _ _ _ _ => rfl) (fun t _ _ x => pos_eq _ _ _ (h12 x)) (fun _ _ _ _ => rfl)
    _ (fun _ _ => rfl) mi g hlt

include h12 in
/-- The scan for the table's last 64 rows. -/
theorem t17_spec (mi : S1024.Idx → BitVec 32) (g : S512.Idx → BitVec 32) (hlt : ∀ n < 512, (at1 g n).toNat < 512) :
    iprop(own (F := F) (e := .i32) (tV d i) fullShare arg7 mi ∗ own (F := F) (e := .i32) (tV d i) fullShare arg13 g : sProp 𝕄)
      ⊢ WP d i (Scf.Loop.for k0_t17_loop k0_t17_ok 0#32 (k0_t17_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 v65 0#32 1#32))
          (ScanPost d i 999936 1000000 arg7 arg13 mi) :=
  scan_loop (F := F) d i _ _ rfl arg7 arg13 k0_off18 (fun t => by rw [k0_off18_eq]; rfl) k0_off18_inb
    (fun _ _ v => k0_pay275 v) (fun _ acc v => k0_pay277 acc v) (fun t _ _ => k0_pay278 v12 t)
    (fun _ _ v => k0_pay279 v)
    k0_chk274 k0_chk274.dec (fun _ h => k0_idx276_inb _ h) (fun _ h => h) (fun _ => View.loadsAt_vmem h_S16) (View.stores_vmem_bits_univ h_S512 rfl)
    (fun _ _ v x => mask275 v x) (fun _ _ _ _ => rfl) (fun t _ _ x => pos_eq _ _ _ (h12 x)) (fun _ _ _ _ => rfl)
    _ (fun _ _ => rfl) mi g hlt

end Cert.Proof.Emb
-- ==== Proof.Extract0.lean ====
/-
  What an extraction keeps: the output rows already gathered, and the positions each of them goes to.
-/
module

public import proofs.«01_k».proof.Proof.Scan

@[expose] public section

noncomputable section

namespace Cert.Proof.Emb

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.SparseCore.Cfg (HIx Pay)

variable {F : FTy → Type}

local notation "𝕄" => MT nD τ sig (HIx 1) (Elt F) ℕ UU ℕ

variable [FloatOps F] (d : Dev nD) (i : grid0.Coords)

/-! ## Two-dimensional buffers by position -/

/-- A two-dimensional index. -/
def ix2 {A B : ℕ} (m n : ℕ) (hm : m < A) (hn : n < B) : (⟨2, ![A, B]⟩ : Shape).Idx
  | ⟨0, _⟩ => ⟨m, hm⟩
  | ⟨1, _⟩ => ⟨n, hn⟩

theorem ix2_zero {A B : ℕ} (m n : ℕ) (hm : m < A) (hn : n < B) : ((ix2 m n hm hn) 0).val = m := rfl
theorem ix2_one {A B : ℕ} (m n : ℕ) (hm : m < A) (hn : n < B) : ((ix2 m n hm hn) 1).val = n := rfl

theorem ix2_ext {A B : ℕ} {y z : (⟨2, ![A, B]⟩ : Shape).Idx} (h0 : (y 0).val = (z 0).val) (h1 : (y 1).val = (z 1).val) : y = z := by
  funext a
  match a with
  | ⟨0, _⟩ => exact Fin.ext h0
  | ⟨1, _⟩ => exact Fin.ext h1

/-- The table at a column and a row. -/
def tabT (tab : S32x1000000.Idx → Elt F .f32) (j n : ℕ) : Elt F .f32 :=
  if h : j < 32 ∧ n < 1000000 then tab (ix2 (A := 32) (B := 1000000) j n h.1 h.2)
  else tab (ix2 (A := 32) (B := 1000000) 0 0 (by decide) (by decide))

theorem tabT_val (tab : S32x1000000.Idx → Elt F .f32) (y : S32x1000000.Idx) : tabT tab (y 0).val (y 1).val = tab y := by
  have h0 : (y 0).val < 32 := (y 0).isLt
  have h1 : (y 1).val < 1000000 := (y 1).isLt
  unfold tabT
  rw [dif_pos ⟨h0, h1⟩]
  congr 1
  exact ix2_ext (A := 32) (B := 1000000) rfl rfl

/-- The list of output positions, read in order. -/
def kvq (kv : S8x64.Idx → BitVec 32) (q : ℕ) : BitVec 32 :=
  if h : q < 512 then kv (ix2 (A := 8) (B := 64) (q / 64) (q % 64) (by omega) (by omega)) else 0#32

/-- What is gathered so far: for the rows in `G` the output buffer holds the table's row and the position list the
    row's position; for an index outside the table the position is the dump row's. -/
def Ext (tab : S32x1000000.Idx → Elt F .f32) (mi mk : S1024.Idx → BitVec 32) (G : ℕ → Prop) (kv : S8x64.Idx → BitVec 32)
    (ob : S512x32.Idx → Elt F .f32) : Prop :=
  (∀ q < 512, G q → kvq kv q = at1 mk q) ∧ (∀ q < 512, ¬ inI 0 1000000 (at1 mi q) → kvq kv q = 16384#32)
    ∧ ∀ y : S512x32.Idx, G (y 0).val → ob y = tabT tab (y 1).val (at1 mi (y 0).val).toNat

/-- A masked set of rows' first `j` columns are gathered besides the rows in `G`. -/
def ColP (tab : S32x1000000.Idx → Elt F .f32) (mi : S1024.Idx → BitVec 32) (G : ℕ → Prop) (mask : IVec S16 1) (pv : IVec S16 32) (j : ℕ)
    (ob : S512x32.Idx → Elt F .f32) : Prop :=
  ∀ y : S512x32.Idx, (G (y 0).val ∨ ((∃ x, mask x = 1#1 ∧ (pv x).toNat = (y 0).val) ∧ (y 1).val < j))
    → ob y = tabT tab (y 1).val (at1 mi (y 0).val).toNat

theorem ColP_step {tab : S32x1000000.Idx → Elt F .f32} {mi : S1024.Idx → BitVec 32} {G : ℕ → Prop} {mask : IVec S16 1} {pv : IVec S16 32} {j : ℕ}
    {ob : S512x32.Idx → Elt F .f32} (hP : ColP tab mi G mask pv j ob) (col : IVec S16 32) (hcol : ∀ x, (col x).toNat = j) (vals : Vec F S16 .f32)
    (hv : ∀ x, mask x = 1#1 → vals x = tabT tab j (at1 mi (pv x).toNat).toNat)
    (h : ∀ a x, ((![pv, col] : Fin 2 → IVec S16 32) a x).toNat < S512x32.size a) :
    ColP tab mi G mask pv (j + 1) (storeIdx (F := F) (e := .f32) (s := S512x32) ob ![pv, col] vals mask false h) := by
  intro y hy
  rcases storeIdx_cases (F := F) (e := .f32) (s := S512x32) ob ![pv, col] vals mask h y with ⟨x, h1, h2, h3⟩ | ⟨h1, h2⟩
  · have h20 : (pv x).toNat = (y 0).val := h2 0
    have h21 : (col x).toNat = (y 1).val := h2 1
    rw [h3, hv x h1, ← h20, ← h21, hcol]
  · rw [h2]
    refine hP y ?_
    rcases hy with hG | ⟨⟨x, hx1, hx2⟩, hlt⟩
    · exact .inl hG
    · refine .inr ⟨⟨x, hx1, hx2⟩, ?_⟩
      rcases Nat.lt_succ_iff_lt_or_eq.1 hlt with hlt | heq
      · exact hlt
      · exfalso
        refine h1 x hx1 fun a => ?_
        match a with
        | ⟨0, _⟩ => exact hx2
        | ⟨1, _⟩ => exact (hcol x).trans heq.symm

theorem shr_and : ∀ n : Fin 512, (IntOp.shrsi .vector (BitVec.ofNat 32 n.val) 6#32).toNat = n.val / 64
    ∧ (IntOp.andi (BitVec.ofNat 32 n.val) 63#32).toNat = n.val % 64 := by decide +kernel

theorem shr_toNat {x : BitVec 32} (h : x.toNat < 512) : (IntOp.shrsi .vector x 6#32).toNat = x.toNat / 64 := by
  have := (shr_and ⟨x.toNat, h⟩).1
  rwa [show BitVec.ofNat 32 x.toNat = x from BitVec.eq_of_toNat_eq (by simp)] at this

theorem and_toNat {x : BitVec 32} (h : x.toNat < 512) : (IntOp.andi x 63#32).toNat = x.toNat % 64 := by
  have := (shr_and ⟨x.toNat, h⟩).2
  rwa [show BitVec.ofNat 32 x.toNat = x from BitVec.eq_of_toNat_eq (by simp)] at this

/-- A masked scatter into the position list, by position. -/
theorem kvq_storeIdx (kv : S8x64.Idx → BitVec 32) (pv r c : IVec S16 32) (hp : ∀ x, (pv x).toNat < 512)
    (hr : ∀ x, r x = IntOp.shrsi .vector (pv x) 6#32) (hc : ∀ x, c x = IntOp.andi (pv x) 63#32) (vals : Vec F S16 .i32) (mask : IVec S16 1)
    (h : ∀ a x, ((![r, c] : Fin 2 → IVec S16 32) a x).toNat < S8x64.size a) (q : ℕ) (hq : q < 512) :
    (∃ x, mask x = 1#1 ∧ (pv x).toNat = q ∧ kvq (storeIdx (F := F) (e := .i32) (s := S8x64) kv ![r, c] vals mask false h) q = vals x)
      ∨ ((∀ x, mask x = 1#1 → (pv x).toNat ≠ q) ∧ kvq (storeIdx (F := F) (e := .i32) (s := S8x64) kv ![r, c] vals mask false h) q = kvq kv q) := by
  have hr' : ∀ x, (r x).toNat = (pv x).toNat / 64 := fun x => by rw [hr, shr_toNat (hp x)]
  have hc' : ∀ x, (c x).toNat = (pv x).toNat % 64 := fun x => by rw [hc, and_toNat (hp x)]
  unfold kvq
  rw [dif_pos hq, dif_pos hq]
  rcases storeIdx_cases (F := F) (e := .i32) (s := S8x64) kv ![r, c] vals mask h (ix2 (A := 8) (B := 64) (q / 64) (q % 64) (by omega) (by omega)) with ⟨x, h1, h2, h3⟩ | ⟨h1, h2⟩
  · refine .inl ⟨x, h1, ?_, h3⟩
    have h20 : (r x).toNat = q / 64 := h2 0
    have h21 : (c x).toNat = q % 64 := h2 1
    rw [hr'] at h20; rw [hc'] at h21
    omega
  · refine .inr ⟨fun x hx hxq => ?_, h2⟩
    refine h1 x hx fun a => ?_
    match a with
    | ⟨0, _⟩ => exact (hr' x).trans (by rw [hxq]; rfl)
    | ⟨1, _⟩ => exact (hc' x).trans (by rw [hxq]; rfl)

/-- A number below a count is some selected position's count. -/
theorem exists_count (P : ℕ → Prop) [DecidablePred P] (n : ℕ) : ∀ N, n < Nat.count P N → ∃ q < N, P q ∧ Nat.count P q = n := by
  intro N
  induction N with
  | zero => intro h; rw [Nat.count_zero] at h; omega
  | succ N ih =>
    intro h
    by_cases hn : n < Nat.count P N
    · obtain ⟨q, h1, h2, h3⟩ := ih hn
      exact ⟨q, by omega, h2, h3⟩
    · rw [Nat.count_succ] at h
      by_cases hP : P N
      · rw [if_pos hP] at h
        exact ⟨N, by omega, hP, by omega⟩
      · rw [if_neg hP] at h; omega

/-- The rows gathered after `t` groups of 16 of a window's list. -/
def Gt (a b : ℕ) (mi : S1024.Idx → BitVec 32) (G : ℕ → Prop) (t q : ℕ) : Prop :=
  G q ∨ (q < 512 ∧ inI a b (at1 mi q) ∧ Nat.count (fun q => inI a b (at1 mi q)) q < 16 * t)

variable {a b t : ℕ} {mi mk : S1024.Idx → BitVec 32} {g : S512.Idx → BitVec 32} {G : ℕ → Prop} {mask : IVec S16 1} {pv : IVec S16 32}

/-- A selected lane's row lies in the window. -/
theorem lane_in (hg : Lst a b (at1 mi) (at1 g) 512) (hpv : ∀ x, pv x = at1 g (16 * t + (x 0).val))
    (hm : ∀ x, mask x = 1#1 → 16 * t + (x 0).val < Nat.count (fun q => inI a b (at1 mi q)) 512) (x : S16.Idx) (hx : mask x = 1#1) :
    inI a b (at1 mi (pv x).toNat) := by
  obtain ⟨q, h1, h2, h3⟩ := exists_count _ _ 512 (hm x hx)
  have h4 := hg q h1 h2
  rw [h3, ← hpv] at h4
  rw [h4, toNat_ofNat (by omega)]
  exact h2

/-- A group's rows are its selected lanes'. -/
theorem lane_of (hg : Lst a b (at1 mi) (at1 g) 512) (hpv : ∀ x, pv x = at1 g (16 * t + (x 0).val))
    (hm : ∀ x, 16 * t + (x 0).val < Nat.count (fun q => inI a b (at1 mi q)) 512 → mask x = 1#1) (q : ℕ) (hq : Gt a b mi G (t + 1) q) :
    Gt a b mi G t q ∨ ∃ x, mask x = 1#1 ∧ (pv x).toNat = q := by
  rcases hq with hq | ⟨h1, h2, h3⟩
  · exact .inl (.inl hq)
  by_cases hlt : Nat.count (fun q => inI a b (at1 mi q)) q < 16 * t
  · exact .inl (.inr ⟨h1, h2, hlt⟩)
  right
  have hw : Nat.count (fun q => inI a b (at1 mi q)) q < Nat.count (fun q => inI a b (at1 mi q)) 512 :=
    Nat.count_strict_mono (p := fun q => inI a b (at1 mi q)) h2 h1
  refine ⟨lane (Nat.count (fun q => inI a b (at1 mi q)) q - 16 * t) (by omega), hm _ ?_, ?_⟩
  · rw [lane_val]; omega
  · rw [hpv, lane_val, Nat.add_sub_cancel' (by omega), hg q h1 h2, toNat_ofNat (by omega)]

/-- One group's positions and rows, gathered. -/
theorem Ext_step {tab : S32x1000000.Idx → Elt F .f32} (hg : Lst a b (at1 mi) (at1 g) 512) (hlt : ∀ x, (pv x).toNat < 512) (hb : b ≤ 1000000)
    (hpv : ∀ x, pv x = at1 g (16 * t + (x 0).val))
    (hm : ∀ x, mask x = 1#1 ↔ 16 * t + (x 0).val < Nat.count (fun q => inI a b (at1 mi q)) 512)
    {kv : S8x64.Idx → BitVec 32} {ob ob' : S512x32.Idx → Elt F .f32} (hE : Ext tab mi mk (Gt a b mi G t) kv ob)
    (r c : IVec S16 32) (hr : ∀ x, r x = IntOp.shrsi .vector (pv x) 6#32) (hc : ∀ x, c x = IntOp.andi (pv x) 63#32) (vals : Vec F S16 .i32)
    (hvals : ∀ x, vals x = at1 mk (pv x).toNat)
    (h : ∀ a x, ((![r, c] : Fin 2 → IVec S16 32) a x).toNat < S8x64.size a)
    (hob : ColP tab mi (Gt a b mi G t) mask pv 32 ob') :
    Ext tab mi mk (Gt a b mi G (t + 1)) (storeIdx (F := F) (e := .i32) (s := S8x64) kv ![r, c] vals mask false h) ob' := by
  obtain ⟨h1, h2, h3⟩ := hE
  refine ⟨fun q hq hG => ?_, fun q hq hn => ?_, fun y hG => ?_⟩
  · rcases kvq_storeIdx (F := F) kv pv r c hlt hr hc vals mask h q hq with ⟨x, e1, e2, e3⟩ | ⟨e1, e2⟩
    · rw [e3, hvals, e2]
    · rw [e2]
      rcases lane_of (G := G) hg hpv (fun x => (hm x).2) q hG with hG | ⟨x, hx1, hx2⟩
      · exact h1 q hq hG
      · exact absurd hx2 (e1 x hx1)
  · rcases kvq_storeIdx (F := F) kv pv r c hlt hr hc vals mask h q hq with ⟨x, e1, e2, e3⟩ | ⟨e1, e2⟩
    · exfalso
      have := lane_in hg hpv (fun x => (hm x).1) x e1
      rw [e2] at this
      refine hn ?_
      unfold inI at this ⊢
      omega
    · rw [e2]; exact h2 q hq hn
  · refine hob y ?_
    rcases lane_of (G := G) hg hpv (fun x => (hm x).2) _ hG with hG | hx
    · exact .inl hG
    · refine .inr ⟨hx, (y 1).isLt⟩

theorem Ext_col {tab : S32x1000000.Idx → Elt F .f32} {kv : S8x64.Idx → BitVec 32} {ob : S512x32.Idx → Elt F .f32} (hE : Ext tab mi mk G kv ob) :
    ColP tab mi G mask pv 0 ob := by
  intro y hy
  rcases hy with hG | ⟨_, h0⟩
  · exact hE.2.2 y hG
  · omega

theorem Ext_mono {tab : S32x1000000.Idx → Elt F .f32} {kv : S8x64.Idx → BitVec 32} {ob : S512x32.Idx → Elt F .f32} {G G' : ℕ → Prop}
    (hE : Ext tab mi mk G kv ob) (h : ∀ q < 512, G' q → G q) : Ext tab mi mk G' kv ob :=
  ⟨fun q hq hG => hE.1 q hq (h q hq hG), hE.2.1, fun y hG => hE.2.2 y (h _ (y 0).isLt hG)⟩

/-- What a gather out of a window's slab reads. -/
theorem slab_val {tab : S32x1000000.Idx → Elt F .f32} {slab : S32x512.Idx → Elt F .f32} {a : ℕ} (ha : a + 512 ≤ 1000000)
    (hsl : ∀ y, slab y = tabT tab (y 0).val (a + (y 1).val)) {c0 : BitVec 32} (hc0 : c0 = BitVec.ofNat 32 a)
    {v : IVec S16 32} (hv : ∀ x, v x = at1 mi (pv x).toNat) (hin : ∀ x, mask x = 1#1 → inI a (a + 512) (at1 mi (pv x).toNat))
    {col idx : IVec S16 32} {j : ℕ} (hcol : ∀ x, (col x).toNat = j)
    (hidx : ∀ x, idx x = IntOp.minsi 511#32 (IntOp.maxsi 0#32 (IntOp.subi (v x) c0)))
    (h : ∀ a x, ((![col, idx] : Fin 2 → IVec S16 32) a x).toNat < S32x512.size a) (x : S16.Idx) (hx : mask x = 1#1) :
    loadIdx (F := F) (e := .f32) (s := S32x512) slab ![col, idx] h x = tabT tab j (at1 mi (pv x).toNat).toNat := by
  have h1 := hin x hx
  unfold inI at h1
  obtain ⟨n, hn⟩ : ∃ n : ℕ, (at1 mi (pv x).toNat).toInt = n := ⟨_, (Int.toNat_of_nonneg (by omega)).symm⟩
  have hs : (IntOp.subi (v x) c0).toInt = ((n - a : ℕ) : ℤ) := by
    rw [hv, eq_ofNat_of_toInt hn, hc0, toInt_sub_ofNat (by omega) (by omega)]; omega
  have hi : (idx x).toNat = n - a := by
    rw [hidx, show (511#32) = BitVec.ofNat 32 511 from rfl, clip_eq hs (by omega) (by decide), toNat_ofNat (by omega)]
  show slab (idxAt (s := S32x512) ![col, idx] h x) = _
  rw [hsl]
  have e0 : ((idxAt (s := S32x512) ![col, idx] h x) 0).val = (col x).toNat := rfl
  have e1 : ((idxAt (s := S32x512) ![col, idx] h x) 1).val = (idx x).toNat := rfl
  rw [e0, e1, hcol, hi, toNat_of_toInt hn, Nat.add_sub_cancel' (by omega)]

/-- What a gather out of the table's last rows reads. -/
theorem tail_val {tab : S32x1000000.Idx → Elt F .f32} {tl : S64x32.Idx → Elt F .f32}
    (hsl : ∀ y, tl y = tabT tab (y 1).val (999936 + (y 0).val))
    {v : IVec S16 32} (hv : ∀ x, v x = at1 mi (pv x).toNat) (hin : ∀ x, mask x = 1#1 → inI 999936 1000000 (at1 mi (pv x).toNat))
    {col idx : IVec S16 32} {j : ℕ} (hcol : ∀ x, (col x).toNat = j)
    (hidx : ∀ x, idx x = IntOp.minsi 63#32 (IntOp.maxsi 0#32 (IntOp.subi (v x) 999936#32)))
    (h : ∀ a x, ((![idx, col] : Fin 2 → IVec S16 32) a x).toNat < S64x32.size a) (x : S16.Idx) (hx : mask x = 1#1) :
    loadIdx (F := F) (e := .f32) (s := S64x32) tl ![idx, col] h x = tabT tab j (at1 mi (pv x).toNat).toNat := by
  have h1 := hin x hx
  unfold inI at h1
  obtain ⟨n, hn⟩ : ∃ n : ℕ, (at1 mi (pv x).toNat).toInt = n := ⟨_, (Int.toNat_of_nonneg (by omega)).symm⟩
  have hs : (IntOp.subi (v x) 999936#32).toInt = ((n - 999936 : ℕ) : ℤ) := by
    rw [hv, eq_ofNat_of_toInt hn, show (999936#32) = BitVec.ofNat 32 999936 from rfl, toInt_sub_ofNat (by omega) (by omega)]; omega
  have hi : (idx x).toNat = n - 999936 := by
    rw [hidx, show (63#32) = BitVec.ofNat 32 63 from rfl, clip_eq hs (by omega) (by decide), toNat_ofNat (by omega)]
  show tl (idxAt (s := S64x32) ![idx, col] h x) = _
  rw [hsl]
  have e0 : ((idxAt (s := S64x32) ![idx, col] h x) 1).val = (col x).toNat := rfl
  have e1 : ((idxAt (s := S64x32) ![idx, col] h x) 0).val = (idx x).toNat := rfl
  rw [e0, e1, hcol, hi, toNat_of_toInt hn, Nat.add_sub_cancel' (by omega)]

/-- Two index vectors within a buffer's bounds. -/
theorem lt2 {A B : ℕ} {u v : IVec S16 32} (hu : ∀ x, (u x).toNat < A) (hv : ∀ x, (v x).toNat < B) :
    ∀ a x, ((![u, v] : Fin 2 → IVec S16 32) a x).toNat < (⟨2, ![A, B]⟩ : Shape).size a := by
  intro a x
  match a with
  | ⟨0, _⟩ => exact hu x
  | ⟨1, _⟩ => exact hv x

/-- One index vector within a buffer's bounds. -/
theorem lt1 {A : ℕ} {u : IVec S16 32} (hu : ∀ x, (u x).toNat < A) :
    ∀ a x, ((![u] : Fin 1 → IVec S16 32) a x).toNat < (⟨1, ![A]⟩ : Shape).size a := by
  intro a x
  rw [Fin.eq_zero a]
  exact hu x

/-- A gather out of a one-dimensional buffer, by position. -/
theorem loadIdx_at1 {N : ℕ} (f : Vec F (⟨1, ![N]⟩ : Shape) .i32) (u : IVec S16 32)
    (h : ∀ a x, ((![u] : Fin 1 → IVec S16 32) a x).toNat < (⟨1, ![N]⟩ : Shape).size a) (x : S16.Idx) :
    loadIdx (F := F) (e := .i32) f ![u] h x = at1 f (u x).toNat := by
  show f (idxAt (s := (⟨1, ![N]⟩ : Shape)) ![u] h x) = _
  rw [← at1_val f]
  rfl

end Cert.Proof.Emb
-- ==== Proof.Extract.lean ====
/-
  The kernel's three extraction loops: a listed window's rows go from the window's slab to the output buffer, their
  positions to the position list.
-/
module

public import proofs.«01_k».proof.Proof.Extract0

@[expose] public section

noncomputable section

namespace Cert.Proof.Emb

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.SparseCore.Cfg (HIx Pay)

variable {F : FTy → Type}

local notation "𝕄" => MT nD τ sig (HIx 1) (Elt F) ℕ UU ℕ

variable [FloatOps F] (d : Dev nD) (i : grid0.Coords)

variable {arg2 : Memref sig .scVector .hbm S16384 .i32} {harg2 : arg2.IsWhole} {arg3 : Memref sig .scVector .hbm S32x1000000 .f32}
   {harg3 : arg3.IsWhole} {arg4 : Memref sig .scVector .hbm S64x32 .f32} {harg4 : arg4.IsWhole}
   {arg5 : Memref sig .scVector .hbm S16400x128 .f32} {harg5 : arg5.IsWhole} {arg6 : Memref sig .scVector .vmem S2048 .i32}
   {harg6 : arg6.IsWhole} {arg7 : Memref sig .scVector .vmem S1024 .i32} {harg7 : arg7.IsWhole}
   {arg8 : Memref sig .scVector .vmem S1024 .i32} {harg8 : arg8.IsWhole} {arg9 : Memref sig .scVector .vmem S32x512 .f32}
   {harg9 : arg9.IsWhole} {arg10 : Memref sig .scVector .vmem S32x512 .f32} {harg10 : arg10.IsWhole}
   {arg11 : Memref sig .scVector .vmem S64x32 .f32} {harg11 : arg11.IsWhole} {arg12 : Memref sig .scVector .vmem S512 .i32}
   {harg12 : arg12.IsWhole} {arg13 : Memref sig .scVector .vmem S512 .i32} {harg13 : arg13.IsWhole}
   {arg14 : Memref sig .scVector .vmem S512x32 .f32} {harg14 : arg14.IsWhole} {arg15 : Memref sig .scVector .vmem S64x128 .f32}
   {harg15 : arg15.IsWhole} {arg16 : Memref sig .scVector .vmem S64x128 .f32} {harg16 : arg16.IsWhole}
   {arg17 : Memref sig .scVector .vmem S8x64 .i32} {harg17 : arg17.IsWhole} {arg18 : DmaSems sig S_} {arg19 : DmaSems sig S_}
   {arg20 : DmaSems sig S_} {arg21 : DmaSems sig S_} {v46_r0 : DmaSems sig S_} {v49_r1 : DmaSems sig S_} {v143_r2 : DmaSems sig S_}
   {v143_r3 : DmaSems sig S_}

/-- One column of a group, its side condition past. -/
theorem col_step0 {s : Shape} {m9 : Memref sig .scVector .vmem s .f32} {m14 : Memref sig .scVector .vmem S512x32 .f32}
    {tab : S32x1000000.Idx → Elt F .f32} {mi : S1024.Idx → BitVec 32} {G : ℕ → Prop} {mask : IVec S16 1} {pv : IVec S16 32} {j : ℕ}
    {g : s.Idx → Elt F .f32} {ob : S512x32.Idx → Elt F .f32} {idxs : Fin s.rank → IVec S16 32}
    {hidx : ∀ a x, (idxs a x).toNat < s.size a} {col : IVec S16 32}
    {hA : ∀ a x, ((![pv, col] : Fin 2 → IVec S16 32) a x).toNat < S512x32.size a} {hl : m9.view.Loads} {hs : (m14.access (.whole S512x32)).Stores Finset.univ}
    {α : Type} {k : PUnit → Pg F i α} {Q : α → sProp 𝕄}
    (hP : ColP tab mi G mask pv j ob) (hcol : ∀ x, (col x).toNat = j)
    (hv : ∀ h x, mask x = 1#1 → loadIdx (F := F) (e := .f32) g idxs h x = tabT tab j (at1 mi (pv x).toNat).toNat) :
    iprop(own (F := F) (tV d i) fullShare m9 g ∗ own (F := F) (tV d i) fullShare m14 ob : sProp 𝕄)
      ⊢ iprop((∀ ob', ⌜ColP tab mi G mask pv (j + 1) ob'⌝ -∗ own (F := F) (tV d i) fullShare m9 g -∗ own (F := F) (tV d i) fullShare m14 ob' -∗ WP d i (k ⟨⟩) Q)
        -∗ WP d i (SparseCore.vectorLoadIdx m9 idxs hidx hl >>= fun vals =>
            SparseCore.vectorStoreIdx m14 ![pv, col] vals mask false hA hs >>= k) Q) := by
  iintro ⟨H9, H14⟩ Hk
  iapply (own_loadIdx 𝒱₀ (tV d i) none) $$ H9
  iintro H9
  iapply (own_storeIdx 𝒱₀ (tV d i) none) $$ H14
  iintro H14
  iapply Hk $$ %(storeIdx (F := F) (e := .f32) (s := S512x32) ob ![pv, col] (loadIdx (F := F) (e := .f32) g idxs hidx) mask false hA) [] [H9] [H14]
  · ipureintro
    exact ColP_step hP col hcol _ (hv _) hA
  · iexact H9
  · iexact H14

/-- One column of a group. -/
theorem col_step {s : Shape} {m9 : Memref sig .scVector .vmem s .f32} {m14 : Memref sig .scVector .vmem S512x32 .f32}
    {tab : S32x1000000.Idx → Elt F .f32} {mi : S1024.Idx → BitVec 32} {G : ℕ → Prop} {mask : IVec S16 1} {pv : IVec S16 32} {j : ℕ}
    {g : s.Idx → Elt F .f32} {ob : S512x32.Idx → Elt F .f32} {B : Prop} {dB : Decidable B} {idxs : Fin s.rank → IVec S16 32}
    {hidx : PLift B → ∀ a x, (idxs a x).toNat < s.size a} {col : IVec S16 32}
    {hA : ∀ a x, ((![pv, col] : Fin 2 → IVec S16 32) a x).toNat < S512x32.size a} {hl : m9.view.Loads} {hs : (m14.access (.whole S512x32)).Stores Finset.univ}
    {α : Type} {k : PUnit → Pg F i α} {Q : α → sProp 𝕄}
    (hP : ColP tab mi G mask pv j ob) (hb : B) (hcol : ∀ x, (col x).toNat = j)
    (hv : ∀ h x, mask x = 1#1 → loadIdx (F := F) (e := .f32) g idxs h x = tabT tab j (at1 mi (pv x).toNat).toNat) :
    iprop(own (F := F) (tV d i) fullShare m9 g ∗ own (F := F) (tV d i) fullShare m14 ob : sProp 𝕄)
      ⊢ iprop((∀ ob', ⌜ColP tab mi G mask pv (j + 1) ob'⌝ -∗ own (F := F) (tV d i) fullShare m9 g -∗ own (F := F) (tV d i) fullShare m14 ob' -∗ WP d i (k ⟨⟩) Q)
        -∗ WP d i (Prog.lift (TpuEff.assume B dB) >>= fun z => SparseCore.vectorLoadIdx m9 idxs (hidx z) hl >>= fun vals =>
            SparseCore.vectorStoreIdx m14 ![pv, col] vals mask false hA hs >>= k) Q) := by
  iintro H Hk
  iapply (own_assume 𝒱₀ (tV d i) none hb)
  iapply (col_step0 (F := F) d i hP hcol hv) $$ H Hk

/-- The trips of an extraction of `n` rows. -/
theorem trips12 : ∀ n : Fin 513, k0_chk7 (BitVec.ofNat 32 n.val) ∧ (k0_t12_loop (BitVec.ofNat 32 n.val)).trips = (n.val + 15) / 16
    ∧ (k0_t13_loop (BitVec.ofNat 32 n.val)).trips = 0 := by
  decide +kernel

theorem off_val (k : ℕ) (hk : k < 100) : (Scalar.indexCast (Scalar.muli (Scf.iv 0#32 1#32 k) 16#32)).toNat = 16 * k := by
  rw [iv_eq]
  have h : Scalar.muli (BitVec.ofNat 32 k) 16#32 = BitVec.ofNat 32 (16 * k) := (muli_ofNat k 16).trans (by rw [Nat.mul_comm])
  rw [h]
  exact toNat_ofNat (by omega)

theorem WP_bind {α β : Type} (p : Pg F i α) (k : α → Pg F i β) (Q : β → sProp 𝕄) :
    WP d i (p >>= k) Q = WP d i p (fun x => WP d i (k x) Q) := wp_bind _ _ _ _ _ _

/-- A side condition that holds is no step. -/
theorem WP_assume {P : Prop} {dP : Decidable P} {α : Type} {k : PLift P → Pg F i α} {Q : α → sProp 𝕄} (h : P) :
    WP d i (Prog.lift (TpuEff.assume P dP) >>= k) Q = WP d i (k ⟨h⟩) Q :=
  wp_assume_of (defs := defs₀ (F := F)) 𝒱₀ (tV d i) none Set.univ (Q := Q) h

/-- The rows a group's mask selects: the first `n` of the list. -/
theorem grp_mask (k n : ℕ) (hk : k < 100) (hn : n ≤ 512) {v : BitVec 32} (hv : v = BitVec.ofNat 32 n) (y : BitVec 32) (l : ℕ) (hl : l < 16) (hy : y = BitVec.ofNat 32 l) :
    IntOp.cmpi .slt (IntOp.addi (IntOp.muli (Scf.iv 0#32 1#32 k) 16#32) y) v = 1#1 ↔ 16 * k + l < n := by
  rw [slt_one, pos_eq _ _ _ hy, hv, toInt_ofNat (by omega), toInt_ofNat (by omega)]
  omega

theorem bc_lt {c : BitVec 32} {n : ℕ} (h : c.toNat < n) (x : S16.Idx) : (broadcast S16 c x : BitVec 32).toNat < n := h

/-- A group's positions go to the position list. -/
theorem kv_step {m : Memref sig .scVector .vmem S8x64 .i32} {kv : S8x64.Idx → BitVec 32} {r c : IVec S16 32} {mask : IVec S16 1} {vals : IVec S16 32}
    {hA : ∀ a x, ((![r, c] : Fin 2 → IVec S16 32) a x).toNat < S8x64.size a} {hs : (m.access (.whole S8x64)).Stores Finset.univ}
    {α : Type} {k : PUnit → Pg F i α} {Q : α → sProp 𝕄} :
    own (F := F) (e := .i32) (tV d i) fullShare m kv
      ⊢ iprop((∀ kv', ⌜∃ h, kv' = storeIdx (F := F) (e := .i32) (s := S8x64) kv ![r, c] vals mask false h⌝ -∗ own (F := F) (e := .i32) (tV d i) fullShare m kv' -∗ WP d i (k ⟨⟩) Q)
        -∗ WP d i (SparseCore.vectorStoreIdx m ![r, c] vals mask false hA hs >>= k) Q) := by
  iintro H Hk
  iapply (own_storeIdx 𝒱₀ (tV d i) none) $$ H
  iintro H
  iapply Hk $$ %(storeIdx (F := F) (e := .i32) (s := S8x64) kv ![r, c] vals mask false hA) [] [H]
  · ipureintro; exact ⟨hA, rfl⟩
  · iexact H

/-- The buffers of an extraction. -/
def ExtS {s : Shape} (mL : Memref sig .scVector .vmem S512 .i32) (m7 m8 : Memref sig .scVector .vmem S1024 .i32) (mS : Memref sig .scVector .vmem s .f32)
    (m17 : Memref sig .scVector .vmem S8x64 .i32) (m14 : Memref sig .scVector .vmem S512x32 .f32) (g : S512.Idx → BitVec 32) (mi mk : S1024.Idx → BitVec 32)
    (slab : s.Idx → Elt F .f32) (P : (S8x64.Idx → BitVec 32) → (S512x32.Idx → Elt F .f32) → Prop) : sProp 𝕄 :=
  iprop(∃ kv ob, ⌜P kv ob⌝ ∗ own (F := F) (e := .i32) (tV d i) fullShare mL g ∗ own (F := F) (e := .i32) (tV d i) fullShare m7 mi
    ∗ own (F := F) (e := .i32) (tV d i) fullShare m8 mk ∗ own (F := F) (tV d i) fullShare mS slab
    ∗ own (F := F) (e := .i32) (tV d i) fullShare m17 kv ∗ own (F := F) (tV d i) fullShare m14 ob)

/-- An extraction loop, by its trips. -/
theorem ext_loop {s : Shape} {mL : Memref sig .scVector .vmem S512 .i32} {m7 m8 : Memref sig .scVector .vmem S1024 .i32} {mS : Memref sig .scVector .vmem s .f32}
    {m17 : Memref sig .scVector .vmem S8x64 .i32} {m14 : Memref sig .scVector .vmem S512x32 .f32} {g : S512.Idx → BitVec 32} {mi mk : S1024.Idx → BitVec 32}
    {slab : s.Idx → Elt F .f32} {tab : S32x1000000.Idx → Elt F .f32} {G : ℕ → Prop} (a b : ℕ)
    {L : Scf.Loop 32} {hok : L.OK} {init : BitVec 32} {body : Fin L.trips → BitVec 32 → Pg F i (BitVec 32)}
    (htr : L.trips = (Nat.count (fun q => inI a b (at1 mi q)) 512 + 15) / 16)
    (hbody : ∀ (t : Fin L.trips) (acc : BitVec 32) (kv : S8x64.Idx → BitVec 32) (ob : S512x32.Idx → Elt F .f32), Ext tab mi mk (Gt a b mi G t.val) kv ob →
      (iprop(own (F := F) (e := .i32) (tV d i) fullShare mL g ∗ own (F := F) (e := .i32) (tV d i) fullShare m7 mi
        ∗ own (F := F) (e := .i32) (tV d i) fullShare m8 mk ∗ own (F := F) (tV d i) fullShare mS slab
        ∗ own (F := F) (e := .i32) (tV d i) fullShare m17 kv ∗ own (F := F) (tV d i) fullShare m14 ob : sProp 𝕄)
        ⊢ WP d i (body t acc) (fun _ => ExtS (F := F) d i mL m7 m8 mS m17 m14 g mi mk slab (Ext tab mi mk (Gt a b mi G (t.val + 1)))))) :
    ExtS (F := F) d i mL m7 m8 mS m17 m14 g mi mk slab (Ext tab mi mk G)
      ⊢ WP d i (Scf.Loop.for L hok init body) (fun _ => ExtS (F := F) d i mL m7 m8 mS m17 m14 g mi mk slab (Ext tab mi mk (fun q => G q ∨ inI a b (at1 mi q)))) := by
  iintro H
  iapply (own_for (F := F) d i (fun t _ => ExtS (F := F) d i mL m7 m8 mS m17 m14 g mi mk slab (Ext tab mi mk (Gt a b mi G t))) ?_)
  · intro t acc
    unfold ExtS
    iintro ⟨%kv, %ob, %hE, H⟩
    have h := hbody t acc kv ob hE
    unfold ExtS at h
    iapply h
    iexact H
  isplitl [H]
  · unfold ExtS
    icases H with ⟨%kv, %ob, %hE, H⟩
    iexists kv, ob
    isplitr
    · ipureintro
      refine Ext_mono hE fun q hq h => ?_
      rcases h with h | ⟨_, _, h⟩
      · exact h
      · omega
    iexact H
  · iintro %acc H
    unfold ExtS
    icases H with ⟨%kv, %ob, %hE, H⟩
    iexists kv, ob
    isplitr
    · ipureintro
      refine Ext_mono hE fun q hq h => ?_
      rcases h with h | h
      · exact Or.inl h
      · refine Or.inr ⟨hq, h, ?_⟩
        have h1 : Nat.count (fun q => inI a b (at1 mi q)) (q + 1) ≤ Nat.count (fun q => inI a b (at1 mi q)) 512 := Nat.count_monotone _ (by omega)
        rw [Nat.count_succ, if_pos h] at h1
        rw [htr]
        omega
    iexact H

variable {v4 v6 : BitVec 32}
variable {v12 : IVec S16 32} (h12 : ∀ x, v12 x = BitVec.ofNat 32 (x 0).val)
variable {k0_t10 : Fin k0_t10_loop.trips} {arg25 v140 v142 v151 v72 v65 : BitVec 32}

include h12 in
/-- A group of an even window's rows. -/
theorem t12_trip {k0_hw7 : k0_chk7 arg25} {k0_h4 : k0_cond4 arg25 = 1#1} {a : ℕ} (ha : a + 512 ≤ 1000000)
    (h190 : Scalar.muli (Scalar.addi v4 (Scalar.minsi (Scalar.muli 4#32 v140) (Scalar.subi v6 4#32))) 128#32 = BitVec.ofNat 32 a)
    {tab : S32x1000000.Idx → Elt F .f32} {mi mk : S1024.Idx → BitVec 32} {g : S512.Idx → BitVec 32} {G : ℕ → Prop}
    {slab : S32x512.Idx → Elt F .f32} (hsl : ∀ y, slab y = tabT tab (y 0).val (a + (y 1).val))
    (hn : arg25 = BitVec.ofNat 32 (Nat.count (fun q => inI a (a + 512) (at1 mi q)) 512))
    (hg : Lst a (a + 512) (at1 mi) (at1 g) 512) (hlt : ∀ n < 512, (at1 g n).toNat < 512)
    {kv : S8x64.Idx → BitVec 32} {ob : S512x32.Idx → Elt F .f32}
    (t : Fin (k0_t12_loop arg25).trips) (ht : t.val < 32) (acc : BitVec 32) (hE : Ext tab mi mk (Gt a (a + 512) mi G t.val) kv ob) :
    iprop(own (F := F) (e := .i32) (tV d i) fullShare arg12 g ∗ own (F := F) (e := .i32) (tV d i) fullShare arg7 mi
        ∗ own (F := F) (e := .i32) (tV d i) fullShare arg8 mk ∗ own (F := F) (tV d i) fullShare arg9 slab
        ∗ own (F := F) (e := .i32) (tV d i) fullShare arg17 kv ∗ own (F := F) (tV d i) fullShare arg14 ob : sProp 𝕄)
      ⊢ WP d i (k0_t12_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 k0_t10 arg25 k0_hw7 v140 k0_h4 (Scalar.muli (Scalar.addi v4 (Scalar.minsi (Scalar.muli 4#32 v140) (Scalar.subi v6 4#32))) 128#32) t acc)
          (fun _ => ExtS (F := F) d i arg12 arg7 arg8 arg9 arg17 arg14 g mi mk slab (Ext tab mi mk (Gt a (a + 512) mi G (t.val + 1)))) := by
  iintro ⟨H12, H7, H8, H9, H17, H14⟩
  unfold k0_t12_body
  rw [WP_bind, k0_part1_eq_skeleton]
  unfold k0_part1_skel
  dsimp only
  iapply (own_load 𝒱₀ (tV d i) none) $$ H12
  iintro H12
  have hc512 : Nat.count (fun q => inI a (a + 512) (at1 mi q)) 512 ≤ 512 := Nat.count_le _
  generalize hpvd : (fun x => g ((Rect.unit (s := S512) (k0_off11 arg25 t) S16.size (k0_off11_inb arg25 k0_hw7 t k0_h4)).emb x)) = pv
  have hpv : ∀ x, pv x = at1 g (16 * t.val + (x 0).val) := fun x => by
    rw [← hpvd]
    exact (at1_load g (k0_off11 arg25 t) _ x).trans (congrArg (fun z => at1 g (z + (x 0).val)) (off_val t.val (by omega)))
  have hplt : ∀ x, (pv x).toNat < 512 := fun x => by
    have := lane_lt x
    rw [hpv]; exact hlt _ (by omega)
  generalize hmd : k0_pay1 v12 arg25 0#32 1#32 t = mask
  have hm : ∀ x, mask x = 1#1 ↔ 16 * t.val + (x 0).val < Nat.count (fun q => inI a (a + 512) (at1 mi q)) 512 := fun x => by
    rw [← hmd]; exact grp_mask t.val _ (by omega) hc512 hn _ _ (lane_lt x) (h12 x)
  have hmi : ∀ h x, loadIdx (F := F) (e := .i32) mi ![pv] h x = at1 mi (pv x).toNat := fun h x => loadIdx_at1 (F := F) mi pv h x
  have hmk : ∀ h x, loadIdx (F := F) (e := .i32) mk ![pv] h x = at1 mk (pv x).toNat := fun h x => loadIdx_at1 (F := F) mk pv h x
  have hin : ∀ x, mask x = 1#1 → inI a (a + 512) (at1 mi (pv x).toNat) := lane_in hg hpv (fun x => (hm x).1)
  have hP := Ext_col (mask := mask) (pv := pv) hE
  iapply (own_assume 𝒱₀ (tV d i) none (by exact ⟨fun _ => lt1 (fun x => lt_trans (hplt x) (by decide)), fun _ => lt1 (fun x => lt_trans (hplt x) (by decide))⟩))
  iapply (own_loadIdx 𝒱₀ (tV d i) none) $$ H7
  iintro H7
  iapply (own_loadIdx 𝒱₀ (tV d i) none) $$ H8
  iintro H8
  iapply (own_assume 𝒱₀ (tV d i) none (by exact fun _ => lt2 (fun x => (shr_toNat (hplt x)).trans_lt (by have := hplt x; omega)) (fun x => (and_toNat (hplt x)).trans_lt (by omega))))
  iapply (kv_step (F := F) d i) $$ H17
  iintro %kv1 %hkv H17
  iterate 2
    iapply (own_assume 𝒱₀ (tV d i) none (by exact fun _ => lt2 hplt (bc_lt (by decide))))
    iapply (col_step (F := F) d i hP (by exact fun _ => lt2 (bc_lt (by decide)) (fun x => (clip_lt _ (hi := 511) (by decide)).trans_lt (by decide))) (fun _ => by rfl)
      (slab_val ha hsl h190 (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply own_pure
  rw [WP_bind, k0_part2_eq_skeleton]
  unfold k0_part2_skel
  iapply (col_step (F := F) d i hP (by exact fun _ => lt2 (bc_lt (by decide)) (fun x => (clip_lt _ (hi := 511) (by decide)).trans_lt (by decide))) (fun _ => by rfl)
    (slab_val ha hsl h190 (hmi _) hin (fun _ => by rfl) (fun _ => by rfl))) $$ [H9 H14]
  · isplitl [H9]; · iexact H9
    iexact H14
  iintro %ob1 %hP H9 H14
  iterate 4
    iapply (own_assume 𝒱₀ (tV d i) none (by exact fun _ => lt2 hplt (bc_lt (by decide))))
    iapply (col_step (F := F) d i hP (by exact fun _ => lt2 (bc_lt (by decide)) (fun x => (clip_lt _ (hi := 511) (by decide)).trans_lt (by decide))) (fun _ => by rfl)
      (slab_val ha hsl h190 (hmi _) hin (fun _ => by rfl) (fun _ => by rfl))) $$ [H9 H14]
    · isplitl [H9]; · iexact H9
      iexact H14
    iintro %ob1 %hP H9 H14
  iapply own_pure
  rw [WP_bind, k0_part3_eq_skeleton]
  unfold k0_part3_skel
  iterate 4
    iapply (own_assume 𝒱₀ (tV d i) none (by exact fun _ => lt2 hplt (bc_lt (by decide))))
    iapply (col_step (F := F) d i hP (by exact fun _ => lt2 (bc_lt (by decide)) (fun x => (clip_lt _ (hi := 511) (by decide)).trans_lt (by decide))) (fun _ => by rfl)
      (slab_val ha hsl h190 (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply own_pure
  rw [WP_bind, k0_part4_eq_skeleton]
  unfold k0_part4_skel
  iapply (col_step (F := F) d i hP (by exact fun _ => lt2 (bc_lt (by decide)) (fun x => (clip_lt _ (hi := 511) (by decide)).trans_lt (by decide))) (fun _ => by rfl)
    (slab_val ha hsl h190 (hmi _) hin (fun _ => by rfl) (fun _ => by rfl))) $$ [H9 H14]
  · isplitl [H9]; · iexact H9
    iexact H14
  iintro %ob1 %hP H9 H14
  iterate 3
    iapply (own_assume 𝒱₀ (tV d i) none (by exact fun _ => lt2 hplt (bc_lt (by decide))))
    iapply (col_step (F := F) d i hP (by exact fun _ => lt2 (bc_lt (by decide)) (fun x => (clip_lt _ (hi := 511) (by decide)).trans_lt (by decide))) (fun _ => by rfl)
      (slab_val ha hsl h190 (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply own_pure
  rw [WP_bind, k0_part5_eq_skeleton]
  unfold k0_part5_skel
  iapply (col_step (F := F) d i hP (by exact fun _ => lt2 (bc_lt (by decide)) (fun x => (clip_lt _ (hi := 511) (by decide)).trans_lt (by decide))) (fun _ => by rfl)
    (slab_val ha hsl h190 (hmi _) hin (fun _ => by rfl) (fun _ => by rfl))) $$ [H9 H14]
  · isplitl [H9]; · iexact H9
    iexact H14
  iintro %ob1 %hP H9 H14
  iterate 3
    iapply (own_assume 𝒱₀ (tV d i) none (by exact fun _ => lt2 hplt (bc_lt (by decide))))
    iapply (col_step (F := F) d i hP (by exact fun _ => lt2 (bc_lt (by decide)) (fun x => (clip_lt _ (hi := 511) (by decide)).trans_lt (by decide))) (fun _ => by rfl)
      (slab_val ha hsl h190 (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply (own_assume 𝒱₀ (tV d i) none (by exact fun _ => lt2 (bc_lt (by decide)) (fun x => (clip_lt _ (hi := 511) (by decide)).trans_lt (by decide))))
  iapply own_pure
  rw [WP_bind, k0_part6_eq_skeleton]
  unfold k0_part6_skel
  iapply (col_step0 (F := F) d i hP (fun _ => by rfl)
    (slab_val ha hsl h190 (hmi _) hin (fun _ => by rfl) (fun _ => by rfl))) $$ [H9 H14]
  · isplitl [H9]; · iexact H9
    iexact H14
  iintro %ob1 %hP H9 H14
  iterate 4
    iapply (own_assume 𝒱₀ (tV d i) none (by exact fun _ => lt2 hplt (bc_lt (by decide))))
    iapply (col_step (F := F) d i hP (by exact fun _ => lt2 (bc_lt (by decide)) (fun x => (clip_lt _ (hi := 511) (by decide)).trans_lt (by decide))) (fun _ => by rfl)
      (slab_val ha hsl h190 (hmi _) hin (fun _ => by rfl) (fun _ => by rfl))) $$ [H9 H14]
    · isplitl [H9]; · iexact H9
      iexact H14
    iintro %ob1 %hP H9 H14
  iapply own_pure
  rw [WP_bind, k0_part7_eq_skeleton]
  unfold k0_part7_skel
  iterate 4
    iapply (own_assume 𝒱₀ (tV d i) none (by exact fun _ => lt2 hplt (bc_lt (by decide))))
    iapply (col_step (F := F) d i hP (by exact fun _ => lt2 (bc_lt (by decide)) (fun x => (clip_lt _ (hi := 511) (by decide)).trans_lt (by decide))) (fun _ => by rfl)
      (slab_val ha hsl h190 (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply own_pure
  iapply (col_step (F := F) d i hP (by exact fun _ => lt2 (bc_lt (by decide)) (fun x => (clip_lt _ (hi := 511) (by decide)).trans_lt (by decide))) (fun _ => by rfl)
    (slab_val ha hsl h190 (hmi _) hin (fun _ => by rfl) (fun _ => by rfl))) $$ [H9 H14]
  · isplitl [H9]; · iexact H9
    iexact H14
  iintro %ob1 %hP H9 H14
  iterate 3
    iapply (own_assume 𝒱₀ (tV d i) none (by exact fun _ => lt2 hplt (bc_lt (by decide))))
    iapply (col_step (F := F) d i hP (by exact fun _ => lt2 (bc_lt (by decide)) (fun x => (clip_lt _ (hi := 511) (by decide)).trans_lt (by decide))) (fun _ => by rfl)
      (slab_val ha hsl h190 (hmi _) hin (fun _ => by rfl) (fun _ => by rfl))) $$ [H9 H14]
    · isplitl [H9]; · iexact H9
      iexact H14
    iintro %ob1 %hP H9 H14
  iapply own_pure
  unfold ExtS
  iexists kv1, ob1
  isplitr
  · ipureintro
    obtain ⟨hA, rfl⟩ := hkv
    exact Ext_step hg hplt (by omega) hpv hm hE _ _ (fun _ => by rfl) (fun _ => by rfl) _ (hmk _) _ hP
  isplitl [H12]; · iexact H12
  isplitl [H7]; · iexact H7
  isplitl [H8]; · iexact H8
  isplitl [H9]; · iexact H9
  isplitl [H17]; · iexact H17
  iexact H14

include h12 in
/-- The gathering of an even window's rows. -/
theorem t12_spec {k0_hw7 : k0_chk7 arg25} {k0_h4 : k0_cond4 arg25 = 1#1} {a : ℕ} (ha : a + 512 ≤ 1000000)
    (h190 : Scalar.muli (Scalar.addi v4 (Scalar.minsi (Scalar.muli 4#32 v140) (Scalar.subi v6 4#32))) 128#32 = BitVec.ofNat 32 a)
    {tab : S32x1000000.Idx → Elt F .f32} {mi mk : S1024.Idx → BitVec 32} {g : S512.Idx → BitVec 32} {G : ℕ → Prop}
    {slab : S32x512.Idx → Elt F .f32} (hsl : ∀ y, slab y = tabT tab (y 0).val (a + (y 1).val))
    (hn : arg25 = BitVec.ofNat 32 (Nat.count (fun q => inI a (a + 512) (at1 mi q)) 512))
    (hg : Lst a (a + 512) (at1 mi) (at1 g) 512) (hlt : ∀ n < 512, (at1 g n).toNat < 512)
    {acc : BitVec 32} :
    ExtS (F := F) d i arg12 arg7 arg8 arg9 arg17 arg14 g mi mk slab (Ext tab mi mk G)
      ⊢ WP d i (Scf.Loop.for (k0_t12_loop arg25) (k0_t12_ok arg25 k0_hw7 k0_h4) acc (k0_t12_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 k0_t10 arg25 k0_hw7 v140 k0_h4 (Scalar.muli (Scalar.addi v4 (Scalar.minsi (Scalar.muli 4#32 v140) (Scalar.subi v6 4#32))) 128#32)))
          (fun _ => ExtS (F := F) d i arg12 arg7 arg8 arg9 arg17 arg14 g mi mk slab (Ext tab mi mk (fun q => G q ∨ inI a (a + 512) (at1 mi q)))) := by
  have hc512 : Nat.count (fun q => inI a (a + 512) (at1 mi q)) 512 ≤ 512 := Nat.count_le _
  refine ext_loop (F := F) d i a (a + 512) ?_ fun t acc kv ob hE => t12_trip (F := F) d i h12 ha h190 hsl hn hg hlt t ?_ acc hE
  · rw [hn]; exact (trips12 ⟨_, Nat.lt_succ_of_le hc512⟩).2.1
  · have := t.isLt
    have h : (k0_t12_loop arg25).trips = (Nat.count (fun q => inI a (a + 512) (at1 mi q)) 512 + 15) / 16 := by
      rw [hn]; exact (trips12 ⟨_, Nat.lt_succ_of_le hc512⟩).2.1
    omega

include h12 in
/-- A group of an odd window's rows. -/
theorem t15_trip {k0_hw141 : k0_chk141 v151} {k0_h6 : k0_cond6 v151 = 1#1} {a : ℕ} (ha : a + 512 ≤ 1000000)
    (h190 : Scalar.muli (Scalar.addi v4 (Scalar.minsi (Scalar.muli 4#32 v142) (Scalar.subi v6 4#32))) 128#32 = BitVec.ofNat 32 a)
    {tab : S32x1000000.Idx → Elt F .f32} {mi mk : S1024.Idx → BitVec 32} {g : S512.Idx → BitVec 32} {G : ℕ → Prop}
    {slab : S32x512.Idx → Elt F .f32} (hsl : ∀ y, slab y = tabT tab (y 0).val (a + (y 1).val))
    (hn : v151 = BitVec.ofNat 32 (Nat.count (fun q => inI a (a + 512) (at1 mi q)) 512))
    (hg : Lst a (a + 512) (at1 mi) (at1 g) 512) (hlt : ∀ n < 512, (at1 g n).toNat < 512)
    {kv : S8x64.Idx → BitVec 32} {ob : S512x32.Idx → Elt F .f32}
    (t : Fin (k0_t15_loop v151).trips) (ht : t.val < 32) (acc : BitVec 32) (hE : Ext tab mi mk (Gt a (a + 512) mi G t.val) kv ob) :
    iprop(own (F := F) (e := .i32) (tV d i) fullShare arg13 g ∗ own (F := F) (e := .i32) (tV d i) fullShare arg7 mi
        ∗ own (F := F) (e := .i32) (tV d i) fullShare arg8 mk ∗ own (F := F) (tV d i) fullShare arg10 slab
        ∗ own (F := F) (e := .i32) (tV d i) fullShare arg17 kv ∗ own (F := F) (tV d i) fullShare arg14 ob : sProp 𝕄)
      ⊢ WP d i (k0_t15_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 k0_t10 v142 v151 k0_hw141 k0_h6 (Scalar.muli (Scalar.addi v4 (Scalar.minsi (Scalar.muli 4#32 v142) (Scalar.subi v6 4#32))) 128#32) t acc)
          (fun _ => ExtS (F := F) d i arg13 arg7 arg8 arg10 arg17 arg14 g mi mk slab (Ext tab mi mk (Gt a (a + 512) mi G (t.val + 1)))) := by
  iintro ⟨H12, H7, H8, H9, H17, H14⟩
  unfold k0_t15_body
  rw [WP_bind, k0_part16_eq_skeleton]
  unfold k0_part16_skel
  dsimp only
  iapply (own_load 𝒱₀ (tV d i) none) $$ H12
  iintro H12
  have hc512 : Nat.count (fun q => inI a (a + 512) (at1 mi q)) 512 ≤ 512 := Nat.count_le _
  generalize hpvd : (fun x => g ((Rect.unit (s := S512) (k0_off16 v151 t) S16.size (k0_off16_inb v151 k0_hw141 t k0_h6)).emb x)) = pv
  have hpv : ∀ x, pv x = at1 g (16 * t.val + (x 0).val) := fun x => by
    rw [← hpvd]
    exact (at1_load g (k0_off16 v151 t) _ x).trans (congrArg (fun z => at1 g (z + (x 0).val)) (off_val t.val (by omega)))
  have hplt : ∀ x, (pv x).toNat < 512 := fun x => by
    have := lane_lt x
    rw [hpv]; exact hlt _ (by omega)
  generalize hmd : k0_pay79 v12 v151 0#32 1#32 t = mask
  have hm : ∀ x, mask x = 1#1 ↔ 16 * t.val + (x 0).val < Nat.count (fun q => inI a (a + 512) (at1 mi q)) 512 := fun x => by
    rw [← hmd]; exact grp_mask t.val _ (by omega) hc512 hn _ _ (lane_lt x) (h12 x)
  have hmi : ∀ h x, loadIdx (F := F) (e := .i32) mi ![pv] h x = at1 mi (pv x).toNat := fun h x => loadIdx_at1 (F := F) mi pv h x
  have hmk : ∀ h x, loadIdx (F := F) (e := .i32) mk ![pv] h x = at1 mk (pv x).toNat := fun h x => loadIdx_at1 (F := F) mk pv h x
  have hin : ∀ x, mask x = 1#1 → inI a (a + 512) (at1 mi (pv x).toNat) := lane_in hg hpv (fun x => (hm x).1)
  have hP := Ext_col (mask := mask) (pv := pv) hE
  iapply (own_assume 𝒱₀ (tV d i) none (by exact ⟨fun _ => lt1 (fun x => lt_trans (hplt x) (by decide)), fun _ => lt1 (fun x => lt_trans (hplt x) (by decide))⟩))
  iapply (own_loadIdx 𝒱₀ (tV d i) none) $$ H7
  iintro H7
  iapply (own_loadIdx 𝒱₀ (tV d i) none) $$ H8
  iintro H8
  iapply (own_assume 𝒱₀ (tV d i) none (by exact fun _ => lt2 (fun x => (shr_toNat (hplt x)).trans_lt (by have := hplt x; omega)) (fun x => (and_toNat (hplt x)).trans_lt (by omega))))
  iapply (kv_step (F := F) d i) $$ H17
  iintro %kv1 %hkv H17
  iterate 2
    iapply (own_assume 𝒱₀ (tV d i) none (by exact fun _ => lt2 hplt (bc_lt (by decide))))
    iapply (col_step (F := F) d i hP (by exact fun _ => lt2 (bc_lt (by decide)) (fun x => (clip_lt _ (hi := 511) (by decide)).trans_lt (by decide))) (fun _ => by rfl)
      (slab_val ha hsl h190 (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply own_pure
  rw [WP_bind, k0_part17_eq_skeleton]
  unfold k0_part17_skel
  iapply (col_step (F := F) d i hP (by exact fun _ => lt2 (bc_lt (by decide)) (fun x => (clip_lt _ (hi := 511) (by decide)).trans_lt (by decide))) (fun _ => by rfl)
    (slab_val ha hsl h190 (hmi _) hin (fun _ => by rfl) (fun _ => by rfl))) $$ [H9 H14]
  · isplitl [H9]; · iexact H9
    iexact H14
  iintro %ob1 %hP H9 H14
  iterate 4
    iapply (own_assume 𝒱₀ (tV d i) none (by exact fun _ => lt2 hplt (bc_lt (by decide))))
    iapply (col_step (F := F) d i hP (by exact fun _ => lt2 (bc_lt (by decide)) (fun x => (clip_lt _ (hi := 511) (by decide)).trans_lt (by decide))) (fun _ => by rfl)
      (slab_val ha hsl h190 (hmi _) hin (fun _ => by rfl) (fun _ => by rfl))) $$ [H9 H14]
    · isplitl [H9]; · iexact H9
      iexact H14
    iintro %ob1 %hP H9 H14
  iapply own_pure
  rw [WP_bind, k0_part18_eq_skeleton]
  unfold k0_part18_skel
  iterate 4
    iapply (own_assume 𝒱₀ (tV d i) none (by exact fun _ => lt2 hplt (bc_lt (by decide))))
    iapply (col_step (F := F) d i hP (by exact fun _ => lt2 (bc_lt (by decide)) (fun x => (clip_lt _ (hi := 511) (by decide)).trans_lt (by decide))) (fun _ => by rfl)
      (slab_val ha hsl h190 (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply own_pure
  rw [WP_bind, k0_part19_eq_skeleton]
  unfold k0_part19_skel
  iapply (col_step (F := F) d i hP (by exact fun _ => lt2 (bc_lt (by decide)) (fun x => (clip_lt _ (hi := 511) (by decide)).trans_lt (by decide))) (fun _ => by rfl)
    (slab_val ha hsl h190 (hmi _) hin (fun _ => by rfl) (fun _ => by rfl))) $$ [H9 H14]
  · isplitl [H9]; · iexact H9
    iexact H14
  iintro %ob1 %hP H9 H14
  iterate 3
    iapply (own_assume 𝒱₀ (tV d i) none (by exact fun _ => lt2 hplt (bc_lt (by decide))))
    iapply (col_step (F := F) d i hP (by exact fun _ => lt2 (bc_lt (by decide)) (fun x => (clip_lt _ (hi := 511) (by decide)).trans_lt (by decide))) (fun _ => by rfl)
      (slab_val ha hsl h190 (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply own_pure
  rw [WP_bind, k0_part20_eq_skeleton]
  unfold k0_part20_skel
  iapply (col_step (F := F) d i hP (by exact fun _ => lt2 (bc_lt (by decide)) (fun x => (clip_lt _ (hi := 511) (by decide)).trans_lt (by decide))) (fun _ => by rfl)
    (slab_val ha hsl h190 (hmi _) hin (fun _ => by rfl) (fun _ => by rfl))) $$ [H9 H14]
  · isplitl [H9]; · iexact H9
    iexact H14
  iintro %ob1 %hP H9 H14
  iterate 3
    iapply (own_assume 𝒱₀ (tV d i) none (by exact fun _ => lt2 hplt (bc_lt (by decide))))
    iapply (col_step (F := F) d i hP (by exact fun _ => lt2 (bc_lt (by decide)) (fun x => (clip_lt _ (hi := 511) (by decide)).trans_lt (by decide))) (fun _ => by rfl)
      (slab_val ha hsl h190 (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply (own_assume 𝒱₀ (tV d i) none (by exact fun _ => lt2 (bc_lt (by decide)) (fun x => (clip_lt _ (hi := 511) (by decide)).trans_lt (by decide))))
  iapply own_pure
  rw [WP_bind, k0_part21_eq_skeleton]
  unfold k0_part21_skel
  iapply (col_step0 (F := F) d i hP (fun _ => by rfl)
    (slab_val ha hsl h190 (hmi _) hin (fun _ => by rfl) (fun _ => by rfl))) $$ [H9 H14]
  · isplitl [H9]; · iexact H9
    iexact H14
  iintro %ob1 %hP H9 H14
  iterate 4
    iapply (own_assume 𝒱₀ (tV d i) none (by exact fun _ => lt2 hplt (bc_lt (by decide))))
    iapply (col_step (F := F) d i hP (by exact fun _ => lt2 (bc_lt (by decide)) (fun x => (clip_lt _ (hi := 511) (by decide)).trans_lt (by decide))) (fun _ => by rfl)
      (slab_val ha hsl h190 (hmi _) hin (fun _ => by rfl) (fun _ => by rfl))) $$ [H9 H14]
    · isplitl [H9]; · iexact H9
      iexact H14
    iintro %ob1 %hP H9 H14
  iapply own_pure
  rw [WP_bind, k0_part22_eq_skeleton]
  unfold k0_part22_skel
  iterate 4
    iapply (own_assume 𝒱₀ (tV d i) none (by exact fun _ => lt2 hplt (bc_lt (by decide))))
    iapply (col_step (F := F) d i hP (by exact fun _ => lt2 (bc_lt (by decide)) (fun x => (clip_lt _ (hi := 511) (by decide)).trans_lt (by decide))) (fun _ => by rfl)
      (slab_val ha hsl h190 (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply own_pure
  iapply (col_step (F := F) d i hP (by exact fun _ => lt2 (bc_lt (by decide)) (fun x => (clip_lt _ (hi := 511) (by decide)).trans_lt (by decide))) (fun _ => by rfl)
    (slab_val ha hsl h190 (hmi _) hin (fun _ => by rfl) (fun _ => by rfl))) $$ [H9 H14]
  · isplitl [H9]; · iexact H9
    iexact H14
  iintro %ob1 %hP H9 H14
  iterate 3
    iapply (own_assume 𝒱₀ (tV d i) none (by exact fun _ => lt2 hplt (bc_lt (by decide))))
    iapply (col_step (F := F) d i hP (by exact fun _ => lt2 (bc_lt (by decide)) (fun x => (clip_lt _ (hi := 511) (by decide)).trans_lt (by decide))) (fun _ => by rfl)
      (slab_val ha hsl h190 (hmi _) hin (fun _ => by rfl) (fun _ => by rfl))) $$ [H9 H14]
    · isplitl [H9]; · iexact H9
      iexact H14
    iintro %ob1 %hP H9 H14
  iapply own_pure
  unfold ExtS
  iexists kv1, ob1
  isplitr
  · ipureintro
    obtain ⟨hA, rfl⟩ := hkv
    exact Ext_step hg hplt (by omega) hpv hm hE _ _ (fun _ => by rfl) (fun _ => by rfl) _ (hmk _) _ hP
  isplitl [H12]; · iexact H12
  isplitl [H7]; · iexact H7
  isplitl [H8]; · iexact H8
  isplitl [H9]; · iexact H9
  isplitl [H17]; · iexact H17
  iexact H14

include h12 in
/-- The gathering of an odd window's rows. -/
theorem t15_spec {k0_hw141 : k0_chk141 v151} {k0_h6 : k0_cond6 v151 = 1#1} {a : ℕ} (ha : a + 512 ≤ 1000000)
    (h190 : Scalar.muli (Scalar.addi v4 (Scalar.minsi (Scalar.muli 4#32 v142) (Scalar.subi v6 4#32))) 128#32 = BitVec.ofNat 32 a)
    {tab : S32x1000000.Idx → Elt F .f32} {mi mk : S1024.Idx → BitVec 32} {g : S512.Idx → BitVec 32} {G : ℕ → Prop}
    {slab : S32x512.Idx → Elt F .f32} (hsl : ∀ y, slab y = tabT tab (y 0).val (a + (y 1).val))
    (hn : v151 = BitVec.ofNat 32 (Nat.count (fun q => inI a (a + 512) (at1 mi q)) 512))
    (hg : Lst a (a + 512) (at1 mi) (at1 g) 512) (hlt : ∀ n < 512, (at1 g n).toNat < 512)
    {acc : BitVec 32} :
    ExtS (F := F) d i arg13 arg7 arg8 arg10 arg17 arg14 g mi mk slab (Ext tab mi mk G)
      ⊢ WP d i (Scf.Loop.for (k0_t15_loop v151) (k0_t15_ok v151 k0_hw141 k0_h6) acc (k0_t15_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 k0_t10 v142 v151 k0_hw141 k0_h6 (Scalar.muli (Scalar.addi v4 (Scalar.minsi (Scalar.muli 4#32 v142) (Scalar.subi v6 4#32))) 128#32)))
          (fun _ => ExtS (F := F) d i arg13 arg7 arg8 arg10 arg17 arg14 g mi mk slab (Ext tab mi mk (fun q => G q ∨ inI a (a + 512) (at1 mi q)))) := by
  have hc512 : Nat.count (fun q => inI a (a + 512) (at1 mi q)) 512 ≤ 512 := Nat.count_le _
  refine ext_loop (F := F) d i a (a + 512) ?_ fun t acc kv ob hE => t15_trip (F := F) d i h12 ha h190 hsl hn hg hlt t ?_ acc hE
  · rw [hn]; exact (trips12 ⟨_, Nat.lt_succ_of_le hc512⟩).2.1
  · have := t.isLt
    have h : (k0_t15_loop v151).trips = (Nat.count (fun q => inI a (a + 512) (at1 mi q)) 512 + 15) / 16 := by
      rw [hn]; exact (trips12 ⟨_, Nat.lt_succ_of_le hc512⟩).2.1
    omega

include h12 in
/-- A group of the tail's rows. -/
theorem t18_trip {k0_hw275 : k0_chk275 v72} {k0_h7 : k0_cond7 v72 = 1#1} {tab : S32x1000000.Idx → Elt F .f32} {mi mk : S1024.Idx → BitVec 32} {g : S512.Idx → BitVec 32} {G : ℕ → Prop}
    {slab : S64x32.Idx → Elt F .f32} (hsl : ∀ y, slab y = tabT tab (y 1).val (999936 + (y 0).val))
    (hn : v72 = BitVec.ofNat 32 (Nat.count (fun q => inI 999936 1000000 (at1 mi q)) 512))
    (hg : Lst 999936 1000000 (at1 mi) (at1 g) 512) (hlt : ∀ n < 512, (at1 g n).toNat < 512)
    {kv : S8x64.Idx → BitVec 32} {ob : S512x32.Idx → Elt F .f32}
    (t : Fin (k0_t18_loop v72).trips) (ht : t.val < 32) (acc : BitVec 32) (hE : Ext tab mi mk (Gt 999936 1000000 mi G t.val) kv ob) :
    iprop(own (F := F) (e := .i32) (tV d i) fullShare arg13 g ∗ own (F := F) (e := .i32) (tV d i) fullShare arg7 mi
        ∗ own (F := F) (e := .i32) (tV d i) fullShare arg8 mk ∗ own (F := F) (tV d i) fullShare arg11 slab
        ∗ own (F := F) (e := .i32) (tV d i) fullShare arg17 kv ∗ own (F := F) (tV d i) fullShare arg14 ob : sProp 𝕄)
      ⊢ WP d i (k0_t18_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 v65 0#32 1#32 v72 k0_hw275 k0_h7 t acc)
          (fun _ => ExtS (F := F) d i arg13 arg7 arg8 arg11 arg17 arg14 g mi mk slab (Ext tab mi mk (Gt 999936 1000000 mi G (t.val + 1)))) := by
  iintro ⟨H12, H7, H8, H9, H17, H14⟩
  unfold k0_t18_body
  rw [WP_bind, k0_part32_eq_skeleton]
  unfold k0_part32_skel
  dsimp only
  iapply (own_load 𝒱₀ (tV d i) none) $$ H12
  iintro H12
  have hc512 : Nat.count (fun q => inI 999936 1000000 (at1 mi q)) 512 ≤ 512 := Nat.count_le _
  generalize hpvd : (fun x => g ((Rect.unit (s := S512) (k0_off19 v72 t) S16.size (k0_off19_inb v72 k0_hw275 t k0_h7)).emb x)) = pv
  have hpv : ∀ x, pv x = at1 g (16 * t.val + (x 0).val) := fun x => by
    rw [← hpvd]
    exact (at1_load g (k0_off19 v72 t) _ x).trans (congrArg (fun z => at1 g (z + (x 0).val)) (off_val t.val (by omega)))
  have hplt : ∀ x, (pv x).toNat < 512 := fun x => by
    have := lane_lt x
    rw [hpv]; exact hlt _ (by omega)
  generalize hmd : k0_pay171 v12 v72 0#32 1#32 t = mask
  have hm : ∀ x, mask x = 1#1 ↔ 16 * t.val + (x 0).val < Nat.count (fun q => inI 999936 1000000 (at1 mi q)) 512 := fun x => by
    rw [← hmd]; exact grp_mask t.val _ (by omega) hc512 hn _ _ (lane_lt x) (h12 x)
  have hmi : ∀ h x, loadIdx (F := F) (e := .i32) mi ![pv] h x = at1 mi (pv x).toNat := fun h x => loadIdx_at1 (F := F) mi pv h x
  have hmk : ∀ h x, loadIdx (F := F) (e := .i32) mk ![pv] h x = at1 mk (pv x).toNat := fun h x => loadIdx_at1 (F := F) mk pv h x
  have hin : ∀ x, mask x = 1#1 → inI 999936 1000000 (at1 mi (pv x).toNat) := lane_in hg hpv (fun x => (hm x).1)
  have hP := Ext_col (mask := mask) (pv := pv) hE
  iapply (own_assume 𝒱₀ (tV d i) none (by exact ⟨fun _ => lt1 (fun x => lt_trans (hplt x) (by decide)), fun _ => lt1 (fun x => lt_trans (hplt x) (by decide))⟩))
  iapply (own_loadIdx 𝒱₀ (tV d i) none) $$ H7
  iintro H7
  iapply (own_loadIdx 𝒱₀ (tV d i) none) $$ H8
  iintro H8
  iapply (own_assume 𝒱₀ (tV d i) none (by exact fun _ => lt2 (fun x => (shr_toNat (hplt x)).trans_lt (by have := hplt x; omega)) (fun x => (and_toNat (hplt x)).trans_lt (by omega))))
  iapply (kv_step (F := F) d i) $$ H17
  iintro %kv1 %hkv H17
  iterate 2
    iapply (own_assume 𝒱₀ (tV d i) none (by exact fun _ => lt2 hplt (bc_lt (by decide))))
    iapply (col_step (F := F) d i hP (by exact fun _ => lt2 (fun x => (clip_lt _ (hi := 63) (by decide)).trans_lt (by decide)) (bc_lt (by decide))) (fun _ => by rfl)
      (tail_val hsl (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply own_pure
  rw [WP_bind, k0_part33_eq_skeleton]
  unfold k0_part33_skel
  iapply (col_step (F := F) d i hP (by exact fun _ => lt2 (fun x => (clip_lt _ (hi := 63) (by decide)).trans_lt (by decide)) (bc_lt (by decide))) (fun _ => by rfl)
    (tail_val hsl (hmi _) hin (fun _ => by rfl) (fun _ => by rfl))) $$ [H9 H14]
  · isplitl [H9]; · iexact H9
    iexact H14
  iintro %ob1 %hP H9 H14
  iterate 3
    iapply (own_assume 𝒱₀ (tV d i) none (by exact fun _ => lt2 hplt (bc_lt (by decide))))
    iapply (col_step (F := F) d i hP (by exact fun _ => lt2 (fun x => (clip_lt _ (hi := 63) (by decide)).trans_lt (by decide)) (bc_lt (by decide))) (fun _ => by rfl)
      (tail_val hsl (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply own_pure
  rw [WP_bind, k0_part34_eq_skeleton]
  unfold k0_part34_skel
  iapply (col_step (F := F) d i hP (by exact fun _ => lt2 (fun x => (clip_lt _ (hi := 63) (by decide)).trans_lt (by decide)) (bc_lt (by decide))) (fun _ => by rfl)
    (tail_val hsl (hmi _) hin (fun _ => by rfl) (fun _ => by rfl))) $$ [H9 H14]
  · isplitl [H9]; · iexact H9
    iexact H14
  iintro %ob1 %hP H9 H14
  iterate 3
    iapply (own_assume 𝒱₀ (tV d i) none (by exact fun _ => lt2 hplt (bc_lt (by decide))))
    iapply (col_step (F := F) d i hP (by exact fun _ => lt2 (fun x => (clip_lt _ (hi := 63) (by decide)).trans_lt (by decide)) (bc_lt (by decide))) (fun _ => by rfl)
      (tail_val hsl (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply own_pure
  rw [WP_bind, k0_part35_eq_skeleton]
  unfold k0_part35_skel
  iapply (col_step (F := F) d i hP (by exact fun _ => lt2 (fun x => (clip_lt _ (hi := 63) (by decide)).trans_lt (by decide)) (bc_lt (by decide))) (fun _ => by rfl)
    (tail_val hsl (hmi _) hin (fun _ => by rfl) (fun _ => by rfl))) $$ [H9 H14]
  · isplitl [H9]; · iexact H9
    iexact H14
  iintro %ob1 %hP H9 H14
  iterate 3
    iapply (own_assume 𝒱₀ (tV d i) none (by exact fun _ => lt2 hplt (bc_lt (by decide))))
    iapply (col_step (F := F) d i hP (by exact fun _ => lt2 (fun x => (clip_lt _ (hi := 63) (by decide)).trans_lt (by decide)) (bc_lt (by decide))) (fun _ => by rfl)
      (tail_val hsl (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply own_pure
  rw [WP_bind, k0_part36_eq_skeleton]
  unfold k0_part36_skel
  iapply (col_step (F := F) d i hP (by exact fun _ => lt2 (fun x => (clip_lt _ (hi := 63) (by decide)).trans_lt (by decide)) (bc_lt (by decide))) (fun _ => by rfl)
    (tail_val hsl (hmi _) hin (fun _ => by rfl) (fun _ => by rfl))) $$ [H9 H14]
  · isplitl [H9]; · iexact H9
    iexact H14
  iintro %ob1 %hP H9 H14
  iterate 3
    iapply (own_assume 𝒱₀ (tV d i) none (by exact fun _ => lt2 hplt (bc_lt (by decide))))
    iapply (col_step (F := F) d i hP (by exact fun _ => lt2 (fun x => (clip_lt _ (hi := 63) (by decide)).trans_lt (by decide)) (bc_lt (by decide))) (fun _ => by rfl)
      (tail_val hsl (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply own_pure
  rw [WP_bind, k0_part37_eq_skeleton]
  unfold k0_part37_skel
  iapply (col_step (F := F) d i hP (by exact fun _ => lt2 (fun x => (clip_lt _ (hi := 63) (by decide)).trans_lt (by decide)) (bc_lt (by decide))) (fun _ => by rfl)
    (tail_val hsl (hmi _) hin (fun _ => by rfl) (fun _ => by rfl))) $$ [H9 H14]
  · isplitl [H9]; · iexact H9
    iexact H14
  iintro %ob1 %hP H9 H14
  iterate 3
    iapply (own_assume 𝒱₀ (tV d i) none (by exact fun _ => lt2 hplt (bc_lt (by decide))))
    iapply (col_step (F := F) d i hP (by exact fun _ => lt2 (fun x => (clip_lt _ (hi := 63) (by decide)).trans_lt (by decide)) (bc_lt (by decide))) (fun _ => by rfl)
      (tail_val hsl (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply own_pure
  rw [WP_bind, k0_part38_eq_skeleton]
  unfold k0_part38_skel
  iapply (col_step (F := F) d i hP (by exact fun _ => lt2 (fun x => (clip_lt _ (hi := 63) (by decide)).trans_lt (by decide)) (bc_lt (by decide))) (fun _ => by rfl)
    (tail_val hsl (hmi _) hin (fun _ => by rfl) (fun _ => by rfl))) $$ [H9 H14]
  · isplitl [H9]; · iexact H9
    iexact H14
  iintro %ob1 %hP H9 H14
  iterate 3
    iapply (own_assume 𝒱₀ (tV d i) none (by exact fun _ => lt2 hplt (bc_lt (by decide))))
    iapply (col_step (F := F) d i hP (by exact fun _ => lt2 (fun x => (clip_lt _ (hi := 63) (by decide)).trans_lt (by decide)) (bc_lt (by decide))) (fun _ => by rfl)
      (tail_val hsl (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply own_pure
  rw [WP_bind, k0_part39_eq_skeleton]
  unfold k0_part39_skel
  iapply (col_step (F := F) d i hP (by exact fun _ => lt2 (fun x => (clip_lt _ (hi := 63) (by decide)).trans_lt (by decide)) (bc_lt (by decide))) (fun _ => by rfl)
    (tail_val hsl (hmi _) hin (fun _ => by rfl) (fun _ => by rfl))) $$ [H9 H14]
  · isplitl [H9]; · iexact H9
    iexact H14
  iintro %ob1 %hP H9 H14
  iterate 3
    iapply (own_assume 𝒱₀ (tV d i) none (by exact fun _ => lt2 hplt (bc_lt (by decide))))
    iapply (col_step (F := F) d i hP (by exact fun _ => lt2 (fun x => (clip_lt _ (hi := 63) (by decide)).trans_lt (by decide)) (bc_lt (by decide))) (fun _ => by rfl)
      (tail_val hsl (hmi _) hin (fun _ => by rfl) (fun _ => by rfl))) $$ [H9 H14]
    · isplitl [H9]; · iexact H9
      iexact H14
    iintro %ob1 %hP H9 H14
  iapply (own_assume 𝒱₀ (tV d i) none (by exact fun _ => lt2 hplt (bc_lt (by decide))))
  iapply own_pure
  iapply (col_step (F := F) d i hP (by exact fun _ => lt2 (fun x => (clip_lt _ (hi := 63) (by decide)).trans_lt (by decide)) (bc_lt (by decide))) (fun _ => by rfl)
    (tail_val hsl (hmi _) hin (fun _ => by rfl) (fun _ => by rfl))) $$ [H9 H14]
  · isplitl [H9]; · iexact H9
    iexact H14
  iintro %ob1 %hP H9 H14
  iapply (own_assume 𝒱₀ (tV d i) none (by exact fun _ => lt2 hplt (bc_lt (by decide))))
  iapply (col_step (F := F) d i hP (by exact fun _ => lt2 (fun x => (clip_lt _ (hi := 63) (by decide)).trans_lt (by decide)) (bc_lt (by decide))) (fun _ => by rfl)
    (tail_val hsl (hmi _) hin (fun _ => by rfl) (fun _ => by rfl))) $$ [H9 H14]
  · isplitl [H9]; · iexact H9
    iexact H14
  iintro %ob1 %hP H9 H14
  iapply own_pure
  unfold ExtS
  iexists kv1, ob1
  isplitr
  · ipureintro
    obtain ⟨hA, rfl⟩ := hkv
    exact Ext_step hg hplt (by omega) hpv hm hE _ _ (fun _ => by rfl) (fun _ => by rfl) _ (hmk _) _ hP
  isplitl [H12]; · iexact H12
  isplitl [H7]; · iexact H7
  isplitl [H8]; · iexact H8
  isplitl [H9]; · iexact H9
  isplitl [H17]; · iexact H17
  iexact H14

include h12 in
/-- The gathering of the tail's rows. -/
theorem t18_spec {k0_hw275 : k0_chk275 v72} {k0_h7 : k0_cond7 v72 = 1#1} {tab : S32x1000000.Idx → Elt F .f32} {mi mk : S1024.Idx → BitVec 32} {g : S512.Idx → BitVec 32} {G : ℕ → Prop}
    {slab : S64x32.Idx → Elt F .f32} (hsl : ∀ y, slab y = tabT tab (y 1).val (999936 + (y 0).val))
    (hn : v72 = BitVec.ofNat 32 (Nat.count (fun q => inI 999936 1000000 (at1 mi q)) 512))
    (hg : Lst 999936 1000000 (at1 mi) (at1 g) 512) (hlt : ∀ n < 512, (at1 g n).toNat < 512)
    {acc : BitVec 32} :
    ExtS (F := F) d i arg13 arg7 arg8 arg11 arg17 arg14 g mi mk slab (Ext tab mi mk G)
      ⊢ WP d i (Scf.Loop.for (k0_t18_loop v72) (k0_t18_ok v72 k0_hw275 k0_h7) acc (k0_t18_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 v65 0#32 1#32 v72 k0_hw275 k0_h7))
          (fun _ => ExtS (F := F) d i arg13 arg7 arg8 arg11 arg17 arg14 g mi mk slab (Ext tab mi mk (fun q => G q ∨ inI 999936 1000000 (at1 mi q)))) := by
  have hc512 : Nat.count (fun q => inI 999936 1000000 (at1 mi q)) 512 ≤ 512 := Nat.count_le _
  refine ext_loop (F := F) d i 999936 1000000 ?_ fun t acc kv ob hE => t18_trip (F := F) d i h12 (v4 := v4) (v6 := v6) hsl hn hg hlt t ?_ acc hE
  · rw [hn]; exact (trips12 ⟨_, Nat.lt_succ_of_le hc512⟩).2.1
  · have := t.isLt
    have h : (k0_t18_loop v72).trips = (Nat.count (fun q => inI 999936 1000000 (at1 mi q)) 512 + 15) / 16 := by
      rw [hn]; exact (trips12 ⟨_, Nat.lt_succ_of_le hc512⟩).2.1
    omega

end Cert.Proof.Emb
-- ==== Proof.Cap.lean ====
/-
  The loops that find a tile's own rows: the count, the gathering of a batch's numbers and positions, the padding of the batch, and
  the reset of the position list.
-/
module

public import proofs.«01_k».proof.Proof.Extract

@[expose] public section

noncomputable section

namespace Cert.Proof.Emb

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.SparseCore.Cfg (HIx Pay)

variable {F : FTy → Type}

local notation "𝕄" => MT nD τ sig (HIx 1) (Elt F) ℕ UU ℕ

variable [FloatOps F] (d : Dev nD) (i : grid0.Coords)

abbrev EC {F : FTy → Type} : UEmb Counters (MT nD τ sig (HIx 1) (Elt F) ℕ UU ℕ) := countersEmb

/-- What a tile owes over its run, with the right to wait. -/
def Ow (O : CellTallies nD τ sig (HIx 1)) (W : Waits sig (HIx 1)) : sProp 𝕄 :=
  iprop(owing (tV d i) O W none ∗ MayWaits (tV d i) none O)

/-- The wait for a copy in flight. -/
theorem Ow_wait {sp sp' : Space} {s s' : Shape} {e e' : EltTy} {κ' : Kind} {sem : DmaSem sig}
    {srcw : Memref sig (tV d i).2.kind sp' s' e'} {dstw : Memref sig κ' sp s e} {hsrc : srcw.view.WordExact} {hdst : dstw.view.WordExact}
    {α : Type} {k : PUnit → Pg F i α} {Q : α → sProp 𝕄} {N : ℕ} (hN : dstw.view.dmaCredit = N) {D : sProp 𝕄}
    {O : CellTallies nD τ sig (HIx 1)} {W : Waits sig (HIx 1)} :
    iprop(Flight EC (tV d i) (.dma sem) none N D ∗ Ow (F := F) d i O W)
      ⊢ iprop((iprop(D ∗ semVal (tV d i, .dma sem) 0 ∗ Ow (F := F) d i O W) -∗ WP d i (k ⟨⟩) Q)
          -∗ WP d i (Prog.lift (.waitDma2 sem srcw dstw hsrc hdst) >>= k) Q) := by
  unfold Ow
  iintro ⟨HF, HO, #Hm⟩ Hk
  iapply (own_wait EC 𝒱₀ (tV d i) none none hN) $$ [HF HO]
  · isplitl [HF]; · iexact HF
    isplitl [HO]; · iexact HO
    iexact Hm
  iintro ⟨HD, Hv, HO⟩
  iapply Hk
  isplitl [HD]; · iexact HD
  isplitl [Hv]; · iexact Hv
  isplitl [HO]; · iexact HO
  iexact Hm

/-- The gathered numbers and positions of a batch, after `n` positions. -/
def CapI (P : ℕ → Prop) [DecidablePred P] (iv : ℕ → BitVec 32) (base n : ℕ) (mi mk : S1024.Idx → BitVec 32) : Prop :=
  ∀ k < n, P k → base ≤ Nat.count P k → Nat.count P k < base + 512 →
    at1 mi (Nat.count P k - base) = iv k ∧ at1 mk (Nat.count P k - base) = BitVec.ofNat 32 k

/-- One group of 16 positions of the gathering. -/
theorem cap_step (P : ℕ → Prop) [DecidablePred P] (base s : ℕ) (hs : s + 16 ≤ 16384) (hb : base ≤ 20000) (iv : ℕ → BitVec 32) (mi mk : Vec F S1024 .i32) (acc : BitVec 32)
    (hacc : acc = BitVec.ofNat 32 (Nat.count P s)) (hC : CapI P iv base s mi mk)
    (v : Vec F S16 .i32) (hv : ∀ x : S16.Idx, v x = iv (s + (x 0).val)) (pM0 pM : IVec S16 1) (pP pR pK pS : IVec S16 32)
    (hm : ∀ x : S16.Idx, pM0 x = 1#1 ↔ P (s + (x 0).val))
    (hP : ∀ x : S16.Idx, pP x = IntOp.subi (IntOp.addi acc (scan .sum (extui 32 pM0 natLt_1_32) x)) (extui 32 pM0 natLt_1_32 x))
    (hM : ∀ x : S16.Idx, pM x = IntOp.andi (IntOp.andi (pM0 x) (IntOp.cmpi .sge (pP x) (BitVec.ofNat 32 base))) (IntOp.cmpi .slt (pP x) (BitVec.ofNat 32 (base + 512))))
    (hR : ∀ x : S16.Idx, pR x = IntOp.minsi 1023#32 (IntOp.maxsi 0#32 (IntOp.subi (pP x) (BitVec.ofNat 32 base))))
    (hK : ∀ x : S16.Idx, pK x = BitVec.ofNat 32 (s + (x 0).val)) (hS : ∀ x : S16.Idx, pS x = scan .sum (extui 32 pM0 natLt_1_32) x) :
    ∃ hin : ∀ a' x, ((![pR] : Fin 1 → IVec S16 32) a' x).toNat < S1024.size a', ∀ (hin' hin'' : ∀ a' x, ((![pR] : Fin 1 → IVec S16 32) a' x).toNat < S1024.size a'),
      IntOp.addi acc (pS (lane 15 (by decide))) = BitVec.ofNat 32 (Nat.count P (s + 16))
      ∧ CapI P iv base (s + 16) (storeIdx (F := F) (e := .i32) mi ![pR] v pM false hin') (storeIdx (F := F) (e := .i32) mk ![pR] pK pM false hin'') := by
  have hPx : ∀ x : S16.Idx, pP x = BitVec.ofNat 32 (Nat.count P (s + (x 0).val)) := fun x => by
    rw [hP, hacc]; exact scan_excl pM0 P s natLt_1_32 hm x
  have hle : ∀ x : S16.Idx, Nat.count P (s + (x 0).val) < 16384 := fun x => by
    have h1 := Nat.count_le (p := P) (n := s + (x 0).val)
    have h2 := lane_lt x
    omega
  have hMx : ∀ x : S16.Idx, pM x = 1#1 ↔ P (s + (x 0).val) ∧ base ≤ Nat.count P (s + (x 0).val) ∧ Nat.count P (s + (x 0).val) < base + 512 := fun x => by
    have := hle x
    rw [hM, and_one, and_one, hm, sge_one, slt_one, hPx, toInt_ofNat (by omega), toInt_ofNat (by omega), toInt_ofNat (by omega)]
    constructor
    · rintro ⟨⟨h1, h2⟩, h3⟩; exact ⟨h1, by omega, by omega⟩
    · rintro ⟨h1, h2, h3⟩; exact ⟨⟨h1, by omega⟩, by omega⟩
  have hRx : ∀ x : S16.Idx, base ≤ Nat.count P (s + (x 0).val) → Nat.count P (s + (x 0).val) < base + 512 → (pR x).toNat = Nat.count P (s + (x 0).val) - base := fun x h1 h2 => by
    have := hle x
    rw [hR, hPx, clip_eq (n := Nat.count P (s + (x 0).val) - base) (hi := 1023) (by rw [toInt_sub_ofNat (by omega) (by omega)]; omega) (by omega) (by decide), toNat_ofNat (by omega)]
  refine ⟨fun a' x => ?_, fun hin' hin'' => ⟨?_, ?_⟩⟩
  · rw [Fin.eq_zero a']
    show (pR x).toNat < 1024
    rw [hR]
    exact Nat.lt_succ_of_le (clip_lt _ (hi := 1023) (by decide))
  · rw [hS, hacc]
    exact (scan_sum_eq pM0 P s natLt_1_32 hm (lane 15 (by decide))).trans (by rw [lane_val])
  · intro k hk hPk h1 h2
    change base ≤ Nat.count P k at h1
    change Nat.count P k < base + 512 at h2
    have hq : Nat.count P k - base < 1024 := by omega
    have key : ∀ (m : Vec F S1024 .i32) (w : Vec F S16 .i32) (h : ∀ a' x, ((![pR] : Fin 1 → IVec S16 32) a' x).toNat < S1024.size a') (f : ℕ → BitVec 32),
        (∀ x, w x = f (s + (x 0).val)) → (k < s → at1 m (Nat.count P k - base) = f k) →
        at1 (storeIdx (F := F) (e := .i32) m ![pR] w pM false h) (Nat.count P k - base) = f k := by
      intro m w h f hw hold
      rcases at1_storeIdx (F := F) m pR w pM h (Nat.count P k - base) hq with ⟨x, e1, e2, e3⟩ | ⟨e1, e2⟩
      · obtain ⟨g1, g2, g3⟩ := (hMx x).1 e1
        rw [hRx x g2 g3] at e2
        rw [e3, hw]
        have e : s + (x 0).val = k := Nat.count_injective g1 hPk (by omega)
        rw [e]
      · rw [e2]
        by_cases hks : k < s
        · exact hold hks
        · exfalso
          have hl : s + ((lane (k - s) (by omega)) 0).val = k := by rw [lane_val]; omega
          refine e1 (lane (k - s) (by omega)) ((hMx _).2 ?_) ?_
          · rw [hl]; exact ⟨hPk, h1, h2⟩
          · rw [hRx _ (by rw [hl]; exact h1) (by rw [hl]; exact h2), hl]
    exact ⟨key mi v hin' iv hv (fun h => (hC k h hPk h1 h2).1), key mk pK hin'' (fun n => BitVec.ofNat 32 n) hK (fun h => (hC k h hPk h1 h2).2)⟩

/-- The words of an index chunk. -/
def chunk (iv : S16384.Idx → BitVec 32) (t : ℕ) (g : S2048.Idx → BitVec 32) : Prop := ∀ n < 2048, at1 g n = at1 iv (2048 * t + n)

/-- A chunk of the numbers is copied in and waited for. -/
theorem chunk_dma {q : PosShare TreeShare} {m2 : Memref sig .scVector .hbm S16384 .i32} {m6 : Memref sig .scVector .vmem S2048 .i32}
    {iv : S16384.Idx → BitVec 32} {g : S2048.Idx → BitVec 32} {off : Fin 1 → ℕ} {hin : ∀ a, off a + S2048.size a ≤ S16384.size a}
    {h1 h2 : ∀ a, (Rect.unit (s := S16384) off S2048.size hin).stride a = 1} {sm : DmaSem sig}
    {ws : (m2.slice (Rect.unit (s := S16384) off S2048.size hin) h1).view.WordExact} {ws' : (m2.slice (Rect.unit (s := S16384) off S2048.size hin) h2).view.WordExact}
    {w6 w6' : m6.view.WordExact} {hty} {α : Type} {k : PUnit → Pg F i α} {Q : α → sProp 𝕄} {t : ℕ} (hoff : off 0 = 2048 * t)
    {O : CellTallies nD τ sig (HIx 1)} {W : Waits sig (HIx 1)} :
    iprop(own (F := F) (e := .i32) (tV d i) q m2 iv ∗ own (F := F) (e := .i32) (tV d i) fullShare m6 g ∗ semVal (tV d i, .dma sm) 0 ∗ Ow (F := F) d i O W)
      ⊢ iprop((∀ g', ⌜chunk iv t g'⌝ -∗ iprop(own (F := F) (e := .i32) (tV d i) q m2 iv ∗ own (F := F) (e := .i32) (tV d i) fullShare m6 g' ∗ semVal (tV d i, .dma sm) 0 ∗ Ow (F := F) d i O W) -∗ WP d i (k ⟨⟩) Q)
        -∗ WP d i (Prog.lift (.enqueueDma (m2.slice (Rect.unit (s := S16384) off S2048.size hin) h1) (.here m6) (.dma sm) ws w6 hty) >>= fun _ =>
            Prog.lift (.waitDma2 sm (m2.slice (Rect.unit (s := S16384) off S2048.size hin) h2) m6 ws' w6') >>= k) Q) := by
  iintro ⟨H2, H6, Hs, HO⟩ Hk
  ihave H2 := (own_slice (tV d i) (m := m2) (Rect.unit (s := S16384) off S2048.size hin) h1) $$ H2
  icases H2 with ⟨H2, Hb⟩
  iapply (own_dma EC 𝒱₀ (tV d i) none none m6.view.dmaCredit rfl (View.dmaCredit_pos _ (by decide))) $$ [H2 H6 Hs]
  · isplitl [H2]; · iexact H2
    isplitl [H6]; · iexact H6
    iexact Hs
  iintro HF
  iapply (Ow_wait (F := F) d i rfl) $$ [HF HO]
  · isplitl [HF]; · iexact HF
    iexact HO
  iintro ⟨⟨H6, H2⟩, Hs, HO⟩
  iapply Hk $$ %(fun x => iv ((Rect.unit (s := S16384) off S2048.size hin).emb x)) [] [H2 H6 Hs HO Hb]
  · ipureintro
    intro n hn
    have h := at1_val (N := 2048) (fun x => iv ((Rect.unit (s := S16384) off S2048.size hin).emb x)) (Shape.ofLane (d := ![2048]) ⟨n, hn⟩)
    rw [show ((Shape.ofLane (d := ![2048]) ⟨n, hn⟩) 0).val = n from rfl] at h
    rw [h, ← at1_val iv]
    congr 1
    rw [Rect.emb_apply]
    show off 0 + 1 * n = _
    omega
  isplitl [H2 Hb]
  · iapply Hb; iexact H2
  isplitl [H6]; · iexact H6
  isplitl [Hs]; · iexact Hs
  iexact HO

variable {arg2 : Memref sig .scVector .hbm S16384 .i32} {harg2 : arg2.IsWhole} {arg3 : Memref sig .scVector .hbm S32x1000000 .f32}
   {harg3 : arg3.IsWhole} {arg4 : Memref sig .scVector .hbm S64x32 .f32} {harg4 : arg4.IsWhole}
   {arg5 : Memref sig .scVector .hbm S16400x128 .f32} {harg5 : arg5.IsWhole} {arg6 : Memref sig .scVector .vmem S2048 .i32}
   {harg6 : arg6.IsWhole} {arg7 : Memref sig .scVector .vmem S1024 .i32} {harg7 : arg7.IsWhole}
   {arg8 : Memref sig .scVector .vmem S1024 .i32} {harg8 : arg8.IsWhole} {arg9 : Memref sig .scVector .vmem S32x512 .f32}
   {harg9 : arg9.IsWhole} {arg10 : Memref sig .scVector .vmem S32x512 .f32} {harg10 : arg10.IsWhole}
   {arg11 : Memref sig .scVector .vmem S64x32 .f32} {harg11 : arg11.IsWhole} {arg12 : Memref sig .scVector .vmem S512 .i32}
   {harg12 : arg12.IsWhole} {arg13 : Memref sig .scVector .vmem S512 .i32} {harg13 : arg13.IsWhole}
   {arg14 : Memref sig .scVector .vmem S512x32 .f32} {harg14 : arg14.IsWhole} {arg15 : Memref sig .scVector .vmem S64x128 .f32}
   {harg15 : arg15.IsWhole} {arg16 : Memref sig .scVector .vmem S64x128 .f32} {harg16 : arg16.IsWhole}
   {arg17 : Memref sig .scVector .vmem S8x64 .i32} {harg17 : arg17.IsWhole} {arg18 : DmaSems sig S_} {arg19 : DmaSems sig S_}
   {arg20 : DmaSems sig S_} {arg21 : DmaSems sig S_} {v46_r0 : DmaSems sig S_} {v49_r1 : DmaSems sig S_} {v143_r2 : DmaSems sig S_}
   {v143_r3 : DmaSems sig S_}

variable {w : ℕ} {v4 v6 v7 v11 v17 : BitVec 32} {v12 : IVec S16 32}
variable {iv : S16384.Idx → BitVec 32}

/-- A position's number lies in a tile's range. -/
abbrev PR (w : ℕ) (iv : S16384.Idx → BitVec 32) (k : ℕ) : Prop := inI (rLo w) (rHi w) (at1 iv k)

/-- The mask of a tile's range. -/
theorem range_iff (hw : w < 32) {a b : BitVec 32} (ha : a = BitVec.ofNat 32 (rLo w)) (hb : b = BitVec.ofNat 32 (rHi w)) (x : BitVec 32) :
    IntOp.andi (IntOp.cmpi .sge x a) (IntOp.cmpi .slt x b) = 1#1 ↔ inI (rLo w) (rHi w) x := by
  have h1 := rHi_le hw
  have h2 : rLo w ≤ 1000000 := by unfold rLo tLo; omega
  rw [and_one, sge_one, slt_one, ha, hb, toInt_ofNat (by omega), toInt_ofNat (by omega)]
  rfl

theorem mul16 (k : ℕ) (hk : k < 10000) : (Scalar.indexCast (Scalar.muli (Scf.iv 0#32 1#32 k) 16#32)).toNat = 16 * k := by
  rw [iv_eq]
  have h : Scalar.muli (BitVec.ofNat 32 k) 16#32 = BitVec.ofNat 32 (16 * k) := (muli_ofNat k 16).trans (by rw [Nat.mul_comm])
  rw [h]
  exact toNat_ofNat (by omega)

theorem mul2048 (k : ℕ) (hk : k < 100) : (Scalar.muli (Scf.iv 0#32 1#32 k) 2048#32).toNat = 2048 * k := by
  rw [iv_eq]
  have h : Scalar.muli (BitVec.ofNat 32 k) 2048#32 = BitVec.ofNat 32 (2048 * k) := (muli_ofNat k 2048).trans (by rw [Nat.mul_comm])
  rw [h]
  exact toNat_ofNat (by omega)

theorem base_word (k : ℕ) : Scalar.muli (Scf.iv 0#32 1#32 k) 512#32 = BitVec.ofNat 32 (512 * k) := by
  rw [iv_eq]; exact (muli_ofNat k 512).trans (by rw [Nat.mul_comm])

/-- The gathering of a batch over one chunk. -/
theorem t6_spec (hw : w < 32) (h7 : v7 = BitVec.ofNat 32 (rLo w)) (h11 : v11 = BitVec.ofNat 32 (rHi w)) (h12 : ∀ x, v12 x = BitVec.ofNat 32 (x 0).val)
    {k0_t4 : Fin (k0_t4_loop v17).trips} (h4 : k0_t4.val < 33) {k0_t5 : Fin k0_t5_loop.trips} {g : S2048.Idx → BitVec 32} (hg : chunk iv k0_t5.val g)
    {mi mk : S1024.Idx → BitVec 32} {acc : BitVec 32} (hacc : acc = BitVec.ofNat 32 (Nat.count (PR w iv) (2048 * k0_t5.val)))
    (hC : CapI (PR w iv) (at1 iv) (512 * k0_t4.val) (2048 * k0_t5.val) mi mk) :
    iprop(own (F := F) (e := .i32) (tV d i) fullShare arg6 g ∗ own (F := F) (e := .i32) (tV d i) fullShare arg7 mi ∗ own (F := F) (e := .i32) (tV d i) fullShare arg8 mk : sProp 𝕄)
      ⊢ WP d i (Scf.Loop.for k0_t6_loop k0_t6_ok acc (k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v7 v11 v12 v17 0#32 1#32 k0_t4 k0_t5))
          (fun acc' => iprop(∃ mi' mk', ⌜acc' = BitVec.ofNat 32 (Nat.count (PR w iv) (2048 * (k0_t5.val + 1)))
            ∧ CapI (PR w iv) (at1 iv) (512 * k0_t4.val) (2048 * (k0_t5.val + 1)) mi' mk'⌝ ∗
            own (F := F) (e := .i32) (tV d i) fullShare arg6 g ∗ own (F := F) (e := .i32) (tV d i) fullShare arg7 mi' ∗ own (F := F) (e := .i32) (tV d i) fullShare arg8 mk')) := by
  have h5 : k0_t5.val < 8 := k0_t5.isLt
  iintro ⟨H6, H7, H8⟩
  iapply (own_for (F := F) d i (fun t acc' => iprop(∃ mi' mk', ⌜acc' = BitVec.ofNat 32 (Nat.count (PR w iv) (2048 * k0_t5.val + 16 * t))
            ∧ CapI (PR w iv) (at1 iv) (512 * k0_t4.val) (2048 * k0_t5.val + 16 * t) mi' mk'⌝ ∗
            own (F := F) (e := .i32) (tV d i) fullShare arg6 g ∗ own (F := F) (e := .i32) (tV d i) fullShare arg7 mi' ∗ own (F := F) (e := .i32) (tV d i) fullShare arg8 mk')) ?_)
  · intro t acc
    have ht : t.val < 128 := t.isLt
    iintro ⟨%mi', %mk', %h, H6, H7, H8⟩
    obtain ⟨h1, h2⟩ := h
    unfold k0_t6_body
    dsimp only
    iapply (own_load 𝒱₀ (tV d i) none) $$ H6
    iintro H6
    generalize hvd : (fun x => g ((Rect.unit (s := S2048) (k0_off5 t) S16.size (k0_off5_inb t)).emb x)) = v
    have hv : ∀ x, v x = at1 iv (2048 * k0_t5.val + 16 * t.val + (x 0).val) := fun x => by
      have := lane_lt x
      rw [← hvd]
      refine ((at1_load g (k0_off5 t) _ x).trans (congrArg (fun z => at1 g (z + (x 0).val)) (mul16 t.val (by omega)))).trans ?_
      rw [hg _ (by omega), Nat.add_assoc]
    have hm : ∀ x : S16.Idx, k0_pay254 (F := F) v7 v11 v x = 1#1 ↔ PR w iv (2048 * k0_t5.val + 16 * t.val + (x 0).val) := fun x => by
      unfold PR; rw [← hv]; exact range_iff hw h7 h11 (v x)
    obtain ⟨hin, hrest⟩ := cap_step (F := F) (PR w iv) (512 * k0_t4.val) (2048 * k0_t5.val + 16 * t.val) (by omega) (by omega) (at1 iv) mi' mk' acc h1 h2 v hv
      (k0_pay254 (F := F) v7 v11 v) (k0_pay257 (F := F) v7 v11 v17 0#32 1#32 k0_t4 acc v) (k0_pay256 (F := F) v7 v11 acc v) (k0_pay258 (F := F) v7 v11 v17 0#32 1#32 k0_t4 acc v)
      (k0_pay259 v12 k0_t5 t) (k0_pay260 (F := F) v7 v11 v) hm (fun _ => rfl)
      (fun x => by
        rw [← base_word, ← addi_ofNat, ← base_word]; rfl)
      (fun x => by rw [← base_word]; rfl)
      (fun x => by
        have e1 : Scalar.muli (Scf.iv 0#32 1#32 k0_t5.val) 2048#32 = BitVec.ofNat 32 (2048 * k0_t5.val) := by
          rw [iv_eq]; exact (muli_ofNat _ 2048).trans (by rw [Nat.mul_comm])
        have e2 : Scalar.muli (Scf.iv 0#32 1#32 t.val) 16#32 = BitVec.ofNat 32 (16 * t.val) := by
          rw [iv_eq]; exact (muli_ofNat _ 16).trans (by rw [Nat.mul_comm])
        show IntOp.addi (Scalar.addi (Scalar.muli (Scf.iv 0#32 1#32 k0_t5.val) 2048#32) (Scalar.muli (Scf.iv 0#32 1#32 t.val) 16#32)) (v12 x) = _
        rw [e1, e2, h12 x]
        exact (congrArg (fun z => IntOp.addi z (BitVec.ofNat 32 (x 0).val)) (addi_ofNat _ _)).trans (addi_ofNat _ _))
      (fun _ => rfl)
    iapply (own_assume 𝒱₀ (tV d i) none (by exact ⟨hin, hin⟩))
    iapply (own_storeIdx 𝒱₀ (tV d i) none) $$ H7
    iintro H7
    iapply (own_storeIdx 𝒱₀ (tV d i) none) $$ H8
    iintro H8
    iapply own_pure
    iexists _, _
    isplitr
    swap
    · isplitl [H6]; · iexact H6
      isplitl [H7]; · iexact H7
      iexact H8
    ipureintro
    obtain ⟨r1, r2⟩ := hrest hin hin
    refine ⟨?_, r2⟩
    rw [last_eq]
    exact r1
  isplitl
  · iexists mi, mk
    isplitr
    · ipureintro; exact ⟨hacc, hC⟩
    isplitl [H6]; · iexact H6
    isplitl [H7]; · iexact H7
    iexact H8
  iintro %acc' ⟨%mi', %mk', %h, H⟩
  iexists mi', mk'
  isplitr
  · ipureintro; exact h
  iexact H

end Cert.Proof.Emb
-- ==== Proof.Loops.lean ====
/-
  The loops over a tile's numbers: the count, the gathering of a batch, its padding, and the buffers' resets.
-/
module

public import proofs.«01_k».proof.Proof.Cap

@[expose] public section

noncomputable section

namespace Cert.Proof.Emb

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.SparseCore.Cfg (HIx Pay)

variable {F : FTy → Type}

local notation "𝕄" => MT nD τ sig (HIx 1) (Elt F) ℕ UU ℕ

variable [FloatOps F] (d : Dev nD) (i : grid0.Coords)

variable {arg2 : Memref sig .scVector .hbm S16384 .i32} {harg2 : arg2.IsWhole} {arg3 : Memref sig .scVector .hbm S32x1000000 .f32}
   {harg3 : arg3.IsWhole} {arg4 : Memref sig .scVector .hbm S64x32 .f32} {harg4 : arg4.IsWhole}
   {arg5 : Memref sig .scVector .hbm S16400x128 .f32} {harg5 : arg5.IsWhole} {arg6 : Memref sig .scVector .vmem S2048 .i32}
   {harg6 : arg6.IsWhole} {arg7 : Memref sig .scVector .vmem S1024 .i32} {harg7 : arg7.IsWhole}
   {arg8 : Memref sig .scVector .vmem S1024 .i32} {harg8 : arg8.IsWhole} {arg9 : Memref sig .scVector .vmem S32x512 .f32}
   {harg9 : arg9.IsWhole} {arg10 : Memref sig .scVector .vmem S32x512 .f32} {harg10 : arg10.IsWhole}
   {arg11 : Memref sig .scVector .vmem S64x32 .f32} {harg11 : arg11.IsWhole} {arg12 : Memref sig .scVector .vmem S512 .i32}
   {harg12 : arg12.IsWhole} {arg13 : Memref sig .scVector .vmem S512 .i32} {harg13 : arg13.IsWhole}
   {arg14 : Memref sig .scVector .vmem S512x32 .f32} {harg14 : arg14.IsWhole} {arg15 : Memref sig .scVector .vmem S64x128 .f32}
   {harg15 : arg15.IsWhole} {arg16 : Memref sig .scVector .vmem S64x128 .f32} {harg16 : arg16.IsWhole}
   {arg17 : Memref sig .scVector .vmem S8x64 .i32} {harg17 : arg17.IsWhole} {arg18 : DmaSems sig S_} {arg19 : DmaSems sig S_}
   {arg20 : DmaSems sig S_} {arg21 : DmaSems sig S_} {v46_r0 : DmaSems sig S_} {v49_r1 : DmaSems sig S_} {v143_r2 : DmaSems sig S_}
   {v143_r3 : DmaSems sig S_}

variable {w : ℕ} {v4 v6 v7 v11 v17 : BitVec 32} {v12 : IVec S16 32}
variable {iv : S16384.Idx → BitVec 32}

/-- The gathering of a batch. -/
theorem t5_spec (hw : w < 32) (h7 : v7 = BitVec.ofNat 32 (rLo w)) (h11 : v11 = BitVec.ofNat 32 (rHi w)) (h12 : ∀ x, v12 x = BitVec.ofNat 32 (x 0).val)
    {k0_t4 : Fin (k0_t4_loop v17).trips} (h4 : k0_t4.val < 33) {q : PosShare TreeShare} {g : S2048.Idx → BitVec 32}
    {mi mk : S1024.Idx → BitVec 32} {O : CellTallies nD τ sig (HIx 1)} {W : Waits sig (HIx 1)} :
    iprop(own (F := F) (e := .i32) (tV d i) q arg2 iv ∗ own (F := F) (e := .i32) (tV d i) fullShare arg6 g ∗ semVal (tV d i, .dma v143_r2.sem) 0 ∗ Ow (F := F) d i O W
        ∗ own (F := F) (e := .i32) (tV d i) fullShare arg7 mi ∗ own (F := F) (e := .i32) (tV d i) fullShare arg8 mk : sProp 𝕄)
      ⊢ WP d i (Scf.Loop.for k0_t5_loop k0_t5_ok 0#32 (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v7 v11 v12 v17 0#32 1#32 k0_t4))
          (fun _ => iprop(∃ g' mi' mk', ⌜CapI (PR w iv) (at1 iv) (512 * k0_t4.val) 16384 mi' mk'⌝ ∗
            own (F := F) (e := .i32) (tV d i) q arg2 iv ∗ own (F := F) (e := .i32) (tV d i) fullShare arg6 g' ∗ semVal (tV d i, .dma v143_r2.sem) 0 ∗ Ow (F := F) d i O W
            ∗ own (F := F) (e := .i32) (tV d i) fullShare arg7 mi' ∗ own (F := F) (e := .i32) (tV d i) fullShare arg8 mk')) := by
  iintro ⟨H2, H6, Hs, HO, H7, H8⟩
  iapply (own_for (F := F) d i (fun t acc' => iprop(∃ g' mi' mk', ⌜acc' = BitVec.ofNat 32 (Nat.count (PR w iv) (2048 * t))
            ∧ CapI (PR w iv) (at1 iv) (512 * k0_t4.val) (2048 * t) mi' mk'⌝ ∗
            own (F := F) (e := .i32) (tV d i) q arg2 iv ∗ own (F := F) (e := .i32) (tV d i) fullShare arg6 g' ∗ semVal (tV d i, .dma v143_r2.sem) 0 ∗ Ow (F := F) d i O W
            ∗ own (F := F) (e := .i32) (tV d i) fullShare arg7 mi' ∗ own (F := F) (e := .i32) (tV d i) fullShare arg8 mk')) ?_)
  · intro t acc
    have ht : t.val < 8 := t.isLt
    iintro ⟨%g', %mi', %mk', %h, H2, H6, Hs, HO, H7, H8⟩
    unfold k0_t5_body
    dsimp only
    iapply (chunk_dma (F := F) d i (t := t.val) (mul2048 t.val (by omega))) $$ [H2 H6 Hs HO]
    · isplitl [H2]; · iexact H2
      isplitl [H6]; · iexact H6
      isplitl [Hs]; · iexact Hs
      iexact HO
    iintro %g'' %hg ⟨H2, H6, Hs, HO⟩
    rw [WP_bind]
    iapply (wp_wand_r _)
    isplitl [H6 H7 H8]
    · iapply (t6_spec (F := F) d i hw h7 h11 h12 h4 hg h.1 h.2)
      isplitl [H6]; · iexact H6
      isplitl [H7]; · iexact H7
      iexact H8
    iintro %acc' ⟨%mi'', %mk'', %h', H6, H7, H8⟩
    iapply own_pure
    iexists g'', mi'', mk''
    isplitr
    · ipureintro; exact h'
    isplitl [H2]; · iexact H2
    isplitl [H6]; · iexact H6
    isplitl [Hs]; · iexact Hs
    isplitl [HO]; · iexact HO
    isplitl [H7]; · iexact H7
    iexact H8
  isplitl
  · iexists g, mi, mk
    isplitr
    · ipureintro
      refine ⟨?_, fun k hk => absurd hk (by omega)⟩
      rw [Nat.mul_zero, Nat.count_zero]
    isplitl [H2]; · iexact H2
    isplitl [H6]; · iexact H6
    isplitl [Hs]; · iexact Hs
    isplitl [HO]; · iexact HO
    isplitl [H7]; · iexact H7
    iexact H8
  iintro %acc' ⟨%g', %mi', %mk', %h, H⟩
  iexists g', mi', mk'
  isplitr
  · ipureintro; exact h.2
  iexact H

/-- The count over one chunk. -/
theorem t2_spec (hw : w < 32) (hwi : w = wid i) {t5 : ℕ} (h5 : t5 < 8) {g : S2048.Idx → BitVec 32} (hg : chunk iv t5 g)
    {acc : BitVec 32} (hacc : acc = BitVec.ofNat 32 (Nat.count (PR w iv) (2048 * t5)))
    (hM : ∀ (v : Vec F S16 .i32), ∃ m : IVec S16 1, k0_pay599 (F := F) i v = scan .sum (extui 32 m natLt_1_32) ∧ ∀ x, m x = 1#1 ↔ inI (rLo w) (rHi w) (v x)) :
    iprop(own (F := F) (e := .i32) (tV d i) fullShare arg6 g : sProp 𝕄)
      ⊢ WP d i (Scf.Loop.for k0_t2_loop k0_t2_ok acc (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3))
          (fun acc' => iprop(⌜acc' = BitVec.ofNat 32 (Nat.count (PR w iv) (2048 * (t5 + 1)))⌝ ∗ own (F := F) (e := .i32) (tV d i) fullShare arg6 g)) := by
  iintro H6
  iapply (own_for (F := F) d i (fun t acc' => iprop(⌜acc' = BitVec.ofNat 32 (Nat.count (PR w iv) (2048 * t5 + 16 * t))⌝ ∗
            own (F := F) (e := .i32) (tV d i) fullShare arg6 g)) ?_)
  · intro t acc
    have ht : t.val < 128 := t.isLt
    iintro ⟨%h1, H6⟩
    unfold k0_t2_body
    dsimp only
    iapply (own_load 𝒱₀ (tV d i) none) $$ H6
    iintro H6
    generalize hvd : (fun x => g ((Rect.unit (s := S2048) (k0_off2 t) S16.size (k0_off2_inb t)).emb x)) = v
    have hv : ∀ x, v x = at1 iv (2048 * t5 + 16 * t.val + (x 0).val) := fun x => by
      have := lane_lt x
      rw [← hvd]
      refine ((at1_load g (k0_off2 t) _ x).trans (congrArg (fun z => at1 g (z + (x 0).val)) (mul16 t.val (by omega)))).trans ?_
      rw [hg _ (by omega), Nat.add_assoc]
    iapply own_pure
    isplitr
    · ipureintro
      obtain ⟨m, hm1, hm2⟩ := hM v
      rw [hm1, last_eq, h1]
      exact (scan_sum_eq m (PR w iv) (2048 * t5 + 16 * t.val) natLt_1_32 (fun x => by unfold PR; rw [← hv]; exact hm2 x) (lane 15 (by decide))).trans (by rw [lane_val]; rfl)
    iexact H6
  isplitl
  · isplitr
    · ipureintro; exact hacc
    iexact H6
  iintro %acc' H
  iexact H

/-- The count of a tile's numbers. -/
theorem t1_spec (hw : w < 32) (hwi : w = wid i) {q : PosShare TreeShare} {g : S2048.Idx → BitVec 32}
    (hM : ∀ (v : Vec F S16 .i32), ∃ m : IVec S16 1, k0_pay599 (F := F) i v = scan .sum (extui 32 m natLt_1_32) ∧ ∀ x, m x = 1#1 ↔ inI (rLo w) (rHi w) (v x))
    {O : CellTallies nD τ sig (HIx 1)} {W : Waits sig (HIx 1)} :
    iprop(own (F := F) (e := .i32) (tV d i) q arg2 iv ∗ own (F := F) (e := .i32) (tV d i) fullShare arg6 g ∗ semVal (tV d i, .dma v49_r1.sem) 0 ∗ Ow (F := F) d i O W : sProp 𝕄)
      ⊢ WP d i (Scf.Loop.for k0_t1_loop k0_t1_ok 0#32 (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3))
          (fun acc => iprop(∃ g', ⌜acc = BitVec.ofNat 32 (Nat.count (PR w iv) 16384)⌝ ∗
            own (F := F) (e := .i32) (tV d i) q arg2 iv ∗ own (F := F) (e := .i32) (tV d i) fullShare arg6 g' ∗ semVal (tV d i, .dma v49_r1.sem) 0 ∗ Ow (F := F) d i O W)) := by
  iintro ⟨H2, H6, Hs, HO⟩
  iapply (own_for (F := F) d i (fun t acc' => iprop(∃ g', ⌜acc' = BitVec.ofNat 32 (Nat.count (PR w iv) (2048 * t))⌝ ∗
            own (F := F) (e := .i32) (tV d i) q arg2 iv ∗ own (F := F) (e := .i32) (tV d i) fullShare arg6 g' ∗ semVal (tV d i, .dma v49_r1.sem) 0 ∗ Ow (F := F) d i O W)) ?_)
  · intro t acc
    have ht : t.val < 8 := t.isLt
    iintro ⟨%g', %h, H2, H6, Hs, HO⟩
    unfold k0_t1_body
    dsimp only
    iapply (chunk_dma (F := F) d i (t := t.val) (mul2048 t.val (by omega))) $$ [H2 H6 Hs HO]
    · isplitl [H2]; · iexact H2
      isplitl [H6]; · iexact H6
      isplitl [Hs]; · iexact Hs
      iexact HO
    iintro %g'' %hg ⟨H2, H6, Hs, HO⟩
    rw [WP_bind]
    iapply (wp_wand_r _)
    isplitl [H6]
    · iapply (t2_spec (F := F) d i hw hwi ht hg h hM)
      iexact H6
    iintro %acc' ⟨%h', H6⟩
    iapply own_pure
    iexists g''
    isplitr
    · ipureintro; exact h'
    isplitl [H2]; · iexact H2
    isplitl [H6]; · iexact H6
    isplitl [Hs]; · iexact Hs
    iexact HO
  isplitl
  · iexists g
    isplitr
    · ipureintro
      rw [Nat.mul_zero, Nat.count_zero]
    isplitl [H2]; · iexact H2
    isplitl [H6]; · iexact H6
    isplitl [Hs]; · iexact Hs
    iexact HO
  iintro %acc' ⟨%g', %h, H⟩
  iexists g'
  isplitr
  · ipureintro; exact h
  iexact H

/-- A 16-lane store of zeros keeps what is below it and extends the zeros. -/
theorem zero_step {g g' : S512.Idx → BitVec 32} {t : ℕ} {off : Fin 1 → ℕ} {hin : ∀ a, off a + S16.size a ≤ S512.size a} (hoff : off 0 = 16 * t) (ht : t < 32)
    (h : ∀ n < 16 * t, at1 g n = 0#32)
    (h' : (∀ x, g' ((Rect.unit (s := S512) off S16.size hin).emb x) = 0#32) ∧ ∀ y, (∀ x, (Rect.unit (s := S512) off S16.size hin).emb x ≠ y) → g' y = g y) :
    ∀ n < 16 * (t + 1), at1 g' n = 0#32 := by
  intro n hn
  by_cases hnt : n < 16 * t
  · rw [← h n hnt]
    unfold at1
    rw [dif_pos (by omega), dif_pos (by omega)]
    refine h'.2 _ fun x hx => ?_
    have h0 := congrArg (fun z : S512.Idx => (z 0).val) hx
    dsimp only at h0
    rw [Rect.emb_apply] at h0
    change off 0 + 1 * (x 0).val = n at h0
    omega
  · have e := at1_load g' off hin (lane (n - 16 * t) (by omega))
    rw [h'.1, lane_val, hoff] at e
    rw [e]
    congr 1
    omega

/-- The lists are cleared. -/
theorem t3_spec {g12 g13 : S512.Idx → BitVec 32} :
    iprop(own (F := F) (e := .i32) (tV d i) fullShare arg12 g12 ∗ own (F := F) (e := .i32) (tV d i) fullShare arg13 g13 : sProp 𝕄)
      ⊢ WP d i (Scf.Loop.for k0_t3_loop k0_t3_ok 0#32 (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3))
          (fun _ => iprop(∃ g12' g13', ⌜(∀ n < 512, (at1 g12' n).toNat < 512) ∧ ∀ n < 512, (at1 g13' n).toNat < 512⌝ ∗
            own (F := F) (e := .i32) (tV d i) fullShare arg12 g12' ∗ own (F := F) (e := .i32) (tV d i) fullShare arg13 g13')) := by
  iintro ⟨H12, H13⟩
  iapply (own_for (F := F) d i (fun t _ => iprop(∃ g12' g13', ⌜(∀ n < 16 * t, at1 g12' n = 0#32) ∧ ∀ n < 16 * t, at1 g13' n = 0#32⌝ ∗
            own (F := F) (e := .i32) (tV d i) fullShare arg12 g12' ∗ own (F := F) (e := .i32) (tV d i) fullShare arg13 g13')) ?_)
  · intro t acc
    have ht : t.val < 32 := t.isLt
    iintro ⟨%g12', %g13', %h, H12, H13⟩
    unfold k0_t3_body
    dsimp only
    iapply (own_load 𝒱₀ (tV d i) none) $$ H12
    iintro H12
    iapply (own_store 𝒱₀ (tV d i) none) $$ H12
    iintro %a12 %ha12 H12
    iapply (own_load 𝒱₀ (tV d i) none) $$ H13
    iintro H13
    iapply (own_store 𝒱₀ (tV d i) none) $$ H13
    iintro %a13 %ha13 H13
    iapply own_pure
    iexists a12, a13
    isplitr
    · ipureintro
      exact ⟨zero_step (mul16 t.val (by omega)) ht h.1 ha12, zero_step (mul16 t.val (by omega)) ht h.2 ha13⟩
    isplitl [H12]; · iexact H12
    iexact H13
  isplitl
  · iexists g12, g13
    isplitr
    · ipureintro
      exact ⟨fun n hn => absurd hn (by omega), fun n hn => absurd hn (by omega)⟩
    isplitl [H12]; · iexact H12
    iexact H13
  iintro %acc' ⟨%a12, %a13, %h, H⟩
  iexists a12, a13
  isplitr
  · ipureintro
    exact ⟨fun n hn => by rw [h.1 n hn]; decide, fun n hn => by rw [h.2 n hn]; decide⟩
  iexact H

/-- A batch after its padding: each place of it holds one of the tile's positions, or is past them. -/
def Cap (P : ℕ → Prop) [DecidablePred P] (iv : ℕ → BitVec 32) (base : ℕ) (mi mk : S1024.Idx → BitVec 32) : Prop :=
  ∀ q < 512, (∃ k < 16384, P k ∧ Nat.count P k = base + q ∧ at1 mi q = iv k ∧ at1 mk q = BitVec.ofNat 32 k)
    ∨ (Nat.count P 16384 ≤ base + q ∧ at1 mi q = 1000000#32)

/-- A difference clipped to `[0, 512]`. -/
theorem clip512 {a b : ℕ} (ha : a < 2 ^ 30) (hb : b < 2 ^ 30) :
    IntOp.minsi 512#32 (IntOp.maxsi 0#32 (IntOp.subi (BitVec.ofNat 32 a) (BitVec.ofNat 32 b))) = BitVec.ofNat 32 (min 512 (a - b)) := by
  have h := toInt_sub_ofNat ha hb
  generalize IntOp.subi (BitVec.ofNat 32 a) (BitVec.ofNat 32 b) = z at h
  apply eq_ofNat_of_toInt
  have h0 : (0#32 : BitVec 32).toInt = 0 := by decide
  have h5 : (512#32 : BitVec 32).toInt = 512 := by decide
  rw [minsi_toInt, maxsi_toInt, h, h0, h5]
  omega

/-- The padding of a batch. -/
theorem t7_spec (h12 : ∀ x, v12 x = BitVec.ofNat 32 (x 0).val) {P : ℕ → Prop} [DecidablePred P] {jv : ℕ → BitVec 32}
    {k0_t4 : Fin (k0_t4_loop v17).trips} (h4 : k0_t4.val < 33) (h17 : v17 = BitVec.ofNat 32 (Nat.count P 16384)) {mi mk : S1024.Idx → BitVec 32}
    (hC : CapI P jv (512 * k0_t4.val) 16384 mi mk) :
    iprop(own (F := F) (e := .i32) (tV d i) fullShare arg7 mi : sProp 𝕄)
      ⊢ WP d i (Scf.Loop.for k0_t7_loop k0_t7_ok 0#32 (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v7 v11 v12 v17 0#32 1#32 k0_t4))
          (fun _ => iprop(∃ mi', ⌜Cap P jv (512 * k0_t4.val) mi' mk⌝ ∗ own (F := F) (e := .i32) (tV d i) fullShare arg7 mi')) := by
  have hcnt : Nat.count P 16384 ≤ 16384 := Nat.count_le _
  obtain ⟨c, hc, hc512, hcw⟩ : ∃ c, (c = min 512 (Nat.count P 16384 - 512 * k0_t4.val)) ∧ c ≤ 512 ∧
      Scalar.minsi 512#32 (Scalar.maxsi 0#32 (Scalar.subi v17 (Scalar.muli (Scf.iv 0#32 1#32 k0_t4.val) 512#32))) = BitVec.ofNat 32 c := by
    refine ⟨min 512 (Nat.count P 16384 - 512 * k0_t4.val), Eq.refl _, Nat.min_le_left _ _, ?_⟩
    rw [base_word]
    exact (congrArg (fun z => IntOp.minsi 512#32 (IntOp.maxsi 0#32 (IntOp.subi z (BitVec.ofNat 32 (512 * k0_t4.val))))) h17).trans (clip512 (by omega) (by omega))
  have hpx : ∀ (t : Fin k0_t7_loop.trips) (x : S16.Idx), (k0_pay262 v12 v17 0#32 1#32 k0_t4 t) x = BitVec.ofNat 32 (c + 16 * t.val + (x 0).val) := fun t x => by
    have e2 : Scalar.muli (Scf.iv 0#32 1#32 t.val) 16#32 = BitVec.ofNat 32 (16 * t.val) := by
      rw [iv_eq]; exact (muli_ofNat _ 16).trans (by rw [Nat.mul_comm])
    show IntOp.addi (Scalar.addi (Scalar.minsi 512#32 (Scalar.maxsi 0#32 (Scalar.subi v17 (Scalar.muli (Scf.iv 0#32 1#32 k0_t4.val) 512#32))))
      (Scalar.muli (Scf.iv 0#32 1#32 t.val) 16#32)) (v12 x) = _
    rw [hcw, e2, h12 x]
    exact (congrArg (fun z => IntOp.addi z (BitVec.ofNat 32 (x 0).val)) (addi_ofNat _ _)).trans (addi_ofNat _ _)
  iintro H7
  iapply (own_for (F := F) d i (fun t _ => iprop(∃ mi', ⌜∀ q < 1024, at1 mi' q = if c ≤ q ∧ q < c + 16 * t then 1000000#32 else at1 mi q⌝ ∗
    own (F := F) (e := .i32) (tV d i) fullShare arg7 mi')) ?_)
  · intro t acc
    have ht : t.val < 32 := t.isLt
    iintro ⟨%mi', %h, H7⟩
    have hpn : ∀ x, (k0_pay262 v12 v17 0#32 1#32 k0_t4 t x).toNat = c + 16 * t.val + (x 0).val := fun x => by
      have := lane_lt x
      rw [hpx, toNat_ofNat (by omega)]
    unfold k0_t7_body
    dsimp only
    iapply (own_assume 𝒱₀ (tV d i) none (by exact lt1 (fun x => by have := lane_lt x; rw [hpn]; omega)))
    iapply (own_storeIdx 𝒱₀ (tV d i) none) $$ H7
    iintro H7
    iapply own_pure
    iexists _
    isplitr
    swap; · iexact H7
    ipureintro
    intro q hq
    rcases at1_storeIdx (F := F) mi' (k0_pay262 v12 v17 0#32 1#32 k0_t4 t) k0_pay261 (fun _ => 1#1) (by exact lt1 (fun x => by have := lane_lt x; rw [hpn]; omega)) q hq with ⟨x, -, e2, e3⟩ | ⟨e1, e2⟩
    · have := lane_lt x
      rw [hpn] at e2
      refine e3.trans ?_
      rw [if_pos (by omega)]
      rfl
    · refine e2.trans ?_
      rw [h q hq]
      by_cases hqt : c + 16 * t.val ≤ q ∧ q < c + 16 * (t.val + 1)
      · exfalso
        refine e1 (lane (q - (c + 16 * t.val)) (by omega)) rfl ?_
        rw [hpn, lane_val]; omega
      · by_cases h2 : c ≤ q ∧ q < c + 16 * t.val
        · rw [if_pos h2, if_pos (by omega)]
        · rw [if_neg h2, if_neg (by omega)]
  isplitl
  · iexists mi
    isplitr
    · ipureintro
      intro q hq
      rw [if_neg (by omega)]
    iexact H7
  iintro %acc' ⟨%mi', %h, H⟩
  iexists mi'
  isplitr
  · ipureintro
    intro q hq
    have e := h q (by omega)
    by_cases hqc : q < c
    · rw [if_neg (by omega)] at e
      obtain ⟨k, k1, k2, k3⟩ := exists_count P (512 * k0_t4.val + q) 16384 (by omega)
      obtain ⟨m1, m2⟩ := hC k k1 k2 (by omega) (by omega)
      rw [k3, Nat.add_sub_cancel_left] at m1 m2
      exact .inl ⟨k, k1, k2, k3, e.trans m1, m2⟩
    · refine .inr ⟨by omega, e.trans (if_pos ⟨by omega, ?_⟩)⟩
      have : k0_t7_loop.trips = 32 := rfl
      omega
  iexact H

/-- The position list is reset to the dump row. -/
theorem t8_spec (h12 : ∀ x, v12 x = BitVec.ofNat 32 (x 0).val) {k0_t4 : Fin (k0_t4_loop v17).trips} {kv : S8x64.Idx → BitVec 32} :
    iprop(own (F := F) (e := .i32) (tV d i) fullShare arg17 kv : sProp 𝕄)
      ⊢ WP d i (Scf.Loop.for k0_t8_loop k0_t8_ok 0#32 (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v7 v11 v12 v17 0#32 1#32 k0_t4))
          (fun _ => iprop(∃ kv', ⌜∀ q < 512, kvq kv' q = 16384#32⌝ ∗ own (F := F) (e := .i32) (tV d i) fullShare arg17 kv')) := by
  have hpx : ∀ (t : Fin k0_t8_loop.trips) (x : S16.Idx), (k0_pay263 v12 t) x = BitVec.ofNat 32 (16 * t.val + (x 0).val) := fun t x => pos_eq _ _ _ (h12 x)
  iintro H17
  iapply (own_for (F := F) d i (fun t _ => iprop(∃ kv', ⌜∀ q < 512, q < 16 * t → kvq kv' q = 16384#32⌝ ∗
    own (F := F) (e := .i32) (tV d i) fullShare arg17 kv')) ?_)
  · intro t acc
    have ht : t.val < 32 := t.isLt
    iintro ⟨%kv', %h, H17⟩
    have hpn : ∀ x, (k0_pay263 v12 t x).toNat = 16 * t.val + (x 0).val := fun x => by
      have := lane_lt x
      rw [hpx, toNat_ofNat (by omega)]
    have hlt : ∀ x, (k0_pay263 v12 t x).toNat < 512 := fun x => by have := lane_lt x; rw [hpn]; omega
    unfold k0_t8_body
    dsimp only
    iapply (own_assume 𝒱₀ (tV d i) none (by exact lt2 (fun x => (shr_toNat (hlt x)).trans_lt (by have := hlt x; omega)) (fun x => (and_toNat (hlt x)).trans_lt (by omega))))
    iapply (kv_step (F := F) d i) $$ H17
    iintro %kv1 %hkv H17
    iapply own_pure
    iexists kv1
    isplitr
    swap; · iexact H17
    ipureintro
    obtain ⟨hA, rfl⟩ := hkv
    intro q hq hqt
    rcases kvq_storeIdx (F := F) kv' (k0_pay263 v12 t) _ _ hlt (fun _ => by rfl) (fun _ => by rfl) _ (fun _ => 1#1) hA q hq with ⟨x, e1, e2, e3⟩ | ⟨e1, e2⟩
    · rw [e3]; rfl
    · rw [e2]
      refine h q hq ?_
      by_contra hc
      refine e1 (lane (q - 16 * t.val) (by omega)) rfl ?_
      rw [hpn, lane_val]; omega
  isplitl
  · iexists kv
    isplitr
    · ipureintro
      intro q _ hq; omega
    iexact H17
  iintro %acc' ⟨%kv', %h, H⟩
  iexists kv'
  isplitr
  · ipureintro
    intro q hq
    exact h q hq hq
  iexact H

end Cert.Proof.Emb
-- ==== Proof.Pair.lean ====
/-
  The loop over pairs of windows: each window's slab of the table is copied in while the window before it is worked on.
-/
module

public import proofs.«01_k».proof.Proof.Loops
public import Idealize.ShloMosaic.Lib.SparseCore.Scatter

@[expose] public section

noncomputable section

namespace Cert.Proof.Emb

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.SparseCore.Cfg (HIx Pay)

variable {F : FTy → Type}

local notation "𝕄" => MT nD τ sig (HIx 1) (Elt F) ℕ UU ℕ

variable [FloatOps F] (d : Dev nD) (i : grid0.Coords)

/-- The first block of rows of a grid point's tile, as its program computes it. -/
theorem word4 : Scalar.addi (Scalar.muli (Scalar.addi (Scalar.muli (BitVec.ofNat 32 (i 1).val) 2#32) (BitVec.ofNat 32 (i 0).val)) 244#32)
    (Scalar.minsi (Scalar.addi (Scalar.muli (BitVec.ofNat 32 (i 1).val) 2#32) (BitVec.ofNat 32 (i 0).val)) 4#32) = BitVec.ofNat 32 (tLo (wid i)) := by
  have hw := wid_lt i
  have h1 : Scalar.addi (Scalar.muli (BitVec.ofNat 32 (i 1).val) 2#32) (BitVec.ofNat 32 (i 0).val) = BitVec.ofNat 32 (wid i) :=
    (congrArg (fun z => Scalar.addi z (BitVec.ofNat 32 (i 0).val)) (muli_ofNat (i 1).val 2)).trans (addi_ofNat _ _)
  rw [h1]
  have h2 : Scalar.muli (BitVec.ofNat 32 (wid i)) 244#32 = BitVec.ofNat 32 (wid i * 244) := muli_ofNat _ 244
  have h3 : Scalar.minsi (BitVec.ofNat 32 (wid i)) 4#32 = BitVec.ofNat 32 (min (wid i) 4) := minsi_ofNat (by omega) (by decide)
  rw [h2, h3]
  refine (addi_ofNat _ _).trans ?_
  unfold tLo
  rw [Nat.mul_comm]

/-- How many blocks of rows, as its program computes it. -/
theorem word6 : Scalar.select (Scalar.cmpi .slt (Scalar.addi (Scalar.muli (BitVec.ofNat 32 (i 1).val) 2#32) (BitVec.ofNat 32 (i 0).val)) 4#32) 245#32 244#32
    = BitVec.ofNat 32 (tN (wid i)) := by
  have hw := wid_lt i
  have h1 : Scalar.addi (Scalar.muli (BitVec.ofNat 32 (i 1).val) 2#32) (BitVec.ofNat 32 (i 0).val) = BitVec.ofNat 32 (wid i) :=
    (congrArg (fun z => Scalar.addi z (BitVec.ofNat 32 (i 0).val)) (muli_ofNat (i 1).val 2)).trans (addi_ofNat _ _)
  rw [h1]
  have h2 : Scalar.cmpi .slt (BitVec.ofNat 32 (wid i)) 4#32 = 1#1 ↔ wid i < 4 := by
    rw [show Scalar.cmpi .slt (BitVec.ofNat 32 (wid i)) 4#32 = IntOp.cmpi .slt (BitVec.ofNat 32 (wid i)) 4#32 from rfl, slt_one, toInt_ofNat (by omega),
      show (4#32 : BitVec 32).toInt = 4 from by decide]
    omega
  show (if Scalar.cmpi .slt (BitVec.ofNat 32 (wid i)) 4#32 = 1#1 then (245#32 : BitVec 32) else 244#32) = _
  unfold tN
  by_cases h : wid i < 4
  · rw [if_pos (h2.2 h), if_pos h]
  · rw [if_neg (fun h' => h (h2.1 h')), if_neg h]

theorem off7 : k0_off7 i 0 = 0 ∧ k0_off7 i 1 = win (wid i) 0 := by
  have hl := win_le (wid_lt i) 0
  exact ⟨rfl, (congrArg BitVec.toNat (win_word (wid_lt i) (word4 i) (word6 i) (t := 0) (by decide) rfl)).trans (toNat_ofNat (by omega))⟩

theorem off9 (t : Fin k0_t10_loop.trips) : k0_off9 i t 0 = 0 ∧ k0_off9 i t 1 = win (wid i) (2 * t.val + 1) := by
  have hl := win_le (wid_lt i) (2 * t.val + 1)
  have ht : t.val < 31 := t.isLt
  refine ⟨rfl, (congrArg BitVec.toNat (win_word (wid_lt i) (word4 i) (word6 i) (t := 2 * t.val + 1) (by omega) ?_)).trans (toNat_ofNat (by omega))⟩
  rw [iv_eq]
  exact ((congrArg _ ((congrArg (fun z => Scalar.addi z 1#32) (muli_ofNat 2 t.val)).trans (addi_ofNat _ 1))).trans (muli_ofNat 4 _))

theorem off14 (t : Fin k0_t10_loop.trips) : k0_off14 i t 0 = 0 ∧ k0_off14 i t 1 = win (wid i) (2 * t.val + 2) := by
  have hl := win_le (wid_lt i) (2 * t.val + 2)
  have ht : t.val < 31 := t.isLt
  refine ⟨rfl, (congrArg BitVec.toNat (win_word (wid_lt i) (word4 i) (word6 i) (t := 2 * t.val + 2) (by omega) ?_)).trans (toNat_ofNat (by omega))⟩
  rw [iv_eq]
  exact ((congrArg _ ((congrArg (fun z => Scalar.addi z 2#32) (muli_ofNat 2 t.val)).trans (addi_ofNat _ 2))).trans (muli_ofNat 4 _))

/-- Whether a count is positive, as the programs ask it. -/
theorem pos_iff {x : BitVec 32} {c : ℕ} (hx : x = BitVec.ofNat 32 c) (hc : c < 2 ^ 31) :
    Scalar.cmpi .ne (Scalar.extui (Scalar.cmpi .sgt x 0#32)) 0#32 = (1#1 : BitVec 1) ↔ 0 < c := by
  have h1 : Scalar.cmpi .sgt x 0#32 = 1#1 ↔ 0 < c := by
    rw [show Scalar.cmpi .sgt x 0#32 = IntOp.cmpi .sgt x 0#32 from rfl, sgt_one, hx, toInt_ofNat hc, show (0#32 : BitVec 32).toInt = 0 from by decide]
    omega
  rw [← h1]
  generalize Scalar.cmpi .sgt x 0#32 = b
  revert b
  decide

/-- A loop of no trips. -/
theorem own_for_zero {L : Scf.Loop 32} {hok : L.OK} {σ : Type} {init : σ} {body : Fin L.trips → σ → Pg F i σ} (h0 : L.trips = 0) {Q : σ → sProp 𝕄} :
    Q init ⊢ WP d i (Scf.Loop.for L hok init body) Q := by
  iintro H
  iapply (own_for (F := F) d i (fun _ acc => iprop(⌜acc = init⌝ ∗ Q init)) (fun k => absurd k.isLt (by omega)))
  isplitl
  · isplitr
    · ipureintro; rfl
    iexact H
  iintro %acc ⟨%h, H⟩
  rw [h]
  iexact H

/-- A conditional whose branches go on alike. -/
theorem own_dite {α : Type} {c : Prop} [Decidable c] {B : c → Pg F i α} {Z : Pg F i α} {Q : α → sProp 𝕄} {R P : sProp 𝕄} (hZ : R ⊢ WP d i Z Q)
    (hB : ∀ h, (R ⊢ WP d i Z Q) → P ⊢ WP d i (B h) Q) (hn : ¬ c → P ⊢ R) : P ⊢ WP d i (if h : c then B h else Z) Q := by
  by_cases h : c
  · rw [dif_pos h]; exact hB h hZ
  · rw [dif_neg h]; exact (hn h).trans hZ

/-- The same without the condition's proof. -/
theorem own_ite {α : Type} {c : Prop} [Decidable c] {B : Pg F i α} {Z : Pg F i α} {Q : α → sProp 𝕄} {R P : sProp 𝕄} (hZ : R ⊢ WP d i Z Q)
    (hB : c → (R ⊢ WP d i Z Q) → P ⊢ WP d i B Q) (hn : ¬ c → P ⊢ R) : P ⊢ WP d i (if c then B else Z) Q := by
  by_cases h : c
  · rw [if_pos h]; exact hB h hZ
  · rw [if_neg h]; exact (hn h).trans hZ

/-- A side condition that holds, on a tile. -/
theorem asm {P : Prop} {dP : Decidable P} {α : Type} {k : PLift P → Pg F i α} {Q : α → sProp 𝕄} (h : P) :
    WP d i (k ⟨h⟩) Q ⊢ WP d i (Prog.lift (.assume P dP) >>= k) Q :=
  own_assume 𝒱₀ (tV d i) none h

/-- A slab's buffer at rest, with the tile's share of the table. -/
def Idle (q : PosShare TreeShare) (mT : Memref sig .scVector .hbm S32x1000000 .f32) (mS : Memref sig .scVector .vmem S32x512 .f32) (sm : DmaSem sig)
    (tab : S32x1000000.Idx → Elt F .f32) : sProp 𝕄 :=
  iprop(∃ g, own (F := F) (tV d i) q mT tab ∗ own (F := F) (tV d i) fullShare mS g ∗ semVal (tV d i, .dma sm) 0)

/-- A slab's copy in flight: the rows from `a` on. -/
def Busy (q : PosShare TreeShare) (mT : Memref sig .scVector .hbm S32x1000000 .f32) (mS : Memref sig .scVector .vmem S32x512 .f32) (sm : DmaSem sig)
    (tab : S32x1000000.Idx → Elt F .f32) (a : ℕ) : sProp 𝕄 :=
  Flight EC (tV d i) (.dma sm) none mS.view.dmaCredit
    iprop(∃ g : S32x512.Idx → Elt F .f32, ⌜∀ y, g y = tabT tab (y 0).val (a + (y 1).val)⌝ ∗ own (F := F) (tV d i) q mT tab ∗ own (F := F) (tV d i) fullShare mS g)

/-- The state of a slab by the number of rows its window lists: at rest if none, in flight otherwise. -/
def Slab (q : PosShare TreeShare) (mT : Memref sig .scVector .hbm S32x1000000 .f32) (mS : Memref sig .scVector .vmem S32x512 .f32) (sm : DmaSem sig)
    (tab : S32x1000000.Idx → Elt F .f32) (a c : ℕ) : sProp 𝕄 :=
  iprop(⌜c = 0⌝ ∗ Idle (F := F) d i q mT mS sm tab ∨ ⌜0 < c⌝ ∗ Busy (F := F) d i q mT mS sm tab a)

/-- The issue of a slab's copy. -/
theorem slab_issue {q : PosShare TreeShare} {mT : Memref sig .scVector .hbm S32x1000000 .f32} {mS : Memref sig .scVector .vmem S32x512 .f32} {sm : DmaSem sig}
    {tab : S32x1000000.Idx → Elt F .f32} {a : ℕ} (ha : a + 512 ≤ 1000000) {off : Fin 2 → ℕ} {hin : ∀ a, off a + S32x512.size a ≤ S32x1000000.size a}
    {h1 : ∀ a, (Rect.unit (s := S32x1000000) off S32x512.size hin).stride a = 1}
    {ws : (mT.slice (Rect.unit (s := S32x1000000) off S32x512.size hin) h1).view.WordExact} {w6 : mS.view.WordExact} {hty} {α : Type} {k : PUnit → Pg F i α} {Q : α → sProp 𝕄}
    (hoff : off 0 = 0 ∧ off 1 = a) :
    Idle (F := F) d i q mT mS sm tab
      ⊢ iprop((Busy (F := F) d i q mT mS sm tab a -∗ WP d i (k ⟨⟩) Q)
        -∗ WP d i (Prog.lift (.enqueueDma (mT.slice (Rect.unit (s := S32x1000000) off S32x512.size hin) h1) (.here mS) (.dma sm) ws w6 hty) >>= k) Q) := by
  unfold Idle Busy
  iintro ⟨%g, HT, HS, Hs⟩ Hk
  ihave HT := (own_slice (tV d i) (m := mT) (Rect.unit (s := S32x1000000) off S32x512.size hin) h1) $$ HT
  icases HT with ⟨HT, Hb⟩
  iapply (own_dma EC 𝒱₀ (tV d i) none none mS.view.dmaCredit rfl (View.dmaCredit_pos _ (by decide))) $$ [HT HS Hs]
  · isplitl [HT]; · iexact HT
    isplitl [HS]; · iexact HS
    iexact Hs
  iintro HF
  iapply Hk
  iapply (Transfers.Flight_mono EC (tV d i) (D := iprop((own (F := F) (tV d i) q (mT.slice (Rect.unit (s := S32x1000000) off S32x512.size hin) h1) (fun x => tab ((Rect.unit (s := S32x1000000) off S32x512.size hin).emb x)) -∗ own (F := F) (tV d i) q mT tab)
    ∗ own (F := F) (tV d i) fullShare mS (fun x => tab ((Rect.unit (s := S32x1000000) off S32x512.size hin).emb x))
    ∗ own (F := F) (tV d i) q (mT.slice (Rect.unit (s := S32x1000000) off S32x512.size hin) h1) (fun x => tab ((Rect.unit (s := S32x1000000) off S32x512.size hin).emb x)))) ?_)
  · iintro ⟨Hb, HS, HT⟩
    iexists (fun x => tab ((Rect.unit (s := S32x1000000) off S32x512.size hin).emb x))
    isplitr
    · ipureintro
      intro y
      have h0 : (y 0).val < 32 := (y 0).isLt
      have h1 : (y 1).val < 512 := (y 1).isLt
      unfold tabT
      rw [dif_pos ⟨h0, by omega⟩]
      refine congrArg tab (funext fun b => Fin.ext ?_)
      rw [Rect.emb_apply]
      rcases b with ⟨_ | _ | b, hb⟩
      · show off 0 + 1 * (y 0).val = (y 0).val
        omega
      · show off 1 + 1 * (y 1).val = a + (y 1).val
        omega
      · exact absurd hb (by show ¬ b + 2 < 2; omega)
    isplitl [Hb HT]
    · iapply Hb; iexact HT
    iexact HS
  iapply (Transfers.Flight_frame EC (tV d i))
  isplitl [Hb]; · iexact Hb
  iexact HF

variable {arg2 : Memref sig .scVector .hbm S16384 .i32} {harg2 : arg2.IsWhole} {arg3 : Memref sig .scVector .hbm S32x1000000 .f32}
   {harg3 : arg3.IsWhole} {arg4 : Memref sig .scVector .hbm S64x32 .f32} {harg4 : arg4.IsWhole}
   {arg5 : Memref sig .scVector .hbm S16400x128 .f32} {harg5 : arg5.IsWhole} {arg6 : Memref sig .scVector .vmem S2048 .i32}
   {harg6 : arg6.IsWhole} {arg7 : Memref sig .scVector .vmem S1024 .i32} {harg7 : arg7.IsWhole}
   {arg8 : Memref sig .scVector .vmem S1024 .i32} {harg8 : arg8.IsWhole} {arg9 : Memref sig .scVector .vmem S32x512 .f32}
   {harg9 : arg9.IsWhole} {arg10 : Memref sig .scVector .vmem S32x512 .f32} {harg10 : arg10.IsWhole}
   {arg11 : Memref sig .scVector .vmem S64x32 .f32} {harg11 : arg11.IsWhole} {arg12 : Memref sig .scVector .vmem S512 .i32}
   {harg12 : arg12.IsWhole} {arg13 : Memref sig .scVector .vmem S512 .i32} {harg13 : arg13.IsWhole}
   {arg14 : Memref sig .scVector .vmem S512x32 .f32} {harg14 : arg14.IsWhole} {arg15 : Memref sig .scVector .vmem S64x128 .f32}
   {harg15 : arg15.IsWhole} {arg16 : Memref sig .scVector .vmem S64x128 .f32} {harg16 : arg16.IsWhole}
   {arg17 : Memref sig .scVector .vmem S8x64 .i32} {harg17 : arg17.IsWhole} {arg18 : DmaSems sig S_} {arg19 : DmaSems sig S_}
   {arg20 : DmaSems sig S_} {arg21 : DmaSems sig S_} {v46_r0 : DmaSems sig S_} {v49_r1 : DmaSems sig S_} {v143_r2 : DmaSems sig S_}
   {v143_r3 : DmaSems sig S_}

variable {w : ℕ} {v4 v6 v65 : BitVec 32} {v12 : IVec S16 32}

theorem none_of_count {P : ℕ → Prop} [DecidablePred P] {N : ℕ} (h : Nat.count P N = 0) (q : ℕ) (hq : q < N) : ¬ P q := fun hP => by
  have := Nat.count_strict_mono hP hq
  omega

/-- The window listed in a buffer: how many rows, which rows. -/
def Lists (w s : ℕ) (mi : S1024.Idx → BitVec 32) (c : ℕ) (g : S512.Idx → BitVec 32) : Prop :=
  c = Nat.count (fun q => inI (win w s) (win w s + 512) (at1 mi q)) 512 ∧ Lst (win w s) (win w s + 512) (at1 mi) (at1 g) 512

/-- The rows of the first `n` windows. -/
abbrev Done (w : ℕ) (mi : S1024.Idx → BitVec 32) (n : ℕ) (q : ℕ) : Prop := ∃ s < n, inI (win w s) (win w s + 512) (at1 mi q)

theorem done_succ {tab : S32x1000000.Idx → Elt F .f32} {mi mk : S1024.Idx → BitVec 32} {kv : S8x64.Idx → BitVec 32} {ob : S512x32.Idx → Elt F .f32} {n : ℕ}
    (h : Ext tab mi mk (fun q => Done w mi n q ∨ inI (win w n) (win w n + 512) (at1 mi q)) kv ob) : Ext tab mi mk (Done w mi (n + 1)) kv ob :=
  Ext_mono h fun q _ ⟨s, hs, hq⟩ => by
    rcases Nat.lt_succ_iff_lt_or_eq.1 hs with hs | rfl
    · exact .inl ⟨s, hs, hq⟩
    · exact .inr hq

theorem done_none {tab : S32x1000000.Idx → Elt F .f32} {mi mk : S1024.Idx → BitVec 32} {kv : S8x64.Idx → BitVec 32} {ob : S512x32.Idx → Elt F .f32} {n : ℕ}
    (hc : Nat.count (fun q => inI (win w n) (win w n + 512) (at1 mi q)) 512 = 0) (h : Ext tab mi mk (Done w mi n) kv ob) : Ext tab mi mk (Done w mi (n + 1)) kv ob :=
  Ext_mono h fun q hq ⟨s, hs, hq'⟩ => by
    rcases Nat.lt_succ_iff_lt_or_eq.1 hs with hs | rfl
    · exact ⟨s, hs, hq'⟩
    · exact absurd hq' (none_of_count hc q hq)

/-- The state between two windows: the lists of both buffers, what is gathered, one slab possibly in flight, the other possibly too. -/
def PairS (m7 m8 : Memref sig .scVector .vmem S1024 .i32) (mE mO : Memref sig .scVector .vmem S512 .i32) (mT : Memref sig .scVector .hbm S32x1000000 .f32)
    (sE sO : Memref sig .scVector .vmem S32x512 .f32) (m17 : Memref sig .scVector .vmem S8x64 .i32) (m14 : Memref sig .scVector .vmem S512x32 .f32)
    (uE uO : DmaSem sig) (qa qb : PosShare TreeShare) (tab : S32x1000000.Idx → Elt F .f32) (mi mk : S1024.Idx → BitVec 32) (O : CellTallies nD τ sig (HIx 1)) (W : Waits sig (HIx 1))
    (w : ℕ) (n a b : ℕ) (P : ℕ → ℕ → (S512.Idx → BitVec 32) → (S512.Idx → BitVec 32) → Prop) : sProp 𝕄 :=
  iprop(∃ cE cO gE gO kv ob, ⌜P cE cO gE gO ∧ (cE ≤ 512 ∧ cO ≤ 512) ∧ (∀ n < 512, (at1 gE n).toNat < 512) ∧ (∀ n < 512, (at1 gO n).toNat < 512) ∧ Ext tab mi mk (Done w mi n) kv ob⌝
    ∗ own (F := F) (e := .i32) (tV d i) fullShare mE gE ∗ own (F := F) (e := .i32) (tV d i) fullShare mO gO
    ∗ own (F := F) (e := .i32) (tV d i) fullShare m7 mi ∗ own (F := F) (e := .i32) (tV d i) fullShare m8 mk
    ∗ own (F := F) (e := .i32) (tV d i) fullShare m17 kv ∗ own (F := F) (tV d i) fullShare m14 ob
    ∗ Slab (F := F) d i qa mT sE uE tab a cE ∗ Slab (F := F) d i qb mT sO uO tab b cO ∗ Ow (F := F) d i O W)

variable {qa qb : PosShare TreeShare} {tab : S32x1000000.Idx → Elt F .f32} {mi mk : S1024.Idx → BitVec 32} {O : CellTallies nD τ sig (HIx 1)} {W : Waits sig (HIx 1)}

local notation "PSt" => PairS (F := F) d i arg7 arg8 arg12 arg13 arg3 arg9 arg10 arg17 arg14 arg18.sem arg19.sem qa qb tab mi mk O W w

theorem idle_slab {q : PosShare TreeShare} {mT : Memref sig .scVector .hbm S32x1000000 .f32} {mS : Memref sig .scVector .vmem S32x512 .f32} {sm : DmaSem sig} {a : ℕ} :
    Idle (F := F) d i q mT mS sm tab ⊢ Slab (F := F) d i q mT mS sm tab a 0 := by
  unfold Slab
  iintro H
  ileft
  isplitr
  · ipureintro; rfl
  iexact H

theorem slab_idle {q : PosShare TreeShare} {mT : Memref sig .scVector .hbm S32x1000000 .f32} {mS : Memref sig .scVector .vmem S32x512 .f32} {sm : DmaSem sig} {a c : ℕ} (hc : ¬ 0 < c) :
    Slab (F := F) d i q mT mS sm tab a c ⊢ Idle (F := F) d i q mT mS sm tab := by
  unfold Slab
  iintro (⟨%h, H⟩ | ⟨%h, H⟩)
  · iexact H
  · exact absurd h hc

theorem busy_slab {q : PosShare TreeShare} {mT : Memref sig .scVector .hbm S32x1000000 .f32} {mS : Memref sig .scVector .vmem S32x512 .f32} {sm : DmaSem sig} {a c : ℕ} (hc : 0 < c) :
    Busy (F := F) d i q mT mS sm tab a ⊢ Slab (F := F) d i q mT mS sm tab a c := by
  unfold Slab
  iintro H
  iright
  isplitr
  · ipureintro; exact hc
  iexact H

theorem slab_busy {q : PosShare TreeShare} {mT : Memref sig .scVector .hbm S32x1000000 .f32} {mS : Memref sig .scVector .vmem S32x512 .f32} {sm : DmaSem sig} {a c : ℕ} (hc : 0 < c) :
    Slab (F := F) d i q mT mS sm tab a c ⊢ Busy (F := F) d i q mT mS sm tab a := by
  unfold Slab
  iintro (⟨%h, H⟩ | ⟨%h, H⟩)
  · exact absurd h (by omega)
  · iexact H

/-- The first half of a pair: the odd window's scan and copy, the even window's rows, the next even window's scan. -/
theorem part31_spec (hw : w < 32) (hwi : w = wid i) (h4 : v4 = BitVec.ofNat 32 (tLo w)) (h6 : v6 = BitVec.ofNat 32 (tN w)) (h12 : ∀ x, v12 x = BitVec.ofNat 32 (x 0).val)
    (t : Fin k0_t10_loop.trips) {acc : BitVec 32} :
    PSt (2 * t.val) (win w (2 * t.val)) 0 (fun cE cO gE _ => acc = BitVec.ofNat 32 cE ∧ Lists w (2 * t.val) mi cE gE ∧ cO = 0)
      ⊢ WP d i (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 0#32 1#32 t acc)
          (fun r => PSt (2 * t.val + 1) 0 (win w (2 * t.val + 1)) (fun cE cO gE gO => cE = 0 ∧ r.1 = BitVec.ofNat 32 (2 * t.val + 1) ∧ r.2.1 = BitVec.ofNat 32 cO ∧ Lists w (2 * t.val + 1) mi cO gO
            ∧ r.2.2.2.1 = BitVec.ofNat 32 (2 * t.val + 2) ∧ ∃ c, r.2.2.2.2 = BitVec.ofNat 32 c ∧ Lists w (min (2 * t.val + 2) 61) mi c gE)) := by
  have ht : t.val < 31 := t.isLt
  unfold PairS
  iintro ⟨%cE, %cO, %gE, %gO, %kv, %ob, %h, HE, HO, H7, H8, H17, H14, SE, SO, Hw⟩
  obtain ⟨⟨ha, hL, hcO⟩, hle, hE1, hO1, hX⟩ := h
  rw [k0_part31_eq_skeleton]
  unfold k0_part31_skel
  dsimp only
  iapply (asm (F := F) d i (by rw [ha]; exact (trips12 ⟨cE, Nat.lt_succ_of_le hle.1⟩).1))
  rw [WP_bind]
  iapply (wp_wand_r _)
  isplitl [H7 HO]
  · iapply (t11_spec (F := F) d i hw h4 h6 h12 mi gO hO1)
    isplitl [H7]; · iexact H7
    iexact HO
  iintro %v151 ⟨%gO', %hO', H7, HO⟩
  obtain ⟨cO', hcO'⟩ : ∃ c, c = Nat.count (fun q => inI (win w (2 * t.val + 1)) (win w (2 * t.val + 1) + 512) (at1 mi q)) 512 := ⟨_, rfl⟩
  have hcO5 : cO' ≤ 512 := hcO' ▸ Nat.count_le _
  have hv : v151 = BitVec.ofNat 32 cO' := hO'.1.trans (by rw [hcO'])
  iapply (asm (F := F) d i (show k0_chk141 v151 by rw [hv]; exact (trips12 ⟨cO', Nat.lt_succ_of_le hcO5⟩).1))
  have hpO := pos_iff hv (by omega)
  have hpE := pos_iff ha (by omega)
  have hwin := win_le hw (2 * t.val + 1)
  have hwin' := win_le hw (2 * t.val)
  subst hcO
  ihave SO := (slab_idle (F := F) d i (by omega)) $$ SO
  -- the odd window's copy
  iapply (own_ite (F := F) d i (R := iprop(own (F := F) (e := .i32) (tV d i) fullShare arg12 gE ∗ own (F := F) (e := .i32) (tV d i) fullShare arg13 gO'
    ∗ own (F := F) (e := .i32) (tV d i) fullShare arg7 mi ∗ own (F := F) (e := .i32) (tV d i) fullShare arg8 mk
    ∗ own (F := F) (e := .i32) (tV d i) fullShare arg17 kv ∗ own (F := F) (tV d i) fullShare arg14 ob
    ∗ Slab (F := F) d i qa arg3 arg9 arg18.sem tab (win w (2 * t.val)) cE ∗ Slab (F := F) d i qb arg3 arg10 arg19.sem tab (win w (2 * t.val + 1)) cO' ∗ Ow (F := F) d i O W))
    (P := iprop(own (F := F) (e := .i32) (tV d i) fullShare arg12 gE ∗ own (F := F) (e := .i32) (tV d i) fullShare arg13 gO'
    ∗ own (F := F) (e := .i32) (tV d i) fullShare arg7 mi ∗ own (F := F) (e := .i32) (tV d i) fullShare arg8 mk
    ∗ own (F := F) (e := .i32) (tV d i) fullShare arg17 kv ∗ own (F := F) (tV d i) fullShare arg14 ob
    ∗ Slab (F := F) d i qa arg3 arg9 arg18.sem tab (win w (2 * t.val)) cE ∗ Idle (F := F) d i qb arg3 arg10 arg19.sem tab ∗ Ow (F := F) d i O W)) ?_ ?_ ?_) $$ [HE HO H7 H8 H17 H14 SE SO Hw]
  rotate_left
  · intro hc hZ
    iintro ⟨HE, HO, H7, H8, H17, H14, SE, SO, Hw⟩
    iapply (slab_issue (F := F) d i (a := win w (2 * t.val + 1)) (by omega) (by rw [hwi]; exact off9 i t)) $$ SO
    iintro SO
    iapply hZ
    ihave SO := (busy_slab (F := F) d i (hpO.1 hc)) $$ SO
    isplitl [HE]; · iexact HE
    isplitl [HO]; · iexact HO
    isplitl [H7]; · iexact H7
    isplitl [H8]; · iexact H8
    isplitl [H17]; · iexact H17
    isplitl [H14]; · iexact H14
    isplitl [SE]; · iexact SE
    isplitl [SO]; · iexact SO
    iexact Hw
  · intro hc
    iintro ⟨HE, HO, H7, H8, H17, H14, SE, SO, Hw⟩
    have h0 : cO' = 0 := by
      rcases Nat.eq_zero_or_pos cO' with h | h
      · exact h
      · exact absurd (hpO.2 h) hc
    ihave SO := (idle_slab (F := F) d i (a := win w (2 * t.val + 1))) $$ SO
    rw [← h0]
    isplitl [HE]; · iexact HE
    isplitl [HO]; · iexact HO
    isplitl [H7]; · iexact H7
    isplitl [H8]; · iexact H8
    isplitl [H17]; · iexact H17
    isplitl [H14]; · iexact H14
    isplitl [SE]; · iexact SE
    isplitl [SO]; · iexact SO
    iexact Hw
  · isplitl [HE]; · iexact HE
    isplitl [HO]; · iexact HO
    isplitl [H7]; · iexact H7
    isplitl [H8]; · iexact H8
    isplitl [H17]; · iexact H17
    isplitl [H14]; · iexact H14
    isplitl [SE]; · iexact SE
    isplitl [SO]; · iexact SO
    iexact Hw
  -- the even window's rows
  refine own_dite (F := F) d i (R := iprop(∃ kv ob, ⌜Ext tab mi mk (Done w mi (2 * t.val + 1)) kv ob⌝ ∗ own (F := F) (e := .i32) (tV d i) fullShare arg12 gE ∗ own (F := F) (e := .i32) (tV d i) fullShare arg13 gO'
    ∗ own (F := F) (e := .i32) (tV d i) fullShare arg7 mi ∗ own (F := F) (e := .i32) (tV d i) fullShare arg8 mk
    ∗ own (F := F) (e := .i32) (tV d i) fullShare arg17 kv ∗ own (F := F) (tV d i) fullShare arg14 ob
    ∗ Idle (F := F) d i qa arg3 arg9 arg18.sem tab ∗ Slab (F := F) d i qb arg3 arg10 arg19.sem tab (win w (2 * t.val + 1)) cO' ∗ Ow (F := F) d i O W)) ?_ ?_ ?_
  · iintro ⟨%kv', %ob', %hX', HE, HO, H7, H8, H17, H14, SE, SO, Hw⟩
    rw [WP_bind]
    iapply (wp_wand_r _)
    isplitl [H7 HE]
    · iapply (t14_spec (F := F) d i hw h4 h6 h12 mi gE hE1)
      isplitl [H7]; · iexact H7
      iexact HE
    iintro %v168 ⟨%gE', %hE', H7, HE⟩
    iapply own_pure
    iexists 0, cO', gE', gO', kv', ob'
    isplitr
    · ipureintro
      refine ⟨⟨rfl, ?_, hv, ⟨hcO', hO'.2.1⟩, ?_, ⟨_, hE'.1, rfl, hE'.2.1⟩⟩, ⟨by omega, hcO5⟩, hE'.2.2, hO'.2.2, hX'⟩
      · show Scalar.addi (Scalar.muli 2#32 (Scf.iv 0#32 1#32 t.val)) 1#32 = _
        rw [iv_eq]
        exact (congrArg (fun z => Scalar.addi z 1#32) (muli_ofNat 2 t.val)).trans (addi_ofNat _ 1)
      · show Scalar.addi (Scalar.muli 2#32 (Scf.iv 0#32 1#32 t.val)) 2#32 = _
        rw [iv_eq]
        exact (congrArg (fun z => Scalar.addi z 2#32) (muli_ofNat 2 t.val)).trans (addi_ofNat _ 2)
    ihave SE := (idle_slab (F := F) d i (a := 0)) $$ SE
    isplitl [HE]; · iexact HE
    isplitl [HO]; · iexact HO
    isplitl [H7]; · iexact H7
    isplitl [H8]; · iexact H8
    isplitl [H17]; · iexact H17
    isplitl [H14]; · iexact H14
    isplitl [SE]; · iexact SE
    isplitl [SO]; · iexact SO
    iexact Hw
  · intro hc hZ
    iintro ⟨HE, HO, H7, H8, H17, H14, SE, SO, Hw⟩
    ihave SE := (slab_busy (F := F) d i (hpE.1 hc)) $$ SE
    rw [WP_bind, k0_part15_eq_skeleton]
    unfold k0_part15_skel
    dsimp only
    iapply (Ow_wait (F := F) d i rfl) $$ [SE Hw]
    · isplitl [SE]
      · unfold Busy; iexact SE
      iexact Hw
    iintro ⟨⟨%slab, %hsl, HT, HS⟩, Hs, Hw⟩
    rw [WP_bind]
    iapply (wp_wand_r _)
    isplitl [HE H7 H8 HS H17 H14]
    · iapply (t12_spec (F := F) d i h12 (a := win w (2 * t.val)) (by omega) ?_ hsl (ha.trans (by rw [hL.1])) hL.2 hE1 (G := Done w mi (2 * t.val)) (mk := mk))
      · refine win_word hw h4 h6 (t := 2 * t.val) (by omega) ?_
        rw [iv_eq]
        exact (congrArg _ (muli_ofNat 2 t.val)).trans (muli_ofNat 4 _)
      unfold ExtS
      iexists kv, ob
      isplitr
      · ipureintro; exact hX
      isplitl [HE]; · iexact HE
      isplitl [H7]; · iexact H7
      isplitl [H8]; · iexact H8
      isplitl [HS]; · iexact HS
      isplitl [H17]; · iexact H17
      iexact H14
    unfold ExtS
    iintro %acc' ⟨%kv', %ob', %hX', HE, H7, H8, HS, H17, H14⟩
    iapply own_pure
    rw [WP_bind]
    iapply (own_for_zero (F := F) d i (by rw [ha]; exact (trips12 ⟨cE, Nat.lt_succ_of_le hle.1⟩).2.2))
    iapply hZ
    iexists kv', ob'
    isplitr
    · ipureintro; exact done_succ hX'
    isplitl [HE]; · iexact HE
    isplitl [HO]; · iexact HO
    isplitl [H7]; · iexact H7
    isplitl [H8]; · iexact H8
    isplitl [H17]; · iexact H17
    isplitl [H14]; · iexact H14
    isplitl [HT HS Hs]
    · unfold Idle
      iexists slab
      isplitl [HT]; · iexact HT
      isplitl [HS]; · iexact HS
      iexact Hs
    isplitl [SO]; · iexact SO
    iexact Hw
  · intro hc
    iintro ⟨HE, HO, H7, H8, H17, H14, SE, SO, Hw⟩
    have hc' : ¬ 0 < cE := fun h => hc (hpE.2 h)
    ihave SE := (slab_idle (F := F) d i hc') $$ SE
    iexists kv, ob
    isplitr
    · ipureintro; exact done_none (by rw [← hL.1]; omega) hX
    isplitl [HE]; · iexact HE
    isplitl [HO]; · iexact HO
    isplitl [H7]; · iexact H7
    isplitl [H8]; · iexact H8
    isplitl [H17]; · iexact H17
    isplitl [H14]; · iexact H14
    isplitl [SE]; · iexact SE
    isplitl [SO]; · iexact SO
    iexact Hw

/-- A pair of windows. -/
theorem t10_trip (hw : w < 32) (hwi : w = wid i) (h4 : v4 = BitVec.ofNat 32 (tLo w)) (h6 : v6 = BitVec.ofNat 32 (tN w)) (h12 : ∀ x, v12 x = BitVec.ofNat 32 (x 0).val)
    (t : Fin k0_t10_loop.trips) {acc : BitVec 32} :
    PSt (2 * t.val) (win w (2 * t.val)) 0 (fun cE cO gE _ => acc = BitVec.ofNat 32 cE ∧ Lists w (2 * t.val) mi cE gE ∧ cO = 0)
      ⊢ WP d i (k0_t10_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 v65 0#32 1#32 t acc)
          (fun acc' => PSt (2 * t.val + 2) (win w (2 * t.val + 2)) 0 (fun cE cO gE _ => acc' = BitVec.ofNat 32 cE ∧ (t.val + 1 < 31 → Lists w (2 * t.val + 2) mi cE gE) ∧ (¬ t.val + 1 < 31 → cE = 0) ∧ cO = 0)) := by
  have ht : t.val < 31 := t.isLt
  iintro H
  unfold k0_t10_body
  dsimp only
  rw [WP_bind]
  iapply (wp_wand_r _)
  isplitl [H]
  · iapply (part31_spec (F := F) d i hw hwi h4 h6 h12 t); iexact H
  iintro %r H
  obtain ⟨v142, v151, hw141, v158, v168⟩ := r
  unfold PairS
  icases H with ⟨%cE, %cO, %gE, %gO, %kv, %ob, %h, HE, HO, H7, H8, H17, H14, SE, SO, Hw⟩
  obtain ⟨⟨hcE, h142, h151, hLO, h158, c, h168, hLE⟩, hle, hE1, hO1, hX⟩ := h
  dsimp only at h142 h151 h158 h168
  subst hcE
  ihave SE := (slab_idle (F := F) d i (by omega)) $$ SE
  have hc5 : c ≤ 512 := hLE.1 ▸ Nat.count_le _
  have hwin := win_le hw (2 * t.val + 1)
  have hwin' := win_le hw (2 * t.val + 2)
  obtain ⟨c', hc', hc'5⟩ : ∃ c', (c' = if 2 * t.val + 2 < 62 then c else 0) ∧ c' ≤ 512 := ⟨_, rfl, by split_ifs <;> omega⟩
  have h170 : Scalar.select (Scalar.cmpi .slt v158 62#32) v168 0#32 = BitVec.ofNat 32 c' := by
    have h2 : Scalar.cmpi .slt v158 62#32 = 1#1 ↔ 2 * t.val + 2 < 62 := by
      rw [show Scalar.cmpi .slt v158 62#32 = IntOp.cmpi .slt v158 62#32 from rfl, slt_one, h158, toInt_ofNat (by omega),
        show (62#32 : BitVec 32).toInt = 62 from by decide]
      omega
    show (if Scalar.cmpi .slt v158 62#32 = 1#1 then v168 else 0#32) = _
    by_cases h : 2 * t.val + 2 < 62
    · rw [if_pos (h2.2 h), hc', if_pos h, h168]
    · rw [if_neg (fun h' => h (h2.1 h')), hc', if_neg h]
  have hpE := pos_iff h170 (by omega)
  have hpO := pos_iff h151 (by omega)
  -- the next even window's copy
  iapply (own_ite (F := F) d i (R := iprop(own (F := F) (e := .i32) (tV d i) fullShare arg12 gE ∗ own (F := F) (e := .i32) (tV d i) fullShare arg13 gO
    ∗ own (F := F) (e := .i32) (tV d i) fullShare arg7 mi ∗ own (F := F) (e := .i32) (tV d i) fullShare arg8 mk
    ∗ own (F := F) (e := .i32) (tV d i) fullShare arg17 kv ∗ own (F := F) (tV d i) fullShare arg14 ob
    ∗ Slab (F := F) d i qa arg3 arg9 arg18.sem tab (win w (2 * t.val + 2)) c' ∗ Slab (F := F) d i qb arg3 arg10 arg19.sem tab (win w (2 * t.val + 1)) cO ∗ Ow (F := F) d i O W))
    (P := iprop(own (F := F) (e := .i32) (tV d i) fullShare arg12 gE ∗ own (F := F) (e := .i32) (tV d i) fullShare arg13 gO
    ∗ own (F := F) (e := .i32) (tV d i) fullShare arg7 mi ∗ own (F := F) (e := .i32) (tV d i) fullShare arg8 mk
    ∗ own (F := F) (e := .i32) (tV d i) fullShare arg17 kv ∗ own (F := F) (tV d i) fullShare arg14 ob
    ∗ Idle (F := F) d i qa arg3 arg9 arg18.sem tab ∗ Slab (F := F) d i qb arg3 arg10 arg19.sem tab (win w (2 * t.val + 1)) cO ∗ Ow (F := F) d i O W)) ?_ ?_ ?_) $$ [HE HO H7 H8 H17 H14 SE SO Hw]
  rotate_left
  · intro hc hZ
    iintro ⟨HE, HO, H7, H8, H17, H14, SE, SO, Hw⟩
    iapply (slab_issue (F := F) d i (a := win w (2 * t.val + 2)) (by omega) (by rw [hwi]; exact off14 i t)) $$ SE
    iintro SE
    iapply hZ
    ihave SE := (busy_slab (F := F) d i (hpE.1 hc)) $$ SE
    isplitl [HE]; · iexact HE
    isplitl [HO]; · iexact HO
    isplitl [H7]; · iexact H7
    isplitl [H8]; · iexact H8
    isplitl [H17]; · iexact H17
    isplitl [H14]; · iexact H14
    isplitl [SE]; · iexact SE
    isplitl [SO]; · iexact SO
    iexact Hw
  · intro hc
    iintro ⟨HE, HO, H7, H8, H17, H14, SE, SO, Hw⟩
    have h0 : c' = 0 := by
      rcases Nat.eq_zero_or_pos c' with h | h
      · exact h
      · exact absurd (hpE.2 h) hc
    ihave SE := (idle_slab (F := F) d i (a := win w (2 * t.val + 2))) $$ SE
    rw [← h0]
    isplitl [HE]; · iexact HE
    isplitl [HO]; · iexact HO
    isplitl [H7]; · iexact H7
    isplitl [H8]; · iexact H8
    isplitl [H17]; · iexact H17
    isplitl [H14]; · iexact H14
    isplitl [SE]; · iexact SE
    isplitl [SO]; · iexact SO
    iexact Hw
  · isplitl [HE]; · iexact HE
    isplitl [HO]; · iexact HO
    isplitl [H7]; · iexact H7
    isplitl [H8]; · iexact H8
    isplitl [H17]; · iexact H17
    isplitl [H14]; · iexact H14
    isplitl [SE]; · iexact SE
    isplitl [SO]; · iexact SO
    iexact Hw
  refine own_dite (F := F) d i (R := iprop(∃ kv ob, ⌜Ext tab mi mk (Done w mi (2 * t.val + 2)) kv ob⌝ ∗ own (F := F) (e := .i32) (tV d i) fullShare arg12 gE ∗ own (F := F) (e := .i32) (tV d i) fullShare arg13 gO
    ∗ own (F := F) (e := .i32) (tV d i) fullShare arg7 mi ∗ own (F := F) (e := .i32) (tV d i) fullShare arg8 mk
    ∗ own (F := F) (e := .i32) (tV d i) fullShare arg17 kv ∗ own (F := F) (tV d i) fullShare arg14 ob
    ∗ Slab (F := F) d i qa arg3 arg9 arg18.sem tab (win w (2 * t.val + 2)) c' ∗ Idle (F := F) d i qb arg3 arg10 arg19.sem tab ∗ Ow (F := F) d i O W)) ?_ ?_ ?_
  · iintro ⟨%kv', %ob', %hX', HE, HO, H7, H8, H17, H14, SE, SO, Hw⟩
    iapply own_pure
    iexists c', 0, gE, gO, kv', ob'
    isplitr
    · ipureintro
      refine ⟨⟨h170, fun h => ?_, fun h => ?_, rfl⟩, ⟨hc'5, by omega⟩, hE1, hO1, hX'⟩
      · rw [hc', if_pos (by omega)]
        have : min (2 * t.val + 2) 61 = 2 * t.val + 2 := by omega
        rw [this] at hLE
        exact hLE
      · rw [hc', if_neg (by omega)]
    ihave SO := (idle_slab (F := F) d i (a := 0)) $$ SO
    isplitl [HE]; · iexact HE
    isplitl [HO]; · iexact HO
    isplitl [H7]; · iexact H7
    isplitl [H8]; · iexact H8
    isplitl [H17]; · iexact H17
    isplitl [H14]; · iexact H14
    isplitl [SE]; · iexact SE
    isplitl [SO]; · iexact SO
    iexact Hw
  · intro hc hZ
    iintro ⟨HE, HO, H7, H8, H17, H14, SE, SO, Hw⟩
    ihave SO := (slab_busy (F := F) d i (hpO.1 hc)) $$ SO
    rw [WP_bind, k0_part30_eq_skeleton]
    unfold k0_part30_skel
    dsimp only
    iapply (Ow_wait (F := F) d i rfl) $$ [SO Hw]
    · isplitl [SO]
      · unfold Busy; iexact SO
      iexact Hw
    iintro ⟨⟨%slab, %hsl, HT, HS⟩, Hs, Hw⟩
    rw [WP_bind]
    iapply (wp_wand_r _)
    isplitl [HO H7 H8 HS H17 H14]
    · iapply (t15_spec (F := F) d i h12 (a := win w (2 * t.val + 1)) (by omega) ?_ hsl (h151.trans (by rw [hLO.1])) hLO.2 hO1 (G := Done w mi (2 * t.val + 1)) (mk := mk))
      · exact win_word hw h4 h6 (t := 2 * t.val + 1) (by omega) ((congrArg (fun z => Scalar.muli 4#32 z) h142).trans (muli_ofNat 4 _))
      unfold ExtS
      iexists kv, ob
      isplitr
      · ipureintro; exact hX
      isplitl [HO]; · iexact HO
      isplitl [H7]; · iexact H7
      isplitl [H8]; · iexact H8
      isplitl [HS]; · iexact HS
      isplitl [H17]; · iexact H17
      iexact H14
    unfold ExtS
    iintro %acc' ⟨%kv', %ob', %hX', HO, H7, H8, HS, H17, H14⟩
    iapply own_pure
    rw [WP_bind]
    iapply (own_for_zero (F := F) d i (by rw [h151]; exact (trips12 ⟨cO, Nat.lt_succ_of_le hle.2⟩).2.2))
    iapply hZ
    iexists kv', ob'
    isplitr
    · ipureintro; exact done_succ hX'
    isplitl [HE]; · iexact HE
    isplitl [HO]; · iexact HO
    isplitl [H7]; · iexact H7
    isplitl [H8]; · iexact H8
    isplitl [H17]; · iexact H17
    isplitl [H14]; · iexact H14
    isplitl [SE]; · iexact SE
    isplitl [HT HS Hs]
    · unfold Idle
      iexists slab
      isplitl [HT]; · iexact HT
      isplitl [HS]; · iexact HS
      iexact Hs
    iexact Hw
  · intro hc
    iintro ⟨HE, HO, H7, H8, H17, H14, SE, SO, Hw⟩
    have hc' : ¬ 0 < cO := fun h => hc (hpO.2 h)
    ihave SO := (slab_idle (F := F) d i hc') $$ SO
    iexists kv, ob
    isplitr
    · ipureintro; exact done_none (by rw [← hLO.1]; omega) hX
    isplitl [HE]; · iexact HE
    isplitl [HO]; · iexact HO
    isplitl [H7]; · iexact H7
    isplitl [H8]; · iexact H8
    isplitl [H17]; · iexact H17
    isplitl [H14]; · iexact H14
    isplitl [SE]; · iexact SE
    isplitl [SO]; · iexact SO
    iexact Hw

/-- All 62 windows, once the first is listed and its slab on its way. -/
theorem t10_spec (hw : w < 32) (hwi : w = wid i) (h4 : v4 = BitVec.ofNat 32 (tLo w)) (h6 : v6 = BitVec.ofNat 32 (tN w)) (h12 : ∀ x, v12 x = BitVec.ofNat 32 (x 0).val) {acc : BitVec 32} :
    PSt 0 (win w 0) 0 (fun cE cO gE _ => acc = BitVec.ofNat 32 cE ∧ Lists w 0 mi cE gE ∧ cO = 0)
      ⊢ WP d i (Scf.Loop.for k0_t10_loop k0_t10_ok acc (k0_t10_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 v65 0#32 1#32))
          (fun _ => PSt 62 0 0 (fun cE cO _ _ => cE = 0 ∧ cO = 0)) := by
  iintro H
  iapply (own_for (F := F) d i (fun t acc' => PSt (2 * t) (win w (2 * t)) 0 (fun cE cO gE _ => acc' = BitVec.ofNat 32 cE ∧ (t < 31 → Lists w (2 * t) mi cE gE) ∧ (¬ t < 31 → cE = 0) ∧ cO = 0)) ?_)
  · intro t acc
    have ht : t.val < 31 := t.isLt
    iintro H
    iapply (t10_trip (F := F) d i hw hwi h4 h6 h12 t)
    unfold PairS
    icases H with ⟨%cE, %cO, %gE, %gO, %kv, %ob, %h, H⟩
    iexists cE, cO, gE, gO, kv, ob
    isplitr
    · ipureintro
      exact ⟨⟨h.1.1, h.1.2.1 ht, h.1.2.2.2⟩, h.2⟩
    iexact H
  isplitl
  · unfold PairS
    icases H with ⟨%cE, %cO, %gE, %gO, %kv, %ob, %h, H⟩
    iexists cE, cO, gE, gO, kv, ob
    isplitr
    · ipureintro
      exact ⟨⟨h.1.1, fun _ => h.1.2.1, fun h' => absurd (by decide) h', h.1.2.2⟩, h.2⟩
    iexact H
  iintro %acc' H
  unfold PairS
  icases H with ⟨%cE, %cO, %gE, %gO, %kv, %ob, %h, HE, HO, H7, H8, H17, H14, SE, SO, Hw⟩
  iexists cE, cO, gE, gO, kv, ob
  have h0 : cE = 0 := h.1.2.2.1 (by decide)
  isplitr
  · ipureintro
    exact ⟨⟨h0, h.1.2.2.2⟩, h.2⟩
  subst h0
  ihave SE := (slab_idle (F := F) d i (by omega)) $$ SE
  ihave SE := (idle_slab (F := F) d i (a := 0)) $$ SE
  isplitl [HE]; · iexact HE
  isplitl [HO]; · iexact HO
  isplitl [H7]; · iexact H7
  isplitl [H8]; · iexact H8
  isplitl [H17]; · iexact H17
  isplitl [H14]; · iexact H14
  isplitl [SE]; · iexact SE
  isplitl [SO]; · iexact SO
  iexact Hw

end Cert.Proof.Emb
-- ==== Proof.Staging.lean ====
/-
  The staging of a group of 64 gathered rows for their way out.
-/
module

public import proofs.«01_k».proof.Proof.Pair

@[expose] public section

noncomputable section

namespace Cert.Proof.Emb

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.SparseCore.Cfg (HIx Pay)

variable {F : FTy → Type}

local notation "𝕄" => MT nD τ sig (HIx 1) (Elt F) ℕ UU ℕ

variable [FloatOps F] (d : Dev nD) (i : grid0.Coords)

/-- A staging buffer holds the `g`-th group of the gathered rows in its first 32 columns. -/
def Stg (g : ℕ) (ob : S512x32.Idx → Elt F .f32) (D : S64x128.Idx → Elt F .f32) : Prop :=
  ∀ (y : S64x128.Idx) (z : S512x32.Idx), (z 0).val = 64 * g + (y 0).val → (z 1).val = (y 1).val → D y = ob z

/-- The same for the elements copied before the `n`-th store. -/
def StgN (g n : ℕ) (ob : S512x32.Idx → Elt F .f32) (D : S64x128.Idx → Elt F .f32) : Prop :=
  ∀ (y : S64x128.Idx) (z : S512x32.Idx), (z 0).val = 64 * g + (y 0).val → (z 1).val = (y 1).val →
    ((y 0).val / 16 * 2 + (y 1).val / 16) * 16 + (y 1).val % 16 < n → D y = ob z

theorem stage_words : ∀ t : Fin 8, Scalar.muli (Scalar.shrsi (BitVec.ofNat 32 t.val) 1#32) 16#32 = BitVec.ofNat 32 (16 * (t.val / 2))
    ∧ Scalar.andi (BitVec.ofNat 32 t.val) 1#32 = BitVec.ofNat 32 (t.val % 2) := by decide

/-- One store of 16 elements of a column. -/
theorem stage_step {g t k : ℕ} (hg : g < 8) (ht : t < 8) (hk : k < 16) {ob : S512x32.Idx → Elt F .f32} {D : S64x128.Idx → Elt F .f32}
    (hD : StgN g (16 * t + k) ob D) {r c : IVec S16 32} (hr : ∀ x, (r x).toNat = 16 * (t / 2) + (x 0).val) (hc : ∀ x, (c x).toNat = 16 * (t % 2) + k)
    (v : Vec F S16 .f32) (hv : ∀ (x : S16.Idx) (z : S512x32.Idx), (z 0).val = 64 * g + (16 * (t / 2) + (x 0).val) → (z 1).val = 16 * (t % 2) + k → v x = ob z)
    {h : ∀ a x, ((![r, c] : Fin 2 → IVec S16 32) a x).toNat < S64x128.size a} :
    StgN g (16 * t + (k + 1)) ob (storeIdx (F := F) (e := .f32) (s := S64x128) D ![r, c] v (fun _ => 1#1) false h) := by
  intro y z hz0 hz1 hn
  have hy0 : (y 0).val < 64 := (y 0).isLt
  have hz1' : (z 1).val < 32 := (z 1).isLt
  refine (storeIdx_cases (F := F) (e := .f32) (s := S64x128) D ![r, c] v (fun _ => 1#1) h y).elim ?_ ?_
  · rintro ⟨x, -, hx, h⟩
    rw [h]
    have h0 : (r x).toNat = (y 0).val := hx 0
    have h1 : (c x).toNat = (y 1).val := hx 1
    rw [hr] at h0
    rw [hc] at h1
    exact hv x z (by omega) (by omega)
  · rintro ⟨hno, h⟩
    rw [h]
    refine hD y z hz0 hz1 ?_
    by_contra hlt
    refine hno (lane ((y 0).val % 16) (by omega)) rfl fun a => ?_
    rcases a with ⟨_ | _ | a, ha⟩
    · show (r (lane ((y 0).val % 16) _)).toNat = (y 0).val
      rw [hr, lane_val]
      omega
    · show (c _).toNat = (y 1).val
      rw [hc]
      omega
    · exact absurd ha (by show ¬ a + 2 < 2; omega)

/-- The staging of the `g`-th group. -/
theorem stage_loop {v12 : IVec S16 32} (h12 : ∀ x, v12 x = BitVec.ofNat 32 (x 0).val) (g : ℕ) (hg : g < 8) {L L' : Scf.Loop 32} {hok : L.OK} {hok' : L'.OK}
    (hL : L.trips = 8) (hL' : L'.trips = 16) (m14 : Memref sig .scVector .vmem S512x32 .f32) (mD : Memref sig .scVector .vmem S64x128 .f32)
    (p143 : Fin L.trips → IVec S16 32) (h143 : ∀ t x, p143 t x = IntOp.addi (Scalar.muli (Scalar.shrsi (Scf.iv 0#32 1#32 t.val) 1#32) 16#32) (v12 x))
    (p150 : IVec S16 32 → IVec S16 32) (h150 : ∀ v x, p150 v x = IntOp.addi (BitVec.ofNat 32 (64 * g)) (v x))
    (chk chk' : IVec S16 32 → IVec S16 32 → Prop) (dec : ∀ u v, Decidable (chk u v)) (dec' : ∀ u v, Decidable (chk' u v))
    (hc : ∀ u v, chk u v → ∀ a x, ((![u, v] : Fin 2 → IVec S16 32) a x).toNat < S512x32.size a)
    (hc1 : ∀ u v, (∀ a x, ((![u, v] : Fin 2 → IVec S16 32) a x).toNat < S512x32.size a) → chk u v)
    (hc' : ∀ u v, chk' u v → ∀ a x, ((![u, v] : Fin 2 → IVec S16 32) a x).toNat < S64x128.size a)
    (hc1' : ∀ u v, (∀ a x, ((![u, v] : Fin 2 → IVec S16 32) a x).toNat < S64x128.size a) → chk' u v)
    (hl : m14.view.Loads) (hs : (mD.access (Rect.whole S64x128)).Stores Finset.univ)
    (inner : Fin L.trips → Fin L'.trips → BitVec 32 → Pg F i (BitVec 32))
    (hin : ∀ t k acc, inner t k acc = do
      have hw : chk (p150 (p143 t)) (broadcast S16 (Scalar.addi (Scalar.muli (Scalar.andi (Scf.iv 0#32 1#32 t.val) 1#32) 16#32) (Scf.iv 0#32 1#32 k.val))) :=
        (← Prog.lift (TpuEff.assume _ (dec _ _))).down
      let v : Vec F S16 .f32 ← SparseCore.vectorLoadIdx m14 ![p150 (p143 t), broadcast S16 (Scalar.addi (Scalar.muli (Scalar.andi (Scf.iv 0#32 1#32 t.val) 1#32) 16#32) (Scf.iv 0#32 1#32 k.val))] (hc _ _ hw) hl
      have hw' : chk' (p143 t) (broadcast S16 (Scalar.addi (Scalar.muli (Scalar.andi (Scf.iv 0#32 1#32 t.val) 1#32) 16#32) (Scf.iv 0#32 1#32 k.val))) :=
        (← Prog.lift (TpuEff.assume _ (dec' _ _))).down
      SparseCore.vectorStoreIdx mD ![p143 t, broadcast S16 (Scalar.addi (Scalar.muli (Scalar.andi (Scf.iv 0#32 1#32 t.val) 1#32) 16#32) (Scf.iv 0#32 1#32 k.val))] v (fun _ => 1#1) false (hc' _ _ hw') hs
      pure 0#32)
    (body : Fin L.trips → BitVec 32 → Pg F i (BitVec 32))
    (hbody : ∀ t acc, body t acc = (Scf.Loop.for L' hok' 0#32 (inner t) >>= fun _ => pure 0#32))
    (ob : S512x32.Idx → Elt F .f32) (D : S64x128.Idx → Elt F .f32) {acc : BitVec 32} :
    iprop(own (F := F) (tV d i) fullShare m14 ob ∗ own (F := F) (tV d i) fullShare mD D : sProp 𝕄)
      ⊢ WP d i (Scf.Loop.for L hok acc body) (fun _ => iprop(∃ D', ⌜Stg g ob D'⌝ ∗ own (F := F) (tV d i) fullShare m14 ob ∗ own (F := F) (tV d i) fullShare mD D')) := by
  iintro ⟨H, HD⟩
  iapply (own_for (F := F) d i (fun t _ => iprop(∃ D', ⌜StgN g (16 * t) ob D'⌝ ∗ own (F := F) (tV d i) fullShare m14 ob ∗ own (F := F) (tV d i) fullShare mD D')) ?_)
  · intro t acc
    have ht : t.val < 8 := hL ▸ t.isLt
    iintro ⟨%D', %hD, H, HD⟩
    rw [hbody, WP_bind]
    iapply (own_for (F := F) d i (fun k _ => iprop(∃ D', ⌜StgN g (16 * t.val + k) ob D'⌝ ∗ own (F := F) (tV d i) fullShare m14 ob ∗ own (F := F) (tV d i) fullShare mD D')) ?_)
    · intro k acc
      have hk : k.val < 16 := hL' ▸ k.isLt
      have hrow : ∀ x, (p143 t x).toNat = 16 * (t.val / 2) + (x 0).val := fun x => by
        have := lane_lt x
        rw [h143, iv_eq, (stage_words ⟨t.val, ht⟩).1, h12]
        exact (congrArg BitVec.toNat (addi_ofNat _ _)).trans (toNat_ofNat (by omega))
      have hrow' : ∀ x, (p150 (p143 t) x).toNat = 64 * g + (16 * (t.val / 2) + (x 0).val) := fun x => by
        have := lane_lt x
        rw [h150, show p143 t x = BitVec.ofNat 32 (16 * (t.val / 2) + (x 0).val) from by rw [← hrow x, BitVec.ofNat_toNat, BitVec.setWidth_eq]]
        exact (congrArg BitVec.toNat (addi_ofNat _ _)).trans (toNat_ofNat (by omega))
      have hcol : (Scalar.addi (Scalar.muli (Scalar.andi (Scf.iv 0#32 1#32 t.val) 1#32) 16#32) (Scf.iv 0#32 1#32 k.val)).toNat = 16 * (t.val % 2) + k.val := by
        rw [iv_eq, iv_eq, (stage_words ⟨t.val, ht⟩).2]
        refine (congrArg BitVec.toNat ((congrArg (fun z => Scalar.addi z (BitVec.ofNat 32 k.val)) (muli_ofNat _ 16)).trans (addi_ofNat _ _))).trans ?_
        rw [toNat_ofNat (by show t.val % 2 * 16 + k.val < 2 ^ 31; omega)]
        show t.val % 2 * 16 + k.val = _
        omega
      iintro ⟨%D', %hD, H, HD⟩
      rw [hin]
      generalize hcc : Scalar.addi (Scalar.muli (Scalar.andi (Scf.iv 0#32 1#32 t.val) 1#32) 16#32) (Scf.iv 0#32 1#32 k.val) = cc
      rw [hcc] at hcol
      iapply (asm (F := F) d i (hc1 _ _ (lt2 (A := 512) (B := 32) (fun x => by have := lane_lt x; rw [hrow' x]; omega) (fun x => by show cc.toNat < 32; omega))))
      iapply (own_loadIdx 𝒱₀ (tV d i) none) $$ H
      iintro H
      iapply (own_assume 𝒱₀ (tV d i) none (hc1' _ _ (lt2 (A := 64) (B := 128) (fun x => by have := lane_lt x; rw [hrow x]; omega) (fun x => by show cc.toNat < 128; omega))))
      iapply (own_storeIdx 𝒱₀ (tV d i) none) $$ HD
      iintro HD
      iapply own_pure
      iexists _
      isplitr
      swap
      · isplitl [H]; · iexact H
        iexact HD
      ipureintro
      exact stage_step hg ht hk hD hrow (fun x => hcol) _ (fun x z h0 h1 => by
        refine congrArg ob (funext fun b => Fin.ext ?_)
        rcases b with ⟨_ | _ | b, hb⟩
        · show (p150 (p143 t) x).toNat = (z 0).val
          rw [hrow' x, h0]
        · show cc.toNat = (z 1).val
          rw [h1]; exact hcol
        · exact absurd hb (by show ¬ b + 2 < 2; omega))
    isplitl
    · iexists D'
      isplitr
      · ipureintro; exact hD
      isplitl [H]; · iexact H
      iexact HD
    iintro %acc' ⟨%D', %hD, H⟩
    iapply own_pure
    iexists D'
    isplitr
    · ipureintro
      rw [hL'] at hD
      exact hD
    iexact H
  isplitl
  · iexists D
    isplitr
    · ipureintro
      intro y z _ _ h
      omega
    isplitl [H]; · iexact H
    iexact HD
  iintro %acc' ⟨%D', %hD, H⟩
  iexists D'
  isplitr
  · ipureintro
    intro y z h0 h1
    refine hD y z h0 h1 ?_
    have hy0 : (y 0).val < 64 := (y 0).isLt
    have hz1' : (z 1).val < 32 := (z 1).isLt
    rw [hL]
    omega
  iexact H

variable {arg2 : Memref sig .scVector .hbm S16384 .i32} {harg2 : arg2.IsWhole} {arg3 : Memref sig .scVector .hbm S32x1000000 .f32}
   {harg3 : arg3.IsWhole} {arg4 : Memref sig .scVector .hbm S64x32 .f32} {harg4 : arg4.IsWhole}
   {arg5 : Memref sig .scVector .hbm S16400x128 .f32} {harg5 : arg5.IsWhole} {arg6 : Memref sig .scVector .vmem S2048 .i32}
   {harg6 : arg6.IsWhole} {arg7 : Memref sig .scVector .vmem S1024 .i32} {harg7 : arg7.IsWhole}
   {arg8 : Memref sig .scVector .vmem S1024 .i32} {harg8 : arg8.IsWhole} {arg9 : Memref sig .scVector .vmem S32x512 .f32}
   {harg9 : arg9.IsWhole} {arg10 : Memref sig .scVector .vmem S32x512 .f32} {harg10 : arg10.IsWhole}
   {arg11 : Memref sig .scVector .vmem S64x32 .f32} {harg11 : arg11.IsWhole} {arg12 : Memref sig .scVector .vmem S512 .i32}
   {harg12 : arg12.IsWhole} {arg13 : Memref sig .scVector .vmem S512 .i32} {harg13 : arg13.IsWhole}
   {arg14 : Memref sig .scVector .vmem S512x32 .f32} {harg14 : arg14.IsWhole} {arg15 : Memref sig .scVector .vmem S64x128 .f32}
   {harg15 : arg15.IsWhole} {arg16 : Memref sig .scVector .vmem S64x128 .f32} {harg16 : arg16.IsWhole}
   {arg17 : Memref sig .scVector .vmem S8x64 .i32} {harg17 : arg17.IsWhole} {arg18 : DmaSems sig S_} {arg19 : DmaSems sig S_}
   {arg20 : DmaSems sig S_} {arg21 : DmaSems sig S_} {v46_r0 : DmaSems sig S_} {v49_r1 : DmaSems sig S_} {v143_r2 : DmaSems sig S_}
   {v143_r3 : DmaSems sig S_}

variable {v4 v6 v65 : BitVec 32} {v12 : IVec S16 32} {ob : S512x32.Idx → Elt F .f32} {D : S64x128.Idx → Elt F .f32} {acc : BitVec 32}

theorem t20_spec (h12 : ∀ x, v12 x = BitVec.ofNat 32 (x 0).val) :
    iprop(own (F := F) (tV d i) fullShare arg14 ob ∗ own (F := F) (tV d i) fullShare arg15 D : sProp 𝕄)
      ⊢ WP d i (Scf.Loop.for k0_t20_loop k0_t20_ok acc (k0_t20_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 v65 0#32 1#32))
          (fun _ => iprop(∃ D', ⌜Stg 0 ob D'⌝ ∗ own (F := F) (tV d i) fullShare arg14 ob ∗ own (F := F) (tV d i) fullShare arg15 D')) :=
  stage_loop (F := F) d i h12 0 (by decide) (L' := k0_t21_loop) (hok' := k0_t21_ok) rfl rfl arg14 arg15 (fun t => k0_pay284 v12 t) (fun _ _ => rfl) (fun v => k0_pay285 v) (fun _ _ => rfl)
    k0_chk408 k0_chk409 k0_chk408.dec k0_chk409.dec (fun _ _ h => k0_idx411_inb _ _ h) (fun _ _ h => h) (fun _ _ h => k0_idx412_inb _ _ h) (fun _ _ h => h)
    (View.loads_vmem h_S512x32) (View.stores_vmem_bits_univ h_S64x128 rfl)
    (fun t => k0_t21_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 v65 0#32 1#32 (k0_pay284 v12 t) (Scalar.andi (Scf.iv 0#32 1#32 t.val) 1#32)) (fun _ _ _ => rfl) _ (fun _ _ => rfl) ob D

theorem t22_spec (h12 : ∀ x, v12 x = BitVec.ofNat 32 (x 0).val) :
    iprop(own (F := F) (tV d i) fullShare arg14 ob ∗ own (F := F) (tV d i) fullShare arg16 D : sProp 𝕄)
      ⊢ WP d i (Scf.Loop.for k0_t22_loop k0_t22_ok acc (k0_t22_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 v65 0#32 1#32))
          (fun _ => iprop(∃ D', ⌜Stg 1 ob D'⌝ ∗ own (F := F) (tV d i) fullShare arg14 ob ∗ own (F := F) (tV d i) fullShare arg16 D')) :=
  stage_loop (F := F) d i h12 1 (by decide) (L' := k0_t23_loop) (hok' := k0_t23_ok) rfl rfl arg14 arg16 (fun t => k0_pay286 v12 t) (fun _ _ => rfl) (fun v => k0_pay287 v) (fun _ _ => rfl)
    k0_chk410 k0_chk411 k0_chk410.dec k0_chk411.dec (fun _ _ h => k0_idx413_inb _ _ h) (fun _ _ h => h) (fun _ _ h => k0_idx414_inb _ _ h) (fun _ _ h => h)
    (View.loads_vmem h_S512x32) (View.stores_vmem_bits_univ h_S64x128 rfl)
    (fun t => k0_t23_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 v65 0#32 1#32 (k0_pay286 v12 t) (Scalar.andi (Scf.iv 0#32 1#32 t.val) 1#32)) (fun _ _ _ => rfl) _ (fun _ _ => rfl) ob D

theorem t24_spec (h12 : ∀ x, v12 x = BitVec.ofNat 32 (x 0).val) :
    iprop(own (F := F) (tV d i) fullShare arg14 ob ∗ own (F := F) (tV d i) fullShare arg15 D : sProp 𝕄)
      ⊢ WP d i (Scf.Loop.for k0_t24_loop k0_t24_ok acc (k0_t24_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v12 0#32 0#32))
          (fun _ => iprop(∃ D', ⌜Stg 2 ob D'⌝ ∗ own (F := F) (tV d i) fullShare arg14 ob ∗ own (F := F) (tV d i) fullShare arg15 D')) :=
  stage_loop (F := F) d i h12 2 (by decide) (L' := k0_t25_loop) (hok' := k0_t25_ok) rfl rfl arg14 arg15 (fun t => k0_pay288 v12 0#32 t) (fun _ _ => rfl) (fun v => k0_pay289 v) (fun _ _ => rfl)
    k0_chk412 k0_chk413 k0_chk412.dec k0_chk413.dec (fun _ _ h => k0_idx415_inb _ _ h) (fun _ _ h => h) (fun _ _ h => k0_idx416_inb _ _ h) (fun _ _ h => h)
    (View.loads_vmem h_S512x32) (View.stores_vmem_bits_univ h_S64x128 rfl)
    (fun t => k0_t25_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v12 0#32 0#32 (k0_pay288 v12 0#32 t) (Scalar.andi (Scf.iv 0#32 1#32 t.val) 1#32)) (fun _ _ _ => rfl) _ (fun _ _ => rfl) ob D

theorem t26_spec (h12 : ∀ x, v12 x = BitVec.ofNat 32 (x 0).val) :
    iprop(own (F := F) (tV d i) fullShare arg14 ob ∗ own (F := F) (tV d i) fullShare arg16 D : sProp 𝕄)
      ⊢ WP d i (Scf.Loop.for k0_t26_loop k0_t26_ok acc (k0_t26_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v12 0#32 0#32))
          (fun _ => iprop(∃ D', ⌜Stg 3 ob D'⌝ ∗ own (F := F) (tV d i) fullShare arg14 ob ∗ own (F := F) (tV d i) fullShare arg16 D')) :=
  stage_loop (F := F) d i h12 3 (by decide) (L' := k0_t27_loop) (hok' := k0_t27_ok) rfl rfl arg14 arg16 (fun t => k0_pay290 v12 t) (fun _ _ => rfl) (fun v => k0_pay291 v) (fun _ _ => rfl)
    k0_chk414 k0_chk415 k0_chk414.dec k0_chk415.dec (fun _ _ h => k0_idx417_inb _ _ h) (fun _ _ h => h) (fun _ _ h => k0_idx418_inb _ _ h) (fun _ _ h => h)
    (View.loads_vmem h_S512x32) (View.stores_vmem_bits_univ h_S64x128 rfl)
    (fun t => k0_t27_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v12 0#32 0#32 (k0_pay290 v12 t) (Scalar.andi (Scf.iv 0#32 1#32 t.val) 1#32)) (fun _ _ _ => rfl) _ (fun _ _ => rfl) ob D

theorem t28_spec (h12 : ∀ x, v12 x = BitVec.ofNat 32 (x 0).val) :
    iprop(own (F := F) (tV d i) fullShare arg14 ob ∗ own (F := F) (tV d i) fullShare arg15 D : sProp 𝕄)
      ⊢ WP d i (Scf.Loop.for k0_t28_loop k0_t28_ok acc (k0_t28_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v12 0#32 0#32))
          (fun _ => iprop(∃ D', ⌜Stg 4 ob D'⌝ ∗ own (F := F) (tV d i) fullShare arg14 ob ∗ own (F := F) (tV d i) fullShare arg15 D')) :=
  stage_loop (F := F) d i h12 4 (by decide) (L' := k0_t29_loop) (hok' := k0_t29_ok) rfl rfl arg14 arg15 (fun t => k0_pay292 v12 t) (fun _ _ => rfl) (fun v => k0_pay293 v) (fun _ _ => rfl)
    k0_chk416 k0_chk417 k0_chk416.dec k0_chk417.dec (fun _ _ h => k0_idx419_inb _ _ h) (fun _ _ h => h) (fun _ _ h => k0_idx420_inb _ _ h) (fun _ _ h => h)
    (View.loads_vmem h_S512x32) (View.stores_vmem_bits_univ h_S64x128 rfl)
    (fun t => k0_t29_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v12 0#32 0#32 (k0_pay292 v12 t) (Scalar.andi (Scf.iv 0#32 1#32 t.val) 1#32)) (fun _ _ _ => rfl) _ (fun _ _ => rfl) ob D

theorem t30_spec (h12 : ∀ x, v12 x = BitVec.ofNat 32 (x 0).val) :
    iprop(own (F := F) (tV d i) fullShare arg14 ob ∗ own (F := F) (tV d i) fullShare arg16 D : sProp 𝕄)
      ⊢ WP d i (Scf.Loop.for k0_t30_loop k0_t30_ok acc (k0_t30_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v12))
          (fun _ => iprop(∃ D', ⌜Stg 5 ob D'⌝ ∗ own (F := F) (tV d i) fullShare arg14 ob ∗ own (F := F) (tV d i) fullShare arg16 D')) :=
  stage_loop (F := F) d i h12 5 (by decide) (L' := k0_t31_loop) (hok' := k0_t31_ok) rfl rfl arg14 arg16 (fun t => k0_pay294 v12 t) (fun _ _ => rfl) (fun v => k0_pay295 v) (fun _ _ => rfl)
    k0_chk418 k0_chk419 k0_chk418.dec k0_chk419.dec (fun _ _ h => k0_idx421_inb _ _ h) (fun _ _ h => h) (fun _ _ h => k0_idx422_inb _ _ h) (fun _ _ h => h)
    (View.loads_vmem h_S512x32) (View.stores_vmem_bits_univ h_S64x128 rfl)
    (fun t => k0_t31_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v12 (k0_pay294 v12 t) (Scalar.andi (Scf.iv 0#32 1#32 t.val) 1#32)) (fun _ _ _ => rfl) _ (fun _ _ => rfl) ob D

theorem t32_spec (h12 : ∀ x, v12 x = BitVec.ofNat 32 (x 0).val) :
    iprop(own (F := F) (tV d i) fullShare arg14 ob ∗ own (F := F) (tV d i) fullShare arg15 D : sProp 𝕄)
      ⊢ WP d i (Scf.Loop.for k0_t32_loop k0_t32_ok acc (k0_t32_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v12))
          (fun _ => iprop(∃ D', ⌜Stg 6 ob D'⌝ ∗ own (F := F) (tV d i) fullShare arg14 ob ∗ own (F := F) (tV d i) fullShare arg15 D')) :=
  stage_loop (F := F) d i h12 6 (by decide) (L' := k0_t33_loop) (hok' := k0_t33_ok) rfl rfl arg14 arg15 (fun t => k0_pay296 v12 t) (fun _ _ => rfl) (fun v => k0_pay297 v) (fun _ _ => rfl)
    k0_chk420 k0_chk421 k0_chk420.dec k0_chk421.dec (fun _ _ h => k0_idx423_inb _ _ h) (fun _ _ h => h) (fun _ _ h => k0_idx424_inb _ _ h) (fun _ _ h => h)
    (View.loads_vmem h_S512x32) (View.stores_vmem_bits_univ h_S64x128 rfl)
    (fun t => k0_t33_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v12 (k0_pay296 v12 t) (Scalar.andi (Scf.iv 0#32 1#32 t.val) 1#32)) (fun _ _ _ => rfl) _ (fun _ _ => rfl) ob D

theorem t34_spec (h12 : ∀ x, v12 x = BitVec.ofNat 32 (x 0).val) :
    iprop(own (F := F) (tV d i) fullShare arg14 ob ∗ own (F := F) (tV d i) fullShare arg16 D : sProp 𝕄)
      ⊢ WP d i (Scf.Loop.for k0_t34_loop k0_t34_ok acc (k0_t34_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v12))
          (fun _ => iprop(∃ D', ⌜Stg 7 ob D'⌝ ∗ own (F := F) (tV d i) fullShare arg14 ob ∗ own (F := F) (tV d i) fullShare arg16 D')) :=
  stage_loop (F := F) d i h12 7 (by decide) (L' := k0_t35_loop) (hok' := k0_t35_ok) rfl rfl arg14 arg16 (fun t => k0_pay298 v12 t) (fun _ _ => rfl) (fun v => k0_pay299 v) (fun _ _ => rfl)
    k0_chk422 k0_chk423 k0_chk422.dec k0_chk423.dec (fun _ _ h => k0_idx425_inb _ _ h) (fun _ _ h => h) (fun _ _ h => k0_idx426_inb _ _ h) (fun _ _ h => h)
    (View.loads_vmem h_S512x32) (View.stores_vmem_bits_univ h_S64x128 rfl)
    (fun t => k0_t35_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v12 (k0_pay298 v12 t) (Scalar.andi (Scf.iv 0#32 1#32 t.val) 1#32)) (fun _ _ _ => rfl) _ (fun _ _ => rfl) ob D

end Cert.Proof.Emb
-- ==== Proof.Rows.lean ====
/-
  The way out: a group of 64 gathered rows is scattered to the rows of the output the position list names, each row of the
  output held by the tile whose range its index lies in, the padding entries all going to one spare row.
-/
module

public import proofs.«01_k».proof.Proof.Staging

@[expose] public section

noncomputable section

namespace Cert.Proof.Emb

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.SparseCore.Cfg (HIx Pay)

variable {F : FTy → Type}

local notation "𝕄" => MT nD τ sig (HIx 1) (Elt F) ℕ UU ℕ

variable [FloatOps F] (d : Dev nD) (i : grid0.Coords)

/-- The output as the scatters name it. -/
abbrev outR (m5 : Memref sig .scVector .hbm S16400x128 .f32) : Memref sig .scVector .hbm S16400x128 .f32 :=
  m5.slice (Rect.unit (s := S16400x128) ![0, 0] S16400x128.size inb_S16400x128_S16400x128_0_0) (fun _ => rfl)

/-- The axis of the output's rows. -/
abbrev axO : Fin S16400x128.rank := gathers_S16400x128_S64x128.axis

/-- The axis along a row. -/
abbrev colO : Fin (S16400x128.rowShape axO).rank := ⟨1, by decide⟩

theorem idxEquiv_symm_val {s s' : Shape} (h : s = s') (x : s'.Idx) (a : ℕ) (ha : a < s.rank) (ha' : a < s'.rank) :
    ((Shape.idxEquiv h).symm x ⟨a, ha⟩).val = (x ⟨a, ha'⟩).val := by
  subst h
  rfl

/-- One row of the output. -/
abbrev rowM (m5 : Memref sig .scVector .hbm S16400x128 .f32) (k : Fin 16400) : Memref sig .scVector .hbm (S16400x128.rowShape axO) .f32 :=
  (outR m5).slice (S16400x128.rowRect axO k) (S16400x128.stride_rowRect axO k)

/-- A row's number as the output's row. -/
def rowF (k : ℕ) : Fin 16400 := ⟨k % 16400, Nat.mod_lt _ (by decide)⟩

/-- A row of the output, holding the `n`-th row of the table in its first 32 columns once it is `dn`. -/
def RowP (m5 : Memref sig .scVector .hbm S16400x128 .f32) (tab : S32x1000000.Idx → Elt F .f32) (dn : Prop) (k n : ℕ) : sProp 𝕄 :=
  iprop(∃ g : (S16400x128.rowShape axO).Idx → Elt F .f32, ⌜dn → ∀ x, (x colO).val < 32 → g x = tabT tab (x colO).val n⌝ ∗ own (tV d i) fullShare (rowM m5 (rowF k)) g)

instance (m5 : Memref sig .scVector .hbm S16400x128 .f32) (tab : S32x1000000.Idx → Elt F .f32) (dn : Prop) (k n : ℕ) :
    Storable (upEmb : UEmb _ 𝕄) (RowP (F := F) d i m5 tab dn k n) := by unfold RowP own; infer_instance

/-- The row of the batch at a position of the tile's list, or the spare row beyond the list. -/
def nthK (P : ℕ → Prop) [DecidablePred P] (p : ℕ) : ℕ :=
  open scoped Classical in if h : ∃ k, k < 16384 ∧ P k ∧ Nat.count P k = p then h.choose else 16384

theorem nthK_cases (P : ℕ → Prop) [DecidablePred P] (p : ℕ) :
    (nthK P p < 16384 ∧ P (nthK P p) ∧ Nat.count P (nthK P p) = p) ∨ nthK P p = 16384 := by
  unfold nthK
  split
  · rename_i h
    exact .inl h.choose_spec
  · exact .inr rfl

theorem nthK_eq {P : ℕ → Prop} [DecidablePred P] {k p : ℕ} (hk : k < 16384) (hP : P k) (hc : Nat.count P k = p) : nthK P p = k := by
  have h : ∃ k, k < 16384 ∧ P k ∧ Nat.count P k = p := ⟨k, hk, hP, hc⟩
  have e : nthK P p = h.choose := by
    unfold nthK
    rw [dif_pos h]
  rw [e]
  exact Nat.count_injective h.choose_spec.2.1 hP (h.choose_spec.2.2.trans hc.symm)

theorem nthK_none {P : ℕ → Prop} [DecidablePred P] {p : ℕ} (hc : Nat.count P 16384 ≤ p) : nthK P p = 16384 := by
  refine (nthK_cases P p).resolve_left ?_
  rintro ⟨h1, h2, h3⟩
  have := Nat.count_strict_mono h2 h1
  omega

theorem nthK_le (P : ℕ → Prop) [DecidablePred P] (p : ℕ) : nthK P p ≤ 16384 := by
  rcases nthK_cases P p with h | h <;> omega

/-- The row of the output at a position of the tile's list. -/
def Slot (m5 : Memref sig .scVector .hbm S16400x128 .f32) (tab : S32x1000000.Idx → Elt F .f32) (w : ℕ) (iv : S16384.Idx → BitVec 32) (dn : Prop) (p : ℕ) : sProp 𝕄 :=
  if nthK (PR w iv) p < 16384 then RowP (F := F) d i m5 tab dn (nthK (PR w iv) p) (at1 iv (nthK (PR w iv) p)).toNat else iprop(emp)

instance (m5 : Memref sig .scVector .hbm S16400x128 .f32) (tab : S32x1000000.Idx → Elt F .f32) (w : ℕ) (iv : S16384.Idx → BitVec 32) (dn : Prop) (p : ℕ) :
    Storable (upEmb : UEmb _ 𝕄) (Slot (F := F) d i m5 tab w iv dn p) := by unfold Slot; split <;> infer_instance

/-- The rows of 64 positions. -/
def Grp (m5 : Memref sig .scVector .hbm S16400x128 .f32) (tab : S32x1000000.Idx → Elt F .f32) (w : ℕ) (iv : S16384.Idx → BitVec 32) (dn : Prop) (G : ℕ) : sProp 𝕄 :=
  bigSep (Finset.univ : Finset (Fin 64)) fun j => Slot (F := F) d i m5 tab w iv dn (64 * G + j.val)

/-- What a batch has gathered: every position's entry of the position list, and its row of the table. -/
def Gath (tab : S32x1000000.Idx → Elt F .f32) (w : ℕ) (iv : S16384.Idx → BitVec 32) (b : ℕ) (kv : S8x64.Idx → BitVec 32) (ob : S512x32.Idx → Elt F .f32) : Prop :=
  ∀ q < 512, kvq kv q = BitVec.ofNat 32 (nthK (PR w iv) (512 * b + q))
    ∧ (nthK (PR w iv) (512 * b + q) < 16384 → ∀ z : S512x32.Idx, (z 0).val = q → ob z = tabT tab (z 1).val (at1 iv (nthK (PR w iv) (512 * b + q))).toNat)

/-- A gathered batch, from what the windows and the tail have brought. -/
theorem Gath_of {tab : S32x1000000.Idx → Elt F .f32} {w : ℕ} (hw : w < 32) {iv : S16384.Idx → BitVec 32} {b : ℕ} {mi mk : S1024.Idx → BitVec 32}
    (hC : Cap (PR w iv) (at1 iv) (512 * b) mi mk) {kv : S8x64.Idx → BitVec 32} {ob : S512x32.Idx → Elt F .f32}
    (hE : Ext tab mi mk (fun q => Done w mi 62 q ∨ inI 999936 1000000 (at1 mi q)) kv ob) : Gath tab w iv b kv ob := by
  obtain ⟨h1, h2, h3⟩ := hE
  intro q hq
  rcases hC q hq with ⟨k, hk, hP, hc, hmi, hmk⟩ | ⟨hc, hmi⟩
  · have e := nthK_eq hk hP hc
    have hG : Done w mi 62 q ∨ inI 999936 1000000 (at1 mi q) := by
      rw [hmi]
      unfold Done
      rw [hmi]
      have hP' : inI (rLo w) (rHi w) (at1 iv k) := hP
      unfold inI at hP' ⊢
      have hr := rHi_le hw
      rcases win_cover hw (n := (at1 iv k).toInt.toNat) (by omega) (by omega) with ⟨t, ht, h⟩ | h
      · exact .inl ⟨t, ht, by omega⟩
      · exact .inr (by omega)
    rw [e]
    refine ⟨(h1 q hq hG).trans hmk, fun _ z hz => ?_⟩
    have := h3 z (by rw [hz]; exact hG)
    rw [this, hz, hmi]
  · rw [nthK_none hc]
    refine ⟨h2 q hq ?_, fun h => absurd h (by decide)⟩
    rw [hmi]
    unfold inI
    decide

/-- The list of a group's positions, in order. -/
theorem list_read (m17 : Memref sig .scVector .vmem S8x64 .i32) (fo : m17.view.ty.Contents (Elt F)) (r : ℕ) (hr : r < 8) {off : Fin 2 → ℕ} (hoff : off 0 = r ∧ off 1 = 0)
    {inb : ∀ a, off a + S1x64.size a ≤ S8x64.size a} {hst} (x : S64.Idx) :
    ((m17.slice (Rect.unit (s := S8x64) off S1x64.size inb) hst).squeeze S64 squeezes_S1x64_S64).view.read (Elt F) fo x
      = kvq (m17.view.read (Elt F) fo) (64 * r + (x 0).val) := by
  have hx : (x 0).val < 64 := (x 0).isLt
  unfold kvq
  rw [dif_pos (by omega)]
  have hre : Shape.reshapeEquiv (s := S1x64) (s' := S64) squeezes_S1x64_S64.numel_eq x = ix2 (A := 1) (B := 64) 0 (x 0).val (by decide) hx := by
    refine Shape.reshapeEquiv_eq_of_rowMajor _ ?_
    refine (Shape.rowMajor_val_two (d := ![1, 64]) _).trans ((Shape.rowMajor_val_one (d := ![64]) x).symm ▸ ?_)
    show 0 * _ + (x 0).val = (x 0).val
    omega
  show m17.view.read (Elt F) fo ((Rect.unit (s := S8x64) off S1x64.size inb).emb (Shape.reshapeEquiv (s := S1x64) (s' := S64) squeezes_S1x64_S64.numel_eq x)) = _
  rw [hre]
  refine congrArg _ (ix2_ext (A := 8) (B := 64) ?_ ?_)
  · rw [Rect.emb_apply, ix2_zero]
    show off 0 + 1 * 0 = (64 * r + (x 0).val) / 64
    omega
  · rw [Rect.emb_apply, ix2_one]
    show off 1 + 1 * (x 0).val = (64 * r + (x 0).val) % 64
    omega

/-- What an entry of a group carries: the staged row. -/
theorem payload_val {mS : Memref sig .scVector .vmem S64x128 .f32} (fs : Buf (Elt F) (mS.view.loc (tV d i))) (j : Fin 64) (x : (S16400x128.rowShape axO).Idx)
    (y : S64x128.Idx) (h0 : (y 0).val = j.val) (h1 : (y 1).val = (x colO).val) :
    SparseCore.scatterRowPayload (tV d i) mS gathers_S16400x128_S64x128 fs j x = mS.view.read (Elt F) fs y := by
  show mS.view.read (Elt F) fs ((S64x128.rowRect gathers_S16400x128_S64x128.axis' j).emb ((Shape.idxEquiv gathers_S16400x128_S64x128.rowShape_eq).symm x)) = _
  refine congrArg _ (ix2_ext (A := 64) (B := 128) ?_ ?_)
  · refine (Rect.emb_apply _ _ _).trans ?_
    rw [h0]
    have h : ((Shape.idxEquiv gathers_S16400x128_S64x128.rowShape_eq).symm x ⟨0, by decide⟩).val < 1 :=
      ((Shape.idxEquiv gathers_S16400x128_S64x128.rowShape_eq).symm x ⟨0, by decide⟩).isLt
    show j.val + 1 * ((Shape.idxEquiv gathers_S16400x128_S64x128.rowShape_eq).symm x ⟨0, by decide⟩).val = _
    omega
  · refine (Rect.emb_apply _ _ _).trans ?_
    rw [h1]
    show 0 + 1 * ((Shape.idxEquiv gathers_S16400x128_S64x128.rowShape_eq).symm x ⟨1, by decide⟩).val = _
    rw [idxEquiv_symm_val _ x 1 (by decide) (by decide)]
    show _ = (x ⟨1, by decide⟩).val
    omega

/-- A write update may yield less. -/
theorem writeUpdate_le {c : Thread nD τ} {sp : Space} {s : Shape} {e : EltTy} {v : View sig c.2.kind sp s e} {w : s.Idx → Elt F e} {R R' : sProp 𝕄} (h : R ⊢ R') :
    writeUpdate c v w R ⊢ writeUpdate c v w R' := by
  rw [writeUpdate, writeUpdate, writeUpdateFrom_def, writeUpdateFrom_def]
  iintro ⟨%A, HA, Hsteps, HR⟩
  iexists A
  isplitl [HA]; · iexact HA
  isplitl [Hsteps]; · iexact Hsteps
  iintro HA
  iapply h
  iapply HR
  iexact HA

/-- A scatter of a group in flight: it brings the group's rows, done, and gives back what it was lent. -/
def Fly (X : Fin 64 → sProp 𝕄) (m5 : Memref sig .scVector .hbm S16400x128 .f32) (tab : S32x1000000.Idx → Elt F .f32) (w : ℕ) (iv : S16384.Idx → BitVec 32)
    (mS : Memref sig .scVector .vmem S64x128 .f32) (sem : DmaSem sig) (m17 : Memref sig .scVector .vmem S8x64 .i32) (q : PosShare TreeShare) (kv : S8x64.Idx → BitVec 32)
    (G : ℕ) : sProp 𝕄 :=
  Flight EC (tV d i) (.dma sem) none mS.view.dmaCredit
    iprop((bigSep Finset.univ X ∗ Grp (F := F) d i m5 tab w iv True G) ∗ (∃ D, own (F := F) (tV d i) fullShare mS D) ∗ own (F := F) (tV d i) q m17 kv)

/-- The write update of one entry of a group: its own row, or the spare one. -/
theorem entry_update {X : Fin 64 → sProp 𝕄} {Dv : sProp 𝕄} {m5 : Memref sig .scVector .hbm S16400x128 .f32}
    (hD : ∀ j w, iprop(Dv ∗ X j) ⊢ writeUpdate (tV d i) (rowM m5 (rowF 16384)).view w (X j)) {tab : S32x1000000.Idx → Elt F .f32} {w : ℕ} {iv : S16384.Idx → BitVec 32}
    {dn : Prop} {p : ℕ} {j : Fin 64} (pay : (S16400x128.rowShape axO).Idx → Elt F .f32)
    (hpay : nthK (PR w iv) p < 16384 → ∀ x, (x colO).val < 32 → pay x = tabT tab (x colO).val (at1 iv (nthK (PR w iv) p)).toNat) :
    iprop(Dv ∗ (Slot (F := F) d i m5 tab w iv dn p ∗ X j))
      ⊢ writeUpdate (tV d i) (rowM m5 (rowF (nthK (PR w iv) p))).view pay iprop(Slot (F := F) d i m5 tab w iv True p ∗ X j) := by
  rcases nthK_cases (PR w iv) p with ⟨hk, -, -⟩ | hk
  · unfold Slot
    rw [if_pos hk, if_pos hk]
    unfold RowP own
    iintro ⟨-, ⟨%g, %hg, ⟨%f, %hf, H⟩⟩, HX⟩
    iapply (writeUpdate_le (R := iprop(((rowM m5 (rowF (nthK (PR w iv) p))).view.loc (tV d i) ↦[(rowM m5 (rowF (nthK (PR w iv) p))).view.set]{fullShare}
      ((rowM m5 (rowF (nthK (PR w iv) p))).view.write (Elt F) f pay Finset.univ)) ∗ X j)))
    · iintro ⟨H, HX⟩
      isplitl [H]
      · iexists pay
        isplitr; · ipureintro; exact fun _ => hpay hk
        iexists _
        isplitr
        swap; · iexact H
        ipureintro
        exact View.read_write_univ _ _
      · iexact HX
    · iapply (writeUpdate_frame (tV d i))
      isplitl [H]
      · iapply (pointsTo_writeUpdate (tV d i) (Finset.Subset.refl _)); iexact H
      · iexact HX
  · unfold Slot
    rw [hk, if_neg (by decide), if_neg (by decide)]
    iintro ⟨HD, -, HX⟩
    iapply (writeUpdate_le (R := X j))
    · iintro H
      isplitr; · iempintro
      iexact H
    · iapply (hD j pay)
      isplitl [HD] <;> iassumption

/-- A group of the batch is sent on its way. -/
theorem scat_issue {X : Fin 64 → sProp 𝕄} [∀ j, Storable (upEmb : UEmb _ 𝕄) (X j)] {Dv : sProp 𝕄} [Persistent Dv] {m5 : Memref sig .scVector .hbm S16400x128 .f32}
    (hD : ∀ j w, iprop(Dv ∗ X j) ⊢ writeUpdate (tV d i) (rowM m5 (rowF 16384)).view w (X j)) {tab : S32x1000000.Idx → Elt F .f32} {w : ℕ} {iv : S16384.Idx → BitVec 32}
    {b r : ℕ} (hr : r < 8) {off : Fin 2 → ℕ} (hoff : off 0 = r ∧ off 1 = 0)
    {inb : ∀ a, off a + S1x64.size a ≤ S8x64.size a} {hst} {mS : Memref sig .scVector .vmem S64x128 .f32} {sem : DmaSem sig} {m17 : Memref sig .scVector .vmem S8x64 .i32}
    {q : PosShare TreeShare} {kv : S8x64.Idx → BitVec 32} {ob : S512x32.Idx → Elt F .f32} {D : S64x128.Idx → Elt F .f32} (hS : Stg r ob D) (hG : Gath tab w iv b kv ob)
    {dn : Prop} {hp : (tV d i).2.kind = .scVector} {hn} {he} {hsp} {hr'} {α : Type} {k : PUnit → Pg F i α} {Q : α → sProp 𝕄} :
    iprop(Dv ∗ own (F := F) (tV d i) fullShare mS D ∗ own (F := F) (tV d i) q m17 kv ∗ bigSep Finset.univ X ∗ Grp (F := F) d i m5 tab w iv dn (8 * b + r) ∗ semVal (tV d i, .dma sem) 0)
      ⊢ iprop((Fly (F := F) d i X m5 tab w iv mS sem m17 q kv (8 * b + r) -∗ WP d i (k ⟨⟩) Q)
          -∗ WP d i (SparseCore.enqueueIndirectScatter hp mS (outR m5) gathers_S16400x128_S64x128
            ((m17.slice (Rect.unit (s := S8x64) off S1x64.size inb) hst).squeeze S64 squeezes_S1x64_S64) hn sem he hsp hr' >>= k) Q) := by
  iintro ⟨#HD, HS, Hkv, HX, HG, Hv⟩ Hk
  unfold own
  icases HS with ⟨%fs, %hfs, Hs⟩
  icases Hkv with ⟨%fo, %hfo, Ho⟩
  subst hfs hfo
  have hlist : ∀ x : S64.Idx, ((m17.slice (Rect.unit (s := S8x64) off S1x64.size inb) hst).squeeze S64 squeezes_S1x64_S64).view.read (Elt F) fo x
      = BitVec.ofNat 32 (nthK (PR w iv) (512 * b + (64 * r + (x 0).val))) := fun x => by
    have hx : (x 0).val < 64 := (x 0).isLt
    rw [list_read m17 fo r hr hoff x]
    exact (hG _ (by omega)).1
  have hword : ∀ x : S64.Idx, (((m17.slice (Rect.unit (s := S8x64) off S1x64.size inb) hst).squeeze S64 squeezes_S1x64_S64).view.read (Elt F) fo x).toNat
      = nthK (PR w iv) (512 * b + (64 * r + (x 0).val)) := fun x => by
    have := nthK_le (PR w iv) (512 * b + (64 * r + (x 0).val))
    rw [hlist x, toNat_ofNat (by omega)]
  have hin : ∀ x : S64.Idx, (((m17.slice (Rect.unit (s := S8x64) off S1x64.size inb) hst).squeeze S64 squeezes_S1x64_S64).view.read (Elt F) fo x).toNat < 16400 := fun x => by
    have := nthK_le (PR w iv) (512 * b + (64 * r + (x 0).val))
    rw [hword x]
    omega
  have hrow : ∀ j : Fin 64, SparseCore.rows (F := F) (((m17.slice (Rect.unit (s := S8x64) off S1x64.size inb) hst).squeeze S64 squeezes_S1x64_S64).view.read (Elt F) fo) hn hin j
      = rowF (nthK (PR w iv) (64 * (8 * b + r) + j.val)) := fun j => by
    have := nthK_le (PR w iv) (64 * (8 * b + r) + j.val)
    refine Fin.ext ?_
    refine (hword _).trans ?_
    have e : ((S64.rowMajor.symm (j.cast hn.symm)) 0).val = j.val :=
      (Shape.rowMajor_val_one (d := ![64]) _).symm.trans (congrArg Fin.val (Equiv.apply_symm_apply S64.rowMajor (j.cast hn.symm)))
    rw [e, show 512 * b + (64 * r + j.val) = 64 * (8 * b + r) + j.val from by omega]
    exact (Nat.mod_eq_of_lt (by omega)).symm
  have hent : ∀ j : Fin 64, iprop(Dv ∗ (Slot (F := F) d i m5 tab w iv dn (64 * (8 * b + r) + j.val) ∗ X j))
      ⊢ writeUpdate (tV d i) (rowM m5 (SparseCore.rows (F := F) (((m17.slice (Rect.unit (s := S8x64) off S1x64.size inb) hst).squeeze S64 squeezes_S1x64_S64).view.read (Elt F) fo) hn hin j)).view
          (SparseCore.scatterRowPayload (tV d i) mS gathers_S16400x128_S64x128 fs j) iprop(Slot (F := F) d i m5 tab w iv True (64 * (8 * b + r) + j.val) ∗ X j) := fun j => by
    rw [hrow j]
    refine entry_update (F := F) d i hD _ ?_
    intro hk x hx
    have hj := j.isLt
    rw [payload_val (F := F) d i fs j x (ix2 (A := 64) (B := 128) j.val (x colO).val j.isLt (by omega)) rfl rfl]
    refine (hS _ (ix2 (A := 512) (B := 32) (64 * r + j.val) (x colO).val (by omega) hx) rfl rfl).trans ?_
    rw [show 64 * (8 * b + r) + j.val = 512 * b + (64 * r + j.val) from by omega] at hk ⊢
    exact (hG (64 * r + j.val) (by omega)).2 hk _ rfl
  have hsub : ((m17.slice (Rect.unit (s := S8x64) off S1x64.size inb) hst).squeeze S64 squeezes_S1x64_S64).view.set ⊆ m17.view.set :=
    (View.set_reshape _ _).trans_subset (View.set_slice_subset _ _)
  have hback : iprop((m17.view.loc (tV d i) ↦[m17.view.set \ ((m17.slice (Rect.unit (s := S8x64) off S1x64.size inb) hst).squeeze S64 squeezes_S1x64_S64).view.set]{q} fo)
        ∗ (bigSep (Finset.univ : Finset (Fin 64)) fun j => iprop(Slot (F := F) d i m5 tab w iv True (64 * (8 * b + r) + j.val) ∗ X j))
        ∗ (mS.view.loc (tV d i) ↦[mS.view.set]{fullShare} fs)
        ∗ (((m17.slice (Rect.unit (s := S8x64) off S1x64.size inb) hst).squeeze S64 squeezes_S1x64_S64).view.loc (tV d i) ↦[((m17.slice (Rect.unit (s := S8x64) off S1x64.size inb) hst).squeeze S64 squeezes_S1x64_S64).view.set]{q} fo))
      ⊢ (iprop((bigSep Finset.univ X ∗ Grp (F := F) d i m5 tab w iv True (8 * b + r)) ∗ (∃ D, own (F := F) (tV d i) fullShare mS D)
        ∗ own (F := F) (tV d i) q m17 (m17.view.read (Elt F) fo)) : sProp 𝕄) := by
    unfold Grp
    iintro ⟨Hrest, HR, Hs, Ho⟩
    ihave HR := Transfers.bigSep_sep_out _ _ _ $$ HR
    icases HR with ⟨HG, HX⟩
    isplitl [HG HX]
    · isplitl [HX]; · iexact HX
      iexact HG
    isplitl [Hs]
    · iexists _
      unfold own
      iexists fs
      isplitr; · ipureintro; rfl
      iexact Hs
    · unfold own
      iexists fo
      isplitr; · ipureintro; rfl
      iapply (pointsTo_split_subset (ℓ := m17.view.loc (tV d i)) (q := q) (f := fo) (S := m17.view.set) hsub).2
      isplitl [Ho]; · iexact Ho
      iexact Hrest
  ihave Ho := (pointsTo_split_subset (ℓ := m17.view.loc (tV d i)) (q := q) (f := fo) (S := m17.view.set) hsub).1 $$ Ho
  icases Ho with ⟨Ho, Hrest⟩
  unfold Grp
  ihave H1 := Transfers.bigSep_sep_in _ _ _ $$ [HG HX]; · isplitl [HG] <;> iassumption
  haveI hst' : ∀ j : Fin (S64x128.size gathers_S16400x128_S64x128.axis'), Storable (upEmb : UEmb _ 𝕄)
      iprop(Slot (F := F) d i m5 tab w iv True (64 * (8 * b + r) + j.val) ∗ X j) := fun j =>
    (inferInstance : ∀ j : Fin 64, Storable (upEmb : UEmb _ 𝕄) iprop(Slot (F := F) d i m5 tab w iv True (64 * (8 * b + r) + j.val) ∗ X j)) j
  iapply (wp_scatterUpd EC 𝒱₀ (tV d i) none none mS.view.dmaCredit (by decide) hin
    (fun j : Fin (S64x128.size gathers_S16400x128_S64x128.axis') => iprop(Slot (F := F) d i m5 tab w iv True (64 * (8 * b + r) + j.val) ∗ X j))
    (SparseCore.sum_scatterCredit_eq_srcCredit (tV d i) mS (outR m5) gathers_S16400x128_S64x128 rfl _ (fun _ => rfl) (fun _ => rfl))) $$ [Hs H1 Ho Hv]
  · isplitl [Hs]; · iexact Hs
    isplitl [H1]
    · iapply (Transfers.bigSep_mono_pers (I := Fin 64) Finset.univ Dv _ _ fun j _ => hent j)
      isplitr; · iexact HD
      iexact H1
    isplitl [Ho]; · iexact Ho
    iexact Hv
  iintro HF
  iapply Hk
  unfold Fly
  iapply (Transfers.Flight_mono EC (tV d i) hback)
  iapply (Transfers.Flight_frame EC (tV d i))
  isplitl [Hrest]; · iexact Hrest
  iexact HF

/-- The wait for a group in flight. -/
theorem scat_wait {X : Fin 64 → sProp 𝕄} {m5 m5' : Memref sig .scVector .hbm S16400x128 .f32}
    {tab : S32x1000000.Idx → Elt F .f32} {w : ℕ} {iv : S16384.Idx → BitVec 32} {G : ℕ} {mS : Memref sig .scVector .vmem S64x128 .f32} {sem : DmaSem sig} {m17 : Memref sig .scVector .vmem S8x64 .i32}
    {q : PosShare TreeShare} {kv : S8x64.Idx → BitVec 32} {O : CellTallies nD τ sig (HIx 1)} {W : Waits sig (HIx 1)}
    {h1 : mS.view.WordExact} {h2 : m5'.view.WordExact} {α : Type} {k : PUnit → Pg F i α} {Q : α → sProp 𝕄} :
    iprop(Fly (F := F) d i X m5 tab w iv mS sem m17 q kv G ∗ Ow (F := F) d i O W)
      ⊢ iprop((iprop((∃ D, own (F := F) (tV d i) fullShare mS D) ∗ own (F := F) (tV d i) q m17 kv ∗ bigSep Finset.univ X ∗ semVal (tV d i, .dma sem) 0
            ∗ Grp (F := F) d i m5 tab w iv True G ∗ Ow (F := F) d i O W) -∗ WP d i (k ⟨⟩) Q)
          -∗ WP d i (SparseCore.waitIndirectScatter sem mS m5' h1 h2 >>= k) Q) := by
  unfold Fly
  iintro H Hk
  iapply (Ow_wait (F := F) d i (sem := sem) (srcw := m5') (dstw := mS) (hsrc := h2) (hdst := h1) (k := k) (Q := Q) rfl) $$ H
  iintro ⟨⟨⟨HX, HG⟩, HS, Hkv⟩, Hv, HO⟩
  iapply Hk
  isplitl [HS]; · iexact HS
  isplitl [Hkv]; · iexact Hkv
  isplitl [HX]; · iexact HX
  isplitl [Hv]; · iexact Hv
  isplitl [HG]; · iexact HG
  iexact HO

end Cert.Proof.Emb
-- ==== Proof.Batch.lean ====
/-
  One batch of 512 positions of a tile's list: the rows are gathered window by window and sent out group by group.
-/
module

public import proofs.«01_k».proof.Proof.Rows

@[expose] public section

noncomputable section

namespace Cert.Proof.Emb

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.SparseCore.Cfg (HIx Pay)

variable {F : FTy → Type}

local notation "𝕄" => MT nD τ sig (HIx 1) (Elt F) ℕ UU ℕ

variable [FloatOps F] (d : Dev nD) (i : grid0.Coords)

variable {w b : ℕ} {iv : S16384.Idx → BitVec 32} {tab : S32x1000000.Idx → Elt F .f32}

/-- A staging buffer at rest, with what its scatters are lent: a share of the position list, its entries' tokens, its semaphore. -/
def Free (X : Fin 64 → sProp 𝕄) (mS : Memref sig .scVector .vmem S64x128 .f32) (sem : DmaSem sig) (m17 : Memref sig .scVector .vmem S8x64 .i32) (q : PosShare TreeShare)
    (kv : S8x64.Idx → BitVec 32) : sProp 𝕄 :=
  iprop((∃ D, own (F := F) (tV d i) fullShare mS D) ∗ own (F := F) (tV d i) q m17 kv ∗ bigSep Finset.univ X ∗ semVal (tV d i, .dma sem) 0)

/-- The same with the `r`-th group staged. -/
def Ready (X : Fin 64 → sProp 𝕄) (mS : Memref sig .scVector .vmem S64x128 .f32) (sem : DmaSem sig) (m17 : Memref sig .scVector .vmem S8x64 .i32) (q : PosShare TreeShare)
    (kv : S8x64.Idx → BitVec 32) (r : ℕ) (ob : S512x32.Idx → Elt F .f32) : sProp 𝕄 :=
  iprop((∃ D, ⌜Stg r ob D⌝ ∗ own (F := F) (tV d i) fullShare mS D) ∗ own (F := F) (tV d i) q m17 kv ∗ bigSep Finset.univ X ∗ semVal (tV d i, .dma sem) 0)

/-- Only the last tile has entries in the table's last rows. -/
theorem tail_none {w : ℕ} (hw : w < 32) (hne : w ≠ 31) {iv : S16384.Idx → BitVec 32} {c : ℕ} {mi mk : S1024.Idx → BitVec 32} (hC : Cap (PR w iv) (at1 iv) c mi mk)
    {q : ℕ} (hq : q < 512) (h : inI 999936 1000000 (at1 mi q)) : False := by
  have hhi : rHi w ≤ 999936 := by unfold rHi tLo tN; split_ifs <;> omega
  rcases hC q hq with ⟨k, hk, hP, -, hmi, -⟩ | ⟨-, hmi⟩
  · rw [hmi] at h
    have h1 := hP.2
    have h2 := h.1
    omega
  · rw [hmi] at h
    have h2 := h.2
    revert h2
    decide

section Group

variable {mS : Memref sig .scVector .vmem S64x128 .f32} {sem : DmaSem sig} {m17 : Memref sig .scVector .vmem S8x64 .i32} {q : PosShare TreeShare}
  {kv : S8x64.Idx → BitVec 32} {ob : S512x32.Idx → Elt F .f32} {m5 : Memref sig .scVector .hbm S16400x128 .f32} {r : ℕ}

/-- A group is staged. -/
theorem go_stage {X : Fin 64 → sProp 𝕄} {m14 : Memref sig .scVector .vmem S512x32 .f32} {α β : Type} {L : Pg F i β} {p : Pg F i α} {Q : α → sProp 𝕄}
    (hL : ∀ D, iprop(own (F := F) (tV d i) fullShare m14 ob ∗ own (F := F) (tV d i) fullShare mS D)
      ⊢ WP d i L (fun _ => iprop(∃ D', ⌜Stg r ob D'⌝ ∗ own (F := F) (tV d i) fullShare m14 ob ∗ own (F := F) (tV d i) fullShare mS D'))) :
    iprop(own (F := F) (tV d i) fullShare m14 ob ∗ Free (F := F) d i X mS sem m17 q kv)
      ⊢ iprop((iprop(own (F := F) (tV d i) fullShare m14 ob ∗ Ready (F := F) d i X mS sem m17 q kv r ob) -∗ WP d i p Q) -∗ WP d i (L >>= fun _ => p) Q) := by
  unfold Free Ready
  iintro ⟨H14, ⟨%D, HS⟩, Hkv, HX, Hv⟩ Hk
  rw [WP_bind]
  iapply (wp_wand_r _)
  isplitl [H14 HS]
  · iapply (hL D)
    isplitl [H14] <;> iassumption
  iintro %a ⟨%D', %hS, H14, HS⟩
  iapply Hk
  isplitl [H14]; · iexact H14
  isplitl [HS]
  · iexists D'
    isplitr; · ipureintro; exact hS
    iexact HS
  isplitl [Hkv]; · iexact Hkv
  isplitl [HX]; · iexact HX
  iexact Hv

/-- A staged group is sent. -/
theorem go_issue {X : Fin 64 → sProp 𝕄} [∀ j, Storable (upEmb : UEmb _ 𝕄) (X j)] {Dv : sProp 𝕄} [Persistent Dv]
    (hD : ∀ j w, iprop(Dv ∗ X j) ⊢ writeUpdate (tV d i) (rowM m5 (rowF 16384)).view w (X j))
    (hr : r < 8) {off : Fin 2 → ℕ} (hoff : off 0 = r ∧ off 1 = 0)
    {inb : ∀ a, off a + S1x64.size a ≤ S8x64.size a} {hst} (hG : Gath tab w iv b kv ob)
    {dn : Prop} {hp : (tV d i).2.kind = .scVector} {hn} {he} {hsp} {hr'} {α : Type} {k : PUnit → Pg F i α} {Q : α → sProp 𝕄} :
    iprop(Dv ∗ Ready (F := F) d i X mS sem m17 q kv r ob ∗ Grp (F := F) d i m5 tab w iv dn (8 * b + r))
      ⊢ iprop((Fly (F := F) d i X m5 tab w iv mS sem m17 q kv (8 * b + r) -∗ WP d i (k ⟨⟩) Q)
          -∗ WP d i (SparseCore.enqueueIndirectScatter hp mS (outR m5) gathers_S16400x128_S64x128
            ((m17.slice (Rect.unit (s := S8x64) off S1x64.size inb) hst).squeeze S64 squeezes_S1x64_S64) hn sem he hsp hr' >>= k) Q) := by
  unfold Ready
  iintro ⟨#HD, ⟨⟨%D, %hS, HS⟩, Hkv, HX, Hv⟩, HG⟩ Hk
  iapply (scat_issue (F := F) d i hD hr hoff hS hG) $$ [HS Hkv HX HG Hv] Hk
  isplitr; · iexact HD
  isplitl [HS]; · iexact HS
  isplitl [Hkv]; · iexact Hkv
  isplitl [HX]; · iexact HX
  isplitl [HG]; · iexact HG
  iexact Hv

/-- A group has arrived. -/
theorem go_wait {X : Fin 64 → sProp 𝕄} {m5' : Memref sig .scVector .hbm S16400x128 .f32} {G : ℕ} {O : CellTallies nD τ sig (HIx 1)} {W : Waits sig (HIx 1)}
    {h1 : mS.view.WordExact} {h2 : m5'.view.WordExact} {α : Type} {k : PUnit → Pg F i α} {Q : α → sProp 𝕄} :
    iprop(Fly (F := F) d i X m5 tab w iv mS sem m17 q kv G ∗ Ow (F := F) d i O W)
      ⊢ iprop((iprop(Free (F := F) d i X mS sem m17 q kv ∗ Grp (F := F) d i m5 tab w iv True G ∗ Ow (F := F) d i O W) -∗ WP d i (k ⟨⟩) Q)
          -∗ WP d i (SparseCore.waitIndirectScatter sem mS m5' h1 h2 >>= k) Q) := by
  unfold Free
  iintro H Hk
  iapply (scat_wait (F := F) d i) $$ H
  iintro ⟨HS, Hkv, HX, Hv, HG, HO⟩
  iapply Hk
  isplitl [HS Hkv HX Hv]
  · isplitl [HS]; · iexact HS
    isplitl [Hkv]; · iexact Hkv
    isplitl [HX]; · iexact HX
    iexact Hv
  isplitl [HG]; · iexact HG
  iexact HO

/-- A buffer's two halves. -/
theorem own_halves {c : Thread nD τ} {sp : Space} {s : Shape} {e : EltTy} {m : Memref sig c.2.kind sp s e} {q : PosShare TreeShare} {g : s.Idx → Elt F e} :
    (own (F := F) c q m g : sProp 𝕄) ⊢ iprop(own (F := F) c q.left m g ∗ own (F := F) c q.right m g) := by
  unfold own
  iintro ⟨%f, %hf, H⟩
  ihave H := (pointsTo_share (PosShare.mem_left_op_right q)).1 $$ H
  icases H with ⟨H1, H2⟩
  isplitl [H1]
  · iexists f
    isplitr; · ipureintro; exact hf
    iexact H1
  · iexists f
    isplitr; · ipureintro; exact hf
    iexact H2

theorem own_join {c : Thread nD τ} {sp : Space} {s : Shape} {e : EltTy} {m : Memref sig c.2.kind sp s e} {q : PosShare TreeShare} {g : s.Idx → Elt F e} :
    iprop(own (F := F) c q.left m g ∗ own (F := F) c q.right m g) ⊢ (own (F := F) c q m g : sProp 𝕄) := by
  unfold own
  iintro ⟨⟨%f, %hf, H1⟩, ⟨%f', -, H2⟩⟩
  ihave %ha := pointsTo_agree $$ [H1 H2]
  · isplitl [H1]; · iexact H1
    iexact H2
  iexists f
  isplitr; · ipureintro; exact hf
  iapply (pointsTo_share (PosShare.mem_left_op_right q)).2
  isplitl [H1]; · iexact H1
  iapply (Entails.of_eq (pointsTo_congr (fun x hx => ((ha x (Finset.mem_inter.2 ⟨hx, hx⟩)).1).symm))) $$ H2

end Group

variable {arg2 : Memref sig .scVector .hbm S16384 .i32} {harg2 : arg2.IsWhole} {arg3 : Memref sig .scVector .hbm S32x1000000 .f32}
   {harg3 : arg3.IsWhole} {arg4 : Memref sig .scVector .hbm S64x32 .f32} {harg4 : arg4.IsWhole}
   {arg5 : Memref sig .scVector .hbm S16400x128 .f32} {harg5 : arg5.IsWhole} {arg6 : Memref sig .scVector .vmem S2048 .i32}
   {harg6 : arg6.IsWhole} {arg7 : Memref sig .scVector .vmem S1024 .i32} {harg7 : arg7.IsWhole}
   {arg8 : Memref sig .scVector .vmem S1024 .i32} {harg8 : arg8.IsWhole} {arg9 : Memref sig .scVector .vmem S32x512 .f32}
   {harg9 : arg9.IsWhole} {arg10 : Memref sig .scVector .vmem S32x512 .f32} {harg10 : arg10.IsWhole}
   {arg11 : Memref sig .scVector .vmem S64x32 .f32} {harg11 : arg11.IsWhole} {arg12 : Memref sig .scVector .vmem S512 .i32}
   {harg12 : arg12.IsWhole} {arg13 : Memref sig .scVector .vmem S512 .i32} {harg13 : arg13.IsWhole}
   {arg14 : Memref sig .scVector .vmem S512x32 .f32} {harg14 : arg14.IsWhole} {arg15 : Memref sig .scVector .vmem S64x128 .f32}
   {harg15 : arg15.IsWhole} {arg16 : Memref sig .scVector .vmem S64x128 .f32} {harg16 : arg16.IsWhole}
   {arg17 : Memref sig .scVector .vmem S8x64 .i32} {harg17 : arg17.IsWhole} {arg18 : DmaSems sig S_} {arg19 : DmaSems sig S_}
   {arg20 : DmaSems sig S_} {arg21 : DmaSems sig S_} {v46_r0 : DmaSems sig S_} {v49_r1 : DmaSems sig S_} {v143_r2 : DmaSems sig S_}
   {v143_r3 : DmaSems sig S_}
variable {v4 v6 v7 v11 v17 v65 v72 : BitVec 32} {v12 : IVec S16 32} {qa qb : PosShare TreeShare} {mi mk : S1024.Idx → BitVec 32} {O : CellTallies nD τ sig (HIx 1)} {W : Waits sig (HIx 1)}
  {kv : S8x64.Idx → BitVec 32} {ob : S512x32.Idx → Elt F .f32}

local notation "GR" => Grp (F := F) d i arg5 tab w iv

/-- The groups 2, 3 and 4 of a batch are sent, the groups 1 and 2 arrive. -/
theorem part50_spec {X0 X1 : Fin 64 → sProp 𝕄} [hX0 : ∀ j, Storable (upEmb : UEmb _ 𝕄) (X0 j)] [hX1 : ∀ j, Storable (upEmb : UEmb _ 𝕄) (X1 j)] {Dv : sProp 𝕄} [hDv : Persistent Dv] (h12 : ∀ x, v12 x = BitVec.ofNat 32 (x 0).val)
    (hD0 : ∀ j w, iprop(Dv ∗ X0 j) ⊢ writeUpdate (tV d i) (rowM arg5 (rowF 16384)).view w (X0 j))
    (hD1 : ∀ j w, iprop(Dv ∗ X1 j) ⊢ writeUpdate (tV d i) (rowM arg5 (rowF 16384)).view w (X1 j)) (hG : Gath tab w iv b kv ob) :
    iprop(Dv ∗ own (F := F) (tV d i) fullShare arg14 ob ∗ Free (F := F) d i X0 arg15 arg20.sem arg17 fullShare.left kv ∗ Fly (F := F) d i X1 arg5 tab w iv arg16 arg21.sem arg17 fullShare.right kv (8 * b + 1) ∗ GR False (8 * b + 2) ∗ GR False (8 * b + 3) ∗ GR False (8 * b + 4) ∗ Ow (F := F) d i O W)
      ⊢ WP d i (k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v12 0#32 0#32) (fun _ => iprop(own (F := F) (tV d i) fullShare arg14 ob ∗ Fly (F := F) d i X0 arg5 tab w iv arg15 arg20.sem arg17 fullShare.left kv (8 * b + 4) ∗ Fly (F := F) d i X1 arg5 tab w iv arg16 arg21.sem arg17 fullShare.right kv (8 * b + 3)
          ∗ GR True (8 * b + 1) ∗ GR True (8 * b + 2) ∗ Ow (F := F) d i O W)) := by
  rw [k0_part50_eq_skeleton]
  unfold k0_part50_skel
  dsimp only
  iintro ⟨#HD, H14, F0, F1, G2, G3, G4, Hw⟩
  iapply (go_stage (F := F) d i (r := 2) (fun D => t24_spec (F := F) d i h12)) $$ [H14 F0]
  · isplitl [H14]; · iexact H14
    iexact F0
  iintro ⟨H14, F0⟩
  iapply (go_issue (F := F) d i (r := 2) (dn := False) hD0 (by decide) ⟨rfl, rfl⟩ hG) $$ [F0 G2]
  · isplitr; · iexact HD
    isplitl [F0]; · iexact F0
    iexact G2
  iintro F0
  iapply (go_wait (F := F) d i) $$ [F1 Hw]
  · isplitl [F1]; · iexact F1
    iexact Hw
  iintro ⟨F1, G1, Hw⟩
  iapply (go_stage (F := F) d i (r := 3) (fun D => t26_spec (F := F) d i h12)) $$ [H14 F1]
  · isplitl [H14]; · iexact H14
    iexact F1
  iintro ⟨H14, F1⟩
  iapply (go_issue (F := F) d i (r := 3) (dn := False) hD1 (by decide) ⟨rfl, rfl⟩ hG) $$ [F1 G3]
  · isplitr; · iexact HD
    isplitl [F1]; · iexact F1
    iexact G3
  iintro F1
  iapply (go_wait (F := F) d i) $$ [F0 Hw]
  · isplitl [F0]; · iexact F0
    iexact Hw
  iintro ⟨F0, G2, Hw⟩
  iapply (go_stage (F := F) d i (r := 4) (fun D => t28_spec (F := F) d i h12)) $$ [H14 F0]
  · isplitl [H14]; · iexact H14
    iexact F0
  iintro ⟨H14, F0⟩
  iapply (go_issue (F := F) d i (r := 4) (dn := False) hD0 (by decide) ⟨rfl, rfl⟩ hG) $$ [F0 G4]
  · isplitr; · iexact HD
    isplitl [F0]; · iexact F0
    iexact G4
  iintro F0
  iapply own_pure
  isplitl [H14]; · iexact H14
  isplitl [F0]; · iexact F0
  isplitl [F1]; · iexact F1
  isplitl [G1]; · iexact G1
  isplitl [G2]; · iexact G2
  iexact Hw

/-- The groups 5 and 6 of a batch are sent, the last one is staged, the groups 3, 4 and 5 arrive. -/
theorem part51_spec {X0 X1 : Fin 64 → sProp 𝕄} [hX0 : ∀ j, Storable (upEmb : UEmb _ 𝕄) (X0 j)] [hX1 : ∀ j, Storable (upEmb : UEmb _ 𝕄) (X1 j)] {Dv : sProp 𝕄} [hDv : Persistent Dv] (h12 : ∀ x, v12 x = BitVec.ofNat 32 (x 0).val)
    (hD0 : ∀ j w, iprop(Dv ∗ X0 j) ⊢ writeUpdate (tV d i) (rowM arg5 (rowF 16384)).view w (X0 j))
    (hD1 : ∀ j w, iprop(Dv ∗ X1 j) ⊢ writeUpdate (tV d i) (rowM arg5 (rowF 16384)).view w (X1 j)) (hG : Gath tab w iv b kv ob) :
    iprop(Dv ∗ own (F := F) (tV d i) fullShare arg14 ob ∗ Fly (F := F) d i X0 arg5 tab w iv arg15 arg20.sem arg17 fullShare.left kv (8 * b + 4) ∗ Fly (F := F) d i X1 arg5 tab w iv arg16 arg21.sem arg17 fullShare.right kv (8 * b + 3) ∗ GR False (8 * b + 5) ∗ GR False (8 * b + 6) ∗ Ow (F := F) d i O W)
      ⊢ WP d i (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v12) (fun _ => iprop(own (F := F) (tV d i) fullShare arg14 ob ∗ Fly (F := F) d i X0 arg5 tab w iv arg15 arg20.sem arg17 fullShare.left kv (8 * b + 6)
          ∗ Ready (F := F) d i X1 arg16 arg21.sem arg17 fullShare.right kv 7 ob
          ∗ GR True (8 * b + 3) ∗ GR True (8 * b + 4) ∗ GR True (8 * b + 5) ∗ Ow (F := F) d i O W)) := by
  rw [k0_part51_eq_skeleton]
  unfold k0_part51_skel
  dsimp only
  iintro ⟨#HD, H14, F0, F1, G5, G6, Hw⟩
  iapply (go_wait (F := F) d i) $$ [F1 Hw]
  · isplitl [F1]; · iexact F1
    iexact Hw
  iintro ⟨F1, G3, Hw⟩
  iapply (go_stage (F := F) d i (r := 5) (fun D => t30_spec (F := F) d i h12)) $$ [H14 F1]
  · isplitl [H14]; · iexact H14
    iexact F1
  iintro ⟨H14, F1⟩
  iapply (go_issue (F := F) d i (r := 5) (dn := False) hD1 (by decide) ⟨rfl, rfl⟩ hG) $$ [F1 G5]
  · isplitr; · iexact HD
    isplitl [F1]; · iexact F1
    iexact G5
  iintro F1
  iapply (go_wait (F := F) d i) $$ [F0 Hw]
  · isplitl [F0]; · iexact F0
    iexact Hw
  iintro ⟨F0, G4, Hw⟩
  iapply (go_stage (F := F) d i (r := 6) (fun D => t32_spec (F := F) d i h12)) $$ [H14 F0]
  · isplitl [H14]; · iexact H14
    iexact F0
  iintro ⟨H14, F0⟩
  iapply (go_issue (F := F) d i (r := 6) (dn := False) hD0 (by decide) ⟨rfl, rfl⟩ hG) $$ [F0 G6]
  · isplitr; · iexact HD
    isplitl [F0]; · iexact F0
    iexact G6
  iintro F0
  iapply (go_wait (F := F) d i) $$ [F1 Hw]
  · isplitl [F1]; · iexact F1
    iexact Hw
  iintro ⟨F1, G5, Hw⟩
  iapply (go_stage (F := F) d i (r := 7) (fun D => t34_spec (F := F) d i h12)) $$ [H14 F1]
  · isplitl [H14]; · iexact H14
    iexact F1
  iintro ⟨H14, F1⟩
  iapply own_pure
  isplitl [H14]; · iexact H14
  isplitl [F0]; · iexact F0
  isplitl [F1]; · iexact F1
  isplitl [G3]; · iexact G3
  isplitl [G4]; · iexact G4
  isplitl [G5]; · iexact G5
  iexact Hw

/-- A staging buffer at rest, with the tokens and the semaphore, but without the position list. -/
def Rest (X : Fin 64 → sProp 𝕄) (mS : Memref sig .scVector .vmem S64x128 .f32) (sem : DmaSem sig) : sProp 𝕄 :=
  iprop((∃ D, own (F := F) (tV d i) fullShare mS D) ∗ bigSep Finset.univ X ∗ semVal (tV d i, .dma sem) 0)

theorem free_of {X : Fin 64 → sProp 𝕄} {mS : Memref sig .scVector .vmem S64x128 .f32} {sem : DmaSem sig} {m17 : Memref sig .scVector .vmem S8x64 .i32} {q : PosShare TreeShare}
    {kv : S8x64.Idx → BitVec 32} : iprop(Rest (F := F) d i X mS sem ∗ own (F := F) (tV d i) q m17 kv) ⊢ Free (F := F) d i X mS sem m17 q kv := by
  unfold Rest Free
  iintro ⟨⟨HS, HX, Hv⟩, Hkv⟩
  isplitl [HS]; · iexact HS
  isplitl [Hkv]; · iexact Hkv
  isplitl [HX]; · iexact HX
  iexact Hv

theorem free_to {X : Fin 64 → sProp 𝕄} {mS : Memref sig .scVector .vmem S64x128 .f32} {sem : DmaSem sig} {m17 : Memref sig .scVector .vmem S8x64 .i32} {q : PosShare TreeShare}
    {kv : S8x64.Idx → BitVec 32} : Free (F := F) d i X mS sem m17 q kv ⊢ iprop(Rest (F := F) d i X mS sem ∗ own (F := F) (tV d i) q m17 kv) := by
  unfold Rest Free
  iintro ⟨HS, Hkv, HX, Hv⟩
  isplitr [Hkv]
  · isplitl [HS]; · iexact HS
    isplitl [HX]; · iexact HX
    iexact Hv
  iexact Hkv

/-- What a batch leaves alone while its rows are sent. -/
def Pas (m7 m8 : Memref sig .scVector .vmem S1024 .i32) (mE mO : Memref sig .scVector .vmem S512 .i32) (mL : Memref sig .scVector .vmem S64x32 .f32) (mT : Memref sig .scVector .hbm S32x1000000 .f32)
    (sE sO : Memref sig .scVector .vmem S32x512 .f32) (uE uO : DmaSem sig) (qa qb : PosShare TreeShare) (tab : S32x1000000.Idx → Elt F .f32) (tl : S64x32.Idx → Elt F .f32) : sProp 𝕄 :=
  iprop(∃ mi mk gE gO, ⌜(∀ n < 512, (at1 gE n).toNat < 512) ∧ (∀ n < 512, (at1 gO n).toNat < 512)⌝
    ∗ own (F := F) (e := .i32) (tV d i) fullShare mE gE ∗ own (F := F) (e := .i32) (tV d i) fullShare mO gO
    ∗ own (F := F) (e := .i32) (tV d i) fullShare m7 mi ∗ own (F := F) (e := .i32) (tV d i) fullShare m8 mk ∗ own (F := F) (tV d i) fullShare mL tl
    ∗ Idle (F := F) d i qa mT sE uE tab ∗ Idle (F := F) d i qb mT sO uO tab)

local notation "PSt" => PairS (F := F) d i arg7 arg8 arg12 arg13 arg3 arg9 arg10 arg17 arg14 arg18.sem arg19.sem qa qb tab mi mk O W w
local notation "PSm" => PairS (F := F) d i arg7 arg8 arg12 arg13 arg3 arg9 arg10 arg17 arg14 arg18.sem arg19.sem qa qb tab
local notation "PAS" => Pas (F := F) d i arg7 arg8 arg12 arg13 arg11 arg3 arg9 arg10 arg18.sem arg19.sem qa qb tab

variable {tl : S64x32.Idx → Elt F .f32}

/-- The window loop, the table's last rows, and the groups 0 and 1, the first of which arrives. -/
theorem part49_spec {X0 X1 : Fin 64 → sProp 𝕄} [hX0 : ∀ j, Storable (upEmb : UEmb _ 𝕄) (X0 j)] [hX1 : ∀ j, Storable (upEmb : UEmb _ 𝕄) (X1 j)] {Dv : sProp 𝕄} [hDv : Persistent Dv] (hw : w < 32) (hwi : w = wid i) (h4 : v4 = BitVec.ofNat 32 (tLo w)) (h6 : v6 = BitVec.ofNat 32 (tN w)) (h12 : ∀ x, v12 x = BitVec.ofNat 32 (x 0).val)
    (hD0 : ∀ j w, iprop(Dv ∗ X0 j) ⊢ writeUpdate (tV d i) (rowM arg5 (rowF 16384)).view w (X0 j))
    (hD1 : ∀ j w, iprop(Dv ∗ X1 j) ⊢ writeUpdate (tV d i) (rowM arg5 (rowF 16384)).view w (X1 j))
    (hC : Cap (PR w iv) (at1 iv) (512 * b) mi mk) (hsl : w = 31 → ∀ y, tl y = tabT tab (y 1).val (999936 + (y 0).val)) :
    iprop(Dv ∗ PSt 0 (win w 0) 0 (fun cE cO gE _ => v65 = BitVec.ofNat 32 cE ∧ Lists w 0 mi cE gE ∧ cO = 0) ∗ own (F := F) (tV d i) fullShare arg11 tl
        ∗ Rest (F := F) d i X0 arg15 arg20.sem ∗ Rest (F := F) d i X1 arg16 arg21.sem ∗ GR False (8 * b + 0) ∗ GR False (8 * b + 1) : sProp 𝕄)
      ⊢ WP d i (k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v12 v65 0#32 1#32) (fun r => iprop(∃ kv ob, ⌜r = ⟨0#32, 0#32⟩ ∧ Gath tab w iv b kv ob⌝ ∗ PAS tl
          ∗ own (F := F) (tV d i) fullShare arg14 ob ∗ Free (F := F) d i X0 arg15 arg20.sem arg17 fullShare.left kv ∗ Fly (F := F) d i X1 arg5 tab w iv arg16 arg21.sem arg17 fullShare.right kv (8 * b + 1) ∗ GR True (8 * b + 0) ∗ Ow (F := F) d i O W)) := by
  rw [k0_part49_eq_skeleton]
  unfold k0_part49_skel
  dsimp only
  iintro ⟨#HD, HP, H11, F0, F1, G0, G1⟩
  rw [WP_bind]
  iapply (wp_wand_r _)
  isplitl [HP]
  · iapply (t10_spec (F := F) d i hw hwi h4 h6 h12); iexact HP
  iintro %a HP
  unfold PairS
  icases HP with ⟨%cE, %cO, %gE, %gO, %kv, %ob, %h, HE, HO, H7, H8, H17, H14, SE, SO, Hw⟩
  obtain ⟨⟨hcE, hcO⟩, -, hE1, hO1, hX⟩ := h
  rw [hcE, hcO]
  ihave SE := (slab_idle (F := F) d i (by omega)) $$ SE
  ihave SO := (slab_idle (F := F) d i (by omega)) $$ SO
  rw [WP_bind]
  iapply (wp_wand_r _)
  isplitl [H7 HO]
  · iapply (t17_spec (F := F) d i h12 mi gO hO1)
    isplitl [H7] <;> iassumption
  iintro %v72 HP
  unfold ScanPost
  icases HP with ⟨%gO', %h, H7, HO⟩
  obtain ⟨h72, hL, hO1'⟩ := h
  have hc512 : Nat.count (fun q => inI 999936 1000000 (at1 mi q)) 512 ≤ 512 := Nat.count_le _
  iapply (asm (F := F) d i (h72 ▸ (trips12 ⟨_, Nat.lt_succ_of_le hc512⟩).1))
  iapply (own_dite (F := F) d i (R := iprop(∃ kv ob, ⌜Gath tab w iv b kv ob⌝ ∗ Dv
    ∗ own (F := F) (e := .i32) (tV d i) fullShare arg12 gE ∗ own (F := F) (e := .i32) (tV d i) fullShare arg13 gO'
    ∗ own (F := F) (e := .i32) (tV d i) fullShare arg7 mi ∗ own (F := F) (e := .i32) (tV d i) fullShare arg8 mk ∗ own (F := F) (tV d i) fullShare arg11 tl
    ∗ Idle (F := F) d i qa arg3 arg9 arg18.sem tab ∗ Idle (F := F) d i qb arg3 arg10 arg19.sem tab
    ∗ own (F := F) (e := .i32) (tV d i) fullShare arg17 kv ∗ own (F := F) (tV d i) fullShare arg14 ob
    ∗ Rest (F := F) d i X0 arg15 arg20.sem ∗ Rest (F := F) d i X1 arg16 arg21.sem ∗ GR False (8 * b + 0) ∗ GR False (8 * b + 1) ∗ Ow (F := F) d i O W))
    (P := iprop(Dv
    ∗ own (F := F) (e := .i32) (tV d i) fullShare arg12 gE ∗ own (F := F) (e := .i32) (tV d i) fullShare arg13 gO'
    ∗ own (F := F) (e := .i32) (tV d i) fullShare arg7 mi ∗ own (F := F) (e := .i32) (tV d i) fullShare arg8 mk ∗ own (F := F) (tV d i) fullShare arg11 tl
    ∗ Idle (F := F) d i qa arg3 arg9 arg18.sem tab ∗ Idle (F := F) d i qb arg3 arg10 arg19.sem tab
    ∗ own (F := F) (e := .i32) (tV d i) fullShare arg17 kv ∗ own (F := F) (tV d i) fullShare arg14 ob
    ∗ Rest (F := F) d i X0 arg15 arg20.sem ∗ Rest (F := F) d i X1 arg16 arg21.sem ∗ GR False (8 * b + 0) ∗ GR False (8 * b + 1) ∗ Ow (F := F) d i O W)) ?_ ?_ ?_) $$ [HE HO H7 H8 H17 H14 H11 SE SO F0 F1 G0 G1 Hw]
  rotate_left
  · intro hc hZ
    iintro ⟨HD, HE, HO, H7, H8, H11, SE, SO, H17, H14, F0, F1, G0, G1, Hw⟩
    have hpos : 0 < Nat.count (fun q => inI 999936 1000000 (at1 mi q)) 512 := (pos_iff h72 (by omega)).1 hc
    have hw31 : w = 31 := by
      by_contra hne
      obtain ⟨q, hq, hin, -⟩ := exists_count _ 0 512 hpos
      exact tail_none hw hne hC hq hin
    rw [WP_bind]
    iapply (wp_wand_r _)
    isplitl [HO H7 H8 H11 H17 H14]
    · iapply (t18_spec (F := F) d i h12 (hsl hw31) h72 hL hO1')
      unfold ExtS
      iexists kv, ob
      isplitr; · ipureintro; exact hX
      isplitl [HO]; · iexact HO
      isplitl [H7]; · iexact H7
      isplitl [H8]; · iexact H8
      isplitl [H11]; · iexact H11
      isplitl [H17]; · iexact H17
      iexact H14
    iintro %a HP
    unfold ExtS
    icases HP with ⟨%kv', %ob', %hX', HO, H7, H8, H11, H17, H14⟩
    rw [WP_bind]
    have h19 : (k0_t19_loop v72).trips = 0 := by rw [h72]; exact (trips12 ⟨_, Nat.lt_succ_of_le hc512⟩).2.2
    iapply (own_for_zero (F := F) d i h19)
    iapply hZ
    iexists kv', ob'
    isplitr; · ipureintro; exact Gath_of hw hC hX'
    isplitl [HD]; · iexact HD
    isplitl [HE]; · iexact HE
    isplitl [HO]; · iexact HO
    isplitl [H7]; · iexact H7
    isplitl [H8]; · iexact H8
    isplitl [H11]; · iexact H11
    isplitl [SE]; · iexact SE
    isplitl [SO]; · iexact SO
    isplitl [H17]; · iexact H17
    isplitl [H14]; · iexact H14
    isplitl [F0]; · iexact F0
    isplitl [F1]; · iexact F1
    isplitl [G0]; · iexact G0
    isplitl [G1]; · iexact G1
    iexact Hw
  · intro hc
    iintro ⟨HD, HE, HO, H7, H8, H11, SE, SO, H17, H14, F0, F1, G0, G1, Hw⟩
    have h0 : Nat.count (fun q => inI 999936 1000000 (at1 mi q)) 512 = 0 := by
      rcases Nat.eq_zero_or_pos (Nat.count (fun q => inI 999936 1000000 (at1 mi q)) 512) with h | h
      · exact h
      · exact absurd ((pos_iff h72 (by omega)).2 h) hc
    have hX' : Ext tab mi mk (fun q => Done w mi 62 q ∨ inI 999936 1000000 (at1 mi q)) kv ob := by
      refine Ext_mono hX fun q hq h => ?_
      rcases h with h | h
      · exact h
      · exact absurd h (none_of_count h0 q hq)
    iexists kv, ob
    isplitr; · ipureintro; exact Gath_of hw hC hX'
    isplitl [HD]; · iexact HD
    isplitl [HE]; · iexact HE
    isplitl [HO]; · iexact HO
    isplitl [H7]; · iexact H7
    isplitl [H8]; · iexact H8
    isplitl [H11]; · iexact H11
    isplitl [SE]; · iexact SE
    isplitl [SO]; · iexact SO
    isplitl [H17]; · iexact H17
    isplitl [H14]; · iexact H14
    isplitl [F0]; · iexact F0
    isplitl [F1]; · iexact F1
    isplitl [G0]; · iexact G0
    isplitl [G1]; · iexact G1
    iexact Hw
  · isplitr; · iexact HD
    isplitl [HE]; · iexact HE
    isplitl [HO]; · iexact HO
    isplitl [H7]; · iexact H7
    isplitl [H8]; · iexact H8
    isplitl [H11]; · iexact H11
    isplitl [SE]; · iexact SE
    isplitl [SO]; · iexact SO
    isplitl [H17]; · iexact H17
    isplitl [H14]; · iexact H14
    isplitl [F0]; · iexact F0
    isplitl [F1]; · iexact F1
    isplitl [G0]; · iexact G0
    isplitl [G1]; · iexact G1
    iexact Hw
  iintro ⟨%kv', %ob', %hG, #HD, HE, HO, H7, H8, H11, SE, SO, H17, H14, F0, F1, G0, G1, Hw⟩
  ihave H17 := own_halves $$ H17
  icases H17 with ⟨Ha, Hb⟩
  ihave F0 := (free_of (F := F) d i) $$ [F0 Ha]
  · isplitl [F0]; · iexact F0
    iexact Ha
  ihave F1 := (free_of (F := F) d i) $$ [F1 Hb]
  · isplitl [F1]; · iexact F1
    iexact Hb
  iapply (go_stage (F := F) d i (r := 0) (fun D => t20_spec (F := F) d i h12)) $$ [H14 F0]
  · isplitl [H14]; · iexact H14
    iexact F0
  iintro ⟨H14, F0⟩
  iapply (go_issue (F := F) d i (r := 0) (dn := False) hD0 (by decide) ⟨rfl, rfl⟩ hG) $$ [F0 G0]
  · isplitr; · iexact HD
    isplitl [F0]; · iexact F0
    iexact G0
  iintro F0
  iapply (go_stage (F := F) d i (r := 1) (fun D => t22_spec (F := F) d i h12)) $$ [H14 F1]
  · isplitl [H14]; · iexact H14
    iexact F1
  iintro ⟨H14, F1⟩
  iapply (go_issue (F := F) d i (r := 1) (dn := False) hD1 (by decide) ⟨rfl, rfl⟩ hG) $$ [F1 G1]
  · isplitr; · iexact HD
    isplitl [F1]; · iexact F1
    iexact G1
  iintro F1
  iapply (go_wait (F := F) d i) $$ [F0 Hw]
  · isplitl [F0]; · iexact F0
    iexact Hw
  iintro ⟨F0, G0, Hw⟩
  iapply own_pure
  iexists kv', ob'
  isplitr; · ipureintro; exact ⟨rfl, hG⟩
  isplitl [HE HO H7 H8 H11 SE SO]
  · unfold Pas
    iexists mi, mk, gE, gO'
    isplitr; · ipureintro; exact ⟨hE1, hO1'⟩
    isplitl [HE]; · iexact HE
    isplitl [HO]; · iexact HO
    isplitl [H7]; · iexact H7
    isplitl [H8]; · iexact H8
    isplitl [H11]; · iexact H11
    isplitl [SE]; · iexact SE
    iexact SO
  isplitl [H14]; · iexact H14
  isplitl [F0]; · iexact F0
  isplitl [F1]; · iexact F1
  isplitl [G0]; · iexact G0
  iexact Hw

/-- A batch's entries are captured, the first window is scanned and its copy issued. -/
theorem part48_spec (hw : w < 32) (hwi : w = wid i) (h4 : v4 = BitVec.ofNat 32 (tLo w)) (h6 : v6 = BitVec.ofNat 32 (tN w)) (h7 : v7 = BitVec.ofNat 32 (rLo w))
    (h11 : v11 = BitVec.ofNat 32 (rHi w)) (h12 : ∀ x, v12 x = BitVec.ofNat 32 (x 0).val) (h17 : v17 = BitVec.ofNat 32 (Nat.count (PR w iv) 16384))
    {k0_t4 : Fin (k0_t4_loop v17).trips} (ht : k0_t4.val < 33) {q2 : PosShare TreeShare} {g6 : S2048.Idx → BitVec 32} {gE gO : S512.Idx → BitVec 32}
    (hE : ∀ n < 512, (at1 gE n).toNat < 512) (hO : ∀ n < 512, (at1 gO n).toNat < 512) :
    iprop(own (F := F) (e := .i32) (tV d i) q2 arg2 iv ∗ own (F := F) (e := .i32) (tV d i) fullShare arg6 g6 ∗ semVal (tV d i, .dma v143_r2.sem) 0 ∗ Ow (F := F) d i O W
        ∗ own (F := F) (e := .i32) (tV d i) fullShare arg7 mi ∗ own (F := F) (e := .i32) (tV d i) fullShare arg8 mk
        ∗ own (F := F) (e := .i32) (tV d i) fullShare arg12 gE ∗ own (F := F) (e := .i32) (tV d i) fullShare arg13 gO
        ∗ own (F := F) (e := .i32) (tV d i) fullShare arg17 kv ∗ own (F := F) (tV d i) fullShare arg14 ob
        ∗ Idle (F := F) d i qa arg3 arg9 arg18.sem tab ∗ Idle (F := F) d i qb arg3 arg10 arg19.sem tab : sProp 𝕄)
      ⊢ WP d i (k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v7 v11 v12 v17 0#32 1#32 k0_t4) (fun r => iprop(∃ v65 mi mk g6, ⌜r = ⟨v65, 0#32, 1#32⟩ ∧ Cap (PR w iv) (at1 iv) (512 * k0_t4.val) mi mk⌝
          ∗ PSm mi mk O W w 0 (win w 0) 0 (fun cE cO gE _ => v65 = BitVec.ofNat 32 cE ∧ Lists w 0 mi cE gE ∧ cO = 0)
          ∗ own (F := F) (e := .i32) (tV d i) q2 arg2 iv ∗ own (F := F) (e := .i32) (tV d i) fullShare arg6 g6 ∗ semVal (tV d i, .dma v143_r2.sem) 0)) := by
  rw [k0_part48_eq_skeleton]
  unfold k0_part48_skel
  dsimp only
  iintro ⟨H2, H6, Hs, Hw, H7, H8, HE, HO, H17, H14, SE, SO⟩
  rw [WP_bind]
  iapply (wp_wand_r _)
  isplitl [H2 H6 Hs Hw H7 H8]
  · iapply (t5_spec (F := F) d i hw h7 h11 h12 ht)
    isplitl [H2]; · iexact H2
    isplitl [H6]; · iexact H6
    isplitl [Hs]; · iexact Hs
    isplitl [Hw]; · iexact Hw
    isplitl [H7]; · iexact H7
    iexact H8
  iintro %a ⟨%g6', %mi1, %mk', %hCI, H2, H6, Hs, Hw, H7, H8⟩
  rw [WP_bind]
  iapply (wp_wand_r _)
  isplitl [H7]
  · iapply (t7_spec (F := F) d i h12 ht h17 hCI); iexact H7
  iintro %a ⟨%mi', %hC, H7⟩
  rw [WP_bind]
  iapply (wp_wand_r _)
  isplitl [H17]
  · iapply (t8_spec (F := F) d i h12); iexact H17
  iintro %a ⟨%kv', %hkv, H17⟩
  rw [WP_bind]
  iapply (wp_wand_r _)
  isplitl [H7 HE]
  · iapply (t9_spec (F := F) d i hw h4 h6 h12 mi' gE hE)
    isplitl [H7] <;> iassumption
  iintro %v65 HP
  unfold ScanPost
  icases HP with ⟨%gE', %h, H7, HE⟩
  obtain ⟨h65, hL, hE'⟩ := h
  obtain ⟨c, hc⟩ : ∃ c, c = Nat.count (fun q => inI (win w 0) (win w 0 + 512) (at1 mi' q)) 512 := ⟨_, rfl⟩
  have hc512 : c ≤ 512 := hc ▸ Nat.count_le _
  have h65' : v65 = BitVec.ofNat 32 c := by rw [hc]; exact h65
  have hwin := win_le hw 0
  have hX : Ext tab mi' mk' (Done w mi' 0) kv' ob := by
    refine ⟨fun q _ h => ?_, fun q hq _ => hkv q hq, fun y h => ?_⟩
    · unfold Done at h
      obtain ⟨t, ht, -⟩ := h
      omega
    · unfold Done at h
      obtain ⟨t, ht, -⟩ := h
      omega
  have hpE := pos_iff h65' (by omega)
  iapply (own_ite (F := F) d i (R := iprop(own (F := F) (e := .i32) (tV d i) q2 arg2 iv ∗ own (F := F) (e := .i32) (tV d i) fullShare arg6 g6' ∗ semVal (tV d i, .dma v143_r2.sem) 0 ∗ Ow (F := F) d i O W
        ∗ own (F := F) (e := .i32) (tV d i) fullShare arg7 mi' ∗ own (F := F) (e := .i32) (tV d i) fullShare arg8 mk'
        ∗ own (F := F) (e := .i32) (tV d i) fullShare arg12 gE' ∗ own (F := F) (e := .i32) (tV d i) fullShare arg13 gO
        ∗ own (F := F) (e := .i32) (tV d i) fullShare arg17 kv' ∗ own (F := F) (tV d i) fullShare arg14 ob
        ∗ Slab (F := F) d i qa arg3 arg9 arg18.sem tab (win w 0) c ∗ Idle (F := F) d i qb arg3 arg10 arg19.sem tab))
     (P := iprop(own (F := F) (e := .i32) (tV d i) q2 arg2 iv ∗ own (F := F) (e := .i32) (tV d i) fullShare arg6 g6' ∗ semVal (tV d i, .dma v143_r2.sem) 0 ∗ Ow (F := F) d i O W
        ∗ own (F := F) (e := .i32) (tV d i) fullShare arg7 mi' ∗ own (F := F) (e := .i32) (tV d i) fullShare arg8 mk'
        ∗ own (F := F) (e := .i32) (tV d i) fullShare arg12 gE' ∗ own (F := F) (e := .i32) (tV d i) fullShare arg13 gO
        ∗ own (F := F) (e := .i32) (tV d i) fullShare arg17 kv' ∗ own (F := F) (tV d i) fullShare arg14 ob
        ∗ Idle (F := F) d i qa arg3 arg9 arg18.sem tab ∗ Idle (F := F) d i qb arg3 arg10 arg19.sem tab)) ?_ ?_ ?_) $$ [H2 H6 Hs Hw H7 H8 HE HO H17 H14 SE SO]
  rotate_left
  · intro hc hZ
    iintro ⟨H2, H6, Hs, Hw, H7, H8, HE, HO, H17, H14, SE, SO⟩
    iapply (slab_issue (F := F) d i (a := win w 0) (by omega) (by rw [hwi]; exact off7 i)) $$ SE
    iintro SE
    iapply hZ
    ihave SE := (busy_slab (F := F) d i (hpE.1 hc)) $$ SE
    isplitl [H2]; · iexact H2
    isplitl [H6]; · iexact H6
    isplitl [Hs]; · iexact Hs
    isplitl [Hw]; · iexact Hw
    isplitl [H7]; · iexact H7
    isplitl [H8]; · iexact H8
    isplitl [HE]; · iexact HE
    isplitl [HO]; · iexact HO
    isplitl [H17]; · iexact H17
    isplitl [H14]; · iexact H14
    isplitl [SE]; · iexact SE
    iexact SO
  · intro hn
    iintro ⟨H2, H6, Hs, Hw, H7, H8, HE, HO, H17, H14, SE, SO⟩
    have h0 : c = 0 := by
      rcases Nat.eq_zero_or_pos c with h | h
      · exact h
      · exact absurd (hpE.2 h) hn
    ihave SE := (idle_slab (F := F) d i (a := win w 0)) $$ SE
    rw [← h0]
    isplitl [H2]; · iexact H2
    isplitl [H6]; · iexact H6
    isplitl [Hs]; · iexact Hs
    isplitl [Hw]; · iexact Hw
    isplitl [H7]; · iexact H7
    isplitl [H8]; · iexact H8
    isplitl [HE]; · iexact HE
    isplitl [HO]; · iexact HO
    isplitl [H17]; · iexact H17
    isplitl [H14]; · iexact H14
    isplitl [SE]; · iexact SE
    iexact SO
  · isplitl [H2]; · iexact H2
    isplitl [H6]; · iexact H6
    isplitl [Hs]; · iexact Hs
    isplitl [Hw]; · iexact Hw
    isplitl [H7]; · iexact H7
    isplitl [H8]; · iexact H8
    isplitl [HE]; · iexact HE
    isplitl [HO]; · iexact HO
    isplitl [H17]; · iexact H17
    isplitl [H14]; · iexact H14
    isplitl [SE]; · iexact SE
    iexact SO
  iintro ⟨H2, H6, Hs, Hw, H7, H8, HE, HO, H17, H14, SE, SO⟩
  iapply own_pure
  iexists v65, mi', mk', g6'
  isplitr; · ipureintro; exact ⟨rfl, hC⟩
  isplitr [H2 H6 Hs]
  · unfold PairS
    iexists c, 0, gE', gO, kv', ob
    isplitr
    · ipureintro
      exact ⟨⟨h65', ⟨hc, hL⟩, rfl⟩, ⟨hc512, by omega⟩, hE', hO, hX⟩
    isplitl [HE]; · iexact HE
    isplitl [HO]; · iexact HO
    isplitl [H7]; · iexact H7
    isplitl [H8]; · iexact H8
    isplitl [H17]; · iexact H17
    isplitl [H14]; · iexact H14
    isplitl [SE]; · iexact SE
    ihave SO := (idle_slab (F := F) d i (a := 0)) $$ SO
    isplitl [SO]; · iexact SO
    iexact Hw
  isplitl [H2]; · iexact H2
  isplitl [H6]; · iexact H6
  iexact Hs

/-- What a tile holds between two batches, its result rows apart. -/
def TileS (X0 X1 : Fin 64 → sProp 𝕄) (m2 : Memref sig .scVector .hbm S16384 .i32) (m6 : Memref sig .scVector .vmem S2048 .i32) (s2 : DmaSem sig)
    (m7 m8 : Memref sig .scVector .vmem S1024 .i32) (mE mO : Memref sig .scVector .vmem S512 .i32) (mL : Memref sig .scVector .vmem S64x32 .f32) (mT : Memref sig .scVector .hbm S32x1000000 .f32)
    (sE sO : Memref sig .scVector .vmem S32x512 .f32) (m14 : Memref sig .scVector .vmem S512x32 .f32) (g0 g1 : Memref sig .scVector .vmem S64x128 .f32) (m17 : Memref sig .scVector .vmem S8x64 .i32)
    (uE uO u0 u1 : DmaSem sig) (q2 qa qb : PosShare TreeShare) (iv : S16384.Idx → BitVec 32)
    (tab : S32x1000000.Idx → Elt F .f32) (tl : S64x32.Idx → Elt F .f32) (O : CellTallies nD τ sig (HIx 1)) (W : Waits sig (HIx 1)) : sProp 𝕄 :=
  iprop(∃ kv ob g6, Pas (F := F) d i m7 m8 mE mO mL mT sE sO uE uO qa qb tab tl ∗ own (F := F) (e := .i32) (tV d i) q2 m2 iv
    ∗ own (F := F) (e := .i32) (tV d i) fullShare m6 g6 ∗ semVal (tV d i, .dma s2) 0
    ∗ own (F := F) (e := .i32) (tV d i) fullShare m17 kv ∗ own (F := F) (tV d i) fullShare m14 ob
    ∗ Rest (F := F) d i X0 g0 u0 ∗ Rest (F := F) d i X1 g1 u1 ∗ Ow (F := F) d i O W)

/-- The rows of a batch. -/
def Bat (m5 : Memref sig .scVector .hbm S16400x128 .f32) (tab : S32x1000000.Idx → Elt F .f32) (w : ℕ) (iv : S16384.Idx → BitVec 32) (dn : Prop) (b : ℕ) : sProp 𝕄 :=
  iprop(Grp (F := F) d i m5 tab w iv dn (8 * b + 0) ∗ Grp (F := F) d i m5 tab w iv dn (8 * b + 1) ∗ Grp (F := F) d i m5 tab w iv dn (8 * b + 2)
    ∗ Grp (F := F) d i m5 tab w iv dn (8 * b + 3) ∗ Grp (F := F) d i m5 tab w iv dn (8 * b + 4) ∗ Grp (F := F) d i m5 tab w iv dn (8 * b + 5)
    ∗ Grp (F := F) d i m5 tab w iv dn (8 * b + 6) ∗ Grp (F := F) d i m5 tab w iv dn (8 * b + 7))

/-- A whole batch: its rows are written. -/
theorem batch_spec {X0 X1 : Fin 64 → sProp 𝕄} [hX0 : ∀ j, Storable (upEmb : UEmb _ 𝕄) (X0 j)] [hX1 : ∀ j, Storable (upEmb : UEmb _ 𝕄) (X1 j)] {Dv : sProp 𝕄} [hDv : Persistent Dv] (hw : w < 32) (hwi : w = wid i) (h4 : v4 = BitVec.ofNat 32 (tLo w)) (h6 : v6 = BitVec.ofNat 32 (tN w)) (h7 : v7 = BitVec.ofNat 32 (rLo w))
    (h11 : v11 = BitVec.ofNat 32 (rHi w)) (h12 : ∀ x, v12 x = BitVec.ofNat 32 (x 0).val) (h17 : v17 = BitVec.ofNat 32 (Nat.count (PR w iv) 16384)) {k0_hw1 : k0_chk1 v17}
    (hD0 : ∀ j w, iprop(Dv ∗ X0 j) ⊢ writeUpdate (tV d i) (rowM arg5 (rowF 16384)).view w (X0 j))
    (hD1 : ∀ j w, iprop(Dv ∗ X1 j) ⊢ writeUpdate (tV d i) (rowM arg5 (rowF 16384)).view w (X1 j))
    (hsl : w = 31 → ∀ y, tl y = tabT tab (y 1).val (999936 + (y 0).val))
    (k0_t4 : Fin (k0_t4_loop v17).trips) (ht : k0_t4.val < 33) {q2 : PosShare TreeShare} {acc : BitVec 32} :
    iprop(Dv ∗ TileS (F := F) d i X0 X1 arg2 arg6 v143_r2.sem arg7 arg8 arg12 arg13 arg11 arg3 arg9 arg10 arg14 arg15 arg16 arg17 arg18.sem arg19.sem arg20.sem arg21.sem q2 qa qb iv tab tl O W ∗ Bat (F := F) d i arg5 tab w iv False k0_t4.val : sProp 𝕄)
      ⊢ WP d i (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3 v4 v6 v7 v11 v12 v17 k0_hw1 k0_t4 acc) (fun _ => iprop(TileS (F := F) d i X0 X1 arg2 arg6 v143_r2.sem arg7 arg8 arg12 arg13 arg11 arg3 arg9 arg10 arg14 arg15 arg16 arg17 arg18.sem arg19.sem arg20.sem arg21.sem q2 qa qb iv tab tl O W ∗ Bat (F := F) d i arg5 tab w iv True k0_t4.val)) := by
  unfold TileS Bat k0_t4_body
  dsimp only
  iintro ⟨#HD, ⟨%kv, %ob, %g6, HP, H2, H6, Hs, H17, H14, F0, F1, Hw⟩, G0, G1, G2, G3, G4, G5, G6, G7⟩
  unfold Pas
  icases HP with ⟨%mi, %mk, %gE, %gO, %hgs, HE, HO, H7, H8, H11, SE, SO⟩
  rw [WP_bind]
  iapply (wp_wand_r _)
  isplitl [HE HO H7 H8 SE SO H2 H6 Hs H17 H14 Hw]
  · iapply (part48_spec (F := F) d i hw hwi h4 h6 h7 h11 h12 h17 ht hgs.1 hgs.2)
    isplitl [H2]; · iexact H2
    isplitl [H6]; · iexact H6
    isplitl [Hs]; · iexact Hs
    isplitl [Hw]; · iexact Hw
    isplitl [H7]; · iexact H7
    isplitl [H8]; · iexact H8
    isplitl [HE]; · iexact HE
    isplitl [HO]; · iexact HO
    isplitl [H17]; · iexact H17
    isplitl [H14]; · iexact H14
    isplitl [SE]; · iexact SE
    iexact SO
  iintro %r ⟨%v65, %mi', %mk', %g6', %hr, HP, H2, H6, Hs⟩
  obtain ⟨hr, hC⟩ := hr
  subst hr
  dsimp only
  rw [WP_bind]
  iapply (wp_wand_r _)
  isplitl [HP H11 F0 F1 G0 G1]
  · iapply (part49_spec (F := F) d i hw hwi h4 h6 h12 hD0 hD1 hC hsl)
    isplitr; · iexact HD
    isplitl [HP]; · iexact HP
    isplitl [H11]; · iexact H11
    isplitl [F0]; · iexact F0
    isplitl [F1]; · iexact F1
    isplitl [G0]; · iexact G0
    iexact G1
  iintro %r ⟨%kv', %ob', %hr, HP, H14, F0, F1, G0, Hw⟩
  obtain ⟨hr, hG⟩ := hr
  subst hr
  dsimp only
  rw [WP_bind]
  iapply (wp_wand_r _)
  isplitl [H14 F0 F1 G2 G3 G4 Hw]
  · iapply (part50_spec (F := F) d i h12 hD0 hD1 hG)
    isplitr; · iexact HD
    isplitl [H14]; · iexact H14
    isplitl [F0]; · iexact F0
    isplitl [F1]; · iexact F1
    isplitl [G2]; · iexact G2
    isplitl [G3]; · iexact G3
    isplitl [G4]; · iexact G4
    iexact Hw
  iintro %r ⟨H14, F0, F1, G1, G2, Hw⟩
  rw [WP_bind]
  iapply (wp_wand_r _)
  isplitl [H14 F0 F1 G5 G6 Hw]
  · iapply (part51_spec (F := F) d i h12 hD0 hD1 hG)
    isplitr; · iexact HD
    isplitl [H14]; · iexact H14
    isplitl [F0]; · iexact F0
    isplitl [F1]; · iexact F1
    isplitl [G5]; · iexact G5
    isplitl [G6]; · iexact G6
    iexact Hw
  iintro %r ⟨H14, F0, F1, G3, G4, G5, Hw⟩
  iapply (go_issue (F := F) d i (r := 7) (dn := False) hD1 (by decide) ⟨rfl, rfl⟩ hG) $$ [F1 G7]
  · isplitr; · iexact HD
    isplitl [F1]; · iexact F1
    iexact G7
  iintro F1
  iapply (go_wait (F := F) d i) $$ [F0 Hw]
  · isplitl [F0]; · iexact F0
    iexact Hw
  iintro ⟨F0, G6, Hw⟩
  iapply (go_wait (F := F) d i) $$ [F1 Hw]
  · isplitl [F1]; · iexact F1
    iexact Hw
  iintro ⟨F1, G7, Hw⟩
  iapply own_pure
  ihave F0 := (free_to (F := F) d i) $$ F0
  icases F0 with ⟨F0, Ha⟩
  ihave F1 := (free_to (F := F) d i) $$ F1
  icases F1 with ⟨F1, Hb⟩
  ihave H17 := own_join $$ [Ha Hb]
  · isplitl [Ha]; · iexact Ha
    iexact Hb
  isplitr [G0 G1 G2 G3 G4 G5 G6 G7]
  · iexists kv', ob', g6'
    isplitl [HP]; · unfold Pas; iexact HP
    isplitl [H2]; · iexact H2
    isplitl [H6]; · iexact H6
    isplitl [Hs]; · iexact Hs
    isplitl [H17]; · iexact H17
    isplitl [H14]; · iexact H14
    isplitl [F0]; · iexact F0
    isplitl [F1]; · iexact F1
    iexact Hw
  isplitl [G0]; · iexact G0
  isplitl [G1]; · iexact G1
  isplitl [G2]; · iexact G2
  isplitl [G3]; · iexact G3
  isplitl [G4]; · iexact G4
  isplitl [G5]; · iexact G5
  isplitl [G6]; · iexact G6
  iexact G7

end Cert.Proof.Emb
-- ==== Proof.Body.lean ====
/-
  A tile's whole run: the last rows of the table are fetched, its rows counted, and the batches run.
-/
module

public import proofs.«01_k».proof.Proof.Batch

@[expose] public section

noncomputable section

namespace Cert.Proof.Emb

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)
open Idealize.ShloMosaic.SparseCore.Cfg (HIx Pay)

variable {F : FTy → Type}

local notation "𝕄" => MT nD τ sig (HIx 1) (Elt F) ℕ UU ℕ

variable [FloatOps F] (d : Dev nD) (i : grid0.Coords)

variable {w : ℕ} {iv : S16384.Idx → BitVec 32} {tab : S32x1000000.Idx → Elt F .f32}

/-! ### The number of batches -/

theorem sign_pos {x : BitVec 32} (h : 0 < x.toInt) :
    Scalar.subi (Scalar.extui (Scalar.cmpi .sgt x 0#32) : BitVec 32) (Scalar.extui (Scalar.cmpi .slt x 0#32)) = 1#32 := by
  have h1 : Scalar.cmpi .sgt x 0#32 = 1#1 := (sgt_one x 0#32).2 (by simpa using h)
  have h2 : Scalar.cmpi .slt x 0#32 = 0#1 := by
    rcases BitVec.eq_zero_or_eq_one (Scalar.cmpi .slt x 0#32) with h' | h'
    · exact h'
    · have := (slt_one x 0#32).1 h'
      have h0 : (0#32 : BitVec 32).toInt = 0 := by decide
      omega
  rw [h1, h2]
  decide

theorem div512 {m : ℕ} (hm : m < 20000) : Scalar.divsi (BitVec.ofNat 32 m) 512#32 = BitVec.ofNat 32 (m / 512) := by
  have hc : ¬ IntOp.SDivCorner (BitVec.ofNat 32 m) 512#32 := by
    unfold IntOp.SDivCorner
    rintro (h | ⟨-, h⟩)
    · revert h; decide
    · revert h; decide
  show (if IntOp.SDivCorner (BitVec.ofNat 32 m) 512#32 then _ else (BitVec.ofNat 32 m).sdiv 512#32) = _
  rw [if_neg hc]
  have h1 : (BitVec.ofNat 32 m).msb = false := by
    rw [BitVec.msb_eq_decide, toNat_ofNat (by omega)]
    exact decide_eq_false (by omega)
  have h2 : (512#32 : BitVec 32).msb = false := by decide
  rw [BitVec.sdiv_eq, h1, h2]
  apply BitVec.eq_of_toNat_eq
  show (BitVec.ofNat 32 m / 512#32).toNat = _
  rw [BitVec.toNat_udiv, toNat_ofNat (by omega)]
  exact (toNat_ofNat (n := m / 512) (by omega)).symm

/-- The two loops over the batches, from their common bound. -/
def lp4 (q : BitVec 32) : Scf.Loop 32 := ⟨0#32, Scalar.addi 0#32 (Scalar.muli (Scalar.divsi (Scalar.subi q 0#32) 1#32) 1#32), 1#32⟩
def lp36 (q : BitVec 32) : Scf.Loop 32 := ⟨Scalar.addi 0#32 (Scalar.muli (Scalar.divsi (Scalar.subi q 0#32) 1#32) 1#32), Scalar.addi 0#32 (Scalar.subi q 0#32), 1#32⟩

theorem lp_all : ∀ n : Fin 33, (lp4 (BitVec.ofNat 32 n.val)).OK ∧ (lp36 (BitVec.ofNat 32 n.val)).OK ∧ (lp4 (BitVec.ofNat 32 n.val)).trips = n.val
    ∧ (lp36 (BitVec.ofNat 32 n.val)).trips = 0 := by
  decide +kernel

theorem loops4 {n : ℕ} (hn : n ≤ 16384) : k0_t4_loop (BitVec.ofNat 32 n) = lp4 (BitVec.ofNat 32 ((n + 511) / 512)) ∧ k0_t36_loop (BitVec.ofNat 32 n) = lp36 (BitVec.ofNat 32 ((n + 511) / 512)) := by
  have e1 : Scalar.addi (BitVec.ofNat 32 n) 511#32 = BitVec.ofNat 32 (n + 511) := addi_ofNat n 511
  have e2 : Scalar.subi (Scalar.extui (Scalar.cmpi .sgt (BitVec.ofNat 32 (n + 511)) 0#32) : BitVec 32) (Scalar.extui (Scalar.cmpi .slt (BitVec.ofNat 32 (n + 511)) 0#32)) = 1#32 :=
    sign_pos (by rw [toInt_ofNat (by omega)]; omega)
  have e3 : Scalar.subi (Scalar.extui (Scalar.cmpi .sgt 512#32 0#32) : BitVec 32) (Scalar.extui (Scalar.cmpi .slt 512#32 0#32)) = 1#32 := by decide
  have e4 : Scalar.cmpi .ne (1#32 : BitVec 32) 1#32 = 0#1 := by decide
  have e5 : ∀ x : BitVec 1, Scalar.andi 0#1 x = 0#1 := by decide
  have e6 : ∀ a b : BitVec 32, Scalar.select 0#1 a b = b := fun _ _ => rfl
  constructor
  · unfold k0_t4_loop lp4
    dsimp only
    rw [e1, e2, e3, e4, e5, e6, div512 (by omega)]
  · unfold k0_t36_loop lp36
    dsimp only
    rw [e1, e2, e3, e4, e5, e6, div512 (by omega)]

theorem trips4 {n : ℕ} (hn : n ≤ 16384) : k0_chk1 (BitVec.ofNat 32 n) ∧ (k0_t4_loop (BitVec.ofNat 32 n)).trips = (n + 511) / 512 ∧ (k0_t36_loop (BitVec.ofNat 32 n)).trips = 0 := by
  have h := lp_all ⟨(n + 511) / 512, by omega⟩
  unfold k0_chk1
  rw [(loops4 hn).1, (loops4 hn).2]
  exact ⟨⟨h.1, h.2.1⟩, h.2.2.1, h.2.2.2⟩

/-! ### The tile's words -/

theorem word1 : Scalar.addi (Scalar.muli (BitVec.ofNat 32 (i 1).val) 2#32) (BitVec.ofNat 32 (i 0).val) = BitVec.ofNat 32 (wid i) :=
  (congrArg (fun z => Scalar.addi z (BitVec.ofNat 32 (i 0).val)) (muli_ofNat (i 1).val 2)).trans (addi_ofNat _ _)

theorem w31_all : ∀ w : Fin 32, (Scalar.cmpi .ne (Scalar.extui (Scalar.cmpi .eq (BitVec.ofNat 32 w.val) 31#32) : BitVec 32) 0#32 = 1#1 ↔ w.val = 31)
    ∧ Scalar.muli (BitVec.ofNat 32 (tLo w.val)) 128#32 = BitVec.ofNat 32 (rLo w.val)
    ∧ Scalar.select (Scalar.cmpi .eq (BitVec.ofNat 32 w.val) 31#32) 1000000#32 (Scalar.muli (Scalar.addi (BitVec.ofNat 32 (tLo w.val)) (BitVec.ofNat 32 (tN w.val))) 128#32) = BitVec.ofNat 32 (rHi w.val) := by
  decide +kernel

/-- What a trip of the counting loop adds. -/
theorem count_vec (v : Vec F S16 .i32) : ∃ m : IVec S16 1, k0_pay599 (F := F) i v = scan .sum (extui 32 m natLt_1_32) ∧ ∀ x, m x = 1#1 ↔ inI (rLo (wid i)) (rHi (wid i)) (v x) := by
  have h := w31_all ⟨wid i, wid_lt i⟩
  have h4 := word4 i
  have h6 := word6 i
  rw [word1] at h4 h6
  refine ⟨_, rfl, fun x => ?_⟩
  refine (range_iff (wid_lt i) ?_ ?_ (v x))
  · show Scalar.muli (Scalar.addi (Scalar.muli (Scalar.addi (Scalar.muli (BitVec.ofNat 32 (i 1).val) 2#32) (BitVec.ofNat 32 (i 0).val)) 244#32) (Scalar.minsi (Scalar.addi (Scalar.muli (BitVec.ofNat 32 (i 1).val) 2#32) (BitVec.ofNat 32 (i 0).val)) 4#32)) 128#32 = _
    rw [word4]; exact h.2.1
  · show Scalar.select (Scalar.cmpi .eq (Scalar.addi (Scalar.muli (BitVec.ofNat 32 (i 1).val) 2#32) (BitVec.ofNat 32 (i 0).val)) 31#32) 1000000#32
      (Scalar.muli (Scalar.addi (Scalar.addi (Scalar.muli (Scalar.addi (Scalar.muli (BitVec.ofNat 32 (i 1).val) 2#32) (BitVec.ofNat 32 (i 0).val)) 244#32) (Scalar.minsi (Scalar.addi (Scalar.muli (BitVec.ofNat 32 (i 1).val) 2#32) (BitVec.ofNat 32 (i 0).val)) 4#32))
        (Scalar.select (Scalar.cmpi .slt (Scalar.addi (Scalar.muli (BitVec.ofNat 32 (i 1).val) 2#32) (BitVec.ofNat 32 (i 0).val)) 4#32) 245#32 244#32)) 128#32) = _
    rw [word4, word6, word1]; exact h.2.2

/-! ### The rows not reached by a batch -/

theorem slot_skip {m5 : Memref sig .scVector .hbm S16400x128 .f32} {p : ℕ} (hp : Nat.count (PR w iv) 16384 ≤ p) {dn dn' : Prop} :
    Slot (F := F) d i m5 tab w iv dn p ⊢ Slot (F := F) d i m5 tab w iv dn' p := by
  unfold Slot
  rw [nthK_none hp, if_neg (by decide), if_neg (by decide)]

theorem grp_skip {m5 : Memref sig .scVector .hbm S16400x128 .f32} {G : ℕ} (hp : Nat.count (PR w iv) 16384 ≤ 64 * G) {dn dn' : Prop} :
    Grp (F := F) d i m5 tab w iv dn G ⊢ Grp (F := F) d i m5 tab w iv dn' G := by
  unfold Grp
  exact BI.bigSep_mono fun j _ => slot_skip (F := F) d i (by omega)

theorem bat_skip {m5 : Memref sig .scVector .hbm S16400x128 .f32} {b : ℕ} (hp : Nat.count (PR w iv) 16384 ≤ 512 * b) {dn dn' : Prop} :
    Bat (F := F) d i m5 tab w iv dn b ⊢ Bat (F := F) d i m5 tab w iv dn' b := by
  unfold Bat
  iintro ⟨G0, G1, G2, G3, G4, G5, G6, G7⟩
  isplitl [G0]; · iapply (grp_skip (F := F) d i (by omega)) $$ G0
  isplitl [G1]; · iapply (grp_skip (F := F) d i (by omega)) $$ G1
  isplitl [G2]; · iapply (grp_skip (F := F) d i (by omega)) $$ G2
  isplitl [G3]; · iapply (grp_skip (F := F) d i (by omega)) $$ G3
  isplitl [G4]; · iapply (grp_skip (F := F) d i (by omega)) $$ G4
  isplitl [G5]; · iapply (grp_skip (F := F) d i (by omega)) $$ G5
  isplitl [G6]; · iapply (grp_skip (F := F) d i (by omega)) $$ G6
  iapply (grp_skip (F := F) d i (by omega)) $$ G7

theorem range_split {T : ℕ} (h : T ≤ 32) {Φ : ℕ → sProp 𝕄} : bigSep (Finset.range 32) Φ = iprop(bigSep (Finset.range T) Φ ∗ bigSep (Finset.Ico T 32) Φ) := by
  rw [show Finset.range 32 = Finset.range T ∪ Finset.Ico T 32 from by
    ext x; simp only [Finset.mem_range, Finset.mem_Ico, Finset.mem_union]; omega]
  exact BI.bigSep_union (Finset.disjoint_left.2 fun x h1 h2 => by rw [Finset.mem_range] at h1; rw [Finset.mem_Ico] at h2; omega)

variable {arg2 : Memref sig .scVector .hbm S16384 .i32} {harg2 : arg2.IsWhole} {arg3 : Memref sig .scVector .hbm S32x1000000 .f32}
   {harg3 : arg3.IsWhole} {arg4 : Memref sig .scVector .hbm S64x32 .f32} {harg4 : arg4.IsWhole}
   {arg5 : Memref sig .scVector .hbm S16400x128 .f32} {harg5 : arg5.IsWhole} {arg6 : Memref sig .scVector .vmem S2048 .i32}
   {harg6 : arg6.IsWhole} {arg7 : Memref sig .scVector .vmem S1024 .i32} {harg7 : arg7.IsWhole}
   {arg8 : Memref sig .scVector .vmem S1024 .i32} {harg8 : arg8.IsWhole} {arg9 : Memref sig .scVector .vmem S32x512 .f32}
   {harg9 : arg9.IsWhole} {arg10 : Memref sig .scVector .vmem S32x512 .f32} {harg10 : arg10.IsWhole}
   {arg11 : Memref sig .scVector .vmem S64x32 .f32} {harg11 : arg11.IsWhole} {arg12 : Memref sig .scVector .vmem S512 .i32}
   {harg12 : arg12.IsWhole} {arg13 : Memref sig .scVector .vmem S512 .i32} {harg13 : arg13.IsWhole}
   {arg14 : Memref sig .scVector .vmem S512x32 .f32} {harg14 : arg14.IsWhole} {arg15 : Memref sig .scVector .vmem S64x128 .f32}
   {harg15 : arg15.IsWhole} {arg16 : Memref sig .scVector .vmem S64x128 .f32} {harg16 : arg16.IsWhole}
   {arg17 : Memref sig .scVector .vmem S8x64 .i32} {harg17 : arg17.IsWhole} {arg18 : DmaSems sig S_} {arg19 : DmaSems sig S_}
   {arg20 : DmaSems sig S_} {arg21 : DmaSems sig S_} {v46_r0 : DmaSems sig S_} {v49_r1 : DmaSems sig S_} {v143_r2 : DmaSems sig S_}
   {v143_r3 : DmaSems sig S_}
variable {qa qb q2 q4 : PosShare TreeShare} {O : CellTallies nD τ sig (HIx 1)} {W : Waits sig (HIx 1)}

/-- What the whole run of a tile starts with. -/
def TileI (X0 X1 : Fin 64 → sProp 𝕄) (m2 : Memref sig .scVector .hbm S16384 .i32) (m6 : Memref sig .scVector .vmem S2048 .i32) (s0 s1 s2 : DmaSem sig)
    (m7 m8 : Memref sig .scVector .vmem S1024 .i32) (mE mO : Memref sig .scVector .vmem S512 .i32) (m4 : Memref sig .scVector .hbm S64x32 .f32) (mL : Memref sig .scVector .vmem S64x32 .f32) (mT : Memref sig .scVector .hbm S32x1000000 .f32)
    (sE sO : Memref sig .scVector .vmem S32x512 .f32) (m14 : Memref sig .scVector .vmem S512x32 .f32) (g0 g1 : Memref sig .scVector .vmem S64x128 .f32) (m17 : Memref sig .scVector .vmem S8x64 .i32)
    (uE uO u0 u1 : DmaSem sig) (q2 q4 qa qb : PosShare TreeShare) (iv : S16384.Idx → BitVec 32)
    (tab : S32x1000000.Idx → Elt F .f32) (t0 : S64x32.Idx → Elt F .f32) (O : CellTallies nD τ sig (HIx 1)) (W : Waits sig (HIx 1)) : sProp 𝕄 :=
  iprop(own (F := F) (tV d i) q4 m4 t0 ∗ (∃ g, own (F := F) (tV d i) fullShare mL g) ∗ semVal (tV d i, .dma s0) 0 ∗ semVal (tV d i, .dma s1) 0 ∗ semVal (tV d i, .dma s2) 0
    ∗ own (F := F) (e := .i32) (tV d i) q2 m2 iv
    ∗ (∃ g, own (F := F) (e := .i32) (tV d i) fullShare m6 g) ∗ (∃ g, own (F := F) (e := .i32) (tV d i) fullShare m7 g) ∗ (∃ g, own (F := F) (e := .i32) (tV d i) fullShare m8 g)
    ∗ (∃ g, own (F := F) (e := .i32) (tV d i) fullShare mE g) ∗ (∃ g, own (F := F) (e := .i32) (tV d i) fullShare mO g)
    ∗ (∃ g, own (F := F) (e := .i32) (tV d i) fullShare m17 g) ∗ (∃ g, own (F := F) (tV d i) fullShare m14 g)
    ∗ Idle (F := F) d i qa mT sE uE tab ∗ Idle (F := F) d i qb mT sO uO tab
    ∗ Rest (F := F) d i X0 g0 u0 ∗ Rest (F := F) d i X1 g1 u1 ∗ Ow (F := F) d i O W)

/-- Between the batches, a tile's state is that of its start. -/
theorem tile_back {X0 X1 : Fin 64 → sProp 𝕄} {m2 : Memref sig .scVector .hbm S16384 .i32} {m6 : Memref sig .scVector .vmem S2048 .i32} {s0 s1 s2 : DmaSem sig}
    {m7 m8 : Memref sig .scVector .vmem S1024 .i32} {mE mO : Memref sig .scVector .vmem S512 .i32} {m4 : Memref sig .scVector .hbm S64x32 .f32} {mL : Memref sig .scVector .vmem S64x32 .f32} {mT : Memref sig .scVector .hbm S32x1000000 .f32}
    {sE sO : Memref sig .scVector .vmem S32x512 .f32} {m14 : Memref sig .scVector .vmem S512x32 .f32} {g0 g1 : Memref sig .scVector .vmem S64x128 .f32} {m17 : Memref sig .scVector .vmem S8x64 .i32}
    {uE uO u0 u1 : DmaSem sig} {t0 tl : S64x32.Idx → Elt F .f32} :
    iprop(TileS (F := F) d i X0 X1 m2 m6 s2 m7 m8 mE mO mL mT sE sO m14 g0 g1 m17 uE uO u0 u1 q2 qa qb iv tab tl O W
      ∗ own (F := F) (tV d i) q4 m4 t0 ∗ semVal (tV d i, .dma s0) 0 ∗ semVal (tV d i, .dma s1) 0)
      ⊢ TileI (F := F) d i X0 X1 m2 m6 s0 s1 s2 m7 m8 mE mO m4 mL mT sE sO m14 g0 g1 m17 uE uO u0 u1 q2 q4 qa qb iv tab t0 O W := by
  unfold TileS TileI Pas
  iintro ⟨⟨%kv, %ob, %g6, ⟨%mi, %mk, %gE, %gO, -, HE, HO, H7, H8, H11, SE, SO⟩, H2, H6, Hs2, H17, H14, F0, F1, Hw⟩, H4, Hs0, Hs1⟩
  isplitl [H4]; · iexact H4
  isplitl [H11]; · iexists tl; iexact H11
  isplitl [Hs0]; · iexact Hs0
  isplitl [Hs1]; · iexact Hs1
  isplitl [Hs2]; · iexact Hs2
  isplitl [H2]; · iexact H2
  isplitl [H6]; · iexists g6; iexact H6
  isplitl [H7]; · iexists mi; iexact H7
  isplitl [H8]; · iexists mk; iexact H8
  isplitl [HE]; · iexists gE; iexact HE
  isplitl [HO]; · iexists gO; iexact HO
  isplitl [H17]; · iexists kv; iexact H17
  isplitl [H14]; · iexists ob; iexact H14
  isplitl [SE]; · iexact SE
  isplitl [SO]; · iexact SO
  isplitl [F0]; · iexact F0
  isplitl [F1]; · iexact F1
  iexact Hw

/-- Up to the batches: the table's last rows fetched by the last tile, the rows counted, the lists cleared. -/
theorem part103_spec {X0 X1 : Fin 64 → sProp 𝕄} (hwi : w = wid i) {t0 : S64x32.Idx → Elt F .f32} (ht0 : ∀ y, t0 y = tabT tab (y 1).val (999936 + (y 0).val)) :
    (TileI (F := F) d i X0 X1 arg2 arg6 v46_r0.sem v49_r1.sem v143_r2.sem arg7 arg8 arg12 arg13 arg4 arg11 arg3 arg9 arg10 arg14 arg15 arg16 arg17 arg18.sem arg19.sem arg20.sem arg21.sem q2 q4 qa qb iv tab t0 O W : sProp 𝕄)
      ⊢ WP d i (k0_part103 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3) (fun r => iprop(∃ tl, ⌜r.1 = BitVec.ofNat 32 (tLo w) ∧ r.2.1 = BitVec.ofNat 32 (tN w) ∧ r.2.2.1 = BitVec.ofNat 32 (rLo w) ∧ r.2.2.2.1 = BitVec.ofNat 32 (rHi w)
          ∧ (∀ x, r.2.2.2.2.1 x = BitVec.ofNat 32 (x 0).val) ∧ r.2.2.2.2.2.1 = BitVec.ofNat 32 (Nat.count (PR w iv) 16384) ∧ (w = 31 → ∀ y, tl y = tabT tab (y 1).val (999936 + (y 0).val))⌝
        ∗ TileS (F := F) d i X0 X1 arg2 arg6 v143_r2.sem arg7 arg8 arg12 arg13 arg11 arg3 arg9 arg10 arg14 arg15 arg16 arg17 arg18.sem arg19.sem arg20.sem arg21.sem q2 qa qb iv tab tl O W
        ∗ own (F := F) (tV d i) q4 arg4 t0 ∗ semVal (tV d i, .dma v46_r0.sem) 0 ∗ semVal (tV d i, .dma v49_r1.sem) 0)) := by
  have hw : w < 32 := hwi ▸ wid_lt i
  have hall := w31_all ⟨wid i, wid_lt i⟩
  rw [k0_part103_eq_skeleton]
  unfold k0_part103_skel
  dsimp only
  unfold TileI
  iintro ⟨H4, ⟨%g11, H11⟩, Hs0, Hs1, Hs2, H2, ⟨%g6, H6⟩, ⟨%mi, H7⟩, ⟨%mk, H8⟩, ⟨%gE, HE⟩, ⟨%gO, HO⟩, ⟨%kv, H17⟩, ⟨%ob, H14⟩, SE, SO, F0, F1, Hw⟩
  have hc31 : Scalar.cmpi .ne (Scalar.extui (Scalar.cmpi .eq (Scalar.addi (Scalar.muli (BitVec.ofNat 32 (i 1).val) 2#32) (BitVec.ofNat 32 (i 0).val)) 31#32) : BitVec 32) 0#32 = 1#1 ↔ w = 31 := by
    rw [word1, hwi]; exact hall.1
  iapply (own_dite (F := F) d i (R := iprop(∃ tl, ⌜w = 31 → ∀ y, tl y = tabT tab (y 1).val (999936 + (y 0).val)⌝ ∗ own (F := F) (tV d i) q4 arg4 t0 ∗ own (F := F) (tV d i) fullShare arg11 tl ∗ semVal (tV d i, .dma v46_r0.sem) 0 ∗ semVal (tV d i, .dma v49_r1.sem) 0 ∗ semVal (tV d i, .dma v143_r2.sem) 0
    ∗ own (F := F) (e := .i32) (tV d i) q2 arg2 iv
    ∗ own (F := F) (e := .i32) (tV d i) fullShare arg6 g6 ∗ own (F := F) (e := .i32) (tV d i) fullShare arg7 mi ∗ own (F := F) (e := .i32) (tV d i) fullShare arg8 mk
    ∗ own (F := F) (e := .i32) (tV d i) fullShare arg12 gE ∗ own (F := F) (e := .i32) (tV d i) fullShare arg13 gO
    ∗ own (F := F) (e := .i32) (tV d i) fullShare arg17 kv ∗ own (F := F) (tV d i) fullShare arg14 ob
    ∗ Idle (F := F) d i qa arg3 arg9 arg18.sem tab ∗ Idle (F := F) d i qb arg3 arg10 arg19.sem tab
    ∗ Rest (F := F) d i X0 arg15 arg20.sem ∗ Rest (F := F) d i X1 arg16 arg21.sem ∗ Ow (F := F) d i O W))
    (P := iprop(own (F := F) (tV d i) q4 arg4 t0 ∗ own (F := F) (tV d i) fullShare arg11 g11 ∗ semVal (tV d i, .dma v46_r0.sem) 0 ∗ semVal (tV d i, .dma v49_r1.sem) 0 ∗ semVal (tV d i, .dma v143_r2.sem) 0
    ∗ own (F := F) (e := .i32) (tV d i) q2 arg2 iv
    ∗ own (F := F) (e := .i32) (tV d i) fullShare arg6 g6 ∗ own (F := F) (e := .i32) (tV d i) fullShare arg7 mi ∗ own (F := F) (e := .i32) (tV d i) fullShare arg8 mk
    ∗ own (F := F) (e := .i32) (tV d i) fullShare arg12 gE ∗ own (F := F) (e := .i32) (tV d i) fullShare arg13 gO
    ∗ own (F := F) (e := .i32) (tV d i) fullShare arg17 kv ∗ own (F := F) (tV d i) fullShare arg14 ob
    ∗ Idle (F := F) d i qa arg3 arg9 arg18.sem tab ∗ Idle (F := F) d i qb arg3 arg10 arg19.sem tab
    ∗ Rest (F := F) d i X0 arg15 arg20.sem ∗ Rest (F := F) d i X1 arg16 arg21.sem ∗ Ow (F := F) d i O W)) ?_ ?_ ?_) $$ [H4 H11 Hs0 Hs1 Hs2 H2 H6 H7 H8 HE HO H17 H14 SE SO F0 F1 Hw]
  rotate_left
  · intro hc hZ
    iintro ⟨H4, H11, Hs0, Hrest1, Hrest2, H2, H6, H7, H8, HE, HO, H17, H14, SE, SO, F0, F1, Hw⟩
    iapply (own_dma EC 𝒱₀ (tV d i) none none arg11.view.dmaCredit rfl (View.dmaCredit_pos _ (by decide))) $$ [H4 H11 Hs0]
    · isplitl [H4]; · iexact H4
      isplitl [H11]; · iexact H11
      iexact Hs0
    iintro HF
    iapply (Ow_wait (F := F) d i rfl) $$ [HF Hw]
    · isplitl [HF]; · iexact HF
      iexact Hw
    iintro ⟨⟨H11, H4⟩, Hs0, Hw⟩
    iapply hZ
    iexists t0
    isplitr; · ipureintro; exact fun _ => ht0
    isplitl [H4]; · iexact H4
    isplitl [H11]; · iexact H11
    isplitl [Hs0]; · iexact Hs0
    isplitl [Hrest1]; · iexact Hrest1
    isplitl [Hrest2]; · iexact Hrest2
    isplitl [H2]; · iexact H2
    isplitl [H6]; · iexact H6
    isplitl [H7]; · iexact H7
    isplitl [H8]; · iexact H8
    isplitl [HE]; · iexact HE
    isplitl [HO]; · iexact HO
    isplitl [H17]; · iexact H17
    isplitl [H14]; · iexact H14
    isplitl [SE]; · iexact SE
    isplitl [SO]; · iexact SO
    isplitl [F0]; · iexact F0
    isplitl [F1]; · iexact F1
    iexact Hw
  · intro hc
    iintro ⟨H4, H11, Hs0, Hrest1, Hrest2, H2, H6, H7, H8, HE, HO, H17, H14, SE, SO, F0, F1, Hw⟩
    iexists g11
    isplitr; · ipureintro; exact fun h => absurd (hc31.2 h) hc
    isplitl [H4]; · iexact H4
    isplitl [H11]; · iexact H11
    isplitl [Hs0]; · iexact Hs0
    isplitl [Hrest1]; · iexact Hrest1
    isplitl [Hrest2]; · iexact Hrest2
    isplitl [H2]; · iexact H2
    isplitl [H6]; · iexact H6
    isplitl [H7]; · iexact H7
    isplitl [H8]; · iexact H8
    isplitl [HE]; · iexact HE
    isplitl [HO]; · iexact HO
    isplitl [H17]; · iexact H17
    isplitl [H14]; · iexact H14
    isplitl [SE]; · iexact SE
    isplitl [SO]; · iexact SO
    isplitl [F0]; · iexact F0
    isplitl [F1]; · iexact F1
    iexact Hw
  · isplitl [H4]; · iexact H4
    isplitl [H11]; · iexact H11
    isplitl [Hs0]; · iexact Hs0
    isplitl [Hs1]; · iexact Hs1
    isplitl [Hs2]; · iexact Hs2
    isplitl [H2]; · iexact H2
    isplitl [H6]; · iexact H6
    isplitl [H7]; · iexact H7
    isplitl [H8]; · iexact H8
    isplitl [HE]; · iexact HE
    isplitl [HO]; · iexact HO
    isplitl [H17]; · iexact H17
    isplitl [H14]; · iexact H14
    isplitl [SE]; · iexact SE
    isplitl [SO]; · iexact SO
    isplitl [F0]; · iexact F0
    isplitl [F1]; · iexact F1
    iexact Hw
  iintro ⟨%tl, %htl, H4, H11, Hs0, Hs1, Hs2, H2, H6, H7, H8, HE, HO, H17, H14, SE, SO, F0, F1, Hw⟩
  rw [WP_bind]
  iapply (wp_wand_r _)
  isplitl [H2 H6 Hs1 Hw]
  · iapply (t1_spec (F := F) d i hw hwi (by rw [hwi]; exact count_vec (F := F) i))
    isplitl [H2]; · iexact H2
    isplitl [H6]; · iexact H6
    isplitl [Hs1]; · iexact Hs1
    iexact Hw
  iintro %v17 ⟨%g6', %h17, H2, H6, Hs1, Hw⟩
  have hcnt : Nat.count (PR w iv) 16384 ≤ 16384 := Nat.count_le _
  iapply (asm (F := F) d i (h17 ▸ (trips4 hcnt).1))
  rw [WP_bind]
  iapply (wp_wand_r _)
  isplitl [HE HO]
  · iapply (t3_spec (F := F) d i)
    isplitl [HE]; · iexact HE
    iexact HO
  iintro %a ⟨%gE', %gO', %hg, HE, HO⟩
  iapply own_pure
  iexists tl
  isplitr
  · ipureintro
    have e4 := word4 i
    have e6 := word6 i
    rw [← hwi] at e4 e6
    refine ⟨e4, e6, ?_, ?_, fun x => iota_val x iota_S16_d0_w32_scVector, h17, htl⟩
    · show Scalar.muli (Scalar.addi _ _) 128#32 = _
      rw [word4, hwi]; exact hall.2.1
    · show Scalar.select _ _ _ = _
      rw [word4, word6, word1, hwi]; exact hall.2.2
  isplitr [H4 Hs0 Hs1]
  · unfold TileS Pas
    iexists kv, ob, g6'
    isplitl [HE HO H7 H8 H11 SE SO]
    · iexists mi, mk, gE', gO'
      isplitr; · ipureintro; exact hg
      isplitl [HE]; · iexact HE
      isplitl [HO]; · iexact HO
      isplitl [H7]; · iexact H7
      isplitl [H8]; · iexact H8
      isplitl [H11]; · iexact H11
      isplitl [SE]; · iexact SE
      iexact SO
    isplitl [H2]; · iexact H2
    isplitl [H6]; · iexact H6
    isplitl [Hs2]; · iexact Hs2
    isplitl [H17]; · iexact H17
    isplitl [H14]; · iexact H14
    isplitl [F0]; · iexact F0
    isplitl [F1]; · iexact F1
    iexact Hw
  isplitl [H4]; · iexact H4
  isplitl [Hs0]; · iexact Hs0
  iexact Hs1

/-- A tile's whole run writes the rows of the batch whose entries lie in its part of the table. -/
theorem body_spec {X0 X1 : Fin 64 → sProp 𝕄} [hX0 : ∀ j, Storable (upEmb : UEmb _ 𝕄) (X0 j)] [hX1 : ∀ j, Storable (upEmb : UEmb _ 𝕄) (X1 j)] {Dv : sProp 𝕄} [hDv : Persistent Dv]
    (hwi : w = wid i)
    (hD0 : ∀ j w, iprop(Dv ∗ X0 j) ⊢ writeUpdate (tV d i) (rowM arg5 (rowF 16384)).view w (X0 j))
    (hD1 : ∀ j w, iprop(Dv ∗ X1 j) ⊢ writeUpdate (tV d i) (rowM arg5 (rowF 16384)).view w (X1 j))
    {t0 : S64x32.Idx → Elt F .f32} (ht0 : ∀ y, t0 y = tabT tab (y 1).val (999936 + (y 0).val)) :
    iprop(Dv ∗ TileI (F := F) d i X0 X1 arg2 arg6 v46_r0.sem v49_r1.sem v143_r2.sem arg7 arg8 arg12 arg13 arg4 arg11 arg3 arg9 arg10 arg14 arg15 arg16 arg17 arg18.sem arg19.sem arg20.sem arg21.sem q2 q4 qa qb iv tab t0 O W
        ∗ bigSep (Finset.range 32) (Bat (F := F) d i arg5 tab w iv False) : sProp 𝕄)
      ⊢ WP d i (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg21 v46_r0 v49_r1 v143_r2 v143_r3) (fun _ => iprop(TileI (F := F) d i X0 X1 arg2 arg6 v46_r0.sem v49_r1.sem v143_r2.sem arg7 arg8 arg12 arg13 arg4 arg11 arg3 arg9 arg10 arg14 arg15 arg16 arg17 arg18.sem arg19.sem arg20.sem arg21.sem q2 q4 qa qb iv tab t0 O W
        ∗ bigSep (Finset.range 32) (Bat (F := F) d i arg5 tab w iv True))) := by
  have hw : w < 32 := hwi ▸ wid_lt i
  have hall := w31_all ⟨wid i, wid_lt i⟩
  rw [cc0__body_eq_skeleton]
  unfold cc0__body_skel
  dsimp only
  iintro ⟨#HD, HT, HB⟩
  rw [WP_bind]
  iapply (wp_wand_r _)
  isplitl [HT]
  · iapply (part103_spec (F := F) d i hwi ht0); iexact HT
  iintro %r ⟨%tl, %h, HT, H4, Hs0, Hs1⟩
  obtain ⟨v4, v6, v7, v11, v12, v17, hw1, v21, c512, v22, v27, c0⟩ := r
  obtain ⟨h4, h6, h7, h11, h12, h17, hsl⟩ := h
  dsimp only at h4 h6 h7 h11 h12 h17 ⊢
  have hcnt : Nat.count (PR w iv) 16384 ≤ 16384 := Nat.count_le _
  have ht4 : (k0_t4_loop v17).trips = (Nat.count (PR w iv) 16384 + 511) / 512 := h17 ▸ (trips4 hcnt).2.1
  have ht36 : (k0_t36_loop v17).trips = 0 := h17 ▸ (trips4 hcnt).2.2
  rw [WP_bind]
  iapply (own_for (F := F) d i (fun n _ => iprop(TileS (F := F) d i X0 X1 arg2 arg6 v143_r2.sem arg7 arg8 arg12 arg13 arg11 arg3 arg9 arg10 arg14 arg15 arg16 arg17 arg18.sem arg19.sem arg20.sem arg21.sem q2 qa qb iv tab tl O W
    ∗ bigSep (Finset.range n) (Bat (F := F) d i arg5 tab w iv True) ∗ bigSep (Finset.Ico n 32) (Bat (F := F) d i arg5 tab w iv False) ∗ Dv)) ?_)
  · intro t acc
    have ht : t.val < 32 := by have := t.isLt; omega
    rw [show Finset.Ico t.val 32 = insert t.val (Finset.Ico (t.val + 1) 32) from by ext x; simp only [Finset.mem_Ico, Finset.mem_insert]; omega,
      SparseCore.bigSep_insert' (by simp), Finset.range_add_one, SparseCore.bigSep_insert' (by simp)]
    iintro ⟨HT, HB, ⟨Hb, HR⟩, #HD⟩
    iapply (wp_wand_r _)
    isplitl [HT Hb]
    · iapply (batch_spec (F := F) d i hw hwi h4 h6 h7 h11 h12 h17 hD0 hD1 hsl t (by omega))
      isplitr; · iexact HD
      isplitl [HT]; · iexact HT
      iexact Hb
    iintro %a ⟨HT, Hb⟩
    isplitl [HT]; · iexact HT
    isplitl [Hb HB]
    · isplitl [Hb]; · iexact Hb
      iexact HB
    isplitl [HR]; · iexact HR
    iexact HD
  isplitl [HT HB]
  · isplitl [HT]; · iexact HT
    isplitr
    · rw [Finset.range_zero, BI.bigSep_empty]; iempintro
    isplitl [HB]
    · rw [← Finset.range_eq_Ico]; iexact HB
    iexact HD
  iintro %acc ⟨HT, HB, HR, -⟩
  rw [WP_bind]
  iapply (own_for_zero (F := F) d i ht36)
  iapply own_pure
  isplitl [HT H4 Hs0 Hs1]
  · iapply (tile_back (F := F) d i)
    isplitl [HT]; · iexact HT
    isplitl [H4]; · iexact H4
    isplitl [Hs0]; · iexact Hs0
    iexact Hs1
  rw [range_split (show (k0_t4_loop v17).trips ≤ 32 by omega)]
  isplitl [HB]; · iexact HB
  have hR : (bigSep (Finset.Ico (k0_t4_loop v17).trips 32) (Bat (F := F) d i arg5 tab w iv False) : sProp 𝕄) ⊢ bigSep (Finset.Ico (k0_t4_loop v17).trips 32) (Bat (F := F) d i arg5 tab w iv True) :=
    BI.bigSep_mono fun b hb => bat_skip (F := F) d i (by rw [Finset.mem_Ico] at hb; omega)
  iapply hR $$ HR

end Cert.Proof.Emb
-- ==== Proof.Regroup.lean ====
/-
  Rows of the output dealt to the tiles: the rows a tile's range names are the slots of its list, and every row of the
  output is one tile's or nobody's.
-/
module

public import proofs.«01_k».proof.Proof.Body

@[expose] public section

noncomputable section

namespace Cert.Proof.Emb

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay)

variable {F : FTy → Type}

local notation "𝕄" => MT nD τ sig (HIx 1) (Elt F) ℕ UU ℕ

/-- Numbers below `n * k` by their quotient and remainder. -/
theorem bigSep_range_mul (n k : ℕ) (Φ : ℕ → sProp 𝕄) :
    bigSep (Finset.range (n * k)) Φ = bigSep (Finset.range n) fun b => bigSep (Finset.range k) fun r => Φ (k * b + r) := by
  induction n with
  | zero => rw [Nat.zero_mul, Finset.range_zero, BI.bigSep_empty, BI.bigSep_empty]
  | succ n ih =>
    have e : Finset.range ((n + 1) * k) = Finset.range (n * k) ∪ (Finset.range k).image fun r => k * n + r := by
      ext x
      simp only [Finset.mem_union, Finset.mem_range, Finset.mem_image]
      rw [Nat.add_mul, Nat.one_mul, Nat.mul_comm n k]
      constructor
      · intro h
        by_cases hx : x < k * n
        · exact .inl hx
        · exact .inr ⟨x - k * n, by omega, by omega⟩
      · rintro (h | ⟨r, h, rfl⟩) <;> omega
    have hd : Disjoint (Finset.range (n * k)) ((Finset.range k).image fun r => k * n + r) := by
      rw [Finset.disjoint_left]
      intro x hx hx'
      obtain ⟨r, h, rfl⟩ := Finset.mem_image.1 hx'
      have := Finset.mem_range.1 hx
      rw [Nat.mul_comm n k] at this
      omega
    rw [e, BI.bigSep_union hd, ih, Finset.range_add_one, BI.bigSep_insert Finset.notMem_range_self,
      SparseCore.bigSep_image_of_injOn (fun a _ b _ (h : k * n + a = k * n + b) => by omega)]
    exact BI.equiv_iff.1 ⟨sep_comm, sep_comm⟩

/-- A family over `Fin n` is one over the numbers below `n`. -/
theorem bigSep_fin {n : ℕ} (Φ : ℕ → sProp 𝕄) : (bigSep (Finset.univ : Finset (Fin n)) fun j => Φ j.val) = bigSep (Finset.range n) Φ := by
  rw [← Nat.Iio_eq_range, ← Fin.map_valEmbedding_univ, BI.bigSep_map]; rfl

/-- The tiles, by SparseCore and by subcore. -/
theorem bigSep_tiles (Φ : ℕ → sProp 𝕄) :
    (bigSep (Finset.univ : Finset (Fin 2)) fun c => bigSep (Finset.univ : Finset (Fin 16)) fun j => Φ (j.val * 2 + c.val)) = bigSep (Finset.range 32) Φ := by
  rw [BI.bigSep_univ_comm, show (32 : ℕ) = 16 * 2 from rfl, bigSep_range_mul 16 2,
    ← bigSep_fin (n := 16) fun b => bigSep (Finset.range 2) fun r => Φ (2 * b + r)]
  refine BI.bigSep_congr fun j _ => ?_
  rw [← bigSep_fin (n := 2) fun r => Φ (2 * j.val + r)]
  refine BI.bigSep_congr fun c _ => ?_
  rw [Nat.mul_comm]

variable [FloatOps F] (d : Dev nD) (i : grid0.Coords)

/-- A tile's batches are the rows of its range. -/
theorem bat_rows (m5 : Memref sig .scVector .hbm S16400x128 .f32) (tab : S32x1000000.Idx → Elt F .f32) (w : ℕ) (iv : S16384.Idx → BitVec 32) (dn : Prop) :
    bigSep (Finset.range 32) (Bat (F := F) d i m5 tab w iv dn)
      = bigSep ((Finset.range 16384).filter fun k => PR w iv k) fun k => RowP (F := F) d i m5 tab dn k (at1 iv k).toNat := by
  have h1 : bigSep (Finset.range 32) (Bat (F := F) d i m5 tab w iv dn) = bigSep (Finset.range 16384) (Slot (F := F) d i m5 tab w iv dn) := by
    rw [show (16384 : ℕ) = 32 * 8 * 64 from rfl, bigSep_range_mul, bigSep_range_mul]
    refine BI.bigSep_congr fun b _ => ?_
    have h2 : ∀ G, Grp (F := F) d i m5 tab w iv dn G = bigSep (Finset.range 64) fun r => Slot (F := F) d i m5 tab w iv dn (64 * G + r) := fun G => by
      unfold Grp
      exact bigSep_fin (n := 64) fun r => Slot (F := F) d i m5 tab w iv dn (64 * G + r)
    simp only [← h2]
    rw [← bigSep_fin (n := 8)]
    unfold Bat
    simp only [show (Finset.univ : Finset (Fin 8)) = {0, 1, 2, 3, 4, 5, 6, 7} from by decide]
    rw [SparseCore.bigSep_insert' (by decide), SparseCore.bigSep_insert' (by decide), SparseCore.bigSep_insert' (by decide), SparseCore.bigSep_insert' (by decide),
      SparseCore.bigSep_insert' (by decide), SparseCore.bigSep_insert' (by decide), SparseCore.bigSep_insert' (by decide), BI.bigSep_singleton]
    rfl
  have h3 : ((Finset.range 16384).filter fun k => PR w iv k) = ((Finset.range 16384).filter fun p => nthK (PR w iv) p < 16384).image (nthK (PR w iv)) := by
    ext k
    simp only [Finset.mem_image, Finset.mem_filter, Finset.mem_range]
    constructor
    · rintro ⟨hk, hP⟩
      have e := nthK_eq hk hP rfl
      have hc : Nat.count (PR w iv) k ≤ k := Nat.count_le _
      exact ⟨Nat.count (PR w iv) k, ⟨by omega, by rw [e]; exact hk⟩, e⟩
    · rintro ⟨p, ⟨-, hn⟩, rfl⟩
      rcases nthK_cases (PR w iv) p with ⟨h, hP, -⟩ | h
      · exact ⟨h, hP⟩
      · omega
  rw [h1, h3, SparseCore.bigSep_image_of_injOn ?_, BI.bigSep_filter]
  · rfl
  · intro p hp q hq e
    have hp' := (Finset.mem_filter.1 (Finset.mem_coe.1 hp)).2
    have hq' := (Finset.mem_filter.1 (Finset.mem_coe.1 hq)).2
    rcases nthK_cases (PR w iv) p with ⟨-, -, h⟩ | h
    · rcases nthK_cases (PR w iv) q with ⟨-, -, h'⟩ | h'
      · rw [← h, ← h', e]
      · omega
    · omega

/-- The rows some tile writes. -/
def Owned (iv : S16384.Idx → BitVec 32) (n : ℕ) : Finset ℕ := (Finset.range n).biUnion fun w => (Finset.range 16384).filter fun k => PR w iv k

theorem mem_owned {iv : S16384.Idx → BitVec 32} {n k : ℕ} : k ∈ Owned iv n ↔ k < 16384 ∧ ∃ w < n, PR w iv k := by
  unfold Owned
  simp only [Finset.mem_biUnion, Finset.mem_filter, Finset.mem_range]
  constructor
  · rintro ⟨w, hw, hk, hP⟩; exact ⟨hk, w, hw, hP⟩
  · rintro ⟨hk, w, hw, hP⟩; exact ⟨w, hw, hk, hP⟩

theorem PR_disj {iv : S16384.Idx → BitVec 32} {w w' k : ℕ} (hw : w < 32) (hw' : w' < 32) (h : PR w iv k) (h' : PR w' iv k) : w = w' := by
  have h1 : inI (rLo w) (rHi w) (at1 iv k) := h
  have h2 : inI (rLo w') (rHi w') (at1 iv k) := h'
  unfold inI at h1 h2
  exact tile_disj (n := (at1 iv k).toInt.toNat) hw hw' (by omega) (by omega) (by omega) (by omega)

theorem PR_cover {iv : S16384.Idx → BitVec 32} {k : ℕ} (h : inI 0 1000000 (at1 iv k)) : ∃ w < 32, PR w iv k := by
  unfold inI at h
  obtain ⟨w, hw, h1, h2⟩ := tile_cover (n := (at1 iv k).toInt.toNat) (by omega)
  refine ⟨w, hw, ?_⟩
  show inI _ _ _
  unfold inI
  omega

/-- The rows the tiles write, tile by tile. -/
theorem bigSep_owned (iv : S16384.Idx → BitVec 32) (Φ : ℕ → sProp 𝕄) :
    bigSep (Owned iv 32) Φ = bigSep (Finset.range 32) fun w => bigSep ((Finset.range 16384).filter fun k => PR w iv k) Φ := by
  unfold Owned
  refine SparseCore.Cfg.bigSep_biUnion_eq _ _ _ fun a ha b hb hab => ?_
  rw [Finset.disjoint_left]
  intro k h1 h2
  exact hab (PR_disj (Finset.mem_range.1 ha) (Finset.mem_range.1 hb) (Finset.mem_filter.1 h1).2 (Finset.mem_filter.1 h2).2)

/-- The rows of the output: the tiles', the padding row, and the rest. -/
theorem bigSep_out (iv : S16384.Idx → BitVec 32) (Φ : ℕ → sProp 𝕄) :
    bigSep (Finset.range 16400) Φ = iprop((bigSep (Finset.range 32) fun w => bigSep ((Finset.range 16384).filter fun k => PR w iv k) Φ)
      ∗ Φ 16384 ∗ bigSep (((Finset.range 16400) \ Owned iv 32).erase 16384) Φ) := by
  have hs : Owned iv 32 ⊆ Finset.range 16400 := fun k hk => by
    have := (mem_owned.1 hk).1
    exact Finset.mem_range.2 (by omega)
  have hm : 16384 ∈ (Finset.range 16400) \ Owned iv 32 := by
    rw [Finset.mem_sdiff, mem_owned]
    exact ⟨Finset.mem_range.2 (by decide), fun h => absurd h.1 (by decide)⟩
  rw [SparseCore.bigSep_sdiff_split' hs, bigSep_owned, SparseCore.bigSep_erase' hm]

end Cert.Proof.Emb
-- ==== Proof.Tile.lean ====
/-
  A tile's obligation to the launch: what the call hands it, its own buffers and semaphores, and its run.
-/
module

public import proofs.«01_k».proof.Proof.Regroup
public import proofs.«01_k».proof.Proof.Body

@[expose] public section

noncomputable section

namespace Cert.Proof.Emb

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (MayWaits shareTokN shareDrop)
open Idealize.ShloMosaic.SparseCore.Cfg (HIx Pay ownBufs ownSems0 ownCells ownRefs mem_ownCells mem_ownRefs)

variable {F : FTy → Type}

local notation "𝕄" => MT nD τ sig (HIx 1) (Elt F) ℕ UU ℕ

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ### The arrays -/

/-- The batch's numbers, the table, the table's last rows, the table transposed and the output, on device `d`. -/
abbrev xLoc (d : Dev nD) : Loc nD τ sig := (SparseCore.T d).loc main_arg0
abbrev aLoc (d : Dev nD) : Loc nD τ sig := (SparseCore.T d).loc main_arg1
abbrev tLoc (d : Dev nD) : Loc nD τ sig := (SparseCore.T d).loc main_v0
abbrev bLoc (d : Dev nD) : Loc nD τ sig := (SparseCore.T d).loc main_v1
abbrev oLoc (d : Dev nD) : Loc nD τ sig := (SparseCore.T d).loc main_v2

/-- The table's last 64 rows, and the table transposed. -/
def tailOf (a : S1000000x32.Idx → Elt F .f32) : S64x32.Idx → Elt F .f32 := extractStridedSlice S64x32 ![999936, 0] a slices_S1000000x32_S64x32_999936_0
def tabOf (a : S1000000x32.Idx → Elt F .f32) : S32x1000000.Idx → Elt F .f32 := transpose S32x1000000 [1, 0] a transposes_S1000000x32_S32x1000000_1_0

theorem tabOf_val (a : S1000000x32.Idx → Elt F .f32) {c n : ℕ} (hc : c < 32) (hn : n < 1000000) :
    tabT (tabOf a) c n = a (ix2 (A := 1000000) (B := 32) n c hn hc) := by
  unfold tabT tabOf
  rw [dif_pos ⟨hc, hn⟩]
  refine congrArg a (ix2_ext (A := 1000000) (B := 32) ?_ ?_) <;> rfl

theorem tail_tab (a : S1000000x32.Idx → Elt F .f32) (y : S64x32.Idx) : tailOf a y = tabT (tabOf a) (y 1).val (999936 + (y 0).val) := by
  have h0 : (y 0).val < 64 := (y 0).isLt
  have h1 : (y 1).val < 32 := (y 1).isLt
  rw [tabOf_val a h1 (by omega)]
  refine congrArg a (ix2_ext (A := 1000000) (B := 32) ?_ ?_)
  · rfl
  · show 0 + (y 1).val = (y 1).val
    omega

variable [FloatOps F]

/-- The output as a tile names it, and the elements of one of its rows. -/
abbrev outV : Memref sig .scVector .hbm S16400x128 .f32 := Memref.whole main_v2_scv
abbrev rowSet (k : ℕ) : Finset S16400x128.Idx := (rowM outV (rowF k)).view.set

/-! ### What a tile is handed -/

variable (m : (ℓ : Loc nD τ sig) → Buf (Elt F) ℓ)

/-- The right to write the padding row from a line of a staging buffer: one for each of the 64 lines of the two buffers of a tile. -/
def tk (d : Dev nD) (w p : ℕ) (j : Fin 64) : sProp 𝕄 := Idealize.SL.ExclCount.count EC (d.val * 4096 + (w * 128 + (p * 64 + j.val))) 0

/-- All of them. -/
def Toks (d : Dev nD) : sProp 𝕄 :=
  bigSep (Finset.range 32) fun w => iprop(bigSep Finset.univ (tk (F := F) d w 0) ∗ bigSep Finset.univ (tk (F := F) d w 1))

/-- The padding row, which any tile may write: it lies in an invariant as long as a tile holds a right to write it. -/
def Pad (d : Dev nD) : sProp 𝕄 := iprop((∃ f, oLoc d ↦[rowSet 16384]{fullShare} f) ∨ Toks (F := F) d)

instance (d : Dev nD) (w p : ℕ) (j : Fin 64) : Storable (upEmb : UEmb _ 𝕄) (tk (F := F) d w p j) := by unfold tk Idealize.SL.ExclCount.count; infer_instance
instance (d : Dev nD) : Storable (upEmb : UEmb _ 𝕄) (Toks (F := F) d) := by unfold Toks; infer_instance
instance (d : Dev nD) : Storable (upEmb : UEmb _ 𝕄) (Pad (F := F) d) := by unfold Pad; infer_instance

/-- A right held excludes all of them being put away. -/
theorem tk_toks (d : Dev nD) {w p : ℕ} (hw : w < 32) (hp : p < 2) (j : Fin 64) : iprop(tk (F := F) d w p j ∗ Toks (F := F) d) ⊢ (iprop(False) : sProp 𝕄) := by
  unfold Toks
  rw [SparseCore.bigSep_erase' (Finset.mem_range.2 hw)]
  have h0 : bigSep (Finset.univ : Finset (Fin 64)) (tk (F := F) d w p) ⊢ (tk (F := F) d w p j : sProp 𝕄) := by
    rw [SparseCore.bigSep_erase' (Finset.mem_univ j)]
    iintro ⟨H, -⟩; iexact H
  have h1 : iprop(tk (F := F) d w p j ∗ tk (F := F) d w p j) ⊢ (iprop(False) : sProp 𝕄) := Idealize.SL.ExclCount.count_count_false EC
  have h2 : iprop(bigSep Finset.univ (tk (F := F) d w 0) ∗ bigSep Finset.univ (tk (F := F) d w 1)) ⊢ (bigSep Finset.univ (tk (F := F) d w p) : sProp 𝕄) := by
    rcases (by omega : p = 0 ∨ p = 1) with rfl | rfl
    · iintro ⟨H, -⟩; iexact H
    · iintro ⟨-, H⟩; iexact H
  iintro ⟨Ht, H, -⟩
  ihave H' := h2 $$ H
  ihave H'' := h0 $$ H'
  iapply h1
  isplitl [Ht]; · iexact Ht
  iexact H''

instance (m5 : Memref sig .scVector .hbm S16400x128 .f32) (d : Dev nD) (i : grid0.Coords) (tab : S32x1000000.Idx → Elt F .f32) (w : ℕ) (iv : S16384.Idx → BitVec 32) (dn : Prop) (b : ℕ) :
    Storable (upEmb : UEmb _ 𝕄) (Bat (F := F) d i m5 tab w iv dn b) := by unfold Bat Grp; infer_instance

/-- The piece of a tile: its shares of the arrays it reads, its rights to write the padding row, the rows it writes. -/
def Piece (d : Dev nD) (i : grid0.Coords) (dn : Prop) : sProp 𝕄 :=
  iprop((xLoc d ↦{shareTokN fullShare (wid i)} m (xLoc d)) ∗ (bLoc d ↦{shareTokN fullShare (wid i)} tabOf (m (aLoc d)))
    ∗ (tLoc d ↦{shareTokN fullShare (wid i)} tailOf (m (aLoc d)))
    ∗ (bigSep Finset.univ (tk (F := F) d (wid i) 0) ∗ bigSep Finset.univ (tk (F := F) d (wid i) 1))
    ∗ bigSep (Finset.range 32) (Bat (F := F) d i outV (tabOf (m (aLoc d))) (wid i) (m (xLoc d)) dn))

instance (d : Dev nD) (i : grid0.Coords) (dn : Prop) : Storable (upEmb : UEmb _ 𝕄) (Piece (F := F) m d i dn) := by unfold Piece; infer_instance

def coordsV (c : Fin (grid0.bound 0)) (s : Fin (grid0.bound 1)) : grid0.Coords :=
  fun | 0 => c | 1 => s | ⟨_ + 2, h⟩ => absurd h (Nat.not_lt.2 (Nat.le_add_left _ _))

theorem wid_coordsV (c : Fin (grid0.bound 0)) (s : Fin (grid0.bound 1)) : wid (coordsV c s) = s.val * 2 + c.val := rfl

/-! ### A tile's own buffers and semaphores -/

variable (d : Dev nD) (i : grid0.Coords)

/-- A whole buffer. -/
theorem own_whole (r : Ref sig .scVector) (q : PosShare TreeShare) (f : Buf (Elt F) ((tV d i).loc r)) :
    (own (F := F) (tV d i) q (Memref.whole r) f : sProp 𝕄) = ((tV d i).loc r ↦{q} f) := by
  have e : ((Memref.whole r).view.loc (tV d i) ↦[(Memref.whole r).view.set]{q} f : sProp 𝕄) = ((tV d i).loc r ↦{q} f) :=
    congrArg (fun I => ((tV d i).loc r ↦[I]{q} f : sProp 𝕄)) (View.set_whole r)
  have h1 : own (F := F) (tV d i) q (Memref.whole r) f ⊢ ((tV d i).loc r ↦{q} f : sProp 𝕄) := by
    unfold own
    iintro ⟨%g, %h, H⟩
    have hg : g = f := h
    subst hg
    iapply (Entails.of_eq e)
    iexact H
  have h2 : ((tV d i).loc r ↦{q} f : sProp 𝕄) ⊢ own (F := F) (tV d i) q (Memref.whole r) f := by
    unfold own
    iintro H
    iexists f
    isplitr; · ipureintro; rfl
    iapply (Entails.of_eq e.symm)
    iexact H
  exact BI.equiv_iff.1 ⟨h1, h2⟩

/-- The scratch buffers. -/
def scr : Finset (Ref sig .scVector) :=
  {cc0_scratch0, cc0_scratch1, cc0_scratch2, cc0_scratch3, cc0_scratch4, cc0_scratch5, cc0_scratch6, cc0_scratch7, cc0_scratch8, cc0_scratch9, cc0_scratch10, cc0_scratch11}

theorem scr_owner : ∀ r ∈ scr, ((tV d i).2.devRef r).owner = .proc (tV d i).2 := by
  intro r hr
  unfold scr at hr
  simp only [Finset.mem_insert, Finset.mem_singleton] at hr
  rcases hr with rfl | rfl | rfl | rfl | rfl | rfl | rfl | rfl | rfl | rfl | rfl | rfl <;> rfl

theorem refs_split (p : Proc τ) (s : Finset (Ref sig p.kind)) (hs : ∀ r ∈ s, (p.devRef r).owner = .proc p) (Φ : DevRef τ sig → sProp 𝕄) :
    bigSep (ownRefs (τ := τ) p) Φ = iprop(bigSep s (fun r => Φ (p.devRef r)) ∗ bigSep (ownRefs (τ := τ) p \ s.image p.devRef) Φ) := by
  refine (SparseCore.bigSep_sdiff_split' (t := s.image p.devRef) ?_).trans ?_
  · intro b hb
    obtain ⟨r, hr, rfl⟩ := Finset.mem_image.1 hb
    exact SparseCore.Cfg.mem_ownRefs_of_owner (hs r hr)
  · rw [SparseCore.bigSep_image_of_injOn (fun a _ b _ h => Proc.devRef_injective _ h)]

theorem scr_split (Ψ : Ref sig .scVector → sProp 𝕄) : bigSep scr Ψ
    = iprop(Ψ cc0_scratch0 ∗ Ψ cc0_scratch1 ∗ Ψ cc0_scratch2 ∗ Ψ cc0_scratch3 ∗ Ψ cc0_scratch4 ∗ Ψ cc0_scratch5
      ∗ Ψ cc0_scratch6 ∗ Ψ cc0_scratch7 ∗ Ψ cc0_scratch8 ∗ Ψ cc0_scratch9 ∗ Ψ cc0_scratch10 ∗ Ψ cc0_scratch11) := by
  unfold scr
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), BI.bigSep_singleton]

/-- A scratch buffer at some contents. -/
def Sb (r : Ref sig .scVector) : sProp 𝕄 := iprop(∃ f, (tV d i).loc r ↦{fullShare} f)

/-- A tile's own buffers are its scratches and the rest. -/
theorem bufs_split : ∃ R : sProp 𝕄, (ownBufs (tV d i) : sProp 𝕄)
    = iprop((Sb (F := F) d i cc0_scratch0 ∗ Sb (F := F) d i cc0_scratch1 ∗ Sb (F := F) d i cc0_scratch2 ∗ Sb (F := F) d i cc0_scratch3
      ∗ Sb (F := F) d i cc0_scratch4 ∗ Sb (F := F) d i cc0_scratch5 ∗ Sb (F := F) d i cc0_scratch6 ∗ Sb (F := F) d i cc0_scratch7
      ∗ Sb (F := F) d i cc0_scratch8 ∗ Sb (F := F) d i cc0_scratch9 ∗ Sb (F := F) d i cc0_scratch10 ∗ Sb (F := F) d i cc0_scratch11) ∗ R) := by
  refine ⟨bigSep (ownRefs (τ := τ) (tV d i).2 \ scr.image (Proc.devRef (tV d i).2)) fun b => iprop(∃ f, (((tV d i).1, b) : Loc nD τ sig) ↦{fullShare} f), ?_⟩
  unfold SparseCore.Cfg.ownBufs
  rw [refs_split (tV d i).2 scr (scr_owner d i), ← scr_split (Sb (F := F) d i)]
  rfl

/-- The semaphores of the kernel's copies. -/
def cells : Finset (DmaSem sig) :=
  {cc0_scratch12.sem, cc0_scratch13.sem, cc0_scratch14.sem, cc0_scratch15.sem, cc0_scoped0.sem, cc0_scoped1.sem, cc0_scoped2.sem}

theorem cells_scoped : ∀ s ∈ cells, (SemLoc.dma s : SemLoc sig).isScoped .scVector = true := by
  intro s hs
  unfold cells at hs
  simp only [Finset.mem_insert, Finset.mem_singleton] at hs
  rcases hs with rfl | rfl | rfl | rfl | rfl | rfl | rfl <;> decide

theorem sems_split : ∃ R : sProp 𝕄, (ownSems0 (tV d i) : sProp 𝕄)
    = iprop((semVal (tV d i, .dma cc0_scratch12.sem) 0 ∗ semVal (tV d i, .dma cc0_scratch13.sem) 0 ∗ semVal (tV d i, .dma cc0_scratch14.sem) 0 ∗ semVal (tV d i, .dma cc0_scratch15.sem) 0
      ∗ semVal (tV d i, .dma cc0_scoped0.sem) 0 ∗ semVal (tV d i, .dma cc0_scoped1.sem) 0 ∗ semVal (tV d i, .dma cc0_scoped2.sem) 0) ∗ R) := by
  refine ⟨bigSep (ownCells (tV d i) \ cells.image fun s => ((tV d i, SemLoc.dma s) : GSem nD τ sig)) fun g => semVal g 0, ?_⟩
  · unfold SparseCore.Cfg.ownSems0
    refine (SparseCore.bigSep_sdiff_split' (t := cells.image fun s => ((tV d i, SemLoc.dma s) : GSem nD τ sig)) ?_).trans ?_
    · intro b hb
      obtain ⟨r, hr, rfl⟩ := Finset.mem_image.1 hb
      exact mem_ownCells.2 ⟨rfl, cells_scoped r hr⟩
    · refine congrArg (fun X : sProp 𝕄 => iprop(X ∗ _)) ?_
      rw [SparseCore.bigSep_image_of_injOn (fun a _ b _ h => by
        have := (Prod.ext_iff.1 h).2
        exact SemLoc.dma.inj this)]
      unfold cells
      rw [SparseCore.bigSep_insert' (by decide), SparseCore.bigSep_insert' (by decide), SparseCore.bigSep_insert' (by decide), SparseCore.bigSep_insert' (by decide),
        SparseCore.bigSep_insert' (by decide), SparseCore.bigSep_insert' (by decide), BI.bigSep_singleton]

/-! ### The run -/

/-- A tile writes the padding row through the invariant, against one of its rights. -/
theorem pad_write (κ : ℕ) {p : ℕ} (hp : p < 2) (j : Fin 64) (w' : (S16400x128.rowShape axO).Idx → Elt F .f32) :
    iprop(inv κ (Pad (F := F) d) ∗ tk (F := F) d (wid i) p j) ⊢ (writeUpdate (tV d i) (rowM outV (rowF 16384)).view w' (tk (F := F) d (wid i) p j) : sProp 𝕄) := by
  have e : (Pad (F := F) d : sProp 𝕄)
      = iprop((∃ f, (rowM outV (rowF 16384)).view.loc (tV d i) ↦[(rowM outV (rowF 16384)).view.set]{fullShare} f) ∨ Toks (F := F) d) := by
    unfold Pad rowSet
    rfl
  rw [e]
  exact sharedWrite (tV d i) (v := (rowM outV (rowF 16384)).view) (J := (rowM outV (rowF 16384)).view.set) (subset_refl _) (tk_toks (F := F) d (wid_lt i) hp j)

/-- A tile's run at the launch's own memrefs: from its piece, its buffers and semaphores, to its piece with the rows written. -/
theorem tile_body (hF : (K (F := F)).Facts) (O : CellTallies nD τ sig (HIx 1)) (W : Waits sig (HIx 1)) (hO : ∀ g, O g none = 0) :
    iprop(levAts (K (F := F)).L (K (F := F)).lev ∗ (∃ κ, inv κ (Pad (F := F) d)) ∗ Piece (F := F) m d i False
        ∗ scopedBufs (tV d i) ∗ scopedSems0 (tV d i) ∗ owes (tV d i) O W)
      ⊢ WP (F := F) d i (cc0__body i (Memref.whole main_arg0_scv) (Memref.isWhole_whole _) (Memref.whole main_v1_scv) (Memref.isWhole_whole _)
          (Memref.whole main_v0_scv) (Memref.isWhole_whole _) (Memref.whole main_v2_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          cc0_scratch12 cc0_scratch13 cc0_scratch14 cc0_scratch15 cc0_scoped0 cc0_scoped1 cc0_scoped2 cc0_scoped3)
          fun _ => iprop(Piece (F := F) m d i True ∗ scopedBufs (tV d i) ∗ scopedSems0 (tV d i)
            ∗ ∃ W', ⌜∀ p ∈ W', p ∈ W ∨ p.2 = none ∨ p.2 = some (0 : Fin 1)⌝ ∗ owes (tV d i) O W') := by
  obtain ⟨RB, hRB⟩ := bufs_split (F := F) d i
  obtain ⟨RS, hRS⟩ := sems_split (F := F) d i
  rw [(K (F := F)).scopedBufs_V hF d (cV i) (jV i), SparseCore.Cfg.scopedSems0_V (Val := Elt F) d (cV i) (jV i), hRB, hRS]
  have hb : (bLoc d ↦{shareTokN fullShare (wid i)} tabOf (m (aLoc d)) : sProp 𝕄)
      = iprop((bLoc d ↦{(shareTokN fullShare (wid i)).left} tabOf (m (aLoc d))) ∗ (bLoc d ↦{(shareTokN fullShare (wid i)).right} tabOf (m (aLoc d)))) :=
    BI.equiv_iff.1 ⟨(pointsTo_share (PosShare.mem_left_op_right _)).1, (pointsTo_share (PosShare.mem_left_op_right _)).2⟩
  have hW : ∀ (κ : ℕ) (p : ℕ) (hp : p < 2) (j : Fin 64) w', iprop(inv κ (Pad (F := F) d) ∗ tk (F := F) d (wid i) p j) ⊢ (writeUpdate (tV d i) (rowM outV (rowF 16384)).view w' (tk (F := F) d (wid i) p j) : sProp 𝕄) :=
    fun κ p hp j w' => pad_write (F := F) d i κ hp j w'
  unfold Piece Sb
  rw [hb]
  iintro ⟨#Hlv, ⟨%κ, #Hinv⟩, ⟨Hx, ⟨HbL, HbR⟩, Ht, ⟨Hk0, Hk1⟩, HB⟩, ⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩⟩, HRB⟩,
    ⟨⟨V12, V13, V14, V15, V0, V1, V2⟩, HRS⟩, HO⟩
  ihave Hmw := (show levAts (K (F := F)).L (K (F := F)).lev ⊢ Transfers.MayWaits (tV d i) (default : HIx 1) O from
    (K (F := F)).mayWaits_none (thr := tV d i) hO) $$ Hlv
  have hspec := body_spec (F := F) d i (X0 := tk (F := F) d (wid i) 0) (X1 := tk (F := F) d (wid i) 1) (Dv := inv κ (Pad (F := F) d)) (w := wid i) (iv := m (xLoc d)) (tab := tabOf (m (aLoc d)))
    (harg2 := Memref.isWhole_whole main_arg0_scv) (harg3 := Memref.isWhole_whole main_v1_scv) (harg4 := Memref.isWhole_whole main_v0_scv) (harg5 := Memref.isWhole_whole main_v2_scv)
    (harg6 := Memref.isWhole_whole cc0_scratch0) (harg7 := Memref.isWhole_whole cc0_scratch1) (harg8 := Memref.isWhole_whole cc0_scratch2) (harg9 := Memref.isWhole_whole cc0_scratch3)
    (harg10 := Memref.isWhole_whole cc0_scratch4) (harg11 := Memref.isWhole_whole cc0_scratch5) (harg12 := Memref.isWhole_whole cc0_scratch6) (harg13 := Memref.isWhole_whole cc0_scratch7)
    (harg14 := Memref.isWhole_whole cc0_scratch8) (harg15 := Memref.isWhole_whole cc0_scratch9) (harg16 := Memref.isWhole_whole cc0_scratch10) (harg17 := Memref.isWhole_whole cc0_scratch11)
    (arg18 := cc0_scratch12) (arg19 := cc0_scratch13) (arg20 := cc0_scratch14) (arg21 := cc0_scratch15) (v46_r0 := cc0_scoped0) (v49_r1 := cc0_scoped1) (v143_r2 := cc0_scoped2) (v143_r3 := cc0_scoped3)
    (qa := (shareTokN fullShare (wid i)).left) (qb := (shareTokN fullShare (wid i)).right) (q2 := shareTokN fullShare (wid i)) (q4 := shareTokN fullShare (wid i)) (O := O) (W := W)
    rfl (hW κ 0 (by decide)) (hW κ 1 (by decide)) (t0 := tailOf (m (aLoc d))) (tail_tab (m (aLoc d)))
  unfold TileI Idle Rest Ow owing at hspec
  simp only [own_whole] at hspec
  iapply (wp_wand_r _)
  isplitr [HRB HRS]
  · iapply hspec
    isplitr; · iexact Hinv
    isplitr [HB]
    · isplitl [Ht]; · iexact Ht
      isplitl [S5]; · iexists f5; iexact S5
      isplitl [V0]; · iexact V0
      isplitl [V1]; · iexact V1
      isplitl [V2]; · iexact V2
      isplitl [Hx]; · iexact Hx
      isplitl [S0]; · iexists f0; iexact S0
      isplitl [S1]; · iexists f1; iexact S1
      isplitl [S2]; · iexists f2; iexact S2
      isplitl [S6]; · iexists f6; iexact S6
      isplitl [S7]; · iexists f7; iexact S7
      isplitl [S11]; · iexists f11; iexact S11
      isplitl [S8]; · iexists f8; iexact S8
      isplitl [HbL S3 V12]
      · iexists f3
        isplitl [HbL]; · iexact HbL
        isplitl [S3]; · iexact S3
        iexact V12
      isplitl [HbR S4 V13]
      · iexists f4
        isplitl [HbR]; · iexact HbR
        isplitl [S4]; · iexact S4
        iexact V13
      isplitl [S9 Hk0 V14]
      · isplitl [S9]; · iexists f9; iexact S9
        isplitl [Hk0]; · iexact Hk0
        iexact V14
      isplitl [S10 Hk1 V15]
      · isplitl [S10]; · iexists f10; iexact S10
        isplitl [Hk1]; · iexact Hk1
        iexact V15
      isplitl [HO]
      · iexists W
        isplitr
        · ipureintro; exact fun p hp => Or.inl hp
        iexact HO
      iexact Hmw
    iexact HB
  iintro %r ⟨⟨Ht, S5, V0, V1, V2, Hx, S0, S1, S2, S6, S7, S11, S8, ⟨%g3, HbL, S3, V12⟩, ⟨%g4, HbR, S4, V13⟩, ⟨S9, Hk0, V14⟩, ⟨S10, Hk1, V15⟩, ⟨%W', %hW', HO⟩, -⟩, HB⟩
  isplitl [Ht Hx HbL HbR Hk0 Hk1 HB]
  · isplitl [Hx]; · iexact Hx
    isplitl [HbL HbR]
    · isplitl [HbL]; · iexact HbL
      iexact HbR
    isplitl [Ht]; · iexact Ht
    isplitl [Hk0 Hk1]
    · isplitl [Hk0]; · iexact Hk0
      iexact Hk1
    iexact HB
  isplitl [S0 S1 S2 S3 S4 S5 S6 S7 S8 S9 S10 S11 HRB]
  · isplitr [HRB]
    · isplitl [S0]; · iexact S0
      isplitl [S1]; · iexact S1
      isplitl [S2]; · iexact S2
      isplitl [S3]; · iexists g3; iexact S3
      isplitl [S4]; · iexists g4; iexact S4
      isplitl [S5]; · iexact S5
      isplitl [S6]; · iexact S6
      isplitl [S7]; · iexact S7
      isplitl [S8]; · iexact S8
      isplitl [S9]; · iexact S9
      isplitl [S10]; · iexact S10
      iexact S11
    iexact HRB
  isplitl [V0 V1 V2 V12 V13 V14 V15 HRS]
  · isplitr [HRS]
    · isplitl [V12]; · iexact V12
      isplitl [V13]; · iexact V13
      isplitl [V14]; · iexact V14
      isplitl [V15]; · iexact V15
      isplitl [V0]; · iexact V0
      isplitl [V1]; · iexact V1
      iexact V2
    iexact HRS
  iexists W'
  isplitr
  · ipureintro
    intro p hp
    exact (hW' p hp).imp id Or.inl
  iexact HO

end Cert.Proof.Emb
-- ==== Proof.Launch.lean ====
/-
  The launch: what the call takes and brings back, how it is dealt to the tiles, and the rights to write the padding row.
-/
module

public import proofs.«01_k».proof.Proof.Tile

@[expose] public section

noncomputable section

namespace Cert.Proof.Emb

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (MayWaits shareTokN shareDrop)
open Idealize.ShloMosaic.SparseCore.Cfg (HIx Pay ownBufs ownSems0 ownCells ownRefs mem_ownCells mem_ownRefs)

variable {F : FTy → Type}

local notation "𝕄" => MT nD τ sig (HIx 1) (Elt F) ℕ UU ℕ

variable [FloatOps F]
variable (m : (ℓ : Loc nD τ sig) → Buf (Elt F) ℓ)

/-! ### What the call carries -/

/-- What a tile of the call is handed, by its SparseCore and its subcore. -/
def Tp (d : Dev nD) (dn : Prop) (c : Fin 2) (s : Fin 16) : sProp 𝕄 := Piece (F := F) m d (coordsV c s) dn

instance (d : Dev nD) (dn : Prop) (c : Fin 2) (s : Fin 16) : Storable (upEmb : UEmb _ 𝕄) (Tp (F := F) m d dn c s) := by unfold Tp; infer_instance

/-- What a SparseCore of the call is handed: the pieces of its tiles. -/
def Cp (d : Dev nD) (dn : Prop) (c : Fin 2) : sProp 𝕄 := bigSep (Finset.univ : Finset (Fin 16)) (Tp (F := F) m d dn c)

instance (d : Dev nD) (dn : Prop) (c : Fin 2) : Storable (upEmb : UEmb _ 𝕄) (Cp (F := F) m d dn c) := by unfold Cp; infer_instance

/-- What every thread of a device is dealt: the padding row's invariant. -/
def G (d : Dev nD) : sProp 𝕄 := iprop(∃ κ, inv κ (Pad (F := F) d))

attribute [irreducible] Tp Cp G

/-- The one call: every tile's piece, and beside it the padding row's invariant. -/
def P : (K (F := F)).Pay (nD := nD) (Val := Elt F) (Name := ℕ) (U := UU) where
  st := fun q d c => match q with | 0 => Cp (F := F) m d False (Fin.cast nCore_zero c)
  dn := fun q d c => match q with | 0 => Cp (F := F) m d True (Fin.cast nCore_zero c)
  go := fun q d c i => match q with | 0 => Tp (F := F) m d False (Fin.cast nCore_zero c) (Fin.cast nSub_zero i)
  td := fun q d c i => match q with | 0 => Tp (F := F) m d True (Fin.cast nCore_zero c) (Fin.cast nSub_zero i)
  x := fun _ thr => G (F := F) thr.1

instance P_storable : (P (F := F) m).IsStorable where
  st q d c := match q with | 0 => (inferInstance : Storable (upEmb : UEmb _ 𝕄) (Cp (F := F) m d False (Fin.cast nCore_zero c)))
  dn q d c := match q with | 0 => (inferInstance : Storable (upEmb : UEmb _ 𝕄) (Cp (F := F) m d True (Fin.cast nCore_zero c)))
  go q d c i := match q with | 0 => (inferInstance : Storable (upEmb : UEmb _ 𝕄) (Tp (F := F) m d False (Fin.cast nCore_zero c) (Fin.cast nSub_zero i)))
  td q d c i := match q with | 0 => (inferInstance : Storable (upEmb : UEmb _ 𝕄) (Tp (F := F) m d True (Fin.cast nCore_zero c) (Fin.cast nSub_zero i)))

theorem defs₀_vector (c : Fin τ.nSC) (s : Fin τ.nSub) :
    defs₀ (F := F) (.scVector c s) 0 ()
      = SparseCore.onTile hcore0 hsub0 (fun c s => cc0__body (coordsV c s) (Memref.whole main_arg0_scv) (Memref.isWhole_whole _) (Memref.whole main_v1_scv) (Memref.isWhole_whole _)
          (Memref.whole main_v0_scv) (Memref.isWhole_whole _) (Memref.whole main_v2_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          cc0_scratch12 cc0_scratch13 cc0_scratch14 cc0_scratch15 cc0_scoped0 cc0_scoped1 cc0_scoped2 cc0_scoped3) ⟨⟩ c s := rfl

/-- Every tile meets its obligation to the launch. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body m d (coordsV ⟨_, hci.1⟩ ⟨_, hci.2⟩) hF O W hO
  have e : ∀ dn, Piece (F := F) m d (coordsV ⟨_, hci.1⟩ ⟨_, hci.2⟩) dn = Tp (F := F) m d dn (Fin.cast nCore_zero c) (Fin.cast nSub_zero i) := fun dn => by unfold Tp; rfl
  have eG : (iprop(∃ κ, inv κ (Pad (F := F) d)) : sProp 𝕄) = G (F := F) d := by unfold G; rfl
  rw [e, e, eG] at h
  exact h

/-- A SparseCore hands its tiles their pieces, and has them back at the end. -/
theorem vecSplit : (K (F := F)).VecSplit' (P m) 0 := by
  intro d c
  show Cp (F := F) m d False (Fin.cast nCore_zero c) ⊢ |={Set.univ}=> iprop(
      (bigSep Finset.univ fun i : Fin ((K (F := F)).nSub 0) => Tp (F := F) m d False (Fin.cast nCore_zero c) (Fin.cast nSub_zero i))
      ∗ ((bigSep Finset.univ fun i : Fin ((K (F := F)).nSub 0) => Tp (F := F) m d True (Fin.cast nCore_zero c) (Fin.cast nSub_zero i))
          -∗ Cp (F := F) m d True (Fin.cast nCore_zero c)))
  have e : ∀ dn, (bigSep Finset.univ fun i : Fin ((K (F := F)).nSub 0) => Tp (F := F) m d dn (Fin.cast nCore_zero c) (Fin.cast nSub_zero i)) = Cp (F := F) m d dn (Fin.cast nCore_zero c) :=
    fun dn => by unfold Cp; exact BI.bigSep_congr fun _ _ => congrArg (Tp (F := F) m d dn (Fin.cast nCore_zero c)) (Fin.ext rfl)
  rw [e, e]
  iintro H; imodintro
  isplitl [H]; · iexact H
  iintro H; iexact H

/-! ### The rights to write the padding row, from the start of the launch -/

/-- The counters the launch begins with: one for each right. -/
def cnt (s : Finset ℕ) : Idealize.SL.ExclCount.Counters :=
  ISumOpt.restrict (A := fun _ : ℕ => Auth (Option (Excl ℕ))) s fun _ => Auth.frag (Idealize.SL.ExclCount.exclOf 0)

theorem cnt_own (s : Finset ℕ) : (BI.own (EC (F := F) (cnt s)) : sProp 𝕄) ⊢ bigSep s fun γ => Idealize.SL.ExclCount.count EC γ 0 := by
  induction s using Finset.induction_on with
  | empty => rw [BI.bigSep_empty]; iintro -; iempintro
  | insert a s ha ih =>
    rw [SparseCore.bigSep_insert' ha]
    have e := ISumOpt.single_op_restrict (A := fun _ : ℕ => Auth (Option (Excl ℕ))) (s := s) (fun _ => Auth.frag (Idealize.SL.ExclCount.exclOf 0)) (i := a) (Auth.frag (Idealize.SL.ExclCount.exclOf 0)) ha
    rw [Function.update_eq_self] at e
    have h : (BI.own (EC (F := F) (cnt (insert a s))) : sProp 𝕄)
        ⊢ iprop(Idealize.SL.ExclCount.count EC a 0 ∗ BI.own (EC (F := F) (cnt s))) :=
      BI.own_op_elim ((EC (F := F)).toEmb.op_of_eq_some e)
    iintro H
    ihave H' := h $$ H
    icases H' with ⟨H1, H2⟩
    isplitl [H1]; · iexact H1
    iapply ih; iexact H2

theorem toks_range (d : Dev nD) : (Toks (F := F) d : sProp 𝕄) = bigSep (Finset.range 4096) fun r => Idealize.SL.ExclCount.count EC (d.val * 4096 + r) 0 := by
  unfold Toks
  rw [show (4096 : ℕ) = 32 * 128 from rfl, bigSep_range_mul 32 128]
  refine BI.bigSep_congr fun w _ => ?_
  rw [show (128 : ℕ) = 2 * 64 from rfl, bigSep_range_mul 2 64, show Finset.range 2 = {0, 1} from rfl, SparseCore.bigSep_insert' (by decide),
    BI.bigSep_singleton, ← bigSep_fin (n := 64), ← bigSep_fin (n := 64)]
  have e : ∀ p, bigSep Finset.univ (tk (F := F) d w p)
      = bigSep (Finset.univ : Finset (Fin 64)) fun j => (Idealize.SL.ExclCount.count EC (d.val * (32 * (2 * 64)) + (2 * 64 * w + (64 * p + j.val))) 0 : sProp 𝕄) := fun p => by
    refine BI.bigSep_congr fun j _ => ?_
    unfold tk
    congr 1
    omega
  rw [e, e]

def u₀ : UU := (initOf (K (F := F)).hsCells (K (F := F)).hsToks, cnt (Finset.range 4096))

/-- An invariant gives whatever it gives to any number of takers. -/
theorem bigSep_dup {α : Type} [DecidableEq α] {B : sProp 𝕄} (κ : ℕ) (s : Finset α) (Φ : α → sProp 𝕄) (h : ∀ a, inv κ B ⊢ Φ a) : inv κ B ⊢ bigSep s Φ := by
  induction s using Finset.induction_on with
  | empty => rw [BI.bigSep_empty]; iintro -; iempintro
  | insert a s ha ih =>
    rw [SparseCore.bigSep_insert' ha]
    iintro #H
    isplitr
    · iapply (h a); iexact H
    · iapply ih; iexact H

/-- From the launch's own resources: the handshakes' rounds, and the padding row's invariant to every thread. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) (cnt (Finset.range 4096))) $$ Hu
  icases H with ⟨HH, HC⟩
  ihave HT := (show (BI.own (embR (cnt (Finset.range 4096))) : sProp 𝕄) ⊢ Toks (F := F) (0 : Dev nD) from by
    rw [toks_range]
    have e : (fun r => (Idealize.SL.ExclCount.count EC ((0 : Dev nD).val * 4096 + r) 0 : sProp 𝕄)) = fun r => Idealize.SL.ExclCount.count EC r 0 := by
      funext r
      rw [show (0 : Dev nD).val * 4096 + r = r by simp]
    rw [e]
    exact cnt_own (Finset.range 4096)) $$ HC
  have hal : (Toks (F := F) (0 : Dev nD) : sProp 𝕄) ⊢ |={Set.univ}=> ∃ κ, inv κ (Pad (F := F) (0 : Dev nD)) := by
    have h1 : (Toks (F := F) (0 : Dev nD) : sProp 𝕄) ⊢ Pad (F := F) (0 : Dev nD) := by unfold Pad; iintro H; iright; iexact H
    exact h1.trans inv_alloc
  imod hal $$ HT with ⟨%κ, #Hinv⟩
  imodintro
  have hd : ∀ d : Dev nD, inv κ (Pad (F := F) (0 : Dev nD)) ⊢ (G (F := F) d : sProp 𝕄) := fun d => by
    have e : d = (0 : Dev nD) := Subsingleton.elim _ _
    subst e
    unfold G
    iintro H; iexists κ; iexact H
  isplitl [HH]; · iexact HH
  isplitr
  · iapply (bigSep_dup κ _ (fun d : Dev nD => G (F := F) d) hd); iexact Hinv
  · have e : (fun thr : Thread nD τ => bigSep Finset.univ fun q : Fin 1 => (P (F := F) m).x q thr) = fun thr => G (F := F) thr.1 :=
      funext fun thr => bigSep_univ_of_subsingleton (0 : Fin 1)
    rw [e]
    iapply (bigSep_dup κ _ (fun thr : Thread nD τ => G (F := F) thr.1) fun thr => hd thr.1); iexact Hinv

end Cert.Proof.Emb
-- ==== Proof.Out.lean ====
/-
  The output buffer as its rows: dealt to the tiles before the call, and put together again after it.
-/
module

public import proofs.«01_k».proof.Proof.Launch

@[expose] public section

set_option maxRecDepth 4000

noncomputable section

namespace Cert.Proof.Emb

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)

variable {F : FTy → Type}

local notation "𝕄" => MT nD τ sig (HIx 1) (Elt F) ℕ UU ℕ

variable [FloatOps F]

/-- A tile to name the buffers by. -/
abbrev i0 : grid0.Coords := coordsV ⟨0, by decide⟩ ⟨0, by decide⟩

theorem outR_emb (y : S16400x128.Idx) : (outR outV).view.emb y = y := by
  refine ix2_ext (A := 16400) (B := 128) ?_ ?_
  · show 0 + 1 * (y 0).val = _
    omega
  · show 0 + 1 * (y 1).val = _
    omega

theorem outR_set : (outR outV).view.set = Finset.univ := by
  refine Finset.eq_univ_iff_forall.2 fun y => ?_
  have h := (outR outV).view.emb_mem_set y
  rw [outR_emb] at h
  exact h

theorem rowF_of_lt {k : ℕ} (h : k < 16400) : rowF k = ⟨k, h⟩ := Fin.ext (Nat.mod_eq_of_lt h)

theorem rowSet_disj {k k' : ℕ} (hk : k < 16400) (hk' : k' < 16400) (h : k ≠ k') : Disjoint (rowSet k) (rowSet k') := by
  unfold rowSet
  refine (outR outV).view.disjoint_rows (a := axO) (k := rowF k) (k' := rowF k') fun e => h ?_
  rw [rowF_of_lt hk, rowF_of_lt hk'] at e
  exact congrArg Fin.val e

theorem rowM_emb (k : Fin 16400) (x : (S16400x128.rowShape axO).Idx) (hx : (x colO).val < 128) :
    (rowM outV k).view.emb x = (ix2 (A := 16400) (B := 128) k.val (x colO).val k.isLt hx : S16400x128.Idx) := by
  have e : (rowM outV k).view.emb x = (outR outV).view.emb ((S16400x128.rowRect axO k).emb x) := rfl
  rw [e, outR_emb]
  refine ix2_ext (A := 16400) (B := 128) ?_ ?_
  · rw [ix2_zero]
    exact congrArg Fin.val (Shape.rowRect_emb_axis (s := S16400x128) axO k x)
  · rw [ix2_one]
    exact Shape.rowRect_emb_of_ne (s := S16400x128) axO k x (b := ⟨1, by decide⟩) (by decide)

/-- A column as a place in a row. -/
def rowX (c : ℕ) (hc : c < 128) : (S16400x128.rowShape axO).Idx := fun a => ⟨if a.val = 1 then c else 0, by
  match a with
  | ⟨0, _⟩ => exact (by decide : 0 < 1)
  | ⟨1, _⟩ => exact hc⟩

theorem rowX_col (c : ℕ) (hc : c < 128) : (rowX c hc colO).val = c := rfl

/-- The rows of the output a tile takes. -/
def TRows (iv : S16384.Idx → BitVec 32) (w : ℕ) : Finset ℕ := (Finset.range 16384).filter fun k => PR w iv k

/-- The rows of the output no tile takes, the padding row aside. -/
def ORest (iv : S16384.Idx → BitVec 32) : Finset ℕ := ((Finset.range 16400) \ Owned iv 32).erase 16384

/-- The rows of the output. -/
def AllR : Finset ℕ := Finset.range 16400

theorem mem_AllR {k : ℕ} : k ∈ AllR ↔ k < 16400 := Finset.mem_range

theorem rest_not {iv : S16384.Idx → BitVec 32} {k : ℕ} (h : k ∈ ORest iv) : k ∉ Owned iv 32 := (Finset.mem_sdiff.1 (Finset.mem_of_mem_erase h)).2

theorem out_split (iv : S16384.Idx → BitVec 32) (Φ : ℕ → sProp 𝕄) :
    bigSep AllR Φ = iprop((bigSep (Finset.range 32) fun w => bigSep (TRows iv w) Φ) ∗ Φ 16384 ∗ bigSep (ORest iv) Φ) := bigSep_out iv Φ

attribute [irreducible] TRows ORest AllR

theorem rowSet_cover : AllR.biUnion rowSet = Finset.univ := by
  refine Finset.eq_univ_iff_forall.2 fun y => ?_
  have h0 : (y 0).val < 16400 := (y 0).isLt
  have h1 : (y 1).val < 128 := (y 1).isLt
  have h := (rowM outV (rowF (y 0).val)).view.emb_mem_set (rowX (y 1).val h1)
  have e : (rowM outV (rowF (y 0).val)).view.emb (rowX (y 1).val h1) = y := by
    refine (rowM_emb _ _ (show (rowX (y 1).val h1 colO).val < 128 from h1)).trans ?_
    refine ix2_ext (A := 16400) (B := 128) ?_ ?_
    · show (rowF (y 0).val).val = (y 0).val
      rw [rowF_of_lt h0]
    · exact rowX_col _ h1
  rw [e] at h
  exact (@Finset.mem_biUnion _ _ _ _ _ _).2 ⟨(y 0).val, mem_AllR.2 h0, h⟩

/-- The output buffer whole is its rows. -/
theorem out_rows (d : Dev nD) (f : Buf (Elt F) (oLoc d)) :
    (oLoc d ↦{fullShare} f : sProp 𝕄) = bigSep AllR fun k => oLoc d ↦[rowSet k]{fullShare} f := by
  rw [← rowSet_cover]
  exact pointsTo_biUnion AllR _ fun k hk k' hk' h => rowSet_disj (mem_AllR.1 hk) (mem_AllR.1 hk') h

/-- Contents read through one row. -/
def rv (d : Dev nD) (k : ℕ) (f : Buf (Elt F) (oLoc d)) : (S16400x128.rowShape axO).Idx → Elt F .f32 := (rowM outV (rowF k)).view.read (Elt F) f

theorem rv_congr (d : Dev nD) (k : ℕ) {f g : Buf (Elt F) (oLoc d)} (h : ∀ y ∈ rowSet k, f y = g y) : rv d k f = rv d k g :=
  View.read_congr (v := (rowM outV (rowF k)).view) h

theorem rowP_eq (d : Dev nD) (i : grid0.Coords) (tab : S32x1000000.Idx → Elt F .f32) (dn : Prop) (k n : ℕ) :
    (RowP (F := F) d i outV tab dn k n : sProp 𝕄)
      = iprop(∃ g : (S16400x128.rowShape axO).Idx → Elt F .f32, ⌜dn → ∀ x, (x colO).val < 32 → g x = tabT tab (x colO).val n⌝
          ∗ ∃ f : Buf (Elt F) (oLoc d), ⌜rv d k f = g⌝ ∗ oLoc d ↦[rowSet k]{fullShare} f) := by
  unfold RowP own rowSet rv
  rfl

/-- A row at any contents is a tile's row before the call. -/
theorem rowP_of (d : Dev nD) (i : grid0.Coords) (tab : S32x1000000.Idx → Elt F .f32) (k n : ℕ) (f : Buf (Elt F) (oLoc d)) :
    (oLoc d ↦[rowSet k]{fullShare} f : sProp 𝕄) ⊢ RowP (F := F) d i outV tab False k n := by
  rw [rowP_eq]
  iintro H
  iexists rv d k f
  isplitr
  · ipureintro; intro h; exact h.elim
  iexists f
  isplitr
  · ipureintro; rfl
  iexact H

/-- What the call leaves a row of the output at: the table's row, where a tile's list holds it. -/
def GoodRow (d : Dev nD) (tab : S32x1000000.Idx → Elt F .f32) (iv : S16384.Idx → BitVec 32) (k : ℕ) (f : Buf (Elt F) (oLoc d)) : Prop :=
  k < 16384 → (∃ w < 32, PR w iv k) → ∀ x, (x colO).val < 32 → rv d k f x = tabT tab (x colO).val (at1 iv k).toNat

/-- One row after the call. -/
def Rg (d : Dev nD) (tab : S32x1000000.Idx → Elt F .f32) (iv : S16384.Idx → BitVec 32) (k : ℕ) : sProp 𝕄 :=
  iprop(∃ f, ⌜GoodRow (F := F) d tab iv k f⌝ ∗ oLoc d ↦[rowSet k]{fullShare} f)

theorem rg_of_rowP (d : Dev nD) (i : grid0.Coords) (tab : S32x1000000.Idx → Elt F .f32) (iv : S16384.Idx → BitVec 32) (k : ℕ) :
    RowP (F := F) d i outV tab True k (at1 iv k).toNat ⊢ (Rg (F := F) d tab iv k : sProp 𝕄) := by
  rw [rowP_eq]
  unfold Rg
  iintro ⟨%g, %hg, %f, %hf, H⟩
  iexists f
  isplitr
  · ipureintro
    intro _ _ x hx
    rw [hf]
    exact hg trivial x hx
  iexact H

theorem rg_of_not (d : Dev nD) (tab : S32x1000000.Idx → Elt F .f32) (iv : S16384.Idx → BitVec 32) (k : ℕ) (hk : k ∉ Owned iv 32) (f : Buf (Elt F) (oLoc d)) :
    (oLoc d ↦[rowSet k]{fullShare} f : sProp 𝕄) ⊢ Rg (F := F) d tab iv k := by
  unfold Rg
  iintro H
  iexists f
  isplitr
  · ipureintro
    intro h1 h2
    exact absurd (mem_owned.2 ⟨h1, h2⟩) hk
  iexact H

/-- Contents chosen row by row. -/
theorem rows_choose (d : Dev nD) (f₀ : Buf (Elt F) (oLoc d)) (tab : S32x1000000.Idx → Elt F .f32) (iv : S16384.Idx → BitVec 32) (s : Finset ℕ) :
    bigSep s (Rg (F := F) d tab iv) ⊢ (iprop(∃ fs : ℕ → Buf (Elt F) (oLoc d), ⌜∀ k ∈ s, GoodRow (F := F) d tab iv k (fs k)⌝
      ∗ bigSep s fun k => oLoc d ↦[rowSet k]{fullShare} fs k) : sProp 𝕄) := by
  induction s using Finset.induction_on with
  | empty =>
    iintro H
    iexists fun _ => f₀
    isplitr
    · ipureintro; intro k hk; exact absurd hk (Finset.notMem_empty k)
    iempintro
  | insert a s ha ih =>
    rw [SparseCore.bigSep_insert' ha]
    have hR : (Rg (F := F) d tab iv a : sProp 𝕄) = iprop(∃ f, ⌜GoodRow (F := F) d tab iv a f⌝ ∗ oLoc d ↦[rowSet a]{fullShare} f) := rfl
    rw [hR]
    iintro ⟨⟨%f, %hf, H1⟩, H2⟩
    ihave H := ih $$ H2
    icases H with ⟨%fs, %hfs, H2⟩
    iexists Function.update fs a f
    isplitr
    · ipureintro
      intro k hk
      by_cases e : k = a
      · subst e; rw [Function.update_self]; exact hf
      · rw [Function.update_of_ne e]
        exact hfs k ((Finset.mem_insert.1 hk).resolve_left e)
    rw [SparseCore.bigSep_insert' ha, Function.update_self,
      BI.bigSep_congr (s := s) (Φ := fun k => iprop(oLoc d ↦[rowSet k]{fullShare} Function.update fs a f k)) (Ψ := fun k => (iprop(oLoc d ↦[rowSet k]{fullShare} fs k) : sProp 𝕄))
        fun k hk => by rw [Function.update_of_ne (show k ≠ a from fun e => ha (e ▸ hk))]]
    isplitl [H1]; · iexact H1
    iexact H2

/-- The rows after the call make the output buffer. -/
theorem rows_join (d : Dev nD) (f₀ : Buf (Elt F) (oLoc d)) (tab : S32x1000000.Idx → Elt F .f32) (iv : S16384.Idx → BitVec 32) :
    bigSep AllR (Rg (F := F) d tab iv) ⊢ (iprop(∃ f, ⌜∀ k < 16400, GoodRow (F := F) d tab iv k f⌝ ∗ oLoc d ↦{fullShare} f) : sProp 𝕄) := by
  iintro H
  ihave H' := (rows_choose d f₀ tab iv AllR) $$ H
  icases H' with ⟨%fs, %hfs, H⟩
  ihave H' := (pointsTo_biUnion_join AllR rowSet fs f₀
    fun k hk k' hk' h => rowSet_disj (mem_AllR.1 hk) (mem_AllR.1 hk') h) $$ H
  icases H' with ⟨%g, %hg, H⟩
  iexists g
  isplitr
  · ipureintro
    intro k hk h1 h2 x hx
    rw [rv_congr d k (hg k (mem_AllR.2 hk))]
    exact hfs k (mem_AllR.2 hk) h1 h2 x hx
  rw [rowSet_cover]
  iexact H

/-- The rows the tiles take. -/
def TileRows (d : Dev nD) (tab : S32x1000000.Idx → Elt F .f32) (iv : S16384.Idx → BitVec 32) (dn : Prop) : sProp 𝕄 :=
  bigSep (Finset.range 32) fun w => bigSep (TRows iv w) fun k => RowP (F := F) d i0 outV tab dn k (at1 iv k).toNat

/-- The rows no tile takes, the padding row aside. -/
def RestRows (d : Dev nD) (iv : S16384.Idx → BitVec 32) : sProp 𝕄 :=
  bigSep (ORest iv) fun k => iprop(∃ f : Buf (Elt F) (oLoc d), oLoc d ↦[rowSet k]{fullShare} f)

/-- Before the call: the output dealt out, the padding row put into the invariant against the rights. -/
theorem out_start (d : Dev nD) (κ : ℕ) (f : Buf (Elt F) (oLoc d)) (tab : S32x1000000.Idx → Elt F .f32) (iv : S16384.Idx → BitVec 32) :
    iprop(inv κ (Pad (F := F) d) ∗ oLoc d ↦{fullShare} f)
      ⊢ (|={Set.univ}=> iprop(Toks (F := F) d ∗ TileRows (F := F) d tab iv False ∗ RestRows (F := F) d iv) : sProp 𝕄) := by
  have h1 : (bigSep (Finset.range 32) fun w => bigSep (TRows iv w) fun k => iprop(oLoc d ↦[rowSet k]{fullShare} f))
      ⊢ (TileRows (F := F) d tab iv False : sProp 𝕄) := by
    unfold TileRows
    exact BI.bigSep_mono fun w _ => BI.bigSep_mono fun k _ => rowP_of d i0 tab k _ f
  have h2 : (bigSep (ORest iv) fun k => iprop(oLoc d ↦[rowSet k]{fullShare} f))
      ⊢ (RestRows (F := F) d iv : sProp 𝕄) := by
    unfold RestRows
    have h0 : ∀ k, (oLoc d ↦[rowSet k]{fullShare} f) ⊢ (iprop(∃ g : Buf (Elt F) (oLoc d), oLoc d ↦[rowSet k]{fullShare} g) : sProp 𝕄) := fun k => by
      iintro H; iexists f; iexact H
    exact BI.bigSep_mono fun k _ => h0 k
  have hne : ∃ y, y ∈ rowSet 16384 := ⟨_, (rowM outV (rowF 16384)).view.emb_mem_set (rowX 0 (by decide))⟩
  obtain ⟨y, hy⟩ := hne
  have h3 : ∀ g : Buf (Elt F) (oLoc d), iprop((oLoc d ↦[rowSet 16384]{fullShare} f) ∗ oLoc d ↦[rowSet 16384]{fullShare} g) ⊢ (⌜False⌝ : sProp 𝕄) :=
    fun g => pointsTo_full_full_false hy hy
  rw [out_rows, out_split iv]
  iintro ⟨Hinv, H1, H2, H3⟩
  ihave H1' := h1 $$ H1
  ihave H3' := h2 $$ H3
  imod (inv_acc (Set.mem_univ κ)) $$ Hinv with ⟨Hb, Hclose⟩
  have hP : (Pad (F := F) d : sProp 𝕄) = iprop((∃ f, oLoc d ↦[rowSet 16384]{fullShare} f) ∨ Toks (F := F) d) := rfl
  ihave Hb := (Entails.of_eq hP) $$ Hb
  icases Hb with (⟨%g, Hg⟩ | Ht)
  · ihave Hf := (h3 g) $$ [H2 Hg]
    · isplitl [H2]; · iexact H2
      iexact Hg
    icases Hf with %hf
    exact hf.elim
  · imod Hclose $$ [H2]
    · rw [hP]
      ileft
      iexists f
      iexact H2
    imodintro
    isplitl [Ht]; · iexact Ht
    isplitl [H1']; · iexact H1'
    iexact H3'

/-- After the call: the padding row taken out of the invariant, and the output whole again. -/
theorem out_end (d : Dev nD) (κ : ℕ) (f₀ : Buf (Elt F) (oLoc d)) (tab : S32x1000000.Idx → Elt F .f32) (iv : S16384.Idx → BitVec 32) :
    iprop(inv κ (Pad (F := F) d) ∗ Toks (F := F) d ∗ TileRows (F := F) d tab iv True ∗ RestRows (F := F) d iv)
      ⊢ (|={Set.univ}=> iprop(∃ f, ⌜∀ k < 16400, GoodRow (F := F) d tab iv k f⌝ ∗ oLoc d ↦{fullShare} f) : sProp 𝕄) := by
  have h1 : (TileRows (F := F) d tab iv True : sProp 𝕄) ⊢ bigSep (Finset.range 32) fun w => bigSep (TRows iv w) (Rg (F := F) d tab iv) := by
    unfold TileRows
    exact BI.bigSep_mono fun w _ => BI.bigSep_mono fun k _ => rg_of_rowP d i0 tab iv k
  have h2 : (RestRows (F := F) d iv : sProp 𝕄) ⊢ bigSep (ORest iv) (Rg (F := F) d tab iv) := by
    unfold RestRows
    have h0 : ∀ k, k ∉ Owned iv 32 → iprop(∃ g : Buf (Elt F) (oLoc d), oLoc d ↦[rowSet k]{fullShare} g) ⊢ (Rg (F := F) d tab iv k : sProp 𝕄) := fun k hk => by
      iintro ⟨%f, H⟩
      iapply (rg_of_not d tab iv k hk f)
      iexact H
    exact BI.bigSep_mono fun k hk => h0 k (rest_not hk)
  have h3 : ∀ f, (oLoc d ↦[rowSet 16384]{fullShare} f : sProp 𝕄) ⊢ Rg (F := F) d tab iv 16384 :=
    fun f => rg_of_not d tab iv 16384 (fun h => absurd (mem_owned.1 h).1 (by decide)) f
  have h4 : iprop(Toks (F := F) d ∗ Toks (F := F) d) ⊢ (iprop(False) : sProp 𝕄) := by
    have h0 : (Toks (F := F) d : sProp 𝕄) ⊢ tk (F := F) d 0 0 0 := by
      unfold Toks
      rw [SparseCore.bigSep_erase' (Finset.mem_range.2 (by decide : 0 < 32)), SparseCore.bigSep_erase' (Finset.mem_univ (0 : Fin 64))]
      iintro ⟨⟨⟨H, -⟩, -⟩, -⟩; iexact H
    iintro ⟨Ha, Hb⟩
    ihave Ha := h0 $$ Ha
    iapply (tk_toks (F := F) d (by decide : 0 < 32) (by decide : 0 < 2) 0)
    isplitl [Ha]; · iexact Ha
    iexact Hb
  iintro ⟨Hinv, Ht, H1, H3⟩
  ihave H1' := h1 $$ H1
  ihave H3' := h2 $$ H3
  imod (inv_acc (Set.mem_univ κ)) $$ Hinv with ⟨Hb, Hclose⟩
  have hP : (Pad (F := F) d : sProp 𝕄) = iprop((∃ f, oLoc d ↦[rowSet 16384]{fullShare} f) ∨ Toks (F := F) d) := rfl
  ihave Hb := (Entails.of_eq hP) $$ Hb
  icases Hb with (⟨%g, Hg⟩ | Ht')
  · imod Hclose $$ [Ht]
    · rw [hP]
      iright
      iexact Ht
    imodintro
    ihave H2 := (h3 g) $$ Hg
    iapply (rows_join d f₀ tab iv)
    rw [out_split iv]
    isplitl [H1']; · iexact H1'
    isplitl [H2]; · iexact H2
    iexact H3'
  · ihave Hf := h4 $$ [Ht Ht']
    · isplitl [Ht]; · iexact Ht
      iexact Ht'
    iexfalso
    iexact Hf

end Cert.Proof.Emb

end
-- ==== Proof.Main.lean ====
/-
  The program on the TensorCore, and the run of the whole launch.
-/
module

public import proofs.«01_k».proof.Proof.Out
public import Idealize.ShloMosaic.Lib.SparseCore.Quiescent
public import Idealize.ShloMosaic.Lib.StableHlo.Run

@[expose] public section

noncomputable section

namespace Cert.Proof.Emb

open Cert.KernelIdeal Cert.KernelIdeal.Gen
open Idealize.ShloMosaic
open Idealize.ShloMosaic.StableHlo (held wp_hlo_within)
open Idealize.ShloMosaic.SparseCore (S V)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.SparseCore.Cfg (HIx Pay)

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ### The operations on the TensorCore -/

/-- An operation of one operand: from the operand's buffer and the result's, to the result's at the operation's value. -/
theorem wp_op (m : (ℓ : Loc nD τ sig) → Buf (Elt F) ℓ) (d : Dev nD) {x y : Ref sig .tc} (hxy : (Proc.devRef .tc x : DevRef τ sig) ≠ Proc.devRef .tc y) {op : HloOp τ sig (Elt F)}
    (hb : op.bufs = {Proc.devRef .tc x, Proc.devRef .tc y}) (hf : op.fresh = ∅)
    (fx : Buf (Elt F) ((SparseCore.T d).loc x)) (fy res : Buf (Elt F) ((SparseCore.T d).loc y))
    (hx : ∀ V : Valuation τ sig (Elt F), op.result V (Proc.devRef .tc x) = V (Proc.devRef .tc x))
    (hy : ∀ V : Valuation τ sig (Elt F), V (Proc.devRef .tc x) = fx → op.result V (Proc.devRef .tc y) = res)
    {Q : PUnit → sProp 𝕄} :
    iprop(boundary (SparseCore.T d) ∗ ((SparseCore.T d).loc x ↦{fullShare} fx) ∗ (SparseCore.T d).loc y ↦{fullShare} fy)
      ⊢ iprop(((boundary (SparseCore.T d) ∗ ((SparseCore.T d).loc x ↦{fullShare} fx) ∗ (SparseCore.T d).loc y ↦{fullShare} res) -∗ Q ⟨⟩)
        -∗ wp frame (wpE ((K (F := F)).defs (D (F := F))) 𝒱 (SparseCore.T d) none) Set.univ (hlo (nD := nD) (Λ := SparseCore.Sig ΛP 1) (p := .tc) rfl op fun _ => .ret PUnit.unit) Q) := by
  have hheld : ∀ W : Valuation τ sig (Elt F), (held (SparseCore.T d) {Proc.devRef .tc x, Proc.devRef .tc y} W : sProp 𝕄)
      = iprop(((SparseCore.T d).loc x ↦{fullShare} W (Proc.devRef .tc x)) ∗ (SparseCore.T d).loc y ↦{fullShare} W (Proc.devRef .tc y)) := fun W => by
    unfold held
    rw [SparseCore.bigSep_insert' (by rw [Finset.mem_singleton]; exact hxy), BI.bigSep_singleton]
  let V : Valuation τ sig (Elt F) := Function.update (Function.update (fun b => m (d, b)) (Proc.devRef .tc x) fx) (Proc.devRef .tc y) fy
  have hVx : V (Proc.devRef .tc x) = fx := by
    show Function.update _ _ _ _ = _
    rw [Function.update_of_ne hxy, Function.update_self]
  have hVy : V (Proc.devRef .tc y) = fy := Function.update_self ..
  have h1 : (iprop(((SparseCore.T d).loc x ↦{fullShare} fx) ∗ (SparseCore.T d).loc y ↦{fullShare} fy) : sProp 𝕄) = held (SparseCore.T d) {Proc.devRef .tc x, Proc.devRef .tc y} V := by
    rw [hheld, hVx, hVy]
  have h2 : (held (SparseCore.T d) {Proc.devRef .tc x, Proc.devRef .tc y} (op.result V) : sProp 𝕄) = iprop(((SparseCore.T d).loc x ↦{fullShare} fx) ∗ (SparseCore.T d).loc y ↦{fullShare} res) := by
    rw [hheld, hx, hy V hVx, hVx]
  have key := wp_hlo_within (Λ := SparseCore.Sig ΛP 1) (defs := (K (F := F)).defs (D (F := F))) 𝒱 (SparseCore.T d) none Set.univ (hp := rfl) (op := op) (k := fun _ => .ret PUnit.unit)
    (S := {Proc.devRef .tc x, Proc.devRef .tc y}) (by rw [hb]) (V := V) (Q := Q) hf
  rw [← h1, h2] at key
  iintro H Hk
  iapply key $$ H
  iintro H
  rw [wp_ret]
  imodintro
  iapply Hk
  iexact H

/-! ### Dealing the arrays -/

/-- The piece of tile number `w`. -/
def Pw (d : Dev nD) (dn : Prop) (w : ℕ) : sProp 𝕄 :=
  iprop((xLoc d ↦{shareTokN fullShare w} m (xLoc d)) ∗ (bLoc d ↦{shareTokN fullShare w} tabOf (m (aLoc d)))
    ∗ (tLoc d ↦{shareTokN fullShare w} tailOf (m (aLoc d)))
    ∗ (bigSep Finset.univ (tk (F := F) d w 0) ∗ bigSep Finset.univ (tk (F := F) d w 1))
    ∗ bigSep (TRows (m (xLoc d)) w) fun k => RowP (F := F) d i0 outV (tabOf (m (aLoc d))) dn k (at1 (m (xLoc d)) k).toNat)

theorem bat_trows (d : Dev nD) (i : grid0.Coords) (tab : S32x1000000.Idx → Elt F .f32) (w : ℕ) (iv : S16384.Idx → BitVec 32) (dn : Prop) :
    bigSep (Finset.range 32) (Bat (F := F) d i outV tab w iv dn)
      = bigSep (TRows iv w) fun k => RowP (F := F) d i outV tab dn k (at1 iv k).toNat := by
  unfold TRows
  exact bat_rows (F := F) d i outV tab w iv dn

theorem piece_eq (d : Dev nD) (i : grid0.Coords) (dn : Prop) : Piece (F := F) m d i dn = Pw (F := F) m d dn (wid i) := by
  unfold Piece Pw
  rw [bat_trows]
  have e : ∀ k, RowP (F := F) d i outV (tabOf (m (aLoc d))) dn k (at1 (m (xLoc d)) k).toNat = RowP (F := F) d i0 outV (tabOf (m (aLoc d))) dn k (at1 (m (xLoc d)) k).toNat :=
    fun k => by rw [rowP_eq, rowP_eq]
  simp only [e]

theorem cp_all (d : Dev nD) (dn : Prop) :
    (bigSep Finset.univ fun c : Fin ((K (F := F)).nCore 0) => Cp (F := F) m d dn (Fin.cast nCore_zero c)) = bigSep (Finset.range 32) (Pw (F := F) m d dn) := by
  have e : ∀ c : Fin 2, Cp (F := F) m d dn c = bigSep (Finset.univ : Finset (Fin 16)) fun j => Pw (F := F) m d dn (j.val * 2 + c.val) := fun c => by
    unfold Cp
    refine BI.bigSep_congr fun j _ => ?_
    unfold Tp
    exact piece_eq m d _ dn
  rw [← bigSep_tiles]
  exact BI.bigSep_congr fun c _ => e (Fin.cast nCore_zero c)

theorem st_all (d : Dev nD) : (bigSep Finset.univ fun c : Fin ((K (F := F)).nCore 0) => (P (F := F) m).st 0 d c) = bigSep (Finset.range 32) (Pw (F := F) m d False) := cp_all m d False
theorem dn_all (d : Dev nD) : (bigSep Finset.univ fun c : Fin ((K (F := F)).nCore 0) => (P (F := F) m).dn 0 d c) = bigSep (Finset.range 32) (Pw (F := F) m d True) := cp_all m d True

/-- All the pieces: the shares of the arrays, the rights, the rows. -/
theorem pw_all (d : Dev nD) (dn : Prop) :
    bigSep (Finset.range 32) (Pw (F := F) m d dn) = iprop((bigSep (Finset.range 32) fun w => xLoc d ↦{shareTokN fullShare w} m (xLoc d))
      ∗ (bigSep (Finset.range 32) fun w => bLoc d ↦{shareTokN fullShare w} tabOf (m (aLoc d)))
      ∗ (bigSep (Finset.range 32) fun w => tLoc d ↦{shareTokN fullShare w} tailOf (m (aLoc d)))
      ∗ Toks (F := F) d ∗ TileRows (F := F) d (tabOf (m (aLoc d))) (m (xLoc d)) dn) := by
  unfold Toks TileRows
  rw [← bigSep_sep', ← bigSep_sep', ← bigSep_sep', ← bigSep_sep']
  rfl

/-! ### @main -/

theorem unscopedBufs_eq (d : Dev nD) (W : (b : Ref sig .tc) → Buf (Elt F) ((d.tc : Thread nD τ).loc b)) :
    (unscopedBufs d W : sProp 𝕄)
      = iprop((xLoc d ↦{fullShare} W main_arg0) ∗ (aLoc d ↦{fullShare} W main_arg1) ∗ (tLoc d ↦{fullShare} W main_v0) ∗ (bLoc d ↦{fullShare} W main_v1)
          ∗ (oLoc d ↦{fullShare} W main_v2) ∗ ((SparseCore.T d).loc main_v3 ↦{fullShare} W main_v3) ∗ (SparseCore.T d).loc main_v4 ↦{fullShare} W main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), BI.bigSep_singleton]

/-- The result's buffer. -/
abbrev rLoc (d : Dev nD) : Loc nD τ sig := (SparseCore.T d).loc main_v4

/-- The result, from the call's output. -/
def resOf (f : S16400x128.Idx → Elt F .f32) : S16384x8x4.Idx → Elt F .f32 :=
  shapeCast S16384x8x4 (extractStridedSlice S16384x32 ![0, 0] f slices_S16400x128_S16384x32_0_0) shapeCasts_S16384x32_S16384x8x4

/-- The output the call leaves is the table's rows wherever a tile's list holds them. -/
def GoodOut (d : Dev nD) (f : Buf (Elt F) (oLoc d)) : Prop := ∀ k < 16400, GoodRow (F := F) d (tabOf (m (aLoc d))) (m (xLoc d)) k f

/-- What @main leaves the claim. -/
def FIN (d : Dev nD) : sProp 𝕄 :=
  iprop((xLoc d ↦{fullShare} m (xLoc d)) ∗ (aLoc d ↦{fullShare} m (aLoc d)) ∗ ∃ f : Buf (Elt F) (oLoc d), ⌜GoodOut m d f⌝ ∗ rLoc d ↦{fullShare} resOf (F := F) f)

/-- @main on a device's TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  have op1 := fun (Q : PUnit → sProp 𝕄) => wp_op (F := F) m d (x := main_arg1) (y := main_v0) (by decide)
    (op := StableHlo.unary main_arg1 main_v0 ((extractStridedSlice S64x32 ![999936, 0] · slices_S1000000x32_S64x32_999936_0) : (⟨S1000000x32, .f32⟩ : BufTy).Contents (Elt F) → (⟨S64x32, .f32⟩ : BufTy).Contents (Elt F)))
    rfl rfl (m (aLoc d)) (m (tLoc d)) (tailOf (m (aLoc d)))
    (fun V => StableHlo.unary_result_ne _ _ _ _ _ V (by decide)) (fun V hV => (StableHlo.unary_result _ _ _ _ _ V).trans (by rw [hV]; rfl)) (Q := Q)
  have op2 := fun (Q : PUnit → sProp 𝕄) => wp_op (F := F) m d (x := main_arg1) (y := main_v1) (by decide)
    (op := StableHlo.unary main_arg1 main_v1 ((transpose S32x1000000 [1, 0] · transposes_S1000000x32_S32x1000000_1_0) : (⟨S1000000x32, .f32⟩ : BufTy).Contents (Elt F) → (⟨S32x1000000, .f32⟩ : BufTy).Contents (Elt F)))
    rfl rfl (m (aLoc d)) (m (bLoc d)) (tabOf (m (aLoc d)))
    (fun V => StableHlo.unary_result_ne _ _ _ _ _ V (by decide)) (fun V hV => (StableHlo.unary_result _ _ _ _ _ V).trans (by rw [hV]; rfl)) (Q := Q)
  have op3 := fun (f : Buf (Elt F) (oLoc d)) (Q : PUnit → sProp 𝕄) => wp_op (F := F) m d (x := main_v2) (y := main_v3) (by decide)
    (op := StableHlo.unary main_v2 main_v3 ((extractStridedSlice S16384x32 ![0, 0] · slices_S16400x128_S16384x32_0_0) : (⟨S16400x128, .f32⟩ : BufTy).Contents (Elt F) → (⟨S16384x32, .f32⟩ : BufTy).Contents (Elt F)))
    rfl rfl f (m ((SparseCore.T d).loc main_v3)) (extractStridedSlice S16384x32 ![0, 0] f slices_S16400x128_S16384x32_0_0)
    (fun V => StableHlo.unary_result_ne _ _ _ _ _ V (by decide)) (fun V hV => (StableHlo.unary_result _ _ _ _ _ V).trans (by rw [hV])) (Q := Q)
  have op4 := fun (f : Buf (Elt F) (oLoc d)) (Q : PUnit → sProp 𝕄) => wp_op (F := F) m d (x := main_v3) (y := main_v4) (by decide)
    (op := StableHlo.reshape main_v3 main_v4 (rfl : (.f32 : EltTy) = .f32) shapeCasts_S16384x32_S16384x8x4)
    rfl rfl (extractStridedSlice S16384x32 ![0, 0] f slices_S16400x128_S16384x32_0_0) (m ((SparseCore.T d).loc main_v4)) (resOf (F := F) f)
    (fun V => StableHlo.reshape_result_ne _ _ _ _ _ _ V (by decide)) (fun V hV => (StableHlo.reshape_result _ _ _ _ _ _ V).trans (by rw [hV]; rfl)) (Q := Q)
  have hG : (G (F := F) d : sProp 𝕄) = iprop(∃ κ, inv κ (Pad (F := F) d)) := by unfold G; rfl
  unfold SparseCore.Cfg.tcRes SparseCore.Cfg.tcEnd
  rw [unscopedBufs_eq, hG]
  simp only [main, wp_bind, wp_pure]
  iintro ⟨#Hctx, Hst, ⟨Hb, ⟨Hx, Ha, Ht, Hbb, Ho, H3, H4⟩, Hts, -⟩, ⟨%κ', #Hinv⟩⟩
  iapply (op1 _) $$ [Hb Ha Ht]
  · isplitl [Hb]; · iexact Hb
    isplitl [Ha]; · iexact Ha
    iexact Ht
  iintro ⟨Hb, Ha, Ht⟩
  iapply (op2 _) $$ [Hb Ha Hbb]
  · isplitl [Hb]; · iexact Hb
    isplitl [Ha]; · iexact Ha
    iexact Hbb
  iintro ⟨Hb, Ha, Hbb⟩
  -- the output dealt out
  ihave Hdeal := (out_start d κ' (m (oLoc d)) (tabOf (m (aLoc d))) (m (xLoc d))) $$ [Ho]
  · isplitr; · iexact Hinv
    iexact Ho
  iapply (fupd_wp frame _ _ _ _)
  imod Hdeal
  icases Hdeal with ⟨Htk, Htr, Hrest⟩
  imodintro
  -- the arrays' shares dealt out
  ihave Hx' := (Transfers.pointsTo_toks_range fullShare 32).1 $$ Hx
  icases Hx' with ⟨Hx0, Hxs⟩
  ihave Hb' := (Transfers.pointsTo_toks_range fullShare 32).1 $$ Hbb
  icases Hb' with ⟨Hb0, Hbs⟩
  ihave Ht' := (Transfers.pointsTo_toks_range fullShare 32).1 $$ Ht
  icases Ht' with ⟨Ht0, Hts'⟩
  iapply ((K (F := F)).wp_run (D (F := F)) 𝒱 (EH := EH) (P := P m) κ d 0) $$ [Hst Hx0 Hxs Hb0 Hbs Ht0 Hts' Htk Htr Hrest Ha H3 H4 Hb Hts]
  isplitr; · iexact Hctx
  isplitl [Hst]; · iexact Hst
  isplitl [Hxs Hbs Hts' Htk Htr]
  · rw [st_all, pw_all]
    isplitl [Hxs]; · iexact Hxs
    isplitl [Hbs]; · iexact Hbs
    isplitl [Hts']; · iexact Hts'
    isplitl [Htk]; · iexact Htk
    iexact Htr
  iintro ⟨Hst, Hdn⟩
  ihave Hdn' := (Entails.of_eq ((dn_all m d).trans (pw_all m d True))) $$ Hdn
  icases Hdn' with ⟨Hxs, -, -, Htk, Htr⟩
  ihave Hx := (Transfers.pointsTo_toks_range fullShare 32).2 $$ [Hx0 Hxs]
  · isplitl [Hx0]; · iexact Hx0
    iexact Hxs
  ihave Hend := (out_end d κ' (m (oLoc d)) (tabOf (m (aLoc d))) (m (xLoc d))) $$ [Htk Htr Hrest]
  · isplitr; · iexact Hinv
    isplitl [Htk]; · iexact Htk
    isplitl [Htr]; · iexact Htr
    iexact Hrest
  iapply (fupd_wp frame _ _ _ _)
  imod Hend
  icases Hend with ⟨%f, %hf, Ho⟩
  imodintro
  iapply (op3 f _) $$ [Hb Ho H3]
  · isplitl [Hb]; · iexact Hb
    isplitl [Ho]; · iexact Ho
    iexact H3
  iintro ⟨Hb, Ho, H3⟩
  iapply (op4 f _) $$ [Hb H3 H4]
  · isplitl [Hb]; · iexact Hb
    isplitl [H3]; · iexact H3
    iexact H4
  iintro ⟨Hb, H3, H4⟩
  imodintro
  isplitl [Hst]; · iexact Hst
  isplitl [Hx Ha H4]
  · unfold FIN
    isplitl [Hx]; · iexact Hx
    isplitl [Ha]; · iexact Ha
    iexists f
    isplitr
    · ipureintro; exact hf
    iexact H4
  isplitl [Hb]; · iexact Hb
  iexact Hts

/-- What the run leaves a device's memory at. -/
def fq (d : Dev nD) (s' : Phys nD τ sig (Elt F)) : Prop :=
  s'.mem.mem (xLoc d) = m (xLoc d) ∧ s'.mem.mem (aLoc d) = m (aLoc d) ∧ ∃ f : Buf (Elt F) (oLoc d), GoodOut m d f ∧ s'.mem.mem (rLoc d) = resOf (F := F) f

theorem hfin (d : Dev nD) (s' : Phys nD τ sig (Elt F)) : iprop(FIN m d ∗ SI s') ⊢ (⌜fq m d s'⌝ : sProp 𝕄) := by
  unfold FIN
  iintro ⟨⟨Hx, Ha, %f, %hf, Hr⟩, HSI⟩
  ihave H := (persistent_entails_right (SI_pointsTo_agree (st := s') (ℓ := xLoc d) (I := Finset.univ) (q := fullShare) (f := m (xLoc d)))) $$ [HSI Hx]
  · isplitl [HSI]; · iexact HSI
    iexact Hx
  icases H with ⟨%hx, HSI, -⟩
  ihave H := (persistent_entails_right (SI_pointsTo_agree (st := s') (ℓ := aLoc d) (I := Finset.univ) (q := fullShare) (f := m (aLoc d)))) $$ [HSI Ha]
  · isplitl [HSI]; · iexact HSI
    iexact Ha
  icases H with ⟨%ha, HSI, -⟩
  ihave H := (SI_pointsTo_agree (st := s') (ℓ := rLoc d) (I := Finset.univ) (q := fullShare) (f := resOf (F := F) f)) $$ [HSI Hr]
  · isplitl [HSI]; · iexact HSI
    iexact Hr
  icases H with %hr
  ipureintro
  exact ⟨funext fun i => hx i (Finset.mem_univ i), funext fun i => ha i (Finset.mem_univ i), f, hf, funext fun i => hr i (Finset.mem_univ i)⟩

/-- What the run ends with: on every device, the arguments kept and the result made of the call's output; every counter at zero. -/
def QC : PUnit × MemSt nD τ sig (Elt F) → Prop := fun r =>
  (∀ d : Dev nD, r.2.mem (xLoc d) = m (xLoc d) ∧ r.2.mem (aLoc d) = m (aLoc d) ∧ ∃ f : Buf (Elt F) (oLoc d), GoodOut m d f ∧ r.2.mem (rLoc d) = resOf (F := F) f)
    ∧ r.2.sem = fun _ => 0

/-- The run of the whole program, over any float values. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.Emb

end
-- ==== Proof.Value.lean ====
/-
  The result, row by row: what the kernel leaves and what the reference computes are both the table's rows the batch names.
-/
module

public import proofs.«01_k».proof.Proof.Main
public import proofs.«01_k».proof.Proof.Gen.ReferenceIdeal.Run
public import proofs.«01_k».proof.Proof.Gen.Reference.Run
public import proofs.«01_k».proof.Proof.Gen.Pre_idx_in_range
public import Idealize.ShloMosaic.Lib.ReduceAll
public import Idealize.ShloMosaic.Lib.Routing.Ops

@[expose] public section

noncomputable section

namespace Cert.Proof.Emb

open Cert.KernelIdeal Cert.KernelIdeal.Gen
open Idealize.ShloMosaic

variable {F : FTy → Type} [FloatOps F]

/-! ### The precondition -/

/-- The batch's numbers are rows of the table. -/
def InRange (iv : S16384.Idx → BitVec 32) : Prop := ∀ x, 0 ≤ (iv x).toInt ∧ (iv x).toInt < 1000000

theorem toInt_zero32 : (0#32 : BitVec 32).toInt = 0 := by decide
theorem toInt_million : (1000000#32 : BitVec 32).toInt = 1000000 := by decide
theorem toInt_last : (999999#32 : BitVec 32).toInt = 999999 := by decide

/-- The precondition holds exactly of the batches whose numbers are rows of the table; this is the direction used. -/
theorem inRange_of_pre {iv : S16384.Idx → BitVec 32} {a : S1000000x32.Idx → Elt F .f32}
    (h : Cert.Pre_idx_in_range.fn (F := F) iv a = fun _ => 1#1) : InRange iv := by
  intro x
  have e := congrFun h (fun b => b.elim0)
  haveI : Subsingleton Cert.Pre_idx_in_range.S_.Idx := ⟨fun p q => funext fun b => b.elim0⟩
  have hx := Host.reduce_andi_all _ _ _ _ _ e x
  have hx' : IntOp.andi (IntOp.cmpi .sge (iv x) 0#32) (IntOp.cmpi .slt (iv x) 1000000#32) = 1#1 := hx
  rw [and_one, sge_one, slt_one, toInt_zero32, toInt_million] at hx'
  exact hx'

/-! ### The rows named -/

/-- The batch's rows of the table, one below the other. -/
def rowsOf (iv : S16384.Idx → BitVec 32) (a : S1000000x32.Idx → Elt F .f32) : S16384x32.Idx → Elt F .f32 :=
  fun y => tabT (tabOf a) (y 1).val (at1 iv (y 0).val).toNat

theorem toNat_lt {x : BitVec 32} (h0 : 0 ≤ x.toInt) (h1 : x.toInt < 1000000) : x.toNat < 1000000 := by
  rw [BitVec.toInt_eq_toNat_cond] at h0 h1
  split_ifs at h0 h1 <;> omega

/-- The kernel's result is the batch's rows, regrouped. -/
theorem kernel_rows {m : (ℓ : Loc nD τ sig) → Buf (Elt F) ℓ} {d : Dev nD} {f : Buf (Elt F) (oLoc d)}
    (hv : InRange (m (xLoc d))) (hf : GoodOut m d f) :
    resOf (F := F) f = shapeCast S16384x8x4 (rowsOf (m (xLoc d)) (m (aLoc d))) shapeCasts_S16384x32_S16384x8x4 := by
  unfold resOf
  refine congrArg (fun g => shapeCast S16384x8x4 g shapeCasts_S16384x32_S16384x8x4) (funext fun y => ?_)
  have h0 : (y 0).val < 16384 := (y 0).isLt
  have h1 : (y 1).val < 32 := (y 1).isLt
  have hk : (y 0).val < 16400 := by omega
  have hiv : at1 (m (xLoc d)) (y 0).val = m (xLoc d) (Shape.ofLane (d := ![16384]) ⟨(y 0).val, h0⟩) := by
    unfold at1
    exact dif_pos h0
  have hw : ∃ w < 32, PR w (m (xLoc d)) (y 0).val := PR_cover (by
    rw [hiv]
    exact hv _)
  have hr := hf _ hk h0 hw (rowX (y 1).val (by omega)) h1
  rw [rowX_col] at hr
  refine Eq.trans ?_ hr
  have he := rowM_emb ⟨(y 0).val, hk⟩ (rowX (y 1).val (by omega)) (by rw [rowX_col]; omega)
  unfold rv
  rw [View.read_apply, rowF_of_lt hk, he]
  refine extractStridedSlice_apply _ f slices_S16400x128_S16384x32_0_0 y _ fun b => ?_
  match b with
  | ⟨0, _⟩ => exact (Nat.zero_add _).symm
  | ⟨1, _⟩ => exact (Nat.zero_add _).symm

/-! ### The reference -/

section Reference
open Cert.ReferenceIdeal Cert.ReferenceIdeal.Gen

/-- The reference's row numbers: the batch's, a negative one counted from the table's end. -/
abbrev wrapT (iv : IVec Cert.ReferenceIdeal.S16384 32) : IVec Cert.ReferenceIdeal.S16384x1 32 :=
  broadcastInDim Cert.ReferenceIdeal.S16384x1 ![0] bcast_S16384_S16384x1_0
    (select (cmpi .slt iv (broadcastInDim Cert.ReferenceIdeal.S16384 ![] bcast_S_S16384 (constantI Cert.ReferenceIdeal.S_ 32 0#32)))
      (addi iv (broadcastInDim Cert.ReferenceIdeal.S16384 ![] bcast_S_S16384 (constantI Cert.ReferenceIdeal.S_ 32 1000000#32))) iv)

/-- Of a batch of rows of the table the row numbers are the batch's. -/
theorem wrapT_val {iv : IVec Cert.ReferenceIdeal.S16384 32} (hv : InRange iv) (z : Cert.ReferenceIdeal.S16384x1.Idx) :
    wrapT iv z = at1 iv (z 0).val := by
  have h0 : (z 0).val < 16384 := (z 0).isLt
  refine (broadcastInDim_apply _ _ _ z (Shape.ofLane (d := ![16384]) ⟨(z 0).val, h0⟩) fun b => ?_).trans ?_
  · match b with
    | ⟨0, _⟩ => rfl
  · unfold at1
    rw [dif_pos h0]
    have hn : ¬ IntOp.cmpi .slt (iv (Shape.ofLane (d := ![16384]) ⟨(z 0).val, h0⟩)) 0#32 = 1#1 := by
      rw [slt_one, toInt_zero32]
      have := (hv (Shape.ofLane (d := ![16384]) ⟨(z 0).val, h0⟩)).1
      omega
    exact if_neg hn

/-- A selection where its mask is one is its first operand. -/
theorem select_one {s : Shape} {α : Type} {c : IVec s 1} {x z : s.Idx → α} {i : s.Idx} (h : c i = 1#1) : select c x z i = x i := if_pos h

/-- The reference's rows before the regrouping: the gather, where the row numbers are rows of the table. -/
abbrev refT (iv : IVec Cert.ReferenceIdeal.S16384 32) (a : Cert.ReferenceIdeal.S1000000x32.Idx → Elt F .f32) : Cert.ReferenceIdeal.S16384x32.Idx → Elt F .f32 :=
  select (broadcastInDim Cert.ReferenceIdeal.S16384x32 ![0] bcast_S16384_S16384x32_0
      (Host.reduce IntOp.andi
        (andi (cmpi .sge (wrapT iv) (broadcastInDim Cert.ReferenceIdeal.S16384x1 ![] bcast_S_S16384x1 (constantI Cert.ReferenceIdeal.S_ 32 0#32)))
          (cmpi .sle (wrapT iv) (broadcastInDim Cert.ReferenceIdeal.S16384x1 ![0, 1] bcast_S1x1_S16384x1_0_1
            (broadcastInDim Cert.ReferenceIdeal.S1x1 ![1] bcast_S1_S1x1_1 (constantI Cert.ReferenceIdeal.S1 32 999999#32)))))
        (constantI Cert.ReferenceIdeal.S_ 1 1#1) reducesTo_S16384x1_S16384_d1 h_S_))
    (Host.gather gather_S1000000x32_S16384x1_S16384x32_1_0_n_n_0_1_132 a (wrapT iv))
    (broadcastInDim Cert.ReferenceIdeal.S16384x32 ![] bcast_S_S16384x32 (constant Cert.ReferenceIdeal.S_ .f32 0x7FC00000#32))

/-- The reference's rows are the batch's rows of the table. -/
theorem refT_rows {iv : IVec Cert.ReferenceIdeal.S16384 32} (hv : InRange iv) (a : Cert.ReferenceIdeal.S1000000x32.Idx → Elt F .f32) :
    refT iv a = rowsOf iv a := by
  funext y
  have h0 : (y 0).val < 16384 := (y 0).isLt
  have h1 : (y 1).val < 32 := (y 1).isLt
  have hat (k : ℕ) (hk : k < 16384) : 0 ≤ (at1 iv k).toInt ∧ (at1 iv k).toInt < 1000000 := by
    unfold at1
    rw [dif_pos hk]
    exact hv _
  have hb := toNat_lt (hat _ h0).1 (hat _ h0).2
  have hmask (j : Cert.ReferenceIdeal.S16384.Idx) : Host.reduce IntOp.andi
        (andi (cmpi .sge (wrapT iv) (broadcastInDim Cert.ReferenceIdeal.S16384x1 ![] bcast_S_S16384x1 (constantI Cert.ReferenceIdeal.S_ 32 0#32)))
          (cmpi .sle (wrapT iv) (broadcastInDim Cert.ReferenceIdeal.S16384x1 ![0, 1] bcast_S1x1_S16384x1_0_1
            (broadcastInDim Cert.ReferenceIdeal.S1x1 ![1] bcast_S1_S1x1_1 (constantI Cert.ReferenceIdeal.S1 32 999999#32)))))
        (constantI Cert.ReferenceIdeal.S_ 1 1#1) reducesTo_S16384x1_S16384_d1 h_S_ j = 1#1 := by
    refine Host.reduce_andi_one _ _ _ _ _ rfl fun z => ?_
    show IntOp.andi (IntOp.cmpi .sge (wrapT iv z) 0#32) (IntOp.cmpi .sle (wrapT iv z) 999999#32) = 1#1
    obtain ⟨g0, g1⟩ := hat (z 0).val (z 0).isLt
    rw [and_one, sge_one, wrapT_val hv, toInt_zero32]
    refine ⟨g0, ?_⟩
    show BitVec.ofBool (decide ((at1 iv (z 0).val).toInt ≤ (999999#32 : BitVec 32).toInt)) = 1#1
    rw [toInt_last, decide_eq_true (by omega)]
    rfl
  refine (select_one (i := y) ((broadcastInDim_apply _ _ _ y (Shape.ofLane (d := ![16384]) ⟨(y 0).val, h0⟩) fun b => ?_).trans (hmask _))).trans ?_
  · match b with
    | ⟨0, _⟩ => rfl
  have hy : y = Idealize.ShloMosaic.ValueIdx.ix2 (n0 := 16384) (n1 := 32) ⟨(y 0).val, h0⟩ ⟨(y 1).val, h1⟩ := by
    refine ix2_ext (A := 16384) (B := 32) ?_ ?_ <;> rfl
  have hg := Idealize.ShloMosaic.Routing.gather_row gather_S1000000x32_S16384x1_S16384x32_1_0_n_n_0_1_132 rfl rfl rfl rfl rfl a (wrapT iv)
    ⟨(y 0).val, h0⟩ ⟨(y 1).val, h1⟩ ⟨(at1 iv (y 0).val).toNat, hb⟩
    ((wrapT_val hv _).trans (BitVec.ofNat_toNat 32 _ ▸ (BitVec.setWidth_eq _).symm)) (by decide)
  rw [hy]
  refine hg.trans ?_
  unfold rowsOf
  refine Eq.trans ?_ (tabOf_val a h1 hb).symm
  refine congrArg a (ix2_ext (A := 1000000) (B := 32) ?_ ?_) <;> rfl

end Reference

end Cert.Proof.Emb

end
-- ==== Proof.lean ====
/-
  The proof of `Cert.Claim`: the frames of the kernel and of the reference at both instances, and the two value claims
  (at the ideal instance and bit for bit), each read off one run of the kernel (Proof/Main.lean) and one run of the reference.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_idx_in_range
public import proofs.«01_k».proof.Proof.Gen.ReferenceIdeal.Run
public import proofs.«01_k».proof.Proof.Gen.Reference.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel ends with its arguments unchanged and every counter at zero. -/
theorem frame_kernel : Cert.quiescent_Kernel := fun m ρ _ =>
  (θ_run Cert.KernelIdeal.defs _ _).mono (fun _ h => ⟨fun c => ⟨(h.1 c).1, (h.1 c).2.1⟩, h.2⟩) (Emb.run_main (F := Bits) m ρ)

/-- The same under the precondition. -/
theorem frame_kernel_pre : Cert.quiescent_Kernel_pre_idx_in_range := fun m ρ _ => frame_kernel m ρ trivial

/-- The kernel at the ideal instance ends with its arguments unchanged and every counter at zero. -/
theorem frame_kernelIdeal : Cert.quiescent_KernelIdeal := fun m ρ _ =>
  (θ_run Cert.KernelIdeal.defs _ _).mono (fun _ h => ⟨fun c => ⟨(h.1 c).1, (h.1 c).2.1⟩, h.2⟩) (Emb.run_main (F := Ideal) m ρ)

/-- The same under the precondition. -/
theorem frame_kernelIdeal_pre : Cert.quiescent_KernelIdeal_pre_idx_in_range := fun m ρ _ => frame_kernelIdeal m ρ trivial

/-- The reference at the ideal instance ends with its arguments unchanged; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_referenceIdeal_pre : Cert.quiescent_ReferenceIdeal_pre_idx_in_range := fun m ρ _ => frame_referenceIdeal m ρ trivial

/-- The reference ends with its arguments unchanged; it has no semaphore. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The value both programs end with: the batch's rows of the table, regrouped. -/
abbrev val {F : FTy → Type} [FloatOps F] (m : (ℓ : Loc Cert.KernelIdeal.nD Cert.KernelIdeal.τ Cert.KernelIdeal.sig) → Buf (Elt F) ℓ) (d : Dev Cert.KernelIdeal.nD) :
    Cert.KernelIdeal.S16384x8x4.Idx → Elt F .f32 :=
  shapeCast Cert.KernelIdeal.S16384x8x4 (Emb.rowsOf (m (Emb.xLoc d)) (m (Emb.aLoc d))) Cert.KernelIdeal.Gen.shapeCasts_S16384x32_S16384x8x4

/-- At the ideal instance, of a batch of rows of the table, the kernel and the reference end with the same result. -/
theorem algebraic : Cert.algebraic_KernelIdeal_ReferenceIdeal_pre_idx_in_range := by
  intro m ρ m' ρ' hpre hag
  have hv (c : Dev Cert.KernelIdeal.nD) : Emb.InRange (m (Emb.xLoc c)) := Emb.inRange_of_pre (F := Ideal) (hpre c)
  refine ⟨fun c => val (F := Ideal) m c, (θ_run Cert.KernelIdeal.defs _ _).mono (fun _ h c => ?_) (Emb.run_main (F := Ideal) m ρ),
    (θ_run Cert.ReferenceIdeal.defs _ _).mono (fun _ h c => ⟨(h c).1.trans ?_, (h c).2⟩) (Cert.ReferenceIdeal.Value.run (F := Ideal) m' ρ')⟩
  · obtain ⟨h0, h1, f, hf, hr⟩ := h.1 c
    exact ⟨hr.trans (Emb.kernel_rows (hv c) hf), h0, h1⟩
  · rw [(hag c).1, (hag c).2]
    exact congrArg (fun g => shapeCast Cert.KernelIdeal.S16384x8x4 g Cert.KernelIdeal.Gen.shapeCasts_S16384x32_S16384x8x4)
      (Emb.refT_rows (F := Ideal) (hv c) (m (Emb.aLoc c)))

/-- Bit for bit, of a batch of rows of the table, the kernel and the reference end with the same result. -/
theorem bitexact : Cert.bitexact_Kernel_Reference_pre_idx_in_range := by
  intro m ρ m' ρ' hpre hag
  have hv (c : Dev Cert.KernelIdeal.nD) : Emb.InRange (m (Emb.xLoc c)) := Emb.inRange_of_pre (F := Bits) (hpre c)
  refine ⟨fun c => val (F := Bits) m c, (θ_run Cert.KernelIdeal.defs _ _).mono (fun _ h c => ?_) (Emb.run_main (F := Bits) m ρ),
    (θ_run Cert.Reference.defs _ _).mono (fun _ h c => ⟨(h c).1.trans ?_, (h c).2⟩) (Cert.Reference.Value.run (F := Bits) m' ρ')⟩
  · obtain ⟨h0, h1, f, hf, hr⟩ := h.1 c
    exact ⟨hr.trans (Emb.kernel_rows (hv c) hf), h0, h1⟩
  · rw [(hag c).1, (hag c).2]
    exact congrArg (fun g => shapeCast Cert.KernelIdeal.S16384x8x4 g Cert.KernelIdeal.Gen.shapeCasts_S16384x32_S16384x8x4)
      (Emb.refT_rows (F := Bits) (hv c) (m (Emb.aLoc c)))

/-- Everything claimed. -/
theorem claim : Cert.Claim :=
  ⟨Cert.Kernel.Gen.facts, Cert.KernelIdeal.Gen.facts, Cert.ReferenceIdeal.Gen.facts, Cert.Reference.Gen.facts, Cert.Pre_idx_in_range.Gen.facts,
    frame_kernel, frame_kernel_pre, frame_kernelIdeal, frame_kernelIdeal_pre, frame_referenceIdeal, frame_referenceIdeal_pre, frame_reference,
    trivial, algebraic, bitexact⟩

end Cert.Proof

end
